-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9)
      ∧ r.2.mem ((c.tc : Thread Cert.Kernel14.nD Cert.Kernel14.τ).loc Cert.Kernel14.main_arg10) = m ((c.tc : Thread Cert.Kernel14.nD Cert.Kernel14.τ).loc Cert.Kernel14.main_arg10)
      ∧ r.2.mem ((c.tc : Thread Cert.Kernel14.nD Cert.Kernel14.τ).loc Cert.Kernel14.main_arg11) = m ((c.tc : Thread Cert.Kernel14.nD Cert.Kernel14.τ).loc Cert.Kernel14.main_arg11))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
      ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
      ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9)
      ∧ r.2.mem ((c.tc : Thread Cert.Reference14Ideal.nD Cert.Reference14Ideal.τ).loc Cert.Reference14Ideal.main_arg10) = m ((c.tc : Thread Cert.Reference14Ideal.nD Cert.Reference14Ideal.τ).loc Cert.Reference14Ideal.main_arg10)
      ∧ r.2.mem ((c.tc : Thread Cert.Reference14Ideal.nD Cert.Reference14Ideal.τ).loc Cert.Reference14Ideal.main_arg11) = m ((c.tc : Thread Cert.Reference14Ideal.nD Cert.Reference14Ideal.τ).loc Cert.Reference14Ideal.main_arg11))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9)
      ∧ r.2.mem ((c.tc : Thread Cert.Kernel15.nD Cert.Kernel15.τ).loc Cert.Kernel15.main_arg10) = m ((c.tc : Thread Cert.Kernel15.nD Cert.Kernel15.τ).loc Cert.Kernel15.main_arg10)
      ∧ r.2.mem ((c.tc : Thread Cert.Kernel15.nD Cert.Kernel15.τ).loc Cert.Kernel15.main_arg11) = m ((c.tc : Thread Cert.Kernel15.nD Cert.Kernel15.τ).loc Cert.Kernel15.main_arg11))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
      ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
      ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9)
      ∧ r.2.mem ((c.tc : Thread Cert.Reference15Ideal.nD Cert.Reference15Ideal.τ).loc Cert.Reference15Ideal.main_arg10) = m ((c.tc : Thread Cert.Reference15Ideal.nD Cert.Reference15Ideal.τ).loc Cert.Reference15Ideal.main_arg10)
      ∧ r.2.mem ((c.tc : Thread Cert.Reference15Ideal.nD Cert.Reference15Ideal.τ).loc Cert.Reference15Ideal.main_arg11) = m ((c.tc : Thread Cert.Reference15Ideal.nD Cert.Reference15Ideal.τ).loc Cert.Reference15Ideal.main_arg11))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v295_0)) (v1 : (c : Dev Cert.KernelIdeal.nD) → Buf (Elt Ideal) ((c.tc : Thread Cert.KernelIdeal.nD Cert.KernelIdeal.τ).loc Cert.KernelIdeal.main_v295_1)) (v2 : (c : Dev Cert.KernelIdeal.nD) → Buf (Elt Ideal) ((c.tc : Thread Cert.KernelIdeal.nD Cert.KernelIdeal.τ).loc Cert.KernelIdeal.main_v295_2)) (v3 : (c : Dev Cert.KernelIdeal.nD) → Buf (Elt Ideal) ((c.tc : Thread Cert.KernelIdeal.nD Cert.KernelIdeal.τ).loc Cert.KernelIdeal.main_v295_3)) (v4 : (c : Dev Cert.KernelIdeal.nD) → Buf (Elt Ideal) ((c.tc : Thread Cert.KernelIdeal.nD Cert.KernelIdeal.τ).loc Cert.KernelIdeal.main_v295_4)) (v5 : (c : Dev Cert.KernelIdeal.nD) → Buf (Elt Ideal) ((c.tc : Thread Cert.KernelIdeal.nD Cert.KernelIdeal.τ).loc Cert.KernelIdeal.main_v295_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v295_0) = v0 c
          ∧ r.2.mem ((c.tc : Thread Cert.KernelIdeal.nD Cert.KernelIdeal.τ).loc Cert.KernelIdeal.main_v295_1) = v1 c
          ∧ r.2.mem ((c.tc : Thread Cert.KernelIdeal.nD Cert.KernelIdeal.τ).loc Cert.KernelIdeal.main_v295_2) = v2 c
          ∧ r.2.mem ((c.tc : Thread Cert.KernelIdeal.nD Cert.KernelIdeal.τ).loc Cert.KernelIdeal.main_v295_3) = v3 c
          ∧ r.2.mem ((c.tc : Thread Cert.KernelIdeal.nD Cert.KernelIdeal.τ).loc Cert.KernelIdeal.main_v295_4) = v4 c
          ∧ r.2.mem ((c.tc : Thread Cert.KernelIdeal.nD Cert.KernelIdeal.τ).loc Cert.KernelIdeal.main_v295_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_v43) = v4 c
          ∧ r.2.mem ((c.tc : Thread Cert.ReferenceIdeal.nD Cert.ReferenceIdeal.τ).loc Cert.ReferenceIdeal.main_v34) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v11) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)
      ∧ m' ((c.tc : Thread Cert.Reference14Ideal.nD Cert.Reference14Ideal.τ).loc Cert.Reference14Ideal.main_arg9) = m ((c.tc : Thread Cert.Kernel14Ideal.nD Cert.Kernel14Ideal.τ).loc Cert.Kernel14Ideal.main_arg9)
      ∧ m' ((c.tc : Thread Cert.Reference14Ideal.nD Cert.Reference14Ideal.τ).loc Cert.Reference14Ideal.main_arg10) = m ((c.tc : Thread Cert.Kernel14Ideal.nD Cert.Kernel14Ideal.τ).loc Cert.Kernel14Ideal.main_arg10)
      ∧ m' ((c.tc : Thread Cert.Reference14Ideal.nD Cert.Reference14Ideal.τ).loc Cert.Reference14Ideal.main_arg11) = m ((c.tc : Thread Cert.Kernel14Ideal.nD Cert.Kernel14Ideal.τ).loc Cert.Kernel14Ideal.main_arg11)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)) (v4 : (c : Dev Cert.Kernel14Ideal.nD) → Buf (Elt Ideal) ((c.tc : Thread Cert.Kernel14Ideal.nD Cert.Kernel14Ideal.τ).loc Cert.Kernel14Ideal.main_v0_4)) (v5 : (c : Dev Cert.Kernel14Ideal.nD) → Buf (Elt Ideal) ((c.tc : Thread Cert.Kernel14Ideal.nD Cert.Kernel14Ideal.τ).loc Cert.Kernel14Ideal.main_v0_5)) (v6 : (c : Dev Cert.Kernel14Ideal.nD) → Buf (Elt Ideal) ((c.tc : Thread Cert.Kernel14Ideal.nD Cert.Kernel14Ideal.τ).loc Cert.Kernel14Ideal.main_v0_6)) (v7 : (c : Dev Cert.Kernel14Ideal.nD) → Buf (Elt Ideal) ((c.tc : Thread Cert.Kernel14Ideal.nD Cert.Kernel14Ideal.τ).loc Cert.Kernel14Ideal.main_v0_7)) (v8 : (c : Dev Cert.Kernel14Ideal.nD) → Buf (Elt Ideal) ((c.tc : Thread Cert.Kernel14Ideal.nD Cert.Kernel14Ideal.τ).loc Cert.Kernel14Ideal.main_v0_8)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_v0_4) = v4 c
          ∧ r.2.mem ((c.tc : Thread Cert.Kernel14Ideal.nD Cert.Kernel14Ideal.τ).loc Cert.Kernel14Ideal.main_v0_5) = v5 c
          ∧ r.2.mem ((c.tc : Thread Cert.Kernel14Ideal.nD Cert.Kernel14Ideal.τ).loc Cert.Kernel14Ideal.main_v0_6) = v6 c
          ∧ r.2.mem ((c.tc : Thread Cert.Kernel14Ideal.nD Cert.Kernel14Ideal.τ).loc Cert.Kernel14Ideal.main_v0_7) = v7 c
          ∧ r.2.mem ((c.tc : Thread Cert.Kernel14Ideal.nD Cert.Kernel14Ideal.τ).loc Cert.Kernel14Ideal.main_v0_8) = v8 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
          ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
          ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
          ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v47) = v1 c
          ∧ r.2.mem ((c.tc : Thread Cert.Reference14Ideal.nD Cert.Reference14Ideal.τ).loc Cert.Reference14Ideal.main_v71) = v2 c
          ∧ r.2.mem ((c.tc : Thread Cert.Reference14Ideal.nD Cert.Reference14Ideal.τ).loc Cert.Reference14Ideal.main_v4) = v3 c
          ∧ r.2.mem ((c.tc : Thread Cert.Reference14Ideal.nD Cert.Reference14Ideal.τ).loc Cert.Reference14Ideal.main_v28) = v4 c
          ∧ r.2.mem ((c.tc : Thread Cert.Reference14Ideal.nD Cert.Reference14Ideal.τ).loc Cert.Reference14Ideal.main_v52) = v5 c
          ∧ r.2.mem ((c.tc : Thread Cert.Reference14Ideal.nD Cert.Reference14Ideal.τ).loc Cert.Reference14Ideal.main_v10) = v6 c
          ∧ r.2.mem ((c.tc : Thread Cert.Reference14Ideal.nD Cert.Reference14Ideal.τ).loc Cert.Reference14Ideal.main_v34) = v7 c
          ∧ r.2.mem ((c.tc : Thread Cert.Reference14Ideal.nD Cert.Reference14Ideal.τ).loc Cert.Reference14Ideal.main_v58) = v8 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8)
          ∧ r.2.mem ((c.tc : Thread Cert.Reference14Ideal.nD Cert.Reference14Ideal.τ).loc Cert.Reference14Ideal.main_arg9) = m' ((c.tc : Thread Cert.Reference14Ideal.nD Cert.Reference14Ideal.τ).loc Cert.Reference14Ideal.main_arg9)
          ∧ r.2.mem ((c.tc : Thread Cert.Reference14Ideal.nD Cert.Reference14Ideal.τ).loc Cert.Reference14Ideal.main_arg10) = m' ((c.tc : Thread Cert.Reference14Ideal.nD Cert.Reference14Ideal.τ).loc Cert.Reference14Ideal.main_arg10)
          ∧ r.2.mem ((c.tc : Thread Cert.Reference14Ideal.nD Cert.Reference14Ideal.τ).loc Cert.Reference14Ideal.main_arg11) = m' ((c.tc : Thread Cert.Reference14Ideal.nD Cert.Reference14Ideal.τ).loc Cert.Reference14Ideal.main_arg11))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)
      ∧ m' ((c.tc : Thread Cert.Reference15Ideal.nD Cert.Reference15Ideal.τ).loc Cert.Reference15Ideal.main_arg10) = m ((c.tc : Thread Cert.Kernel15Ideal.nD Cert.Kernel15Ideal.τ).loc Cert.Kernel15Ideal.main_arg10)
      ∧ m' ((c.tc : Thread Cert.Reference15Ideal.nD Cert.Reference15Ideal.τ).loc Cert.Reference15Ideal.main_arg11) = m ((c.tc : Thread Cert.Kernel15Ideal.nD Cert.Kernel15Ideal.τ).loc Cert.Kernel15Ideal.main_arg11)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)) (v4 : (c : Dev Cert.Kernel15Ideal.nD) → Buf (Elt Ideal) ((c.tc : Thread Cert.Kernel15Ideal.nD Cert.Kernel15Ideal.τ).loc Cert.Kernel15Ideal.main_v0_4)) (v5 : (c : Dev Cert.Kernel15Ideal.nD) → Buf (Elt Ideal) ((c.tc : Thread Cert.Kernel15Ideal.nD Cert.Kernel15Ideal.τ).loc Cert.Kernel15Ideal.main_v0_5)) (v6 : (c : Dev Cert.Kernel15Ideal.nD) → Buf (Elt Ideal) ((c.tc : Thread Cert.Kernel15Ideal.nD Cert.Kernel15Ideal.τ).loc Cert.Kernel15Ideal.main_v0_6)) (v7 : (c : Dev Cert.Kernel15Ideal.nD) → Buf (Elt Ideal) ((c.tc : Thread Cert.Kernel15Ideal.nD Cert.Kernel15Ideal.τ).loc Cert.Kernel15Ideal.main_v0_7)) (v8 : (c : Dev Cert.Kernel15Ideal.nD) → Buf (Elt Ideal) ((c.tc : Thread Cert.Kernel15Ideal.nD Cert.Kernel15Ideal.τ).loc Cert.Kernel15Ideal.main_v0_8)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_v0_4) = v4 c
          ∧ r.2.mem ((c.tc : Thread Cert.Kernel15Ideal.nD Cert.Kernel15Ideal.τ).loc Cert.Kernel15Ideal.main_v0_5) = v5 c
          ∧ r.2.mem ((c.tc : Thread Cert.Kernel15Ideal.nD Cert.Kernel15Ideal.τ).loc Cert.Kernel15Ideal.main_v0_6) = v6 c
          ∧ r.2.mem ((c.tc : Thread Cert.Kernel15Ideal.nD Cert.Kernel15Ideal.τ).loc Cert.Kernel15Ideal.main_v0_7) = v7 c
          ∧ r.2.mem ((c.tc : Thread Cert.Kernel15Ideal.nD Cert.Kernel15Ideal.τ).loc Cert.Kernel15Ideal.main_v0_8) = v8 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
          ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
          ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v47) = v1 c
          ∧ r.2.mem ((c.tc : Thread Cert.Reference15Ideal.nD Cert.Reference15Ideal.τ).loc Cert.Reference15Ideal.main_v71) = v2 c
          ∧ r.2.mem ((c.tc : Thread Cert.Reference15Ideal.nD Cert.Reference15Ideal.τ).loc Cert.Reference15Ideal.main_v4) = v3 c
          ∧ r.2.mem ((c.tc : Thread Cert.Reference15Ideal.nD Cert.Reference15Ideal.τ).loc Cert.Reference15Ideal.main_v28) = v4 c
          ∧ r.2.mem ((c.tc : Thread Cert.Reference15Ideal.nD Cert.Reference15Ideal.τ).loc Cert.Reference15Ideal.main_v52) = v5 c
          ∧ r.2.mem ((c.tc : Thread Cert.Reference15Ideal.nD Cert.Reference15Ideal.τ).loc Cert.Reference15Ideal.main_v10) = v6 c
          ∧ r.2.mem ((c.tc : Thread Cert.Reference15Ideal.nD Cert.Reference15Ideal.τ).loc Cert.Reference15Ideal.main_v34) = v7 c
          ∧ r.2.mem ((c.tc : Thread Cert.Reference15Ideal.nD Cert.Reference15Ideal.τ).loc Cert.Reference15Ideal.main_v58) = v8 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9)
          ∧ r.2.mem ((c.tc : Thread Cert.Reference15Ideal.nD Cert.Reference15Ideal.τ).loc Cert.Reference15Ideal.main_arg10) = m' ((c.tc : Thread Cert.Reference15Ideal.nD Cert.Reference15Ideal.τ).loc Cert.Reference15Ideal.main_arg10)
          ∧ r.2.mem ((c.tc : Thread Cert.Reference15Ideal.nD Cert.Reference15Ideal.τ).loc Cert.Reference15Ideal.main_arg11) = m' ((c.tc : Thread Cert.Reference15Ideal.nD Cert.Reference15Ideal.τ).loc Cert.Reference15Ideal.main_arg11))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)) (v4 : (c : Dev Cert.Kernel16Ideal.nD) → Buf (Elt Ideal) ((c.tc : Thread Cert.Kernel16Ideal.nD Cert.Kernel16Ideal.τ).loc Cert.Kernel16Ideal.main_v0_4)) (v5 : (c : Dev Cert.Kernel16Ideal.nD) → Buf (Elt Ideal) ((c.tc : Thread Cert.Kernel16Ideal.nD Cert.Kernel16Ideal.τ).loc Cert.Kernel16Ideal.main_v0_5)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_v0_4) = v4 c
          ∧ r.2.mem ((c.tc : Thread Cert.Kernel16Ideal.nD Cert.Kernel16Ideal.τ).loc Cert.Kernel16Ideal.main_v0_5) = v5 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v47) = v1 c
          ∧ r.2.mem ((c.tc : Thread Cert.Reference16Ideal.nD Cert.Reference16Ideal.τ).loc Cert.Reference16Ideal.main_v4) = v2 c
          ∧ r.2.mem ((c.tc : Thread Cert.Reference16Ideal.nD Cert.Reference16Ideal.τ).loc Cert.Reference16Ideal.main_v28) = v3 c
          ∧ r.2.mem ((c.tc : Thread Cert.Reference16Ideal.nD Cert.Reference16Ideal.τ).loc Cert.Reference16Ideal.main_v10) = v4 c
          ∧ r.2.mem ((c.tc : Thread Cert.Reference16Ideal.nD Cert.Reference16Ideal.τ).loc Cert.Reference16Ideal.main_v34) = v5 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S8x32x64x128 : Shape := ⟨4, ![8, 32, 64, 128]⟩
abbrev S8x32x64x64 : Shape := ⟨4, ![8, 32, 64, 64]⟩
abbrev S2048x8 : Shape := ⟨2, ![2048, 8]⟩
abbrev S2048x1024 : Shape := ⟨2, ![2048, 1024]⟩
abbrev S8x128 : Shape := ⟨2, ![8, 128]⟩
abbrev S_ : Shape := ⟨0, ![]⟩

class Facts : Prop where
  bcast_S_S8x32x64x128 : S_.BroadcastsInDim S8x32x64x128 (![] : Fin 0 → Fin S8x32x64x128.rank)
  bcast_S_S8x32x64x64 : S_.BroadcastsInDim S8x32x64x64 (![] : Fin 0 → Fin S8x32x64x64.rank)
  bcast_S_S2048x8 : S_.BroadcastsInDim S2048x8 (![] : Fin 0 → Fin S2048x8.rank)
  bcast_S_S2048x1024 : S_.BroadcastsInDim S2048x1024 (![] : Fin 0 → Fin S2048x1024.rank)
  reducesTo_S8x32x64x128_S_d0_1_2_3 : S8x32x64x128.ReducesTo [0, 1, 2, 3] S_
  h_S_ : 0 < S_.numel
  reducesTo_S8x32x64x64_S_d0_1_2_3 : S8x32x64x64.ReducesTo [0, 1, 2, 3] S_
  reducesTo_S2048x8_S_d0_1 : S2048x8.ReducesTo [0, 1] S_
  reducesTo_S2048x1024_S_d0_1 : S2048x1024.ReducesTo [0, 1] S_

variable [Facts]

def fn_part1 {F : FTy → Type} [FloatOps F] (main_arg6 : FVec F S2048x1024 .f32) (main_v2 : IVec S8x32x64x128 1) (main_v5 : IVec S8x32x64x128 1) (main_v8 : IVec S8x32x64x128 1) (main_v11 : IVec S8x32x64x128 1) (main_v14 : IVec S8x32x64x64 1) (main_v17 : IVec S2048x8 1) : IVec S_ 1 :=
  let main_v18 : FVec F S2048x1024 .f32 := Host.absf main_arg6
  let main_cst_5 : FVec F S_ .f32 := constant S_ .f32 0x7F800000#32
  let main_v19 : FVec F S2048x1024 .f32 := broadcastInDim S2048x1024 ![] bcast_S_S2048x1024 main_cst_5
  let main_v20 : IVec S2048x1024 1 := cmpf .olt main_v18 main_v19
  let main_c : IVec S_ 1 := constantI S_ 1 1#1
  let main_v21 : IVec S_ 1 := (fun x v => Host.reduce IntOp.andi x v reducesTo_S8x32x64x128_S_d0_1_2_3 h_S_) main_v2 main_c
  let main_c_6 : IVec S_ 1 := constantI S_ 1 1#1
  let main_v22 : IVec S_ 1 := (fun x v => Host.reduce IntOp.andi x v reducesTo_S8x32x64x128_S_d0_1_2_3 h_S_) main_v5 main_c_6
  let main_c_7 : IVec S_ 1 := constantI S_ 1 1#1
  let main_v23 : IVec S_ 1 := (fun x v => Host.reduce IntOp.andi x v reducesTo_S8x32x64x128_S_d0_1_2_3 h_S_) main_v8 main_c_7
  let main_c_8 : IVec S_ 1 := constantI S_ 1 1#1
  let main_v24 : IVec S_ 1 := (fun x v => Host.reduce IntOp.andi x v reducesTo_S8x32x64x128_S_d0_1_2_3 h_S_) main_v11 main_c_8
  let main_c_9 : IVec S_ 1 := constantI S_ 1 1#1
  let main_v25 : IVec S_ 1 := (fun x v => Host.reduce IntOp.andi x v reducesTo_S8x32x64x64_S_d0_1_2_3 h_S_) main_v14 main_c_9
  let main_c_10 : IVec S_ 1 := constantI S_ 1 1#1
  let main_v26 : IVec S_ 1 := (fun x v => Host.reduce IntOp.andi x v reducesTo_S2048x8_S_d0_1 h_S_) main_v17 main_c_10
  let main_c_11 : IVec S_ 1 := constantI S_ 1 1#1
  let main_v27 : IVec S_ 1 := (fun x v => Host.reduce IntOp.andi x v reducesTo_S2048x1024_S_d0_1 h_S_) main_v20 main_c_11
  let main_v28 : IVec S_ 1 := andi main_v21 main_v22
  let main_v29 : IVec S_ 1 := andi main_v28 main_v23
  let main_v30 : IVec S_ 1 := andi main_v29 main_v24
  let main_v31 : IVec S_ 1 := andi main_v30 main_v25
  let main_v32 : IVec S_ 1 := andi main_v31 main_v26
  let main_v33 : IVec S_ 1 := andi main_v32 main_v27
  main_v33

def fn {F : FTy → Type} [FloatOps F] (main_arg0 : FVec F S8x32x64x128 .f32) (main_arg1 : FVec F S8x32x64x128 .f32) (main_arg2 : FVec F S8x32x64x128 .f32) (main_arg3 : FVec F S8x32x64x128 .f32) (main_arg4 : FVec F S8x32x64x64 .f32) (main_arg5 : FVec F S2048x8 .f32) (main_arg6 : FVec F S2048x1024 .f32) (main_arg7 : FVec F S8x128 .f32) : IVec S_ 1 :=
  let main_v0 : FVec F S8x32x64x128 .f32 := Host.absf main_arg0
  let main_cst : FVec F S_ .f32 := constant S_ .f32 0x7F800000#32
  let main_v1 : FVec F S8x32x64x128 .f32 := broadcastInDim S8x32x64x128 ![] bcast_S_S8x32x64x128 main_cst
  let main_v2 : IVec S8x32x64x128 1 := cmpf .olt main_v0 main_v1
  let main_v3 : FVec F S8x32x64x128 .f32 := Host.absf main_arg1
  let main_cst_0 : FVec F S_ .f32 := constant S_ .f32 0x7F800000#32
  let main_v4 : FVec F S8x32x64x128 .f32 := broadcastInDim S8x32x64x128 ![] bcast_S_S8x32x64x128 main_cst_0
  let main_v5 : IVec S8x32x64x128 1 := cmpf .olt main_v3 main_v4
  let main_v6 : FVec F S8x32x64x128 .f32 := Host.absf main_arg2
  let main_cst_1 : FVec F S_ .f32 := constant S_ .f32 0x7F800000#32
  let main_v7 : FVec F S8x32x64x128 .f32 := broadcastInDim S8x32x64x128 ![] bcast_S_S8x32x64x128 main_cst_1
  let main_v8 : IVec S8x32x64x128 1 := cmpf .olt main_v6 main_v7
  let main_v9 : FVec F S8x32x64x128 .f32 := Host.absf main_arg3
  let main_cst_2 : FVec F S_ .f32 := constant S_ .f32 0x7F800000#32
  let main_v10 : FVec F S8x32x64x128 .f32 := broadcastInDim S8x32x64x128 ![] bcast_S_S8x32x64x128 main_cst_2
  let main_v11 : IVec S8x32x64x128 1 := cmpf .olt main_v9 main_v10
  let main_v12 : FVec F S8x32x64x64 .f32 := Host.absf main_arg4
  let main_cst_3 : FVec F S_ .f32 := constant S_ .f32 0x7F800000#32
  let main_v13 : FVec F S8x32x64x64 .f32 := broadcastInDim S8x32x64x64 ![] bcast_S_S8x32x64x64 main_cst_3
  let main_v14 : IVec S8x32x64x64 1 := cmpf .olt main_v12 main_v13
  let main_v15 : FVec F S2048x8 .f32 := Host.absf main_arg5
  let main_cst_4 : FVec F S_ .f32 := constant S_ .f32 0x7F800000#32
  let main_v16 : FVec F S2048x8 .f32 := broadcastInDim S2048x8 ![] bcast_S_S2048x8 main_cst_4
  let main_v17 : IVec S2048x8 1 := cmpf .olt main_v15 main_v16
  fn_part1 (F := F) main_arg6 main_v2 main_v5 main_v8 main_v11 main_v14 main_v17
-- ==== Kernel.lean ====
abbrev S8x32x64x128 : Shape := ⟨4, ![8, 32, 64, 128]⟩
abbrev S8x32x64x64 : Shape := ⟨4, ![8, 32, 64, 64]⟩
abbrev S2048x8 : Shape := ⟨2, ![2048, 8]⟩
abbrev S2048x1024 : Shape := ⟨2, ![2048, 1024]⟩
abbrev S8x128 : Shape := ⟨2, ![8, 128]⟩
abbrev S32x64x8 : Shape := ⟨3, ![32, 64, 8]⟩
abbrev S_ : Shape := ⟨0, ![]⟩
abbrev S32x8 : Shape := ⟨2, ![32, 8]⟩
abbrev S8x32 : Shape := ⟨2, ![8, 32]⟩
abbrev S8x32x1x1 : Shape := ⟨4, ![8, 32, 1, 1]⟩
abbrev S8x32x128x128 : Shape := ⟨4, ![8, 32, 128, 128]⟩
abbrev S8x1x64x128 : Shape := ⟨4, ![8, 1, 64, 128]⟩
abbrev S8x1x128x128 : Shape := ⟨4, ![8, 1, 128, 128]⟩
abbrev S8x16x128x128 : Shape := ⟨4, ![8, 16, 128, 128]⟩
abbrev S8x16x64x128 : Shape := ⟨4, ![8, 16, 64, 128]⟩
abbrev S32x64x8x128 : Shape := ⟨4, ![32, 64, 8, 128]⟩
abbrev S8x32x192x128 : Shape := ⟨4, ![8, 32, 192, 128]⟩
abbrev S8x6144x128 : Shape := ⟨3, ![8, 6144, 128]⟩
abbrev S2048x128 : Shape := ⟨2, ![2048, 128]⟩
abbrev S8x32x1x128 : Shape := ⟨4, ![8, 32, 1, 128]⟩
abbrev S8x768x128 : Shape := ⟨3, ![8, 768, 128]⟩
abbrev S8x4x64x64 : Shape := ⟨4, ![8, 4, 64, 64]⟩
abbrev S256x128 : Shape := ⟨2, ![256, 128]⟩
abbrev S8x4x128x128 : Shape := ⟨4, ![8, 4, 128, 128]⟩
abbrev S256x1024 : Shape := ⟨2, ![256, 1024]⟩
abbrev S8x4x1x128 : Shape := ⟨4, ![8, 4, 1, 128]⟩
abbrev S8x128x128 : Shape := ⟨3, ![8, 128, 128]⟩
abbrev S64x64 : Shape := ⟨2, ![64, 64]⟩
abbrev S64x128 : Shape := ⟨2, ![64, 128]⟩
abbrev S128 : Shape := ⟨1, ![128]⟩
abbrev S1x128 : Shape := ⟨2, ![1, 128]⟩
abbrev S1x1x128x128 : Shape := ⟨4, ![1, 1, 128, 128]⟩
abbrev S128x128 : Shape := ⟨2, ![128, 128]⟩
abbrev S1x128x128 : Shape := ⟨3, ![1, 128, 128]⟩
abbrev S1x1x64x64 : Shape := ⟨4, ![1, 1, 64, 64]⟩
abbrev S1x64x128 : Shape := ⟨3, ![1, 64, 128]⟩
abbrev S1x1 : Shape := ⟨2, ![1, 1]⟩
abbrev S1 : Shape := ⟨1, ![1]⟩
abbrev S1x1x1x128 : Shape := ⟨4, ![1, 1, 1, 128]⟩

abbrev nBuf : Space → Nat
  | .hbm => 313
  | .vmem => 25
  | .smem => 0
  | _ => 0

abbrev hbmTy0_0 (i : Nat) : BufTy := match i % 128 with
  | 0 => ⟨S8x32x64x128, .f32⟩
  | 1 => ⟨S8x32x64x128, .f32⟩
  | 2 => ⟨S8x32x64x128, .f32⟩
  | 3 => ⟨S8x32x64x128, .f32⟩
  | 4 => ⟨S8x32x64x64, .f32⟩
  | 5 => ⟨S2048x8, .f32⟩
  | 6 => ⟨S2048x1024, .f32⟩
  | 7 => ⟨S8x128, .f32⟩
  | 8 => ⟨S32x64x8, .f32⟩
  | 9 => ⟨S_, .f32⟩
  | 10 => ⟨S32x8, .f32⟩
  | 11 => ⟨S32x8, .f32⟩
  | 12 => ⟨S8x32, .f32⟩
  | 13 => ⟨S8x32x1x1, .f32⟩
  | 14 => ⟨S8x32x128x128, .f32⟩
  | 15 => ⟨S8x1x64x128, .f32⟩
  | 16 => ⟨S8x1x64x128, .f32⟩
  | 17 => ⟨S8x1x128x128, .f32⟩
  | 18 => ⟨S8x1x64x128, .f32⟩
  | 19 => ⟨S8x1x64x128, .f32⟩
  | 20 => ⟨S8x1x64x128, .f32⟩
  | 21 => ⟨S8x1x64x128, .f32⟩
  | 22 => ⟨S8x1x64x128, .f32⟩
  | 23 => ⟨S8x1x128x128, .f32⟩
  | 24 => ⟨S8x1x128x128, .f32⟩
  | 25 => ⟨S8x1x128x128, .f32⟩
  | 26 => ⟨S8x1x128x128, .f32⟩
  | 27 => ⟨S8x1x64x128, .f32⟩
  | 28 => ⟨S8x1x64x128, .f32⟩
  | 29 => ⟨S8x1x64x128, .f32⟩
  | 30 => ⟨S8x1x64x128, .f32⟩
  | 31 => ⟨S8x1x64x128, .f32⟩
  | 32 => ⟨S8x1x128x128, .f32⟩
  | 33 => ⟨S8x1x128x128, .f32⟩
  | 34 => ⟨S8x1x128x128, .f32⟩
  | 35 => ⟨S8x1x128x128, .f32⟩
  | 36 => ⟨S8x1x64x128, .f32⟩
  | 37 => ⟨S8x1x64x128, .f32⟩
  | 38 => ⟨S8x1x64x128, .f32⟩
  | 39 => ⟨S8x1x64x128, .f32⟩
  | 40 => ⟨S8x1x64x128, .f32⟩
  | 41 => ⟨S8x1x128x128, .f32⟩
  | 42 => ⟨S8x1x128x128, .f32⟩
  | 43 => ⟨S8x1x128x128, .f32⟩
  | 44 => ⟨S8x1x128x128, .f32⟩
  | 45 => ⟨S8x1x64x128, .f32⟩
  | 46 => ⟨S8x1x64x128, .f32⟩
  | 47 => ⟨S8x1x64x128, .f32⟩
  | 48 => ⟨S8x1x64x128, .f32⟩
  | 49 => ⟨S8x1x64x128, .f32⟩
  | 50 => ⟨S8x1x128x128, .f32⟩
  | 51 => ⟨S8x1x128x128, .f32⟩
  | 52 => ⟨S8x1x128x128, .f32⟩
  | 53 => ⟨S8x1x128x128, .f32⟩
  | 54 => ⟨S8x1x64x128, .f32⟩
  | 55 => ⟨S8x1x64x128, .f32⟩
  | 56 => ⟨S8x1x64x128, .f32⟩
  | 57 => ⟨S8x1x64x128, .f32⟩
  | 58 => ⟨S8x1x64x128, .f32⟩
  | 59 => ⟨S8x1x128x128, .f32⟩
  | 60 => ⟨S8x1x128x128, .f32⟩
  | 61 => ⟨S8x1x128x128, .f32⟩
  | 62 => ⟨S8x1x128x128, .f32⟩
  | 63 => ⟨S8x1x64x128, .f32⟩
  | 64 => ⟨S8x1x64x128, .f32⟩
  | 65 => ⟨S8x1x64x128, .f32⟩
  | 66 => ⟨S8x1x64x128, .f32⟩
  | 67 => ⟨S8x1x64x128, .f32⟩
  | 68 => ⟨S8x1x128x128, .f32⟩
  | 69 => ⟨S8x1x128x128, .f32⟩
  | 70 => ⟨S8x1x128x128, .f32⟩
  | 71 => ⟨S8x1x128x128, .f32⟩
  | 72 => ⟨S8x1x64x128, .f32⟩
  | 73 => ⟨S8x1x64x128, .f32⟩
  | 74 => ⟨S8x1x64x128, .f32⟩
  | 75 => ⟨S8x1x64x128, .f32⟩
  | 76 => ⟨S8x1x64x128, .f32⟩
  | 77 => ⟨S8x1x128x128, .f32⟩
  | 78 => ⟨S8x1x128x128, .f32⟩
  | 79 => ⟨S8x1x128x128, .f32⟩
  | 80 => ⟨S8x1x128x128, .f32⟩
  | 81 => ⟨S8x1x64x128, .f32⟩
  | 82 => ⟨S8x1x64x128, .f32⟩
  | 83 => ⟨S8x1x64x128, .f32⟩
  | 84 => ⟨S8x1x64x128, .f32⟩
  | 85 => ⟨S8x1x64x128, .f32⟩
  | 86 => ⟨S8x1x128x128, .f32⟩
  | 87 => ⟨S8x1x128x128, .f32⟩
  | 88 => ⟨S8x1x128x128, .f32⟩
  | 89 => ⟨S8x1x128x128, .f32⟩
  | 90 => ⟨S8x1x64x128, .f32⟩
  | 91 => ⟨S8x1x64x128, .f32⟩
  | 92 => ⟨S8x1x64x128, .f32⟩
  | 93 => ⟨S8x1x64x128, .f32⟩
  | 94 => ⟨S8x1x64x128, .f32⟩
  | 95 => ⟨S8x1x128x128, .f32⟩
  | 96 => ⟨S8x1x128x128, .f32⟩
  | 97 => ⟨S8x1x128x128, .f32⟩
  | 98 => ⟨S8x1x128x128, .f32⟩
  | 99 => ⟨S8x1x64x128, .f32⟩
  | 100 => ⟨S8x1x64x128, .f32⟩
  | 101 => ⟨S8x1x64x128, .f32⟩
  | 102 => ⟨S8x1x64x128, .f32⟩
  | 103 => ⟨S8x1x64x128, .f32⟩
  | 104 => ⟨S8x1x128x128, .f32⟩
  | 105 => ⟨S8x1x128x128, .f32⟩
  | 106 => ⟨S8x1x128x128, .f32⟩
  | 107 => ⟨S8x1x128x128, .f32⟩
  | 108 => ⟨S8x1x64x128, .f32⟩
  | 109 => ⟨S8x1x64x128, .f32⟩
  | 110 => ⟨S8x1x64x128, .f32⟩
  | 111 => ⟨S8x1x64x128, .f32⟩
  | 112 => ⟨S8x1x64x128, .f32⟩
  | 113 => ⟨S8x1x128x128, .f32⟩
  | 114 => ⟨S8x1x128x128, .f32⟩
  | 115 => ⟨S8x1x128x128, .f32⟩
  | 116 => ⟨S8x1x128x128, .f32⟩
  | 117 => ⟨S8x1x64x128, .f32⟩
  | 118 => ⟨S8x1x64x128, .f32⟩
  | 119 => ⟨S8x1x64x128, .f32⟩
  | 120 => ⟨S8x1x64x128, .f32⟩
  | 121 => ⟨S8x1x64x128, .f32⟩
  | 122 => ⟨S8x1x128x128, .f32⟩
  | 123 => ⟨S8x1x128x128, .f32⟩
  | 124 => ⟨S8x1x128x128, .f32⟩
  | 125 => ⟨S8x1x128x128, .f32⟩
  | 126 => ⟨S8x1x64x128, .f32⟩
  | 127 => ⟨S8x1x64x128, .f32⟩
  | _ => ⟨S8x32x64x128, .f32⟩

abbrev hbmTy0_1 (i : Nat) : BufTy := match i % 128 with
  | 0 => ⟨S8x1x64x128, .f32⟩
  | 1 => ⟨S8x1x64x128, .f32⟩
  | 2 => ⟨S8x1x64x128, .f32⟩
  | 3 => ⟨S8x1x128x128, .f32⟩
  | 4 => ⟨S8x1x128x128, .f32⟩
  | 5 => ⟨S8x1x128x128, .f32⟩
  | 6 => ⟨S8x1x128x128, .f32⟩
  | 7 => ⟨S8x1x64x128, .f32⟩
  | 8 => ⟨S8x1x64x128, .f32⟩
  | 9 => ⟨S8x1x64x128, .f32⟩
  | 10 => ⟨S8x1x64x128, .f32⟩
  | 11 => ⟨S8x1x64x128, .f32⟩
  | 12 => ⟨S8x1x128x128, .f32⟩
  | 13 => ⟨S8x1x128x128, .f32⟩
  | 14 => ⟨S8x1x128x128, .f32⟩
  | 15 => ⟨S8x1x128x128, .f32⟩
  | 16 => ⟨S8x1x64x128, .f32⟩
  | 17 => ⟨S8x1x64x128, .f32⟩
  | 18 => ⟨S8x1x64x128, .f32⟩
  | 19 => ⟨S8x1x64x128, .f32⟩
  | 20 => ⟨S8x1x64x128, .f32⟩
  | 21 => ⟨S8x1x128x128, .f32⟩
  | 22 => ⟨S8x1x128x128, .f32⟩
  | 23 => ⟨S8x1x128x128, .f32⟩
  | 24 => ⟨S8x1x128x128, .f32⟩
  | 25 => ⟨S8x1x64x128, .f32⟩
  | 26 => ⟨S8x1x64x128, .f32⟩
  | 27 => ⟨S8x1x64x128, .f32⟩
  | 28 => ⟨S8x1x64x128, .f32⟩
  | 29 => ⟨S8x1x64x128, .f32⟩
  | 30 => ⟨S8x1x128x128, .f32⟩
  | 31 => ⟨S8x1x128x128, .f32⟩
  | 32 => ⟨S8x1x128x128, .f32⟩
  | 33 => ⟨S8x1x128x128, .f32⟩
  | 34 => ⟨S8x1x64x128, .f32⟩
  | 35 => ⟨S8x1x64x128, .f32⟩
  | 36 => ⟨S8x1x64x128, .f32⟩
  | 37 => ⟨S8x1x64x128, .f32⟩
  | 38 => ⟨S8x1x64x128, .f32⟩
  | 39 => ⟨S8x1x128x128, .f32⟩
  | 40 => ⟨S8x1x128x128, .f32⟩
  | 41 => ⟨S8x1x128x128, .f32⟩
  | 42 => ⟨S8x1x128x128, .f32⟩
  | 43 => ⟨S8x1x64x128, .f32⟩
  | 44 => ⟨S8x1x64x128, .f32⟩
  | 45 => ⟨S8x1x64x128, .f32⟩
  | 46 => ⟨S8x1x64x128, .f32⟩
  | 47 => ⟨S8x1x64x128, .f32⟩
  | 48 => ⟨S8x1x128x128, .f32⟩
  | 49 => ⟨S8x1x128x128, .f32⟩
  | 50 => ⟨S8x1x128x128, .f32⟩
  | 51 => ⟨S8x1x128x128, .f32⟩
  | 52 => ⟨S8x1x64x128, .f32⟩
  | 53 => ⟨S8x1x64x128, .f32⟩
  | 54 => ⟨S8x1x64x128, .f32⟩
  | 55 => ⟨S8x1x64x128, .f32⟩
  | 56 => ⟨S8x1x64x128, .f32⟩
  | 57 => ⟨S8x1x128x128, .f32⟩
  | 58 => ⟨S8x1x128x128, .f32⟩
  | 59 => ⟨S8x1x128x128, .f32⟩
  | 60 => ⟨S8x1x128x128, .f32⟩
  | 61 => ⟨S8x1x64x128, .f32⟩
  | 62 => ⟨S8x1x64x128, .f32⟩
  | 63 => ⟨S8x1x64x128, .f32⟩
  | 64 => ⟨S8x1x64x128, .f32⟩
  | 65 => ⟨S8x1x64x128, .f32⟩
  | 66 => ⟨S8x1x128x128, .f32⟩
  | 67 => ⟨S8x1x128x128, .f32⟩
  | 68 => ⟨S8x1x128x128, .f32⟩
  | 69 => ⟨S8x1x128x128, .f32⟩
  | 70 => ⟨S8x1x64x128, .f32⟩
  | 71 => ⟨S8x1x64x128, .f32⟩
  | 72 => ⟨S8x1x64x128, .f32⟩
  | 73 => ⟨S8x1x64x128, .f32⟩
  | 74 => ⟨S8x1x64x128, .f32⟩
  | 75 => ⟨S8x1x128x128, .f32⟩
  | 76 => ⟨S8x1x128x128, .f32⟩
  | 77 => ⟨S8x1x128x128, .f32⟩
  | 78 => ⟨S8x1x128x128, .f32⟩
  | 79 => ⟨S8x1x64x128, .f32⟩
  | 80 => ⟨S8x1x64x128, .f32⟩
  | 81 => ⟨S8x1x64x128, .f32⟩
  | 82 => ⟨S8x1x64x128, .f32⟩
  | 83 => ⟨S8x1x64x128, .f32⟩
  | 84 => ⟨S8x1x128x128, .f32⟩
  | 85 => ⟨S8x1x128x128, .f32⟩
  | 86 => ⟨S8x1x128x128, .f32⟩
  | 87 => ⟨S8x1x128x128, .f32⟩
  | 88 => ⟨S8x1x64x128, .f32⟩
  | 89 => ⟨S8x1x64x128, .f32⟩
  | 90 => ⟨S8x1x64x128, .f32⟩
  | 91 => ⟨S8x1x64x128, .f32⟩
  | 92 => ⟨S8x1x64x128, .f32⟩
  | 93 => ⟨S8x1x128x128, .f32⟩
  | 94 => ⟨S8x1x128x128, .f32⟩
  | 95 => ⟨S8x1x128x128, .f32⟩
  | 96 => ⟨S8x1x128x128, .f32⟩
  | 97 => ⟨S8x1x64x128, .f32⟩
  | 98 => ⟨S8x1x64x128, .f32⟩
  | 99 => ⟨S8x1x64x128, .f32⟩
  | 100 => ⟨S8x1x64x128, .f32⟩
  | 101 => ⟨S8x1x64x128, .f32⟩
  | 102 => ⟨S8x1x128x128, .f32⟩
  | 103 => ⟨S8x1x128x128, .f32⟩
  | 104 => ⟨S8x1x128x128, .f32⟩
  | 105 => ⟨S8x1x128x128, .f32⟩
  | 106 => ⟨S8x1x64x128, .f32⟩
  | 107 => ⟨S8x1x64x128, .f32⟩
  | 108 => ⟨S8x1x64x128, .f32⟩
  | 109 => ⟨S8x1x64x128, .f32⟩
  | 110 => ⟨S8x1x64x128, .f32⟩
  | 111 => ⟨S8x1x128x128, .f32⟩
  | 112 => ⟨S8x1x128x128, .f32⟩
  | 113 => ⟨S8x1x128x128, .f32⟩
  | 114 => ⟨S8x1x128x128, .f32⟩
  | 115 => ⟨S8x1x64x128, .f32⟩
  | 116 => ⟨S8x1x64x128, .f32⟩
  | 117 => ⟨S8x1x64x128, .f32⟩
  | 118 => ⟨S8x1x64x128, .f32⟩
  | 119 => ⟨S8x1x64x128, .f32⟩
  | 120 => ⟨S8x1x128x128, .f32⟩
  | 121 => ⟨S8x1x128x128, .f32⟩
  | 122 => ⟨S8x1x128x128, .f32⟩
  | 123 => ⟨S8x1x128x128, .f32⟩
  | 124 => ⟨S8x1x64x128, .f32⟩
  | 125 => ⟨S8x1x64x128, .f32⟩
  | 126 => ⟨S8x1x64x128, .f32⟩
  | 127 => ⟨S8x1x64x128, .f32⟩
  | _ => ⟨S8x32x64x128, .f32⟩

abbrev hbmTy0_2 (i : Nat) : BufTy := match i % 128 with
  | 0 => ⟨S8x1x64x128, .f32⟩
  | 1 => ⟨S8x1x128x128, .f32⟩
  | 2 => ⟨S8x1x128x128, .f32⟩
  | 3 => ⟨S8x1x128x128, .f32⟩
  | 4 => ⟨S8x1x128x128, .f32⟩
  | 5 => ⟨S8x1x64x128, .f32⟩
  | 6 => ⟨S8x1x64x128, .f32⟩
  | 7 => ⟨S8x1x64x128, .f32⟩
  | 8 => ⟨S8x1x64x128, .f32⟩
  | 9 => ⟨S8x1x64x128, .f32⟩
  | 10 => ⟨S8x1x128x128, .f32⟩
  | 11 => ⟨S8x1x128x128, .f32⟩
  | 12 => ⟨S8x1x128x128, .f32⟩
  | 13 => ⟨S8x1x128x128, .f32⟩
  | 14 => ⟨S8x1x64x128, .f32⟩
  | 15 => ⟨S8x1x64x128, .f32⟩
  | 16 => ⟨S8x1x64x128, .f32⟩
  | 17 => ⟨S8x1x64x128, .f32⟩
  | 18 => ⟨S8x1x64x128, .f32⟩
  | 19 => ⟨S8x1x128x128, .f32⟩
  | 20 => ⟨S8x1x128x128, .f32⟩
  | 21 => ⟨S8x1x128x128, .f32⟩
  | 22 => ⟨S8x1x128x128, .f32⟩
  | 23 => ⟨S8x1x64x128, .f32⟩
  | 24 => ⟨S8x1x64x128, .f32⟩
  | 25 => ⟨S8x1x64x128, .f32⟩
  | 26 => ⟨S8x1x64x128, .f32⟩
  | 27 => ⟨S8x1x64x128, .f32⟩
  | 28 => ⟨S8x1x128x128, .f32⟩
  | 29 => ⟨S8x1x128x128, .f32⟩
  | 30 => ⟨S8x1x128x128, .f32⟩
  | 31 => ⟨S8x1x128x128, .f32⟩
  | 32 => ⟨S8x1x64x128, .f32⟩
  | 33 => ⟨S8x1x64x128, .f32⟩
  | 34 => ⟨S8x1x64x128, .f32⟩
  | 35 => ⟨S8x1x64x128, .f32⟩
  | 36 => ⟨S_, .f32⟩
  | 37 => ⟨S8x1x128x128, .f32⟩
  | 38 => ⟨S8x16x128x128, .f32⟩
  | 39 => ⟨S8x16x128x128, .f32⟩
  | 40 => ⟨S8x32x128x128, .f32⟩
  | 41 => ⟨S8x16x64x128, .f32⟩
  | 42 => ⟨S8x16x64x128, .f32⟩
  | 43 => ⟨S8x32x64x128, .f32⟩
  | 44 => ⟨S32x64x8x128, .f32⟩
  | 45 => ⟨S2048x1024, .f32⟩
  | 46 => ⟨S8x32x192x128, .f32⟩
  | 47 => ⟨S8x6144x128, .f32⟩
  | 48 => ⟨S_, .i32⟩
  | 49 => ⟨S_, .f32⟩
  | 50 => ⟨S2048x128, .f32⟩
  | 51 => ⟨S2048x1024, .f32⟩
  | 52 => ⟨S2048x1024, .f32⟩
  | 53 => ⟨S2048x1024, .f32⟩
  | 54 => ⟨S2048x1024, .f32⟩
  | 55 => ⟨S8x32x64x64, .f32⟩
  | 56 => ⟨S8x32x1x128, .f32⟩
  | _ => ⟨S8x32x64x128, .f32⟩

abbrev hbmTy (i : Nat) : BufTy := match i / 128 with
  | 0 => hbmTy0_0 i
  | 1 => hbmTy0_1 i
  | 2 => hbmTy0_2 i
  | _ => ⟨S8x32x64x128, .f32⟩

abbrev bufTy : (tb : Table) → Fin (tcTables nBuf tb) → BufTy
  | .hbm, ⟨i, _⟩ => hbmTy i
  | .local _ .vmem, ⟨0, _⟩ => ⟨S8x768x128, .f32⟩
  | .local _ .vmem, ⟨1, _⟩ => ⟨S8x768x128, .f32⟩
  | .local _ .vmem, ⟨2, _⟩ => ⟨S8x4x64x64, .f32⟩
  | .local _ .vmem, ⟨3, _⟩ => ⟨S8x4x64x64, .f32⟩
  | .local _ .vmem, ⟨4, _⟩ => ⟨S256x128, .f32⟩
  | .local _ .vmem, ⟨5, _⟩ => ⟨S256x128, .f32⟩
  | .local _ .vmem, ⟨6, _⟩ => ⟨S8x4x128x128, .f32⟩
  | .local _ .vmem, ⟨7, _⟩ => ⟨S8x4x128x128, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S8x4x64x64, .f32⟩
  | .local _ .vmem, ⟨21, _⟩ => ⟨S8x4x64x64, .f32⟩
  | .local _ .vmem, ⟨22, _⟩ => ⟨S8x4x1x128, .f32⟩
  | .local _ .vmem, ⟨23, _⟩ => ⟨S8x4x1x128, .f32⟩
  | .local _ .vmem, ⟨24, _⟩ => ⟨S8x128x128, .f32⟩
  | _, _ => ⟨S8x32x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_v237 : Ref sig .tc := ⟨.hbm, 246, rfl⟩
abbrev main_v238 : Ref sig .tc := ⟨.hbm, 247, rfl⟩
abbrev main_v239 : Ref sig .tc := ⟨.hbm, 248, rfl⟩
abbrev main_v240 : Ref sig .tc := ⟨.hbm, 249, rfl⟩
abbrev main_v241 : Ref sig .tc := ⟨.hbm, 250, rfl⟩
abbrev main_v242 : Ref sig .tc := ⟨.hbm, 251, rfl⟩
abbrev main_v243 : Ref sig .tc := ⟨.hbm, 252, rfl⟩
abbrev main_v244 : Ref sig .tc := ⟨.hbm, 253, rfl⟩
abbrev main_v245 : Ref sig .tc := ⟨.hbm, 254, rfl⟩
abbrev main_v246 : Ref sig .tc := ⟨.hbm, 255, rfl⟩
abbrev main_v247 : Ref sig .tc := ⟨.hbm, 256, rfl⟩
abbrev main_v248 : Ref sig .tc := ⟨.hbm, 257, rfl⟩
abbrev main_v249 : Ref sig .tc := ⟨.hbm, 258, rfl⟩
abbrev main_v250 : Ref sig .tc := ⟨.hbm, 259, rfl⟩
abbrev main_v251 : Ref sig .tc := ⟨.hbm, 260, rfl⟩
abbrev main_v252 : Ref sig .tc := ⟨.hbm, 261, rfl⟩
abbrev main_v253 : Ref sig .tc := ⟨.hbm, 262, rfl⟩
abbrev main_v254 : Ref sig .tc := ⟨.hbm, 263, rfl⟩
abbrev main_v255 : Ref sig .tc := ⟨.hbm, 264, rfl⟩
abbrev main_v256 : Ref sig .tc := ⟨.hbm, 265, rfl⟩
abbrev main_v257 : Ref sig .tc := ⟨.hbm, 266, rfl⟩
abbrev main_v258 : Ref sig .tc := ⟨.hbm, 267, rfl⟩
abbrev main_v259 : Ref sig .tc := ⟨.hbm, 268, rfl⟩
abbrev main_v260 : Ref sig .tc := ⟨.hbm, 269, rfl⟩
abbrev main_v261 : Ref sig .tc := ⟨.hbm, 270, rfl⟩
abbrev main_v262 : Ref sig .tc := ⟨.hbm, 271, rfl⟩
abbrev main_v263 : Ref sig .tc := ⟨.hbm, 272, rfl⟩
abbrev main_v264 : Ref sig .tc := ⟨.hbm, 273, rfl⟩
abbrev main_v265 : Ref sig .tc := ⟨.hbm, 274, rfl⟩
abbrev main_v266 : Ref sig .tc := ⟨.hbm, 275, rfl⟩
abbrev main_v267 : Ref sig .tc := ⟨.hbm, 276, rfl⟩
abbrev main_v268 : Ref sig .tc := ⟨.hbm, 277, rfl⟩
abbrev main_v269 : Ref sig .tc := ⟨.hbm, 278, rfl⟩
abbrev main_v270 : Ref sig .tc := ⟨.hbm, 279, rfl⟩
abbrev main_v271 : Ref sig .tc := ⟨.hbm, 280, rfl⟩
abbrev main_v272 : Ref sig .tc := ⟨.hbm, 281, rfl⟩
abbrev main_v273 : Ref sig .tc := ⟨.hbm, 282, rfl⟩
abbrev main_v274 : Ref sig .tc := ⟨.hbm, 283, rfl⟩
abbrev main_v275 : Ref sig .tc := ⟨.hbm, 284, rfl⟩
abbrev main_v276 : Ref sig .tc := ⟨.hbm, 285, rfl⟩
abbrev main_v277 : Ref sig .tc := ⟨.hbm, 286, rfl⟩
abbrev main_v278 : Ref sig .tc := ⟨.hbm, 287, rfl⟩
abbrev main_v279 : Ref sig .tc := ⟨.hbm, 288, rfl⟩
abbrev main_v280 : Ref sig .tc := ⟨.hbm, 289, rfl⟩
abbrev main_v281 : Ref sig .tc := ⟨.hbm, 290, rfl⟩
abbrev main_v282 : Ref sig .tc := ⟨.hbm, 291, rfl⟩
abbrev main_cst_0 : Ref sig .tc := ⟨.hbm, 292, rfl⟩
abbrev main_v283 : Ref sig .tc := ⟨.hbm, 293, rfl⟩
abbrev main_v284 : Ref sig .tc := ⟨.hbm, 294, rfl⟩
abbrev main_v285 : Ref sig .tc := ⟨.hbm, 295, rfl⟩
abbrev main_v286 : Ref sig .tc := ⟨.hbm, 296, rfl⟩
abbrev main_v287 : Ref sig .tc := ⟨.hbm, 297, rfl⟩
abbrev main_v288 : Ref sig .tc := ⟨.hbm, 298, rfl⟩
abbrev main_v289 : Ref sig .tc := ⟨.hbm, 299, rfl⟩
abbrev main_v290 : Ref sig .tc := ⟨.hbm, 300, rfl⟩
abbrev main_v291 : Ref sig .tc := ⟨.hbm, 301, rfl⟩
abbrev main_v292 : Ref sig .tc := ⟨.hbm, 302, rfl⟩
abbrev main_v293 : Ref sig .tc := ⟨.hbm, 303, rfl⟩
abbrev main_c : Ref sig .tc := ⟨.hbm, 304, rfl⟩
abbrev main_call0_v0 : Ref sig .tc := ⟨.hbm, 305, rfl⟩
abbrev main_v294 : Ref sig .tc := ⟨.hbm, 306, rfl⟩
abbrev main_v295_0 : Ref sig .tc := ⟨.hbm, 307, rfl⟩
abbrev main_v295_1 : Ref sig .tc := ⟨.hbm, 308, rfl⟩
abbrev main_v295_2 : Ref sig .tc := ⟨.hbm, 309, rfl⟩
abbrev main_v295_3 : Ref sig .tc := ⟨.hbm, 310, rfl⟩
abbrev main_v295_4 : Ref sig .tc := ⟨.hbm, 311, rfl⟩
abbrev main_v295_5 : Ref sig .tc := ⟨.hbm, 312, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_12 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

abbrev stage0_0 : Fin 2 → Memref sig .tc .vmem S8x768x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x4x64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x4x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S8x32x64x128 : Shape := ⟨4, ![8, 32, 64, 128]⟩
abbrev S8x32x64x64 : Shape := ⟨4, ![8, 32, 64, 64]⟩
abbrev S2048x8 : Shape := ⟨2, ![2048, 8]⟩
abbrev S2048x1024 : Shape := ⟨2, ![2048, 1024]⟩
abbrev S8x128 : Shape := ⟨2, ![8, 128]⟩
abbrev S32x64x8 : Shape := ⟨3, ![32, 64, 8]⟩
abbrev S_ : Shape := ⟨0, ![]⟩
abbrev S32x8 : Shape := ⟨2, ![32, 8]⟩
abbrev S32x64x8x128 : Shape := ⟨4, ![32, 64, 8, 128]⟩
abbrev S32x8x64x128 : Shape := ⟨4, ![32, 8, 64, 128]⟩
abbrev S8x128x128 : Shape := ⟨3, ![8, 128, 128]⟩
abbrev S32x8x64x64 : Shape := ⟨4, ![32, 8, 64, 64]⟩
abbrev S32x8x128x128 : Shape := ⟨4, ![32, 8, 128, 128]⟩
abbrev S32x8x1x1 : Shape := ⟨4, ![32, 8, 1, 1]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8 : Shape := ⟨2, ![1, 8]⟩
abbrev S8 : Shape := ⟨1, ![8]⟩
abbrev S8x1x1 : Shape := ⟨3, ![8, 1, 1]⟩
abbrev S1x8x128x128 : Shape := ⟨4, ![1, 8, 128, 128]⟩
abbrev S1x8x1x1 : Shape := ⟨4, ![1, 8, 1, 1]⟩
abbrev S8x128x64 : Shape := ⟨3, ![8, 128, 64]⟩
abbrev S64x64 : Shape := ⟨2, ![64, 64]⟩
abbrev S8x32 : Shape := ⟨2, ![8, 32]⟩
abbrev S8x32x1x1 : Shape := ⟨4, ![8, 32, 1, 1]⟩
abbrev S8x32x1x128 : Shape := ⟨4, ![8, 32, 1, 128]⟩

abbrev nBuf : Space → Nat
  | .hbm => 281
  | .vmem => 0
  | .smem => 0
  | _ => 0

abbrev hbmTy0_0 (i : Nat) : BufTy := match i % 128 with
  | 0 => ⟨S8x32x64x128, .f32⟩
  | 1 => ⟨S8x32x64x128, .f32⟩
  | 2 => ⟨S8x32x64x128, .f32⟩
  | 3 => ⟨S8x32x64x128, .f32⟩
  | 4 => ⟨S8x32x64x64, .f32⟩
  | 5 => ⟨S2048x8, .f32⟩
  | 6 => ⟨S2048x1024, .f32⟩
  | 7 => ⟨S8x128, .f32⟩
  | 8 => ⟨S32x64x8, .f32⟩
  | 9 => ⟨S_, .f32⟩
  | 10 => ⟨S32x8, .f32⟩
  | 11 => ⟨S32x64x8x128, .f32⟩
  | 12 => ⟨S32x8x64x128, .f32⟩
  | 13 => ⟨S_, .f32⟩
  | 14 => ⟨S8x128x128, .f32⟩
  | 15 => ⟨S32x8x64x128, .f32⟩
  | 16 => ⟨S32x8x64x128, .f32⟩
  | 17 => ⟨S32x8x64x128, .f32⟩
  | 18 => ⟨S32x8x64x128, .f32⟩
  | 19 => ⟨S32x8x64x64, .f32⟩
  | 20 => ⟨S_, .f32⟩
  | 21 => ⟨S32x8x64x128, .f32⟩
  | 22 => ⟨S_, .f32⟩
  | 23 => ⟨S32x8x128x128, .f32⟩
  | 24 => ⟨S_, .f32⟩
  | 25 => ⟨S32x8x64x128, .f32⟩
  | 26 => ⟨S_, .f32⟩
  | 27 => ⟨S32x8, .f32⟩
  | 28 => ⟨S_, .f32⟩
  | 29 => ⟨S32x8x1x1, .f32⟩
  | 30 => ⟨S_, .i32⟩
  | 31 => ⟨S32x8x64x128, .f32⟩
  | 32 => ⟨S32x8x64x128, .f32⟩
  | 33 => ⟨S32x8x64x128, .f32⟩
  | 34 => ⟨S32x8x64x128, .f32⟩
  | 35 => ⟨S32x8x64x64, .f32⟩
  | 36 => ⟨S32x8, .f32⟩
  | 37 => ⟨S_, .i32⟩
  | 38 => ⟨S8x128x128, .f32⟩
  | 39 => ⟨S32x8x64x128, .f32⟩
  | 40 => ⟨S32x8x128x128, .f32⟩
  | 41 => ⟨S32x8x64x128, .f32⟩
  | 42 => ⟨S32x8, .f32⟩
  | 43 => ⟨S32x8x1x1, .f32⟩
  | 44 => ⟨S_, .i32⟩
  | 45 => ⟨S_, .i1⟩
  | 46 => ⟨S_, .i32⟩
  | 47 => ⟨S_, .i32⟩
  | 48 => ⟨S_, .i32⟩
  | 49 => ⟨S1x8x64x128, .f32⟩
  | 50 => ⟨S8x64x128, .f32⟩
  | 51 => ⟨S_, .i32⟩
  | 52 => ⟨S_, .i32⟩
  | 53 => ⟨S_, .i32⟩
  | 54 => ⟨S1x8x64x128, .f32⟩
  | 55 => ⟨S8x64x128, .f32⟩
  | 56 => ⟨S_, .i32⟩
  | 57 => ⟨S_, .i32⟩
  | 58 => ⟨S_, .i32⟩
  | 59 => ⟨S1x8x64x128, .f32⟩
  | 60 => ⟨S8x64x128, .f32⟩
  | 61 => ⟨S_, .i32⟩
  | 62 => ⟨S_, .i32⟩
  | 63 => ⟨S_, .i32⟩
  | 64 => ⟨S1x8x64x128, .f32⟩
  | 65 => ⟨S8x64x128, .f32⟩
  | 66 => ⟨S_, .i32⟩
  | 67 => ⟨S_, .i32⟩
  | 68 => ⟨S_, .i32⟩
  | 69 => ⟨S1x8x64x64, .f32⟩
  | 70 => ⟨S8x64x64, .f32⟩
  | 71 => ⟨S_, .i32⟩
  | 72 => ⟨S1x8, .f32⟩
  | 73 => ⟨S8, .f32⟩
  | 74 => ⟨S8x64x128, .f32⟩
  | 75 => ⟨S8x64x128, .f32⟩
  | 76 => ⟨S8x64x128, .f32⟩
  | 77 => ⟨S8x64x128, .f32⟩
  | 78 => ⟨S8x64x128, .f32⟩
  | 79 => ⟨S8, .f32⟩
  | 80 => ⟨S8x1x1, .f32⟩
  | 81 => ⟨S8x128x128, .f32⟩
  | 82 => ⟨S8x128x128, .f32⟩
  | 83 => ⟨S8x128x128, .f32⟩
  | 84 => ⟨S8x128x128, .f32⟩
  | 85 => ⟨S1x8x64x128, .f32⟩
  | 86 => ⟨S_, .i32⟩
  | 87 => ⟨S_, .i32⟩
  | 88 => ⟨S_, .i32⟩
  | 89 => ⟨S32x8x64x128, .f32⟩
  | 90 => ⟨S1x8x128x128, .f32⟩
  | 91 => ⟨S_, .i32⟩
  | 92 => ⟨S_, .i32⟩
  | 93 => ⟨S_, .i32⟩
  | 94 => ⟨S32x8x128x128, .f32⟩
  | 95 => ⟨S1x8x64x128, .f32⟩
  | 96 => ⟨S_, .i32⟩
  | 97 => ⟨S_, .i32⟩
  | 98 => ⟨S_, .i32⟩
  | 99 => ⟨S32x8x64x128, .f32⟩
  | 100 => ⟨S1x8, .f32⟩
  | 101 => ⟨S_, .i32⟩
  | 102 => ⟨S32x8, .f32⟩
  | 103 => ⟨S1x8x1x1, .f32⟩
  | 104 => ⟨S_, .i32⟩
  | 105 => ⟨S_, .i32⟩
  | 106 => ⟨S_, .i32⟩
  | 107 => ⟨S32x8x1x1, .f32⟩
  | 108 => ⟨S_, .i32⟩
  | 109 => ⟨S_, .i32⟩
  | 110 => ⟨S_, .f32⟩
  | 111 => ⟨S8x128x128, .f32⟩
  | 112 => ⟨S_, .f32⟩
  | 113 => ⟨S8x128x128, .f32⟩
  | 114 => ⟨S_, .f32⟩
  | 115 => ⟨S32x8x64x128, .f32⟩
  | 116 => ⟨S_, .f32⟩
  | 117 => ⟨S32x8x64x128, .f32⟩
  | 118 => ⟨S_, .f32⟩
  | 119 => ⟨S32x8x64x128, .f32⟩
  | 120 => ⟨S_, .f32⟩
  | 121 => ⟨S32x8x64x128, .f32⟩
  | 122 => ⟨S_, .f32⟩
  | 123 => ⟨S32x8x64x64, .f32⟩
  | 124 => ⟨S_, .f32⟩
  | 125 => ⟨S32x8, .f32⟩
  | 126 => ⟨S_, .i32⟩
  | 127 => ⟨S32x8x64x128, .f32⟩
  | _ => ⟨S8x32x64x128, .f32⟩

abbrev hbmTy0_1 (i : Nat) : BufTy := match i % 128 with
  | 0 => ⟨S32x8x128x128, .f32⟩
  | 1 => ⟨S32x8x64x128, .f32⟩
  | 2 => ⟨S32x8x64x128, .f32⟩
  | 3 => ⟨S32x8x64x128, .f32⟩
  | 4 => ⟨S32x8x64x64, .f32⟩
  | 5 => ⟨S32x8, .f32⟩
  | 6 => ⟨S32x8x1x1, .f32⟩
  | 7 => ⟨S32x8x64x128, .f32⟩
  | 8 => ⟨S_, .i32⟩
  | 9 => ⟨S8x128x128, .f32⟩
  | 10 => ⟨S32x8x64x128, .f32⟩
  | 11 => ⟨S32x8x64x128, .f32⟩
  | 12 => ⟨S32x8x64x128, .f32⟩
  | 13 => ⟨S32x8x64x128, .f32⟩
  | 14 => ⟨S32x8x64x64, .f32⟩
  | 15 => ⟨S32x8, .f32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S1x8x64x128, .f32⟩
  | 26 => ⟨S8x64x128, .f32⟩
  | 27 => ⟨S_, .i32⟩
  | 28 => ⟨S_, .i32⟩
  | 29 => ⟨S_, .i32⟩
  | 30 => ⟨S1x8x128x128, .f32⟩
  | 31 => ⟨S8x128x128, .f32⟩
  | 32 => ⟨S_, .i32⟩
  | 33 => ⟨S_, .i32⟩
  | 34 => ⟨S_, .i32⟩
  | 35 => ⟨S1x8x64x128, .f32⟩
  | 36 => ⟨S8x64x128, .f32⟩
  | 37 => ⟨S_, .i32⟩
  | 38 => ⟨S_, .i32⟩
  | 39 => ⟨S_, .i32⟩
  | 40 => ⟨S1x8x64x128, .f32⟩
  | 41 => ⟨S8x64x128, .f32⟩
  | 42 => ⟨S_, .i32⟩
  | 43 => ⟨S_, .i32⟩
  | 44 => ⟨S_, .i32⟩
  | 45 => ⟨S1x8x64x128, .f32⟩
  | 46 => ⟨S8x64x128, .f32⟩
  | 47 => ⟨S_, .i32⟩
  | 48 => ⟨S_, .i32⟩
  | 49 => ⟨S_, .i32⟩
  | 50 => ⟨S1x8x64x64, .f32⟩
  | 51 => ⟨S8x64x64, .f32⟩
  | 52 => ⟨S_, .i32⟩
  | 53 => ⟨S1x8, .f32⟩
  | 54 => ⟨S8, .f32⟩
  | 55 => ⟨S_, .i32⟩
  | 56 => ⟨S_, .i32⟩
  | 57 => ⟨S_, .i32⟩
  | 58 => ⟨S1x8x1x1, .f32⟩
  | 59 => ⟨S8x1x1, .f32⟩
  | 60 => ⟨S_, .i32⟩
  | 61 => ⟨S_, .i32⟩
  | 62 => ⟨S_, .i32⟩
  | 63 => ⟨S1x8x64x128, .f32⟩
  | 64 => ⟨S8x64x128, .f32⟩
  | 65 => ⟨S8x128x64, .f32⟩
  | 66 => ⟨S8x64x128, .f32⟩
  | 67 => ⟨S8x128x64, .f32⟩
  | 68 => ⟨S8x64x128, .f32⟩
  | 69 => ⟨S8x128x128, .f32⟩
  | 70 => ⟨S_, .f32⟩
  | 71 => ⟨S8, .f32⟩
  | 72 => ⟨S8x1x1, .f32⟩
  | 73 => ⟨S8x128x128, .f32⟩
  | 74 => ⟨S8x128x128, .f32⟩
  | 75 => ⟨S_, .f32⟩
  | 76 => ⟨S8, .f32⟩
  | 77 => ⟨S8, .f32⟩
  | 78 => ⟨S8x128x64, .f32⟩
  | 79 => ⟨S8x64x128, .f32⟩
  | 80 => ⟨S8x64x128, .f32⟩
  | 81 => ⟨S8x64x64, .f32⟩
  | 82 => ⟨S8x128x128, .f32⟩
  | 83 => ⟨S8x128x128, .f32⟩
  | 84 => ⟨S8x128x128, .f32⟩
  | 85 => ⟨S8x64x128, .f32⟩
  | 86 => ⟨S8x64x128, .f32⟩
  | 87 => ⟨S8x128x128, .f32⟩
  | 88 => ⟨S8x128x128, .f32⟩
  | 89 => ⟨S8x128x128, .f32⟩
  | 90 => ⟨S8x64x128, .f32⟩
  | 91 => ⟨S1x8x64x128, .f32⟩
  | 92 => ⟨S_, .i32⟩
  | 93 => ⟨S_, .i32⟩
  | 94 => ⟨S_, .i32⟩
  | 95 => ⟨S32x8x64x128, .f32⟩
  | 96 => ⟨S1x8x64x128, .f32⟩
  | 97 => ⟨S_, .i32⟩
  | 98 => ⟨S_, .i32⟩
  | 99 => ⟨S_, .i32⟩
  | 100 => ⟨S32x8x64x128, .f32⟩
  | 101 => ⟨S1x8x64x128, .f32⟩
  | 102 => ⟨S_, .i32⟩
  | 103 => ⟨S_, .i32⟩
  | 104 => ⟨S_, .i32⟩
  | 105 => ⟨S32x8x64x128, .f32⟩
  | 106 => ⟨S1x8x64x128, .f32⟩
  | 107 => ⟨S_, .i32⟩
  | 108 => ⟨S_, .i32⟩
  | 109 => ⟨S_, .i32⟩
  | 110 => ⟨S32x8x64x128, .f32⟩
  | 111 => ⟨S1x8x64x64, .f32⟩
  | 112 => ⟨S_, .i32⟩
  | 113 => ⟨S_, .i32⟩
  | 114 => ⟨S_, .i32⟩
  | 115 => ⟨S32x8x64x64, .f32⟩
  | 116 => ⟨S1x8, .f32⟩
  | 117 => ⟨S_, .i32⟩
  | 118 => ⟨S32x8, .f32⟩
  | 119 => ⟨S_, .i32⟩
  | 120 => ⟨S_, .i32⟩
  | 121 => ⟨S8x32x64x64, .f32⟩
  | 122 => ⟨S8x32x64x128, .f32⟩
  | 123 => ⟨S8x32x64x128, .f32⟩
  | 124 => ⟨S8x32x64x128, .f32⟩
  | 125 => ⟨S8x32x64x128, .f32⟩
  | 126 => ⟨S_, .i1⟩
  | 127 => ⟨S64x64, .i1⟩
  | _ => ⟨S8x32x64x128, .f32⟩

abbrev hbmTy0_2 (i : Nat) : BufTy := match i % 128 with
  | 0 => ⟨S64x64, .i32⟩
  | 1 => ⟨S_, .i32⟩
  | 2 => ⟨S64x64, .i32⟩
  | 3 => ⟨S64x64, .i32⟩
  | 4 => ⟨S64x64, .i32⟩
  | 5 => ⟨S64x64, .i1⟩
  | 6 => ⟨S_, .i1⟩
  | 7 => ⟨S64x64, .i1⟩
  | 8 => ⟨S64x64, .i1⟩
  | 9 => ⟨S8x32, .f32⟩
  | 10 => ⟨S8x32x1x1, .f32⟩
  | 11 => ⟨S8x32x1x128, .f32⟩
  | 12 => ⟨S32x64x8x128, .f32⟩
  | 13 => ⟨S2048x1024, .f32⟩
  | 14 => ⟨S32x64x8x128, .f32⟩
  | 15 => ⟨S2048x1024, .f32⟩
  | 16 => ⟨S32x64x8x128, .f32⟩
  | 17 => ⟨S2048x1024, .f32⟩
  | 18 => ⟨S32x64x8x128, .f32⟩
  | 19 => ⟨S2048x1024, .f32⟩
  | 20 => ⟨S_, .f32⟩
  | 21 => ⟨S_, .f32⟩
  | 22 => ⟨S8x32x64x64, .i1⟩
  | 23 => ⟨S8x32x64x64, .f32⟩
  | 24 => ⟨S8x32x64x64, .f32⟩
  | _ => ⟨S8x32x64x128, .f32⟩

abbrev hbmTy (i : Nat) : BufTy := match i / 128 with
  | 0 => hbmTy0_0 i
  | 1 => hbmTy0_1 i
  | 2 => hbmTy0_2 i
  | _ => ⟨S8x32x64x128, .f32⟩

abbrev bufTy : (tb : Table) → Fin (tcTables nBuf tb) → BufTy
  | .hbm, ⟨i, _⟩ => hbmTy i
  | _, _ => ⟨S8x32x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_c : Ref sig .tc := ⟨.hbm, 30, rfl⟩
abbrev main_v15_0 : Ref sig .tc := ⟨.hbm, 31, rfl⟩
abbrev main_v15_1 : Ref sig .tc := ⟨.hbm, 32, rfl⟩
abbrev main_v15_2 : Ref sig .tc := ⟨.hbm, 33, rfl⟩
abbrev main_v15_3 : Ref sig .tc := ⟨.hbm, 34, rfl⟩
abbrev main_v15_4 : Ref sig .tc := ⟨.hbm, 35, rfl⟩
abbrev main_v15_5 : Ref sig .tc := ⟨.hbm, 36, rfl⟩
abbrev main_v15_6 : Ref sig .tc := ⟨.hbm, 37, rfl⟩
abbrev main_v15_7 : Ref sig .tc := ⟨.hbm, 38, rfl⟩
abbrev main_v15_8 : Ref sig .tc := ⟨.hbm, 39, rfl⟩
abbrev main_v15_9 : Ref sig .tc := ⟨.hbm, 40, rfl⟩
abbrev main_v15_10 : Ref sig .tc := ⟨.hbm, 41, rfl⟩
abbrev main_v15_11 : Ref sig .tc := ⟨.hbm, 42, rfl⟩
abbrev main_v15_12 : Ref sig .tc := ⟨.hbm, 43, rfl⟩
abbrev main_while0c_c_29 : Ref sig .tc := ⟨.hbm, 44, rfl⟩
abbrev main_while0c_v44 : Ref sig .tc := ⟨.hbm, 45, rfl⟩
abbrev main_while0b_call0_c : Ref sig .tc := ⟨.hbm, 46, rfl⟩
abbrev main_while0b_call0_c_0 : Ref sig .tc := ⟨.hbm, 47, rfl⟩
abbrev main_while0b_call0_c_1 : Ref sig .tc := ⟨.hbm, 48, rfl⟩
abbrev main_while0b_call0_v0 : Ref sig .tc := ⟨.hbm, 49, rfl⟩
abbrev main_while0b_v44 : Ref sig .tc := ⟨.hbm, 50, rfl⟩
abbrev main_while0b_call1_c : Ref sig .tc := ⟨.hbm, 51, rfl⟩
abbrev main_while0b_call1_c_0 : Ref sig .tc := ⟨.hbm, 52, rfl⟩
abbrev main_while0b_call1_c_1 : Ref sig .tc := ⟨.hbm, 53, rfl⟩
abbrev main_while0b_call1_v0 : Ref sig .tc := ⟨.hbm, 54, rfl⟩
abbrev main_while0b_v45 : Ref sig .tc := ⟨.hbm, 55, rfl⟩
abbrev main_while0b_call2_c : Ref sig .tc := ⟨.hbm, 56, rfl⟩
abbrev main_while0b_call2_c_0 : Ref sig .tc := ⟨.hbm, 57, rfl⟩
abbrev main_while0b_call2_c_1 : Ref sig .tc := ⟨.hbm, 58, rfl⟩
abbrev main_while0b_call2_v0 : Ref sig .tc := ⟨.hbm, 59, rfl⟩
abbrev main_while0b_v46 : Ref sig .tc := ⟨.hbm, 60, rfl⟩
abbrev main_while0b_call3_c : Ref sig .tc := ⟨.hbm, 61, rfl⟩
abbrev main_while0b_call3_c_0 : Ref sig .tc := ⟨.hbm, 62, rfl⟩
abbrev main_while0b_call3_c_1 : Ref sig .tc := ⟨.hbm, 63, rfl⟩
abbrev main_while0b_call3_v0 : Ref sig .tc := ⟨.hbm, 64, rfl⟩
abbrev main_while0b_v47 : Ref sig .tc := ⟨.hbm, 65, rfl⟩
abbrev main_while0b_call4_c : Ref sig .tc := ⟨.hbm, 66, rfl⟩
abbrev main_while0b_call4_c_0 : Ref sig .tc := ⟨.hbm, 67, rfl⟩
abbrev main_while0b_call4_c_1 : Ref sig .tc := ⟨.hbm, 68, rfl⟩
abbrev main_while0b_call4_v0 : Ref sig .tc := ⟨.hbm, 69, rfl⟩
abbrev main_while0b_v48 : Ref sig .tc := ⟨.hbm, 70, rfl⟩
abbrev main_while0b_call5_c : Ref sig .tc := ⟨.hbm, 71, rfl⟩
abbrev main_while0b_call5_v0 : Ref sig .tc := ⟨.hbm, 72, rfl⟩
abbrev main_while0b_v49 : Ref sig .tc := ⟨.hbm, 73, rfl⟩
abbrev main_while0b_v50 : Ref sig .tc := ⟨.hbm, 74, rfl⟩
abbrev main_while0b_v51 : Ref sig .tc := ⟨.hbm, 75, rfl⟩
abbrev main_while0b_v52 : Ref sig .tc := ⟨.hbm, 76, rfl⟩
abbrev main_while0b_v53 : Ref sig .tc := ⟨.hbm, 77, rfl⟩
abbrev main_while0b_v54 : Ref sig .tc := ⟨.hbm, 78, rfl⟩
abbrev main_while0b_v55 : Ref sig .tc := ⟨.hbm, 79, rfl⟩
abbrev main_while0b_v56 : Ref sig .tc := ⟨.hbm, 80, rfl⟩
abbrev main_while0b_v57 : Ref sig .tc := ⟨.hbm, 81, rfl⟩
abbrev main_while0b_v58 : Ref sig .tc := ⟨.hbm, 82, rfl⟩
abbrev main_while0b_v59 : Ref sig .tc := ⟨.hbm, 83, rfl⟩
abbrev main_while0b_v60 : Ref sig .tc := ⟨.hbm, 84, rfl⟩
abbrev main_while0b_call6_v0 : Ref sig .tc := ⟨.hbm, 85, rfl⟩
abbrev main_while0b_call6_c : Ref sig .tc := ⟨.hbm, 86, rfl⟩
abbrev main_while0b_call6_c_0 : Ref sig .tc := ⟨.hbm, 87, rfl⟩
abbrev main_while0b_call6_c_1 : Ref sig .tc := ⟨.hbm, 88, rfl⟩
abbrev main_while0b_v61 : Ref sig .tc := ⟨.hbm, 89, rfl⟩
abbrev main_while0b_call7_v0 : Ref sig .tc := ⟨.hbm, 90, rfl⟩
abbrev main_while0b_call7_c : Ref sig .tc := ⟨.hbm, 91, rfl⟩
abbrev main_while0b_call7_c_0 : Ref sig .tc := ⟨.hbm, 92, rfl⟩
abbrev main_while0b_call7_c_1 : Ref sig .tc := ⟨.hbm, 93, rfl⟩
abbrev main_while0b_v62 : Ref sig .tc := ⟨.hbm, 94, rfl⟩
abbrev main_while0b_call8_v0 : Ref sig .tc := ⟨.hbm, 95, rfl⟩
abbrev main_while0b_call8_c : Ref sig .tc := ⟨.hbm, 96, rfl⟩
abbrev main_while0b_call8_c_0 : Ref sig .tc := ⟨.hbm, 97, rfl⟩
abbrev main_while0b_call8_c_1 : Ref sig .tc := ⟨.hbm, 98, rfl⟩
abbrev main_while0b_v63 : Ref sig .tc := ⟨.hbm, 99, rfl⟩
abbrev main_while0b_call9_v0 : Ref sig .tc := ⟨.hbm, 100, rfl⟩
abbrev main_while0b_call9_c : Ref sig .tc := ⟨.hbm, 101, rfl⟩
abbrev main_while0b_v64 : Ref sig .tc := ⟨.hbm, 102, rfl⟩
abbrev main_while0b_call10_v0 : Ref sig .tc := ⟨.hbm, 103, rfl⟩
abbrev main_while0b_call10_c : Ref sig .tc := ⟨.hbm, 104, rfl⟩
abbrev main_while0b_call10_c_0 : Ref sig .tc := ⟨.hbm, 105, rfl⟩
abbrev main_while0b_call10_c_1 : Ref sig .tc := ⟨.hbm, 106, rfl⟩
abbrev main_while0b_v65 : Ref sig .tc := ⟨.hbm, 107, rfl⟩
abbrev main_while0b_c_29 : Ref sig .tc := ⟨.hbm, 108, rfl⟩
abbrev main_while0b_v66 : Ref sig .tc := ⟨.hbm, 109, rfl⟩
abbrev main_cst_6 : Ref sig .tc := ⟨.hbm, 110, rfl⟩
abbrev main_v16 : Ref sig .tc := ⟨.hbm, 111, rfl⟩
abbrev main_cst_7 : Ref sig .tc := ⟨.hbm, 112, rfl⟩
abbrev main_v17 : Ref sig .tc := ⟨.hbm, 113, rfl⟩
abbrev main_cst_8 : Ref sig .tc := ⟨.hbm, 114, rfl⟩
abbrev main_v18 : Ref sig .tc := ⟨.hbm, 115, rfl⟩
abbrev main_cst_9 : Ref sig .tc := ⟨.hbm, 116, rfl⟩
abbrev main_v19 : Ref sig .tc := ⟨.hbm, 117, rfl⟩
abbrev main_cst_10 : Ref sig .tc := ⟨.hbm, 118, rfl⟩
abbrev main_v20 : Ref sig .tc := ⟨.hbm, 119, rfl⟩
abbrev main_cst_11 : Ref sig .tc := ⟨.hbm, 120, rfl⟩
abbrev main_v21 : Ref sig .tc := ⟨.hbm, 121, rfl⟩
abbrev main_cst_12 : Ref sig .tc := ⟨.hbm, 122, rfl⟩
abbrev main_v22 : Ref sig .tc := ⟨.hbm, 123, rfl⟩
abbrev main_cst_13 : Ref sig .tc := ⟨.hbm, 124, rfl⟩
abbrev main_v23 : Ref sig .tc := ⟨.hbm, 125, rfl⟩
abbrev main_c_14 : Ref sig .tc := ⟨.hbm, 126, rfl⟩
abbrev main_v24_0 : Ref sig .tc := ⟨.hbm, 127, rfl⟩
abbrev main_v24_1 : Ref sig .tc := ⟨.hbm, 128, rfl⟩
abbrev main_v24_2 : Ref sig .tc := ⟨.hbm, 129, rfl⟩
abbrev main_v24_3 : Ref sig .tc := ⟨.hbm, 130, rfl⟩
abbrev main_v24_4 : Ref sig .tc := ⟨.hbm, 131, rfl⟩
abbrev main_v24_5 : Ref sig .tc := ⟨.hbm, 132, rfl⟩
abbrev main_v24_6 : Ref sig .tc := ⟨.hbm, 133, rfl⟩
abbrev main_v24_7 : Ref sig .tc := ⟨.hbm, 134, rfl⟩
abbrev main_v24_8 : Ref sig .tc := ⟨.hbm, 135, rfl⟩
abbrev main_v24_9 : Ref sig .tc := ⟨.hbm, 136, rfl⟩
abbrev main_v24_10 : Ref sig .tc := ⟨.hbm, 137, rfl⟩
abbrev main_v24_11 : Ref sig .tc := ⟨.hbm, 138, rfl⟩
abbrev main_v24_12 : Ref sig .tc := ⟨.hbm, 139, rfl⟩
abbrev main_v24_13 : Ref sig .tc := ⟨.hbm, 140, rfl⟩
abbrev main_v24_14 : Ref sig .tc := ⟨.hbm, 141, rfl⟩
abbrev main_v24_15 : Ref sig .tc := ⟨.hbm, 142, rfl⟩
abbrev main_v24_16 : Ref sig .tc := ⟨.hbm, 143, rfl⟩
abbrev main_while1c_c_33 : Ref sig .tc := ⟨.hbm, 144, rfl⟩
abbrev main_while1c_v44 : Ref sig .tc := ⟨.hbm, 145, rfl⟩
abbrev main_while1b_c_33 : Ref sig .tc := ⟨.hbm, 146, rfl⟩
abbrev main_while1b_v44 : Ref sig .tc := ⟨.hbm, 147, rfl⟩
abbrev main_while1b_c_34 : Ref sig .tc := ⟨.hbm, 148, rfl⟩
abbrev main_while1b_v45 : Ref sig .tc := ⟨.hbm, 149, rfl⟩
abbrev main_while1b_call11_c : Ref sig .tc := ⟨.hbm, 150, rfl⟩
abbrev main_while1b_call11_c_0 : Ref sig .tc := ⟨.hbm, 151, rfl⟩
abbrev main_while1b_call11_c_1 : Ref sig .tc := ⟨.hbm, 152, rfl⟩
abbrev main_while1b_call11_v0 : Ref sig .tc := ⟨.hbm, 153, rfl⟩
abbrev main_while1b_v46 : Ref sig .tc := ⟨.hbm, 154, rfl⟩
abbrev main_while1b_call12_c : Ref sig .tc := ⟨.hbm, 155, rfl⟩
abbrev main_while1b_call12_c_0 : Ref sig .tc := ⟨.hbm, 156, rfl⟩
abbrev main_while1b_call12_c_1 : Ref sig .tc := ⟨.hbm, 157, rfl⟩
abbrev main_while1b_call12_v0 : Ref sig .tc := ⟨.hbm, 158, rfl⟩
abbrev main_while1b_v47 : Ref sig .tc := ⟨.hbm, 159, rfl⟩
abbrev main_while1b_call13_c : Ref sig .tc := ⟨.hbm, 160, rfl⟩
abbrev main_while1b_call13_c_0 : Ref sig .tc := ⟨.hbm, 161, rfl⟩
abbrev main_while1b_call13_c_1 : Ref sig .tc := ⟨.hbm, 162, rfl⟩
abbrev main_while1b_call13_v0 : Ref sig .tc := ⟨.hbm, 163, rfl⟩
abbrev main_while1b_v48 : Ref sig .tc := ⟨.hbm, 164, rfl⟩
abbrev main_while1b_call14_c : Ref sig .tc := ⟨.hbm, 165, rfl⟩
abbrev main_while1b_call14_c_0 : Ref sig .tc := ⟨.hbm, 166, rfl⟩
abbrev main_while1b_call14_c_1 : Ref sig .tc := ⟨.hbm, 167, rfl⟩
abbrev main_while1b_call14_v0 : Ref sig .tc := ⟨.hbm, 168, rfl⟩
abbrev main_while1b_v49 : Ref sig .tc := ⟨.hbm, 169, rfl⟩
abbrev main_while1b_call15_c : Ref sig .tc := ⟨.hbm, 170, rfl⟩
abbrev main_while1b_call15_c_0 : Ref sig .tc := ⟨.hbm, 171, rfl⟩
abbrev main_while1b_call15_c_1 : Ref sig .tc := ⟨.hbm, 172, rfl⟩
abbrev main_while1b_call15_v0 : Ref sig .tc := ⟨.hbm, 173, rfl⟩
abbrev main_while1b_v50 : Ref sig .tc := ⟨.hbm, 174, rfl⟩
abbrev main_while1b_call16_c : Ref sig .tc := ⟨.hbm, 175, rfl⟩
abbrev main_while1b_call16_c_0 : Ref sig .tc := ⟨.hbm, 176, rfl⟩
abbrev main_while1b_call16_c_1 : Ref sig .tc := ⟨.hbm, 177, rfl⟩
abbrev main_while1b_call16_v0 : Ref sig .tc := ⟨.hbm, 178, rfl⟩
abbrev main_while1b_v51 : Ref sig .tc := ⟨.hbm, 179, rfl⟩
abbrev main_while1b_call17_c : Ref sig .tc := ⟨.hbm, 180, rfl⟩
abbrev main_while1b_call17_v0 : Ref sig .tc := ⟨.hbm, 181, rfl⟩
abbrev main_while1b_v52 : Ref sig .tc := ⟨.hbm, 182, rfl⟩
abbrev main_while1b_call18_c : Ref sig .tc := ⟨.hbm, 183, rfl⟩
abbrev main_while1b_call18_c_0 : Ref sig .tc := ⟨.hbm, 184, rfl⟩
abbrev main_while1b_call18_c_1 : Ref sig .tc := ⟨.hbm, 185, rfl⟩
abbrev main_while1b_call18_v0 : Ref sig .tc := ⟨.hbm, 186, rfl⟩
abbrev main_while1b_v53 : Ref sig .tc := ⟨.hbm, 187, rfl⟩
abbrev main_while1b_call19_c : Ref sig .tc := ⟨.hbm, 188, rfl⟩
abbrev main_while1b_call19_c_0 : Ref sig .tc := ⟨.hbm, 189, rfl⟩
abbrev main_while1b_call19_c_1 : Ref sig .tc := ⟨.hbm, 190, rfl⟩
abbrev main_while1b_call19_v0 : Ref sig .tc := ⟨.hbm, 191, rfl⟩
abbrev main_while1b_v54 : Ref sig .tc := ⟨.hbm, 192, rfl⟩
abbrev main_while1b_v55 : Ref sig .tc := ⟨.hbm, 193, rfl⟩
abbrev main_while1b_v56 : Ref sig .tc := ⟨.hbm, 194, rfl⟩
abbrev main_while1b_v57 : Ref sig .tc := ⟨.hbm, 195, rfl⟩
abbrev main_while1b_v58 : Ref sig .tc := ⟨.hbm, 196, rfl⟩
abbrev main_while1b_v59 : Ref sig .tc := ⟨.hbm, 197, rfl⟩
abbrev main_while1b_cst_35 : Ref sig .tc := ⟨.hbm, 198, rfl⟩
abbrev main_while1b_v60 : Ref sig .tc := ⟨.hbm, 199, rfl⟩
abbrev main_while1b_v61 : Ref sig .tc := ⟨.hbm, 200, rfl⟩
abbrev main_while1b_v62 : Ref sig .tc := ⟨.hbm, 201, rfl⟩
abbrev main_while1b_v63 : Ref sig .tc := ⟨.hbm, 202, rfl⟩
abbrev main_while1b_cst_36 : Ref sig .tc := ⟨.hbm, 203, rfl⟩
abbrev main_while1b_v64 : Ref sig .tc := ⟨.hbm, 204, rfl⟩
abbrev main_while1b_v65 : Ref sig .tc := ⟨.hbm, 205, rfl⟩
abbrev main_while1b_v66 : Ref sig .tc := ⟨.hbm, 206, rfl⟩
abbrev main_while1b_v67 : Ref sig .tc := ⟨.hbm, 207, rfl⟩
abbrev main_while1b_v68 : Ref sig .tc := ⟨.hbm, 208, rfl⟩
abbrev main_while1b_v69 : Ref sig .tc := ⟨.hbm, 209, rfl⟩
abbrev main_while1b_v70 : Ref sig .tc := ⟨.hbm, 210, rfl⟩
abbrev main_while1b_v71 : Ref sig .tc := ⟨.hbm, 211, rfl⟩
abbrev main_while1b_v72 : Ref sig .tc := ⟨.hbm, 212, rfl⟩
abbrev main_while1b_v73 : Ref sig .tc := ⟨.hbm, 213, rfl⟩
abbrev main_while1b_v74 : Ref sig .tc := ⟨.hbm, 214, rfl⟩
abbrev main_while1b_v75 : Ref sig .tc := ⟨.hbm, 215, rfl⟩
abbrev main_while1b_v76 : Ref sig .tc := ⟨.hbm, 216, rfl⟩
abbrev main_while1b_v77 : Ref sig .tc := ⟨.hbm, 217, rfl⟩
abbrev main_while1b_v78 : Ref sig .tc := ⟨.hbm, 218, rfl⟩
abbrev main_while1b_call20_v0 : Ref sig .tc := ⟨.hbm, 219, rfl⟩
abbrev main_while1b_call20_c : Ref sig .tc := ⟨.hbm, 220, rfl⟩
abbrev main_while1b_call20_c_0 : Ref sig .tc := ⟨.hbm, 221, rfl⟩
abbrev main_while1b_call20_c_1 : Ref sig .tc := ⟨.hbm, 222, rfl⟩
abbrev main_while1b_v79 : Ref sig .tc := ⟨.hbm, 223, rfl⟩
abbrev main_while1b_call21_v0 : Ref sig .tc := ⟨.hbm, 224, rfl⟩
abbrev main_while1b_call21_c : Ref sig .tc := ⟨.hbm, 225, rfl⟩
abbrev main_while1b_call21_c_0 : Ref sig .tc := ⟨.hbm, 226, rfl⟩
abbrev main_while1b_call21_c_1 : Ref sig .tc := ⟨.hbm, 227, rfl⟩
abbrev main_while1b_v80 : Ref sig .tc := ⟨.hbm, 228, rfl⟩
abbrev main_while1b_call22_v0 : Ref sig .tc := ⟨.hbm, 229, rfl⟩
abbrev main_while1b_call22_c : Ref sig .tc := ⟨.hbm, 230, rfl⟩
abbrev main_while1b_call22_c_0 : Ref sig .tc := ⟨.hbm, 231, rfl⟩
abbrev main_while1b_call22_c_1 : Ref sig .tc := ⟨.hbm, 232, rfl⟩
abbrev main_while1b_v81 : Ref sig .tc := ⟨.hbm, 233, rfl⟩
abbrev main_while1b_call23_v0 : Ref sig .tc := ⟨.hbm, 234, rfl⟩
abbrev main_while1b_call23_c : Ref sig .tc := ⟨.hbm, 235, rfl⟩
abbrev main_while1b_call23_c_0 : Ref sig .tc := ⟨.hbm, 236, rfl⟩
abbrev main_while1b_call23_c_1 : Ref sig .tc := ⟨.hbm, 237, rfl⟩
abbrev main_while1b_v82 : Ref sig .tc := ⟨.hbm, 238, rfl⟩
abbrev main_while1b_call24_v0 : Ref sig .tc := ⟨.hbm, 239, rfl⟩
abbrev main_while1b_call24_c : Ref sig .tc := ⟨.hbm, 240, rfl⟩
abbrev main_while1b_call24_c_0 : Ref sig .tc := ⟨.hbm, 241, rfl⟩
abbrev main_while1b_call24_c_1 : Ref sig .tc := ⟨.hbm, 242, rfl⟩
abbrev main_while1b_v83 : Ref sig .tc := ⟨.hbm, 243, rfl⟩
abbrev main_while1b_call25_v0 : Ref sig .tc := ⟨.hbm, 244, rfl⟩
abbrev main_while1b_call25_c : Ref sig .tc := ⟨.hbm, 245, rfl⟩
abbrev main_while1b_v84 : Ref sig .tc := ⟨.hbm, 246, rfl⟩
abbrev main_while1b_c_37 : Ref sig .tc := ⟨.hbm, 247, rfl⟩
abbrev main_while1b_v85 : Ref sig .tc := ⟨.hbm, 248, rfl⟩
abbrev main_v25 : Ref sig .tc := ⟨.hbm, 249, rfl⟩
abbrev main_v26 : Ref sig .tc := ⟨.hbm, 250, rfl⟩
abbrev main_v27 : Ref sig .tc := ⟨.hbm, 251, rfl⟩
abbrev main_v28 : Ref sig .tc := ⟨.hbm, 252, rfl⟩
abbrev main_v29 : Ref sig .tc := ⟨.hbm, 253, rfl⟩
abbrev main_c_15 : Ref sig .tc := ⟨.hbm, 254, rfl⟩
abbrev main_v30 : Ref sig .tc := ⟨.hbm, 255, rfl⟩
abbrev main_call26_v0 : Ref sig .tc := ⟨.hbm, 256, rfl⟩
abbrev main_call26_c : Ref sig .tc := ⟨.hbm, 257, rfl⟩
abbrev main_call26_v1 : Ref sig .tc := ⟨.hbm, 258, rfl⟩
abbrev main_call26_v2 : Ref sig .tc := ⟨.hbm, 259, rfl⟩
abbrev main_call26_v3 : Ref sig .tc := ⟨.hbm, 260, rfl⟩
abbrev main_call26_v4 : Ref sig .tc := ⟨.hbm, 261, rfl⟩
abbrev main_call26_c_0 : Ref sig .tc := ⟨.hbm, 262, rfl⟩
abbrev main_call26_v5 : Ref sig .tc := ⟨.hbm, 263, rfl⟩
abbrev main_v31 : Ref sig .tc := ⟨.hbm, 264, rfl⟩
abbrev main_v32 : Ref sig .tc := ⟨.hbm, 265, rfl⟩
abbrev main_v33 : Ref sig .tc := ⟨.hbm, 266, rfl⟩
abbrev main_v34 : Ref sig .tc := ⟨.hbm, 267, rfl⟩
abbrev main_v35 : Ref sig .tc := ⟨.hbm, 268, rfl⟩
abbrev main_v36 : Ref sig .tc := ⟨.hbm, 269, rfl⟩
abbrev main_v37 : Ref sig .tc := ⟨.hbm, 270, rfl⟩
abbrev main_v38 : Ref sig .tc := ⟨.hbm, 271, rfl⟩
abbrev main_v39 : Ref sig .tc := ⟨.hbm, 272, rfl⟩
abbrev main_v40 : Ref sig .tc := ⟨.hbm, 273, rfl⟩
abbrev main_v41 : Ref sig .tc := ⟨.hbm, 274, rfl⟩
abbrev main_v42 : Ref sig .tc := ⟨.hbm, 275, rfl⟩
abbrev main_cst_16 : Ref sig .tc := ⟨.hbm, 276, rfl⟩
abbrev main_call27_v0 : Ref sig .tc := ⟨.hbm, 277, rfl⟩
abbrev main_call27_v1 : Ref sig .tc := ⟨.hbm, 278, rfl⟩
abbrev main_call27_v2 : Ref sig .tc := ⟨.hbm, 279, rfl⟩
abbrev main_v43 : Ref sig .tc := ⟨.hbm, 280, rfl⟩

abbrev nD : Nat := 1
abbrev τ : Topo := Topo.v7x

variable {F : FTy → Type} [FloatOps F]

abbrev main_while0_count : Scf.Loop 32 := ⟨0#32, 32#32, 1#32⟩

abbrev main_while1_count : Scf.Loop 32 := ⟨0#32, 32#32, 1#32⟩
-- ==== Kernel2.lean ====
abbrev S2048x5648 : Shape := ⟨2, ![2048, 5648]⟩
abbrev S2048x1024 : Shape := ⟨2, ![2048, 1024]⟩
abbrev S2048x256 : Shape := ⟨2, ![2048, 256]⟩
abbrev S2048x3072 : Shape := ⟨2, ![2048, 3072]⟩
abbrev S2048x128 : Shape := ⟨2, ![2048, 128]⟩
abbrev S2048x2048 : Shape := ⟨2, ![2048, 2048]⟩
abbrev S8x128 : Shape := ⟨2, ![8, 128]⟩
abbrev S5648x2048 : Shape := ⟨2, ![5648, 2048]⟩
abbrev S4608x2048 : Shape := ⟨2, ![4608, 2048]⟩
abbrev S1024x2048 : Shape := ⟨2, ![1024, 2048]⟩
abbrev S16x2048 : Shape := ⟨2, ![16, 2048]⟩
abbrev S_ : Shape := ⟨0, ![]⟩
abbrev S128x2048 : Shape := ⟨2, ![128, 2048]⟩
abbrev S5760x2048 : Shape := ⟨2, ![5760, 2048]⟩
abbrev S2048x5760 : Shape := ⟨2, ![2048, 5760]⟩
abbrev S512x5760 : Shape := ⟨2, ![512, 5760]⟩
abbrev S5760x1024 : Shape := ⟨2, ![5760, 1024]⟩
abbrev S512x1024 : Shape := ⟨2, ![512, 1024]⟩

abbrev nBuf : Space → Nat
  | .hbm => 21
  | .vmem => 8
  | .smem => 0
  | _ => 0

abbrev bufTy : (tb : Table) → Fin (tcTables nBuf tb) → BufTy
  | .hbm, ⟨0, _⟩ => ⟨S2048x5648, .f32⟩
  | .hbm, ⟨1, _⟩ => ⟨S2048x1024, .f32⟩
  | .hbm, ⟨2, _⟩ => ⟨S2048x256, .f32⟩
  | .hbm, ⟨3, _⟩ => ⟨S2048x256, .f32⟩
  | .hbm, ⟨4, _⟩ => ⟨S2048x3072, .f32⟩
  | .hbm, ⟨5, _⟩ => ⟨S2048x1024, .f32⟩
  | .hbm, ⟨6, _⟩ => ⟨S2048x128, .f32⟩
  | .hbm, ⟨7, _⟩ => ⟨S2048x2048, .f32⟩
  | .hbm, ⟨8, _⟩ => ⟨S8x128, .f32⟩
  | .hbm, ⟨9, _⟩ => ⟨S5648x2048, .f32⟩
  | .hbm, ⟨10, _⟩ => ⟨S5648x2048, .bf16⟩
  | .hbm, ⟨11, _⟩ => ⟨S4608x2048, .bf16⟩
  | .hbm, ⟨12, _⟩ => ⟨S1024x2048, .bf16⟩
  | .hbm, ⟨13, _⟩ => ⟨S16x2048, .bf16⟩
  | .hbm, ⟨14, _⟩ => ⟨S_, .i32⟩
  | .hbm, ⟨15, _⟩ => ⟨S_, .bf16⟩
  | .hbm, ⟨16, _⟩ => ⟨S128x2048, .bf16⟩
  | .hbm, ⟨17, _⟩ => ⟨S5760x2048, .bf16⟩
  | .hbm, ⟨18, _⟩ => ⟨S2048x5760, .f32⟩
  | .hbm, ⟨19, _⟩ => ⟨S2048x5760, .bf16⟩
  | .hbm, ⟨20, _⟩ => ⟨S2048x2048, .f32⟩
  | .local _ .vmem, ⟨0, _⟩ => ⟨S512x5760, .bf16⟩
  | .local _ .vmem, ⟨1, _⟩ => ⟨S512x5760, .bf16⟩
  | .local _ .vmem, ⟨2, _⟩ => ⟨S5760x1024, .bf16⟩
  | .local _ .vmem, ⟨3, _⟩ => ⟨S5760x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S2048x5648, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5760 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5760x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S2048x5648 : Shape := ⟨2, ![2048, 5648]⟩
abbrev S2048x1024 : Shape := ⟨2, ![2048, 1024]⟩
abbrev S2048x256 : Shape := ⟨2, ![2048, 256]⟩
abbrev S2048x3072 : Shape := ⟨2, ![2048, 3072]⟩
abbrev S2048x128 : Shape := ⟨2, ![2048, 128]⟩
abbrev S2048x2048 : Shape := ⟨2, ![2048, 2048]⟩
abbrev S8x128 : Shape := ⟨2, ![8, 128]⟩
abbrev S2048x8 : Shape := ⟨2, ![2048, 8]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x5648, .f32⟩
  | .hbm, ⟨1, _⟩ => ⟨S2048x1024, .f32⟩
  | .hbm, ⟨2, _⟩ => ⟨S2048x256, .f32⟩
  | .hbm, ⟨3, _⟩ => ⟨S2048x256, .f32⟩
  | .hbm, ⟨4, _⟩ => ⟨S2048x3072, .f32⟩
  | .hbm, ⟨5, _⟩ => ⟨S2048x1024, .f32⟩
  | .hbm, ⟨6, _⟩ => ⟨S2048x128, .f32⟩
  | .hbm, ⟨7, _⟩ => ⟨S2048x2048, .f32⟩
  | .hbm, ⟨8, _⟩ => ⟨S8x128, .f32⟩
  | .hbm, ⟨9, _⟩ => ⟨S2048x8, .f32⟩
  | .hbm, ⟨10, _⟩ => ⟨S2048x8, .f32⟩
  | .hbm, ⟨11, _⟩ => ⟨S2048x5648, .f32⟩
  | .hbm, ⟨12, _⟩ => ⟨S_, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x5648, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | _, _ => ⟨S2048x5648, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Kernel3.lean ====
abbrev S2048x8192 : Shape := ⟨2, ![2048, 8192]⟩
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .f32⟩
  | .hbm, ⟨2, _⟩ => ⟨S2048x2048, .f32⟩
  | .hbm, ⟨3, _⟩ => ⟨S8192x2048, .bf16⟩
  | .hbm, ⟨4, _⟩ => ⟨S2048x8192, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .f32⟩
  | .hbm, ⟨2, _⟩ => ⟨S2048x2048, .f32⟩
  | .hbm, ⟨3, _⟩ => ⟨S2048x8192, .f32⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S_, .f32⟩
  | .hbm, ⟨8, _⟩ => ⟨S2048x8192, .f32⟩
  | .hbm, ⟨9, _⟩ => ⟨S2048x8192, .i1⟩
  | .hbm, ⟨10, _⟩ => ⟨S_, .f32⟩
  | .hbm, ⟨11, _⟩ => ⟨S2048x8192, .f32⟩
  | .hbm, ⟨12, _⟩ => ⟨S2048x8192, .f32⟩
  | .hbm, ⟨13, _⟩ => ⟨S2048x2048, .f32⟩
  | .hbm, ⟨14, _⟩ => ⟨S2048x8192, .f32⟩
  | .hbm, ⟨15, _⟩ => ⟨S2048x8192, .f32⟩
  | .hbm, ⟨16, _⟩ => ⟨S2048x8192, .f32⟩
  | .hbm, ⟨17, _⟩ => ⟨S2048x8192, .f32⟩
  | .hbm, ⟨18, _⟩ => ⟨S_, .f32⟩
  | .hbm, ⟨19, _⟩ => ⟨S2048x8192, .f32⟩
  | .hbm, ⟨20, _⟩ => ⟨S2048x8192, .f32⟩
  | .hbm, ⟨21, _⟩ => ⟨S2048x8192, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Kernel4.lean ====
abbrev S2048x8192 : Shape := ⟨2, ![2048, 8192]⟩
abbrev S2048x2048 : Shape := ⟨2, ![2048, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .f32⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S2048x8192, .f32⟩
  | .hbm, ⟨5, _⟩ => ⟨S_, .f32⟩
  | .hbm, ⟨6, _⟩ => ⟨S2048x8192, .f32⟩
  | .hbm, ⟨7, _⟩ => ⟨S2048x8192, .f32⟩
  | .hbm, ⟨8, _⟩ => ⟨S2048x8192, .f32⟩
  | .hbm, ⟨9, _⟩ => ⟨S2048x2048, .f32⟩
  | .hbm, ⟨10, _⟩ => ⟨S2048x8192, .f32⟩
  | .hbm, ⟨11, _⟩ => ⟨S8192x2048, .f32⟩
  | .hbm, ⟨12, _⟩ => ⟨S8192x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel5.lean ====
abbrev S2048x2048 : Shape := ⟨2, ![2048, 2048]⟩
abbrev S2048x8192 : Shape := ⟨2, ![2048, 8192]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x8192, .bf16⟩
  | .hbm, ⟨2, _⟩ => ⟨S8x2048x1024, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .bf16⟩
  | .hbm, ⟨2, _⟩ => ⟨S_, .f32⟩
  | .hbm, ⟨3, _⟩ => ⟨S2048x8192, .f32⟩
  | .hbm, ⟨4, _⟩ => ⟨S2048x8192, .f32⟩
  | .hbm, ⟨5, _⟩ => ⟨S2048x8192, .f32⟩
  | .hbm, ⟨6, _⟩ => ⟨S8192x2048, .f32⟩
  | .hbm, ⟨7, _⟩ => ⟨S2048x8192, .f32⟩
  | .hbm, ⟨8, _⟩ => ⟨S2048x8x1024, .f32⟩
  | .hbm, ⟨9, _⟩ => ⟨S8x2048x1024, .f32⟩
  | .hbm, ⟨10, _⟩ => ⟨S8x2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S2048x8192 : Shape := ⟨2, ![2048, 8192]⟩
abbrev S2048x8x1024 : Shape := ⟨3, ![2048, 8, 1024]⟩
abbrev S8x2048x1024 : Shape := ⟨3, ![8, 2048, 1024]⟩
abbrev S2048x2048 : Shape := ⟨2, ![2048, 2048]⟩
abbrev S1024x4096 : Shape := ⟨2, ![1024, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .f32⟩
  | .hbm, ⟨2, _⟩ => ⟨S2048x8x1024, .f32⟩
  | .hbm, ⟨3, _⟩ => ⟨S8x2048x1024, .f32⟩
  | .hbm, ⟨4, _⟩ => ⟨S8x2048x1024, .bf16⟩
  | .hbm, ⟨5, _⟩ => ⟨S2048x2048, .f32⟩
  | .local _ .vmem, ⟨0, _⟩ => ⟨S1024x4096, .bf16⟩
  | .local _ .vmem, ⟨1, _⟩ => ⟨S1024x4096, .bf16⟩
  | .local _ .vmem, ⟨2, _⟩ => ⟨S4x1024x1024, .bf16⟩
  | .local _ .vmem, ⟨3, _⟩ => ⟨S4x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v28 : BitVec 1 := Scalar.cmpi .eq arg2 c1_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x8192 : Shape := ⟨2, ![2048, 8192]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .f32⟩
  | .hbm, ⟨2, _⟩ => ⟨S_, .f32⟩
  | .hbm, ⟨3, _⟩ => ⟨S2048x2048, .f32⟩
  | .hbm, ⟨4, _⟩ => ⟨S2048x8192, .f32⟩
  | .hbm, ⟨5, _⟩ => ⟨S2048x8192, .f32⟩
  | .hbm, ⟨6, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S2048x2048 : Shape := ⟨2, ![2048, 2048]⟩
abbrev S2048x5648 : Shape := ⟨2, ![2048, 5648]⟩
abbrev S5648x2048 : Shape := ⟨2, ![5648, 2048]⟩
abbrev S4608x2048 : Shape := ⟨2, ![4608, 2048]⟩
abbrev S1024x2048 : Shape := ⟨2, ![1024, 2048]⟩
abbrev S16x2048 : Shape := ⟨2, ![16, 2048]⟩
abbrev S_ : Shape := ⟨0, ![]⟩
abbrev S128x2048 : Shape := ⟨2, ![128, 2048]⟩
abbrev S5760x2048 : Shape := ⟨2, ![5760, 2048]⟩
abbrev S2048x5760 : Shape := ⟨2, ![2048, 5760]⟩
abbrev S1152x2048 : Shape := ⟨2, ![1152, 2048]⟩
abbrev S1024x1152 : Shape := ⟨2, ![1024, 1152]⟩

abbrev nBuf : Space → Nat
  | .hbm => 13
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x5648, .f32⟩
  | .hbm, ⟨2, _⟩ => ⟨S5648x2048, .f32⟩
  | .hbm, ⟨3, _⟩ => ⟨S5648x2048, .bf16⟩
  | .hbm, ⟨4, _⟩ => ⟨S4608x2048, .bf16⟩
  | .hbm, ⟨5, _⟩ => ⟨S1024x2048, .bf16⟩
  | .hbm, ⟨6, _⟩ => ⟨S16x2048, .bf16⟩
  | .hbm, ⟨7, _⟩ => ⟨S_, .i32⟩
  | .hbm, ⟨8, _⟩ => ⟨S_, .bf16⟩
  | .hbm, ⟨9, _⟩ => ⟨S128x2048, .bf16⟩
  | .hbm, ⟨10, _⟩ => ⟨S5760x2048, .bf16⟩
  | .hbm, ⟨11, _⟩ => ⟨S2048x2048, .bf16⟩
  | .hbm, ⟨12, _⟩ => ⟨S2048x5760, .f32⟩
  | .local _ .vmem, ⟨0, _⟩ => ⟨S1024x2048, .bf16⟩
  | .local _ .vmem, ⟨1, _⟩ => ⟨S1024x2048, .bf16⟩
  | .local _ .vmem, ⟨2, _⟩ => ⟨S1152x2048, .bf16⟩
  | .local _ .vmem, ⟨3, _⟩ => ⟨S1152x2048, .bf16⟩
  | .local _ .vmem, ⟨4, _⟩ => ⟨S1024x1152, .f32⟩
  | .local _ .vmem, ⟨5, _⟩ => ⟨S1024x1152, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x2048 : Shape := ⟨2, ![2048, 2048]⟩
abbrev S2048x5648 : Shape := ⟨2, ![2048, 5648]⟩
abbrev S2048x4608 : Shape := ⟨2, ![2048, 4608]⟩
abbrev S2048x1024 : Shape := ⟨2, ![2048, 1024]⟩
abbrev S2048x16 : Shape := ⟨2, ![2048, 16]⟩
abbrev S_ : Shape := ⟨0, ![]⟩
abbrev S2048x128 : Shape := ⟨2, ![2048, 128]⟩
abbrev S2048x5760 : Shape := ⟨2, ![2048, 5760]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5648, .f32⟩
  | .hbm, ⟨2, _⟩ => ⟨S2048x5648, .f32⟩
  | .hbm, ⟨3, _⟩ => ⟨S2048x4608, .f32⟩
  | .hbm, ⟨4, _⟩ => ⟨S2048x1024, .f32⟩
  | .hbm, ⟨5, _⟩ => ⟨S2048x16, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S2048x5760, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel8.lean ====
abbrev S2048x2048 : Shape := ⟨2, ![2048, 2048]⟩
abbrev S2048x1024 : Shape := ⟨2, ![2048, 1024]⟩
abbrev S2048x256 : Shape := ⟨2, ![2048, 256]⟩
abbrev S2048x3072 : Shape := ⟨2, ![2048, 3072]⟩
abbrev S2048x16 : Shape := ⟨2, ![2048, 16]⟩
abbrev S_ : Shape := ⟨0, ![]⟩
abbrev S2048x128 : Shape := ⟨2, ![2048, 128]⟩
abbrev S2048x5760 : Shape := ⟨2, ![2048, 5760]⟩
abbrev S5760x2048 : Shape := ⟨2, ![5760, 2048]⟩
abbrev S2048x1152 : Shape := ⟨2, ![2048, 1152]⟩
abbrev S1152x1024 : Shape := ⟨2, ![1152, 1024]⟩

abbrev nBuf : Space → Nat
  | .hbm => 14
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x256, .f32⟩
  | .hbm, ⟨3, _⟩ => ⟨S2048x256, .f32⟩
  | .hbm, ⟨4, _⟩ => ⟨S2048x3072, .f32⟩
  | .hbm, ⟨5, _⟩ => ⟨S2048x1024, .f32⟩
  | .hbm, ⟨6, _⟩ => ⟨S2048x16, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S2048x5760, .f32⟩
  | .hbm, ⟨11, _⟩ => ⟨S2048x5760, .bf16⟩
  | .hbm, ⟨12, _⟩ => ⟨S2048x2048, .bf16⟩
  | .hbm, ⟨13, _⟩ => ⟨S5760x2048, .bf16⟩
  | .local _ .vmem, ⟨0, _⟩ => ⟨S2048x1152, .bf16⟩
  | .local _ .vmem, ⟨1, _⟩ => ⟨S2048x1152, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .bf16⟩
  | .local _ .vmem, ⟨5, _⟩ => ⟨S1152x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩
abbrev S2048x1024 : Shape := ⟨2, ![2048, 1024]⟩
abbrev S2048x256 : Shape := ⟨2, ![2048, 256]⟩
abbrev S2048x3072 : Shape := ⟨2, ![2048, 3072]⟩
abbrev S2048x16 : Shape := ⟨2, ![2048, 16]⟩
abbrev S2048x5648 : Shape := ⟨2, ![2048, 5648]⟩
abbrev S_ : Shape := ⟨0, ![]⟩
abbrev S5648x2048 : Shape := ⟨2, ![5648, 2048]⟩
abbrev S4608x2048 : Shape := ⟨2, ![4608, 2048]⟩
abbrev S1024x2048 : Shape := ⟨2, ![1024, 2048]⟩
abbrev S16x2048 : Shape := ⟨2, ![16, 2048]⟩
abbrev S128x2048 : Shape := ⟨2, ![128, 2048]⟩
abbrev S5760x2048 : Shape := ⟨2, ![5760, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x256, .f32⟩
  | .hbm, ⟨3, _⟩ => ⟨S2048x256, .f32⟩
  | .hbm, ⟨4, _⟩ => ⟨S2048x3072, .f32⟩
  | .hbm, ⟨5, _⟩ => ⟨S2048x1024, .f32⟩
  | .hbm, ⟨6, _⟩ => ⟨S2048x16, .f32⟩
  | .hbm, ⟨7, _⟩ => ⟨S2048x5648, .f32⟩
  | .hbm, ⟨8, _⟩ => ⟨S_, .f32⟩
  | .hbm, ⟨9, _⟩ => ⟨S2048x5648, .f32⟩
  | .hbm, ⟨10, _⟩ => ⟨S2048x5648, .f32⟩
  | .hbm, ⟨11, _⟩ => ⟨S5648x2048, .f32⟩
  | .hbm, ⟨12, _⟩ => ⟨S2048x5648, .f32⟩
  | .hbm, ⟨13, _⟩ => ⟨S5648x2048, .f32⟩
  | .hbm, ⟨14, _⟩ => ⟨S4608x2048, .f32⟩
  | .hbm, ⟨15, _⟩ => ⟨S1024x2048, .f32⟩
  | .hbm, ⟨16, _⟩ => ⟨S16x2048, .f32⟩
  | .hbm, ⟨17, _⟩ => ⟨S_, .i32⟩
  | .hbm, ⟨18, _⟩ => ⟨S_, .f32⟩
  | .hbm, ⟨19, _⟩ => ⟨S128x2048, .f32⟩
  | .hbm, ⟨20, _⟩ => ⟨S5760x2048, .f32⟩
  | .hbm, ⟨21, _⟩ => ⟨S5760x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Kernel9.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S2048x2048 : Shape := ⟨2, ![2048, 2048]⟩
abbrev S8x128 : Shape := ⟨2, ![8, 128]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S8x128, .f32⟩
  | .hbm, ⟨3, _⟩ => ⟨S2048x2048, .bf16⟩
  | .hbm, ⟨4, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩
abbrev S8x128 : Shape := ⟨2, ![8, 128]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S8x128, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel11.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S2048x2048 : Shape := ⟨2, ![2048, 2048]⟩
abbrev S2048x8192 : Shape := ⟨2, ![2048, 8192]⟩
abbrev S8x128 : Shape := ⟨2, ![8, 128]⟩
abbrev S2048x8x1024 : Shape := ⟨3, ![2048, 8, 1024]⟩
abbrev S8x2048x1024 : Shape := ⟨3, ![8, 2048, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S8x128, .f32⟩
  | .hbm, ⟨3, _⟩ => ⟨S2048x8x1024, .f32⟩
  | .hbm, ⟨4, _⟩ => ⟨S8x2048x1024, .f32⟩
  | .hbm, ⟨5, _⟩ => ⟨S8x2048x1024, .bf16⟩
  | .hbm, ⟨6, _⟩ => ⟨S2048x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2048 : Shape := ⟨2, ![2048, 2048]⟩
abbrev S2048x8192 : Shape := ⟨2, ![2048, 8192]⟩
abbrev S8x128 : Shape := ⟨2, ![8, 128]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S8x128, .f32⟩
  | .hbm, ⟨3, _⟩ => ⟨S2048x8192, .f32⟩
  | .hbm, ⟨4, _⟩ => ⟨S2048x8192, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel13.lean ====
abbrev S2048x8192 : Shape := ⟨2, ![2048, 8192]⟩
abbrev S8192x2048 : Shape := ⟨2, ![8192, 2048]⟩
abbrev S2048x2048 : Shape := ⟨2, ![2048, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .f32⟩
  | .hbm, ⟨2, _⟩ => ⟨S8192x2048, .bf16⟩
  | .hbm, ⟨3, _⟩ => ⟨S2048x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x8192 : Shape := ⟨2, ![2048, 8192]⟩
abbrev S8192x2048 : Shape := ⟨2, ![8192, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .f32⟩
  | .hbm, ⟨2, _⟩ => ⟨S2048x8192, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel14.lean ====
abbrev S4x384 : Shape := ⟨2, ![4, 384]⟩
abbrev S1x8 : Shape := ⟨2, ![1, 8]⟩

abbrev nBuf : Space → Nat
  | .hbm => 21
  | .vmem => 21
  | .smem => 0
  | _ => 0

abbrev bufTy : (tb : Table) → Fin (tcTables nBuf tb) → BufTy
  | .hbm, ⟨0, _⟩ => ⟨S4x384, .f32⟩
  | .hbm, ⟨1, _⟩ => ⟨S1x8, .f32⟩
  | .hbm, ⟨2, _⟩ => ⟨S1x8, .f32⟩
  | .hbm, ⟨3, _⟩ => ⟨S4x384, .f32⟩
  | .hbm, ⟨4, _⟩ => ⟨S1x8, .f32⟩
  | .hbm, ⟨5, _⟩ => ⟨S1x8, .f32⟩
  | .hbm, ⟨6, _⟩ => ⟨S4x384, .f32⟩
  | .hbm, ⟨7, _⟩ => ⟨S1x8, .f32⟩
  | .hbm, ⟨8, _⟩ => ⟨S1x8, .f32⟩
  | .hbm, ⟨9, _⟩ => ⟨S4x384, .f32⟩
  | .hbm, ⟨10, _⟩ => ⟨S1x8, .f32⟩
  | .hbm, ⟨11, _⟩ => ⟨S1x8, .f32⟩
  | .hbm, ⟨12, _⟩ => ⟨S4x384, .f32⟩
  | .hbm, ⟨13, _⟩ => ⟨S1x8, .f32⟩
  | .hbm, ⟨14, _⟩ => ⟨S1x8, .f32⟩
  | .hbm, ⟨15, _⟩ => ⟨S4x384, .f32⟩
  | .hbm, ⟨16, _⟩ => ⟨S1x8, .f32⟩
  | .hbm, ⟨17, _⟩ => ⟨S1x8, .f32⟩
  | .hbm, ⟨18, _⟩ => ⟨S4x384, .f32⟩
  | .hbm, ⟨19, _⟩ => ⟨S1x8, .f32⟩
  | .hbm, ⟨20, _⟩ => ⟨S1x8, .f32⟩
  | .local _ .vmem, ⟨0, _⟩ => ⟨S4x384, .f32⟩
  | .local _ .vmem, ⟨1, _⟩ => ⟨S1x8, .f32⟩
  | .local _ .vmem, ⟨2, _⟩ => ⟨S1x8, .f32⟩
  | .local _ .vmem, ⟨3, _⟩ => ⟨S4x384, .f32⟩
  | .local _ .vmem, ⟨4, _⟩ => ⟨S1x8, .f32⟩
  | .local _ .vmem, ⟨5, _⟩ => ⟨S1x8, .f32⟩
  | .local _ .vmem, ⟨6, _⟩ => ⟨S4x384, .f32⟩
  | .local _ .vmem, ⟨7, _⟩ => ⟨S1x8, .f32⟩
  | .local _ .vmem, ⟨8, _⟩ => ⟨S1x8, .f32⟩
  | .local _ .vmem, ⟨9, _⟩ => ⟨S4x384, .f32⟩
  | .local _ .vmem, ⟨10, _⟩ => ⟨S1x8, .f32⟩
  | .local _ .vmem, ⟨11, _⟩ => ⟨S1x8, .f32⟩
  | .local _ .vmem, ⟨12, _⟩ => ⟨S4x384, .f32⟩
  | .local _ .vmem, ⟨13, _⟩ => ⟨S1x8, .f32⟩
  | .local _ .vmem, ⟨14, _⟩ => ⟨S1x8, .f32⟩
  | .local _ .vmem, ⟨15, _⟩ => ⟨S4x384, .f32⟩
  | .local _ .vmem, ⟨16, _⟩ => ⟨S1x8, .f32⟩
  | .local _ .vmem, ⟨17, _⟩ => ⟨S1x8, .f32⟩
  | .local _ .vmem, ⟨18, _⟩ => ⟨S4x384, .f32⟩
  | .local _ .vmem, ⟨19, _⟩ => ⟨S1x8, .f32⟩
  | .local _ .vmem, ⟨20, _⟩ => ⟨S1x8, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S4x384 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x8 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x8 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Kernel14Ideal.lean ====
abbrev S4x384 : Shape := ⟨2, ![4, 384]⟩
abbrev S1x8 : Shape := ⟨2, ![1, 8]⟩

abbrev nBuf : Space → Nat
  | .hbm => 21
  | .vmem => 21
  | .smem => 0
  | _ => 0

abbrev bufTy : (tb : Table) → Fin (tcTables nBuf tb) → BufTy
  | .hbm, ⟨0, _⟩ => ⟨S4x384, .f32⟩
  | .hbm, ⟨1, _⟩ => ⟨S1x8, .f32⟩
  | .hbm, ⟨2, _⟩ => ⟨S1x8, .f32⟩
  | .hbm, ⟨3, _⟩ => ⟨S4x384, .f32⟩
  | .hbm, ⟨4, _⟩ => ⟨S1x8, .f32⟩
  | .hbm, ⟨5, _⟩ => ⟨S1x8, .f32⟩
  | .hbm, ⟨6, _⟩ => ⟨S4x384, .f32⟩
  | .hbm, ⟨7, _⟩ => ⟨S1x8, .f32⟩
  | .hbm, ⟨8, _⟩ => ⟨S1x8, .f32⟩
  | .hbm, ⟨9, _⟩ => ⟨S4x384, .f32⟩
  | .hbm, ⟨10, _⟩ => ⟨S1x8, .f32⟩
  | .hbm, ⟨11, _⟩ => ⟨S1x8, .f32⟩
  | .hbm, ⟨12, _⟩ => ⟨S4x384, .f32⟩
  | .hbm, ⟨13, _⟩ => ⟨S1x8, .f32⟩
  | .hbm, ⟨14, _⟩ => ⟨S1x8, .f32⟩
  | .hbm, ⟨15, _⟩ => ⟨S4x384, .f32⟩
  | .hbm, ⟨16, _⟩ => ⟨S1x8, .f32⟩
  | .hbm, ⟨17, _⟩ => ⟨S1x8, .f32⟩
  | .hbm, ⟨18, _⟩ => ⟨S4x384, .f32⟩
  | .hbm, ⟨19, _⟩ => ⟨S1x8, .f32⟩
  | .hbm, ⟨20, _⟩ => ⟨S1x8, .f32⟩
  | .local _ .vmem, ⟨0, _⟩ => ⟨S4x384, .f32⟩
  | .local _ .vmem, ⟨1, _⟩ => ⟨S1x8, .f32⟩
  | .local _ .vmem, ⟨2, _⟩ => ⟨S1x8, .f32⟩
  | .local _ .vmem, ⟨3, _⟩ => ⟨S4x384, .f32⟩
  | .local _ .vmem, ⟨4, _⟩ => ⟨S1x8, .f32⟩
  | .local _ .vmem, ⟨5, _⟩ => ⟨S1x8, .f32⟩
  | .local _ .vmem, ⟨6, _⟩ => ⟨S4x384, .f32⟩
  | .local _ .vmem, ⟨7, _⟩ => ⟨S1x8, .f32⟩
  | .local _ .vmem, ⟨8, _⟩ => ⟨S1x8, .f32⟩
  | .local _ .vmem, ⟨9, _⟩ => ⟨S4x384, .f32⟩
  | .local _ .vmem, ⟨10, _⟩ => ⟨S1x8, .f32⟩
  | .local _ .vmem, ⟨11, _⟩ => ⟨S1x8, .f32⟩
  | .local _ .vmem, ⟨12, _⟩ => ⟨S4x384, .f32⟩
  | .local _ .vmem, ⟨13, _⟩ => ⟨S1x8, .f32⟩
  | .local _ .vmem, ⟨14, _⟩ => ⟨S1x8, .f32⟩
  | .local _ .vmem, ⟨15, _⟩ => ⟨S4x384, .f32⟩
  | .local _ .vmem, ⟨16, _⟩ => ⟨S1x8, .f32⟩
  | .local _ .vmem, ⟨17, _⟩ => ⟨S1x8, .f32⟩
  | .local _ .vmem, ⟨18, _⟩ => ⟨S4x384, .f32⟩
  | .local _ .vmem, ⟨19, _⟩ => ⟨S1x8, .f32⟩
  | .local _ .vmem, ⟨20, _⟩ => ⟨S1x8, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S4x384 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x8 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x8 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Reference14Ideal.lean ====
abbrev S4x384 : Shape := ⟨2, ![4, 384]⟩
abbrev S1x8 : Shape := ⟨2, ![1, 8]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S4x384, .f32⟩
  | .hbm, ⟨1, _⟩ => ⟨S1x8, .f32⟩
  | .hbm, ⟨2, _⟩ => ⟨S1x8, .f32⟩
  | .hbm, ⟨3, _⟩ => ⟨S4x384, .f32⟩
  | .hbm, ⟨4, _⟩ => ⟨S1x8, .f32⟩
  | .hbm, ⟨5, _⟩ => ⟨S1x8, .f32⟩
  | .hbm, ⟨6, _⟩ => ⟨S4x384, .f32⟩
  | .hbm, ⟨7, _⟩ => ⟨S1x8, .f32⟩
  | .hbm, ⟨8, _⟩ => ⟨S1x8, .f32⟩
  | .hbm, ⟨9, _⟩ => ⟨S4x384, .f32⟩
  | .hbm, ⟨10, _⟩ => ⟨S1x8, .f32⟩
  | .hbm, ⟨11, _⟩ => ⟨S1x8, .f32⟩
  | .hbm, ⟨12, _⟩ => ⟨S_, .f32⟩
  | .hbm, ⟨13, _⟩ => ⟨S4x384, .f32⟩
  | .hbm, ⟨14, _⟩ => ⟨S4x384, .f32⟩
  | .hbm, ⟨15, _⟩ => ⟨S_, .f32⟩
  | .hbm, ⟨16, _⟩ => ⟨S4x384, .f32⟩
  | .hbm, ⟨17, _⟩ => ⟨S4x384, .f32⟩
  | .hbm, ⟨18, _⟩ => ⟨S4x384, .f32⟩
  | .hbm, ⟨19, _⟩ => ⟨S_, .f32⟩
  | .hbm, ⟨20, _⟩ => ⟨S4x384, .f32⟩
  | .hbm, ⟨21, _⟩ => ⟨S4x384, .f32⟩
  | .hbm, ⟨22, _⟩ => ⟨S4x384, .f32⟩
  | .hbm, ⟨23, _⟩ => ⟨S_, .f32⟩
  | .hbm, ⟨24, _⟩ => ⟨S4x384, .f32⟩
  | .hbm, ⟨25, _⟩ => ⟨S4x384, .f32⟩
  | .hbm, ⟨26, _⟩ => ⟨S4x384, .f32⟩
  | .hbm, ⟨27, _⟩ => ⟨S_, .f32⟩
  | .hbm, ⟨28, _⟩ => ⟨S4x384, .f32⟩
  | .hbm, ⟨29, _⟩ => ⟨S4x384, .f32⟩
  | .hbm, ⟨30, _⟩ => ⟨S_, .f32⟩
  | .hbm, ⟨31, _⟩ => ⟨S4x384, .f32⟩
  | .hbm, ⟨32, _⟩ => ⟨S4x384, .f32⟩
  | .hbm, ⟨33, _⟩ => ⟨S4x384, .f32⟩
  | .hbm, ⟨34, _⟩ => ⟨S_, .f32⟩
  | .hbm, ⟨35, _⟩ => ⟨S4x384, .f32⟩
  | .hbm, ⟨36, _⟩ => ⟨S4x384, .f32⟩
  | .hbm, ⟨37, _⟩ => ⟨S4x384, .f32⟩
  | .hbm, ⟨38, _⟩ => ⟨S_, .f32⟩
  | .hbm, ⟨39, _⟩ => ⟨S4x384, .f32⟩
  | .hbm, ⟨40, _⟩ => ⟨S4x384, .f32⟩
  | .hbm, ⟨41, _⟩ => ⟨S4x384, .f32⟩
  | .hbm, ⟨42, _⟩ => ⟨S_, .f32⟩
  | .hbm, ⟨43, _⟩ => ⟨S4x384, .f32⟩
  | .hbm, ⟨44, _⟩ => ⟨S4x384, .f32⟩
  | .hbm, ⟨45, _⟩ => ⟨S_, .f32⟩
  | .hbm, ⟨46, _⟩ => ⟨S1x8, .f32⟩
  | .hbm, ⟨47, _⟩ => ⟨S1x8, .f32⟩
  | .hbm, ⟨48, _⟩ => ⟨S_, .f32⟩
  | .hbm, ⟨49, _⟩ => ⟨S1x8, .f32⟩
  | .hbm, ⟨50, _⟩ => ⟨S1x8, .f32⟩
  | .hbm, ⟨51, _⟩ => ⟨S1x8, .f32⟩
  | .hbm, ⟨52, _⟩ => ⟨S_, .f32⟩
  | .hbm, ⟨53, _⟩ => ⟨S1x8, .f32⟩
  | .hbm, ⟨54, _⟩ => ⟨S1x8, .f32⟩
  | .hbm, ⟨55, _⟩ => ⟨S1x8, .f32⟩
  | .hbm, ⟨56, _⟩ => ⟨S_, .f32⟩
  | .hbm, ⟨57, _⟩ => ⟨S1x8, .f32⟩
  | .hbm, ⟨58, _⟩ => ⟨S1x8, .f32⟩
  | .hbm, ⟨59, _⟩ => ⟨S1x8, .f32⟩
  | .hbm, ⟨60, _⟩ => ⟨S_, .f32⟩
  | .hbm, ⟨61, _⟩ => ⟨S1x8, .f32⟩
  | .hbm, ⟨62, _⟩ => ⟨S1x8, .f32⟩
  | .hbm, ⟨63, _⟩ => ⟨S_, .f32⟩
  | .hbm, ⟨64, _⟩ => ⟨S1x8, .f32⟩
  | .hbm, ⟨65, _⟩ => ⟨S1x8, .f32⟩
  | .hbm, ⟨66, _⟩ => ⟨S1x8, .f32⟩
  | .hbm, ⟨67, _⟩ => ⟨S_, .f32⟩
  | .hbm, ⟨68, _⟩ => ⟨S1x8, .f32⟩
  | .hbm, ⟨69, _⟩ => ⟨S1x8, .f32⟩
  | .hbm, ⟨70, _⟩ => ⟨S1x8, .f32⟩
  | .hbm, ⟨71, _⟩ => ⟨S_, .f32⟩
  | .hbm, ⟨72, _⟩ => ⟨S1x8, .f32⟩
  | .hbm, ⟨73, _⟩ => ⟨S1x8, .f32⟩
  | .hbm, ⟨74, _⟩ => ⟨S1x8, .f32⟩
  | .hbm, ⟨75, _⟩ => ⟨S_, .f32⟩
  | .hbm, ⟨76, _⟩ => ⟨S1x8, .f32⟩
  | .hbm, ⟨77, _⟩ => ⟨S1x8, .f32⟩
  | .hbm, ⟨78, _⟩ => ⟨S_, .f32⟩
  | .hbm, ⟨79, _⟩ => ⟨S1x8, .f32⟩
  | .hbm, ⟨80, _⟩ => ⟨S1x8, .f32⟩
  | .hbm, ⟨81, _⟩ => ⟨S_, .f32⟩
  | .hbm, ⟨82, _⟩ => ⟨S1x8, .f32⟩
  | .hbm, ⟨83, _⟩ => ⟨S1x8, .f32⟩
  | .hbm, ⟨84, _⟩ => ⟨S1x8, .f32⟩
  | .hbm, ⟨85, _⟩ => ⟨S_, .f32⟩
  | .hbm, ⟨86, _⟩ => ⟨S1x8, .f32⟩
  | .hbm, ⟨87, _⟩ => ⟨S1x8, .f32⟩
  | .hbm, ⟨88, _⟩ => ⟨S1x8, .f32⟩
  | .hbm, ⟨89, _⟩ => ⟨S_, .f32⟩
  | .hbm, ⟨90, _⟩ => ⟨S1x8, .f32⟩
  | .hbm, ⟨91, _⟩ => ⟨S1x8, .f32⟩
  | .hbm, ⟨92, _⟩ => ⟨S1x8, .f32⟩
  | .hbm, ⟨93, _⟩ => ⟨S_, .f32⟩
  | .hbm, ⟨94, _⟩ => ⟨S1x8, .f32⟩
  | .hbm, ⟨95, _⟩ => ⟨S1x8, .f32⟩
  | .hbm, ⟨96, _⟩ => ⟨S_, .f32⟩
  | .hbm, ⟨97, _⟩ => ⟨S1x8, .f32⟩
  | .hbm, ⟨98, _⟩ => ⟨S1x8, .f32⟩
  | .hbm, ⟨99, _⟩ => ⟨S1x8, .f32⟩
  | .hbm, ⟨100, _⟩ => ⟨S_, .f32⟩
  | .hbm, ⟨101, _⟩ => ⟨S1x8, .f32⟩
  | .hbm, ⟨102, _⟩ => ⟨S1x8, .f32⟩
  | .hbm, ⟨103, _⟩ => ⟨S1x8, .f32⟩
  | .hbm, ⟨104, _⟩ => ⟨S_, .f32⟩
  | .hbm, ⟨105, _⟩ => ⟨S1x8, .f32⟩
  | .hbm, ⟨106, _⟩ => ⟨S1x8, .f32⟩
  | .hbm, ⟨107, _⟩ => ⟨S1x8, .f32⟩
  | .hbm, ⟨108, _⟩ => ⟨S_, .f32⟩
  | .hbm, ⟨109, _⟩ => ⟨S1x8, .f32⟩
  | .hbm, ⟨110, _⟩ => ⟨S1x8, .f32⟩
  | _, _ => ⟨S4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel15.lean ====
abbrev S1x128 : Shape := ⟨2, ![1, 128]⟩
abbrev S1x16 : Shape := ⟨2, ![1, 16]⟩
abbrev S32x16 : Shape := ⟨2, ![32, 16]⟩

abbrev nBuf : Space → Nat
  | .hbm => 21
  | .vmem => 21
  | .smem => 0
  | _ => 0

abbrev bufTy : (tb : Table) → Fin (tcTables nBuf tb) → BufTy
  | .hbm, ⟨0, _⟩ => ⟨S1x128, .f32⟩
  | .hbm, ⟨1, _⟩ => ⟨S1x16, .f32⟩
  | .hbm, ⟨2, _⟩ => ⟨S32x16, .f32⟩
  | .hbm, ⟨3, _⟩ => ⟨S1x128, .f32⟩
  | .hbm, ⟨4, _⟩ => ⟨S1x16, .f32⟩
  | .hbm, ⟨5, _⟩ => ⟨S32x16, .f32⟩
  | .hbm, ⟨6, _⟩ => ⟨S1x128, .f32⟩
  | .hbm, ⟨7, _⟩ => ⟨S1x16, .f32⟩
  | .hbm, ⟨8, _⟩ => ⟨S32x16, .f32⟩
  | .hbm, ⟨9, _⟩ => ⟨S1x128, .f32⟩
  | .hbm, ⟨10, _⟩ => ⟨S1x16, .f32⟩
  | .hbm, ⟨11, _⟩ => ⟨S32x16, .f32⟩
  | .hbm, ⟨12, _⟩ => ⟨S1x128, .f32⟩
  | .hbm, ⟨13, _⟩ => ⟨S1x16, .f32⟩
  | .hbm, ⟨14, _⟩ => ⟨S32x16, .f32⟩
  | .hbm, ⟨15, _⟩ => ⟨S1x128, .f32⟩
  | .hbm, ⟨16, _⟩ => ⟨S1x16, .f32⟩
  | .hbm, ⟨17, _⟩ => ⟨S32x16, .f32⟩
  | .hbm, ⟨18, _⟩ => ⟨S1x128, .f32⟩
  | .hbm, ⟨19, _⟩ => ⟨S1x16, .f32⟩
  | .hbm, ⟨20, _⟩ => ⟨S32x16, .f32⟩
  | .local _ .vmem, ⟨0, _⟩ => ⟨S1x128, .f32⟩
  | .local _ .vmem, ⟨1, _⟩ => ⟨S1x16, .f32⟩
  | .local _ .vmem, ⟨2, _⟩ => ⟨S32x16, .f32⟩
  | .local _ .vmem, ⟨3, _⟩ => ⟨S1x128, .f32⟩
  | .local _ .vmem, ⟨4, _⟩ => ⟨S1x16, .f32⟩
  | .local _ .vmem, ⟨5, _⟩ => ⟨S32x16, .f32⟩
  | .local _ .vmem, ⟨6, _⟩ => ⟨S1x128, .f32⟩
  | .local _ .vmem, ⟨7, _⟩ => ⟨S1x16, .f32⟩
  | .local _ .vmem, ⟨8, _⟩ => ⟨S32x16, .f32⟩
  | .local _ .vmem, ⟨9, _⟩ => ⟨S1x128, .f32⟩
  | .local _ .vmem, ⟨10, _⟩ => ⟨S1x16, .f32⟩
  | .local _ .vmem, ⟨11, _⟩ => ⟨S32x16, .f32⟩
  | .local _ .vmem, ⟨12, _⟩ => ⟨S1x128, .f32⟩
  | .local _ .vmem, ⟨13, _⟩ => ⟨S1x16, .f32⟩
  | .local _ .vmem, ⟨14, _⟩ => ⟨S32x16, .f32⟩
  | .local _ .vmem, ⟨15, _⟩ => ⟨S1x128, .f32⟩
  | .local _ .vmem, ⟨16, _⟩ => ⟨S1x16, .f32⟩
  | .local _ .vmem, ⟨17, _⟩ => ⟨S32x16, .f32⟩
  | .local _ .vmem, ⟨18, _⟩ => ⟨S1x128, .f32⟩
  | .local _ .vmem, ⟨19, _⟩ => ⟨S1x16, .f32⟩
  | .local _ .vmem, ⟨20, _⟩ => ⟨S32x16, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S32x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S32x16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x16 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S32x16 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Kernel15Ideal.lean ====
abbrev S1x128 : Shape := ⟨2, ![1, 128]⟩
abbrev S1x16 : Shape := ⟨2, ![1, 16]⟩
abbrev S32x16 : Shape := ⟨2, ![32, 16]⟩

abbrev nBuf : Space → Nat
  | .hbm => 21
  | .vmem => 21
  | .smem => 0
  | _ => 0

abbrev bufTy : (tb : Table) → Fin (tcTables nBuf tb) → BufTy
  | .hbm, ⟨0, _⟩ => ⟨S1x128, .f32⟩
  | .hbm, ⟨1, _⟩ => ⟨S1x16, .f32⟩
  | .hbm, ⟨2, _⟩ => ⟨S32x16, .f32⟩
  | .hbm, ⟨3, _⟩ => ⟨S1x128, .f32⟩
  | .hbm, ⟨4, _⟩ => ⟨S1x16, .f32⟩
  | .hbm, ⟨5, _⟩ => ⟨S32x16, .f32⟩
  | .hbm, ⟨6, _⟩ => ⟨S1x128, .f32⟩
  | .hbm, ⟨7, _⟩ => ⟨S1x16, .f32⟩
  | .hbm, ⟨8, _⟩ => ⟨S32x16, .f32⟩
  | .hbm, ⟨9, _⟩ => ⟨S1x128, .f32⟩
  | .hbm, ⟨10, _⟩ => ⟨S1x16, .f32⟩
  | .hbm, ⟨11, _⟩ => ⟨S32x16, .f32⟩
  | .hbm, ⟨12, _⟩ => ⟨S1x128, .f32⟩
  | .hbm, ⟨13, _⟩ => ⟨S1x16, .f32⟩
  | .hbm, ⟨14, _⟩ => ⟨S32x16, .f32⟩
  | .hbm, ⟨15, _⟩ => ⟨S1x128, .f32⟩
  | .hbm, ⟨16, _⟩ => ⟨S1x16, .f32⟩
  | .hbm, ⟨17, _⟩ => ⟨S32x16, .f32⟩
  | .hbm, ⟨18, _⟩ => ⟨S1x128, .f32⟩
  | .hbm, ⟨19, _⟩ => ⟨S1x16, .f32⟩
  | .hbm, ⟨20, _⟩ => ⟨S32x16, .f32⟩
  | .local _ .vmem, ⟨0, _⟩ => ⟨S1x128, .f32⟩
  | .local _ .vmem, ⟨1, _⟩ => ⟨S1x16, .f32⟩
  | .local _ .vmem, ⟨2, _⟩ => ⟨S32x16, .f32⟩
  | .local _ .vmem, ⟨3, _⟩ => ⟨S1x128, .f32⟩
  | .local _ .vmem, ⟨4, _⟩ => ⟨S1x16, .f32⟩
  | .local _ .vmem, ⟨5, _⟩ => ⟨S32x16, .f32⟩
  | .local _ .vmem, ⟨6, _⟩ => ⟨S1x128, .f32⟩
  | .local _ .vmem, ⟨7, _⟩ => ⟨S1x16, .f32⟩
  | .local _ .vmem, ⟨8, _⟩ => ⟨S32x16, .f32⟩
  | .local _ .vmem, ⟨9, _⟩ => ⟨S1x128, .f32⟩
  | .local _ .vmem, ⟨10, _⟩ => ⟨S1x16, .f32⟩
  | .local _ .vmem, ⟨11, _⟩ => ⟨S32x16, .f32⟩
  | .local _ .vmem, ⟨12, _⟩ => ⟨S1x128, .f32⟩
  | .local _ .vmem, ⟨13, _⟩ => ⟨S1x16, .f32⟩
  | .local _ .vmem, ⟨14, _⟩ => ⟨S32x16, .f32⟩
  | .local _ .vmem, ⟨15, _⟩ => ⟨S1x128, .f32⟩
  | .local _ .vmem, ⟨16, _⟩ => ⟨S1x16, .f32⟩
  | .local _ .vmem, ⟨17, _⟩ => ⟨S32x16, .f32⟩
  | .local _ .vmem, ⟨18, _⟩ => ⟨S1x128, .f32⟩
  | .local _ .vmem, ⟨19, _⟩ => ⟨S1x16, .f32⟩
  | .local _ .vmem, ⟨20, _⟩ => ⟨S32x16, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S32x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S32x16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x16 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S32x16 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Reference15Ideal.lean ====
abbrev S1x128 : Shape := ⟨2, ![1, 128]⟩
abbrev S1x16 : Shape := ⟨2, ![1, 16]⟩
abbrev S32x16 : Shape := ⟨2, ![32, 16]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x16, .f32⟩
  | .hbm, ⟨2, _⟩ => ⟨S32x16, .f32⟩
  | .hbm, ⟨3, _⟩ => ⟨S1x128, .f32⟩
  | .hbm, ⟨4, _⟩ => ⟨S1x16, .f32⟩
  | .hbm, ⟨5, _⟩ => ⟨S32x16, .f32⟩
  | .hbm, ⟨6, _⟩ => ⟨S1x128, .f32⟩
  | .hbm, ⟨7, _⟩ => ⟨S1x16, .f32⟩
  | .hbm, ⟨8, _⟩ => ⟨S32x16, .f32⟩
  | .hbm, ⟨9, _⟩ => ⟨S1x128, .f32⟩
  | .hbm, ⟨10, _⟩ => ⟨S1x16, .f32⟩
  | .hbm, ⟨11, _⟩ => ⟨S32x16, .f32⟩
  | .hbm, ⟨12, _⟩ => ⟨S_, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S_, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S_, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S_, .f32⟩
  | .hbm, ⟨43, _⟩ => ⟨S1x128, .f32⟩
  | .hbm, ⟨44, _⟩ => ⟨S1x128, .f32⟩
  | .hbm, ⟨45, _⟩ => ⟨S_, .f32⟩
  | .hbm, ⟨46, _⟩ => ⟨S1x16, .f32⟩
  | .hbm, ⟨47, _⟩ => ⟨S1x16, .f32⟩
  | .hbm, ⟨48, _⟩ => ⟨S_, .f32⟩
  | .hbm, ⟨49, _⟩ => ⟨S1x16, .f32⟩
  | .hbm, ⟨50, _⟩ => ⟨S1x16, .f32⟩
  | .hbm, ⟨51, _⟩ => ⟨S1x16, .f32⟩
  | .hbm, ⟨52, _⟩ => ⟨S_, .f32⟩
  | .hbm, ⟨53, _⟩ => ⟨S1x16, .f32⟩
  | .hbm, ⟨54, _⟩ => ⟨S1x16, .f32⟩
  | .hbm, ⟨55, _⟩ => ⟨S1x16, .f32⟩
  | .hbm, ⟨56, _⟩ => ⟨S_, .f32⟩
  | .hbm, ⟨57, _⟩ => ⟨S1x16, .f32⟩
  | .hbm, ⟨58, _⟩ => ⟨S1x16, .f32⟩
  | .hbm, ⟨59, _⟩ => ⟨S1x16, .f32⟩
  | .hbm, ⟨60, _⟩ => ⟨S_, .f32⟩
  | .hbm, ⟨61, _⟩ => ⟨S1x16, .f32⟩
  | .hbm, ⟨62, _⟩ => ⟨S1x16, .f32⟩
  | .hbm, ⟨63, _⟩ => ⟨S_, .f32⟩
  | .hbm, ⟨64, _⟩ => ⟨S1x16, .f32⟩
  | .hbm, ⟨65, _⟩ => ⟨S1x16, .f32⟩
  | .hbm, ⟨66, _⟩ => ⟨S1x16, .f32⟩
  | .hbm, ⟨67, _⟩ => ⟨S_, .f32⟩
  | .hbm, ⟨68, _⟩ => ⟨S1x16, .f32⟩
  | .hbm, ⟨69, _⟩ => ⟨S1x16, .f32⟩
  | .hbm, ⟨70, _⟩ => ⟨S1x16, .f32⟩
  | .hbm, ⟨71, _⟩ => ⟨S_, .f32⟩
  | .hbm, ⟨72, _⟩ => ⟨S1x16, .f32⟩
  | .hbm, ⟨73, _⟩ => ⟨S1x16, .f32⟩
  | .hbm, ⟨74, _⟩ => ⟨S1x16, .f32⟩
  | .hbm, ⟨75, _⟩ => ⟨S_, .f32⟩
  | .hbm, ⟨76, _⟩ => ⟨S1x16, .f32⟩
  | .hbm, ⟨77, _⟩ => ⟨S1x16, .f32⟩
  | .hbm, ⟨78, _⟩ => ⟨S_, .f32⟩
  | .hbm, ⟨79, _⟩ => ⟨S32x16, .f32⟩
  | .hbm, ⟨80, _⟩ => ⟨S32x16, .f32⟩
  | .hbm, ⟨81, _⟩ => ⟨S_, .f32⟩
  | .hbm, ⟨82, _⟩ => ⟨S32x16, .f32⟩
  | .hbm, ⟨83, _⟩ => ⟨S32x16, .f32⟩
  | .hbm, ⟨84, _⟩ => ⟨S32x16, .f32⟩
  | .hbm, ⟨85, _⟩ => ⟨S_, .f32⟩
  | .hbm, ⟨86, _⟩ => ⟨S32x16, .f32⟩
  | .hbm, ⟨87, _⟩ => ⟨S32x16, .f32⟩
  | .hbm, ⟨88, _⟩ => ⟨S32x16, .f32⟩
  | .hbm, ⟨89, _⟩ => ⟨S_, .f32⟩
  | .hbm, ⟨90, _⟩ => ⟨S32x16, .f32⟩
  | .hbm, ⟨91, _⟩ => ⟨S32x16, .f32⟩
  | .hbm, ⟨92, _⟩ => ⟨S32x16, .f32⟩
  | .hbm, ⟨93, _⟩ => ⟨S_, .f32⟩
  | .hbm, ⟨94, _⟩ => ⟨S32x16, .f32⟩
  | .hbm, ⟨95, _⟩ => ⟨S32x16, .f32⟩
  | .hbm, ⟨96, _⟩ => ⟨S_, .f32⟩
  | .hbm, ⟨97, _⟩ => ⟨S32x16, .f32⟩
  | .hbm, ⟨98, _⟩ => ⟨S32x16, .f32⟩
  | .hbm, ⟨99, _⟩ => ⟨S32x16, .f32⟩
  | .hbm, ⟨100, _⟩ => ⟨S_, .f32⟩
  | .hbm, ⟨101, _⟩ => ⟨S32x16, .f32⟩
  | .hbm, ⟨102, _⟩ => ⟨S32x16, .f32⟩
  | .hbm, ⟨103, _⟩ => ⟨S32x16, .f32⟩
  | .hbm, ⟨104, _⟩ => ⟨S_, .f32⟩
  | .hbm, ⟨105, _⟩ => ⟨S32x16, .f32⟩
  | .hbm, ⟨106, _⟩ => ⟨S32x16, .f32⟩
  | .hbm, ⟨107, _⟩ => ⟨S32x16, .f32⟩
  | .hbm, ⟨108, _⟩ => ⟨S_, .f32⟩
  | .hbm, ⟨109, _⟩ => ⟨S32x16, .f32⟩
  | .hbm, ⟨110, _⟩ => ⟨S32x16, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel16.lean ====
abbrev S1x2048 : Shape := ⟨2, ![1, 2048]⟩

abbrev nBuf : Space → Nat
  | .hbm => 14
  | .vmem => 14
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Reference16Ideal.lean ====
abbrev S1x2048 : Shape := ⟨2, ![1, 2048]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S_, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S_, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S_, .f32⟩
  | .hbm, ⟨39, _⟩ => ⟨S1x2048, .f32⟩
  | .hbm, ⟨40, _⟩ => ⟨S1x2048, .f32⟩
  | .hbm, ⟨41, _⟩ => ⟨S_, .f32⟩
  | .hbm, ⟨42, _⟩ => ⟨S1x2048, .f32⟩
  | .hbm, ⟨43, _⟩ => ⟨S1x2048, .f32⟩
  | .hbm, ⟨44, _⟩ => ⟨S_, .f32⟩
  | .hbm, ⟨45, _⟩ => ⟨S1x2048, .f32⟩
  | .hbm, ⟨46, _⟩ => ⟨S1x2048, .f32⟩
  | .hbm, ⟨47, _⟩ => ⟨S1x2048, .f32⟩
  | .hbm, ⟨48, _⟩ => ⟨S_, .f32⟩
  | .hbm, ⟨49, _⟩ => ⟨S1x2048, .f32⟩
  | .hbm, ⟨50, _⟩ => ⟨S1x2048, .f32⟩
  | .hbm, ⟨51, _⟩ => ⟨S1x2048, .f32⟩
  | .hbm, ⟨52, _⟩ => ⟨S_, .f32⟩
  | .hbm, ⟨53, _⟩ => ⟨S1x2048, .f32⟩
  | .hbm, ⟨54, _⟩ => ⟨S1x2048, .f32⟩
  | .hbm, ⟨55, _⟩ => ⟨S1x2048, .f32⟩
  | .hbm, ⟨56, _⟩ => ⟨S_, .f32⟩
  | .hbm, ⟨57, _⟩ => ⟨S1x2048, .f32⟩
  | .hbm, ⟨58, _⟩ => ⟨S1x2048, .f32⟩
  | .hbm, ⟨59, _⟩ => ⟨S_, .f32⟩
  | .hbm, ⟨60, _⟩ => ⟨S1x2048, .f32⟩
  | .hbm, ⟨61, _⟩ => ⟨S1x2048, .f32⟩
  | .hbm, ⟨62, _⟩ => ⟨S1x2048, .f32⟩
  | .hbm, ⟨63, _⟩ => ⟨S_, .f32⟩
  | .hbm, ⟨64, _⟩ => ⟨S1x2048, .f32⟩
  | .hbm, ⟨65, _⟩ => ⟨S1x2048, .f32⟩
  | .hbm, ⟨66, _⟩ => ⟨S1x2048, .f32⟩
  | .hbm, ⟨67, _⟩ => ⟨S_, .f32⟩
  | .hbm, ⟨68, _⟩ => ⟨S1x2048, .f32⟩
  | .hbm, ⟨69, _⟩ => ⟨S1x2048, .f32⟩
  | .hbm, ⟨70, _⟩ => ⟨S1x2048, .f32⟩
  | .hbm, ⟨71, _⟩ => ⟨S_, .f32⟩
  | .hbm, ⟨72, _⟩ => ⟨S1x2048, .f32⟩
  | .hbm, ⟨73, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Proof.Spec.lean ====
/- The gated delta rule's backward recurrence over the real numbers, chunk by chunk.

   One chunk of one head is a record of real matrices, each a function of two natural numbers. The functions below
   say what one backward step computes from such a record and from the gradient `D` that arrives at the state after the
   chunk; `Seq` strings the chunks of one head together, forward (the states) and backward (their gradients). -/
module

public import Mathlib.Data.EReal.Operations
public import Mathlib.Algebra.BigOperators.Fin
public import Mathlib.Analysis.SpecialFunctions.Exp

@[expose] public section

noncomputable section

namespace Cert.Spec

open scoped BigOperators

/-- A real matrix, read at natural coordinates. -/
abbrev Mat := ℕ → ℕ → ℝ

/-- What one chunk of one head brings to the backward step: the rows `w`, `q`, `k` (64 × 128), the chunk's own
    attention `a` (64 × 64), its total decay `gl`, the state `S` before it (128 × 128), the corrected values `v` and the
    output's cotangent `o` (64 × 128). -/
structure Chunk where
  w : Mat
  q : Mat
  k : Mat
  a : Mat
  gl : ℝ
  S : Mat
  v : Mat
  o : Mat

namespace Chunk
variable (c : Chunk) (D : Mat)

/-- The gradient of the corrected values. -/
def dv : Mat := fun r e => (∑ j : Fin 64, c.a j r * c.o j e) + ∑ d : Fin 128, c.k r d * D d e
/-- The gradient of `w`. -/
def dw : Mat := fun r d => -∑ e : Fin 128, c.dv D r e * c.S d e
/-- The gradient of `q`. -/
def dq : Mat := fun r d => ∑ e : Fin 128, c.o r e * c.S d e
/-- The gradient of `k`. -/
def dk : Mat := fun r d => ∑ e : Fin 128, c.v r e * D d e
/-- The gradient of the chunk's attention, on and below its diagonal. -/
def da : Mat := fun r j => if j ≤ r then ∑ e : Fin 128, c.o r e * c.v j e else 0
/-- The gradient of the logarithm of the decay. -/
def dg : ℝ := (∑ e : Fin 128, ∑ d : Fin 128, c.S d e * D d e) * c.gl
/-- The gradient of the state before the chunk. -/
def dS : Mat := fun d e => D d e * c.gl + ((∑ r : Fin 64, c.w r d * -c.dv D r e) + ∑ r : Fin 64, c.q r d * c.o r e)

end Chunk

namespace Chunk

/-- Two chunks that agree on the rows and lanes which a chunk has. -/
structure Same (c c' : Chunk) : Prop where
  w : ∀ r < 64, ∀ d, c.w r d = c'.w r d
  q : ∀ r < 64, ∀ d, c.q r d = c'.q r d
  k : ∀ r < 64, ∀ d, c.k r d = c'.k r d
  a : c.a = c'.a
  gl : c.gl = c'.gl
  S : c.S = c'.S
  v : ∀ r < 64, ∀ e < 128, c.v r e = c'.v r e
  o : c.o = c'.o

namespace Same
variable {c c' : Chunk} (h : c.Same c') (D : Mat)
include h

theorem dv (r : ℕ) (hr : r < 64) (e : ℕ) : c.dv D r e = c'.dv D r e := by
  unfold Chunk.dv; simp only [h.a, h.o, h.k r hr]
theorem dw (r : ℕ) (hr : r < 64) (d : ℕ) : c.dw D r d = c'.dw D r d := by
  unfold Chunk.dw; simp only [h.dv D r hr, h.S]
theorem dq (r : ℕ) (d : ℕ) : c.dq r d = c'.dq r d := by
  unfold Chunk.dq; simp only [h.o, h.S]
theorem dk (r : ℕ) (hr : r < 64) (d : ℕ) : c.dk D r d = c'.dk D r d := by
  unfold Chunk.dk; exact Finset.sum_congr rfl fun e _ => by rw [h.v r hr e e.isLt]
theorem da (r j : ℕ) (hj : j < 64) : c.da r j = c'.da r j := by
  unfold Chunk.da; split_ifs
  · exact Finset.sum_congr rfl fun e _ => by rw [h.v j hj e e.isLt, h.o]
  · rfl
theorem dg : c.dg D = c'.dg D := by unfold Chunk.dg; rw [h.S, h.gl]
theorem dS : c.dS D = c'.dS D := by
  funext d e; unfold Chunk.dS
  rw [h.gl, h.o]
  congr 2
  · exact Finset.sum_congr rfl fun r _ => by rw [h.w r r.isLt, h.dv D r r.isLt]
  · exact Finset.sum_congr rfl fun r _ => by rw [h.q r r.isLt]

end Same
end Chunk

/-- What the heads bring: for head `h` and chunk `n` the rows `u`, `w`, `q`, `k` and the chunk's attention `a`; the
    logarithms of the decays `g`, by row and head; the output's cotangent `o`, by row and column. -/
structure Seq where
  u : ℕ → ℕ → Mat
  w : ℕ → ℕ → Mat
  q : ℕ → ℕ → Mat
  k : ℕ → ℕ → Mat
  a : ℕ → ℕ → Mat
  g : Mat
  o : Mat

namespace Seq
variable (s : Seq)

/-- The decay of a chunk. -/
def gl (h n : ℕ) : ℝ := Real.exp (∑ r : Fin 64, s.g (64 * n + r) h)
/-- The corrected values of a chunk, from the state before it. -/
def vnOf (h n : ℕ) (S : Mat) : Mat := fun r e => s.u h n r e - ∑ d : Fin 128, s.w h n r d * S d e
/-- The state before a chunk. -/
def St (h : ℕ) : ℕ → Mat
  | 0 => fun _ _ => 0
  | n + 1 => fun d e => St h n d e * s.gl h n + ∑ r : Fin 64, s.k h n r d * s.vnOf h n (St h n) r e
/-- The corrected values of a chunk. -/
def vn (h n : ℕ) : Mat := s.vnOf h n (s.St h n)
/-- A chunk of a head. -/
def chunk (h n : ℕ) : Chunk :=
  ⟨s.w h n, s.q h n, s.k h n, s.a h n, s.gl h n, s.St h n, s.vn h n, fun r e => s.o (64 * n + r) (128 * h + e)⟩
/-- The gradient of the state after `n` backward steps over the 32 chunks of a head. -/
def back (h : ℕ) : ℕ → Mat
  | 0 => fun _ _ => 0
  | n + 1 => (s.chunk h (31 - n)).dS (back h n)

/-- The gradients, at a row and a column of the 2048 × 1024 arrays; of the attention, at head, chunk, row and lane; of the
    decay's logarithm, at head and chunk. -/
def du : Mat := fun i j => (s.chunk (j / 128) (i / 64)).dv (s.back (j / 128) (31 - i / 64)) (i % 64) (j % 128)
def dw : Mat := fun i j => (s.chunk (j / 128) (i / 64)).dw (s.back (j / 128) (31 - i / 64)) (i % 64) (j % 128)
def dq : Mat := fun i j => (s.chunk (j / 128) (i / 64)).dq (i % 64) (j % 128)
def dk : Mat := fun i j => (s.chunk (j / 128) (i / 64)).dk (s.back (j / 128) (31 - i / 64)) (i % 64) (j % 128)
def da (h n : ℕ) : Mat := (s.chunk h n).da
def dg (h n : ℕ) : ℝ := (s.chunk h n).dg (s.back h (31 - n))

end Seq

/-- The sum of real numbers, read among the extended ones, is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

end Cert.Spec

end
-- ==== Proof.Units.lean ====
/- What the kernel does with one chunk of one head, as functions of the blocks that it loads, and what each computes
   over the reals. -/
module

public import proofs.«01_k».proof.Proof.Gen.KernelIdeal.Skeleton
public import proofs.«01_k».proof.Proof.Spec
public import Idealize.ShloMosaic.Lib.Pointwise

@[expose] public section

noncomputable section

namespace Cert.KernelIdeal.Val

open Idealize.ShloMosaic Cert.Spec
open scoped BigOperators

/-- The kernel's product of two single precision matrices: each is split into a half precision part and what that part
    leaves, and three of the four products of parts are added. -/
def gdot {F : FTy → Type} [FloatOps F] {sl sr so : Shape} (d : DotDims sl sr so) (a : FVec F sl .f32) (b : FVec F sr .f32) :
    FVec F so .f32 :=
  have ah : FVec F sl .bf16 := truncf .bf16 a Facts₀.bitsLt_bf16_f32
  have al : FVec F sl .bf16 := truncf .bf16 (subf a (extf .f32 ah Facts₀.bitsLt_bf16_f32)) Facts₀.bitsLt_bf16_f32
  have bh : FVec F sr .bf16 := truncf .bf16 b Facts₀.bitsLt_bf16_f32
  have bl : FVec F sr .bf16 := truncf .bf16 (subf b (extf .f32 bh Facts₀.bitsLt_bf16_f32)) Facts₀.bitsLt_bf16_f32
  addf (matmul d none ah bh (constant so .f32 0x00000000#32))
    (addf (matmul d none ah bl (constant so .f32 0x00000000#32)) (matmul d none al bh (constant so .f32 0x00000000#32)))

/-- Every element of `v` is a real number. -/
def Real' {s : Shape} (v : s.Idx → EReal) : Prop := ∀ j, ∃ x : ℝ, v j = (x : EReal)

/-- On real matrices the remainders of the splits are zero, and the split product is the product. -/
theorem gdot_eq {sl sr so : Shape} (d : DotDims sl sr so) (a : FVec Ideal sl .f32) (b : FVec Ideal sr .f32)
    (ha : Real' a) (hb : Real' b) : gdot d a b = Ideal.matmul d a b (fun _ => 0) := by
  funext j
  have ea : ∀ i, a i - a i = 0 := fun i => by
    obtain ⟨x, hx⟩ := ha i; rw [hx, ← EReal.coe_sub, sub_self, EReal.coe_zero]
  have eb : ∀ i, b i - b i = 0 := fun i => by
    obtain ⟨x, hx⟩ := hb i; rw [hx, ← EReal.coe_sub, sub_self, EReal.coe_zero]
  unfold gdot
  simp only [addf, subf, truncf, extf, matmul, constant, Ideal.addf_def, Ideal.subf_def, Ideal.truncf_def, Ideal.extf_def,
    Ideal.matmul_def, Ideal.ofBits_zero_f32, Ideal.matmul, ea, eb, mul_zero, zero_mul, Finset.sum_const_zero]
  simp only [Ideal.ofBits_def, Ideal.ofBits_zero_f32, zero_add, add_zero]

/-- The same, its operands given as real functions of their indices. -/
theorem gdot_coe {sl sr so : Shape} (d : DotDims sl sr so) (a : FVec Ideal sl .f32) (b : FVec Ideal sr .f32)
    {fa : sl.Idx → ℝ} {fb : sr.Idx → ℝ} (ha : ∀ i, a i = (fa i : EReal)) (hb : ∀ i, b i = (fb i : EReal)) :
    gdot d a b = Ideal.matmul d (fun i => (fa i : EReal)) (fun i => (fb i : EReal)) (fun _ => 0) := by
  rw [gdot_eq d a b (fun i => ⟨_, ha i⟩) (fun i => ⟨_, hb i⟩)]
  rw [show a = fun i => (fa i : EReal) from funext ha, show b = fun i => (fb i : EReal) from funext hb]

/-! ## One chunk of one head -/

section Units
variable {F : FTy → Type} [FloatOps F]
open Facts₀

/-- The decays of the heads over one chunk, in the lanes. -/
def uGl (g : Vec F S64x128 .f32) : FVec F S1x128 .f32 :=
  exp (shapeCast S1x128 (multiReduction .add [0] S128 (shapeCast S64x128 g shapeCasts_S64x128_S64x128) 0x00000000#32
    reduces_S64x128_S128 (.inl rfl) rfl) shapeCasts_S128_S1x128)

/-- The gradient of the corrected values. -/
def uDv (A : Vec F S1x1x64x64 .f32) (K : Vec F S1x64x128 .f32) (O : Vec F S64x128 .f32) (D : Vec F S1x128x128 .f32) :
    FVec F S64x128 .f32 :=
  addf (gdot dot_S64x64_S64x128_S64x128_0_0_1_1_n_n (shapeCast S64x64 A shapeCasts_S1x1x64x64_S64x64) O)
    (gdot dot_S64x128_S128x128_S64x128_1_0_0_1_n_n (shapeCast S64x128 K shapeCasts_S1x64x128_S64x128)
      (shapeCast S128x128 D shapeCasts_S1x128x128_S128x128))

/-- The products with the state's transpose: the output's cotangent over the corrected values' gradient. -/
def uX (A : Vec F S1x1x64x64 .f32) (K : Vec F S1x64x128 .f32) (O : Vec F S64x128 .f32) (D : Vec F S1x128x128 .f32)
    (S : Vec F S1x1x128x128 .f32) : FVec F S128x128 .f32 :=
  gdot dot_S128x128_S128x128_S128x128_1_1_0_0_n_n
    (concatenate S128x128 0 [⟨S64x128, O⟩, ⟨S64x128, uDv A K O D⟩] concatenates_S64x128_S64x128_S128x128_d0)
    (shapeCast S128x128 S shapeCasts_S1x1x128x128_S128x128)

/-- The gradient of `q`. -/
def uDq (A : Vec F S1x1x64x64 .f32) (K : Vec F S1x64x128 .f32) (O : Vec F S64x128 .f32) (D : Vec F S1x128x128 .f32)
    (S : Vec F S1x1x128x128 .f32) : FVec F S64x128 .f32 :=
  extractStridedSlice S64x128 ![0, 0] (uX A K O D S) slices_S128x128_o0_0_S64x128

/-- The gradient of `w`. -/
def uDw (A : Vec F S1x1x64x64 .f32) (K : Vec F S1x64x128 .f32) (O : Vec F S64x128 .f32) (D : Vec F S1x128x128 .f32)
    (S : Vec F S1x1x128x128 .f32) : FVec F S64x128 .f32 :=
  subf (broadcast S64x128 (Scalar.ofBits .f32 0x00000000#32))
    (extractStridedSlice S64x128 ![64, 0] (uX A K O D S) slices_S128x128_o64_0_S64x128)

/-- The gradient of `k`. -/
def uDk (V : Vec F S64x128 .f32) (D : Vec F S1x128x128 .f32) : FVec F S64x128 .f32 :=
  gdot dot_S64x128_S128x128_S64x128_1_1_0_0_n_n (shapeCast S64x128 V shapeCasts_S64x128_S64x128)
    (shapeCast S128x128 D shapeCasts_S1x128x128_S128x128)

/-- The gradient of the chunk's attention. -/
def uDa (V O : Vec F S64x128 .f32) : FVec F S1x1x64x64 .f32 :=
  shapeCast S1x1x64x64 (select (cmpi .sle (iota .tc S64x64 32 [1] iota_S64x64_d1_w32) (iota .tc S64x64 32 [0] iota_S64x64_d0_w32))
    (gdot dot_S64x128_S64x128_S64x64_1_1_0_0_n_n O (shapeCast S64x128 V shapeCasts_S64x128_S64x128))
    (broadcast S64x64 (Scalar.ofBits .f32 0x00000000#32))) shapeCasts_S64x64_S1x1x64x64

/-- The gradient of the logarithm of the decay of the head in lane `h`, in every lane. -/
def uDg (h : ℕ) (hh : S1x128.Slices ![0, h] S1x1) (D : Vec F S1x128x128 .f32) (S : Vec F S1x1x128x128 .f32)
    (g : Vec F S64x128 .f32) : FVec F S1x1x1x128 .f32 :=
  shapeCast S1x1x1x128 (broadcastTo S1x128 (shapeCast S1x1 (mulf
    (shapeCast S1x1 (multiReduction .add [1] S1 (shapeCast S1x128 (multiReduction .add [0] S128
      (mulf (shapeCast S128x128 S shapeCasts_S1x1x128x128_S128x128) (shapeCast S128x128 D shapeCasts_S1x128x128_S128x128))
      0x00000000#32 reduces_S128x128_S128 (.inl rfl) rfl) shapeCasts_S128_S1x128) 0x00000000#32 reduces_S1x128_S1 (.inl rfl) rfl)
      shapeCasts_S1_S1x1)
    (extractStridedSlice S1x1 ![0, h] (uGl g) hh)) shapeCasts_S1x1_S1x1) broadcasts_S1x1_S1x128) shapeCasts_S1x128_S1x1x1x128

/-- The gradient of the state before the chunk. -/
def uDs (h : ℕ) (hh : S1x128.Slices ![0, h] S1x1) (A : Vec F S1x1x64x64 .f32) (K : Vec F S1x64x128 .f32) (O : Vec F S64x128 .f32)
    (D : Vec F S1x128x128 .f32) (W : Vec F S1x128x128 .f32) (g : Vec F S64x128 .f32) : FVec F S1x128x128 .f32 :=
  shapeCast S1x128x128 (addf
    (mulf (shapeCast S128x128 D shapeCasts_S1x128x128_S128x128)
      (broadcastTo S128x128 (extractStridedSlice S1x1 ![0, h] (uGl g) hh) broadcasts_S1x1_S128x128))
    (gdot dot_S128x128_S128x128_S128x128_0_0_1_1_n_n (shapeCast S128x128 W shapeCasts_S1x128x128_S128x128)
      (concatenate S128x128 0 [⟨S64x128, subf (broadcast S64x128 (Scalar.ofBits .f32 0x00000000#32)) (uDv A K O D)⟩, ⟨S64x128, O⟩]
        concatenates_S64x128_S64x128_S128x128_d0))) shapeCasts_S128x128_S1x128x128

end Units

/-! ## Their values over the reals -/

/-- The blocks loaded for one chunk of one head hold the record's matrices, and the state's gradient is `D`. -/
structure Loads (c : Chunk) (D : Mat) (A : Vec Ideal S1x1x64x64 .f32) (K : Vec Ideal S1x64x128 .f32) (V O : Vec Ideal S64x128 .f32)
    (Ds : Vec Ideal S1x128x128 .f32) (S : Vec Ideal S1x1x128x128 .f32) (W : Vec Ideal S1x128x128 .f32) : Prop where
  hA : ∀ j, A j = (c.a (j 2) (j 3) : EReal)
  hK : ∀ j, K j = (c.k (j 1) (j 2) : EReal)
  hV : ∀ j, V j = (c.v (j 0) (j 1) : EReal)
  hO : ∀ j, O j = (c.o (j 0) (j 1) : EReal)
  hD : ∀ j, Ds j = (D (j 1) (j 2) : EReal)
  hS : ∀ j, S j = (c.S (j 2) (j 3) : EReal)
  hW : ∀ j, W j = ((if (j 1).val < 64 then c.w (j 1) (j 2) else c.q ((j 1).val - 64) (j 2) : ℝ) : EReal)

section
variable {c : Chunk} {D : Mat} {A : Vec Ideal S1x1x64x64 .f32} {K : Vec Ideal S1x64x128 .f32} {V O : Vec Ideal S64x128 .f32}
    {Ds : Vec Ideal S1x128x128 .f32} {S : Vec Ideal S1x1x128x128 .f32} {W : Vec Ideal S1x128x128 .f32}
    (L : Loads c D A K V O Ds S W)
include L
open Facts₀

theorem Loads.cA (j : S64x64.Idx) : shapeCast S64x64 A shapeCasts_S1x1x64x64_S64x64 j = (c.a (j 0) (j 1) : EReal) := by
  pointwise [L.hA]
theorem Loads.cK (j : S64x128.Idx) : shapeCast S64x128 K shapeCasts_S1x64x128_S64x128 j = (c.k (j 0) (j 1) : EReal) := by
  pointwise [L.hK]
theorem Loads.cV (j : S64x128.Idx) : shapeCast S64x128 V shapeCasts_S64x128_S64x128 j = (c.v (j 0) (j 1) : EReal) := by
  pointwise [L.hV]
theorem Loads.cD (j : S128x128.Idx) : shapeCast S128x128 Ds shapeCasts_S1x128x128_S128x128 j = (D (j 0) (j 1) : EReal) := by
  pointwise [L.hD]
theorem Loads.cS (j : S128x128.Idx) : shapeCast S128x128 S shapeCasts_S1x1x128x128_S128x128 j = (c.S (j 0) (j 1) : EReal) := by
  pointwise [L.hS]
theorem Loads.cW (j : S128x128.Idx) : shapeCast S128x128 W shapeCasts_S1x128x128_S128x128 j =
    ((if (j 0).val < 64 then c.w (j 0) (j 1) else c.q ((j 0).val - 64) (j 1) : ℝ) : EReal) := by
  pointwise [L.hW]

/-- The gradient of the corrected values, at an index. -/
theorem Loads.dv (j : S64x128.Idx) : uDv A K O Ds j = (c.dv D (j 0) (j 1) : EReal) := by
  unfold uDv
  rw [gdot_coe _ _ _ L.cA L.hO, gdot_coe _ _ _ L.cK L.cD]
  pointwise
  simp only [Chunk.dv, EReal.coe_add, coe_sum, EReal.coe_mul]

/-- The output's cotangent over the corrected values' gradient, at an index. -/
theorem Loads.cat (j : S128x128.Idx) :
    concatenate S128x128 0 [⟨S64x128, O⟩, ⟨S64x128, uDv A K O Ds⟩] concatenates_S64x128_S64x128_S128x128_d0 j =
      ((if (j 0).val < 64 then c.o (j 0) (j 1) else c.dv D ((j 0).val - 64) (j 1) : ℝ) : EReal) := by
  pointwise [L.hO, L.dv]
  split <;> rfl

/-- The products with the state's transpose, at an index. -/
theorem Loads.x (j : S128x128.Idx) : uX A K O Ds S j =
    ((∑ e : Fin 128, (if (j 0).val < 64 then c.o (j 0) e else c.dv D ((j 0).val - 64) e) * c.S (j 1) e : ℝ) : EReal) := by
  unfold uX
  rw [gdot_coe _ _ _ L.cat L.cS]
  pointwise
  simp only [coe_sum, EReal.coe_mul]

/-- The gradient of `q`, at an index. -/
theorem Loads.dq (j : S64x128.Idx) : uDq A K O Ds S j = (c.dq (j 0) (j 1) : EReal) := by
  have h : (j 0).val < 64 := (j 0).isLt
  unfold uDq
  pointwise [L.x]
  simp only [Chunk.dq, h, if_true]

/-- The gradient of `w`, at an index. -/
theorem Loads.dw (j : S64x128.Idx) : uDw A K O Ds S j = (c.dw D (j 0) (j 1) : EReal) := by
  unfold uDw
  pointwise [L.x]
  simp [Chunk.dw]

/-- The gradient of `k`, at an index. -/
theorem Loads.dk (j : S64x128.Idx) : uDk V Ds j = (c.dk D (j 0) (j 1) : EReal) := by
  unfold uDk
  rw [gdot_coe _ _ _ L.cV L.cD]
  pointwise
  simp only [Chunk.dk, coe_sum, EReal.coe_mul]

omit L in
/-- The mask's comparison of two coordinates. -/
theorem cmpi_sle (a b : Fin 64) : IntOp.cmpi .sle (BitVec.ofNat 32 a.val) (BitVec.ofNat 32 b.val) =
    if a.val ≤ b.val then 1#1 else 0#1 := by
  revert a b; decide +kernel

/-- The gradient of the chunk's attention, at an index. -/
theorem Loads.da (j : S1x1x64x64.Idx) : uDa V O j = (c.da (j 2) (j 3) : EReal) := by
  unfold uDa
  rw [gdot_coe _ _ _ L.hO L.cV]
  pointwise
  rw [show IntOp.cmpi .sle (BitVec.ofNat 32 (j 3).val) (BitVec.ofNat 32 (j 2).val) = _ from cmpi_sle (j 3) (j 2)]
  unfold Chunk.da
  split
  · refine Eq.trans (b := ∑ e : Fin 128, (c.o (j 2) e : EReal) * (c.v (j 3) e : EReal)) (if_pos rfl) ?_
    simp only [coe_sum, EReal.coe_mul]
  · simp [Scalar.select]

/-- The gradient of the state before the chunk, at an index. -/
theorem Loads.dS {g : Vec Ideal S64x128 .f32} (h : Fin 8) (hh : S1x128.Slices ![0, h.val] S1x1)
    (hg : uGl g (ix2 0 ⟨h.val, by omega⟩) = (c.gl : EReal)) (j : S1x128x128.Idx) :
    uDs h.val hh A K O Ds W g j = (c.dS D (j 1) (j 2) : EReal) := by
  have hc : ∀ j : S128x128.Idx, concatenate S128x128 0
      [⟨S64x128, subf (broadcast S64x128 (Scalar.ofBits .f32 0x00000000#32)) (uDv A K O Ds)⟩, ⟨S64x128, O⟩]
        concatenates_S64x128_S64x128_S128x128_d0 j =
      ((if (j 0).val < 64 then -c.dv D (j 0) (j 1) else c.o ((j 0).val - 64) (j 1) : ℝ) : EReal) := fun j => by
    pointwise [L.hO, L.dv]
    split <;> simp
  unfold uDs
  rw [gdot_coe _ _ _ L.cW hc]
  pointwise [L.cD, hg]
  simp only [Chunk.dS, EReal.coe_add, coe_sum, EReal.coe_mul]

/-- The gradient of the logarithm of the decay, at an index. -/
theorem Loads.dg {g : Vec Ideal S64x128 .f32} (h : Fin 8) (hh : S1x128.Slices ![0, h.val] S1x1)
    (hg : uGl g (ix2 0 ⟨h.val, by omega⟩) = (c.gl : EReal)) (j : S1x1x1x128.Idx) :
    uDg h.val hh Ds S g j = (c.dg D : EReal) := by
  unfold uDg
  pointwise [L.cD, L.cS, hg]
  simp only [Chunk.dg, coe_sum, EReal.coe_mul]

end

/-- The decays of the heads over a chunk, from the rows of logarithms. -/
theorem uGl_apply {f : Mat} (g : Vec Ideal S64x128 .f32) (l : Fin 128) (hg : ∀ r : Fin 64, g (ix2 r l) = (f r l : EReal)) :
    uGl g (ix2 0 l) = ((Real.exp (∑ r : Fin 64, f r l) : ℝ) : EReal) := by
  unfold uGl
  pointwise [hg]
  rw [← coe_sum]
  rfl

end Cert.KernelIdeal.Val

end
-- ==== Proof.Region.lean ====
/- What one point of the kernel's grid stores, as lists of pieces: four chunks, the last one first, eight heads each. The lists of
   the generated run are these, by unfolding. -/
module

public import proofs.«01_k».proof.Proof.Gen.KernelIdeal.Frame
public import proofs.«01_k».proof.Proof.Units

@[expose] public section

set_option maxRecDepth 16384

noncomputable section

namespace Cert.KernelIdeal.Val

open Idealize.ShloMosaic Cert.Spec Cert.KernelIdeal.Gen

/-- One entry for each head, the last head first. -/
def heads {α : Type} (f : (h : ℕ) → h < 8 → α) : List α :=
  [f 7 (by decide), f 6 (by decide), f 5 (by decide), f 4 (by decide), f 3 (by decide), f 2 (by decide), f 1 (by decide), f 0 (by decide)]

theorem mem_heads {α : Type} {f : (h : ℕ) → h < 8 → α} {p : α} (hp : p ∈ heads f) : ∃ h hh, p = f h hh := by
  simp only [heads, List.mem_cons, List.not_mem_nil, or_false] at hp
  rcases hp with h | h | h | h | h | h | h | h <;> exact ⟨_, _, h⟩

section Rects
variable (k h : ℕ) (hk : k < 4) (hh : h < 8)
include hk hh

theorem inbW : ∀ a, ![h, 192 * k, 0] a + S1x128x128.size a ≤ S8x768x128.size a := fun a => by
  have := hk; have := hh
  fin_cases a <;> simp [S1x128x128, S8x768x128] <;> omega
theorem inbK : ∀ a, ![h, 192 * k + 128, 0] a + S1x64x128.size a ≤ S8x768x128.size a := fun a => by
  have := hk; have := hh
  fin_cases a <;> simp [S1x64x128, S8x768x128] <;> omega
theorem inbA : ∀ a, ![h, k, 0, 0] a + S1x1x64x64.size a ≤ S8x4x64x64.size a := fun a => by
  have := hk; have := hh
  fin_cases a <;> simp [S1x1x64x64, S8x4x64x64] <;> omega
theorem inbS : ∀ a, ![h, k, 0, 0] a + S1x1x128x128.size a ≤ S8x4x128x128.size a := fun a => by
  have := hk; have := hh
  fin_cases a <;> simp [S1x1x128x128, S8x4x128x128] <;> omega
theorem inbR : ∀ a, ![h, k, 0, 0] a + S1x1x1x128.size a ≤ S8x4x1x128.size a := fun a => by
  have := hk; have := hh
  fin_cases a <;> simp [S1x1x1x128, S8x4x1x128] <;> omega
theorem inbV : ∀ a, ![64 * k, 128 * h] a + S64x128.size a ≤ S256x1024.size a := fun a => by
  have := hk; have := hh
  fin_cases a <;> simp [S64x128, S256x1024] <;> omega
omit hh in
theorem inbG : ∀ a, ![64 * k, 0] a + S64x128.size a ≤ S256x128.size a := fun a => by
  have := hk
  fin_cases a <;> simp [S64x128, S256x128] <;> omega
omit hk in
theorem inbD : ∀ a, ![h, 0, 0] a + S1x128x128.size a ≤ S8x128x128.size a := fun a => by
  have := hh
  fin_cases a <;> simp [S1x128x128, S8x128x128] <;> omega
omit hk in
theorem slcH : S1x128.Slices ![0, h] S1x1 := by
  have := hh
  refine ⟨by decide, fun a => ?_⟩
  fin_cases a <;> simp [S1x1, S1x128] <;> omega
end Rects

/-- The buffers that hold the point's inputs, with what they hold. -/
structure Ins (F : FTy → Type) where
  (arg1 : Memref sig .tc .vmem S8x768x128 .f32) (harg1 : arg1.IsWhole) (arg2 : Memref sig .tc .vmem S8x4x64x64 .f32) (harg2 : arg2.IsWhole)
  (arg3 : Memref sig .tc .vmem S256x128 .f32) (harg3 : arg3.IsWhole) (arg4 : Memref sig .tc .vmem S8x4x128x128 .f32) (harg4 : arg4.IsWhole)
  (arg5 : Memref sig .tc .vmem S256x1024 .f32) (harg5 : arg5.IsWhole) (arg6 : Memref sig .tc .vmem S256x1024 .f32) (harg6 : arg6.IsWhole)
  (x0 : Vec F S8x768x128 .f32) (x1 : Vec F S8x4x64x64 .f32) (x2 : Vec F S256x128 .f32) (x3 : Vec F S8x4x128x128 .f32)
  (x4 : Vec F S256x1024 .f32) (x5 : Vec F S256x1024 .f32)

/-- The eight gradients of the states as they are loaded. -/
abbrev DsV (F : FTy → Type) := (h : ℕ) → h < 8 → Vec F S1x128x128 .f32

section Lists
variable {F : FTy → Type} [FloatOps F] (I : Ins F)

def lW (k : ℕ) (hk : k < 4) (h : ℕ) (hh : h < 8) : Vec F S1x128x128 .f32 :=
  View.readAt (Elt F) I.arg1.view (Rect.unit (s := S8x768x128) ![h, 192 * k, 0] S1x128x128.size (inbW k h hk hh)).toLoadRect (I.harg1.unread I.x0)
def lK (k : ℕ) (hk : k < 4) (h : ℕ) (hh : h < 8) : Vec F S1x64x128 .f32 :=
  View.readAt (Elt F) I.arg1.view (Rect.unit (s := S8x768x128) ![h, 192 * k + 128, 0] S1x64x128.size (inbK k h hk hh)).toLoadRect (I.harg1.unread I.x0)
def lA (k : ℕ) (hk : k < 4) (h : ℕ) (hh : h < 8) : Vec F S1x1x64x64 .f32 :=
  View.readAt (Elt F) I.arg2.view (Rect.unit (s := S8x4x64x64) ![h, k, 0, 0] S1x1x64x64.size (inbA k h hk hh)).toLoadRect (I.harg2.unread I.x1)
def lG (k : ℕ) (hk : k < 4) : Vec F S64x128 .f32 :=
  View.readAt (Elt F) I.arg3.view (Rect.unit (s := S256x128) ![64 * k, 0] S64x128.size (inbG k hk)).toLoadRect (I.harg3.unread I.x2)
def lS (k : ℕ) (hk : k < 4) (h : ℕ) (hh : h < 8) : Vec F S1x1x128x128 .f32 :=
  View.readAt (Elt F) I.arg4.view (Rect.unit (s := S8x4x128x128) ![h, k, 0, 0] S1x1x128x128.size (inbS k h hk hh)).toLoadRect (I.harg4.unread I.x3)
def lV (k : ℕ) (hk : k < 4) (h : ℕ) (hh : h < 8) : Vec F S64x128 .f32 :=
  View.readAt (Elt F) I.arg5.view (Rect.unit (s := S256x1024) ![64 * k, 128 * h] S64x128.size (inbV k h hk hh)).toLoadRect (I.harg5.unread I.x4)
def lO (k : ℕ) (hk : k < 4) (h : ℕ) (hh : h < 8) : Vec F S64x128 .f32 :=
  View.readAt (Elt F) I.arg6.view (Rect.unit (s := S256x1024) ![64 * k, 128 * h] S64x128.size (inbV k h hk hh)).toLoadRect (I.harg6.unread I.x5)

/-- The gradients of the states, loaded from the writes `L` of the scratch `a`. -/
def covD (a : Memref sig .tc .vmem S8x128x128 .f32) (L : List (View.Piece (Elt F) S8x128x128 .f32)) : DsV F := fun h hh =>
  a.view.readCov L (Rect.unit (s := S8x128x128) ![h, 0, 0] S1x128x128.size (inbD h hh)).toLoadRect

variable (k : ℕ) (hk : k < 4) (D : DsV F)

def dsL : List (View.Piece (Elt F) S8x128x128 .f32) := heads fun h hh =>
  ⟨Rect.unit (s := S8x128x128) ![h, 0, 0] S1x128x128.size (inbD h hh),
    uDs h (slcH h hh) (lA I k hk h hh) (lK I k hk h hh) (lO I k hk h hh) (D h hh) (lW I k hk h hh) (lG I k hk)⟩
def dvL : List (View.Piece (Elt F) S256x1024 .f32) := heads fun h hh =>
  ⟨Rect.unit (s := S256x1024) ![64 * k, 128 * h] S64x128.size (inbV k h hk hh), uDv (lA I k hk h hh) (lK I k hk h hh) (lO I k hk h hh) (D h hh)⟩
def dwL : List (View.Piece (Elt F) S256x1024 .f32) := heads fun h hh =>
  ⟨Rect.unit (s := S256x1024) ![64 * k, 128 * h] S64x128.size (inbV k h hk hh),
    uDw (lA I k hk h hh) (lK I k hk h hh) (lO I k hk h hh) (D h hh) (lS I k hk h hh)⟩
def dqL : List (View.Piece (Elt F) S256x1024 .f32) := heads fun h hh =>
  ⟨Rect.unit (s := S256x1024) ![64 * k, 128 * h] S64x128.size (inbV k h hk hh),
    uDq (lA I k hk h hh) (lK I k hk h hh) (lO I k hk h hh) (D h hh) (lS I k hk h hh)⟩
def dkL : List (View.Piece (Elt F) S256x1024 .f32) := heads fun h hh =>
  ⟨Rect.unit (s := S256x1024) ![64 * k, 128 * h] S64x128.size (inbV k h hk hh), uDk (lV I k hk h hh) (D h hh)⟩
def daL : List (View.Piece (Elt F) S8x4x64x64 .f32) := heads fun h hh =>
  ⟨Rect.unit (s := S8x4x64x64) ![h, k, 0, 0] S1x1x64x64.size (inbA k h hk hh), uDa (lV I k hk h hh) (lO I k hk h hh)⟩
def dgL : List (View.Piece (Elt F) S8x4x1x128 .f32) := heads fun h hh =>
  ⟨Rect.unit (s := S8x4x1x128) ![h, k, 0, 0] S1x1x1x128.size (inbR k h hk hh), uDg h (slcH h hh) (D h hh) (lS I k hk h hh) (lG I k hk)⟩
end Lists

section A
variable {F : FTy → Type} [FloatOps F] (c : Dev nD) (i : grid0.Coords)
  (arg1 : Memref sig .tc .vmem S8x768x128 .f32) (harg1 : arg1.IsWhole)
  (arg2 : Memref sig .tc .vmem S8x4x64x64 .f32) (harg2 : arg2.IsWhole)
  (arg3 : Memref sig .tc .vmem S256x128 .f32) (harg3 : arg3.IsWhole)
  (arg4 : Memref sig .tc .vmem S8x4x128x128 .f32) (harg4 : arg4.IsWhole)
  (arg5 : Memref sig .tc .vmem S256x1024 .f32) (harg5 : arg5.IsWhole)
  (arg6 : Memref sig .tc .vmem S256x1024 .f32) (harg6 : arg6.IsWhole)
  (arg8 : Memref sig .tc .vmem S256x1024 .f32) (harg8 : arg8.IsWhole)
  (arg9 : Memref sig .tc .vmem S256x1024 .f32) (harg9 : arg9.IsWhole)
  (arg10 : Memref sig .tc .vmem S256x1024 .f32) (harg10 : arg10.IsWhole)
  (arg11 : Memref sig .tc .vmem S256x1024 .f32) (harg11 : arg11.IsWhole)
  (arg12 : Memref sig .tc .vmem S8x4x64x64 .f32) (harg12 : arg12.IsWhole)
  (arg13 : Memref sig .tc .vmem S8x4x1x128 .f32) (harg13 : arg13.IsWhole)
  (arg14 : Memref sig .tc .vmem S8x128x128 .f32) (harg14 : arg14.IsWhole)
  (x0 : Vec F S8x768x128 .f32) (x1 : Vec F S8x4x64x64 .f32) (x2 : Vec F S256x128 .f32) (x3 : Vec F S8x4x128x128 .f32)
  (x4 : Vec F S256x1024 .f32) (x5 : Vec F S256x1024 .f32)

/-- The inputs of the point. -/
abbrev insA : Ins F := ⟨arg1, harg1, arg2, harg2, arg3, harg3, arg4, harg4, arg5, harg5, arg6, harg6, x0, x1, x2, x3, x4, x5⟩

theorem HSA_1 : kernelRun0_A.sl.HS0_9 c arg1 harg1 arg2 harg2 arg3 harg3 arg6 harg6 arg14 x0 x1 x2 x5 =
    dsL (insA arg1 harg1 arg2 harg2 arg3 harg3 arg4 harg4 arg5 harg5 arg6 harg6 x0 x1 x2 x3 x4 x5) 3 (by decide) (covD arg14 kernelRun0_A.sl.HS0_1) ++ kernelRun0_A.sl.HS0_1 := by
  sl_kernel_rfl

theorem HSA_2 : kernelRun0_A.sl.HS0_17 c arg1 harg1 arg2 harg2 arg3 harg3 arg6 harg6 arg14 x0 x1 x2 x5 =
    dsL (insA arg1 harg1 arg2 harg2 arg3 harg3 arg4 harg4 arg5 harg5 arg6 harg6 x0 x1 x2 x3 x4 x5) 2 (by decide) (covD arg14 (kernelRun0_A.sl.HS0_9 c arg1 harg1 arg2 harg2 arg3 harg3 arg6 harg6 arg14 x0 x1 x2 x5)) ++ kernelRun0_A.sl.HS0_9 c arg1 harg1 arg2 harg2 arg3 harg3 arg6 harg6 arg14 x0 x1 x2 x5 := by
  sl_kernel_rfl

theorem HSA_3 : kernelRun0_A.sl.HS0_25 c arg1 harg1 arg2 harg2 arg3 harg3 arg6 harg6 arg14 x0 x1 x2 x5 =
    dsL (insA arg1 harg1 arg2 harg2 arg3 harg3 arg4 harg4 arg5 harg5 arg6 harg6 x0 x1 x2 x3 x4 x5) 1 (by decide) (covD arg14 (kernelRun0_A.sl.HS0_17 c arg1 harg1 arg2 harg2 arg3 harg3 arg6 harg6 arg14 x0 x1 x2 x5)) ++ kernelRun0_A.sl.HS0_17 c arg1 harg1 arg2 harg2 arg3 harg3 arg6 harg6 arg14 x0 x1 x2 x5 := by
  sl_kernel_rfl

theorem runA_dvL (hc : cond0_0 i) : (kernelRun0_A c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5).1 =
    dvL (insA arg1 harg1 arg2 harg2 arg3 harg3 arg4 harg4 arg5 harg5 arg6 harg6 x0 x1 x2 x3 x4 x5) 0 (by decide)
      (covD arg14 (kernelRun0_A.sl.HS0_25 c arg1 harg1 arg2 harg2 arg3 harg3 arg6 harg6 arg14 x0 x1 x2 x5)) ++ (dvL (insA arg1 harg1 arg2 harg2 arg3 harg3 arg4 harg4 arg5 harg5 arg6 harg6 x0 x1 x2 x3 x4 x5) 1 (by decide)
      (covD arg14 (kernelRun0_A.sl.HS0_17 c arg1 harg1 arg2 harg2 arg3 harg3 arg6 harg6 arg14 x0 x1 x2 x5)) ++ (dvL (insA arg1 harg1 arg2 harg2 arg3 harg3 arg4 harg4 arg5 harg5 arg6 harg6 x0 x1 x2 x3 x4 x5) 2 (by decide)
      (covD arg14 (kernelRun0_A.sl.HS0_9 c arg1 harg1 arg2 harg2 arg3 harg3 arg6 harg6 arg14 x0 x1 x2 x5)) ++ dvL (insA arg1 harg1 arg2 harg2 arg3 harg3 arg4 harg4 arg5 harg5 arg6 harg6 x0 x1 x2 x3 x4 x5) 3 (by decide)
      (covD arg14 kernelRun0_A.sl.HS0_1))) := by
  sl_kernel_rfl

theorem runA_dwL (hc : cond0_0 i) : (kernelRun0_A c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5).2.1 =
    dwL (insA arg1 harg1 arg2 harg2 arg3 harg3 arg4 harg4 arg5 harg5 arg6 harg6 x0 x1 x2 x3 x4 x5) 0 (by decide)
      (covD arg14 (kernelRun0_A.sl.HS0_25 c arg1 harg1 arg2 harg2 arg3 harg3 arg6 harg6 arg14 x0 x1 x2 x5)) ++ (dwL (insA arg1 harg1 arg2 harg2 arg3 harg3 arg4 harg4 arg5 harg5 arg6 harg6 x0 x1 x2 x3 x4 x5) 1 (by decide)
      (covD arg14 (kernelRun0_A.sl.HS0_17 c arg1 harg1 arg2 harg2 arg3 harg3 arg6 harg6 arg14 x0 x1 x2 x5)) ++ (dwL (insA arg1 harg1 arg2 harg2 arg3 harg3 arg4 harg4 arg5 harg5 arg6 harg6 x0 x1 x2 x3 x4 x5) 2 (by decide)
      (covD arg14 (kernelRun0_A.sl.HS0_9 c arg1 harg1 arg2 harg2 arg3 harg3 arg6 harg6 arg14 x0 x1 x2 x5)) ++ dwL (insA arg1 harg1 arg2 harg2 arg3 harg3 arg4 harg4 arg5 harg5 arg6 harg6 x0 x1 x2 x3 x4 x5) 3 (by decide)
      (covD arg14 kernelRun0_A.sl.HS0_1))) := by
  sl_kernel_rfl

theorem runA_dqL (hc : cond0_0 i) : (kernelRun0_A c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5).2.2.1 =
    dqL (insA arg1 harg1 arg2 harg2 arg3 harg3 arg4 harg4 arg5 harg5 arg6 harg6 x0 x1 x2 x3 x4 x5) 0 (by decide)
      (covD arg14 (kernelRun0_A.sl.HS0_25 c arg1 harg1 arg2 harg2 arg3 harg3 arg6 harg6 arg14 x0 x1 x2 x5)) ++ (dqL (insA arg1 harg1 arg2 harg2 arg3 harg3 arg4 harg4 arg5 harg5 arg6 harg6 x0 x1 x2 x3 x4 x5) 1 (by decide)
      (covD arg14 (kernelRun0_A.sl.HS0_17 c arg1 harg1 arg2 harg2 arg3 harg3 arg6 harg6 arg14 x0 x1 x2 x5)) ++ (dqL (insA arg1 harg1 arg2 harg2 arg3 harg3 arg4 harg4 arg5 harg5 arg6 harg6 x0 x1 x2 x3 x4 x5) 2 (by decide)
      (covD arg14 (kernelRun0_A.sl.HS0_9 c arg1 harg1 arg2 harg2 arg3 harg3 arg6 harg6 arg14 x0 x1 x2 x5)) ++ dqL (insA arg1 harg1 arg2 harg2 arg3 harg3 arg4 harg4 arg5 harg5 arg6 harg6 x0 x1 x2 x3 x4 x5) 3 (by decide)
      (covD arg14 kernelRun0_A.sl.HS0_1))) := by
  sl_kernel_rfl

theorem runA_dkL (hc : cond0_0 i) : (kernelRun0_A c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5).2.2.2.1 =
    dkL (insA arg1 harg1 arg2 harg2 arg3 harg3 arg4 harg4 arg5 harg5 arg6 harg6 x0 x1 x2 x3 x4 x5) 0 (by decide)
      (covD arg14 (kernelRun0_A.sl.HS0_25 c arg1 harg1 arg2 harg2 arg3 harg3 arg6 harg6 arg14 x0 x1 x2 x5)) ++ (dkL (insA arg1 harg1 arg2 harg2 arg3 harg3 arg4 harg4 arg5 harg5 arg6 harg6 x0 x1 x2 x3 x4 x5) 1 (by decide)
      (covD arg14 (kernelRun0_A.sl.HS0_17 c arg1 harg1 arg2 harg2 arg3 harg3 arg6 harg6 arg14 x0 x1 x2 x5)) ++ (dkL (insA arg1 harg1 arg2 harg2 arg3 harg3 arg4 harg4 arg5 harg5 arg6 harg6 x0 x1 x2 x3 x4 x5) 2 (by decide)
      (covD arg14 (kernelRun0_A.sl.HS0_9 c arg1 harg1 arg2 harg2 arg3 harg3 arg6 harg6 arg14 x0 x1 x2 x5)) ++ dkL (insA arg1 harg1 arg2 harg2 arg3 harg3 arg4 harg4 arg5 harg5 arg6 harg6 x0 x1 x2 x3 x4 x5) 3 (by decide)
      (covD arg14 kernelRun0_A.sl.HS0_1))) := by
  sl_kernel_rfl

theorem runA_daL (hc : cond0_0 i) : (kernelRun0_A c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5).2.2.2.2.1 =
    daL (insA arg1 harg1 arg2 harg2 arg3 harg3 arg4 harg4 arg5 harg5 arg6 harg6 x0 x1 x2 x3 x4 x5) 0 (by decide) ++ (daL (insA arg1 harg1 arg2 harg2 arg3 harg3 arg4 harg4 arg5 harg5 arg6 harg6 x0 x1 x2 x3 x4 x5) 1 (by decide) ++ (daL (insA arg1 harg1 arg2 harg2 arg3 harg3 arg4 harg4 arg5 harg5 arg6 harg6 x0 x1 x2 x3 x4 x5) 2 (by decide) ++ daL (insA arg1 harg1 arg2 harg2 arg3 harg3 arg4 harg4 arg5 harg5 arg6 harg6 x0 x1 x2 x3 x4 x5) 3 (by decide))) := by
  sl_kernel_rfl

theorem runA_dgL (hc : cond0_0 i) : (kernelRun0_A c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5).2.2.2.2.2.1 =
    dgL (insA arg1 harg1 arg2 harg2 arg3 harg3 arg4 harg4 arg5 harg5 arg6 harg6 x0 x1 x2 x3 x4 x5) 0 (by decide)
      (covD arg14 (kernelRun0_A.sl.HS0_25 c arg1 harg1 arg2 harg2 arg3 harg3 arg6 harg6 arg14 x0 x1 x2 x5)) ++ (dgL (insA arg1 harg1 arg2 harg2 arg3 harg3 arg4 harg4 arg5 harg5 arg6 harg6 x0 x1 x2 x3 x4 x5) 1 (by decide)
      (covD arg14 (kernelRun0_A.sl.HS0_17 c arg1 harg1 arg2 harg2 arg3 harg3 arg6 harg6 arg14 x0 x1 x2 x5)) ++ (dgL (insA arg1 harg1 arg2 harg2 arg3 harg3 arg4 harg4 arg5 harg5 arg6 harg6 x0 x1 x2 x3 x4 x5) 2 (by decide)
      (covD arg14 (kernelRun0_A.sl.HS0_9 c arg1 harg1 arg2 harg2 arg3 harg3 arg6 harg6 arg14 x0 x1 x2 x5)) ++ dgL (insA arg1 harg1 arg2 harg2 arg3 harg3 arg4 harg4 arg5 harg5 arg6 harg6 x0 x1 x2 x3 x4 x5) 3 (by decide)
      (covD arg14 kernelRun0_A.sl.HS0_1))) := by
  sl_kernel_rfl

theorem runA_dsL (hc : cond0_0 i) : (kernelRun0_A c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5).2.2.2.2.2.2.1 =
    dsL (insA arg1 harg1 arg2 harg2 arg3 harg3 arg4 harg4 arg5 harg5 arg6 harg6 x0 x1 x2 x3 x4 x5) 0 (by decide) (covD arg14 (kernelRun0_A.sl.HS0_25 c arg1 harg1 arg2 harg2 arg3 harg3 arg6 harg6 arg14 x0 x1 x2 x5)) ++ kernelRun0_A.sl.HS0_25 c arg1 harg1 arg2 harg2 arg3 harg3 arg6 harg6 arg14 x0 x1 x2 x5 := by
  sl_kernel_rfl
end A

section B
variable {F : FTy → Type} [FloatOps F] (c : Dev nD) (i : grid0.Coords)
  (arg1 : Memref sig .tc .vmem S8x768x128 .f32) (harg1 : arg1.IsWhole)
  (arg2 : Memref sig .tc .vmem S8x4x64x64 .f32) (harg2 : arg2.IsWhole)
  (arg3 : Memref sig .tc .vmem S256x128 .f32) (harg3 : arg3.IsWhole)
  (arg4 : Memref sig .tc .vmem S8x4x128x128 .f32) (harg4 : arg4.IsWhole)
  (arg5 : Memref sig .tc .vmem S256x1024 .f32) (harg5 : arg5.IsWhole)
  (arg6 : Memref sig .tc .vmem S256x1024 .f32) (harg6 : arg6.IsWhole)
  (arg8 : Memref sig .tc .vmem S256x1024 .f32) (harg8 : arg8.IsWhole)
  (arg9 : Memref sig .tc .vmem S256x1024 .f32) (harg9 : arg9.IsWhole)
  (arg10 : Memref sig .tc .vmem S256x1024 .f32) (harg10 : arg10.IsWhole)
  (arg11 : Memref sig .tc .vmem S256x1024 .f32) (harg11 : arg11.IsWhole)
  (arg12 : Memref sig .tc .vmem S8x4x64x64 .f32) (harg12 : arg12.IsWhole)
  (arg13 : Memref sig .tc .vmem S8x4x1x128 .f32) (harg13 : arg13.IsWhole)
  (arg14 : Memref sig .tc .vmem S8x128x128 .f32) (harg14 : arg14.IsWhole)
  (x0 : Vec F S8x768x128 .f32) (x1 : Vec F S8x4x64x64 .f32) (x2 : Vec F S256x128 .f32) (x3 : Vec F S8x4x128x128 .f32)
  (x4 : Vec F S256x1024 .f32) (x5 : Vec F S256x1024 .f32)
  (xs0 : Vec F S8x128x128 .f32)

theorem HSB_1 : kernelRun0_B.sl.HS0_8 c arg1 harg1 arg2 harg2 arg3 harg3 arg6 harg6 arg14 harg14 x0 x1 x2 x5 xs0 =
    dsL (insA arg1 harg1 arg2 harg2 arg3 harg3 arg4 harg4 arg5 harg5 arg6 harg6 x0 x1 x2 x3 x4 x5) 3 (by decide) (fun h hh => View.readAt (Elt F) arg14.view (Rect.unit (s := S8x128x128) ![h, 0, 0] S1x128x128.size (inbD h hh)).toLoadRect (harg14.unread xs0)) ++ [] := by
  sl_kernel_rfl

theorem HSB_2 : kernelRun0_B.sl.HS0_16 c arg1 harg1 arg2 harg2 arg3 harg3 arg6 harg6 arg14 harg14 x0 x1 x2 x5 xs0 =
    dsL (insA arg1 harg1 arg2 harg2 arg3 harg3 arg4 harg4 arg5 harg5 arg6 harg6 x0 x1 x2 x3 x4 x5) 2 (by decide) (covD arg14 (kernelRun0_B.sl.HS0_8 c arg1 harg1 arg2 harg2 arg3 harg3 arg6 harg6 arg14 harg14 x0 x1 x2 x5 xs0)) ++ kernelRun0_B.sl.HS0_8 c arg1 harg1 arg2 harg2 arg3 harg3 arg6 harg6 arg14 harg14 x0 x1 x2 x5 xs0 := by
  sl_kernel_rfl

theorem HSB_3 : kernelRun0_B.sl.HS0_24 c arg1 harg1 arg2 harg2 arg3 harg3 arg6 harg6 arg14 harg14 x0 x1 x2 x5 xs0 =
    dsL (insA arg1 harg1 arg2 harg2 arg3 harg3 arg4 harg4 arg5 harg5 arg6 harg6 x0 x1 x2 x3 x4 x5) 1 (by decide) (covD arg14 (kernelRun0_B.sl.HS0_16 c arg1 harg1 arg2 harg2 arg3 harg3 arg6 harg6 arg14 harg14 x0 x1 x2 x5 xs0)) ++ kernelRun0_B.sl.HS0_16 c arg1 harg1 arg2 harg2 arg3 harg3 arg6 harg6 arg14 harg14 x0 x1 x2 x5 xs0 := by
  sl_kernel_rfl

theorem runB_dvL (hc : ¬cond0_0 i) : (kernelRun0_B c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 xs0).1 =
    dvL (insA arg1 harg1 arg2 harg2 arg3 harg3 arg4 harg4 arg5 harg5 arg6 harg6 x0 x1 x2 x3 x4 x5) 0 (by decide)
      (covD arg14 (kernelRun0_B.sl.HS0_24 c arg1 harg1 arg2 harg2 arg3 harg3 arg6 harg6 arg14 harg14 x0 x1 x2 x5 xs0)) ++ (dvL (insA arg1 harg1 arg2 harg2 arg3 harg3 arg4 harg4 arg5 harg5 arg6 harg6 x0 x1 x2 x3 x4 x5) 1 (by decide)
      (covD arg14 (kernelRun0_B.sl.HS0_16 c arg1 harg1 arg2 harg2 arg3 harg3 arg6 harg6 arg14 harg14 x0 x1 x2 x5 xs0)) ++ (dvL (insA arg1 harg1 arg2 harg2 arg3 harg3 arg4 harg4 arg5 harg5 arg6 harg6 x0 x1 x2 x3 x4 x5) 2 (by decide)
      (covD arg14 (kernelRun0_B.sl.HS0_8 c arg1 harg1 arg2 harg2 arg3 harg3 arg6 harg6 arg14 harg14 x0 x1 x2 x5 xs0)) ++ dvL (insA arg1 harg1 arg2 harg2 arg3 harg3 arg4 harg4 arg5 harg5 arg6 harg6 x0 x1 x2 x3 x4 x5) 3 (by decide)
      (fun h hh => View.readAt (Elt F) arg14.view (Rect.unit (s := S8x128x128) ![h, 0, 0] S1x128x128.size (inbD h hh)).toLoadRect (harg14.unread xs0)))) := by
  sl_kernel_rfl

theorem runB_dwL (hc : ¬cond0_0 i) : (kernelRun0_B c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 xs0).2.1 =
    dwL (insA arg1 harg1 arg2 harg2 arg3 harg3 arg4 harg4 arg5 harg5 arg6 harg6 x0 x1 x2 x3 x4 x5) 0 (by decide)
      (covD arg14 (kernelRun0_B.sl.HS0_24 c arg1 harg1 arg2 harg2 arg3 harg3 arg6 harg6 arg14 harg14 x0 x1 x2 x5 xs0)) ++ (dwL (insA arg1 harg1 arg2 harg2 arg3 harg3 arg4 harg4 arg5 harg5 arg6 harg6 x0 x1 x2 x3 x4 x5) 1 (by decide)
      (covD arg14 (kernelRun0_B.sl.HS0_16 c arg1 harg1 arg2 harg2 arg3 harg3 arg6 harg6 arg14 harg14 x0 x1 x2 x5 xs0)) ++ (dwL (insA arg1 harg1 arg2 harg2 arg3 harg3 arg4 harg4 arg5 harg5 arg6 harg6 x0 x1 x2 x3 x4 x5) 2 (by decide)
      (covD arg14 (kernelRun0_B.sl.HS0_8 c arg1 harg1 arg2 harg2 arg3 harg3 arg6 harg6 arg14 harg14 x0 x1 x2 x5 xs0)) ++ dwL (insA arg1 harg1 arg2 harg2 arg3 harg3 arg4 harg4 arg5 harg5 arg6 harg6 x0 x1 x2 x3 x4 x5) 3 (by decide)
      (fun h hh => View.readAt (Elt F) arg14.view (Rect.unit (s := S8x128x128) ![h, 0, 0] S1x128x128.size (inbD h hh)).toLoadRect (harg14.unread xs0)))) := by
  sl_kernel_rfl

theorem runB_dqL (hc : ¬cond0_0 i) : (kernelRun0_B c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 xs0).2.2.1 =
    dqL (insA arg1 harg1 arg2 harg2 arg3 harg3 arg4 harg4 arg5 harg5 arg6 harg6 x0 x1 x2 x3 x4 x5) 0 (by decide)
      (covD arg14 (kernelRun0_B.sl.HS0_24 c arg1 harg1 arg2 harg2 arg3 harg3 arg6 harg6 arg14 harg14 x0 x1 x2 x5 xs0)) ++ (dqL (insA arg1 harg1 arg2 harg2 arg3 harg3 arg4 harg4 arg5 harg5 arg6 harg6 x0 x1 x2 x3 x4 x5) 1 (by decide)
      (covD arg14 (kernelRun0_B.sl.HS0_16 c arg1 harg1 arg2 harg2 arg3 harg3 arg6 harg6 arg14 harg14 x0 x1 x2 x5 xs0)) ++ (dqL (insA arg1 harg1 arg2 harg2 arg3 harg3 arg4 harg4 arg5 harg5 arg6 harg6 x0 x1 x2 x3 x4 x5) 2 (by decide)
      (covD arg14 (kernelRun0_B.sl.HS0_8 c arg1 harg1 arg2 harg2 arg3 harg3 arg6 harg6 arg14 harg14 x0 x1 x2 x5 xs0)) ++ dqL (insA arg1 harg1 arg2 harg2 arg3 harg3 arg4 harg4 arg5 harg5 arg6 harg6 x0 x1 x2 x3 x4 x5) 3 (by decide)
      (fun h hh => View.readAt (Elt F) arg14.view (Rect.unit (s := S8x128x128) ![h, 0, 0] S1x128x128.size (inbD h hh)).toLoadRect (harg14.unread xs0)))) := by
  sl_kernel_rfl

theorem runB_dkL (hc : ¬cond0_0 i) : (kernelRun0_B c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 xs0).2.2.2.1 =
    dkL (insA arg1 harg1 arg2 harg2 arg3 harg3 arg4 harg4 arg5 harg5 arg6 harg6 x0 x1 x2 x3 x4 x5) 0 (by decide)
      (covD arg14 (kernelRun0_B.sl.HS0_24 c arg1 harg1 arg2 harg2 arg3 harg3 arg6 harg6 arg14 harg14 x0 x1 x2 x5 xs0)) ++ (dkL (insA arg1 harg1 arg2 harg2 arg3 harg3 arg4 harg4 arg5 harg5 arg6 harg6 x0 x1 x2 x3 x4 x5) 1 (by decide)
      (covD arg14 (kernelRun0_B.sl.HS0_16 c arg1 harg1 arg2 harg2 arg3 harg3 arg6 harg6 arg14 harg14 x0 x1 x2 x5 xs0)) ++ (dkL (insA arg1 harg1 arg2 harg2 arg3 harg3 arg4 harg4 arg5 harg5 arg6 harg6 x0 x1 x2 x3 x4 x5) 2 (by decide)
      (covD arg14 (kernelRun0_B.sl.HS0_8 c arg1 harg1 arg2 harg2 arg3 harg3 arg6 harg6 arg14 harg14 x0 x1 x2 x5 xs0)) ++ dkL (insA arg1 harg1 arg2 harg2 arg3 harg3 arg4 harg4 arg5 harg5 arg6 harg6 x0 x1 x2 x3 x4 x5) 3 (by decide)
      (fun h hh => View.readAt (Elt F) arg14.view (Rect.unit (s := S8x128x128) ![h, 0, 0] S1x128x128.size (inbD h hh)).toLoadRect (harg14.unread xs0)))) := by
  sl_kernel_rfl

theorem runB_daL (hc : ¬cond0_0 i) : (kernelRun0_B c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 xs0).2.2.2.2.1 =
    daL (insA arg1 harg1 arg2 harg2 arg3 harg3 arg4 harg4 arg5 harg5 arg6 harg6 x0 x1 x2 x3 x4 x5) 0 (by decide) ++ (daL (insA arg1 harg1 arg2 harg2 arg3 harg3 arg4 harg4 arg5 harg5 arg6 harg6 x0 x1 x2 x3 x4 x5) 1 (by decide) ++ (daL (insA arg1 harg1 arg2 harg2 arg3 harg3 arg4 harg4 arg5 harg5 arg6 harg6 x0 x1 x2 x3 x4 x5) 2 (by decide) ++ daL (insA arg1 harg1 arg2 harg2 arg3 harg3 arg4 harg4 arg5 harg5 arg6 harg6 x0 x1 x2 x3 x4 x5) 3 (by decide))) := by
  sl_kernel_rfl

theorem runB_dgL (hc : ¬cond0_0 i) : (kernelRun0_B c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 xs0).2.2.2.2.2.1 =
    dgL (insA arg1 harg1 arg2 harg2 arg3 harg3 arg4 harg4 arg5 harg5 arg6 harg6 x0 x1 x2 x3 x4 x5) 0 (by decide)
      (covD arg14 (kernelRun0_B.sl.HS0_24 c arg1 harg1 arg2 harg2 arg3 harg3 arg6 harg6 arg14 harg14 x0 x1 x2 x5 xs0)) ++ (dgL (insA arg1 harg1 arg2 harg2 arg3 harg3 arg4 harg4 arg5 harg5 arg6 harg6 x0 x1 x2 x3 x4 x5) 1 (by decide)
      (covD arg14 (kernelRun0_B.sl.HS0_16 c arg1 harg1 arg2 harg2 arg3 harg3 arg6 harg6 arg14 harg14 x0 x1 x2 x5 xs0)) ++ (dgL (insA arg1 harg1 arg2 harg2 arg3 harg3 arg4 harg4 arg5 harg5 arg6 harg6 x0 x1 x2 x3 x4 x5) 2 (by decide)
      (covD arg14 (kernelRun0_B.sl.HS0_8 c arg1 harg1 arg2 harg2 arg3 harg3 arg6 harg6 arg14 harg14 x0 x1 x2 x5 xs0)) ++ dgL (insA arg1 harg1 arg2 harg2 arg3 harg3 arg4 harg4 arg5 harg5 arg6 harg6 x0 x1 x2 x3 x4 x5) 3 (by decide)
      (fun h hh => View.readAt (Elt F) arg14.view (Rect.unit (s := S8x128x128) ![h, 0, 0] S1x128x128.size (inbD h hh)).toLoadRect (harg14.unread xs0)))) := by
  sl_kernel_rfl

theorem runB_dsL (hc : ¬cond0_0 i) : (kernelRun0_B c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 xs0).2.2.2.2.2.2.1 =
    dsL (insA arg1 harg1 arg2 harg2 arg3 harg3 arg4 harg4 arg5 harg5 arg6 harg6 x0 x1 x2 x3 x4 x5) 0 (by decide) (covD arg14 (kernelRun0_B.sl.HS0_24 c arg1 harg1 arg2 harg2 arg3 harg3 arg6 harg6 arg14 harg14 x0 x1 x2 x5 xs0)) ++ kernelRun0_B.sl.HS0_24 c arg1 harg1 arg2 harg2 arg3 harg3 arg6 harg6 arg14 harg14 x0 x1 x2 x5 xs0 := by
  sl_kernel_rfl
end B

end Cert.KernelIdeal.Val

end
-- ==== Proof.RegionVal.lean ====
/- What one point of the kernel's grid leaves, over the reals: the block's four chunks in the reversed order of time, each state's
   gradient from the one of the chunk after it. -/
module

public import proofs.«01_k».proof.Proof.Region

@[expose] public section

set_option maxRecDepth 16384

noncomputable section

namespace Cert.KernelIdeal.Val

open Idealize.ShloMosaic Cert.Spec Cert.KernelIdeal.Gen
open scoped BigOperators

/-- The real matrices that a point's input blocks hold. -/
structure Blocks where
  (X0 : ℕ → ℕ → ℕ → ℝ) (X1 : ℕ → ℕ → ℕ → ℕ → ℝ) (X2 : ℕ → ℕ → ℝ) (X3 : ℕ → ℕ → ℕ → ℕ → ℝ) (X4 X5 : ℕ → ℕ → ℝ)

/-- Chunk `k` of the block, head `h`. -/
def Blocks.chunk (B : Blocks) (k h : ℕ) : Chunk where
  w r d := B.X0 h (192 * k + r) d
  q r d := B.X0 h (192 * k + 64 + r) d
  k r d := B.X0 h (192 * k + 128 + r) d
  a r j := B.X1 h k r j
  gl := Real.exp (∑ r : Fin 64, B.X2 (64 * k + r) h)
  S d e := B.X3 h k d e
  v r e := B.X4 (64 * k + r) (128 * h + e)
  o r e := B.X5 (64 * k + r) (128 * h + e)

/-- The states' gradients after the last `n` chunks of the block, from those that the block is entered with. -/
def Blocks.grad (B : Blocks) (D : ℕ → Mat) : ℕ → ℕ → Mat
  | 0, h => D h
  | n + 1, h => (B.chunk (3 - n) h).dS (B.grad D n h)

/-- The blocks hold the real matrices. -/
structure Holds (I : Ins Ideal) (B : Blocks) : Prop where
  h0 : ∀ j, I.x0 j = (B.X0 (j 0) (j 1) (j 2) : EReal)
  h1 : ∀ j, I.x1 j = (B.X1 (j 0) (j 1) (j 2) (j 3) : EReal)
  h2 : ∀ j, I.x2 j = (B.X2 (j 0) (j 1) : EReal)
  h3 : ∀ j, I.x3 j = (B.X3 (j 0) (j 1) (j 2) (j 3) : EReal)
  h4 : ∀ j, I.x4 j = (B.X4 (j 0) (j 1) : EReal)
  h5 : ∀ j, I.x5 j = (B.X5 (j 0) (j 1) : EReal)

/-- The loaded gradients hold `D`. -/
def HoldsD (Ds : DsV Ideal) (D : ℕ → Mat) : Prop := ∀ h hh j, Ds h hh j = (D h (j 1) (j 2) : EReal)

/-- A load through a rectangle of a whole buffer, at an index. -/
theorem load_apply {s : Shape} (a : Memref sig .tc .vmem s .f32) (ha : a.IsWhole) (x : Vec Ideal s .f32) (r : Rect s) (j : r.shape.Idx) :
    View.readAt (Elt Ideal) a.view r.toLoadRect (ha.unread x) j = x (r.emb j) := by
  rw [View.readAt_eq_ld, ha.read_unread]; rfl

theorem emb_mem {s : Shape} (r : Rect s) (x : r.shape.Idx) : r.emb x ∈ r.set := by
  rw [← Rect.map_emb_univ]; exact Finset.mem_map_of_mem _ (Finset.mem_univ x)

theorem emb_val {s : Shape} {off size : Fin s.rank → ℕ} {inb : ∀ a, off a + size a ≤ s.size a} (j : (Rect.unit off size inb).shape.Idx)
    (a : Fin s.rank) : (((Rect.unit off size inb).emb j) a).val = off a + (j a).val := by
  show off a + 1 * (j a).val = _
  rw [one_mul]

theorem heads_mem {α : Type} (f : (h : ℕ) → h < 8 → α) (h : ℕ) (hh : h < 8) : f h hh ∈ heads f := by
  interval_cases h <;> simp [heads]

/-! ## The block's results -/

section Results
variable (B : Blocks) (D : ℕ → Mat)
/-- The gradient of the corrected values of the block's chunk and head, at a row and a column of the block. -/
def Blocks.dv (a b : ℕ) : ℝ := (B.chunk (a / 64) (b / 128)).dv (B.grad D (3 - a / 64) (b / 128)) (a % 64) (b % 128)
def Blocks.dw (a b : ℕ) : ℝ := (B.chunk (a / 64) (b / 128)).dw (B.grad D (3 - a / 64) (b / 128)) (a % 64) (b % 128)
def Blocks.dq (a b : ℕ) : ℝ := (B.chunk (a / 64) (b / 128)).dq (a % 64) (b % 128)
def Blocks.dk (a b : ℕ) : ℝ := (B.chunk (a / 64) (b / 128)).dk (B.grad D (3 - a / 64) (b / 128)) (a % 64) (b % 128)
def Blocks.da (h k r j : ℕ) : ℝ := (B.chunk k h).da r j
def Blocks.dg (h k : ℕ) : ℝ := (B.chunk k h).dg (B.grad D (3 - k) h)
end Results

theorem split64 (k r : ℕ) (hr : r < 64) : (64 * k + 1 * r) / 64 = k ∧ (64 * k + 1 * r) % 64 = r := by omega
theorem split128 (k r : ℕ) (hr : r < 128) : (128 * k + 1 * r) / 128 = k ∧ (128 * k + 1 * r) % 128 = r := by omega

section
variable {I : Ins Ideal} {B : Blocks} (H : Holds I B)
include H

theorem Holds.loads {Ds : DsV Ideal} {D : ℕ → Mat} (hD : HoldsD Ds D) (k : ℕ) (hk : k < 4) (h : ℕ) (hh : h < 8) :
    Loads (B.chunk k h) (D h) (lA I k hk h hh) (lK I k hk h hh) (lV I k hk h hh) (lO I k hk h hh) (Ds h hh) (lS I k hk h hh)
      (lW I k hk h hh) where
  hA j := by
    have e0 : (j 0).val = 0 := Nat.lt_one_iff.mp (j 0).isLt
    have e1 : (j 1).val = 0 := Nat.lt_one_iff.mp (j 1).isLt
    unfold lA
    refine (load_apply _ _ _ (Rect.unit _ _ _) j).trans ((H.h1 _).trans ?_)
    show ((B.X1 (h + 1 * (j 0).val) (k + 1 * (j 1).val) (0 + 1 * (j 2).val) (0 + 1 * (j 3).val) : ℝ) : EReal) = _
    simp only [one_mul, e0, e1, add_zero, zero_add]; rfl
  hK j := by
    have e0 : (j 0).val = 0 := Nat.lt_one_iff.mp (j 0).isLt
    unfold lK
    refine (load_apply _ _ _ (Rect.unit _ _ _) j).trans ((H.h0 _).trans ?_)
    show ((B.X0 (h + 1 * (j 0).val) (192 * k + 128 + 1 * (j 1).val) (0 + 1 * (j 2).val) : ℝ) : EReal) = _
    simp only [one_mul, e0, add_zero, zero_add]; rfl
  hV j := by
    unfold lV
    refine (load_apply _ _ _ (Rect.unit _ _ _) j).trans ((H.h4 _).trans ?_)
    show ((B.X4 (64 * k + 1 * (j 0).val) (128 * h + 1 * (j 1).val) : ℝ) : EReal) = _
    simp only [one_mul]; rfl
  hO j := by
    unfold lO
    refine (load_apply _ _ _ (Rect.unit _ _ _) j).trans ((H.h5 _).trans ?_)
    show ((B.X5 (64 * k + 1 * (j 0).val) (128 * h + 1 * (j 1).val) : ℝ) : EReal) = _
    simp only [one_mul]; rfl
  hD j := hD h hh j
  hS j := by
    have e0 : (j 0).val = 0 := Nat.lt_one_iff.mp (j 0).isLt
    have e1 : (j 1).val = 0 := Nat.lt_one_iff.mp (j 1).isLt
    unfold lS
    refine (load_apply _ _ _ (Rect.unit _ _ _) j).trans ((H.h3 _).trans ?_)
    show ((B.X3 (h + 1 * (j 0).val) (k + 1 * (j 1).val) (0 + 1 * (j 2).val) (0 + 1 * (j 3).val) : ℝ) : EReal) = _
    simp only [one_mul, e0, e1, add_zero, zero_add]; rfl
  hW j := by
    have e0 : (j 0).val = 0 := Nat.lt_one_iff.mp (j 0).isLt
    unfold lW
    refine (load_apply _ _ _ (Rect.unit _ _ _) j).trans ((H.h0 _).trans ?_)
    show ((B.X0 (h + 1 * (j 0).val) (192 * k + 1 * (j 1).val) (0 + 1 * (j 2).val) : ℝ) : EReal) = _
    simp only [one_mul, e0, add_zero, zero_add]
    split
    · rfl
    · show ((_ : ℝ) : EReal) = ((B.X0 h (192 * k + 64 + ((j 1).val - 64)) (j 2).val : ℝ) : EReal)
      rw [show 192 * k + 64 + ((j 1).val - 64) = 192 * k + (j 1).val by omega]

theorem Holds.gl (k : ℕ) (hk : k < 4) (h : ℕ) (hh : h < 8) :
    uGl (lG I k hk) (ix2 0 ⟨h, by omega⟩) = ((B.chunk k h).gl : EReal) :=
  uGl_apply (f := fun r l => B.X2 (64 * k + r) l) _ _ fun r => by
    refine (load_apply _ _ _ (Rect.unit _ _ _) _).trans ((H.h2 _).trans ?_)
    show ((B.X2 (64 * k + 1 * r.val) (0 + 1 * h) : ℝ) : EReal) = _
    simp only [one_mul, zero_add]

theorem Holds.dsL_pieces {Ds : DsV Ideal} {D : ℕ → Mat} (hD : HoldsD Ds D) (k : ℕ) (hk : k < 4) : ∀ p ∈ dsL I k hk Ds, ∀ x, p.2 x =
    (fun y : S8x128x128.Idx => (((B.chunk k (y 0)).dS (D (y 0)) (y 1) (y 2) : ℝ) : EReal)) (p.1.emb x) := by
    unfold dsL
    intro p hp
    obtain ⟨h, hh, rfl⟩ := mem_heads hp
    intro j
    change S1x128x128.Idx at j
    have e0 : (j 0).val = 0 := Nat.lt_one_iff.mp (j 0).isLt
    refine ((H.loads hD k hk h hh).dS ⟨h, hh⟩ (slcH h hh) (H.gl k hk h hh) j).trans ?_
    show _ = (((B.chunk k (h + 1 * (j 0).val)).dS (D (h + 1 * (j 0).val)) (0 + 1 * (j 1).val) (0 + 1 * (j 2).val) : ℝ) : EReal)
    simp only [one_mul, e0, add_zero, zero_add]

theorem Holds.dvL_pieces {Ds : DsV Ideal} {D : ℕ → Mat} (k : ℕ) (hk : k < 4) (hD : HoldsD Ds (B.grad D (3 - k))) :
    ∀ p ∈ dvL I k hk Ds, ∀ x, p.2 x = (fun y : S256x1024.Idx => (B.dv D (y 0) (y 1) : EReal)) (p.1.emb x) := by
    unfold dvL
    intro p hp
    obtain ⟨h, hh, rfl⟩ := mem_heads hp
    intro j
    change S64x128.Idx at j
    refine ((H.loads hD k hk h hh).dv j).trans ?_
    show _ = (B.dv D (64 * k + 1 * (j 0).val) (128 * h + 1 * (j 1).val) : EReal)
    unfold Blocks.dv
    rw [(split64 k _ (j 0).isLt).1, (split64 k _ (j 0).isLt).2, (split128 h _ (j 1).isLt).1, (split128 h _ (j 1).isLt).2]

theorem Holds.dwL_pieces {Ds : DsV Ideal} {D : ℕ → Mat} (k : ℕ) (hk : k < 4) (hD : HoldsD Ds (B.grad D (3 - k))) :
    ∀ p ∈ dwL I k hk Ds, ∀ x, p.2 x = (fun y : S256x1024.Idx => (B.dw D (y 0) (y 1) : EReal)) (p.1.emb x) := by
    unfold dwL
    intro p hp
    obtain ⟨h, hh, rfl⟩ := mem_heads hp
    intro j
    change S64x128.Idx at j
    refine ((H.loads hD k hk h hh).dw j).trans ?_
    show _ = (B.dw D (64 * k + 1 * (j 0).val) (128 * h + 1 * (j 1).val) : EReal)
    unfold Blocks.dw
    rw [(split64 k _ (j 0).isLt).1, (split64 k _ (j 0).isLt).2, (split128 h _ (j 1).isLt).1, (split128 h _ (j 1).isLt).2]

theorem Holds.dqL_pieces {Ds : DsV Ideal} {D : ℕ → Mat} (k : ℕ) (hk : k < 4) (hD : HoldsD Ds (B.grad D (3 - k))) :
    ∀ p ∈ dqL I k hk Ds, ∀ x, p.2 x = (fun y : S256x1024.Idx => (B.dq  (y 0) (y 1) : EReal)) (p.1.emb x) := by
    unfold dqL
    intro p hp
    obtain ⟨h, hh, rfl⟩ := mem_heads hp
    intro j
    change S64x128.Idx at j
    refine ((H.loads hD k hk h hh).dq j).trans ?_
    show _ = (B.dq  (64 * k + 1 * (j 0).val) (128 * h + 1 * (j 1).val) : EReal)
    unfold Blocks.dq
    rw [(split64 k _ (j 0).isLt).1, (split64 k _ (j 0).isLt).2, (split128 h _ (j 1).isLt).1, (split128 h _ (j 1).isLt).2]

theorem Holds.dkL_pieces {Ds : DsV Ideal} {D : ℕ → Mat} (k : ℕ) (hk : k < 4) (hD : HoldsD Ds (B.grad D (3 - k))) :
    ∀ p ∈ dkL I k hk Ds, ∀ x, p.2 x = (fun y : S256x1024.Idx => (B.dk D (y 0) (y 1) : EReal)) (p.1.emb x) := by
    unfold dkL
    intro p hp
    obtain ⟨h, hh, rfl⟩ := mem_heads hp
    intro j
    change S64x128.Idx at j
    refine ((H.loads hD k hk h hh).dk j).trans ?_
    show _ = (B.dk D (64 * k + 1 * (j 0).val) (128 * h + 1 * (j 1).val) : EReal)
    unfold Blocks.dk
    rw [(split64 k _ (j 0).isLt).1, (split64 k _ (j 0).isLt).2, (split128 h _ (j 1).isLt).1, (split128 h _ (j 1).isLt).2]

theorem Holds.daL_pieces (k : ℕ) (hk : k < 4) :
    ∀ p ∈ daL I k hk, ∀ x, p.2 x = (fun y : S8x4x64x64.Idx => (B.da (y 0) (y 1) (y 2) (y 3) : EReal)) (p.1.emb x) := by
    unfold daL
    intro p hp
    obtain ⟨h, hh, rfl⟩ := mem_heads hp
    intro j
    change S1x1x64x64.Idx at j
    have e0 : (j 0).val = 0 := Nat.lt_one_iff.mp (j 0).isLt
    have e1 : (j 1).val = 0 := Nat.lt_one_iff.mp (j 1).isLt
    refine ((H.loads (Ds := fun _ _ _ => 0) (D := fun _ _ _ => 0) (fun _ _ _ => rfl) k hk h hh).da j).trans ?_
    show _ = (B.da (h + 1 * (j 0).val) (k + 1 * (j 1).val) (0 + 1 * (j 2).val) (0 + 1 * (j 3).val) : EReal)
    simp only [one_mul, e0, e1, add_zero, zero_add]; rfl

theorem Holds.dgL_pieces {Ds : DsV Ideal} {D : ℕ → Mat} (k : ℕ) (hk : k < 4) (hD : HoldsD Ds (B.grad D (3 - k))) :
    ∀ p ∈ dgL I k hk Ds, ∀ x, p.2 x = (fun y : S8x4x1x128.Idx => (B.dg D (y 0) (y 1) : EReal)) (p.1.emb x) := by
    unfold dgL
    intro p hp
    obtain ⟨h, hh, rfl⟩ := mem_heads hp
    intro j
    change S1x1x1x128.Idx at j
    have e0 : (j 0).val = 0 := Nat.lt_one_iff.mp (j 0).isLt
    have e1 : (j 1).val = 0 := Nat.lt_one_iff.mp (j 1).isLt
    refine ((H.loads hD k hk h hh).dg ⟨h, hh⟩ (slcH h hh) (H.gl k hk h hh) j).trans ?_
    show _ = (B.dg D (h + 1 * (j 0).val) (k + 1 * (j 1).val) : EReal)
    simp only [e0, e1, mul_zero, add_zero]; rfl

/-- The gradients of the states that a chunk's stores leave in the scratch. -/
theorem Holds.step {Ds : DsV Ideal} {D : ℕ → Mat} (hD : HoldsD Ds D) (k : ℕ) (hk : k < 4)
    (a : Memref sig .tc .vmem S8x128x128 .f32) (L : List (View.Piece (Elt Ideal) S8x128x128 .f32)) :
    HoldsD (covD a (dsL I k hk Ds ++ L)) fun h => (B.chunk k h).dS (D h) := fun h hh j => by
  have e0 : (j 0).val = 0 := Nat.lt_one_iff.mp (j 0).isLt
  show a.view.read (Elt Ideal) (a.view.writes (Elt Ideal) _ (dsL I k hk Ds ++ L)) ((Rect.unit (s := S8x128x128) ![h, 0, 0] S1x128x128.size (inbD h hh)).emb j) = _
  rw [View.writes_append]
  refine (View.read_writes_apply_of_pieces a.view _ (fun y => (((B.chunk k (y 0)).dS (D (y 0)) (y 1) (y 2) : ℝ) : EReal)) _
    (H.dsL_pieces hD k hk) _ ⟨_, heads_mem _ h hh, emb_mem _ _⟩).trans ?_
  show (((B.chunk k (h + 1 * (j 0).val)).dS (D (h + 1 * (j 0).val)) (0 + 1 * (j 1).val) (0 + 1 * (j 2).val) : ℝ) : EReal) = _
  simp only [one_mul, e0, add_zero, zero_add]

end

end Cert.KernelIdeal.Val

end
-- ==== Proof.Point.lean ====
/- What each kind of point of the kernel's grid leaves in the outputs' blocks and in the scratch, over the reals. -/
module

public import proofs.«01_k».proof.Proof.RegionVal

@[expose] public section

set_option maxRecDepth 16384

noncomputable section

namespace Cert.KernelIdeal.Val

open Idealize.ShloMosaic Cert.Spec Cert.KernelIdeal.Gen

theorem mem_append4 {α : Type} {P : α → Prop} {a b c d : List α} (ha : ∀ p ∈ a, P p) (hb : ∀ p ∈ b, P p) (hc : ∀ p ∈ c, P p)
    (hd : ∀ p ∈ d, P p) : ∀ p ∈ a ++ (b ++ (c ++ d)), P p := fun p hp => by
  rcases List.mem_append.mp hp with h | hp
  · exact ha p h
  rcases List.mem_append.mp hp with h | hp
  · exact hb p h
  rcases List.mem_append.mp hp with h | h
  · exact hc p h
  · exact hd p h

/-- A chunk's stores into the scratch fill it. -/
theorem dsL_cover (I : Ins Ideal) (k : ℕ) (hk : k < 4) (Ds : DsV Ideal) (y : S8x128x128.Idx) : ∃ p ∈ dsL I k hk Ds, y ∈ p.1.set := by
  have h0 : (y 0).val < 8 := (y 0).isLt
  have h1 : (y 1).val < 128 := (y 1).isLt
  have h2 : (y 2).val < 128 := (y 2).isLt
  unfold dsL
  refine ⟨_, heads_mem _ (y 0).val h0, ?_⟩
  show y ∈ (Rect.unit (s := S8x128x128) ![(y 0).val, 0, 0] S1x128x128.size (inbD (y 0).val h0)).set
  rw [Rect.mem_set_unit]
  intro a
  fin_cases a
  · exact ⟨le_refl _, Nat.lt_succ_self _⟩
  · exact ⟨Nat.zero_le _, lt_of_lt_of_eq h1 (Nat.zero_add _).symm⟩
  · exact ⟨Nat.zero_le _, lt_of_lt_of_eq h2 (Nat.zero_add _).symm⟩

/-- The scratch as it is filled with zeros at the first point. -/
theorem holdsD_zero (a : Memref sig .tc .vmem S8x128x128 .f32) :
    HoldsD (covD (F := Ideal) a kernelRun0_A.sl.HS0_1) fun _ _ _ => 0 := fun h hh j => by
  show a.view.read (Elt Ideal) (a.view.writes (Elt Ideal) _ kernelRun0_A.sl.HS0_1)
    ((Rect.unit (s := S8x128x128) ![h, 0, 0] S1x128x128.size (inbD h hh)).emb j) = _
  refine View.read_writes_apply_of_pieces (Val := Elt Ideal) a.view _ (fun _ : S8x128x128.Idx => ((0 : ℝ) : EReal)) kernelRun0_A.sl.HS0_1 (fun p hp x => ?_) _ ?_
  · obtain rfl : p = _ := List.mem_singleton.mp hp
    show k0_pay2 (F := Ideal) x = _
    unfold k0_pay2
    pointwise
    simp
  · refine ⟨_, List.mem_singleton.mpr rfl, ?_⟩
    show _ ∈ (Rect.unit (s := S8x128x128) ![0, 0, 0] S8x128x128.size (fun a => by fin_cases a <;> simp)).set
    rw [Rect.mem_set_unit]
    intro a
    have h1 := ((Rect.unit (s := S8x128x128) ![h, 0, 0] S1x128x128.size (inbD h hh)).emb j a).isLt
    refine ⟨?_, ?_⟩
    · fin_cases a <;> exact Nat.zero_le _
    · fin_cases a <;> exact lt_of_lt_of_eq h1 (Nat.zero_add _).symm

/-- The scratch as the point before left it. -/
theorem holdsD_read (a : Memref sig .tc .vmem S8x128x128 .f32) (ha : a.IsWhole) (x : Vec Ideal S8x128x128 .f32) (D : ℕ → Mat)
    (hx : ∀ j, x j = (D (j 0) (j 1) (j 2) : EReal)) :
    HoldsD (fun h hh => View.readAt (Elt Ideal) a.view (Rect.unit (s := S8x128x128) ![h, 0, 0] S1x128x128.size (inbD h hh)).toLoadRect
      (ha.unread x)) D := fun h hh j => by
  have e0 : (j 0).val = 0 := Nat.lt_one_iff.mp (j 0).isLt
  refine (load_apply _ _ _ (Rect.unit _ _ _) j).trans ((hx _).trans ?_)
  show ((D (h + 1 * (j 0).val) (0 + 1 * (j 1).val) (0 + 1 * (j 2).val) : ℝ) : EReal) = _
  simp only [one_mul, e0, add_zero, zero_add]

section A
variable (c : Dev nD) (i : grid0.Coords)
  (arg1 : Memref sig .tc .vmem S8x768x128 .f32) (harg1 : arg1.IsWhole)
  (arg2 : Memref sig .tc .vmem S8x4x64x64 .f32) (harg2 : arg2.IsWhole)
  (arg3 : Memref sig .tc .vmem S256x128 .f32) (harg3 : arg3.IsWhole)
  (arg4 : Memref sig .tc .vmem S8x4x128x128 .f32) (harg4 : arg4.IsWhole)
  (arg5 : Memref sig .tc .vmem S256x1024 .f32) (harg5 : arg5.IsWhole)
  (arg6 : Memref sig .tc .vmem S256x1024 .f32) (harg6 : arg6.IsWhole)
  (arg8 : Memref sig .tc .vmem S256x1024 .f32) (harg8 : arg8.IsWhole)
  (arg9 : Memref sig .tc .vmem S256x1024 .f32) (harg9 : arg9.IsWhole)
  (arg10 : Memref sig .tc .vmem S256x1024 .f32) (harg10 : arg10.IsWhole)
  (arg11 : Memref sig .tc .vmem S256x1024 .f32) (harg11 : arg11.IsWhole)
  (arg12 : Memref sig .tc .vmem S8x4x64x64 .f32) (harg12 : arg12.IsWhole)
  (arg13 : Memref sig .tc .vmem S8x4x1x128 .f32) (harg13 : arg13.IsWhole)
  (arg14 : Memref sig .tc .vmem S8x128x128 .f32) (harg14 : arg14.IsWhole)
  (x0 : Vec Ideal S8x768x128 .f32) (x1 : Vec Ideal S8x4x64x64 .f32) (x2 : Vec Ideal S256x128 .f32) (x3 : Vec Ideal S8x4x128x128 .f32)
  (x4 : Vec Ideal S256x1024 .f32) (x5 : Vec Ideal S256x1024 .f32)

theorem levA_1 {B : Blocks} (H : Holds (insA arg1 harg1 arg2 harg2 arg3 harg3 arg4 harg4 arg5 harg5 arg6 harg6 x0 x1 x2 x3 x4 x5) B) :
    HoldsD (covD arg14 (kernelRun0_A.sl.HS0_9 c arg1 harg1 arg2 harg2 arg3 harg3 arg6 harg6 arg14 x0 x1 x2 x5)) (B.grad (fun _ _ _ => 0) 1) := by
  rw [HSA_1 (F := Ideal) c arg1 harg1 arg2 harg2 arg3 harg3 arg4 harg4 arg5 harg5 arg6 harg6 arg14 x0 x1 x2 x3 x4 x5]
  exact H.step (holdsD_zero arg14) 3 (by decide) arg14 _

theorem levA_2 {B : Blocks} (H : Holds (insA arg1 harg1 arg2 harg2 arg3 harg3 arg4 harg4 arg5 harg5 arg6 harg6 x0 x1 x2 x3 x4 x5) B) :
    HoldsD (covD arg14 (kernelRun0_A.sl.HS0_17 c arg1 harg1 arg2 harg2 arg3 harg3 arg6 harg6 arg14 x0 x1 x2 x5)) (B.grad (fun _ _ _ => 0) 2) := by
  rw [HSA_2 (F := Ideal) c arg1 harg1 arg2 harg2 arg3 harg3 arg4 harg4 arg5 harg5 arg6 harg6 arg14 x0 x1 x2 x3 x4 x5]
  exact H.step (levA_1 c arg1 harg1 arg2 harg2 arg3 harg3 arg4 harg4 arg5 harg5 arg6 harg6 arg14 x0 x1 x2 x3 x4 x5 H) 2 (by decide) arg14 _

theorem levA_3 {B : Blocks} (H : Holds (insA arg1 harg1 arg2 harg2 arg3 harg3 arg4 harg4 arg5 harg5 arg6 harg6 x0 x1 x2 x3 x4 x5) B) :
    HoldsD (covD arg14 (kernelRun0_A.sl.HS0_25 c arg1 harg1 arg2 harg2 arg3 harg3 arg6 harg6 arg14 x0 x1 x2 x5)) (B.grad (fun _ _ _ => 0) 3) := by
  rw [HSA_3 (F := Ideal) c arg1 harg1 arg2 harg2 arg3 harg3 arg4 harg4 arg5 harg5 arg6 harg6 arg14 x0 x1 x2 x3 x4 x5]
  exact H.step (levA_2 c arg1 harg1 arg2 harg2 arg3 harg3 arg4 harg4 arg5 harg5 arg6 harg6 arg14 x0 x1 x2 x3 x4 x5 H) 1 (by decide) arg14 _

theorem outA_dv (hc : cond0_0 i) {B : Blocks} (H : Holds (insA arg1 harg1 arg2 harg2 arg3 harg3 arg4 harg4 arg5 harg5 arg6 harg6 x0 x1 x2 x3 x4 x5) B) :
    out0_A_6 c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 = fun y : S256x1024.Idx => (B.dv (fun _ _ _ => 0) (y 0) (y 1) : EReal) := by
  funext y
  have hcov := cover0_A_6 c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 y
  unfold out0_A_6
  rw [runA_dvL] at hcov ⊢
  exact View.read_writes_apply_of_pieces (Val := Elt Ideal) VO0_6 _ (fun y : S256x1024.Idx => (B.dv (fun _ _ _ => 0) (y 0) (y 1) : EReal)) _ (mem_append4
    (H.dvL_pieces 0 (by decide) (D := (fun _ _ _ => 0)) (levA_3 c arg1 harg1 arg2 harg2 arg3 harg3 arg4 harg4 arg5 harg5 arg6 harg6 arg14 x0 x1 x2 x3 x4 x5 H))
    (H.dvL_pieces 1 (by decide) (D := (fun _ _ _ => 0)) (levA_2 c arg1 harg1 arg2 harg2 arg3 harg3 arg4 harg4 arg5 harg5 arg6 harg6 arg14 x0 x1 x2 x3 x4 x5 H))
    (H.dvL_pieces 2 (by decide) (D := (fun _ _ _ => 0)) (levA_1 c arg1 harg1 arg2 harg2 arg3 harg3 arg4 harg4 arg5 harg5 arg6 harg6 arg14 x0 x1 x2 x3 x4 x5 H))
    (H.dvL_pieces 3 (by decide) (D := (fun _ _ _ => 0)) (holdsD_zero arg14))) y hcov

theorem outA_dw (hc : cond0_0 i) {B : Blocks} (H : Holds (insA arg1 harg1 arg2 harg2 arg3 harg3 arg4 harg4 arg5 harg5 arg6 harg6 x0 x1 x2 x3 x4 x5) B) :
    out0_A_7 c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 = fun y : S256x1024.Idx => (B.dw (fun _ _ _ => 0) (y 0) (y 1) : EReal) := by
  funext y
  have hcov := cover0_A_7 c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 y
  unfold out0_A_7
  rw [runA_dwL] at hcov ⊢
  exact View.read_writes_apply_of_pieces (Val := Elt Ideal) VO0_7 _ (fun y : S256x1024.Idx => (B.dw (fun _ _ _ => 0) (y 0) (y 1) : EReal)) _ (mem_append4
    (H.dwL_pieces 0 (by decide) (D := (fun _ _ _ => 0)) (levA_3 c arg1 harg1 arg2 harg2 arg3 harg3 arg4 harg4 arg5 harg5 arg6 harg6 arg14 x0 x1 x2 x3 x4 x5 H))
    (H.dwL_pieces 1 (by decide) (D := (fun _ _ _ => 0)) (levA_2 c arg1 harg1 arg2 harg2 arg3 harg3 arg4 harg4 arg5 harg5 arg6 harg6 arg14 x0 x1 x2 x3 x4 x5 H))
    (H.dwL_pieces 2 (by decide) (D := (fun _ _ _ => 0)) (levA_1 c arg1 harg1 arg2 harg2 arg3 harg3 arg4 harg4 arg5 harg5 arg6 harg6 arg14 x0 x1 x2 x3 x4 x5 H))
    (H.dwL_pieces 3 (by decide) (D := (fun _ _ _ => 0)) (holdsD_zero arg14))) y hcov

theorem outA_dq (hc : cond0_0 i) {B : Blocks} (H : Holds (insA arg1 harg1 arg2 harg2 arg3 harg3 arg4 harg4 arg5 harg5 arg6 harg6 x0 x1 x2 x3 x4 x5) B) :
    out0_A_8 c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 = fun y : S256x1024.Idx => (B.dq (y 0) (y 1) : EReal) := by
  funext y
  have hcov := cover0_A_8 c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 y
  unfold out0_A_8
  rw [runA_dqL] at hcov ⊢
  exact View.read_writes_apply_of_pieces (Val := Elt Ideal) VO0_8 _ (fun y : S256x1024.Idx => (B.dq (y 0) (y 1) : EReal)) _ (mem_append4
    (H.dqL_pieces 0 (by decide) (D := (fun _ _ _ => 0)) (levA_3 c arg1 harg1 arg2 harg2 arg3 harg3 arg4 harg4 arg5 harg5 arg6 harg6 arg14 x0 x1 x2 x3 x4 x5 H))
    (H.dqL_pieces 1 (by decide) (D := (fun _ _ _ => 0)) (levA_2 c arg1 harg1 arg2 harg2 arg3 harg3 arg4 harg4 arg5 harg5 arg6 harg6 arg14 x0 x1 x2 x3 x4 x5 H))
    (H.dqL_pieces 2 (by decide) (D := (fun _ _ _ => 0)) (levA_1 c arg1 harg1 arg2 harg2 arg3 harg3 arg4 harg4 arg5 harg5 arg6 harg6 arg14 x0 x1 x2 x3 x4 x5 H))
    (H.dqL_pieces 3 (by decide) (D := (fun _ _ _ => 0)) (holdsD_zero arg14))) y hcov

theorem outA_dk (hc : cond0_0 i) {B : Blocks} (H : Holds (insA arg1 harg1 arg2 harg2 arg3 harg3 arg4 harg4 arg5 harg5 arg6 harg6 x0 x1 x2 x3 x4 x5) B) :
    out0_A_9 c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 = fun y : S256x1024.Idx => (B.dk (fun _ _ _ => 0) (y 0) (y 1) : EReal) := by
  funext y
  have hcov := cover0_A_9 c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 y
  unfold out0_A_9
  rw [runA_dkL] at hcov ⊢
  exact View.read_writes_apply_of_pieces (Val := Elt Ideal) VO0_9 _ (fun y : S256x1024.Idx => (B.dk (fun _ _ _ => 0) (y 0) (y 1) : EReal)) _ (mem_append4
    (H.dkL_pieces 0 (by decide) (D := (fun _ _ _ => 0)) (levA_3 c arg1 harg1 arg2 harg2 arg3 harg3 arg4 harg4 arg5 harg5 arg6 harg6 arg14 x0 x1 x2 x3 x4 x5 H))
    (H.dkL_pieces 1 (by decide) (D := (fun _ _ _ => 0)) (levA_2 c arg1 harg1 arg2 harg2 arg3 harg3 arg4 harg4 arg5 harg5 arg6 harg6 arg14 x0 x1 x2 x3 x4 x5 H))
    (H.dkL_pieces 2 (by decide) (D := (fun _ _ _ => 0)) (levA_1 c arg1 harg1 arg2 harg2 arg3 harg3 arg4 harg4 arg5 harg5 arg6 harg6 arg14 x0 x1 x2 x3 x4 x5 H))
    (H.dkL_pieces 3 (by decide) (D := (fun _ _ _ => 0)) (holdsD_zero arg14))) y hcov

theorem outA_da (hc : cond0_0 i) {B : Blocks} (H : Holds (insA arg1 harg1 arg2 harg2 arg3 harg3 arg4 harg4 arg5 harg5 arg6 harg6 x0 x1 x2 x3 x4 x5) B) :
    out0_A_10 c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 = fun y : S8x4x64x64.Idx => (B.da (y 0) (y 1) (y 2) (y 3) : EReal) := by
  funext y
  have hcov := cover0_A_10 c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 y
  unfold out0_A_10
  rw [runA_daL] at hcov ⊢
  exact View.read_writes_apply_of_pieces (Val := Elt Ideal) VO0_10 _ (fun y : S8x4x64x64.Idx => (B.da (y 0) (y 1) (y 2) (y 3) : EReal)) _ (mem_append4
    (H.daL_pieces 0 (by decide))
    (H.daL_pieces 1 (by decide))
    (H.daL_pieces 2 (by decide))
    (H.daL_pieces 3 (by decide))) y hcov

theorem outA_dg (hc : cond0_0 i) {B : Blocks} (H : Holds (insA arg1 harg1 arg2 harg2 arg3 harg3 arg4 harg4 arg5 harg5 arg6 harg6 x0 x1 x2 x3 x4 x5) B) :
    out0_A_11 c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 = fun y : S8x4x1x128.Idx => (B.dg (fun _ _ _ => 0) (y 0) (y 1) : EReal) := by
  funext y
  have hcov := cover0_A_11 c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 y
  unfold out0_A_11
  rw [runA_dgL] at hcov ⊢
  exact View.read_writes_apply_of_pieces (Val := Elt Ideal) VO0_11 _ (fun y : S8x4x1x128.Idx => (B.dg (fun _ _ _ => 0) (y 0) (y 1) : EReal)) _ (mem_append4
    (H.dgL_pieces 0 (by decide) (D := (fun _ _ _ => 0)) (levA_3 c arg1 harg1 arg2 harg2 arg3 harg3 arg4 harg4 arg5 harg5 arg6 harg6 arg14 x0 x1 x2 x3 x4 x5 H))
    (H.dgL_pieces 1 (by decide) (D := (fun _ _ _ => 0)) (levA_2 c arg1 harg1 arg2 harg2 arg3 harg3 arg4 harg4 arg5 harg5 arg6 harg6 arg14 x0 x1 x2 x3 x4 x5 H))
    (H.dgL_pieces 2 (by decide) (D := (fun _ _ _ => 0)) (levA_1 c arg1 harg1 arg2 harg2 arg3 harg3 arg4 harg4 arg5 harg5 arg6 harg6 arg14 x0 x1 x2 x3 x4 x5 H))
    (H.dgL_pieces 3 (by decide) (D := (fun _ _ _ => 0)) (holdsD_zero arg14))) y hcov

theorem soutA (hc : cond0_0 i) {B : Blocks} (H : Holds (insA arg1 harg1 arg2 harg2 arg3 harg3 arg4 harg4 arg5 harg5 arg6 harg6 x0 x1 x2 x3 x4 x5) B) :
    ∀ y, sout0_A_0 c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 y = (B.grad (fun _ _ _ => 0) 4 (y 0) (y 1) (y 2) : EReal) := fun y => by
  unfold sout0_A_0
  rw [runA_dsL, View.writes_append]
  refine View.read_writes_apply_of_pieces (Val := Elt Ideal) VS0_0 _ (fun y : S8x128x128.Idx => (B.grad (fun _ _ _ => 0) 4 (y 0) (y 1) (y 2) : EReal)) _ (H.dsL_pieces (levA_3 c arg1 harg1 arg2 harg2 arg3 harg3 arg4 harg4 arg5 harg5 arg6 harg6 arg14 x0 x1 x2 x3 x4 x5 H) 0 (by decide)) y
    (dsL_cover _ 0 (by decide) _ y)
end A

section B
variable (c : Dev nD) (i : grid0.Coords)
  (arg1 : Memref sig .tc .vmem S8x768x128 .f32) (harg1 : arg1.IsWhole)
  (arg2 : Memref sig .tc .vmem S8x4x64x64 .f32) (harg2 : arg2.IsWhole)
  (arg3 : Memref sig .tc .vmem S256x128 .f32) (harg3 : arg3.IsWhole)
  (arg4 : Memref sig .tc .vmem S8x4x128x128 .f32) (harg4 : arg4.IsWhole)
  (arg5 : Memref sig .tc .vmem S256x1024 .f32) (harg5 : arg5.IsWhole)
  (arg6 : Memref sig .tc .vmem S256x1024 .f32) (harg6 : arg6.IsWhole)
  (arg8 : Memref sig .tc .vmem S256x1024 .f32) (harg8 : arg8.IsWhole)
  (arg9 : Memref sig .tc .vmem S256x1024 .f32) (harg9 : arg9.IsWhole)
  (arg10 : Memref sig .tc .vmem S256x1024 .f32) (harg10 : arg10.IsWhole)
  (arg11 : Memref sig .tc .vmem S256x1024 .f32) (harg11 : arg11.IsWhole)
  (arg12 : Memref sig .tc .vmem S8x4x64x64 .f32) (harg12 : arg12.IsWhole)
  (arg13 : Memref sig .tc .vmem S8x4x1x128 .f32) (harg13 : arg13.IsWhole)
  (arg14 : Memref sig .tc .vmem S8x128x128 .f32) (harg14 : arg14.IsWhole)
  (x0 : Vec Ideal S8x768x128 .f32) (x1 : Vec Ideal S8x4x64x64 .f32) (x2 : Vec Ideal S256x128 .f32) (x3 : Vec Ideal S8x4x128x128 .f32)
  (x4 : Vec Ideal S256x1024 .f32) (x5 : Vec Ideal S256x1024 .f32)
  (xs0 : Vec Ideal S8x128x128 .f32)

theorem levB_1 {B : Blocks} (H : Holds (insA arg1 harg1 arg2 harg2 arg3 harg3 arg4 harg4 arg5 harg5 arg6 harg6 x0 x1 x2 x3 x4 x5) B) {D : ℕ → Mat} (hx : ∀ j, xs0 j = (D (j 0) (j 1) (j 2) : EReal)) :
    HoldsD (covD arg14 (kernelRun0_B.sl.HS0_8 c arg1 harg1 arg2 harg2 arg3 harg3 arg6 harg6 arg14 harg14 x0 x1 x2 x5 xs0)) (B.grad D 1) := by
  rw [HSB_1 (F := Ideal) c arg1 harg1 arg2 harg2 arg3 harg3 arg4 harg4 arg5 harg5 arg6 harg6 arg14 harg14 x0 x1 x2 x3 x4 x5 xs0]
  exact H.step (holdsD_read arg14 harg14 xs0 D hx) 3 (by decide) arg14 _

theorem levB_2 {B : Blocks} (H : Holds (insA arg1 harg1 arg2 harg2 arg3 harg3 arg4 harg4 arg5 harg5 arg6 harg6 x0 x1 x2 x3 x4 x5) B) {D : ℕ → Mat} (hx : ∀ j, xs0 j = (D (j 0) (j 1) (j 2) : EReal)) :
    HoldsD (covD arg14 (kernelRun0_B.sl.HS0_16 c arg1 harg1 arg2 harg2 arg3 harg3 arg6 harg6 arg14 harg14 x0 x1 x2 x5 xs0)) (B.grad D 2) := by
  rw [HSB_2 (F := Ideal) c arg1 harg1 arg2 harg2 arg3 harg3 arg4 harg4 arg5 harg5 arg6 harg6 arg14 harg14 x0 x1 x2 x3 x4 x5 xs0]
  exact H.step (levB_1 c arg1 harg1 arg2 harg2 arg3 harg3 arg4 harg4 arg5 harg5 arg6 harg6 arg14 harg14 x0 x1 x2 x3 x4 x5 xs0 H hx) 2 (by decide) arg14 _

theorem levB_3 {B : Blocks} (H : Holds (insA arg1 harg1 arg2 harg2 arg3 harg3 arg4 harg4 arg5 harg5 arg6 harg6 x0 x1 x2 x3 x4 x5) B) {D : ℕ → Mat} (hx : ∀ j, xs0 j = (D (j 0) (j 1) (j 2) : EReal)) :
    HoldsD (covD arg14 (kernelRun0_B.sl.HS0_24 c arg1 harg1 arg2 harg2 arg3 harg3 arg6 harg6 arg14 harg14 x0 x1 x2 x5 xs0)) (B.grad D 3) := by
  rw [HSB_3 (F := Ideal) c arg1 harg1 arg2 harg2 arg3 harg3 arg4 harg4 arg5 harg5 arg6 harg6 arg14 harg14 x0 x1 x2 x3 x4 x5 xs0]
  exact H.step (levB_2 c arg1 harg1 arg2 harg2 arg3 harg3 arg4 harg4 arg5 harg5 arg6 harg6 arg14 harg14 x0 x1 x2 x3 x4 x5 xs0 H hx) 1 (by decide) arg14 _

theorem outB_dv (hc : ¬cond0_0 i) {B : Blocks} (H : Holds (insA arg1 harg1 arg2 harg2 arg3 harg3 arg4 harg4 arg5 harg5 arg6 harg6 x0 x1 x2 x3 x4 x5) B) {D : ℕ → Mat} (hx : ∀ j, xs0 j = (D (j 0) (j 1) (j 2) : EReal)) :
    out0_B_6 c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 xs0 = fun y : S256x1024.Idx => (B.dv D (y 0) (y 1) : EReal) := by
  funext y
  have hcov := cover0_B_6 c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 xs0 y
  unfold out0_B_6
  rw [runB_dvL] at hcov ⊢
  exact View.read_writes_apply_of_pieces (Val := Elt Ideal) VO0_6 _ (fun y : S256x1024.Idx => (B.dv D (y 0) (y 1) : EReal)) _ (mem_append4
    (H.dvL_pieces 0 (by decide) (D := D) (levB_3 c arg1 harg1 arg2 harg2 arg3 harg3 arg4 harg4 arg5 harg5 arg6 harg6 arg14 harg14 x0 x1 x2 x3 x4 x5 xs0 H hx))
    (H.dvL_pieces 1 (by decide) (D := D) (levB_2 c arg1 harg1 arg2 harg2 arg3 harg3 arg4 harg4 arg5 harg5 arg6 harg6 arg14 harg14 x0 x1 x2 x3 x4 x5 xs0 H hx))
    (H.dvL_pieces 2 (by decide) (D := D) (levB_1 c arg1 harg1 arg2 harg2 arg3 harg3 arg4 harg4 arg5 harg5 arg6 harg6 arg14 harg14 x0 x1 x2 x3 x4 x5 xs0 H hx))
    (H.dvL_pieces 3 (by decide) (D := D) (holdsD_read arg14 harg14 xs0 D hx))) y hcov

theorem outB_dw (hc : ¬cond0_0 i) {B : Blocks} (H : Holds (insA arg1 harg1 arg2 harg2 arg3 harg3 arg4 harg4 arg5 harg5 arg6 harg6 x0 x1 x2 x3 x4 x5) B) {D : ℕ → Mat} (hx : ∀ j, xs0 j = (D (j 0) (j 1) (j 2) : EReal)) :
    out0_B_7 c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 xs0 = fun y : S256x1024.Idx => (B.dw D (y 0) (y 1) : EReal) := by
  funext y
  have hcov := cover0_B_7 c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 xs0 y
  unfold out0_B_7
  rw [runB_dwL] at hcov ⊢
  exact View.read_writes_apply_of_pieces (Val := Elt Ideal) VO0_7 _ (fun y : S256x1024.Idx => (B.dw D (y 0) (y 1) : EReal)) _ (mem_append4
    (H.dwL_pieces 0 (by decide) (D := D) (levB_3 c arg1 harg1 arg2 harg2 arg3 harg3 arg4 harg4 arg5 harg5 arg6 harg6 arg14 harg14 x0 x1 x2 x3 x4 x5 xs0 H hx))
    (H.dwL_pieces 1 (by decide) (D := D) (levB_2 c arg1 harg1 arg2 harg2 arg3 harg3 arg4 harg4 arg5 harg5 arg6 harg6 arg14 harg14 x0 x1 x2 x3 x4 x5 xs0 H hx))
    (H.dwL_pieces 2 (by decide) (D := D) (levB_1 c arg1 harg1 arg2 harg2 arg3 harg3 arg4 harg4 arg5 harg5 arg6 harg6 arg14 harg14 x0 x1 x2 x3 x4 x5 xs0 H hx))
    (H.dwL_pieces 3 (by decide) (D := D) (holdsD_read arg14 harg14 xs0 D hx))) y hcov

theorem outB_dq (hc : ¬cond0_0 i) {B : Blocks} (H : Holds (insA arg1 harg1 arg2 harg2 arg3 harg3 arg4 harg4 arg5 harg5 arg6 harg6 x0 x1 x2 x3 x4 x5) B) {D : ℕ → Mat} (hx : ∀ j, xs0 j = (D (j 0) (j 1) (j 2) : EReal)) :
    out0_B_8 c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 xs0 = fun y : S256x1024.Idx => (B.dq (y 0) (y 1) : EReal) := by
  funext y
  have hcov := cover0_B_8 c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 xs0 y
  unfold out0_B_8
  rw [runB_dqL] at hcov ⊢
  exact View.read_writes_apply_of_pieces (Val := Elt Ideal) VO0_8 _ (fun y : S256x1024.Idx => (B.dq (y 0) (y 1) : EReal)) _ (mem_append4
    (H.dqL_pieces 0 (by decide) (D := D) (levB_3 c arg1 harg1 arg2 harg2 arg3 harg3 arg4 harg4 arg5 harg5 arg6 harg6 arg14 harg14 x0 x1 x2 x3 x4 x5 xs0 H hx))
    (H.dqL_pieces 1 (by decide) (D := D) (levB_2 c arg1 harg1 arg2 harg2 arg3 harg3 arg4 harg4 arg5 harg5 arg6 harg6 arg14 harg14 x0 x1 x2 x3 x4 x5 xs0 H hx))
    (H.dqL_pieces 2 (by decide) (D := D) (levB_1 c arg1 harg1 arg2 harg2 arg3 harg3 arg4 harg4 arg5 harg5 arg6 harg6 arg14 harg14 x0 x1 x2 x3 x4 x5 xs0 H hx))
    (H.dqL_pieces 3 (by decide) (D := D) (holdsD_read arg14 harg14 xs0 D hx))) y hcov

theorem outB_dk (hc : ¬cond0_0 i) {B : Blocks} (H : Holds (insA arg1 harg1 arg2 harg2 arg3 harg3 arg4 harg4 arg5 harg5 arg6 harg6 x0 x1 x2 x3 x4 x5) B) {D : ℕ → Mat} (hx : ∀ j, xs0 j = (D (j 0) (j 1) (j 2) : EReal)) :
    out0_B_9 c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 xs0 = fun y : S256x1024.Idx => (B.dk D (y 0) (y 1) : EReal) := by
  funext y
  have hcov := cover0_B_9 c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 xs0 y
  unfold out0_B_9
  rw [runB_dkL] at hcov ⊢
  exact View.read_writes_apply_of_pieces (Val := Elt Ideal) VO0_9 _ (fun y : S256x1024.Idx => (B.dk D (y 0) (y 1) : EReal)) _ (mem_append4
    (H.dkL_pieces 0 (by decide) (D := D) (levB_3 c arg1 harg1 arg2 harg2 arg3 harg3 arg4 harg4 arg5 harg5 arg6 harg6 arg14 harg14 x0 x1 x2 x3 x4 x5 xs0 H hx))
    (H.dkL_pieces 1 (by decide) (D := D) (levB_2 c arg1 harg1 arg2 harg2 arg3 harg3 arg4 harg4 arg5 harg5 arg6 harg6 arg14 harg14 x0 x1 x2 x3 x4 x5 xs0 H hx))
    (H.dkL_pieces 2 (by decide) (D := D) (levB_1 c arg1 harg1 arg2 harg2 arg3 harg3 arg4 harg4 arg5 harg5 arg6 harg6 arg14 harg14 x0 x1 x2 x3 x4 x5 xs0 H hx))
    (H.dkL_pieces 3 (by decide) (D := D) (holdsD_read arg14 harg14 xs0 D hx))) y hcov

theorem outB_da (hc : ¬cond0_0 i) {B : Blocks} (H : Holds (insA arg1 harg1 arg2 harg2 arg3 harg3 arg4 harg4 arg5 harg5 arg6 harg6 x0 x1 x2 x3 x4 x5) B) {D : ℕ → Mat} (hx : ∀ j, xs0 j = (D (j 0) (j 1) (j 2) : EReal)) :
    out0_B_10 c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 xs0 = fun y : S8x4x64x64.Idx => (B.da (y 0) (y 1) (y 2) (y 3) : EReal) := by
  funext y
  have hcov := cover0_B_10 c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 xs0 y
  unfold out0_B_10
  rw [runB_daL] at hcov ⊢
  exact View.read_writes_apply_of_pieces (Val := Elt Ideal) VO0_10 _ (fun y : S8x4x64x64.Idx => (B.da (y 0) (y 1) (y 2) (y 3) : EReal)) _ (mem_append4
    (H.daL_pieces 0 (by decide))
    (H.daL_pieces 1 (by decide))
    (H.daL_pieces 2 (by decide))
    (H.daL_pieces 3 (by decide))) y hcov

theorem outB_dg (hc : ¬cond0_0 i) {B : Blocks} (H : Holds (insA arg1 harg1 arg2 harg2 arg3 harg3 arg4 harg4 arg5 harg5 arg6 harg6 x0 x1 x2 x3 x4 x5) B) {D : ℕ → Mat} (hx : ∀ j, xs0 j = (D (j 0) (j 1) (j 2) : EReal)) :
    out0_B_11 c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 xs0 = fun y : S8x4x1x128.Idx => (B.dg D (y 0) (y 1) : EReal) := by
  funext y
  have hcov := cover0_B_11 c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 xs0 y
  unfold out0_B_11
  rw [runB_dgL] at hcov ⊢
  exact View.read_writes_apply_of_pieces (Val := Elt Ideal) VO0_11 _ (fun y : S8x4x1x128.Idx => (B.dg D (y 0) (y 1) : EReal)) _ (mem_append4
    (H.dgL_pieces 0 (by decide) (D := D) (levB_3 c arg1 harg1 arg2 harg2 arg3 harg3 arg4 harg4 arg5 harg5 arg6 harg6 arg14 harg14 x0 x1 x2 x3 x4 x5 xs0 H hx))
    (H.dgL_pieces 1 (by decide) (D := D) (levB_2 c arg1 harg1 arg2 harg2 arg3 harg3 arg4 harg4 arg5 harg5 arg6 harg6 arg14 harg14 x0 x1 x2 x3 x4 x5 xs0 H hx))
    (H.dgL_pieces 2 (by decide) (D := D) (levB_1 c arg1 harg1 arg2 harg2 arg3 harg3 arg4 harg4 arg5 harg5 arg6 harg6 arg14 harg14 x0 x1 x2 x3 x4 x5 xs0 H hx))
    (H.dgL_pieces 3 (by decide) (D := D) (holdsD_read arg14 harg14 xs0 D hx))) y hcov

theorem soutB (hc : ¬cond0_0 i) {B : Blocks} (H : Holds (insA arg1 harg1 arg2 harg2 arg3 harg3 arg4 harg4 arg5 harg5 arg6 harg6 x0 x1 x2 x3 x4 x5) B) {D : ℕ → Mat} (hx : ∀ j, xs0 j = (D (j 0) (j 1) (j 2) : EReal)) :
    ∀ y, sout0_B_0 c i arg1 harg1 arg2 harg2 arg3 harg3 arg4 harg4 arg5 harg5 arg6 harg6 arg8 harg8 arg9 harg9 arg10 harg10 arg11 harg11 arg12 harg12 arg13 harg13 arg14 harg14 hc x0 x1 x2 x3 x4 x5 xs0 y = (B.grad D 4 (y 0) (y 1) (y 2) : EReal) := fun y => by
  unfold sout0_B_0
  rw [runB_dsL, View.writes_append]
  refine View.read_writes_apply_of_pieces (Val := Elt Ideal) VS0_0 _ (fun y : S8x128x128.Idx => (B.grad D 4 (y 0) (y 1) (y 2) : EReal)) _ (H.dsL_pieces (levB_3 c arg1 harg1 arg2 harg2 arg3 harg3 arg4 harg4 arg5 harg5 arg6 harg6 arg14 harg14 x0 x1 x2 x3 x4 x5 xs0 H hx) 0 (by decide)) y
    (dsL_cover _ 0 (by decide) _ y)
end B

end Cert.KernelIdeal.Val

end
-- ==== Proof.Grid.lean ====
/- The grid's points in turn: each point's blocks are those of chunk range `4 (7 - t) …`, and it is entered with the gradients
   of the states that the point before left. So the kernel's result arrays. -/
module

public import proofs.«01_k».proof.Proof.Point
public import Idealize.ShloMosaic.Lib.Pipeline.Value

@[expose] public section

set_option maxRecDepth 16384

noncomputable section

namespace Cert.KernelIdeal.Val

open Idealize.ShloMosaic Idealize.ShloMosaic.TcCoe Idealize.SL.Sem Cert.Spec Cert.KernelIdeal.Gen
open Idealize.ShloMosaic.Pipeline (Dat)

/-! ## The whole arrays, and the block of a point -/

/-- The part of the arrays that point `t` reads. -/
def Blocks.shift (B : Blocks) (t : ℕ) : Blocks where
  X0 h r d := B.X0 h (768 * (7 - t) + r) d
  X1 h k r j := B.X1 h (4 * (7 - t) + k) r j
  X2 r l := B.X2 (256 * (7 - t) + r) l
  X3 h k d e := B.X3 h (4 * (7 - t) + k) d e
  X4 r e := B.X4 (256 * (7 - t) + r) e
  X5 r e := B.X5 (256 * (7 - t) + r) e

theorem Blocks.shift_chunk (B : Blocks) (t k h : ℕ) : (B.shift t).chunk k h = B.chunk (4 * (7 - t) + k) h := by
  have e1 : ∀ r, 768 * (7 - t) + (192 * k + r) = 192 * (4 * (7 - t) + k) + r := fun r => by ring
  have e2 : ∀ r, 768 * (7 - t) + (192 * k + 64 + r) = 192 * (4 * (7 - t) + k) + 64 + r := fun r => by ring
  have e3 : ∀ r, 768 * (7 - t) + (192 * k + 128 + r) = 192 * (4 * (7 - t) + k) + 128 + r := fun r => by ring
  have e4 : ∀ r, 256 * (7 - t) + (64 * k + r) = 64 * (4 * (7 - t) + k) + r := fun r => by ring
  unfold Blocks.chunk Blocks.shift
  simp only [e1, e2, e3, e4]

/-- The states' gradients after the last `n` chunks of all. -/
def Blocks.back (B : Blocks) : ℕ → ℕ → Mat
  | 0, _ => fun _ _ => 0
  | n + 1, h => (B.chunk (31 - n) h).dS (B.back n h)

theorem Blocks.shift_grad (B : Blocks) (t : ℕ) (ht : t < 8) (h : ℕ) : ∀ n, n ≤ 4 →
    (B.shift t).grad (B.back (4 * t)) n h = B.back (4 * t + n) h
  | 0, _ => rfl
  | n + 1, hn => by
    show ((B.shift t).chunk (3 - n) h).dS ((B.shift t).grad (B.back (4 * t)) n h) = (B.chunk (31 - (4 * t + n)) h).dS (B.back (4 * t + n) h)
    rw [Blocks.shift_grad B t ht h n (by omega), Blocks.shift_chunk, show 4 * (7 - t) + (3 - n) = 31 - (4 * t + n) by omega]

section Results
variable (B : Blocks)
/-- The gradient of the corrected values, at a row and a column of the whole array. -/
def Blocks.rdv (a b : ℕ) : ℝ := (B.chunk (a / 64) (b / 128)).dv (B.back (31 - a / 64) (b / 128)) (a % 64) (b % 128)
def Blocks.rdw (a b : ℕ) : ℝ := (B.chunk (a / 64) (b / 128)).dw (B.back (31 - a / 64) (b / 128)) (a % 64) (b % 128)
def Blocks.rdq (a b : ℕ) : ℝ := (B.chunk (a / 64) (b / 128)).dq (a % 64) (b % 128)
def Blocks.rdk (a b : ℕ) : ℝ := (B.chunk (a / 64) (b / 128)).dk (B.back (31 - a / 64) (b / 128)) (a % 64) (b % 128)
def Blocks.rda (h n r j : ℕ) : ℝ := (B.chunk n h).da r j
def Blocks.rdg (h n : ℕ) : ℝ := (B.chunk n h).dg (B.back (31 - n) h)

variable (t : ℕ) (ht : t < 8)
include ht
theorem Blocks.at_row (a : ℕ) (ha : a < 256) : (256 * (7 - t) + a) / 64 = 4 * (7 - t) + a / 64 ∧ (256 * (7 - t) + a) % 64 = a % 64 ∧
    31 - (4 * (7 - t) + a / 64) = 4 * t + (3 - a / 64) ∧ 3 - a / 64 ≤ 4 := by omega

theorem Blocks.shift_dv (a b : ℕ) (ha : a < 256) : (B.shift t).dv (B.back (4 * t)) a b = B.rdv (256 * (7 - t) + a) b := by
  obtain ⟨e1, e2, e3, e4⟩ := Blocks.at_row t ht a ha
  unfold Blocks.dv Blocks.rdv
  rw [e1, e2, Blocks.shift_chunk, e3, Blocks.shift_grad B t ht _ _ e4]

theorem Blocks.shift_dw (a b : ℕ) (ha : a < 256) : (B.shift t).dw (B.back (4 * t)) a b = B.rdw (256 * (7 - t) + a) b := by
  obtain ⟨e1, e2, e3, e4⟩ := Blocks.at_row t ht a ha
  unfold Blocks.dw Blocks.rdw
  rw [e1, e2, Blocks.shift_chunk, e3, Blocks.shift_grad B t ht _ _ e4]

theorem Blocks.shift_dk (a b : ℕ) (ha : a < 256) : (B.shift t).dk (B.back (4 * t)) a b = B.rdk (256 * (7 - t) + a) b := by
  obtain ⟨e1, e2, e3, e4⟩ := Blocks.at_row t ht a ha
  unfold Blocks.dk Blocks.rdk
  rw [e1, e2, Blocks.shift_chunk, e3, Blocks.shift_grad B t ht _ _ e4]

theorem Blocks.shift_dq (a b : ℕ) (ha : a < 256) : (B.shift t).dq a b = B.rdq (256 * (7 - t) + a) b := by
  obtain ⟨e1, e2, e3, e4⟩ := Blocks.at_row t ht a ha
  unfold Blocks.dq Blocks.rdq
  rw [e1, e2, Blocks.shift_chunk]

omit ht in
theorem Blocks.shift_da (h k r j : ℕ) : (B.shift t).da h k r j = B.rda h (4 * (7 - t) + k) r j := by
  unfold Blocks.da Blocks.rda
  rw [Blocks.shift_chunk]
theorem Blocks.shift_dg (h k : ℕ) (hk : k < 4) : (B.shift t).dg (B.back (4 * t)) h k = B.rdg h (4 * (7 - t) + k) := by
  unfold Blocks.dg Blocks.rdg
  rw [Blocks.shift_chunk, show 31 - (4 * (7 - t) + k) = 4 * t + (3 - k) by omega, Blocks.shift_grad B t ht _ _ (by omega)]
end Results

/-! ## The points -/

theorem fst_of {α β : Type} {x : α × β} {a : α} {b : β} (h : x = (a, b)) : x.1 = a := by rw [h]
theorem snd_of {α β : Type} {x : α × β} {a : α} {b : β} (h : x = (a, b)) : x.2 = b := by rw [h]

section Run
variable (m : (ℓ : Loc nD τ sig) → Buf (Elt Ideal) ℓ) (c : Dev nD)

/-- The kernel's operands, as the region finds them, hold the real arrays `B`. -/
structure Entry (B : Blocks) : Prop where
  h0 : ∀ j : S8x6144x128.Idx, (V m c (Pipeline.arrRef spec0 0) : Vec Ideal S8x6144x128 .f32) j = (B.X0 (j 0) (j 1) (j 2) : EReal)
  h1 : ∀ j : S8x32x64x64.Idx, (V m c (Pipeline.arrRef spec0 1) : Vec Ideal S8x32x64x64 .f32) j = (B.X1 (j 0) (j 1) (j 2) (j 3) : EReal)
  h2 : ∀ j : S2048x128.Idx, (V m c (Pipeline.arrRef spec0 2) : Vec Ideal S2048x128 .f32) j = (B.X2 (j 0) (j 1) : EReal)
  h3 : ∀ j : S8x32x128x128.Idx, (V m c (Pipeline.arrRef spec0 3) : Vec Ideal S8x32x128x128 .f32) j = (B.X3 (j 0) (j 1) (j 2) (j 3) : EReal)
  h4 : ∀ j : S2048x1024.Idx, (V m c (Pipeline.arrRef spec0 4) : Vec Ideal S2048x1024 .f32) j = (B.X4 (j 0) (j 1) : EReal)
  h5 : ∀ j : S2048x1024.Idx, (V m c (Pipeline.arrRef spec0 5) : Vec Ideal S2048x1024 .f32) j = (B.X5 (j 0) (j 1) : EReal)

variable {B : Blocks} {m c} (E : Entry m c B)

theorem idx_0 : ∀ t : Fin cfg0.N, win0_0.index t 0 = 0 ∧ win0_0.index t 1 = 7 - t.val ∧ win0_0.index t 2 = 0 :=
  (by decide +kernel : ∀ t : Fin grid0.N, win0_0.index t 0 = 0 ∧ win0_0.index t 1 = 7 - t.val ∧ win0_0.index t 2 = 0)
theorem idx_1 : ∀ t : Fin cfg0.N, win0_1.index t 0 = 0 ∧ win0_1.index t 1 = 7 - t.val ∧ win0_1.index t 2 = 0 ∧ win0_1.index t 3 = 0 :=
  (by decide +kernel : ∀ t : Fin grid0.N, win0_1.index t 0 = 0 ∧ win0_1.index t 1 = 7 - t.val ∧ win0_1.index t 2 = 0 ∧ win0_1.index t 3 = 0)
theorem idx_2 : ∀ t : Fin cfg0.N, win0_2.index t 0 = 7 - t.val ∧ win0_2.index t 1 = 0 :=
  (by decide +kernel : ∀ t : Fin grid0.N, win0_2.index t 0 = 7 - t.val ∧ win0_2.index t 1 = 0)
theorem idx_3 : ∀ t : Fin cfg0.N, win0_3.index t 0 = 0 ∧ win0_3.index t 1 = 7 - t.val ∧ win0_3.index t 2 = 0 ∧ win0_3.index t 3 = 0 :=
  (by decide +kernel : ∀ t : Fin grid0.N, win0_3.index t 0 = 0 ∧ win0_3.index t 1 = 7 - t.val ∧ win0_3.index t 2 = 0 ∧ win0_3.index t 3 = 0)
theorem idx_4 : ∀ t : Fin cfg0.N, win0_4.index t 0 = 7 - t.val ∧ win0_4.index t 1 = 0 :=
  (by decide +kernel : ∀ t : Fin grid0.N, win0_4.index t 0 = 7 - t.val ∧ win0_4.index t 1 = 0)
theorem idx_5 : ∀ t : Fin cfg0.N, win0_5.index t 0 = 7 - t.val ∧ win0_5.index t 1 = 0 :=
  (by decide +kernel : ∀ t : Fin grid0.N, win0_5.index t 0 = 7 - t.val ∧ win0_5.index t 1 = 0)
theorem idx_6 : ∀ t : Fin cfg0.N, win0_6.index t 0 = 7 - t.val ∧ win0_6.index t 1 = 0 :=
  (by decide +kernel : ∀ t : Fin grid0.N, win0_6.index t 0 = 7 - t.val ∧ win0_6.index t 1 = 0)
theorem idx_7 : ∀ t : Fin cfg0.N, win0_7.index t 0 = 7 - t.val ∧ win0_7.index t 1 = 0 :=
  (by decide +kernel : ∀ t : Fin grid0.N, win0_7.index t 0 = 7 - t.val ∧ win0_7.index t 1 = 0)
theorem idx_8 : ∀ t : Fin cfg0.N, win0_8.index t 0 = 7 - t.val ∧ win0_8.index t 1 = 0 :=
  (by decide +kernel : ∀ t : Fin grid0.N, win0_8.index t 0 = 7 - t.val ∧ win0_8.index t 1 = 0)
theorem idx_9 : ∀ t : Fin cfg0.N, win0_9.index t 0 = 7 - t.val ∧ win0_9.index t 1 = 0 :=
  (by decide +kernel : ∀ t : Fin grid0.N, win0_9.index t 0 = 7 - t.val ∧ win0_9.index t 1 = 0)
theorem idx_10 : ∀ t : Fin cfg0.N, win0_10.index t 0 = 0 ∧ win0_10.index t 1 = 7 - t.val ∧ win0_10.index t 2 = 0 ∧ win0_10.index t 3 = 0 :=
  (by decide +kernel : ∀ t : Fin grid0.N, win0_10.index t 0 = 0 ∧ win0_10.index t 1 = 7 - t.val ∧ win0_10.index t 2 = 0 ∧ win0_10.index t 3 = 0)
theorem idx_11 : ∀ t : Fin cfg0.N, win0_11.index t 0 = 0 ∧ win0_11.index t 1 = 7 - t.val ∧ win0_11.index t 2 = 0 ∧ win0_11.index t 3 = 0 :=
  (by decide +kernel : ∀ t : Fin grid0.N, win0_11.index t 0 = 0 ∧ win0_11.index t 1 = 7 - t.val ∧ win0_11.index t 2 = 0 ∧ win0_11.index t 3 = 0)

/-- Operand 0's block at a point. -/
def b0 (m : (ℓ : Loc nD τ sig) → Buf (Elt Ideal) ℓ) (c : Dev nD) (t : Fin cfg0.N) : Vec Ideal S8x768x128 .f32 := iblk m c 0 t
/-- Operand 1's block at a point. -/
def b1 (m : (ℓ : Loc nD τ sig) → Buf (Elt Ideal) ℓ) (c : Dev nD) (t : Fin cfg0.N) : Vec Ideal S8x4x64x64 .f32 := iblk m c 1 t
/-- Operand 2's block at a point. -/
def b2 (m : (ℓ : Loc nD τ sig) → Buf (Elt Ideal) ℓ) (c : Dev nD) (t : Fin cfg0.N) : Vec Ideal S256x128 .f32 := iblk m c 2 t
/-- Operand 3's block at a point. -/
def b3 (m : (ℓ : Loc nD τ sig) → Buf (Elt Ideal) ℓ) (c : Dev nD) (t : Fin cfg0.N) : Vec Ideal S8x4x128x128 .f32 := iblk m c 3 t
/-- Operand 4's block at a point. -/
def b4 (m : (ℓ : Loc nD τ sig) → Buf (Elt Ideal) ℓ) (c : Dev nD) (t : Fin cfg0.N) : Vec Ideal S256x1024 .f32 := iblk m c 4 t
/-- Operand 5's block at a point. -/
def b5 (m : (ℓ : Loc nD τ sig) → Buf (Elt Ideal) ℓ) (c : Dev nD) (t : Fin cfg0.N) : Vec Ideal S256x1024 .f32 := iblk m c 5 t

theorem t_lt (t : Fin cfg0.N) : t.val < 8 := t.isLt

theorem read_blk0 (t : Fin cfg0.N) (f : Vec Ideal S8x6144x128 .f32) (X : ℕ → ℕ → ℕ → ℝ) (hf : ∀ j, f j = (X (j 0) (j 1) (j 2) : EReal)) (j : S8x768x128.Idx) :
    (((cfg0.win 0).blk t).view.read (Elt Ideal) f : Vec Ideal S8x768x128 .f32) j = (X (win0_0.index t 0 * 8 + 1 * (j 0).val) (win0_0.index t 1 * 768 + 1 * (j 1).val) (win0_0.index t 2 * 128 + 1 * (j 2).val) : EReal) := hf (((cfg0.win 0).blk t).view.emb j)

include E in
theorem Entry.blk0 (t : Fin cfg0.N) (j : S8x768x128.Idx) : b0 m c t j = ((B.shift t).X0 (j 0) (j 1) (j 2) : EReal) := by
  obtain ⟨e0, e1, e2⟩ := idx_0 t
  refine (read_blk0 t (V m c (Pipeline.arrRef spec0 0)) B.X0 E.h0 j).trans ?_
  rw [e0, e1, e2]
  simp only [one_mul, zero_mul, zero_add, Nat.mul_comm (7 - t.val)]
  rfl

theorem read_blk1 (t : Fin cfg0.N) (f : Vec Ideal S8x32x64x64 .f32) (X : ℕ → ℕ → ℕ → ℕ → ℝ) (hf : ∀ j, f j = (X (j 0) (j 1) (j 2) (j 3) : EReal)) (j : S8x4x64x64.Idx) :
    (((cfg0.win 1).blk t).view.read (Elt Ideal) f : Vec Ideal S8x4x64x64 .f32) j = (X (win0_1.index t 0 * 8 + 1 * (j 0).val) (win0_1.index t 1 * 4 + 1 * (j 1).val) (win0_1.index t 2 * 64 + 1 * (j 2).val) (win0_1.index t 3 * 64 + 1 * (j 3).val) : EReal) := hf (((cfg0.win 1).blk t).view.emb j)

include E in
theorem Entry.blk1 (t : Fin cfg0.N) (j : S8x4x64x64.Idx) : b1 m c t j = ((B.shift t).X1 (j 0) (j 1) (j 2) (j 3) : EReal) := by
  obtain ⟨e0, e1, e2, e3⟩ := idx_1 t
  refine (read_blk1 t (V m c (Pipeline.arrRef spec0 1)) B.X1 E.h1 j).trans ?_
  rw [e0, e1, e2, e3]
  simp only [one_mul, zero_mul, zero_add, Nat.mul_comm (7 - t.val)]
  rfl

theorem read_blk2 (t : Fin cfg0.N) (f : Vec Ideal S2048x128 .f32) (X : ℕ → ℕ → ℝ) (hf : ∀ j, f j = (X (j 0) (j 1) : EReal)) (j : S256x128.Idx) :
    (((cfg0.win 2).blk t).view.read (Elt Ideal) f : Vec Ideal S256x128 .f32) j = (X (win0_2.index t 0 * 256 + 1 * (j 0).val) (win0_2.index t 1 * 128 + 1 * (j 1).val) : EReal) := hf (((cfg0.win 2).blk t).view.emb j)

include E in
theorem Entry.blk2 (t : Fin cfg0.N) (j : S256x128.Idx) : b2 m c t j = ((B.shift t).X2 (j 0) (j 1) : EReal) := by
  obtain ⟨e0, e1⟩ := idx_2 t
  refine (read_blk2 t (V m c (Pipeline.arrRef spec0 2)) B.X2 E.h2 j).trans ?_
  rw [e0, e1]
  simp only [one_mul, zero_mul, zero_add, Nat.mul_comm (7 - t.val)]
  rfl

theorem read_blk3 (t : Fin cfg0.N) (f : Vec Ideal S8x32x128x128 .f32) (X : ℕ → ℕ → ℕ → ℕ → ℝ) (hf : ∀ j, f j = (X (j 0) (j 1) (j 2) (j 3) : EReal)) (j : S8x4x128x128.Idx) :
    (((cfg0.win 3).blk t).view.read (Elt Ideal) f : Vec Ideal S8x4x128x128 .f32) j = (X (win0_3.index t 0 * 8 + 1 * (j 0).val) (win0_3.index t 1 * 4 + 1 * (j 1).val) (win0_3.index t 2 * 128 + 1 * (j 2).val) (win0_3.index t 3 * 128 + 1 * (j 3).val) : EReal) := hf (((cfg0.win 3).blk t).view.emb j)

include E in
theorem Entry.blk3 (t : Fin cfg0.N) (j : S8x4x128x128.Idx) : b3 m c t j = ((B.shift t).X3 (j 0) (j 1) (j 2) (j 3) : EReal) := by
  obtain ⟨e0, e1, e2, e3⟩ := idx_3 t
  refine (read_blk3 t (V m c (Pipeline.arrRef spec0 3)) B.X3 E.h3 j).trans ?_
  rw [e0, e1, e2, e3]
  simp only [one_mul, zero_mul, zero_add, Nat.mul_comm (7 - t.val)]
  rfl

theorem read_blk4 (t : Fin cfg0.N) (f : Vec Ideal S2048x1024 .f32) (X : ℕ → ℕ → ℝ) (hf : ∀ j, f j = (X (j 0) (j 1) : EReal)) (j : S256x1024.Idx) :
    (((cfg0.win 4).blk t).view.read (Elt Ideal) f : Vec Ideal S256x1024 .f32) j = (X (win0_4.index t 0 * 256 + 1 * (j 0).val) (win0_4.index t 1 * 1024 + 1 * (j 1).val) : EReal) := hf (((cfg0.win 4).blk t).view.emb j)

include E in
theorem Entry.blk4 (t : Fin cfg0.N) (j : S256x1024.Idx) : b4 m c t j = ((B.shift t).X4 (j 0) (j 1) : EReal) := by
  obtain ⟨e0, e1⟩ := idx_4 t
  refine (read_blk4 t (V m c (Pipeline.arrRef spec0 4)) B.X4 E.h4 j).trans ?_
  rw [e0, e1]
  simp only [one_mul, zero_mul, zero_add, Nat.mul_comm (7 - t.val)]
  rfl

theorem read_blk5 (t : Fin cfg0.N) (f : Vec Ideal S2048x1024 .f32) (X : ℕ → ℕ → ℝ) (hf : ∀ j, f j = (X (j 0) (j 1) : EReal)) (j : S256x1024.Idx) :
    (((cfg0.win 5).blk t).view.read (Elt Ideal) f : Vec Ideal S256x1024 .f32) j = (X (win0_5.index t 0 * 256 + 1 * (j 0).val) (win0_5.index t 1 * 1024 + 1 * (j 1).val) : EReal) := hf (((cfg0.win 5).blk t).view.emb j)

include E in
theorem Entry.blk5 (t : Fin cfg0.N) (j : S256x1024.Idx) : b5 m c t j = ((B.shift t).X5 (j 0) (j 1) : EReal) := by
  obtain ⟨e0, e1⟩ := idx_5 t
  refine (read_blk5 t (V m c (Pipeline.arrRef spec0 5)) B.X5 E.h5 j).trans ?_
  rw [e0, e1]
  simp only [one_mul, zero_mul, zero_add, Nat.mul_comm (7 - t.val)]
  rfl

variable (m c) in
theorem outsA (t : Fin cfg0.N) (h0 : t.val % 8 = 0) : outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (b0 m c t) (b1 m c t) (b2 m c t) (b3 m c t) (b4 m c t) (b5 m c t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (b0 m c t) (b1 m c t) (b2 m c t) (b3 m c t) (b4 m c t) (b5 m c t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (b0 m c t) (b1 m c t) (b2 m c t) (b3 m c t) (b4 m c t) (b5 m c t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (b0 m c t) (b1 m c t) (b2 m c t) (b3 m c t) (b4 m c t) (b5 m c t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (b0 m c t) (b1 m c t) (b2 m c t) (b3 m c t) (b4 m c t) (b5 m c t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (b0 m c t) (b1 m c t) (b2 m c t) (b3 m c t) (b4 m c t) (b5 m c t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (b0 m c t) (b1 m c t) (b2 m c t) (b3 m c t) (b4 m c t) (b5 m c t)) := outsAt0_A m c t h0
variable (m c) in
theorem outsB (t : Fin cfg0.N) (h0 : ¬t.val % 8 = 0) : outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (b0 m c t) (b1 m c t) (b2 m c t) (b3 m c t) (b4 m c t) (b5 m c t) (outsAt0 m c (t.val - 1) (Nat.lt_of_le_of_lt (Nat.sub_le _ _) t.isLt)).2.2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (b0 m c t) (b1 m c t) (b2 m c t) (b3 m c t) (b4 m c t) (b5 m c t) (outsAt0 m c (t.val - 1) (Nat.lt_of_le_of_lt (Nat.sub_le _ _) t.isLt)).2.2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (b0 m c t) (b1 m c t) (b2 m c t) (b3 m c t) (b4 m c t) (b5 m c t) (outsAt0 m c (t.val - 1) (Nat.lt_of_le_of_lt (Nat.sub_le _ _) t.isLt)).2.2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (b0 m c t) (b1 m c t) (b2 m c t) (b3 m c t) (b4 m c t) (b5 m c t) (outsAt0 m c (t.val - 1) (Nat.lt_of_le_of_lt (Nat.sub_le _ _) t.isLt)).2.2.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (b0 m c t) (b1 m c t) (b2 m c t) (b3 m c t) (b4 m c t) (b5 m c t) (outsAt0 m c (t.val - 1) (Nat.lt_of_le_of_lt (Nat.sub_le _ _) t.isLt)).2.2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (b0 m c t) (b1 m c t) (b2 m c t) (b3 m c t) (b4 m c t) (b5 m c t) (outsAt0 m c (t.val - 1) (Nat.lt_of_le_of_lt (Nat.sub_le _ _) t.isLt)).2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (b0 m c t) (b1 m c t) (b2 m c t) (b3 m c t) (b4 m c t) (b5 m c t) (outsAt0 m c (t.val - 1) (Nat.lt_of_le_of_lt (Nat.sub_le _ _) t.isLt)).2.2.2.2.2.2) := outsAt0_B m c t h0

theorem holds_mk (a0 : Memref sig .tc .vmem S8x768x128 .f32) (ha0 : a0.IsWhole) (a1 : Memref sig .tc .vmem S8x4x64x64 .f32) (ha1 : a1.IsWhole) (a2 : Memref sig .tc .vmem S256x128 .f32) (ha2 : a2.IsWhole) (a3 : Memref sig .tc .vmem S8x4x128x128 .f32) (ha3 : a3.IsWhole) (a4 : Memref sig .tc .vmem S256x1024 .f32) (ha4 : a4.IsWhole) (a5 : Memref sig .tc .vmem S256x1024 .f32) (ha5 : a5.IsWhole)
    (x0 : Vec Ideal S8x768x128 .f32) (x1 : Vec Ideal S8x4x64x64 .f32) (x2 : Vec Ideal S256x128 .f32) (x3 : Vec Ideal S8x4x128x128 .f32) (x4 : Vec Ideal S256x1024 .f32) (x5 : Vec Ideal S256x1024 .f32) (B : Blocks)
    (h0 : ∀ j, x0 j = (B.X0 (j 0) (j 1) (j 2) : EReal))
    (h1 : ∀ j, x1 j = (B.X1 (j 0) (j 1) (j 2) (j 3) : EReal))
    (h2 : ∀ j, x2 j = (B.X2 (j 0) (j 1) : EReal))
    (h3 : ∀ j, x3 j = (B.X3 (j 0) (j 1) (j 2) (j 3) : EReal))
    (h4 : ∀ j, x4 j = (B.X4 (j 0) (j 1) : EReal))
    (h5 : ∀ j, x5 j = (B.X5 (j 0) (j 1) : EReal)) :
    Holds (insA a0 ha0 a1 ha1 a2 ha2 a3 ha3 a4 ha4 a5 ha5 x0 x1 x2 x3 x4 x5) B := ⟨h0, h1, h2, h3, h4, h5⟩

include E in
theorem Entry.holds (t : Fin cfg0.N) : Holds (insA (ms0_0 t) (hs0_0 t) (ms0_1 t) (hs0_1 t) (ms0_2 t) (hs0_2 t) (ms0_3 t) (hs0_3 t) (ms0_4 t) (hs0_4 t) (ms0_5 t) (hs0_5 t)
    (b0 m c t) (b1 m c t) (b2 m c t) (b3 m c t) (b4 m c t) (b5 m c t)) (B.shift t.val) :=
  holds_mk _ _ _ _ _ _ _ _ _ _ _ _ _ _ _ _ _ _ _ (E.blk0 t) (E.blk1 t) (E.blk2 t) (E.blk3 t) (E.blk4 t) (E.blk5 t)

include E in
theorem Entry.scratchA (t : Fin cfg0.N) (hz : t.val = 0) (y : S8x128x128.Idx) :
    (outsAt0 m c t.val t.isLt).2.2.2.2.2.2 y = (B.back (4 * t.val + 4) (y 0) (y 1) (y 2) : EReal) := by
  have h0 : t.val % 8 = 0 := by omega
  refine (congrFun (snd_of (snd_of (snd_of (snd_of (snd_of (snd_of (outsA m c t h0))))))) y).trans ?_
  refine (soutA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (b0 m c t) (b1 m c t) (b2 m c t) (b3 m c t) (b4 m c t) (b5 m c t) ((hcond0_0 t).mpr h0) (E.holds t) y).trans ?_
  rw [← Blocks.shift_grad B t.val (t_lt t) _ 4 (by decide), hz]
  rfl

include E in
theorem Entry.scratchB (t : Fin cfg0.N) (h0 : ¬t.val % 8 = 0)
    (hx : ∀ y, (outsAt0 m c (t.val - 1) (Nat.lt_of_le_of_lt (Nat.sub_le _ _) t.isLt)).2.2.2.2.2.2 y = (B.back (4 * t.val) (y 0) (y 1) (y 2) : EReal)) (y : S8x128x128.Idx) :
    (outsAt0 m c t.val t.isLt).2.2.2.2.2.2 y = (B.back (4 * t.val + 4) (y 0) (y 1) (y 2) : EReal) := by
  refine (congrFun (snd_of (snd_of (snd_of (snd_of (snd_of (snd_of (outsB m c t h0))))))) y).trans ?_
  refine (soutB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (b0 m c t) (b1 m c t) (b2 m c t) (b3 m c t) (b4 m c t) (b5 m c t) (outsAt0 m c (t.val - 1) (Nat.lt_of_le_of_lt (Nat.sub_le _ _) (t).isLt)).2.2.2.2.2.2 (fun h => h0 ((hcond0_0 t).mp h)) (E.holds t) hx y).trans ?_
  rw [← Blocks.shift_grad B t.val (t_lt t) _ 4 (by decide)]

include E in
/-- The scratch after a point. -/
theorem Entry.scratch : ∀ (n : ℕ) (hn : n < cfg0.N) (y : S8x128x128.Idx),
    (outsAt0 m c n hn).2.2.2.2.2.2 y = (B.back (4 * n + 4) (y 0) (y 1) (y 2) : EReal)
  | 0, hn, y => E.scratchA ⟨0, hn⟩ rfl y
  | n + 1, hn, y => by
    have h8 : n + 1 < 8 := hn
    exact E.scratchB ⟨n + 1, hn⟩ (by show ¬(n + 1) % 8 = 0; omega) (fun y => Entry.scratch n (Nat.lt_of_succ_lt hn) y) y

include E in
theorem Entry.pt_dv (t : Fin cfg0.N) : (outsAt0 m c t.val t.isLt).1 = fun y : S256x1024.Idx => ((B.shift t.val).dv (B.back (4 * t.val)) (y 0) (y 1) : EReal) := by
  have h8 := t_lt t
  by_cases h0 : t.val % 8 = 0
  · have hz : t.val = 0 := by omega
    refine (fst_of (outsA m c t h0)).trans ?_
    refine (outA_dv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (b0 m c t) (b1 m c t) (b2 m c t) (b3 m c t) (b4 m c t) (b5 m c t) ((hcond0_0 t).mpr h0) (E.holds t)).trans ?_
    rw [hz]; rfl
  · have hx := E.scratch (t.val - 1) (Nat.lt_of_le_of_lt (Nat.sub_le _ _) t.isLt)
    rw [show 4 * (t.val - 1) + 4 = 4 * t.val by omega] at hx
    refine (fst_of (outsB m c t h0)).trans ?_
    exact outB_dv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (b0 m c t) (b1 m c t) (b2 m c t) (b3 m c t) (b4 m c t) (b5 m c t) (outsAt0 m c (t.val - 1) (Nat.lt_of_le_of_lt (Nat.sub_le _ _) (t).isLt)).2.2.2.2.2.2 (fun h => h0 ((hcond0_0 t).mp h)) (E.holds t) hx

include E in
theorem Entry.pt_dw (t : Fin cfg0.N) : (outsAt0 m c t.val t.isLt).2.1 = fun y : S256x1024.Idx => ((B.shift t.val).dw (B.back (4 * t.val)) (y 0) (y 1) : EReal) := by
  have h8 := t_lt t
  by_cases h0 : t.val % 8 = 0
  · have hz : t.val = 0 := by omega
    refine (fst_of (snd_of (outsA m c t h0))).trans ?_
    refine (outA_dw c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (b0 m c t) (b1 m c t) (b2 m c t) (b3 m c t) (b4 m c t) (b5 m c t) ((hcond0_0 t).mpr h0) (E.holds t)).trans ?_
    rw [hz]; rfl
  · have hx := E.scratch (t.val - 1) (Nat.lt_of_le_of_lt (Nat.sub_le _ _) t.isLt)
    rw [show 4 * (t.val - 1) + 4 = 4 * t.val by omega] at hx
    refine (fst_of (snd_of (outsB m c t h0))).trans ?_
    exact outB_dw c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (b0 m c t) (b1 m c t) (b2 m c t) (b3 m c t) (b4 m c t) (b5 m c t) (outsAt0 m c (t.val - 1) (Nat.lt_of_le_of_lt (Nat.sub_le _ _) (t).isLt)).2.2.2.2.2.2 (fun h => h0 ((hcond0_0 t).mp h)) (E.holds t) hx

include E in
theorem Entry.pt_dq (t : Fin cfg0.N) : (outsAt0 m c t.val t.isLt).2.2.1 = fun y : S256x1024.Idx => ((B.shift t.val).dq (y 0) (y 1) : EReal) := by
  have h8 := t_lt t
  by_cases h0 : t.val % 8 = 0
  · have hz : t.val = 0 := by omega
    refine (fst_of (snd_of (snd_of (outsA m c t h0)))).trans ?_
    refine (outA_dq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (b0 m c t) (b1 m c t) (b2 m c t) (b3 m c t) (b4 m c t) (b5 m c t) ((hcond0_0 t).mpr h0) (E.holds t)).trans ?_
    rw [hz]
  · have hx := E.scratch (t.val - 1) (Nat.lt_of_le_of_lt (Nat.sub_le _ _) t.isLt)
    rw [show 4 * (t.val - 1) + 4 = 4 * t.val by omega] at hx
    refine (fst_of (snd_of (snd_of (outsB m c t h0)))).trans ?_
    exact outB_dq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (b0 m c t) (b1 m c t) (b2 m c t) (b3 m c t) (b4 m c t) (b5 m c t) (outsAt0 m c (t.val - 1) (Nat.lt_of_le_of_lt (Nat.sub_le _ _) (t).isLt)).2.2.2.2.2.2 (fun h => h0 ((hcond0_0 t).mp h)) (E.holds t) hx

include E in
theorem Entry.pt_dk (t : Fin cfg0.N) : (outsAt0 m c t.val t.isLt).2.2.2.1 = fun y : S256x1024.Idx => ((B.shift t.val).dk (B.back (4 * t.val)) (y 0) (y 1) : EReal) := by
  have h8 := t_lt t
  by_cases h0 : t.val % 8 = 0
  · have hz : t.val = 0 := by omega
    refine (fst_of (snd_of (snd_of (snd_of (outsA m c t h0))))).trans ?_
    refine (outA_dk c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (b0 m c t) (b1 m c t) (b2 m c t) (b3 m c t) (b4 m c t) (b5 m c t) ((hcond0_0 t).mpr h0) (E.holds t)).trans ?_
    rw [hz]; rfl
  · have hx := E.scratch (t.val - 1) (Nat.lt_of_le_of_lt (Nat.sub_le _ _) t.isLt)
    rw [show 4 * (t.val - 1) + 4 = 4 * t.val by omega] at hx
    refine (fst_of (snd_of (snd_of (snd_of (outsB m c t h0))))).trans ?_
    exact outB_dk c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (b0 m c t) (b1 m c t) (b2 m c t) (b3 m c t) (b4 m c t) (b5 m c t) (outsAt0 m c (t.val - 1) (Nat.lt_of_le_of_lt (Nat.sub_le _ _) (t).isLt)).2.2.2.2.2.2 (fun h => h0 ((hcond0_0 t).mp h)) (E.holds t) hx

include E in
theorem Entry.pt_da (t : Fin cfg0.N) : (outsAt0 m c t.val t.isLt).2.2.2.2.1 = fun y : S8x4x64x64.Idx => ((B.shift t.val).da (y 0) (y 1) (y 2) (y 3) : EReal) := by
  have h8 := t_lt t
  by_cases h0 : t.val % 8 = 0
  · have hz : t.val = 0 := by omega
    refine (fst_of (snd_of (snd_of (snd_of (snd_of (outsA m c t h0)))))).trans ?_
    refine (outA_da c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (b0 m c t) (b1 m c t) (b2 m c t) (b3 m c t) (b4 m c t) (b5 m c t) ((hcond0_0 t).mpr h0) (E.holds t)).trans ?_
    rw [hz]
  · have hx := E.scratch (t.val - 1) (Nat.lt_of_le_of_lt (Nat.sub_le _ _) t.isLt)
    rw [show 4 * (t.val - 1) + 4 = 4 * t.val by omega] at hx
    refine (fst_of (snd_of (snd_of (snd_of (snd_of (outsB m c t h0)))))).trans ?_
    exact outB_da c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (b0 m c t) (b1 m c t) (b2 m c t) (b3 m c t) (b4 m c t) (b5 m c t) (outsAt0 m c (t.val - 1) (Nat.lt_of_le_of_lt (Nat.sub_le _ _) (t).isLt)).2.2.2.2.2.2 (fun h => h0 ((hcond0_0 t).mp h)) (E.holds t) hx

include E in
theorem Entry.pt_dg (t : Fin cfg0.N) : (outsAt0 m c t.val t.isLt).2.2.2.2.2.1 = fun y : S8x4x1x128.Idx => ((B.shift t.val).dg (B.back (4 * t.val)) (y 0) (y 1) : EReal) := by
  have h8 := t_lt t
  by_cases h0 : t.val % 8 = 0
  · have hz : t.val = 0 := by omega
    refine (fst_of (snd_of (snd_of (snd_of (snd_of (snd_of (outsA m c t h0))))))).trans ?_
    refine (outA_dg c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (b0 m c t) (b1 m c t) (b2 m c t) (b3 m c t) (b4 m c t) (b5 m c t) ((hcond0_0 t).mpr h0) (E.holds t)).trans ?_
    rw [hz]; rfl
  · have hx := E.scratch (t.val - 1) (Nat.lt_of_le_of_lt (Nat.sub_le _ _) t.isLt)
    rw [show 4 * (t.val - 1) + 4 = 4 * t.val by omega] at hx
    refine (fst_of (snd_of (snd_of (snd_of (snd_of (snd_of (outsB m c t h0))))))).trans ?_
    exact outB_dg c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (b0 m c t) (b1 m c t) (b2 m c t) (b3 m c t) (b4 m c t) (b5 m c t) (outsAt0 m c (t.val - 1) (Nat.lt_of_le_of_lt (Nat.sub_le _ _) (t).isLt)).2.2.2.2.2.2 (fun h => h0 ((hcond0_0 t).mp h)) (E.holds t) hx

theorem mem_blk_6 (t : Fin cfg0.N) (i : S2048x1024.Idx) (h : (i 0).val / 256 = 7 - t.val) : i ∈ ((cfg0.win 6).blk t).view.set := by
  obtain ⟨e0, e1⟩ := idx_6 t
  show i ∈ ((View.whole main_v295_0).slice (win0_6.rect t)).set
  rw [View.set_slice_whole, Rect.mem_set_unit]
  intro a
  fin_cases a
  · show win0_6.index t 0 * 256 ≤ (i 0).val ∧ (i 0).val < win0_6.index t 0 * 256 + 256
    have hi : (i 0).val < 2048 := (i 0).isLt
    rw [e0]; omega
  · show win0_6.index t 1 * 1024 ≤ (i 1).val ∧ (i 1).val < win0_6.index t 1 * 1024 + 1024
    have hi : (i 1).val < 1024 := (i 1).isLt
    rw [e1]; omega

include E in
theorem Entry.final_dv : (dats m 0 c).arrAt 6 cfg0.N = fun y : S2048x1024.Idx => (B.rdv (y 0) (y 1) : EReal) :=
  (dats m 0 c).arrAt_eq_of_cover 6 (fun y : S2048x1024.Idx => (B.rdv (y 0) (y 1) : EReal)) (fun t _ => by
    show (cfg0.win 6).cut (grid0.coords t) ((dats m 0 c).after 6 t) = _
    rw [after0_6, E.pt_dv t]
    funext j
    change S256x1024.Idx at j
    obtain ⟨e0, e1⟩ := idx_6 t
    show (((B.shift t.val).dv (B.back (4 * t.val)) (j 0).val (j 1).val : ℝ) : EReal) = ((B.rdv (win0_6.index t 0 * 256 + 1 * (j 0).val) (win0_6.index t 1 * 1024 + 1 * (j 1).val) : ℝ) : EReal)
    rw [e0, e1, Blocks.shift_dv B t.val (t_lt t) _ _ (j 0).isLt]
    simp only [one_mul, zero_mul, zero_add, Nat.mul_comm (7 - t.val)]) fun i => by
    change S2048x1024.Idx at i
    have hi : (i 0).val < 2048 := (i 0).isLt
    have hN : 7 - (i 0).val / 256 < cfg0.N := show 7 - (i 0).val / 256 < 8 by omega
    exact ⟨⟨_, hN⟩, flush0_6 _, mem_blk_6 _ i (by show _ = 7 - (7 - (i 0).val / 256); omega)⟩

theorem mem_blk_7 (t : Fin cfg0.N) (i : S2048x1024.Idx) (h : (i 0).val / 256 = 7 - t.val) : i ∈ ((cfg0.win 7).blk t).view.set := by
  obtain ⟨e0, e1⟩ := idx_7 t
  show i ∈ ((View.whole main_v295_1).slice (win0_7.rect t)).set
  rw [View.set_slice_whole, Rect.mem_set_unit]
  intro a
  fin_cases a
  · show win0_7.index t 0 * 256 ≤ (i 0).val ∧ (i 0).val < win0_7.index t 0 * 256 + 256
    have hi : (i 0).val < 2048 := (i 0).isLt
    rw [e0]; omega
  · show win0_7.index t 1 * 1024 ≤ (i 1).val ∧ (i 1).val < win0_7.index t 1 * 1024 + 1024
    have hi : (i 1).val < 1024 := (i 1).isLt
    rw [e1]; omega

include E in
theorem Entry.final_dw : (dats m 0 c).arrAt 7 cfg0.N = fun y : S2048x1024.Idx => (B.rdw (y 0) (y 1) : EReal) :=
  (dats m 0 c).arrAt_eq_of_cover 7 (fun y : S2048x1024.Idx => (B.rdw (y 0) (y 1) : EReal)) (fun t _ => by
    show (cfg0.win 7).cut (grid0.coords t) ((dats m 0 c).after 7 t) = _
    rw [after0_7, E.pt_dw t]
    funext j
    change S256x1024.Idx at j
    obtain ⟨e0, e1⟩ := idx_7 t
    show (((B.shift t.val).dw (B.back (4 * t.val)) (j 0).val (j 1).val : ℝ) : EReal) = ((B.rdw (win0_7.index t 0 * 256 + 1 * (j 0).val) (win0_7.index t 1 * 1024 + 1 * (j 1).val) : ℝ) : EReal)
    rw [e0, e1, Blocks.shift_dw B t.val (t_lt t) _ _ (j 0).isLt]
    simp only [one_mul, zero_mul, zero_add, Nat.mul_comm (7 - t.val)]) fun i => by
    change S2048x1024.Idx at i
    have hi : (i 0).val < 2048 := (i 0).isLt
    have hN : 7 - (i 0).val / 256 < cfg0.N := show 7 - (i 0).val / 256 < 8 by omega
    exact ⟨⟨_, hN⟩, flush0_7 _, mem_blk_7 _ i (by show _ = 7 - (7 - (i 0).val / 256); omega)⟩

theorem mem_blk_8 (t : Fin cfg0.N) (i : S2048x1024.Idx) (h : (i 0).val / 256 = 7 - t.val) : i ∈ ((cfg0.win 8).blk t).view.set := by
  obtain ⟨e0, e1⟩ := idx_8 t
  show i ∈ ((View.whole main_v295_2).slice (win0_8.rect t)).set
  rw [View.set_slice_whole, Rect.mem_set_unit]
  intro a
  fin_cases a
  · show win0_8.index t 0 * 256 ≤ (i 0).val ∧ (i 0).val < win0_8.index t 0 * 256 + 256
    have hi : (i 0).val < 2048 := (i 0).isLt
    rw [e0]; omega
  · show win0_8.index t 1 * 1024 ≤ (i 1).val ∧ (i 1).val < win0_8.index t 1 * 1024 + 1024
    have hi : (i 1).val < 1024 := (i 1).isLt
    rw [e1]; omega

include E in
theorem Entry.final_dq : (dats m 0 c).arrAt 8 cfg0.N = fun y : S2048x1024.Idx => (B.rdq (y 0) (y 1) : EReal) :=
  (dats m 0 c).arrAt_eq_of_cover 8 (fun y : S2048x1024.Idx => (B.rdq (y 0) (y 1) : EReal)) (fun t _ => by
    show (cfg0.win 8).cut (grid0.coords t) ((dats m 0 c).after 8 t) = _
    rw [after0_8, E.pt_dq t]
    funext j
    change S256x1024.Idx at j
    obtain ⟨e0, e1⟩ := idx_8 t
    show (((B.shift t.val).dq (j 0).val (j 1).val : ℝ) : EReal) = ((B.rdq (win0_8.index t 0 * 256 + 1 * (j 0).val) (win0_8.index t 1 * 1024 + 1 * (j 1).val) : ℝ) : EReal)
    rw [e0, e1, Blocks.shift_dq B t.val (t_lt t) _ _ (j 0).isLt]
    simp only [one_mul, zero_mul, zero_add, Nat.mul_comm (7 - t.val)]) fun i => by
    change S2048x1024.Idx at i
    have hi : (i 0).val < 2048 := (i 0).isLt
    have hN : 7 - (i 0).val / 256 < cfg0.N := show 7 - (i 0).val / 256 < 8 by omega
    exact ⟨⟨_, hN⟩, flush0_8 _, mem_blk_8 _ i (by show _ = 7 - (7 - (i 0).val / 256); omega)⟩

theorem mem_blk_9 (t : Fin cfg0.N) (i : S2048x1024.Idx) (h : (i 0).val / 256 = 7 - t.val) : i ∈ ((cfg0.win 9).blk t).view.set := by
  obtain ⟨e0, e1⟩ := idx_9 t
  show i ∈ ((View.whole main_v295_3).slice (win0_9.rect t)).set
  rw [View.set_slice_whole, Rect.mem_set_unit]
  intro a
  fin_cases a
  · show win0_9.index t 0 * 256 ≤ (i 0).val ∧ (i 0).val < win0_9.index t 0 * 256 + 256
    have hi : (i 0).val < 2048 := (i 0).isLt
    rw [e0]; omega
  · show win0_9.index t 1 * 1024 ≤ (i 1).val ∧ (i 1).val < win0_9.index t 1 * 1024 + 1024
    have hi : (i 1).val < 1024 := (i 1).isLt
    rw [e1]; omega

include E in
theorem Entry.final_dk : (dats m 0 c).arrAt 9 cfg0.N = fun y : S2048x1024.Idx => (B.rdk (y 0) (y 1) : EReal) :=
  (dats m 0 c).arrAt_eq_of_cover 9 (fun y : S2048x1024.Idx => (B.rdk (y 0) (y 1) : EReal)) (fun t _ => by
    show (cfg0.win 9).cut (grid0.coords t) ((dats m 0 c).after 9 t) = _
    rw [after0_9, E.pt_dk t]
    funext j
    change S256x1024.Idx at j
    obtain ⟨e0, e1⟩ := idx_9 t
    show (((B.shift t.val).dk (B.back (4 * t.val)) (j 0).val (j 1).val : ℝ) : EReal) = ((B.rdk (win0_9.index t 0 * 256 + 1 * (j 0).val) (win0_9.index t 1 * 1024 + 1 * (j 1).val) : ℝ) : EReal)
    rw [e0, e1, Blocks.shift_dk B t.val (t_lt t) _ _ (j 0).isLt]
    simp only [one_mul, zero_mul, zero_add, Nat.mul_comm (7 - t.val)]) fun i => by
    change S2048x1024.Idx at i
    have hi : (i 0).val < 2048 := (i 0).isLt
    have hN : 7 - (i 0).val / 256 < cfg0.N := show 7 - (i 0).val / 256 < 8 by omega
    exact ⟨⟨_, hN⟩, flush0_9 _, mem_blk_9 _ i (by show _ = 7 - (7 - (i 0).val / 256); omega)⟩

theorem mem_blk_10 (t : Fin cfg0.N) (i : S8x32x64x64.Idx) (h : (i 1).val / 4 = 7 - t.val) : i ∈ ((cfg0.win 10).blk t).view.set := by
  obtain ⟨e0, e1, e2, e3⟩ := idx_10 t
  show i ∈ ((View.whole main_v295_4).slice (win0_10.rect t)).set
  rw [View.set_slice_whole, Rect.mem_set_unit]
  intro a
  fin_cases a
  · show win0_10.index t 0 * 8 ≤ (i 0).val ∧ (i 0).val < win0_10.index t 0 * 8 + 8
    have hi : (i 0).val < 8 := (i 0).isLt
    rw [e0]; omega
  · show win0_10.index t 1 * 4 ≤ (i 1).val ∧ (i 1).val < win0_10.index t 1 * 4 + 4
    have hi : (i 1).val < 32 := (i 1).isLt
    rw [e1]; omega
  · show win0_10.index t 2 * 64 ≤ (i 2).val ∧ (i 2).val < win0_10.index t 2 * 64 + 64
    have hi : (i 2).val < 64 := (i 2).isLt
    rw [e2]; omega
  · show win0_10.index t 3 * 64 ≤ (i 3).val ∧ (i 3).val < win0_10.index t 3 * 64 + 64
    have hi : (i 3).val < 64 := (i 3).isLt
    rw [e3]; omega

include E in
theorem Entry.final_da : (dats m 0 c).arrAt 10 cfg0.N = fun y : S8x32x64x64.Idx => (B.rda (y 0) (y 1) (y 2) (y 3) : EReal) :=
  (dats m 0 c).arrAt_eq_of_cover 10 (fun y : S8x32x64x64.Idx => (B.rda (y 0) (y 1) (y 2) (y 3) : EReal)) (fun t _ => by
    show (cfg0.win 10).cut (grid0.coords t) ((dats m 0 c).after 10 t) = _
    rw [after0_10, E.pt_da t]
    funext j
    change S8x4x64x64.Idx at j
    obtain ⟨e0, e1, e2, e3⟩ := idx_10 t
    show (((B.shift t.val).da (j 0).val (j 1).val (j 2).val (j 3).val : ℝ) : EReal) = ((B.rda (win0_10.index t 0 * 8 + 1 * (j 0).val) (win0_10.index t 1 * 4 + 1 * (j 1).val) (win0_10.index t 2 * 64 + 1 * (j 2).val) (win0_10.index t 3 * 64 + 1 * (j 3).val) : ℝ) : EReal)
    rw [e0, e1, e2, e3, Blocks.shift_da B t.val _ _ _ _]
    simp only [one_mul, zero_mul, zero_add, Nat.mul_comm (7 - t.val)]) fun i => by
    change S8x32x64x64.Idx at i
    have hi : (i 1).val < 32 := (i 1).isLt
    have hN : 7 - (i 1).val / 4 < cfg0.N := show 7 - (i 1).val / 4 < 8 by omega
    exact ⟨⟨_, hN⟩, flush0_10 _, mem_blk_10 _ i (by show _ = 7 - (7 - (i 1).val / 4); omega)⟩

theorem mem_blk_11 (t : Fin cfg0.N) (i : S8x32x1x128.Idx) (h : (i 1).val / 4 = 7 - t.val) : i ∈ ((cfg0.win 11).blk t).view.set := by
  obtain ⟨e0, e1, e2, e3⟩ := idx_11 t
  show i ∈ ((View.whole main_v295_5).slice (win0_11.rect t)).set
  rw [View.set_slice_whole, Rect.mem_set_unit]
  intro a
  fin_cases a
  · show win0_11.index t 0 * 8 ≤ (i 0).val ∧ (i 0).val < win0_11.index t 0 * 8 + 8
    have hi : (i 0).val < 8 := (i 0).isLt
    rw [e0]; omega
  · show win0_11.index t 1 * 4 ≤ (i 1).val ∧ (i 1).val < win0_11.index t 1 * 4 + 4
    have hi : (i 1).val < 32 := (i 1).isLt
    rw [e1]; omega
  · show win0_11.index t 2 * 1 ≤ (i 2).val ∧ (i 2).val < win0_11.index t 2 * 1 + 1
    have hi : (i 2).val < 1 := (i 2).isLt
    rw [e2]; omega
  · show win0_11.index t 3 * 128 ≤ (i 3).val ∧ (i 3).val < win0_11.index t 3 * 128 + 128
    have hi : (i 3).val < 128 := (i 3).isLt
    rw [e3]; omega

include E in
theorem Entry.final_dg : (dats m 0 c).arrAt 11 cfg0.N = fun y : S8x32x1x128.Idx => (B.rdg (y 0) (y 1) : EReal) :=
  (dats m 0 c).arrAt_eq_of_cover 11 (fun y : S8x32x1x128.Idx => (B.rdg (y 0) (y 1) : EReal)) (fun t _ => by
    show (cfg0.win 11).cut (grid0.coords t) ((dats m 0 c).after 11 t) = _
    rw [after0_11, E.pt_dg t]
    funext j
    change S8x4x1x128.Idx at j
    obtain ⟨e0, e1, e2, e3⟩ := idx_11 t
    show (((B.shift t.val).dg (B.back (4 * t.val)) (j 0).val (j 1).val : ℝ) : EReal) = ((B.rdg (win0_11.index t 0 * 8 + 1 * (j 0).val) (win0_11.index t 1 * 4 + 1 * (j 1).val) : ℝ) : EReal)
    rw [e0, e1, Blocks.shift_dg B t.val (t_lt t) _ _ (j 1).isLt]
    simp only [one_mul, zero_mul, zero_add, Nat.mul_comm (7 - t.val)]) fun i => by
    change S8x32x1x128.Idx at i
    have hi : (i 1).val < 32 := (i 1).isLt
    have hN : 7 - (i 1).val / 4 < cfg0.N := show 7 - (i 1).val / 4 < 8 by omega
    exact ⟨⟨_, hN⟩, flush0_11 _, mem_blk_11 _ i (by show _ = 7 - (7 - (i 1).val / 4); omega)⟩

end Run

end Cert.KernelIdeal.Val

end
-- ==== Proof.Chunks.lean ====
/- The kernel's states and corrected values, chunk by chunk over the reals, and the arrays that the kernel's call reads as
   the gated delta rule's own quantities. -/
module

public import proofs.«01_k».proof.Proof.Grid

@[expose] public section

noncomputable section

namespace Cert.KernelIdeal.Val

open Idealize.ShloMosaic Cert.Spec
open Cert.KernelIdeal Cert.KernelIdeal.Gen
open scoped BigOperators

/-! ## The blocks of a sequence -/

/-- What the call reads, for the sequences `s`. -/
def Blocks.ofSeq (s : Seq) : Blocks where
  X0 h i d := if i % 192 < 64 then s.w h (i / 192) (i % 192) d
    else if i % 192 < 128 then s.q h (i / 192) (i % 192 - 64) d else s.k h (i / 192) (i % 192 - 128) d
  X1 h n r j := s.a h n r j
  X2 r l := if l < 8 then s.g r l else 0
  X3 h n d e := s.St h n d e
  X4 i j := s.vn (j / 128) (i / 64) (i % 64) (j % 128)
  X5 i j := s.o i j

theorem ofSeq_same (s : Seq) (n h : ℕ) (hh : h < 8) : ((Blocks.ofSeq s).chunk n h).Same (s.chunk h n) where
  w r hr d := by
    show (if (192 * n + r) % 192 < 64 then _ else _) = _
    rw [if_pos (by omega), show (192 * n + r) / 192 = n by omega, show (192 * n + r) % 192 = r by omega]; rfl
  q r hr d := by
    show (if (192 * n + 64 + r) % 192 < 64 then _ else if (192 * n + 64 + r) % 192 < 128 then _ else _) = _
    rw [if_neg (by omega), if_pos (by omega), show (192 * n + 64 + r) / 192 = n by omega,
      show (192 * n + 64 + r) % 192 - 64 = r by omega]; rfl
  k r hr d := by
    show (if (192 * n + 128 + r) % 192 < 64 then _ else if (192 * n + 128 + r) % 192 < 128 then _ else _) = _
    rw [if_neg (by omega), if_neg (by omega), show (192 * n + 128 + r) / 192 = n by omega,
      show (192 * n + 128 + r) % 192 - 128 = r by omega]; rfl
  a := rfl
  gl := by
    show Real.exp (∑ r : Fin 64, if h < 8 then s.g (64 * n + r) h else 0) = _
    simp only [if_pos hh]; rfl
  S := rfl
  v r hr e he := by
    show s.vn ((128 * h + e) / 128) ((64 * n + r) / 64) ((64 * n + r) % 64) ((128 * h + e) % 128) = _
    rw [show (128 * h + e) / 128 = h by omega, show (64 * n + r) / 64 = n by omega, show (64 * n + r) % 64 = r by omega,
      show (128 * h + e) % 128 = e by omega]; rfl
  o := rfl

theorem ofSeq_back (s : Seq) (h : ℕ) (hh : h < 8) : ∀ n, (Blocks.ofSeq s).back n h = s.back h n
  | 0 => rfl
  | n + 1 => by
    show ((Blocks.ofSeq s).chunk (31 - n) h).dS ((Blocks.ofSeq s).back n h) = (s.chunk h (31 - n)).dS (s.back h n)
    rw [ofSeq_back s h hh n, (ofSeq_same s _ h hh).dS]

section
variable (s : Seq) (a b : ℕ) (hb : b < 1024)
include hb
theorem ofSeq_dv : (Blocks.ofSeq s).rdv a b = s.du a b := by
  unfold Blocks.rdv Seq.du
  rw [(ofSeq_same s _ (b / 128) (by omega)).dv _ _ (by omega), ofSeq_back s _ (by omega)]
theorem ofSeq_dw : (Blocks.ofSeq s).rdw a b = s.dw a b := by
  unfold Blocks.rdw Seq.dw
  rw [(ofSeq_same s _ (b / 128) (by omega)).dw _ _ (by omega), ofSeq_back s _ (by omega)]
theorem ofSeq_dq : (Blocks.ofSeq s).rdq a b = s.dq a b := by
  unfold Blocks.rdq Seq.dq
  rw [(ofSeq_same s _ (b / 128) (by omega)).dq]
theorem ofSeq_dk : (Blocks.ofSeq s).rdk a b = s.dk a b := by
  unfold Blocks.rdk Seq.dk
  rw [(ofSeq_same s _ (b / 128) (by omega)).dk _ _ (by omega), ofSeq_back s _ (by omega)]
end
theorem ofSeq_da (s : Seq) (h n r j : ℕ) (hh : h < 8) (hj : j < 64) : (Blocks.ofSeq s).rda h n r j = s.da h n r j := by
  unfold Blocks.rda Seq.da
  rw [(ofSeq_same s n h hh).da _ _ hj]
theorem ofSeq_dg (s : Seq) (h n : ℕ) (hh : h < 8) : (Blocks.ofSeq s).rdg h n = s.dg h n := by
  unfold Blocks.rdg Seq.dg
  rw [(ofSeq_same s n h hh).dg, ofSeq_back s h hh]

/-! ## One chunk of the forward recurrence -/

/-- The arguments hold the sequences `s`. -/
structure Args (s : Seq) (u w q k : Vec Ideal S8x32x64x128 .f32) (a : Vec Ideal S8x32x64x64 .f32) (g : Vec Ideal S2048x8 .f32)
    (o : Vec Ideal S2048x1024 .f32) : Prop where
  u : ∀ j, u j = (s.u (j 0) (j 1) (j 2) (j 3) : EReal)
  w : ∀ j, w j = (s.w (j 0) (j 1) (j 2) (j 3) : EReal)
  q : ∀ j, q j = (s.q (j 0) (j 1) (j 2) (j 3) : EReal)
  k : ∀ j, k j = (s.k (j 0) (j 1) (j 2) (j 3) : EReal)
  a : ∀ j, a j = (s.a (j 0) (j 1) (j 2) (j 3) : EReal)
  g : ∀ j, g j = (s.g (j 0) (j 1) : EReal)
  o : ∀ j, o j = (s.o (j 0) (j 1) : EReal)

section Step
variable {s : Seq} {n : ℕ} (hs : S8x32x64x128.Slices ![0, n, 0, 0] S8x1x64x128)

theorem slice_eq {x : Vec Ideal S8x32x64x128 .f32} {f : ℕ → ℕ → Mat} (hx : ∀ j, x j = (f (j 0) (j 1) (j 2) (j 3) : EReal)) :
    extractStridedSlice S8x1x64x128 ![0, n, 0, 0] x hs = fun j => (f (j 0) n (j 2) (j 3) : EReal) := by
  funext j
  pointwise [hx]

theorem slice_state {x : Vec Ideal S8x32x128x128 .f32} (hs' : S8x32x128x128.Slices ![0, n, 0, 0] S8x1x128x128)
    {f : ℕ → ℕ → ℝ} (hx : ∀ j, x j = (f (j 0) (j 1) : EReal)) :
    extractStridedSlice S8x1x128x128 ![0, n, 0, 0] x hs' = fun j => (f (j 0) n : EReal) := by
  funext j
  pointwise [hx]

/-- The corrected values of chunk `n`, from the state before it. -/
theorem step_vn {u w : Vec Ideal S8x32x64x128 .f32} (hu : ∀ j, u j = (s.u (j 0) (j 1) (j 2) (j 3) : EReal))
    (hw : ∀ j, w j = (s.w (j 0) (j 1) (j 2) (j 3) : EReal)) {S : Vec Ideal S8x1x128x128 .f32}
    (hS : ∀ j, S j = (s.St (j 0) n (j 2) (j 3) : EReal)) (j : S8x1x64x128.Idx) :
    (subf (extractStridedSlice S8x1x64x128 ![0, n, 0, 0] u hs : FVec Ideal S8x1x64x128 .f32)
      (Host.dotGeneral (F := Ideal) (φ₁ := .f32) (φ₂ := .f32) dot_S8x1x64x128_S8x1x128x128_S8x1x64x128_3_2_2_3_01_01 none (extractStridedSlice S8x1x64x128 ![0, n, 0, 0] w hs) S)
        : FVec Ideal S8x1x64x128 .f32) j = (s.vn (j 0) n (j 2) (j 3) : EReal) := by
  rw [slice_eq hs hu, slice_eq hs hw, show S = fun j => (s.St (j 0) n (j 2) (j 3) : EReal) from funext hS]
  pointwise
  rw [Seq.vn, Seq.vnOf, EReal.coe_sub, coe_sum]
  simp only [EReal.coe_mul]

/-- The state after chunk `n`. -/
theorem step_St (hs' : S8x32x128x128.Slices ![0, n, 0, 0] S8x1x128x128)
    {k : Vec Ideal S8x32x64x128 .f32} (hk : ∀ j, k j = (s.k (j 0) (j 1) (j 2) (j 3) : EReal))
    {G : Vec Ideal S8x32x128x128 .f32} (hG : ∀ j, G j = (s.gl (j 0) (j 1) : EReal))
    {S : Vec Ideal S8x1x128x128 .f32} (hS : ∀ j, S j = (s.St (j 0) n (j 2) (j 3) : EReal))
    {v : Vec Ideal S8x1x64x128 .f32} (hv : ∀ j, v j = (s.vn (j 0) n (j 2) (j 3) : EReal)) (j : S8x1x128x128.Idx) :
    (addf (mulf S (extractStridedSlice S8x1x128x128 ![0, n, 0, 0] G hs') : FVec Ideal S8x1x128x128 .f32)
      (Host.dotGeneral (F := Ideal) (φ₁ := .f32) (φ₂ := .f32) dot_S8x1x64x128_S8x1x64x128_S8x1x128x128_2_2_3_3_01_01 none (extractStridedSlice S8x1x64x128 ![0, n, 0, 0] k hs) v)
        : FVec Ideal S8x1x128x128 .f32) j = (s.St (j 0) (n + 1) (j 2) (j 3) : EReal) := by
  rw [slice_eq hs hk, slice_state hs' hG, show S = fun j => (s.St (j 0) n (j 2) (j 3) : EReal) from funext hS,
    show v = fun j => (s.vn (j 0) n (j 2) (j 3) : EReal) from funext hv]
  pointwise
  rw [Seq.St, EReal.coe_add, EReal.coe_mul, coe_sum]
  simp only [EReal.coe_mul]
  rfl

/-- The first chunk starts from nothing. -/
theorem first_vn {u : Vec Ideal S8x32x64x128 .f32} (hu : ∀ j, u j = (s.u (j 0) (j 1) (j 2) (j 3) : EReal))
    (hs : S8x32x64x128.Slices ![0, 0, 0, 0] S8x1x64x128) (j : S8x1x64x128.Idx) :
    (extractStridedSlice S8x1x64x128 ![0, 0, 0, 0] u hs : FVec Ideal S8x1x64x128 .f32) j = (s.vn (j 0) 0 (j 2) (j 3) : EReal) := by
  rw [slice_eq hs hu]
  simp [Seq.vn, Seq.vnOf, Seq.St]

theorem first_St {k : Vec Ideal S8x32x64x128 .f32} (hk : ∀ j, k j = (s.k (j 0) (j 1) (j 2) (j 3) : EReal))
    (hs : S8x32x64x128.Slices ![0, 0, 0, 0] S8x1x64x128)
    {v : Vec Ideal S8x1x64x128 .f32} (hv : ∀ j, v j = (s.vn (j 0) 0 (j 2) (j 3) : EReal)) (j : S8x1x128x128.Idx) :
    (Host.dotGeneral (F := Ideal) (φ₁ := .f32) (φ₂ := .f32) dot_S8x1x64x128_S8x1x64x128_S8x1x128x128_2_2_3_3_01_01 none (extractStridedSlice S8x1x64x128 ![0, 0, 0, 0] k hs) v
        : FVec Ideal S8x1x128x128 .f32) j = (s.St (j 0) 1 (j 2) (j 3) : EReal) := by
  rw [slice_eq hs hk, show v = fun j => (s.vn (j 0) 0 (j 2) (j 3) : EReal) from funext hv]
  pointwise
  rw [Seq.St, show s.St (j 0) 0 = fun _ _ => 0 from rfl]
  simp only [zero_mul, zero_add]
  rw [coe_sum]
  simp only [EReal.coe_mul]
  rfl

end Step

end Cert.KernelIdeal.Val

end
-- ==== Proof.Fix.lean ====
/- Reading a line of host operations in which every buffer is written once. At the end of the line each written buffer
   holds its operation's function of what the operands hold at that same end, so the line can be read as a system of
   equations, one for each operation. -/
module

public import Idealize.ShloMosaic.Lib.StableHlo.RunRead

@[expose] public section

noncomputable section

namespace Cert.Fix

open Idealize.ShloMosaic Idealize.ShloMosaic.StableHlo Idealize.SL.Sem

variable {τ : Topo} {sig : RefSig} {Val : EltTy → Type}

/-- The references that a line writes, in its order. -/
def Writes (ops : List (HloOp τ sig Val)) (W : List (Ref sig .tc)) : Prop :=
  ops.map HloOp.writes = W.map fun w => {Proc.devRef (τ := τ) .tc w}

variable {ops : List (HloOp τ sig Val)} {W : List (Ref sig .tc)}

theorem Writes.drop (hW : Writes ops W) (i : ℕ) : Writes (ops.drop i) (W.drop i) := by
  unfold Writes at *; rw [List.map_drop, hW, List.map_drop]

/-- At the end of the line, what operation `i` writes is what it leaves from the contents before it. -/
theorem last (hW : Writes ops W) (i : ℕ) {op : HloOp τ sig Val} (hop : ops[i]? = some op) {r : Ref sig .tc}
    (hr : r ∉ W.drop (i + 1)) (V : Valuation τ sig Val) :
    after ops V (Proc.devRef .tc r) = op.result (upto ops V i) (Proc.devRef .tc r) := by
  obtain ⟨hi, he⟩ := List.getElem?_eq_some_iff.1 hop
  exact after_last_write (W.drop (i + 1)) (by rw [List.drop_eq_getElem_cons hi, he]) (hW.drop (i + 1)) hr V

/-- A buffer that no operation from `i` on writes is at the end what it is before operation `i`. -/
theorem early (hW : Writes ops W) (i : ℕ) {r : Ref sig .tc} (hr : r ∉ W.drop i) (V : Valuation τ sig Val) :
    upto ops V i (Proc.devRef .tc r) = after ops V (Proc.devRef .tc r) := by
  have h : after ops V = after (ops.drop i) (upto ops V i) := by
    have e : ∀ (l₁ l₂ : List (HloOp τ sig Val)) (V : Valuation τ sig Val), after (l₁ ++ l₂) V = after l₂ (after l₁ V) := by
      intro l₁ l₂; induction l₁ with
      | nil => intro V; rfl
      | cons op l ih => intro V; exact ih _
    rw [upto, ← e, List.take_append_drop]
  rw [h, after_unwritten (W.drop i) (hW.drop i) hr]

/-- A buffer that the line does not write. -/
theorem keep (hW : Writes ops W) {r : Ref sig .tc} (hr : r ∉ W) (V : Valuation τ sig Val) :
    after ops V (Proc.devRef .tc r) = V (Proc.devRef .tc r) := after_unwritten W hW hr V

section Builders

variable {x a b c y : Ref sig .tc} (hW : Writes ops W) (i : ℕ) (V : Valuation τ sig Val)
include hW

theorem nullary_eq (v : y.ty.Contents Val) (hy) (hop : ops[i]? = some (nullary y v hy)) (h1 : y ∉ W.drop (i + 1) := by decide +kernel) :
    after ops V (Proc.devRef .tc y) = v := by
  rw [last hW i hop h1]; exact nullary_result y v hy _

theorem unary_eq (f : x.ty.Contents Val → y.ty.Contents Val) (hx hy) (hop : ops[i]? = some (unary x y f hx hy))
    (h1 : y ∉ W.drop (i + 1) := by decide +kernel) (h2 : x ∉ W.drop i := by decide +kernel) :
    after ops V (Proc.devRef .tc y) = f (after ops V (Proc.devRef .tc x)) := by
  rw [last hW i hop h1]; exact (unary_result x y f hx hy _).trans (by rw [early hW i h2])

theorem binary_eq (f : a.ty.Contents Val → b.ty.Contents Val → y.ty.Contents Val) (ha hb hy)
    (hop : ops[i]? = some (binary a b y f ha hb hy)) (h1 : y ∉ W.drop (i + 1) := by decide +kernel) (h2 : a ∉ W.drop i := by decide +kernel) (h3 : b ∉ W.drop i := by decide +kernel) :
    after ops V (Proc.devRef .tc y) = f (after ops V (Proc.devRef .tc a)) (after ops V (Proc.devRef .tc b)) := by
  rw [last hW i hop h1]; exact (binary_result a b y f ha hb hy _).trans (by rw [early hW i h2, early hW i h3])

theorem ternary_eq (f : c.ty.Contents Val → a.ty.Contents Val → b.ty.Contents Val → y.ty.Contents Val) (hc ha hb hy)
    (hop : ops[i]? = some (ternary c a b y f hc ha hb hy)) (h1 : y ∉ W.drop (i + 1) := by decide +kernel) (h2 : c ∉ W.drop i := by decide +kernel) (h3 : a ∉ W.drop i := by decide +kernel)
    (h4 : b ∉ W.drop i := by decide +kernel) :
    after ops V (Proc.devRef .tc y)
      = f (after ops V (Proc.devRef .tc c)) (after ops V (Proc.devRef .tc a)) (after ops V (Proc.devRef .tc b)) := by
  rw [last hW i hop h1]
  exact (ternary_result c a b y f hc ha hb hy _).trans (by rw [early hW i h2, early hW i h3, early hW i h4])

theorem reshape_eq (he hn hx hy) (hop : ops[i]? = some (reshape (τ := τ) (Val := Val) x y he hn hx hy))
    (h1 : y ∉ W.drop (i + 1) := by decide +kernel) (h2 : x ∉ W.drop i := by decide +kernel) :
    after ops V (Proc.devRef .tc y) = fun j => he ▸ shapeCast y.ty.shape (after ops V (Proc.devRef .tc x)) hn j := by
  rw [last hW i hop h1]; exact (reshape_result x y he hn hx hy _).trans (by rw [early hW i h2])

theorem nary_eq {n : ℕ} (xs : Fin n → Ref sig .tc) (f : ((k : Fin n) → (xs k).ty.Contents Val) → y.ty.Contents Val) (hxs hy)
    (hop : ops[i]? = some (nary xs y f hxs hy)) (h1 : y ∉ W.drop (i + 1) := by decide +kernel) (h2 : ∀ k, xs k ∉ W.drop i := by decide +kernel) :
    after ops V (Proc.devRef .tc y) = f (fun k => after ops V (Proc.devRef .tc (xs k))) := by
  rw [last hW i hop h1]; exact (nary_result xs y f hxs hy _).trans (congrArg f (funext fun k => early hW i (h2 k) V))

theorem unaryIndexed_eq {n : ℕ} (ix : Fin n → Ref sig .tc) (T : BufTy)
    (f : a.ty.Contents Val → (Fin n → T.Contents Val) → y.ty.Contents Val) (hT ha hix hy)
    (hop : ops[i]? = some (unaryIndexed a ix T y f hT ha hix hy)) (h1 : y ∉ W.drop (i + 1) := by decide +kernel) (h2 : a ∉ W.drop i := by decide +kernel)
    (h3 : ∀ k, ix k ∉ W.drop i := by decide +kernel) :
    after ops V (Proc.devRef .tc y) = f (after ops V (Proc.devRef .tc a))
      (fun k => cast (congrArg (fun U : BufTy => U.Contents Val) (hT k)) (after ops V (Proc.devRef .tc (ix k)))) := by
  rw [last hW i hop h1]
  refine (unaryIndexed_result a ix T y f hT ha hix hy _).trans ?_
  rw [early hW i h2]
  exact congrArg _ (funext fun k => congrArg _ (early hW i (h3 k) V))

theorem binaryIndexed_eq {n : ℕ} (ix : Fin n → Ref sig .tc) (T : BufTy)
    (f : a.ty.Contents Val → b.ty.Contents Val → (Fin n → T.Contents Val) → y.ty.Contents Val) (hT ha hb hix hy)
    (hop : ops[i]? = some (binaryIndexed a b ix T y f hT ha hb hix hy)) (h1 : y ∉ W.drop (i + 1) := by decide +kernel) (h2 : a ∉ W.drop i := by decide +kernel)
    (h3 : b ∉ W.drop i := by decide +kernel) (h4 : ∀ k, ix k ∉ W.drop i := by decide +kernel) :
    after ops V (Proc.devRef .tc y) = f (after ops V (Proc.devRef .tc a)) (after ops V (Proc.devRef .tc b))
      (fun k => cast (congrArg (fun U : BufTy => U.Contents Val) (hT k)) (after ops V (Proc.devRef .tc (ix k)))) := by
  rw [last hW i hop h1]
  refine (binaryIndexed_result a b ix T y f hT ha hb hix hy _).trans ?_
  rw [early hW i h2, early hW i h3]
  exact congrArg _ (funext fun k => congrArg _ (early hW i (h4 k) V))

theorem unaryIndexedT_eq {T Ta Ty : BufTy} (a : TRef sig Ta) {n : ℕ} (ix : Fin n → TRef sig T) (y : TRef sig Ty)
    (f : Ta.Contents Val → (Fin n → T.Contents Val) → Ty.Contents Val)
    (hop : ops[i]? = some (TRef.unaryIndexed a ix y f)) (h1 : y.ref ∉ W.drop (i + 1) := by decide +kernel) (h2 : a.ref ∉ W.drop i := by decide +kernel)
    (h3 : ∀ k, (ix k).ref ∉ W.drop i := by decide +kernel) :
    after ops V (Proc.devRef .tc y.ref) = y.toBuf (f (a.ofBuf (after ops V (Proc.devRef .tc a.ref)))
      (fun k => (ix k).ofBuf (after ops V (Proc.devRef .tc (ix k).ref)))) :=
  unaryIndexed_eq hW i V (fun k => (ix k).ref) T (fun u i => y.toBuf (f (a.ofBuf u) i)) _ _ _ _ hop h1 h2 h3

theorem binaryIndexedT_eq {T Ta Tb Ty : BufTy} (a : TRef sig Ta) (b : TRef sig Tb) {n : ℕ} (ix : Fin n → TRef sig T)
    (y : TRef sig Ty) (f : Ta.Contents Val → Tb.Contents Val → (Fin n → T.Contents Val) → Ty.Contents Val)
    (hop : ops[i]? = some (TRef.binaryIndexed a b ix y f)) (h1 : y.ref ∉ W.drop (i + 1) := by decide +kernel) (h2 : a.ref ∉ W.drop i := by decide +kernel)
    (h3 : b.ref ∉ W.drop i := by decide +kernel) (h4 : ∀ k, (ix k).ref ∉ W.drop i := by decide +kernel) :
    after ops V (Proc.devRef .tc y.ref) = y.toBuf (f (a.ofBuf (after ops V (Proc.devRef .tc a.ref)))
      (b.ofBuf (after ops V (Proc.devRef .tc b.ref))) (fun k => (ix k).ofBuf (after ops V (Proc.devRef .tc (ix k).ref)))) :=
  binaryIndexed_eq hW i V (fun k => (ix k).ref) T (fun u v i => y.toBuf (f (a.ofBuf u) (b.ofBuf v) i)) _ _ _ _ _ hop h1 h2 h3 h4

end Builders

end Cert.Fix

end
-- ==== Proof.PreOps.lean ====
/- The host operations before the kernel's call as one line in which every buffer is written once. -/
module

public import proofs.«01_k».proof.Proof.Chunks
public import proofs.«01_k».proof.Proof.Fix

@[expose] public section

noncomputable section

namespace Cert.KernelIdeal.Val

open Idealize.ShloMosaic Idealize.ShloMosaic.TcCoe Idealize.ShloMosaic.StableHlo Idealize.SL.Sem
open Cert.Spec
open Cert.KernelIdeal Cert.KernelIdeal.Gen
open scoped BigOperators

variable {F : FTy → Type} [FloatOps F]

/-- The host operations before the call. -/
def pops : List (HloOp τ sig (Elt F)) := List.flatten [hostOps0, hostOps0_1]

/-- The reference that operation `i` writes: they lie one after the other. -/
def pRef (i : Fin 299) : Ref sig .tc :=
  ⟨.hbm, ⟨8 + i.val, Nat.lt_of_lt_of_le (Nat.add_lt_add_left i.isLt 8) (by decide)⟩, rfl⟩

/-- The references they write, in order. -/
def pW : List (Ref sig .tc) := (List.finRange 299).map pRef

set_option maxRecDepth 100000 in
theorem pwrites : Fix.Writes (pops (F := F)) pW := by
  unfold Fix.Writes
  rfl

/-- What a buffer holds after them. -/
def E (X : Valuation τ sig (Elt F)) (b : Ref sig .tc) : b.ty.Contents (Elt F) := after pops X (Proc.devRef .tc b)

theorem E_arg (X : Valuation τ sig (Elt F)) (b : Ref sig .tc) (h : b ∉ pW) : E X b = X (Proc.devRef .tc b) := Fix.keep pwrites h X

/-- Contents of the shapes met below. -/
abbrev CA (F : FTy → Type) : Type := (⟨S8x32x64x128, .f32⟩ : BufTy).Contents (Elt F)
abbrev CG (F : FTy → Type) : Type := (⟨S8x32x128x128, .f32⟩ : BufTy).Contents (Elt F)
abbrev CU (F : FTy → Type) : Type := (⟨S8x1x64x128, .f32⟩ : BufTy).Contents (Elt F)
abbrev CS (F : FTy → Type) : Type := (⟨S8x1x128x128, .f32⟩ : BufTy).Contents (Elt F)

end Cert.KernelIdeal.Val

end
-- ==== Proof.Prefix.lean ====
/- The host operations before the kernel's call, read as equations: the states and corrected values chunk by chunk. -/
module

public import proofs.«01_k».proof.Proof.PreOps

@[expose] public section

noncomputable section

namespace Cert.KernelIdeal.Val

open Idealize.ShloMosaic Idealize.ShloMosaic.TcCoe Idealize.ShloMosaic.StableHlo Idealize.SL.Sem
open Cert.Spec
open Cert.KernelIdeal Cert.KernelIdeal.Gen
open scoped BigOperators

variable {F : FTy → Type} [FloatOps F]

/-- Chunk `n` of an argument, of the decays, and the products of a chunk. -/
abbrev slU (n : ℕ) (hs : S8x32x64x128.Slices ![0, n, 0, 0] S8x1x64x128) : CA F → CU F :=
  (extractStridedSlice S8x1x64x128 ![0, n, 0, 0] · hs)
abbrev slG (n : ℕ) (hs : S8x32x128x128.Slices ![0, n, 0, 0] S8x1x128x128) : CG F → CS F :=
  (extractStridedSlice S8x1x128x128 ![0, n, 0, 0] · hs)
abbrev dW : CU F → CS F → CU F := fun l r => Host.dotGeneral dot_S8x1x64x128_S8x1x128x128_S8x1x64x128_3_2_2_3_01_01 none l r
abbrev dK : CU F → CU F → CS F := fun l r => Host.dotGeneral dot_S8x1x64x128_S8x1x64x128_S8x1x128x128_2_2_3_3_01_01 none l r
abbrev sb : CU F → CU F → CU F := subf
abbrev ml : CS F → CS F → CS F := mulf
abbrev ad : CS F → CS F → CS F := addf

section Ops
variable (X : Valuation τ sig (Elt F))

theorem vn0 : E X main_v6 = slU 0 slices_S8x32x64x128_S8x1x64x128_0_0_0_0 (E X main_arg0) :=
  Fix.unary_eq (x := main_arg0) (y := main_v6) pwrites 7 X (slU 0 slices_S8x32x64x128_S8x1x64x128_0_0_0_0) _ _ rfl
theorem st0 : E X main_v8 = dK (slU 0 slices_S8x32x64x128_S8x1x64x128_0_0_0_0 (E X main_arg3)) (E X main_v6) :=
  (Fix.binary_eq (a := main_v7) (b := main_v6) (y := main_v8) pwrites 9 X dK _ _ _ rfl).trans
    (congrArg₂ dK (Fix.unary_eq (x := main_arg3) (y := main_v7) pwrites 8 X (slU 0 slices_S8x32x64x128_S8x1x64x128_0_0_0_0) _ _ rfl) rfl)
theorem vn1 : E X main_v12 = sb (slU 1 slices_S8x32x64x128_S8x1x64x128_0_1_0_0 (E X main_arg0)) (dW (slU 1 slices_S8x32x64x128_S8x1x64x128_0_1_0_0 (E X main_arg1)) (E X main_v8)) :=
  (Fix.binary_eq (a := main_v9) (b := main_v11) (y := main_v12) pwrites 13 X sb _ _ _ rfl).trans
    (congrArg₂ sb (Fix.unary_eq (x := main_arg0) (y := main_v9) pwrites 10 X (slU 1 slices_S8x32x64x128_S8x1x64x128_0_1_0_0) _ _ rfl)
    ((Fix.binary_eq (a := main_v10) (b := main_v8) (y := main_v11) pwrites 12 X dW _ _ _ rfl).trans
    (congrArg₂ dW (Fix.unary_eq (x := main_arg1) (y := main_v10) pwrites 11 X (slU 1 slices_S8x32x64x128_S8x1x64x128_0_1_0_0) _ _ rfl) rfl)))
theorem st1 : E X main_v17 = ad (ml (E X main_v8) (slG 1 slices_S8x32x128x128_S8x1x128x128_0_1_0_0 (E X main_v5))) (dK (slU 1 slices_S8x32x64x128_S8x1x64x128_0_1_0_0 (E X main_arg3)) (E X main_v12)) :=
  (Fix.binary_eq (a := main_v16) (b := main_v14) (y := main_v17) pwrites 18 X ad _ _ _ rfl).trans
    (congrArg₂ ad ((Fix.binary_eq (a := main_v8) (b := main_v15) (y := main_v16) pwrites 17 X ml _ _ _ rfl).trans
    (congrArg₂ ml rfl (Fix.unary_eq (x := main_v5) (y := main_v15) pwrites 16 X (slG 1 slices_S8x32x128x128_S8x1x128x128_0_1_0_0) _ _ rfl)))
    ((Fix.binary_eq (a := main_v13) (b := main_v12) (y := main_v14) pwrites 15 X dK _ _ _ rfl).trans
    (congrArg₂ dK (Fix.unary_eq (x := main_arg3) (y := main_v13) pwrites 14 X (slU 1 slices_S8x32x64x128_S8x1x64x128_0_1_0_0) _ _ rfl) rfl)))
theorem vn2 : E X main_v21 = sb (slU 2 slices_S8x32x64x128_S8x1x64x128_0_2_0_0 (E X main_arg0)) (dW (slU 2 slices_S8x32x64x128_S8x1x64x128_0_2_0_0 (E X main_arg1)) (E X main_v17)) :=
  (Fix.binary_eq (a := main_v18) (b := main_v20) (y := main_v21) pwrites 22 X sb _ _ _ rfl).trans
    (congrArg₂ sb (Fix.unary_eq (x := main_arg0) (y := main_v18) pwrites 19 X (slU 2 slices_S8x32x64x128_S8x1x64x128_0_2_0_0) _ _ rfl)
    ((Fix.binary_eq (a := main_v19) (b := main_v17) (y := main_v20) pwrites 21 X dW _ _ _ rfl).trans
    (congrArg₂ dW (Fix.unary_eq (x := main_arg1) (y := main_v19) pwrites 20 X (slU 2 slices_S8x32x64x128_S8x1x64x128_0_2_0_0) _ _ rfl) rfl)))
theorem st2 : E X main_v26 = ad (ml (E X main_v17) (slG 2 slices_S8x32x128x128_S8x1x128x128_0_2_0_0 (E X main_v5))) (dK (slU 2 slices_S8x32x64x128_S8x1x64x128_0_2_0_0 (E X main_arg3)) (E X main_v21)) :=
  (Fix.binary_eq (a := main_v25) (b := main_v23) (y := main_v26) pwrites 27 X ad _ _ _ rfl).trans
    (congrArg₂ ad ((Fix.binary_eq (a := main_v17) (b := main_v24) (y := main_v25) pwrites 26 X ml _ _ _ rfl).trans
    (congrArg₂ ml rfl (Fix.unary_eq (x := main_v5) (y := main_v24) pwrites 25 X (slG 2 slices_S8x32x128x128_S8x1x128x128_0_2_0_0) _ _ rfl)))
    ((Fix.binary_eq (a := main_v22) (b := main_v21) (y := main_v23) pwrites 24 X dK _ _ _ rfl).trans
    (congrArg₂ dK (Fix.unary_eq (x := main_arg3) (y := main_v22) pwrites 23 X (slU 2 slices_S8x32x64x128_S8x1x64x128_0_2_0_0) _ _ rfl) rfl)))
theorem vn3 : E X main_v30 = sb (slU 3 slices_S8x32x64x128_S8x1x64x128_0_3_0_0 (E X main_arg0)) (dW (slU 3 slices_S8x32x64x128_S8x1x64x128_0_3_0_0 (E X main_arg1)) (E X main_v26)) :=
  (Fix.binary_eq (a := main_v27) (b := main_v29) (y := main_v30) pwrites 31 X sb _ _ _ rfl).trans
    (congrArg₂ sb (Fix.unary_eq (x := main_arg0) (y := main_v27) pwrites 28 X (slU 3 slices_S8x32x64x128_S8x1x64x128_0_3_0_0) _ _ rfl)
    ((Fix.binary_eq (a := main_v28) (b := main_v26) (y := main_v29) pwrites 30 X dW _ _ _ rfl).trans
    (congrArg₂ dW (Fix.unary_eq (x := main_arg1) (y := main_v28) pwrites 29 X (slU 3 slices_S8x32x64x128_S8x1x64x128_0_3_0_0) _ _ rfl) rfl)))
theorem st3 : E X main_v35 = ad (ml (E X main_v26) (slG 3 slices_S8x32x128x128_S8x1x128x128_0_3_0_0 (E X main_v5))) (dK (slU 3 slices_S8x32x64x128_S8x1x64x128_0_3_0_0 (E X main_arg3)) (E X main_v30)) :=
  (Fix.binary_eq (a := main_v34) (b := main_v32) (y := main_v35) pwrites 36 X ad _ _ _ rfl).trans
    (congrArg₂ ad ((Fix.binary_eq (a := main_v26) (b := main_v33) (y := main_v34) pwrites 35 X ml _ _ _ rfl).trans
    (congrArg₂ ml rfl (Fix.unary_eq (x := main_v5) (y := main_v33) pwrites 34 X (slG 3 slices_S8x32x128x128_S8x1x128x128_0_3_0_0) _ _ rfl)))
    ((Fix.binary_eq (a := main_v31) (b := main_v30) (y := main_v32) pwrites 33 X dK _ _ _ rfl).trans
    (congrArg₂ dK (Fix.unary_eq (x := main_arg3) (y := main_v31) pwrites 32 X (slU 3 slices_S8x32x64x128_S8x1x64x128_0_3_0_0) _ _ rfl) rfl)))
theorem vn4 : E X main_v39 = sb (slU 4 slices_S8x32x64x128_S8x1x64x128_0_4_0_0 (E X main_arg0)) (dW (slU 4 slices_S8x32x64x128_S8x1x64x128_0_4_0_0 (E X main_arg1)) (E X main_v35)) :=
  (Fix.binary_eq (a := main_v36) (b := main_v38) (y := main_v39) pwrites 40 X sb _ _ _ rfl).trans
    (congrArg₂ sb (Fix.unary_eq (x := main_arg0) (y := main_v36) pwrites 37 X (slU 4 slices_S8x32x64x128_S8x1x64x128_0_4_0_0) _ _ rfl)
    ((Fix.binary_eq (a := main_v37) (b := main_v35) (y := main_v38) pwrites 39 X dW _ _ _ rfl).trans
    (congrArg₂ dW (Fix.unary_eq (x := main_arg1) (y := main_v37) pwrites 38 X (slU 4 slices_S8x32x64x128_S8x1x64x128_0_4_0_0) _ _ rfl) rfl)))
theorem st4 : E X main_v44 = ad (ml (E X main_v35) (slG 4 slices_S8x32x128x128_S8x1x128x128_0_4_0_0 (E X main_v5))) (dK (slU 4 slices_S8x32x64x128_S8x1x64x128_0_4_0_0 (E X main_arg3)) (E X main_v39)) :=
  (Fix.binary_eq (a := main_v43) (b := main_v41) (y := main_v44) pwrites 45 X ad _ _ _ rfl).trans
    (congrArg₂ ad ((Fix.binary_eq (a := main_v35) (b := main_v42) (y := main_v43) pwrites 44 X ml _ _ _ rfl).trans
    (congrArg₂ ml rfl (Fix.unary_eq (x := main_v5) (y := main_v42) pwrites 43 X (slG 4 slices_S8x32x128x128_S8x1x128x128_0_4_0_0) _ _ rfl)))
    ((Fix.binary_eq (a := main_v40) (b := main_v39) (y := main_v41) pwrites 42 X dK _ _ _ rfl).trans
    (congrArg₂ dK (Fix.unary_eq (x := main_arg3) (y := main_v40) pwrites 41 X (slU 4 slices_S8x32x64x128_S8x1x64x128_0_4_0_0) _ _ rfl) rfl)))
theorem vn5 : E X main_v48 = sb (slU 5 slices_S8x32x64x128_S8x1x64x128_0_5_0_0 (E X main_arg0)) (dW (slU 5 slices_S8x32x64x128_S8x1x64x128_0_5_0_0 (E X main_arg1)) (E X main_v44)) :=
  (Fix.binary_eq (a := main_v45) (b := main_v47) (y := main_v48) pwrites 49 X sb _ _ _ rfl).trans
    (congrArg₂ sb (Fix.unary_eq (x := main_arg0) (y := main_v45) pwrites 46 X (slU 5 slices_S8x32x64x128_S8x1x64x128_0_5_0_0) _ _ rfl)
    ((Fix.binary_eq (a := main_v46) (b := main_v44) (y := main_v47) pwrites 48 X dW _ _ _ rfl).trans
    (congrArg₂ dW (Fix.unary_eq (x := main_arg1) (y := main_v46) pwrites 47 X (slU 5 slices_S8x32x64x128_S8x1x64x128_0_5_0_0) _ _ rfl) rfl)))
theorem st5 : E X main_v53 = ad (ml (E X main_v44) (slG 5 slices_S8x32x128x128_S8x1x128x128_0_5_0_0 (E X main_v5))) (dK (slU 5 slices_S8x32x64x128_S8x1x64x128_0_5_0_0 (E X main_arg3)) (E X main_v48)) :=
  (Fix.binary_eq (a := main_v52) (b := main_v50) (y := main_v53) pwrites 54 X ad _ _ _ rfl).trans
    (congrArg₂ ad ((Fix.binary_eq (a := main_v44) (b := main_v51) (y := main_v52) pwrites 53 X ml _ _ _ rfl).trans
    (congrArg₂ ml rfl (Fix.unary_eq (x := main_v5) (y := main_v51) pwrites 52 X (slG 5 slices_S8x32x128x128_S8x1x128x128_0_5_0_0) _ _ rfl)))
    ((Fix.binary_eq (a := main_v49) (b := main_v48) (y := main_v50) pwrites 51 X dK _ _ _ rfl).trans
    (congrArg₂ dK (Fix.unary_eq (x := main_arg3) (y := main_v49) pwrites 50 X (slU 5 slices_S8x32x64x128_S8x1x64x128_0_5_0_0) _ _ rfl) rfl)))
theorem vn6 : E X main_v57 = sb (slU 6 slices_S8x32x64x128_S8x1x64x128_0_6_0_0 (E X main_arg0)) (dW (slU 6 slices_S8x32x64x128_S8x1x64x128_0_6_0_0 (E X main_arg1)) (E X main_v53)) :=
  (Fix.binary_eq (a := main_v54) (b := main_v56) (y := main_v57) pwrites 58 X sb _ _ _ rfl).trans
    (congrArg₂ sb (Fix.unary_eq (x := main_arg0) (y := main_v54) pwrites 55 X (slU 6 slices_S8x32x64x128_S8x1x64x128_0_6_0_0) _ _ rfl)
    ((Fix.binary_eq (a := main_v55) (b := main_v53) (y := main_v56) pwrites 57 X dW _ _ _ rfl).trans
    (congrArg₂ dW (Fix.unary_eq (x := main_arg1) (y := main_v55) pwrites 56 X (slU 6 slices_S8x32x64x128_S8x1x64x128_0_6_0_0) _ _ rfl) rfl)))
theorem st6 : E X main_v62 = ad (ml (E X main_v53) (slG 6 slices_S8x32x128x128_S8x1x128x128_0_6_0_0 (E X main_v5))) (dK (slU 6 slices_S8x32x64x128_S8x1x64x128_0_6_0_0 (E X main_arg3)) (E X main_v57)) :=
  (Fix.binary_eq (a := main_v61) (b := main_v59) (y := main_v62) pwrites 63 X ad _ _ _ rfl).trans
    (congrArg₂ ad ((Fix.binary_eq (a := main_v53) (b := main_v60) (y := main_v61) pwrites 62 X ml _ _ _ rfl).trans
    (congrArg₂ ml rfl (Fix.unary_eq (x := main_v5) (y := main_v60) pwrites 61 X (slG 6 slices_S8x32x128x128_S8x1x128x128_0_6_0_0) _ _ rfl)))
    ((Fix.binary_eq (a := main_v58) (b := main_v57) (y := main_v59) pwrites 60 X dK _ _ _ rfl).trans
    (congrArg₂ dK (Fix.unary_eq (x := main_arg3) (y := main_v58) pwrites 59 X (slU 6 slices_S8x32x64x128_S8x1x64x128_0_6_0_0) _ _ rfl) rfl)))
theorem vn7 : E X main_v66 = sb (slU 7 slices_S8x32x64x128_S8x1x64x128_0_7_0_0 (E X main_arg0)) (dW (slU 7 slices_S8x32x64x128_S8x1x64x128_0_7_0_0 (E X main_arg1)) (E X main_v62)) :=
  (Fix.binary_eq (a := main_v63) (b := main_v65) (y := main_v66) pwrites 67 X sb _ _ _ rfl).trans
    (congrArg₂ sb (Fix.unary_eq (x := main_arg0) (y := main_v63) pwrites 64 X (slU 7 slices_S8x32x64x128_S8x1x64x128_0_7_0_0) _ _ rfl)
    ((Fix.binary_eq (a := main_v64) (b := main_v62) (y := main_v65) pwrites 66 X dW _ _ _ rfl).trans
    (congrArg₂ dW (Fix.unary_eq (x := main_arg1) (y := main_v64) pwrites 65 X (slU 7 slices_S8x32x64x128_S8x1x64x128_0_7_0_0) _ _ rfl) rfl)))
theorem st7 : E X main_v71 = ad (ml (E X main_v62) (slG 7 slices_S8x32x128x128_S8x1x128x128_0_7_0_0 (E X main_v5))) (dK (slU 7 slices_S8x32x64x128_S8x1x64x128_0_7_0_0 (E X main_arg3)) (E X main_v66)) :=
  (Fix.binary_eq (a := main_v70) (b := main_v68) (y := main_v71) pwrites 72 X ad _ _ _ rfl).trans
    (congrArg₂ ad ((Fix.binary_eq (a := main_v62) (b := main_v69) (y := main_v70) pwrites 71 X ml _ _ _ rfl).trans
    (congrArg₂ ml rfl (Fix.unary_eq (x := main_v5) (y := main_v69) pwrites 70 X (slG 7 slices_S8x32x128x128_S8x1x128x128_0_7_0_0) _ _ rfl)))
    ((Fix.binary_eq (a := main_v67) (b := main_v66) (y := main_v68) pwrites 69 X dK _ _ _ rfl).trans
    (congrArg₂ dK (Fix.unary_eq (x := main_arg3) (y := main_v67) pwrites 68 X (slU 7 slices_S8x32x64x128_S8x1x64x128_0_7_0_0) _ _ rfl) rfl)))
theorem vn8 : E X main_v75 = sb (slU 8 slices_S8x32x64x128_S8x1x64x128_0_8_0_0 (E X main_arg0)) (dW (slU 8 slices_S8x32x64x128_S8x1x64x128_0_8_0_0 (E X main_arg1)) (E X main_v71)) :=
  (Fix.binary_eq (a := main_v72) (b := main_v74) (y := main_v75) pwrites 76 X sb _ _ _ rfl).trans
    (congrArg₂ sb (Fix.unary_eq (x := main_arg0) (y := main_v72) pwrites 73 X (slU 8 slices_S8x32x64x128_S8x1x64x128_0_8_0_0) _ _ rfl)
    ((Fix.binary_eq (a := main_v73) (b := main_v71) (y := main_v74) pwrites 75 X dW _ _ _ rfl).trans
    (congrArg₂ dW (Fix.unary_eq (x := main_arg1) (y := main_v73) pwrites 74 X (slU 8 slices_S8x32x64x128_S8x1x64x128_0_8_0_0) _ _ rfl) rfl)))
theorem st8 : E X main_v80 = ad (ml (E X main_v71) (slG 8 slices_S8x32x128x128_S8x1x128x128_0_8_0_0 (E X main_v5))) (dK (slU 8 slices_S8x32x64x128_S8x1x64x128_0_8_0_0 (E X main_arg3)) (E X main_v75)) :=
  (Fix.binary_eq (a := main_v79) (b := main_v77) (y := main_v80) pwrites 81 X ad _ _ _ rfl).trans
    (congrArg₂ ad ((Fix.binary_eq (a := main_v71) (b := main_v78) (y := main_v79) pwrites 80 X ml _ _ _ rfl).trans
    (congrArg₂ ml rfl (Fix.unary_eq (x := main_v5) (y := main_v78) pwrites 79 X (slG 8 slices_S8x32x128x128_S8x1x128x128_0_8_0_0) _ _ rfl)))
    ((Fix.binary_eq (a := main_v76) (b := main_v75) (y := main_v77) pwrites 78 X dK _ _ _ rfl).trans
    (congrArg₂ dK (Fix.unary_eq (x := main_arg3) (y := main_v76) pwrites 77 X (slU 8 slices_S8x32x64x128_S8x1x64x128_0_8_0_0) _ _ rfl) rfl)))
theorem vn9 : E X main_v84 = sb (slU 9 slices_S8x32x64x128_S8x1x64x128_0_9_0_0 (E X main_arg0)) (dW (slU 9 slices_S8x32x64x128_S8x1x64x128_0_9_0_0 (E X main_arg1)) (E X main_v80)) :=
  (Fix.binary_eq (a := main_v81) (b := main_v83) (y := main_v84) pwrites 85 X sb _ _ _ rfl).trans
    (congrArg₂ sb (Fix.unary_eq (x := main_arg0) (y := main_v81) pwrites 82 X (slU 9 slices_S8x32x64x128_S8x1x64x128_0_9_0_0) _ _ rfl)
    ((Fix.binary_eq (a := main_v82) (b := main_v80) (y := main_v83) pwrites 84 X dW _ _ _ rfl).trans
    (congrArg₂ dW (Fix.unary_eq (x := main_arg1) (y := main_v82) pwrites 83 X (slU 9 slices_S8x32x64x128_S8x1x64x128_0_9_0_0) _ _ rfl) rfl)))
theorem st9 : E X main_v89 = ad (ml (E X main_v80) (slG 9 slices_S8x32x128x128_S8x1x128x128_0_9_0_0 (E X main_v5))) (dK (slU 9 slices_S8x32x64x128_S8x1x64x128_0_9_0_0 (E X main_arg3)) (E X main_v84)) :=
  (Fix.binary_eq (a := main_v88) (b := main_v86) (y := main_v89) pwrites 90 X ad _ _ _ rfl).trans
    (congrArg₂ ad ((Fix.binary_eq (a := main_v80) (b := main_v87) (y := main_v88) pwrites 89 X ml _ _ _ rfl).trans
    (congrArg₂ ml rfl (Fix.unary_eq (x := main_v5) (y := main_v87) pwrites 88 X (slG 9 slices_S8x32x128x128_S8x1x128x128_0_9_0_0) _ _ rfl)))
    ((Fix.binary_eq (a := main_v85) (b := main_v84) (y := main_v86) pwrites 87 X dK _ _ _ rfl).trans
    (congrArg₂ dK (Fix.unary_eq (x := main_arg3) (y := main_v85) pwrites 86 X (slU 9 slices_S8x32x64x128_S8x1x64x128_0_9_0_0) _ _ rfl) rfl)))
theorem vn10 : E X main_v93 = sb (slU 10 slices_S8x32x64x128_S8x1x64x128_0_10_0_0 (E X main_arg0)) (dW (slU 10 slices_S8x32x64x128_S8x1x64x128_0_10_0_0 (E X main_arg1)) (E X main_v89)) :=
  (Fix.binary_eq (a := main_v90) (b := main_v92) (y := main_v93) pwrites 94 X sb _ _ _ rfl).trans
    (congrArg₂ sb (Fix.unary_eq (x := main_arg0) (y := main_v90) pwrites 91 X (slU 10 slices_S8x32x64x128_S8x1x64x128_0_10_0_0) _ _ rfl)
    ((Fix.binary_eq (a := main_v91) (b := main_v89) (y := main_v92) pwrites 93 X dW _ _ _ rfl).trans
    (congrArg₂ dW (Fix.unary_eq (x := main_arg1) (y := main_v91) pwrites 92 X (slU 10 slices_S8x32x64x128_S8x1x64x128_0_10_0_0) _ _ rfl) rfl)))
theorem st10 : E X main_v98 = ad (ml (E X main_v89) (slG 10 slices_S8x32x128x128_S8x1x128x128_0_10_0_0 (E X main_v5))) (dK (slU 10 slices_S8x32x64x128_S8x1x64x128_0_10_0_0 (E X main_arg3)) (E X main_v93)) :=
  (Fix.binary_eq (a := main_v97) (b := main_v95) (y := main_v98) pwrites 99 X ad _ _ _ rfl).trans
    (congrArg₂ ad ((Fix.binary_eq (a := main_v89) (b := main_v96) (y := main_v97) pwrites 98 X ml _ _ _ rfl).trans
    (congrArg₂ ml rfl (Fix.unary_eq (x := main_v5) (y := main_v96) pwrites 97 X (slG 10 slices_S8x32x128x128_S8x1x128x128_0_10_0_0) _ _ rfl)))
    ((Fix.binary_eq (a := main_v94) (b := main_v93) (y := main_v95) pwrites 96 X dK _ _ _ rfl).trans
    (congrArg₂ dK (Fix.unary_eq (x := main_arg3) (y := main_v94) pwrites 95 X (slU 10 slices_S8x32x64x128_S8x1x64x128_0_10_0_0) _ _ rfl) rfl)))
theorem vn11 : E X main_v102 = sb (slU 11 slices_S8x32x64x128_S8x1x64x128_0_11_0_0 (E X main_arg0)) (dW (slU 11 slices_S8x32x64x128_S8x1x64x128_0_11_0_0 (E X main_arg1)) (E X main_v98)) :=
  (Fix.binary_eq (a := main_v99) (b := main_v101) (y := main_v102) pwrites 103 X sb _ _ _ rfl).trans
    (congrArg₂ sb (Fix.unary_eq (x := main_arg0) (y := main_v99) pwrites 100 X (slU 11 slices_S8x32x64x128_S8x1x64x128_0_11_0_0) _ _ rfl)
    ((Fix.binary_eq (a := main_v100) (b := main_v98) (y := main_v101) pwrites 102 X dW _ _ _ rfl).trans
    (congrArg₂ dW (Fix.unary_eq (x := main_arg1) (y := main_v100) pwrites 101 X (slU 11 slices_S8x32x64x128_S8x1x64x128_0_11_0_0) _ _ rfl) rfl)))
theorem st11 : E X main_v107 = ad (ml (E X main_v98) (slG 11 slices_S8x32x128x128_S8x1x128x128_0_11_0_0 (E X main_v5))) (dK (slU 11 slices_S8x32x64x128_S8x1x64x128_0_11_0_0 (E X main_arg3)) (E X main_v102)) :=
  (Fix.binary_eq (a := main_v106) (b := main_v104) (y := main_v107) pwrites 108 X ad _ _ _ rfl).trans
    (congrArg₂ ad ((Fix.binary_eq (a := main_v98) (b := main_v105) (y := main_v106) pwrites 107 X ml _ _ _ rfl).trans
    (congrArg₂ ml rfl (Fix.unary_eq (x := main_v5) (y := main_v105) pwrites 106 X (slG 11 slices_S8x32x128x128_S8x1x128x128_0_11_0_0) _ _ rfl)))
    ((Fix.binary_eq (a := main_v103) (b := main_v102) (y := main_v104) pwrites 105 X dK _ _ _ rfl).trans
    (congrArg₂ dK (Fix.unary_eq (x := main_arg3) (y := main_v103) pwrites 104 X (slU 11 slices_S8x32x64x128_S8x1x64x128_0_11_0_0) _ _ rfl) rfl)))
theorem vn12 : E X main_v111 = sb (slU 12 slices_S8x32x64x128_S8x1x64x128_0_12_0_0 (E X main_arg0)) (dW (slU 12 slices_S8x32x64x128_S8x1x64x128_0_12_0_0 (E X main_arg1)) (E X main_v107)) :=
  (Fix.binary_eq (a := main_v108) (b := main_v110) (y := main_v111) pwrites 112 X sb _ _ _ rfl).trans
    (congrArg₂ sb (Fix.unary_eq (x := main_arg0) (y := main_v108) pwrites 109 X (slU 12 slices_S8x32x64x128_S8x1x64x128_0_12_0_0) _ _ rfl)
    ((Fix.binary_eq (a := main_v109) (b := main_v107) (y := main_v110) pwrites 111 X dW _ _ _ rfl).trans
    (congrArg₂ dW (Fix.unary_eq (x := main_arg1) (y := main_v109) pwrites 110 X (slU 12 slices_S8x32x64x128_S8x1x64x128_0_12_0_0) _ _ rfl) rfl)))
theorem st12 : E X main_v116 = ad (ml (E X main_v107) (slG 12 slices_S8x32x128x128_S8x1x128x128_0_12_0_0 (E X main_v5))) (dK (slU 12 slices_S8x32x64x128_S8x1x64x128_0_12_0_0 (E X main_arg3)) (E X main_v111)) :=
  (Fix.binary_eq (a := main_v115) (b := main_v113) (y := main_v116) pwrites 117 X ad _ _ _ rfl).trans
    (congrArg₂ ad ((Fix.binary_eq (a := main_v107) (b := main_v114) (y := main_v115) pwrites 116 X ml _ _ _ rfl).trans
    (congrArg₂ ml rfl (Fix.unary_eq (x := main_v5) (y := main_v114) pwrites 115 X (slG 12 slices_S8x32x128x128_S8x1x128x128_0_12_0_0) _ _ rfl)))
    ((Fix.binary_eq (a := main_v112) (b := main_v111) (y := main_v113) pwrites 114 X dK _ _ _ rfl).trans
    (congrArg₂ dK (Fix.unary_eq (x := main_arg3) (y := main_v112) pwrites 113 X (slU 12 slices_S8x32x64x128_S8x1x64x128_0_12_0_0) _ _ rfl) rfl)))
theorem vn13 : E X main_v120 = sb (slU 13 slices_S8x32x64x128_S8x1x64x128_0_13_0_0 (E X main_arg0)) (dW (slU 13 slices_S8x32x64x128_S8x1x64x128_0_13_0_0 (E X main_arg1)) (E X main_v116)) :=
  (Fix.binary_eq (a := main_v117) (b := main_v119) (y := main_v120) pwrites 121 X sb _ _ _ rfl).trans
    (congrArg₂ sb (Fix.unary_eq (x := main_arg0) (y := main_v117) pwrites 118 X (slU 13 slices_S8x32x64x128_S8x1x64x128_0_13_0_0) _ _ rfl)
    ((Fix.binary_eq (a := main_v118) (b := main_v116) (y := main_v119) pwrites 120 X dW _ _ _ rfl).trans
    (congrArg₂ dW (Fix.unary_eq (x := main_arg1) (y := main_v118) pwrites 119 X (slU 13 slices_S8x32x64x128_S8x1x64x128_0_13_0_0) _ _ rfl) rfl)))
theorem st13 : E X main_v125 = ad (ml (E X main_v116) (slG 13 slices_S8x32x128x128_S8x1x128x128_0_13_0_0 (E X main_v5))) (dK (slU 13 slices_S8x32x64x128_S8x1x64x128_0_13_0_0 (E X main_arg3)) (E X main_v120)) :=
  (Fix.binary_eq (a := main_v124) (b := main_v122) (y := main_v125) pwrites 126 X ad _ _ _ rfl).trans
    (congrArg₂ ad ((Fix.binary_eq (a := main_v116) (b := main_v123) (y := main_v124) pwrites 125 X ml _ _ _ rfl).trans
    (congrArg₂ ml rfl (Fix.unary_eq (x := main_v5) (y := main_v123) pwrites 124 X (slG 13 slices_S8x32x128x128_S8x1x128x128_0_13_0_0) _ _ rfl)))
    ((Fix.binary_eq (a := main_v121) (b := main_v120) (y := main_v122) pwrites 123 X dK _ _ _ rfl).trans
    (congrArg₂ dK (Fix.unary_eq (x := main_arg3) (y := main_v121) pwrites 122 X (slU 13 slices_S8x32x64x128_S8x1x64x128_0_13_0_0) _ _ rfl) rfl)))
theorem vn14 : E X main_v129 = sb (slU 14 slices_S8x32x64x128_S8x1x64x128_0_14_0_0 (E X main_arg0)) (dW (slU 14 slices_S8x32x64x128_S8x1x64x128_0_14_0_0 (E X main_arg1)) (E X main_v125)) :=
  (Fix.binary_eq (a := main_v126) (b := main_v128) (y := main_v129) pwrites 130 X sb _ _ _ rfl).trans
    (congrArg₂ sb (Fix.unary_eq (x := main_arg0) (y := main_v126) pwrites 127 X (slU 14 slices_S8x32x64x128_S8x1x64x128_0_14_0_0) _ _ rfl)
    ((Fix.binary_eq (a := main_v127) (b := main_v125) (y := main_v128) pwrites 129 X dW _ _ _ rfl).trans
    (congrArg₂ dW (Fix.unary_eq (x := main_arg1) (y := main_v127) pwrites 128 X (slU 14 slices_S8x32x64x128_S8x1x64x128_0_14_0_0) _ _ rfl) rfl)))
theorem st14 : E X main_v134 = ad (ml (E X main_v125) (slG 14 slices_S8x32x128x128_S8x1x128x128_0_14_0_0 (E X main_v5))) (dK (slU 14 slices_S8x32x64x128_S8x1x64x128_0_14_0_0 (E X main_arg3)) (E X main_v129)) :=
  (Fix.binary_eq (a := main_v133) (b := main_v131) (y := main_v134) pwrites 135 X ad _ _ _ rfl).trans
    (congrArg₂ ad ((Fix.binary_eq (a := main_v125) (b := main_v132) (y := main_v133) pwrites 134 X ml _ _ _ rfl).trans
    (congrArg₂ ml rfl (Fix.unary_eq (x := main_v5) (y := main_v132) pwrites 133 X (slG 14 slices_S8x32x128x128_S8x1x128x128_0_14_0_0) _ _ rfl)))
    ((Fix.binary_eq (a := main_v130) (b := main_v129) (y := main_v131) pwrites 132 X dK _ _ _ rfl).trans
    (congrArg₂ dK (Fix.unary_eq (x := main_arg3) (y := main_v130) pwrites 131 X (slU 14 slices_S8x32x64x128_S8x1x64x128_0_14_0_0) _ _ rfl) rfl)))
theorem vn15 : E X main_v138 = sb (slU 15 slices_S8x32x64x128_S8x1x64x128_0_15_0_0 (E X main_arg0)) (dW (slU 15 slices_S8x32x64x128_S8x1x64x128_0_15_0_0 (E X main_arg1)) (E X main_v134)) :=
  (Fix.binary_eq (a := main_v135) (b := main_v137) (y := main_v138) pwrites 139 X sb _ _ _ rfl).trans
    (congrArg₂ sb (Fix.unary_eq (x := main_arg0) (y := main_v135) pwrites 136 X (slU 15 slices_S8x32x64x128_S8x1x64x128_0_15_0_0) _ _ rfl)
    ((Fix.binary_eq (a := main_v136) (b := main_v134) (y := main_v137) pwrites 138 X dW _ _ _ rfl).trans
    (congrArg₂ dW (Fix.unary_eq (x := main_arg1) (y := main_v136) pwrites 137 X (slU 15 slices_S8x32x64x128_S8x1x64x128_0_15_0_0) _ _ rfl) rfl)))
theorem st15 : E X main_v143 = ad (ml (E X main_v134) (slG 15 slices_S8x32x128x128_S8x1x128x128_0_15_0_0 (E X main_v5))) (dK (slU 15 slices_S8x32x64x128_S8x1x64x128_0_15_0_0 (E X main_arg3)) (E X main_v138)) :=
  (Fix.binary_eq (a := main_v142) (b := main_v140) (y := main_v143) pwrites 144 X ad _ _ _ rfl).trans
    (congrArg₂ ad ((Fix.binary_eq (a := main_v134) (b := main_v141) (y := main_v142) pwrites 143 X ml _ _ _ rfl).trans
    (congrArg₂ ml rfl (Fix.unary_eq (x := main_v5) (y := main_v141) pwrites 142 X (slG 15 slices_S8x32x128x128_S8x1x128x128_0_15_0_0) _ _ rfl)))
    ((Fix.binary_eq (a := main_v139) (b := main_v138) (y := main_v140) pwrites 141 X dK _ _ _ rfl).trans
    (congrArg₂ dK (Fix.unary_eq (x := main_arg3) (y := main_v139) pwrites 140 X (slU 15 slices_S8x32x64x128_S8x1x64x128_0_15_0_0) _ _ rfl) rfl)))
theorem vn16 : E X main_v147 = sb (slU 16 slices_S8x32x64x128_S8x1x64x128_0_16_0_0 (E X main_arg0)) (dW (slU 16 slices_S8x32x64x128_S8x1x64x128_0_16_0_0 (E X main_arg1)) (E X main_v143)) :=
  (Fix.binary_eq (a := main_v144) (b := main_v146) (y := main_v147) pwrites 148 X sb _ _ _ rfl).trans
    (congrArg₂ sb (Fix.unary_eq (x := main_arg0) (y := main_v144) pwrites 145 X (slU 16 slices_S8x32x64x128_S8x1x64x128_0_16_0_0) _ _ rfl)
    ((Fix.binary_eq (a := main_v145) (b := main_v143) (y := main_v146) pwrites 147 X dW _ _ _ rfl).trans
    (congrArg₂ dW (Fix.unary_eq (x := main_arg1) (y := main_v145) pwrites 146 X (slU 16 slices_S8x32x64x128_S8x1x64x128_0_16_0_0) _ _ rfl) rfl)))
theorem st16 : E X main_v152 = ad (ml (E X main_v143) (slG 16 slices_S8x32x128x128_S8x1x128x128_0_16_0_0 (E X main_v5))) (dK (slU 16 slices_S8x32x64x128_S8x1x64x128_0_16_0_0 (E X main_arg3)) (E X main_v147)) :=
  (Fix.binary_eq (a := main_v151) (b := main_v149) (y := main_v152) pwrites 153 X ad _ _ _ rfl).trans
    (congrArg₂ ad ((Fix.binary_eq (a := main_v143) (b := main_v150) (y := main_v151) pwrites 152 X ml _ _ _ rfl).trans
    (congrArg₂ ml rfl (Fix.unary_eq (x := main_v5) (y := main_v150) pwrites 151 X (slG 16 slices_S8x32x128x128_S8x1x128x128_0_16_0_0) _ _ rfl)))
    ((Fix.binary_eq (a := main_v148) (b := main_v147) (y := main_v149) pwrites 150 X dK _ _ _ rfl).trans
    (congrArg₂ dK (Fix.unary_eq (x := main_arg3) (y := main_v148) pwrites 149 X (slU 16 slices_S8x32x64x128_S8x1x64x128_0_16_0_0) _ _ rfl) rfl)))
theorem vn17 : E X main_v156 = sb (slU 17 slices_S8x32x64x128_S8x1x64x128_0_17_0_0 (E X main_arg0)) (dW (slU 17 slices_S8x32x64x128_S8x1x64x128_0_17_0_0 (E X main_arg1)) (E X main_v152)) :=
  (Fix.binary_eq (a := main_v153) (b := main_v155) (y := main_v156) pwrites 157 X sb _ _ _ rfl).trans
    (congrArg₂ sb (Fix.unary_eq (x := main_arg0) (y := main_v153) pwrites 154 X (slU 17 slices_S8x32x64x128_S8x1x64x128_0_17_0_0) _ _ rfl)
    ((Fix.binary_eq (a := main_v154) (b := main_v152) (y := main_v155) pwrites 156 X dW _ _ _ rfl).trans
    (congrArg₂ dW (Fix.unary_eq (x := main_arg1) (y := main_v154) pwrites 155 X (slU 17 slices_S8x32x64x128_S8x1x64x128_0_17_0_0) _ _ rfl) rfl)))
theorem st17 : E X main_v161 = ad (ml (E X main_v152) (slG 17 slices_S8x32x128x128_S8x1x128x128_0_17_0_0 (E X main_v5))) (dK (slU 17 slices_S8x32x64x128_S8x1x64x128_0_17_0_0 (E X main_arg3)) (E X main_v156)) :=
  (Fix.binary_eq (a := main_v160) (b := main_v158) (y := main_v161) pwrites 162 X ad _ _ _ rfl).trans
    (congrArg₂ ad ((Fix.binary_eq (a := main_v152) (b := main_v159) (y := main_v160) pwrites 161 X ml _ _ _ rfl).trans
    (congrArg₂ ml rfl (Fix.unary_eq (x := main_v5) (y := main_v159) pwrites 160 X (slG 17 slices_S8x32x128x128_S8x1x128x128_0_17_0_0) _ _ rfl)))
    ((Fix.binary_eq (a := main_v157) (b := main_v156) (y := main_v158) pwrites 159 X dK _ _ _ rfl).trans
    (congrArg₂ dK (Fix.unary_eq (x := main_arg3) (y := main_v157) pwrites 158 X (slU 17 slices_S8x32x64x128_S8x1x64x128_0_17_0_0) _ _ rfl) rfl)))
theorem vn18 : E X main_v165 = sb (slU 18 slices_S8x32x64x128_S8x1x64x128_0_18_0_0 (E X main_arg0)) (dW (slU 18 slices_S8x32x64x128_S8x1x64x128_0_18_0_0 (E X main_arg1)) (E X main_v161)) :=
  (Fix.binary_eq (a := main_v162) (b := main_v164) (y := main_v165) pwrites 166 X sb _ _ _ rfl).trans
    (congrArg₂ sb (Fix.unary_eq (x := main_arg0) (y := main_v162) pwrites 163 X (slU 18 slices_S8x32x64x128_S8x1x64x128_0_18_0_0) _ _ rfl)
    ((Fix.binary_eq (a := main_v163) (b := main_v161) (y := main_v164) pwrites 165 X dW _ _ _ rfl).trans
    (congrArg₂ dW (Fix.unary_eq (x := main_arg1) (y := main_v163) pwrites 164 X (slU 18 slices_S8x32x64x128_S8x1x64x128_0_18_0_0) _ _ rfl) rfl)))
theorem st18 : E X main_v170 = ad (ml (E X main_v161) (slG 18 slices_S8x32x128x128_S8x1x128x128_0_18_0_0 (E X main_v5))) (dK (slU 18 slices_S8x32x64x128_S8x1x64x128_0_18_0_0 (E X main_arg3)) (E X main_v165)) :=
  (Fix.binary_eq (a := main_v169) (b := main_v167) (y := main_v170) pwrites 171 X ad _ _ _ rfl).trans
    (congrArg₂ ad ((Fix.binary_eq (a := main_v161) (b := main_v168) (y := main_v169) pwrites 170 X ml _ _ _ rfl).trans
    (congrArg₂ ml rfl (Fix.unary_eq (x := main_v5) (y := main_v168) pwrites 169 X (slG 18 slices_S8x32x128x128_S8x1x128x128_0_18_0_0) _ _ rfl)))
    ((Fix.binary_eq (a := main_v166) (b := main_v165) (y := main_v167) pwrites 168 X dK _ _ _ rfl).trans
    (congrArg₂ dK (Fix.unary_eq (x := main_arg3) (y := main_v166) pwrites 167 X (slU 18 slices_S8x32x64x128_S8x1x64x128_0_18_0_0) _ _ rfl) rfl)))
theorem vn19 : E X main_v174 = sb (slU 19 slices_S8x32x64x128_S8x1x64x128_0_19_0_0 (E X main_arg0)) (dW (slU 19 slices_S8x32x64x128_S8x1x64x128_0_19_0_0 (E X main_arg1)) (E X main_v170)) :=
  (Fix.binary_eq (a := main_v171) (b := main_v173) (y := main_v174) pwrites 175 X sb _ _ _ rfl).trans
    (congrArg₂ sb (Fix.unary_eq (x := main_arg0) (y := main_v171) pwrites 172 X (slU 19 slices_S8x32x64x128_S8x1x64x128_0_19_0_0) _ _ rfl)
    ((Fix.binary_eq (a := main_v172) (b := main_v170) (y := main_v173) pwrites 174 X dW _ _ _ rfl).trans
    (congrArg₂ dW (Fix.unary_eq (x := main_arg1) (y := main_v172) pwrites 173 X (slU 19 slices_S8x32x64x128_S8x1x64x128_0_19_0_0) _ _ rfl) rfl)))
theorem st19 : E X main_v179 = ad (ml (E X main_v170) (slG 19 slices_S8x32x128x128_S8x1x128x128_0_19_0_0 (E X main_v5))) (dK (slU 19 slices_S8x32x64x128_S8x1x64x128_0_19_0_0 (E X main_arg3)) (E X main_v174)) :=
  (Fix.binary_eq (a := main_v178) (b := main_v176) (y := main_v179) pwrites 180 X ad _ _ _ rfl).trans
    (congrArg₂ ad ((Fix.binary_eq (a := main_v170) (b := main_v177) (y := main_v178) pwrites 179 X ml _ _ _ rfl).trans
    (congrArg₂ ml rfl (Fix.unary_eq (x := main_v5) (y := main_v177) pwrites 178 X (slG 19 slices_S8x32x128x128_S8x1x128x128_0_19_0_0) _ _ rfl)))
    ((Fix.binary_eq (a := main_v175) (b := main_v174) (y := main_v176) pwrites 177 X dK _ _ _ rfl).trans
    (congrArg₂ dK (Fix.unary_eq (x := main_arg3) (y := main_v175) pwrites 176 X (slU 19 slices_S8x32x64x128_S8x1x64x128_0_19_0_0) _ _ rfl) rfl)))
theorem vn20 : E X main_v183 = sb (slU 20 slices_S8x32x64x128_S8x1x64x128_0_20_0_0 (E X main_arg0)) (dW (slU 20 slices_S8x32x64x128_S8x1x64x128_0_20_0_0 (E X main_arg1)) (E X main_v179)) :=
  (Fix.binary_eq (a := main_v180) (b := main_v182) (y := main_v183) pwrites 184 X sb _ _ _ rfl).trans
    (congrArg₂ sb (Fix.unary_eq (x := main_arg0) (y := main_v180) pwrites 181 X (slU 20 slices_S8x32x64x128_S8x1x64x128_0_20_0_0) _ _ rfl)
    ((Fix.binary_eq (a := main_v181) (b := main_v179) (y := main_v182) pwrites 183 X dW _ _ _ rfl).trans
    (congrArg₂ dW (Fix.unary_eq (x := main_arg1) (y := main_v181) pwrites 182 X (slU 20 slices_S8x32x64x128_S8x1x64x128_0_20_0_0) _ _ rfl) rfl)))
theorem st20 : E X main_v188 = ad (ml (E X main_v179) (slG 20 slices_S8x32x128x128_S8x1x128x128_0_20_0_0 (E X main_v5))) (dK (slU 20 slices_S8x32x64x128_S8x1x64x128_0_20_0_0 (E X main_arg3)) (E X main_v183)) :=
  (Fix.binary_eq (a := main_v187) (b := main_v185) (y := main_v188) pwrites 189 X ad _ _ _ rfl).trans
    (congrArg₂ ad ((Fix.binary_eq (a := main_v179) (b := main_v186) (y := main_v187) pwrites 188 X ml _ _ _ rfl).trans
    (congrArg₂ ml rfl (Fix.unary_eq (x := main_v5) (y := main_v186) pwrites 187 X (slG 20 slices_S8x32x128x128_S8x1x128x128_0_20_0_0) _ _ rfl)))
    ((Fix.binary_eq (a := main_v184) (b := main_v183) (y := main_v185) pwrites 186 X dK _ _ _ rfl).trans
    (congrArg₂ dK (Fix.unary_eq (x := main_arg3) (y := main_v184) pwrites 185 X (slU 20 slices_S8x32x64x128_S8x1x64x128_0_20_0_0) _ _ rfl) rfl)))
theorem vn21 : E X main_v192 = sb (slU 21 slices_S8x32x64x128_S8x1x64x128_0_21_0_0 (E X main_arg0)) (dW (slU 21 slices_S8x32x64x128_S8x1x64x128_0_21_0_0 (E X main_arg1)) (E X main_v188)) :=
  (Fix.binary_eq (a := main_v189) (b := main_v191) (y := main_v192) pwrites 193 X sb _ _ _ rfl).trans
    (congrArg₂ sb (Fix.unary_eq (x := main_arg0) (y := main_v189) pwrites 190 X (slU 21 slices_S8x32x64x128_S8x1x64x128_0_21_0_0) _ _ rfl)
    ((Fix.binary_eq (a := main_v190) (b := main_v188) (y := main_v191) pwrites 192 X dW _ _ _ rfl).trans
    (congrArg₂ dW (Fix.unary_eq (x := main_arg1) (y := main_v190) pwrites 191 X (slU 21 slices_S8x32x64x128_S8x1x64x128_0_21_0_0) _ _ rfl) rfl)))
theorem st21 : E X main_v197 = ad (ml (E X main_v188) (slG 21 slices_S8x32x128x128_S8x1x128x128_0_21_0_0 (E X main_v5))) (dK (slU 21 slices_S8x32x64x128_S8x1x64x128_0_21_0_0 (E X main_arg3)) (E X main_v192)) :=
  (Fix.binary_eq (a := main_v196) (b := main_v194) (y := main_v197) pwrites 198 X ad _ _ _ rfl).trans
    (congrArg₂ ad ((Fix.binary_eq (a := main_v188) (b := main_v195) (y := main_v196) pwrites 197 X ml _ _ _ rfl).trans
    (congrArg₂ ml rfl (Fix.unary_eq (x := main_v5) (y := main_v195) pwrites 196 X (slG 21 slices_S8x32x128x128_S8x1x128x128_0_21_0_0) _ _ rfl)))
    ((Fix.binary_eq (a := main_v193) (b := main_v192) (y := main_v194) pwrites 195 X dK _ _ _ rfl).trans
    (congrArg₂ dK (Fix.unary_eq (x := main_arg3) (y := main_v193) pwrites 194 X (slU 21 slices_S8x32x64x128_S8x1x64x128_0_21_0_0) _ _ rfl) rfl)))
theorem vn22 : E X main_v201 = sb (slU 22 slices_S8x32x64x128_S8x1x64x128_0_22_0_0 (E X main_arg0)) (dW (slU 22 slices_S8x32x64x128_S8x1x64x128_0_22_0_0 (E X main_arg1)) (E X main_v197)) :=
  (Fix.binary_eq (a := main_v198) (b := main_v200) (y := main_v201) pwrites 202 X sb _ _ _ rfl).trans
    (congrArg₂ sb (Fix.unary_eq (x := main_arg0) (y := main_v198) pwrites 199 X (slU 22 slices_S8x32x64x128_S8x1x64x128_0_22_0_0) _ _ rfl)
    ((Fix.binary_eq (a := main_v199) (b := main_v197) (y := main_v200) pwrites 201 X dW _ _ _ rfl).trans
    (congrArg₂ dW (Fix.unary_eq (x := main_arg1) (y := main_v199) pwrites 200 X (slU 22 slices_S8x32x64x128_S8x1x64x128_0_22_0_0) _ _ rfl) rfl)))
theorem st22 : E X main_v206 = ad (ml (E X main_v197) (slG 22 slices_S8x32x128x128_S8x1x128x128_0_22_0_0 (E X main_v5))) (dK (slU 22 slices_S8x32x64x128_S8x1x64x128_0_22_0_0 (E X main_arg3)) (E X main_v201)) :=
  (Fix.binary_eq (a := main_v205) (b := main_v203) (y := main_v206) pwrites 207 X ad _ _ _ rfl).trans
    (congrArg₂ ad ((Fix.binary_eq (a := main_v197) (b := main_v204) (y := main_v205) pwrites 206 X ml _ _ _ rfl).trans
    (congrArg₂ ml rfl (Fix.unary_eq (x := main_v5) (y := main_v204) pwrites 205 X (slG 22 slices_S8x32x128x128_S8x1x128x128_0_22_0_0) _ _ rfl)))
    ((Fix.binary_eq (a := main_v202) (b := main_v201) (y := main_v203) pwrites 204 X dK _ _ _ rfl).trans
    (congrArg₂ dK (Fix.unary_eq (x := main_arg3) (y := main_v202) pwrites 203 X (slU 22 slices_S8x32x64x128_S8x1x64x128_0_22_0_0) _ _ rfl) rfl)))
theorem vn23 : E X main_v210 = sb (slU 23 slices_S8x32x64x128_S8x1x64x128_0_23_0_0 (E X main_arg0)) (dW (slU 23 slices_S8x32x64x128_S8x1x64x128_0_23_0_0 (E X main_arg1)) (E X main_v206)) :=
  (Fix.binary_eq (a := main_v207) (b := main_v209) (y := main_v210) pwrites 211 X sb _ _ _ rfl).trans
    (congrArg₂ sb (Fix.unary_eq (x := main_arg0) (y := main_v207) pwrites 208 X (slU 23 slices_S8x32x64x128_S8x1x64x128_0_23_0_0) _ _ rfl)
    ((Fix.binary_eq (a := main_v208) (b := main_v206) (y := main_v209) pwrites 210 X dW _ _ _ rfl).trans
    (congrArg₂ dW (Fix.unary_eq (x := main_arg1) (y := main_v208) pwrites 209 X (slU 23 slices_S8x32x64x128_S8x1x64x128_0_23_0_0) _ _ rfl) rfl)))
theorem st23 : E X main_v215 = ad (ml (E X main_v206) (slG 23 slices_S8x32x128x128_S8x1x128x128_0_23_0_0 (E X main_v5))) (dK (slU 23 slices_S8x32x64x128_S8x1x64x128_0_23_0_0 (E X main_arg3)) (E X main_v210)) :=
  (Fix.binary_eq (a := main_v214) (b := main_v212) (y := main_v215) pwrites 216 X ad _ _ _ rfl).trans
    (congrArg₂ ad ((Fix.binary_eq (a := main_v206) (b := main_v213) (y := main_v214) pwrites 215 X ml _ _ _ rfl).trans
    (congrArg₂ ml rfl (Fix.unary_eq (x := main_v5) (y := main_v213) pwrites 214 X (slG 23 slices_S8x32x128x128_S8x1x128x128_0_23_0_0) _ _ rfl)))
    ((Fix.binary_eq (a := main_v211) (b := main_v210) (y := main_v212) pwrites 213 X dK _ _ _ rfl).trans
    (congrArg₂ dK (Fix.unary_eq (x := main_arg3) (y := main_v211) pwrites 212 X (slU 23 slices_S8x32x64x128_S8x1x64x128_0_23_0_0) _ _ rfl) rfl)))
theorem vn24 : E X main_v219 = sb (slU 24 slices_S8x32x64x128_S8x1x64x128_0_24_0_0 (E X main_arg0)) (dW (slU 24 slices_S8x32x64x128_S8x1x64x128_0_24_0_0 (E X main_arg1)) (E X main_v215)) :=
  (Fix.binary_eq (a := main_v216) (b := main_v218) (y := main_v219) pwrites 220 X sb _ _ _ rfl).trans
    (congrArg₂ sb (Fix.unary_eq (x := main_arg0) (y := main_v216) pwrites 217 X (slU 24 slices_S8x32x64x128_S8x1x64x128_0_24_0_0) _ _ rfl)
    ((Fix.binary_eq (a := main_v217) (b := main_v215) (y := main_v218) pwrites 219 X dW _ _ _ rfl).trans
    (congrArg₂ dW (Fix.unary_eq (x := main_arg1) (y := main_v217) pwrites 218 X (slU 24 slices_S8x32x64x128_S8x1x64x128_0_24_0_0) _ _ rfl) rfl)))
theorem st24 : E X main_v224 = ad (ml (E X main_v215) (slG 24 slices_S8x32x128x128_S8x1x128x128_0_24_0_0 (E X main_v5))) (dK (slU 24 slices_S8x32x64x128_S8x1x64x128_0_24_0_0 (E X main_arg3)) (E X main_v219)) :=
  (Fix.binary_eq (a := main_v223) (b := main_v221) (y := main_v224) pwrites 225 X ad _ _ _ rfl).trans
    (congrArg₂ ad ((Fix.binary_eq (a := main_v215) (b := main_v222) (y := main_v223) pwrites 224 X ml _ _ _ rfl).trans
    (congrArg₂ ml rfl (Fix.unary_eq (x := main_v5) (y := main_v222) pwrites 223 X (slG 24 slices_S8x32x128x128_S8x1x128x128_0_24_0_0) _ _ rfl)))
    ((Fix.binary_eq (a := main_v220) (b := main_v219) (y := main_v221) pwrites 222 X dK _ _ _ rfl).trans
    (congrArg₂ dK (Fix.unary_eq (x := main_arg3) (y := main_v220) pwrites 221 X (slU 24 slices_S8x32x64x128_S8x1x64x128_0_24_0_0) _ _ rfl) rfl)))
theorem vn25 : E X main_v228 = sb (slU 25 slices_S8x32x64x128_S8x1x64x128_0_25_0_0 (E X main_arg0)) (dW (slU 25 slices_S8x32x64x128_S8x1x64x128_0_25_0_0 (E X main_arg1)) (E X main_v224)) :=
  (Fix.binary_eq (a := main_v225) (b := main_v227) (y := main_v228) pwrites 229 X sb _ _ _ rfl).trans
    (congrArg₂ sb (Fix.unary_eq (x := main_arg0) (y := main_v225) pwrites 226 X (slU 25 slices_S8x32x64x128_S8x1x64x128_0_25_0_0) _ _ rfl)
    ((Fix.binary_eq (a := main_v226) (b := main_v224) (y := main_v227) pwrites 228 X dW _ _ _ rfl).trans
    (congrArg₂ dW (Fix.unary_eq (x := main_arg1) (y := main_v226) pwrites 227 X (slU 25 slices_S8x32x64x128_S8x1x64x128_0_25_0_0) _ _ rfl) rfl)))
theorem st25 : E X main_v233 = ad (ml (E X main_v224) (slG 25 slices_S8x32x128x128_S8x1x128x128_0_25_0_0 (E X main_v5))) (dK (slU 25 slices_S8x32x64x128_S8x1x64x128_0_25_0_0 (E X main_arg3)) (E X main_v228)) :=
  (Fix.binary_eq (a := main_v232) (b := main_v230) (y := main_v233) pwrites 234 X ad _ _ _ rfl).trans
    (congrArg₂ ad ((Fix.binary_eq (a := main_v224) (b := main_v231) (y := main_v232) pwrites 233 X ml _ _ _ rfl).trans
    (congrArg₂ ml rfl (Fix.unary_eq (x := main_v5) (y := main_v231) pwrites 232 X (slG 25 slices_S8x32x128x128_S8x1x128x128_0_25_0_0) _ _ rfl)))
    ((Fix.binary_eq (a := main_v229) (b := main_v228) (y := main_v230) pwrites 231 X dK _ _ _ rfl).trans
    (congrArg₂ dK (Fix.unary_eq (x := main_arg3) (y := main_v229) pwrites 230 X (slU 25 slices_S8x32x64x128_S8x1x64x128_0_25_0_0) _ _ rfl) rfl)))
theorem vn26 : E X main_v237 = sb (slU 26 slices_S8x32x64x128_S8x1x64x128_0_26_0_0 (E X main_arg0)) (dW (slU 26 slices_S8x32x64x128_S8x1x64x128_0_26_0_0 (E X main_arg1)) (E X main_v233)) :=
  (Fix.binary_eq (a := main_v234) (b := main_v236) (y := main_v237) pwrites 238 X sb _ _ _ rfl).trans
    (congrArg₂ sb (Fix.unary_eq (x := main_arg0) (y := main_v234) pwrites 235 X (slU 26 slices_S8x32x64x128_S8x1x64x128_0_26_0_0) _ _ rfl)
    ((Fix.binary_eq (a := main_v235) (b := main_v233) (y := main_v236) pwrites 237 X dW _ _ _ rfl).trans
    (congrArg₂ dW (Fix.unary_eq (x := main_arg1) (y := main_v235) pwrites 236 X (slU 26 slices_S8x32x64x128_S8x1x64x128_0_26_0_0) _ _ rfl) rfl)))
theorem st26 : E X main_v242 = ad (ml (E X main_v233) (slG 26 slices_S8x32x128x128_S8x1x128x128_0_26_0_0 (E X main_v5))) (dK (slU 26 slices_S8x32x64x128_S8x1x64x128_0_26_0_0 (E X main_arg3)) (E X main_v237)) :=
  (Fix.binary_eq (a := main_v241) (b := main_v239) (y := main_v242) pwrites 243 X ad _ _ _ rfl).trans
    (congrArg₂ ad ((Fix.binary_eq (a := main_v233) (b := main_v240) (y := main_v241) pwrites 242 X ml _ _ _ rfl).trans
    (congrArg₂ ml rfl (Fix.unary_eq (x := main_v5) (y := main_v240) pwrites 241 X (slG 26 slices_S8x32x128x128_S8x1x128x128_0_26_0_0) _ _ rfl)))
    ((Fix.binary_eq (a := main_v238) (b := main_v237) (y := main_v239) pwrites 240 X dK _ _ _ rfl).trans
    (congrArg₂ dK (Fix.unary_eq (x := main_arg3) (y := main_v238) pwrites 239 X (slU 26 slices_S8x32x64x128_S8x1x64x128_0_26_0_0) _ _ rfl) rfl)))
theorem vn27 : E X main_v246 = sb (slU 27 slices_S8x32x64x128_S8x1x64x128_0_27_0_0 (E X main_arg0)) (dW (slU 27 slices_S8x32x64x128_S8x1x64x128_0_27_0_0 (E X main_arg1)) (E X main_v242)) :=
  (Fix.binary_eq (a := main_v243) (b := main_v245) (y := main_v246) pwrites 247 X sb _ _ _ rfl).trans
    (congrArg₂ sb (Fix.unary_eq (x := main_arg0) (y := main_v243) pwrites 244 X (slU 27 slices_S8x32x64x128_S8x1x64x128_0_27_0_0) _ _ rfl)
    ((Fix.binary_eq (a := main_v244) (b := main_v242) (y := main_v245) pwrites 246 X dW _ _ _ rfl).trans
    (congrArg₂ dW (Fix.unary_eq (x := main_arg1) (y := main_v244) pwrites 245 X (slU 27 slices_S8x32x64x128_S8x1x64x128_0_27_0_0) _ _ rfl) rfl)))
theorem st27 : E X main_v251 = ad (ml (E X main_v242) (slG 27 slices_S8x32x128x128_S8x1x128x128_0_27_0_0 (E X main_v5))) (dK (slU 27 slices_S8x32x64x128_S8x1x64x128_0_27_0_0 (E X main_arg3)) (E X main_v246)) :=
  (Fix.binary_eq (a := main_v250) (b := main_v248) (y := main_v251) pwrites 252 X ad _ _ _ rfl).trans
    (congrArg₂ ad ((Fix.binary_eq (a := main_v242) (b := main_v249) (y := main_v250) pwrites 251 X ml _ _ _ rfl).trans
    (congrArg₂ ml rfl (Fix.unary_eq (x := main_v5) (y := main_v249) pwrites 250 X (slG 27 slices_S8x32x128x128_S8x1x128x128_0_27_0_0) _ _ rfl)))
    ((Fix.binary_eq (a := main_v247) (b := main_v246) (y := main_v248) pwrites 249 X dK _ _ _ rfl).trans
    (congrArg₂ dK (Fix.unary_eq (x := main_arg3) (y := main_v247) pwrites 248 X (slU 27 slices_S8x32x64x128_S8x1x64x128_0_27_0_0) _ _ rfl) rfl)))
theorem vn28 : E X main_v255 = sb (slU 28 slices_S8x32x64x128_S8x1x64x128_0_28_0_0 (E X main_arg0)) (dW (slU 28 slices_S8x32x64x128_S8x1x64x128_0_28_0_0 (E X main_arg1)) (E X main_v251)) :=
  (Fix.binary_eq (a := main_v252) (b := main_v254) (y := main_v255) pwrites 256 X sb _ _ _ rfl).trans
    (congrArg₂ sb (Fix.unary_eq (x := main_arg0) (y := main_v252) pwrites 253 X (slU 28 slices_S8x32x64x128_S8x1x64x128_0_28_0_0) _ _ rfl)
    ((Fix.binary_eq (a := main_v253) (b := main_v251) (y := main_v254) pwrites 255 X dW _ _ _ rfl).trans
    (congrArg₂ dW (Fix.unary_eq (x := main_arg1) (y := main_v253) pwrites 254 X (slU 28 slices_S8x32x64x128_S8x1x64x128_0_28_0_0) _ _ rfl) rfl)))
theorem st28 : E X main_v260 = ad (ml (E X main_v251) (slG 28 slices_S8x32x128x128_S8x1x128x128_0_28_0_0 (E X main_v5))) (dK (slU 28 slices_S8x32x64x128_S8x1x64x128_0_28_0_0 (E X main_arg3)) (E X main_v255)) :=
  (Fix.binary_eq (a := main_v259) (b := main_v257) (y := main_v260) pwrites 261 X ad _ _ _ rfl).trans
    (congrArg₂ ad ((Fix.binary_eq (a := main_v251) (b := main_v258) (y := main_v259) pwrites 260 X ml _ _ _ rfl).trans
    (congrArg₂ ml rfl (Fix.unary_eq (x := main_v5) (y := main_v258) pwrites 259 X (slG 28 slices_S8x32x128x128_S8x1x128x128_0_28_0_0) _ _ rfl)))
    ((Fix.binary_eq (a := main_v256) (b := main_v255) (y := main_v257) pwrites 258 X dK _ _ _ rfl).trans
    (congrArg₂ dK (Fix.unary_eq (x := main_arg3) (y := main_v256) pwrites 257 X (slU 28 slices_S8x32x64x128_S8x1x64x128_0_28_0_0) _ _ rfl) rfl)))
theorem vn29 : E X main_v264 = sb (slU 29 slices_S8x32x64x128_S8x1x64x128_0_29_0_0 (E X main_arg0)) (dW (slU 29 slices_S8x32x64x128_S8x1x64x128_0_29_0_0 (E X main_arg1)) (E X main_v260)) :=
  (Fix.binary_eq (a := main_v261) (b := main_v263) (y := main_v264) pwrites 265 X sb _ _ _ rfl).trans
    (congrArg₂ sb (Fix.unary_eq (x := main_arg0) (y := main_v261) pwrites 262 X (slU 29 slices_S8x32x64x128_S8x1x64x128_0_29_0_0) _ _ rfl)
    ((Fix.binary_eq (a := main_v262) (b := main_v260) (y := main_v263) pwrites 264 X dW _ _ _ rfl).trans
    (congrArg₂ dW (Fix.unary_eq (x := main_arg1) (y := main_v262) pwrites 263 X (slU 29 slices_S8x32x64x128_S8x1x64x128_0_29_0_0) _ _ rfl) rfl)))
theorem st29 : E X main_v269 = ad (ml (E X main_v260) (slG 29 slices_S8x32x128x128_S8x1x128x128_0_29_0_0 (E X main_v5))) (dK (slU 29 slices_S8x32x64x128_S8x1x64x128_0_29_0_0 (E X main_arg3)) (E X main_v264)) :=
  (Fix.binary_eq (a := main_v268) (b := main_v266) (y := main_v269) pwrites 270 X ad _ _ _ rfl).trans
    (congrArg₂ ad ((Fix.binary_eq (a := main_v260) (b := main_v267) (y := main_v268) pwrites 269 X ml _ _ _ rfl).trans
    (congrArg₂ ml rfl (Fix.unary_eq (x := main_v5) (y := main_v267) pwrites 268 X (slG 29 slices_S8x32x128x128_S8x1x128x128_0_29_0_0) _ _ rfl)))
    ((Fix.binary_eq (a := main_v265) (b := main_v264) (y := main_v266) pwrites 267 X dK _ _ _ rfl).trans
    (congrArg₂ dK (Fix.unary_eq (x := main_arg3) (y := main_v265) pwrites 266 X (slU 29 slices_S8x32x64x128_S8x1x64x128_0_29_0_0) _ _ rfl) rfl)))
theorem vn30 : E X main_v273 = sb (slU 30 slices_S8x32x64x128_S8x1x64x128_0_30_0_0 (E X main_arg0)) (dW (slU 30 slices_S8x32x64x128_S8x1x64x128_0_30_0_0 (E X main_arg1)) (E X main_v269)) :=
  (Fix.binary_eq (a := main_v270) (b := main_v272) (y := main_v273) pwrites 274 X sb _ _ _ rfl).trans
    (congrArg₂ sb (Fix.unary_eq (x := main_arg0) (y := main_v270) pwrites 271 X (slU 30 slices_S8x32x64x128_S8x1x64x128_0_30_0_0) _ _ rfl)
    ((Fix.binary_eq (a := main_v271) (b := main_v269) (y := main_v272) pwrites 273 X dW _ _ _ rfl).trans
    (congrArg₂ dW (Fix.unary_eq (x := main_arg1) (y := main_v271) pwrites 272 X (slU 30 slices_S8x32x64x128_S8x1x64x128_0_30_0_0) _ _ rfl) rfl)))
theorem st30 : E X main_v278 = ad (ml (E X main_v269) (slG 30 slices_S8x32x128x128_S8x1x128x128_0_30_0_0 (E X main_v5))) (dK (slU 30 slices_S8x32x64x128_S8x1x64x128_0_30_0_0 (E X main_arg3)) (E X main_v273)) :=
  (Fix.binary_eq (a := main_v277) (b := main_v275) (y := main_v278) pwrites 279 X ad _ _ _ rfl).trans
    (congrArg₂ ad ((Fix.binary_eq (a := main_v269) (b := main_v276) (y := main_v277) pwrites 278 X ml _ _ _ rfl).trans
    (congrArg₂ ml rfl (Fix.unary_eq (x := main_v5) (y := main_v276) pwrites 277 X (slG 30 slices_S8x32x128x128_S8x1x128x128_0_30_0_0) _ _ rfl)))
    ((Fix.binary_eq (a := main_v274) (b := main_v273) (y := main_v275) pwrites 276 X dK _ _ _ rfl).trans
    (congrArg₂ dK (Fix.unary_eq (x := main_arg3) (y := main_v274) pwrites 275 X (slU 30 slices_S8x32x64x128_S8x1x64x128_0_30_0_0) _ _ rfl) rfl)))
theorem vn31 : E X main_v282 = sb (slU 31 slices_S8x32x64x128_S8x1x64x128_0_31_0_0 (E X main_arg0)) (dW (slU 31 slices_S8x32x64x128_S8x1x64x128_0_31_0_0 (E X main_arg1)) (E X main_v278)) :=
  (Fix.binary_eq (a := main_v279) (b := main_v281) (y := main_v282) pwrites 283 X sb _ _ _ rfl).trans
    (congrArg₂ sb (Fix.unary_eq (x := main_arg0) (y := main_v279) pwrites 280 X (slU 31 slices_S8x32x64x128_S8x1x64x128_0_31_0_0) _ _ rfl)
    ((Fix.binary_eq (a := main_v280) (b := main_v278) (y := main_v281) pwrites 282 X dW _ _ _ rfl).trans
    (congrArg₂ dW (Fix.unary_eq (x := main_arg1) (y := main_v280) pwrites 281 X (slU 31 slices_S8x32x64x128_S8x1x64x128_0_31_0_0) _ _ rfl) rfl)))

end Ops

section Reads
variable {X : Valuation τ sig (Elt Ideal)} {s : Seq}
  (hu : ∀ j, (E X main_arg0 : CA Ideal) j = (s.u (j 0) (j 1) (j 2) (j 3) : EReal))
  (hw : ∀ j, (E X main_arg1 : CA Ideal) j = (s.w (j 0) (j 1) (j 2) (j 3) : EReal))
  (hk : ∀ j, (E X main_arg3 : CA Ideal) j = (s.k (j 0) (j 1) (j 2) (j 3) : EReal))
  (hG : ∀ j, (E X main_v5 : CG Ideal) j = (s.gl (j 0) (j 1) : EReal))

/-- A buffer holds the corrected values of chunk `n`, or the state before it. -/
def IsVn (s : Seq) (n : ℕ) (v : CU Ideal) : Prop := ∀ j, v j = (s.vn (j 0) n (j 2) (j 3) : EReal)
def IsSt (s : Seq) (n : ℕ) (v : CS Ideal) : Prop := ∀ j, v j = (s.St (j 0) n (j 2) (j 3) : EReal)

include hu hw hk hG

theorem p0 : IsVn s 0 (E X main_v6) ∧ IsSt s 1 (E X main_v8) := by
  have h : IsVn s 0 (E X main_v6) := fun j => (congrFun (vn0 X) j).trans (first_vn hu _ j)
  exact ⟨h, fun j => (congrFun (st0 X) j).trans (first_St hk _ h j)⟩
theorem p1 : IsVn s 1 (E X main_v12) ∧ IsSt s 2 (E X main_v17) := by
  have hS := (p0 hu hw hk hG).2
  have h : IsVn s 1 (E X main_v12) := fun j => (congrFun (vn1 X) j).trans (step_vn _ hu hw hS j)
  exact ⟨h, fun j => (congrFun (st1 X) j).trans (step_St _ _ hk hG hS h j)⟩
theorem p2 : IsVn s 2 (E X main_v21) ∧ IsSt s 3 (E X main_v26) := by
  have hS := (p1 hu hw hk hG).2
  have h : IsVn s 2 (E X main_v21) := fun j => (congrFun (vn2 X) j).trans (step_vn _ hu hw hS j)
  exact ⟨h, fun j => (congrFun (st2 X) j).trans (step_St _ _ hk hG hS h j)⟩
theorem p3 : IsVn s 3 (E X main_v30) ∧ IsSt s 4 (E X main_v35) := by
  have hS := (p2 hu hw hk hG).2
  have h : IsVn s 3 (E X main_v30) := fun j => (congrFun (vn3 X) j).trans (step_vn _ hu hw hS j)
  exact ⟨h, fun j => (congrFun (st3 X) j).trans (step_St _ _ hk hG hS h j)⟩
theorem p4 : IsVn s 4 (E X main_v39) ∧ IsSt s 5 (E X main_v44) := by
  have hS := (p3 hu hw hk hG).2
  have h : IsVn s 4 (E X main_v39) := fun j => (congrFun (vn4 X) j).trans (step_vn _ hu hw hS j)
  exact ⟨h, fun j => (congrFun (st4 X) j).trans (step_St _ _ hk hG hS h j)⟩
theorem p5 : IsVn s 5 (E X main_v48) ∧ IsSt s 6 (E X main_v53) := by
  have hS := (p4 hu hw hk hG).2
  have h : IsVn s 5 (E X main_v48) := fun j => (congrFun (vn5 X) j).trans (step_vn _ hu hw hS j)
  exact ⟨h, fun j => (congrFun (st5 X) j).trans (step_St _ _ hk hG hS h j)⟩
theorem p6 : IsVn s 6 (E X main_v57) ∧ IsSt s 7 (E X main_v62) := by
  have hS := (p5 hu hw hk hG).2
  have h : IsVn s 6 (E X main_v57) := fun j => (congrFun (vn6 X) j).trans (step_vn _ hu hw hS j)
  exact ⟨h, fun j => (congrFun (st6 X) j).trans (step_St _ _ hk hG hS h j)⟩
theorem p7 : IsVn s 7 (E X main_v66) ∧ IsSt s 8 (E X main_v71) := by
  have hS := (p6 hu hw hk hG).2
  have h : IsVn s 7 (E X main_v66) := fun j => (congrFun (vn7 X) j).trans (step_vn _ hu hw hS j)
  exact ⟨h, fun j => (congrFun (st7 X) j).trans (step_St _ _ hk hG hS h j)⟩
theorem p8 : IsVn s 8 (E X main_v75) ∧ IsSt s 9 (E X main_v80) := by
  have hS := (p7 hu hw hk hG).2
  have h : IsVn s 8 (E X main_v75) := fun j => (congrFun (vn8 X) j).trans (step_vn _ hu hw hS j)
  exact ⟨h, fun j => (congrFun (st8 X) j).trans (step_St _ _ hk hG hS h j)⟩
theorem p9 : IsVn s 9 (E X main_v84) ∧ IsSt s 10 (E X main_v89) := by
  have hS := (p8 hu hw hk hG).2
  have h : IsVn s 9 (E X main_v84) := fun j => (congrFun (vn9 X) j).trans (step_vn _ hu hw hS j)
  exact ⟨h, fun j => (congrFun (st9 X) j).trans (step_St _ _ hk hG hS h j)⟩
theorem p10 : IsVn s 10 (E X main_v93) ∧ IsSt s 11 (E X main_v98) := by
  have hS := (p9 hu hw hk hG).2
  have h : IsVn s 10 (E X main_v93) := fun j => (congrFun (vn10 X) j).trans (step_vn _ hu hw hS j)
  exact ⟨h, fun j => (congrFun (st10 X) j).trans (step_St _ _ hk hG hS h j)⟩
theorem p11 : IsVn s 11 (E X main_v102) ∧ IsSt s 12 (E X main_v107) := by
  have hS := (p10 hu hw hk hG).2
  have h : IsVn s 11 (E X main_v102) := fun j => (congrFun (vn11 X) j).trans (step_vn _ hu hw hS j)
  exact ⟨h, fun j => (congrFun (st11 X) j).trans (step_St _ _ hk hG hS h j)⟩
theorem p12 : IsVn s 12 (E X main_v111) ∧ IsSt s 13 (E X main_v116) := by
  have hS := (p11 hu hw hk hG).2
  have h : IsVn s 12 (E X main_v111) := fun j => (congrFun (vn12 X) j).trans (step_vn _ hu hw hS j)
  exact ⟨h, fun j => (congrFun (st12 X) j).trans (step_St _ _ hk hG hS h j)⟩
theorem p13 : IsVn s 13 (E X main_v120) ∧ IsSt s 14 (E X main_v125) := by
  have hS := (p12 hu hw hk hG).2
  have h : IsVn s 13 (E X main_v120) := fun j => (congrFun (vn13 X) j).trans (step_vn _ hu hw hS j)
  exact ⟨h, fun j => (congrFun (st13 X) j).trans (step_St _ _ hk hG hS h j)⟩
theorem p14 : IsVn s 14 (E X main_v129) ∧ IsSt s 15 (E X main_v134) := by
  have hS := (p13 hu hw hk hG).2
  have h : IsVn s 14 (E X main_v129) := fun j => (congrFun (vn14 X) j).trans (step_vn _ hu hw hS j)
  exact ⟨h, fun j => (congrFun (st14 X) j).trans (step_St _ _ hk hG hS h j)⟩
theorem p15 : IsVn s 15 (E X main_v138) ∧ IsSt s 16 (E X main_v143) := by
  have hS := (p14 hu hw hk hG).2
  have h : IsVn s 15 (E X main_v138) := fun j => (congrFun (vn15 X) j).trans (step_vn _ hu hw hS j)
  exact ⟨h, fun j => (congrFun (st15 X) j).trans (step_St _ _ hk hG hS h j)⟩
theorem p16 : IsVn s 16 (E X main_v147) ∧ IsSt s 17 (E X main_v152) := by
  have hS := (p15 hu hw hk hG).2
  have h : IsVn s 16 (E X main_v147) := fun j => (congrFun (vn16 X) j).trans (step_vn _ hu hw hS j)
  exact ⟨h, fun j => (congrFun (st16 X) j).trans (step_St _ _ hk hG hS h j)⟩
theorem p17 : IsVn s 17 (E X main_v156) ∧ IsSt s 18 (E X main_v161) := by
  have hS := (p16 hu hw hk hG).2
  have h : IsVn s 17 (E X main_v156) := fun j => (congrFun (vn17 X) j).trans (step_vn _ hu hw hS j)
  exact ⟨h, fun j => (congrFun (st17 X) j).trans (step_St _ _ hk hG hS h j)⟩
theorem p18 : IsVn s 18 (E X main_v165) ∧ IsSt s 19 (E X main_v170) := by
  have hS := (p17 hu hw hk hG).2
  have h : IsVn s 18 (E X main_v165) := fun j => (congrFun (vn18 X) j).trans (step_vn _ hu hw hS j)
  exact ⟨h, fun j => (congrFun (st18 X) j).trans (step_St _ _ hk hG hS h j)⟩
theorem p19 : IsVn s 19 (E X main_v174) ∧ IsSt s 20 (E X main_v179) := by
  have hS := (p18 hu hw hk hG).2
  have h : IsVn s 19 (E X main_v174) := fun j => (congrFun (vn19 X) j).trans (step_vn _ hu hw hS j)
  exact ⟨h, fun j => (congrFun (st19 X) j).trans (step_St _ _ hk hG hS h j)⟩
theorem p20 : IsVn s 20 (E X main_v183) ∧ IsSt s 21 (E X main_v188) := by
  have hS := (p19 hu hw hk hG).2
  have h : IsVn s 20 (E X main_v183) := fun j => (congrFun (vn20 X) j).trans (step_vn _ hu hw hS j)
  exact ⟨h, fun j => (congrFun (st20 X) j).trans (step_St _ _ hk hG hS h j)⟩
theorem p21 : IsVn s 21 (E X main_v192) ∧ IsSt s 22 (E X main_v197) := by
  have hS := (p20 hu hw hk hG).2
  have h : IsVn s 21 (E X main_v192) := fun j => (congrFun (vn21 X) j).trans (step_vn _ hu hw hS j)
  exact ⟨h, fun j => (congrFun (st21 X) j).trans (step_St _ _ hk hG hS h j)⟩
theorem p22 : IsVn s 22 (E X main_v201) ∧ IsSt s 23 (E X main_v206) := by
  have hS := (p21 hu hw hk hG).2
  have h : IsVn s 22 (E X main_v201) := fun j => (congrFun (vn22 X) j).trans (step_vn _ hu hw hS j)
  exact ⟨h, fun j => (congrFun (st22 X) j).trans (step_St _ _ hk hG hS h j)⟩
theorem p23 : IsVn s 23 (E X main_v210) ∧ IsSt s 24 (E X main_v215) := by
  have hS := (p22 hu hw hk hG).2
  have h : IsVn s 23 (E X main_v210) := fun j => (congrFun (vn23 X) j).trans (step_vn _ hu hw hS j)
  exact ⟨h, fun j => (congrFun (st23 X) j).trans (step_St _ _ hk hG hS h j)⟩
theorem p24 : IsVn s 24 (E X main_v219) ∧ IsSt s 25 (E X main_v224) := by
  have hS := (p23 hu hw hk hG).2
  have h : IsVn s 24 (E X main_v219) := fun j => (congrFun (vn24 X) j).trans (step_vn _ hu hw hS j)
  exact ⟨h, fun j => (congrFun (st24 X) j).trans (step_St _ _ hk hG hS h j)⟩
theorem p25 : IsVn s 25 (E X main_v228) ∧ IsSt s 26 (E X main_v233) := by
  have hS := (p24 hu hw hk hG).2
  have h : IsVn s 25 (E X main_v228) := fun j => (congrFun (vn25 X) j).trans (step_vn _ hu hw hS j)
  exact ⟨h, fun j => (congrFun (st25 X) j).trans (step_St _ _ hk hG hS h j)⟩
theorem p26 : IsVn s 26 (E X main_v237) ∧ IsSt s 27 (E X main_v242) := by
  have hS := (p25 hu hw hk hG).2
  have h : IsVn s 26 (E X main_v237) := fun j => (congrFun (vn26 X) j).trans (step_vn _ hu hw hS j)
  exact ⟨h, fun j => (congrFun (st26 X) j).trans (step_St _ _ hk hG hS h j)⟩
theorem p27 : IsVn s 27 (E X main_v246) ∧ IsSt s 28 (E X main_v251) := by
  have hS := (p26 hu hw hk hG).2
  have h : IsVn s 27 (E X main_v246) := fun j => (congrFun (vn27 X) j).trans (step_vn _ hu hw hS j)
  exact ⟨h, fun j => (congrFun (st27 X) j).trans (step_St _ _ hk hG hS h j)⟩
theorem p28 : IsVn s 28 (E X main_v255) ∧ IsSt s 29 (E X main_v260) := by
  have hS := (p27 hu hw hk hG).2
  have h : IsVn s 28 (E X main_v255) := fun j => (congrFun (vn28 X) j).trans (step_vn _ hu hw hS j)
  exact ⟨h, fun j => (congrFun (st28 X) j).trans (step_St _ _ hk hG hS h j)⟩
theorem p29 : IsVn s 29 (E X main_v264) ∧ IsSt s 30 (E X main_v269) := by
  have hS := (p28 hu hw hk hG).2
  have h : IsVn s 29 (E X main_v264) := fun j => (congrFun (vn29 X) j).trans (step_vn _ hu hw hS j)
  exact ⟨h, fun j => (congrFun (st29 X) j).trans (step_St _ _ hk hG hS h j)⟩
theorem p30 : IsVn s 30 (E X main_v273) ∧ IsSt s 31 (E X main_v278) := by
  have hS := (p29 hu hw hk hG).2
  have h : IsVn s 30 (E X main_v273) := fun j => (congrFun (vn30 X) j).trans (step_vn _ hu hw hS j)
  exact ⟨h, fun j => (congrFun (st30 X) j).trans (step_St _ _ hk hG hS h j)⟩
theorem p31 : IsVn s 31 (E X main_v282) ∧ True := by
  have hS := (p30 hu hw hk hG).2
  have h : IsVn s 31 (E X main_v282) := fun j => (congrFun (vn31 X) j).trans (step_vn _ hu hw hS j)
  exact ⟨h, trivial⟩

end Reads

end Cert.KernelIdeal.Val

end
-- ==== Proof.Layout.lean ====
/- The arrays that the kernel's call is given, read at an index: stacked states and corrected values, the weights, queries
   and keys side by side, the padded gates. -/
module

public import proofs.«01_k».proof.Proof.Chunks

@[expose] public section

noncomputable section

namespace Cert.KernelIdeal.Val

open Idealize.ShloMosaic Cert.Spec
open Cert.KernelIdeal Cert.KernelIdeal.Gen
open scoped BigOperators

/-- The decay of a chunk: the exponential of the sum of its gates, spread over the state. -/
theorem gl_read {s : Seq} {g : Vec Ideal S2048x8 .f32} (hg : ∀ j, g j = (s.g (j 0) (j 1) : EReal)) (j : S8x32x128x128.Idx) :
    (broadcastInDim S8x32x128x128 ![0, 1, 2, 3] bcast_S8x32x1x1_S8x32x128x128_0_1_2_3
      (broadcastInDim S8x32x1x1 ![0, 1] bcast_S8x32_S8x32x1x1_0_1
        (transpose S8x32 [1, 0]
          (Host.exp (F := Ideal) (φ := .f32) (Host.reduceAdd (F := Ideal) (φ := .f32) (shapeCast S32x64x8 g shapeCasts_S2048x8_S32x64x8)
            (constant (F := Ideal) S_ .f32 0x00000000#32) reducesTo_S32x64x8_S32x8_d1 h_S_)) transposes_S32x8_S8x32_1_0))) j
      = (s.gl (j 0) (j 1) : EReal) := by
  have hc : shapeCast S32x64x8 g shapeCasts_S2048x8_S32x64x8
      = fun i : S32x64x8.Idx => (s.g (64 * (i 0).val + (i 1).val) (i 2).val : EReal) := by
    funext i
    pointwise [hg]
    rw [Nat.mul_comm]
  rw [hc]
  pointwise
  rw [Seq.gl, ← coe_sum]; rfl

/-- Sixteen blocks of one state each, one after the other. -/
theorem stack_S {f : ℕ → ℕ → Mat} (o : ℕ) (x : Fin 16 → Vec Ideal S8x1x128x128 .f32)
    (hx : ∀ n j, x n j = (f (j 0) (o + n) (j 2) (j 3) : EReal))
    (h : Shape.Concatenates ((List.ofFn fun n => (⟨S8x1x128x128, x n⟩ : (s : Shape) × (s.Idx → EReal))).map (·.1)) S8x16x128x128 1)
    (j : S8x16x128x128.Idx) :
    concatenate S8x16x128x128 1 (List.ofFn fun n => (⟨S8x1x128x128, x n⟩ : (s : Shape) × (s.Idx → EReal))) h j
      = (f (j 0) (o + j 1) (j 2) (j 3) : EReal) := by
  rw [Pointwise.concatenate_ofFn_apply]
  simp only [hx]
  exact (dif_pos rfl).trans rfl

/-- The same for a written list. -/
theorem stack_S16 {f : ℕ → ℕ → Mat} (o : ℕ) {x0 x1 x2 x3 x4 x5 x6 x7 x8 x9 x10 x11 x12 x13 x14 x15 : Vec Ideal S8x1x128x128 .f32}
    (h0 : ∀ j, x0 j = (f (j 0) (o + 0) (j 2) (j 3) : EReal))
    (h1 : ∀ j, x1 j = (f (j 0) (o + 1) (j 2) (j 3) : EReal))
    (h2 : ∀ j, x2 j = (f (j 0) (o + 2) (j 2) (j 3) : EReal))
    (h3 : ∀ j, x3 j = (f (j 0) (o + 3) (j 2) (j 3) : EReal))
    (h4 : ∀ j, x4 j = (f (j 0) (o + 4) (j 2) (j 3) : EReal))
    (h5 : ∀ j, x5 j = (f (j 0) (o + 5) (j 2) (j 3) : EReal))
    (h6 : ∀ j, x6 j = (f (j 0) (o + 6) (j 2) (j 3) : EReal))
    (h7 : ∀ j, x7 j = (f (j 0) (o + 7) (j 2) (j 3) : EReal))
    (h8 : ∀ j, x8 j = (f (j 0) (o + 8) (j 2) (j 3) : EReal))
    (h9 : ∀ j, x9 j = (f (j 0) (o + 9) (j 2) (j 3) : EReal))
    (h10 : ∀ j, x10 j = (f (j 0) (o + 10) (j 2) (j 3) : EReal))
    (h11 : ∀ j, x11 j = (f (j 0) (o + 11) (j 2) (j 3) : EReal))
    (h12 : ∀ j, x12 j = (f (j 0) (o + 12) (j 2) (j 3) : EReal))
    (h13 : ∀ j, x13 j = (f (j 0) (o + 13) (j 2) (j 3) : EReal))
    (h14 : ∀ j, x14 j = (f (j 0) (o + 14) (j 2) (j 3) : EReal))
    (h15 : ∀ j, x15 j = (f (j 0) (o + 15) (j 2) (j 3) : EReal))
    (h) (j : S8x16x128x128.Idx) :
    concatenate S8x16x128x128 1 [⟨S8x1x128x128, x0⟩, ⟨S8x1x128x128, x1⟩, ⟨S8x1x128x128, x2⟩, ⟨S8x1x128x128, x3⟩, ⟨S8x1x128x128, x4⟩, ⟨S8x1x128x128, x5⟩, ⟨S8x1x128x128, x6⟩, ⟨S8x1x128x128, x7⟩, ⟨S8x1x128x128, x8⟩, ⟨S8x1x128x128, x9⟩, ⟨S8x1x128x128, x10⟩, ⟨S8x1x128x128, x11⟩, ⟨S8x1x128x128, x12⟩, ⟨S8x1x128x128, x13⟩, ⟨S8x1x128x128, x14⟩, ⟨S8x1x128x128, x15⟩] h j
      = (f (j 0) (o + j 1) (j 2) (j 3) : EReal) :=
  stack_S o ![x0, x1, x2, x3, x4, x5, x6, x7, x8, x9, x10, x11, x12, x13, x14, x15] (fun n => match n with
    | 0 => h0
    | 1 => h1
    | 2 => h2
    | 3 => h3
    | 4 => h4
    | 5 => h5
    | 6 => h6
    | 7 => h7
    | 8 => h8
    | 9 => h9
    | 10 => h10
    | 11 => h11
    | 12 => h12
    | 13 => h13
    | 14 => h14
    | 15 => h15
    | ⟨_ + 16, hn⟩ => absurd hn (by omega)) h j

/-- Two halves one after the other. -/
theorem pair_S {f : ℕ → ℕ → Mat} {x y : Vec Ideal S8x16x128x128 .f32}
    (hx : ∀ j, x j = (f (j 0) (0 + j 1) (j 2) (j 3) : EReal)) (hy : ∀ j, y j = (f (j 0) (16 + j 1) (j 2) (j 3) : EReal))
    (h) (j : S8x32x128x128.Idx) :
    concatenate S8x32x128x128 1 [⟨S8x16x128x128, x⟩, ⟨S8x16x128x128, y⟩] h j = (f (j 0) (j 1) (j 2) (j 3) : EReal) := by
  pointwise [hx, hy]
  split
  · simp
  · next h => rw [show 16 + ((j 1).val - 16) = (j 1).val by omega]

/-- Sixteen blocks of one state each, one after the other. -/
theorem stack_V {f : ℕ → ℕ → Mat} (o : ℕ) (x : Fin 16 → Vec Ideal S8x1x64x128 .f32)
    (hx : ∀ n j, x n j = (f (j 0) (o + n) (j 2) (j 3) : EReal))
    (h : Shape.Concatenates ((List.ofFn fun n => (⟨S8x1x64x128, x n⟩ : (s : Shape) × (s.Idx → EReal))).map (·.1)) S8x16x64x128 1)
    (j : S8x16x64x128.Idx) :
    concatenate S8x16x64x128 1 (List.ofFn fun n => (⟨S8x1x64x128, x n⟩ : (s : Shape) × (s.Idx → EReal))) h j
      = (f (j 0) (o + j 1) (j 2) (j 3) : EReal) := by
  rw [Pointwise.concatenate_ofFn_apply]
  simp only [hx]
  exact (dif_pos rfl).trans rfl

/-- The same for a written list. -/
theorem stack_V16 {f : ℕ → ℕ → Mat} (o : ℕ) {x0 x1 x2 x3 x4 x5 x6 x7 x8 x9 x10 x11 x12 x13 x14 x15 : Vec Ideal S8x1x64x128 .f32}
    (h0 : ∀ j, x0 j = (f (j 0) (o + 0) (j 2) (j 3) : EReal))
    (h1 : ∀ j, x1 j = (f (j 0) (o + 1) (j 2) (j 3) : EReal))
    (h2 : ∀ j, x2 j = (f (j 0) (o + 2) (j 2) (j 3) : EReal))
    (h3 : ∀ j, x3 j = (f (j 0) (o + 3) (j 2) (j 3) : EReal))
    (h4 : ∀ j, x4 j = (f (j 0) (o + 4) (j 2) (j 3) : EReal))
    (h5 : ∀ j, x5 j = (f (j 0) (o + 5) (j 2) (j 3) : EReal))
    (h6 : ∀ j, x6 j = (f (j 0) (o + 6) (j 2) (j 3) : EReal))
    (h7 : ∀ j, x7 j = (f (j 0) (o + 7) (j 2) (j 3) : EReal))
    (h8 : ∀ j, x8 j = (f (j 0) (o + 8) (j 2) (j 3) : EReal))
    (h9 : ∀ j, x9 j = (f (j 0) (o + 9) (j 2) (j 3) : EReal))
    (h10 : ∀ j, x10 j = (f (j 0) (o + 10) (j 2) (j 3) : EReal))
    (h11 : ∀ j, x11 j = (f (j 0) (o + 11) (j 2) (j 3) : EReal))
    (h12 : ∀ j, x12 j = (f (j 0) (o + 12) (j 2) (j 3) : EReal))
    (h13 : ∀ j, x13 j = (f (j 0) (o + 13) (j 2) (j 3) : EReal))
    (h14 : ∀ j, x14 j = (f (j 0) (o + 14) (j 2) (j 3) : EReal))
    (h15 : ∀ j, x15 j = (f (j 0) (o + 15) (j 2) (j 3) : EReal))
    (h) (j : S8x16x64x128.Idx) :
    concatenate S8x16x64x128 1 [⟨S8x1x64x128, x0⟩, ⟨S8x1x64x128, x1⟩, ⟨S8x1x64x128, x2⟩, ⟨S8x1x64x128, x3⟩, ⟨S8x1x64x128, x4⟩, ⟨S8x1x64x128, x5⟩, ⟨S8x1x64x128, x6⟩, ⟨S8x1x64x128, x7⟩, ⟨S8x1x64x128, x8⟩, ⟨S8x1x64x128, x9⟩, ⟨S8x1x64x128, x10⟩, ⟨S8x1x64x128, x11⟩, ⟨S8x1x64x128, x12⟩, ⟨S8x1x64x128, x13⟩, ⟨S8x1x64x128, x14⟩, ⟨S8x1x64x128, x15⟩] h j
      = (f (j 0) (o + j 1) (j 2) (j 3) : EReal) :=
  stack_V o ![x0, x1, x2, x3, x4, x5, x6, x7, x8, x9, x10, x11, x12, x13, x14, x15] (fun n => match n with
    | 0 => h0
    | 1 => h1
    | 2 => h2
    | 3 => h3
    | 4 => h4
    | 5 => h5
    | 6 => h6
    | 7 => h7
    | 8 => h8
    | 9 => h9
    | 10 => h10
    | 11 => h11
    | 12 => h12
    | 13 => h13
    | 14 => h14
    | 15 => h15
    | ⟨_ + 16, hn⟩ => absurd hn (by omega)) h j

/-- Two halves one after the other. -/
theorem pair_V {f : ℕ → ℕ → Mat} {x y : Vec Ideal S8x16x64x128 .f32}
    (hx : ∀ j, x j = (f (j 0) (0 + j 1) (j 2) (j 3) : EReal)) (hy : ∀ j, y j = (f (j 0) (16 + j 1) (j 2) (j 3) : EReal))
    (h) (j : S8x32x64x128.Idx) :
    concatenate S8x32x64x128 1 [⟨S8x16x64x128, x⟩, ⟨S8x16x64x128, y⟩] h j = (f (j 0) (j 1) (j 2) (j 3) : EReal) := by
  pointwise [hx, hy]
  split
  · simp
  · next h => rw [show 16 + ((j 1).val - 16) = (j 1).val by omega]

/-- The corrected values as rows. -/
theorem rows_V {f : ℕ → ℕ → Mat} {x : Vec Ideal S8x32x64x128 .f32} (hx : ∀ j, x j = (f (j 0) (j 1) (j 2) (j 3) : EReal))
    (j : S2048x1024.Idx) :
    shapeCast S2048x1024 (transpose S32x64x8x128 [1, 2, 0, 3] x transposes_S8x32x64x128_S32x64x8x128_1_2_0_3)
      shapeCasts_S32x64x8x128_S2048x1024 j = (f ((j 1).val / 128) ((j 0).val / 64) ((j 0).val % 64) ((j 1).val % 128) : EReal) := by
  pointwise [hx]

/-- Weights, queries and keys of a chunk one under the other. -/
theorem cat_wqk {fw fq fk : ℕ → ℕ → Mat} {w q k : Vec Ideal S8x32x64x128 .f32}
    (hw : ∀ j, w j = (fw (j 0) (j 1) (j 2) (j 3) : EReal)) (hq : ∀ j, q j = (fq (j 0) (j 1) (j 2) (j 3) : EReal))
    (hk : ∀ j, k j = (fk (j 0) (j 1) (j 2) (j 3) : EReal)) (h) (j : S8x6144x128.Idx) :
    shapeCast S8x6144x128 (concatenate S8x32x192x128 2 [⟨S8x32x64x128, w⟩, ⟨S8x32x64x128, q⟩, ⟨S8x32x64x128, k⟩] h)
      shapeCasts_S8x32x192x128_S8x6144x128 j
      = ((if (j 1).val % 192 < 64 then fw (j 0) ((j 1).val / 192) ((j 1).val % 192) (j 2)
        else if (j 1).val % 192 < 128 then fq (j 0) ((j 1).val / 192) ((j 1).val % 192 - 64) (j 2)
        else fk (j 0) ((j 1).val / 192) ((j 1).val % 192 - 128) (j 2) : ℝ) : EReal) := by
  pointwise [hw, hq, hk]
  split
  · rfl
  · by_cases h' : (j 1).val % 192 < 128
    · rw [if_pos h', dif_pos (by omega)]
    · rw [if_neg h', dif_neg (by omega), Nat.sub_sub]

/-- The gates, padded with zeros. -/
theorem pad_g {f : Mat} {g : Vec Ideal S2048x8 .f32} (hg : ∀ j, g j = (f (j 0) (j 1) : EReal)) {z : Vec Ideal S_ .f32}
    (hz : ∀ j, z j = 0) (j : S2048x128.Idx) :
    pad S2048x128 ![0, 0] ![0, 120] ![0, 0] g z pads_S2048x8_S2048x128_000_01200 h_S_ j
      = ((if (j 1).val < 8 then f (j 0) (j 1) else 0 : ℝ) : EReal) := by
  pointwise [hg, hz]
  split <;> simp [*]

end Cert.KernelIdeal.Val

end
-- ==== Proof.Tail.lean ====
/- The arrays that the kernel's call is given, as functions of the arguments and of the chunks' buffers. -/
module

public import proofs.«01_k».proof.Proof.PreOps
public import proofs.«01_k».proof.Proof.Layout

@[expose] public section

noncomputable section

namespace Cert.KernelIdeal.Val

open Idealize.ShloMosaic Idealize.ShloMosaic.TcCoe Idealize.ShloMosaic.StableHlo Idealize.SL.Sem
open Cert.Spec
open Cert.KernelIdeal Cert.KernelIdeal.Gen
open scoped BigOperators

variable {F : FTy → Type} [FloatOps F]

/-- The gates padded to a block of 128 columns. -/
abbrev padF : (⟨S2048x8, .f32⟩ : BufTy).Contents (Elt F) → (⟨S_, .f32⟩ : BufTy).Contents (Elt F) → (⟨S2048x128, .f32⟩ : BufTy).Contents (Elt F) :=
  fun x v => pad S2048x128 ![0, 0] ![0, 120] ![0, 0] x v pads_S2048x8_S2048x128_000_01200 h_S_

section Ops
variable (X : Valuation τ sig (Elt F))

theorem t_v0 : E X main_v0 = shapeCast S32x64x8 (E X main_arg5 : (⟨S2048x8, .f32⟩ : BufTy).Contents (Elt F)) shapeCasts_S2048x8_S32x64x8 :=
  Fix.reshape_eq (x := main_arg5) (y := main_v0) pwrites 0 X _ _ _ _ rfl
theorem t_cst : E X main_cst = constant (F := F) S_ .f32 0x00000000#32 :=
  Fix.nullary_eq (y := main_cst) pwrites 1 X _ _ rfl
theorem t_v1 : E X main_v1 = Host.reduceAdd (F := F) (φ := .f32) (E X main_v0) (E X main_cst) reducesTo_S32x64x8_S32x8_d1 h_S_ :=
  Fix.binary_eq (a := main_v0) (b := main_cst) (y := main_v1) pwrites 2 X _ _ _ _ rfl
theorem t_v2 : E X main_v2 = Host.exp (F := F) (φ := .f32) (E X main_v1) :=
  Fix.unary_eq (x := main_v1) (y := main_v2) pwrites 3 X _ _ _ rfl
theorem t_v3 : E X main_v3 = transpose S8x32 [1, 0] (E X main_v2) transposes_S32x8_S8x32_1_0 :=
  Fix.unary_eq (x := main_v2) (y := main_v3) pwrites 4 X _ _ _ rfl
theorem t_v4 : E X main_v4 = broadcastInDim S8x32x1x1 ![0, 1] bcast_S8x32_S8x32x1x1_0_1 (E X main_v3) :=
  Fix.unary_eq (x := main_v3) (y := main_v4) pwrites 5 X _ _ _ rfl
theorem t_v5 : E X main_v5 = broadcastInDim S8x32x128x128 ![0, 1, 2, 3] bcast_S8x32x1x1_S8x32x128x128_0_1_2_3 (E X main_v4) :=
  Fix.unary_eq (x := main_v4) (y := main_v5) pwrites 6 X _ _ _ rfl
theorem t_cst_0 : E X main_cst_0 = constant (F := F) S_ .f32 0x00000000#32 :=
  Fix.nullary_eq (y := main_cst_0) pwrites 284 X _ _ rfl
theorem t_v283 : E X main_v283 = broadcastInDim S8x1x128x128 ![] bcast_S_S8x1x128x128 (E X main_cst_0) :=
  Fix.unary_eq (x := main_cst_0) (y := main_v283) pwrites 285 X _ _ _ rfl
theorem cat284 : E X main_v284 = concatenate S8x16x128x128 1 [⟨S8x1x128x128, E X main_v283⟩, ⟨S8x1x128x128, E X main_v8⟩, ⟨S8x1x128x128, E X main_v17⟩, ⟨S8x1x128x128, E X main_v26⟩, ⟨S8x1x128x128, E X main_v35⟩, ⟨S8x1x128x128, E X main_v44⟩, ⟨S8x1x128x128, E X main_v53⟩, ⟨S8x1x128x128, E X main_v62⟩, ⟨S8x1x128x128, E X main_v71⟩, ⟨S8x1x128x128, E X main_v80⟩, ⟨S8x1x128x128, E X main_v89⟩, ⟨S8x1x128x128, E X main_v98⟩, ⟨S8x1x128x128, E X main_v107⟩, ⟨S8x1x128x128, E X main_v116⟩, ⟨S8x1x128x128, E X main_v125⟩, ⟨S8x1x128x128, E X main_v134⟩]
    concatenates_S8x1x128x128_S8x1x128x128_S8x1x128x128_S8x1x128x128_S8x1x128x128_S8x1x128x128_S8x1x128x128_S8x1x128x128_S8x1x128x128_S8x1x128x128_S8x1x128x128_S8x1x128x128_S8x1x128x128_S8x1x128x128_S8x1x128x128_S8x1x128x128_S8x16x128x128_d1 :=
  Fix.nary_eq (y := main_v284) pwrites 286 X ![main_v283, main_v8, main_v17, main_v26, main_v35, main_v44, main_v53, main_v62, main_v71, main_v80, main_v89, main_v98, main_v107, main_v116, main_v125, main_v134] (fun u => concatenate S8x16x128x128 1 [⟨S8x1x128x128, (u 0 : CS F)⟩, ⟨S8x1x128x128, (u 1 : CS F)⟩, ⟨S8x1x128x128, (u 2 : CS F)⟩, ⟨S8x1x128x128, (u 3 : CS F)⟩, ⟨S8x1x128x128, (u 4 : CS F)⟩, ⟨S8x1x128x128, (u 5 : CS F)⟩, ⟨S8x1x128x128, (u 6 : CS F)⟩, ⟨S8x1x128x128, (u 7 : CS F)⟩, ⟨S8x1x128x128, (u 8 : CS F)⟩, ⟨S8x1x128x128, (u 9 : CS F)⟩, ⟨S8x1x128x128, (u 10 : CS F)⟩, ⟨S8x1x128x128, (u 11 : CS F)⟩, ⟨S8x1x128x128, (u 12 : CS F)⟩, ⟨S8x1x128x128, (u 13 : CS F)⟩, ⟨S8x1x128x128, (u 14 : CS F)⟩, ⟨S8x1x128x128, (u 15 : CS F)⟩] concatenates_S8x1x128x128_S8x1x128x128_S8x1x128x128_S8x1x128x128_S8x1x128x128_S8x1x128x128_S8x1x128x128_S8x1x128x128_S8x1x128x128_S8x1x128x128_S8x1x128x128_S8x1x128x128_S8x1x128x128_S8x1x128x128_S8x1x128x128_S8x1x128x128_S8x16x128x128_d1) _ _ rfl
theorem cat285 : E X main_v285 = concatenate S8x16x128x128 1 [⟨S8x1x128x128, E X main_v143⟩, ⟨S8x1x128x128, E X main_v152⟩, ⟨S8x1x128x128, E X main_v161⟩, ⟨S8x1x128x128, E X main_v170⟩, ⟨S8x1x128x128, E X main_v179⟩, ⟨S8x1x128x128, E X main_v188⟩, ⟨S8x1x128x128, E X main_v197⟩, ⟨S8x1x128x128, E X main_v206⟩, ⟨S8x1x128x128, E X main_v215⟩, ⟨S8x1x128x128, E X main_v224⟩, ⟨S8x1x128x128, E X main_v233⟩, ⟨S8x1x128x128, E X main_v242⟩, ⟨S8x1x128x128, E X main_v251⟩, ⟨S8x1x128x128, E X main_v260⟩, ⟨S8x1x128x128, E X main_v269⟩, ⟨S8x1x128x128, E X main_v278⟩]
    concatenates_S8x1x128x128_S8x1x128x128_S8x1x128x128_S8x1x128x128_S8x1x128x128_S8x1x128x128_S8x1x128x128_S8x1x128x128_S8x1x128x128_S8x1x128x128_S8x1x128x128_S8x1x128x128_S8x1x128x128_S8x1x128x128_S8x1x128x128_S8x1x128x128_S8x16x128x128_d1 :=
  Fix.nary_eq (y := main_v285) pwrites 287 X ![main_v143, main_v152, main_v161, main_v170, main_v179, main_v188, main_v197, main_v206, main_v215, main_v224, main_v233, main_v242, main_v251, main_v260, main_v269, main_v278] (fun u => concatenate S8x16x128x128 1 [⟨S8x1x128x128, (u 0 : CS F)⟩, ⟨S8x1x128x128, (u 1 : CS F)⟩, ⟨S8x1x128x128, (u 2 : CS F)⟩, ⟨S8x1x128x128, (u 3 : CS F)⟩, ⟨S8x1x128x128, (u 4 : CS F)⟩, ⟨S8x1x128x128, (u 5 : CS F)⟩, ⟨S8x1x128x128, (u 6 : CS F)⟩, ⟨S8x1x128x128, (u 7 : CS F)⟩, ⟨S8x1x128x128, (u 8 : CS F)⟩, ⟨S8x1x128x128, (u 9 : CS F)⟩, ⟨S8x1x128x128, (u 10 : CS F)⟩, ⟨S8x1x128x128, (u 11 : CS F)⟩, ⟨S8x1x128x128, (u 12 : CS F)⟩, ⟨S8x1x128x128, (u 13 : CS F)⟩, ⟨S8x1x128x128, (u 14 : CS F)⟩, ⟨S8x1x128x128, (u 15 : CS F)⟩] concatenates_S8x1x128x128_S8x1x128x128_S8x1x128x128_S8x1x128x128_S8x1x128x128_S8x1x128x128_S8x1x128x128_S8x1x128x128_S8x1x128x128_S8x1x128x128_S8x1x128x128_S8x1x128x128_S8x1x128x128_S8x1x128x128_S8x1x128x128_S8x1x128x128_S8x16x128x128_d1) _ _ rfl
theorem t_v286 : E X main_v286 = concatenate S8x32x128x128 1 [⟨S8x16x128x128, E X main_v284⟩, ⟨S8x16x128x128, E X main_v285⟩]
    concatenates_S8x16x128x128_S8x16x128x128_S8x32x128x128_d1 :=
  Fix.binary_eq (a := main_v284) (b := main_v285) (y := main_v286) pwrites 288 X _ _ _ _ rfl
theorem cat287 : E X main_v287 = concatenate S8x16x64x128 1 [⟨S8x1x64x128, E X main_v6⟩, ⟨S8x1x64x128, E X main_v12⟩, ⟨S8x1x64x128, E X main_v21⟩, ⟨S8x1x64x128, E X main_v30⟩, ⟨S8x1x64x128, E X main_v39⟩, ⟨S8x1x64x128, E X main_v48⟩, ⟨S8x1x64x128, E X main_v57⟩, ⟨S8x1x64x128, E X main_v66⟩, ⟨S8x1x64x128, E X main_v75⟩, ⟨S8x1x64x128, E X main_v84⟩, ⟨S8x1x64x128, E X main_v93⟩, ⟨S8x1x64x128, E X main_v102⟩, ⟨S8x1x64x128, E X main_v111⟩, ⟨S8x1x64x128, E X main_v120⟩, ⟨S8x1x64x128, E X main_v129⟩, ⟨S8x1x64x128, E X main_v138⟩]
    concatenates_S8x1x64x128_S8x1x64x128_S8x1x64x128_S8x1x64x128_S8x1x64x128_S8x1x64x128_S8x1x64x128_S8x1x64x128_S8x1x64x128_S8x1x64x128_S8x1x64x128_S8x1x64x128_S8x1x64x128_S8x1x64x128_S8x1x64x128_S8x1x64x128_S8x16x64x128_d1 :=
  Fix.nary_eq (y := main_v287) pwrites 289 X ![main_v6, main_v12, main_v21, main_v30, main_v39, main_v48, main_v57, main_v66, main_v75, main_v84, main_v93, main_v102, main_v111, main_v120, main_v129, main_v138] (fun u => concatenate S8x16x64x128 1 [⟨S8x1x64x128, (u 0 : CU F)⟩, ⟨S8x1x64x128, (u 1 : CU F)⟩, ⟨S8x1x64x128, (u 2 : CU F)⟩, ⟨S8x1x64x128, (u 3 : CU F)⟩, ⟨S8x1x64x128, (u 4 : CU F)⟩, ⟨S8x1x64x128, (u 5 : CU F)⟩, ⟨S8x1x64x128, (u 6 : CU F)⟩, ⟨S8x1x64x128, (u 7 : CU F)⟩, ⟨S8x1x64x128, (u 8 : CU F)⟩, ⟨S8x1x64x128, (u 9 : CU F)⟩, ⟨S8x1x64x128, (u 10 : CU F)⟩, ⟨S8x1x64x128, (u 11 : CU F)⟩, ⟨S8x1x64x128, (u 12 : CU F)⟩, ⟨S8x1x64x128, (u 13 : CU F)⟩, ⟨S8x1x64x128, (u 14 : CU F)⟩, ⟨S8x1x64x128, (u 15 : CU F)⟩] concatenates_S8x1x64x128_S8x1x64x128_S8x1x64x128_S8x1x64x128_S8x1x64x128_S8x1x64x128_S8x1x64x128_S8x1x64x128_S8x1x64x128_S8x1x64x128_S8x1x64x128_S8x1x64x128_S8x1x64x128_S8x1x64x128_S8x1x64x128_S8x1x64x128_S8x16x64x128_d1) _ _ rfl
theorem cat288 : E X main_v288 = concatenate S8x16x64x128 1 [⟨S8x1x64x128, E X main_v147⟩, ⟨S8x1x64x128, E X main_v156⟩, ⟨S8x1x64x128, E X main_v165⟩, ⟨S8x1x64x128, E X main_v174⟩, ⟨S8x1x64x128, E X main_v183⟩, ⟨S8x1x64x128, E X main_v192⟩, ⟨S8x1x64x128, E X main_v201⟩, ⟨S8x1x64x128, E X main_v210⟩, ⟨S8x1x64x128, E X main_v219⟩, ⟨S8x1x64x128, E X main_v228⟩, ⟨S8x1x64x128, E X main_v237⟩, ⟨S8x1x64x128, E X main_v246⟩, ⟨S8x1x64x128, E X main_v255⟩, ⟨S8x1x64x128, E X main_v264⟩, ⟨S8x1x64x128, E X main_v273⟩, ⟨S8x1x64x128, E X main_v282⟩]
    concatenates_S8x1x64x128_S8x1x64x128_S8x1x64x128_S8x1x64x128_S8x1x64x128_S8x1x64x128_S8x1x64x128_S8x1x64x128_S8x1x64x128_S8x1x64x128_S8x1x64x128_S8x1x64x128_S8x1x64x128_S8x1x64x128_S8x1x64x128_S8x1x64x128_S8x16x64x128_d1 :=
  Fix.nary_eq (y := main_v288) pwrites 290 X ![main_v147, main_v156, main_v165, main_v174, main_v183, main_v192, main_v201, main_v210, main_v219, main_v228, main_v237, main_v246, main_v255, main_v264, main_v273, main_v282] (fun u => concatenate S8x16x64x128 1 [⟨S8x1x64x128, (u 0 : CU F)⟩, ⟨S8x1x64x128, (u 1 : CU F)⟩, ⟨S8x1x64x128, (u 2 : CU F)⟩, ⟨S8x1x64x128, (u 3 : CU F)⟩, ⟨S8x1x64x128, (u 4 : CU F)⟩, ⟨S8x1x64x128, (u 5 : CU F)⟩, ⟨S8x1x64x128, (u 6 : CU F)⟩, ⟨S8x1x64x128, (u 7 : CU F)⟩, ⟨S8x1x64x128, (u 8 : CU F)⟩, ⟨S8x1x64x128, (u 9 : CU F)⟩, ⟨S8x1x64x128, (u 10 : CU F)⟩, ⟨S8x1x64x128, (u 11 : CU F)⟩, ⟨S8x1x64x128, (u 12 : CU F)⟩, ⟨S8x1x64x128, (u 13 : CU F)⟩, ⟨S8x1x64x128, (u 14 : CU F)⟩, ⟨S8x1x64x128, (u 15 : CU F)⟩] concatenates_S8x1x64x128_S8x1x64x128_S8x1x64x128_S8x1x64x128_S8x1x64x128_S8x1x64x128_S8x1x64x128_S8x1x64x128_S8x1x64x128_S8x1x64x128_S8x1x64x128_S8x1x64x128_S8x1x64x128_S8x1x64x128_S8x1x64x128_S8x1x64x128_S8x16x64x128_d1) _ _ rfl
theorem t_v289 : E X main_v289 = concatenate S8x32x64x128 1 [⟨S8x16x64x128, E X main_v287⟩, ⟨S8x16x64x128, E X main_v288⟩]
    concatenates_S8x16x64x128_S8x16x64x128_S8x32x64x128_d1 :=
  Fix.binary_eq (a := main_v287) (b := main_v288) (y := main_v289) pwrites 291 X _ _ _ _ rfl
theorem t_v290 : E X main_v290 = transpose S32x64x8x128 [1, 2, 0, 3] (E X main_v289) transposes_S8x32x64x128_S32x64x8x128_1_2_0_3 :=
  Fix.unary_eq (x := main_v289) (y := main_v290) pwrites 292 X _ _ _ rfl
theorem t_v291 : E X main_v291 = shapeCast S2048x1024 (E X main_v290 : (⟨S32x64x8x128, .f32⟩ : BufTy).Contents (Elt F)) shapeCasts_S32x64x8x128_S2048x1024 :=
  Fix.reshape_eq (x := main_v290) (y := main_v291) pwrites 293 X _ _ _ _ rfl
theorem t_v292 : E X main_v292 = concatenate S8x32x192x128 2 [⟨S8x32x64x128, E X main_arg1⟩, ⟨S8x32x64x128, E X main_arg2⟩, ⟨S8x32x64x128, E X main_arg3⟩]
    concatenates_S8x32x64x128_S8x32x64x128_S8x32x64x128_S8x32x192x128_d2 :=
  Fix.nary_eq (y := main_v292) pwrites 294 X ![main_arg1, main_arg2, main_arg3] _ _ _ rfl
theorem t_v293 : E X main_v293 = shapeCast S8x6144x128 (E X main_v292 : (⟨S8x32x192x128, .f32⟩ : BufTy).Contents (Elt F)) shapeCasts_S8x32x192x128_S8x6144x128 :=
  Fix.reshape_eq (x := main_v292) (y := main_v293) pwrites 295 X _ _ _ _ rfl
theorem t_c : E X main_c = constantI S_ 32 0#32 :=
  Fix.nullary_eq (y := main_c) pwrites 296 X _ _ rfl
theorem t_call0 : E X main_call0_v0 = sitofp (F := F) .f32 (E X main_c) :=
  Fix.unary_eq (x := main_c) (y := main_call0_v0) pwrites 297 X _ _ _ rfl
theorem t_v294 : E X main_v294 = padF (E X main_arg5) (E X main_call0_v0) :=
  Fix.binary_eq (a := main_arg5) (b := main_call0_v0) (y := main_v294) pwrites 298 X padF _ _ _ rfl

end Ops

end Cert.KernelIdeal.Val

end
-- ==== Proof.Enter.lean ====
/- What the kernel's call is given, for arguments that hold real sequences: the states, the corrected values, and the
   arguments laid out as the call reads them. -/
module

public import proofs.«01_k».proof.Proof.Prefix
public import proofs.«01_k».proof.Proof.Tail

@[expose] public section

noncomputable section

namespace Cert.KernelIdeal.Val

open Idealize.ShloMosaic Idealize.ShloMosaic.TcCoe Idealize.ShloMosaic.StableHlo Idealize.SL.Sem
open Cert.Spec
open Cert.KernelIdeal Cert.KernelIdeal.Gen
open scoped BigOperators

section Reads
variable {X : Valuation τ sig (Elt Ideal)} {s : Seq}
  (A : Args s (E X main_arg0) (E X main_arg1) (E X main_arg2) (E X main_arg3) (E X main_arg4) (E X main_arg5) (E X main_arg6))
include A

theorem read_gl (j : S8x32x128x128.Idx) : (E X main_v5 : CG Ideal) j = (s.gl (j 0) (j 1) : EReal) := by
  rw [t_v5, t_v4, t_v3, t_v2, t_v1, t_v0, t_cst]
  exact gl_read A.g j

theorem read_zero : IsSt s 0 (E X main_v283) := by
  intro j
  rw [t_v283, t_cst_0]
  show _ = ((0 : ℝ) : EReal)
  pointwise
  exact EReal.coe_zero.symm

theorem read_states (j : S8x32x128x128.Idx) : (E X main_v286 : CG Ideal) j = (s.St (j 0) (j 1) (j 2) (j 3) : EReal) := by
  have hG := read_gl A
  have a := fun j => (congrFun (cat284 X) j).trans (stack_S16 (f := s.St) 0
    (read_zero A)
    (p0 A.u A.w A.k hG).2
    (p1 A.u A.w A.k hG).2
    (p2 A.u A.w A.k hG).2
    (p3 A.u A.w A.k hG).2
    (p4 A.u A.w A.k hG).2
    (p5 A.u A.w A.k hG).2
    (p6 A.u A.w A.k hG).2
    (p7 A.u A.w A.k hG).2
    (p8 A.u A.w A.k hG).2
    (p9 A.u A.w A.k hG).2
    (p10 A.u A.w A.k hG).2
    (p11 A.u A.w A.k hG).2
    (p12 A.u A.w A.k hG).2
    (p13 A.u A.w A.k hG).2
    (p14 A.u A.w A.k hG).2 _ j)
  have b := fun j => (congrFun (cat285 X) j).trans (stack_S16 (f := s.St) 16
    (p15 A.u A.w A.k hG).2
    (p16 A.u A.w A.k hG).2
    (p17 A.u A.w A.k hG).2
    (p18 A.u A.w A.k hG).2
    (p19 A.u A.w A.k hG).2
    (p20 A.u A.w A.k hG).2
    (p21 A.u A.w A.k hG).2
    (p22 A.u A.w A.k hG).2
    (p23 A.u A.w A.k hG).2
    (p24 A.u A.w A.k hG).2
    (p25 A.u A.w A.k hG).2
    (p26 A.u A.w A.k hG).2
    (p27 A.u A.w A.k hG).2
    (p28 A.u A.w A.k hG).2
    (p29 A.u A.w A.k hG).2
    (p30 A.u A.w A.k hG).2 _ j)
  exact (congrFun (t_v286 X) j).trans (pair_S a b _ j)

theorem read_vn (j : S8x32x64x128.Idx) : (E X main_v289 : CA Ideal) j = (s.vn (j 0) (j 1) (j 2) (j 3) : EReal) := by
  have hG := read_gl A
  have a := fun j => (congrFun (cat287 X) j).trans (stack_V16 (f := s.vn) 0
    (p0 A.u A.w A.k hG).1
    (p1 A.u A.w A.k hG).1
    (p2 A.u A.w A.k hG).1
    (p3 A.u A.w A.k hG).1
    (p4 A.u A.w A.k hG).1
    (p5 A.u A.w A.k hG).1
    (p6 A.u A.w A.k hG).1
    (p7 A.u A.w A.k hG).1
    (p8 A.u A.w A.k hG).1
    (p9 A.u A.w A.k hG).1
    (p10 A.u A.w A.k hG).1
    (p11 A.u A.w A.k hG).1
    (p12 A.u A.w A.k hG).1
    (p13 A.u A.w A.k hG).1
    (p14 A.u A.w A.k hG).1
    (p15 A.u A.w A.k hG).1 _ j)
  have b := fun j => (congrFun (cat288 X) j).trans (stack_V16 (f := s.vn) 16
    (p16 A.u A.w A.k hG).1
    (p17 A.u A.w A.k hG).1
    (p18 A.u A.w A.k hG).1
    (p19 A.u A.w A.k hG).1
    (p20 A.u A.w A.k hG).1
    (p21 A.u A.w A.k hG).1
    (p22 A.u A.w A.k hG).1
    (p23 A.u A.w A.k hG).1
    (p24 A.u A.w A.k hG).1
    (p25 A.u A.w A.k hG).1
    (p26 A.u A.w A.k hG).1
    (p27 A.u A.w A.k hG).1
    (p28 A.u A.w A.k hG).1
    (p29 A.u A.w A.k hG).1
    (p30 A.u A.w A.k hG).1
    (p31 A.u A.w A.k hG).1 _ j)
  exact (congrFun (t_v289 X) j).trans (pair_V a b _ j)

theorem read_rows (j : S2048x1024.Idx) : (E X main_v291 : Vec Ideal S2048x1024 .f32) j
    = (s.vn ((j 1).val / 128) ((j 0).val / 64) ((j 0).val % 64) ((j 1).val % 128) : EReal) := by
  rw [t_v291, t_v290]
  exact rows_V (f := s.vn) (read_vn A) j

theorem read_wqk (j : S8x6144x128.Idx) : (E X main_v293 : Vec Ideal S8x6144x128 .f32) j
    = ((Blocks.ofSeq s).X0 (j 0) (j 1) (j 2) : EReal) := by
  rw [t_v293, t_v292]
  exact cat_wqk A.w A.q A.k _ j

theorem read_pad (j : S2048x128.Idx) : (E X main_v294 : Vec Ideal S2048x128 .f32) j
    = ((Blocks.ofSeq s).X2 (j 0) (j 1) : EReal) := by
  rw [t_v294, t_call0, t_c]
  refine pad_g A.g (fun i => ?_) j
  pointwise
  simp [FloatOps.sitofp]

end Reads

/-- The call's operands, for arguments that hold the sequences `s`. -/
theorem entry (m : (ℓ : Loc nD τ sig) → Buf (Elt Ideal) ℓ) (c : Dev nD) {s : Seq}
    (A : Args s (E (fun b => m (c, b)) main_arg0) (E (fun b => m (c, b)) main_arg1) (E (fun b => m (c, b)) main_arg2)
      (E (fun b => m (c, b)) main_arg3) (E (fun b => m (c, b)) main_arg4) (E (fun b => m (c, b)) main_arg5)
      (E (fun b => m (c, b)) main_arg6)) : Entry m c (Blocks.ofSeq s) where
  h0 := read_wqk A
  h1 := A.a
  h2 := read_pad A
  h3 := read_states A
  h4 := read_rows A
  h5 := A.o

end Cert.KernelIdeal.Val

end
-- ==== Proof.KernelOut.lean ====
/- What the kernel's call leaves in its six results, for arguments that hold real sequences. -/
module

public import proofs.«01_k».proof.Proof.Enter

@[expose] public section

noncomputable section

namespace Cert.KernelIdeal.Val

open Idealize.ShloMosaic Idealize.ShloMosaic.TcCoe Idealize.ShloMosaic.StableHlo Idealize.SL.Sem
open Cert.Spec
open Cert.KernelIdeal Cert.KernelIdeal.Gen

variable (m : (ℓ : Loc nD τ sig) → Buf (Elt Ideal) ℓ) (ρ : Dev nD → PrngReg)

/-- The arguments of a device hold the sequences `s`. -/
abbrev Argk (c : Dev nD) (s : Seq) : Prop := Args s (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6))

theorem entry' {c : Dev nD} {s : Seq} (A : Argk m c s) : Entry m c (Blocks.ofSeq s) := by
  refine entry m c ?_
  rw [E_arg _ main_arg0 (by decide +kernel), E_arg _ main_arg1 (by decide +kernel), E_arg _ main_arg2 (by decide +kernel),
    E_arg _ main_arg3 (by decide +kernel), E_arg _ main_arg4 (by decide +kernel), E_arg _ main_arg5 (by decide +kernel),
    E_arg _ main_arg6 (by decide +kernel)]
  exact A

abbrev rowsOf (M : Mat) : Vec Ideal S2048x1024 .f32 := fun y => (M (y 0) (y 1) : EReal)
abbrev daOf (s : Seq) : Vec Ideal S8x32x64x64 .f32 := fun y => (s.da (y 0) (y 1) (y 2) (y 3) : EReal)
abbrev dgOf (s : Seq) : Vec Ideal S8x32x1x128 .f32 := fun y => (s.dg (y 0) (y 1) : EReal)

/-- The six results, and the arguments as they were. -/
theorem run_out (s : Dev nD → Seq) (A : ∀ c, Argk m c (s c)) : θ_run (defs (F := Ideal)) (onTc (τ := τ) (main (F := Ideal))) ⟨m, fun _ => 0, ρ⟩ (fun r => ∀ c : Dev nD,
    r.2.mem ((c.tc : Thread nD τ).loc main_v295_0) = rowsOf (s c).du
    ∧ r.2.mem ((c.tc : Thread nD τ).loc main_v295_1) = rowsOf (s c).dw
    ∧ r.2.mem ((c.tc : Thread nD τ).loc main_v295_2) = rowsOf (s c).dq
    ∧ r.2.mem ((c.tc : Thread nD τ).loc main_v295_3) = rowsOf (s c).dk
    ∧ r.2.mem ((c.tc : Thread nD τ).loc main_v295_4) = daOf (s c)
    ∧ r.2.mem ((c.tc : Thread nD τ).loc main_v295_5) = dgOf (s c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) := by
  refine (θ_run defs _ _).mono ?_ (θ_run_and (run_main m ρ) (unchanged m ρ))
  rintro r ⟨h, hu⟩ c
  have E := entry' m (A c)
  obtain ⟨hw, -⟩ := h c
  refine ⟨(hw 6).trans (E.final_dv.trans ?_), (hw 7).trans (E.final_dw.trans ?_), (hw 8).trans (E.final_dq.trans ?_),
    (hw 9).trans (E.final_dk.trans ?_), (hw 10).trans (E.final_da.trans ?_), (hw 11).trans (E.final_dg.trans ?_), hu c⟩
  · funext y; exact congrArg _ (ofSeq_dv (s c) _ _ (y 1).isLt)
  · funext y; exact congrArg _ (ofSeq_dw (s c) _ _ (y 1).isLt)
  · funext y; exact congrArg _ (ofSeq_dq (s c) _ _ (y 1).isLt)
  · funext y; exact congrArg _ (ofSeq_dk (s c) _ _ (y 1).isLt)
  · funext y; exact congrArg _ (ofSeq_da (s c) _ _ _ _ (y 0).isLt (y 3).isLt)
  · funext y; exact congrArg _ (ofSeq_dg (s c) _ _ (y 0).isLt)

end Cert.KernelIdeal.Val

end
-- ==== Proof.RefOps.lean ====
/- The run of the reference program: its two counted loops, one after the other, with the host operations before, between
   and after them. Each list below is a stretch of the program's own operations, in the program's order. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Two

open Cert.ReferenceIdeal Cert.ReferenceIdeal.Gen
open Idealize.ShloMosaic Idealize.ShloMosaic.TcCoe Idealize.ShloMosaic.StableHlo Idealize.SL.Sem

variable {F : FTy → Type} [FloatOps F]

/-- The contents of a buffer of shape `S` and element type `e`. -/
abbrev C (F : FTy → Type) (S : Shape) (e : EltTy) : Type := (⟨S, e⟩ : BufTy).Contents (Elt F)

/-- The operations of one call of `dynamic_index_in_dim`. -/
abbrev fn_dynamic_index_in_dim_ops (arg0 : TRef sig ⟨S32x8x64x128, .f32⟩) (arg1 : TRef sig ⟨S_, .i32⟩) (φ : fn_dynamic_index_in_dim.Bufs) : List (HloOp τ sig (Elt F)) :=
  [ TRef.nullary φ.c (constantI S_ 32 0#32),
    TRef.nullary φ.c_0 (constantI S_ 32 0#32),
    TRef.nullary φ.c_1 (constantI S_ 32 0#32),
    TRef.unaryIndexed arg0 ![arg1, φ.c, φ.c_0, φ.c_1] φ.v0 (fun x i => Host.dynamicSlice S1x8x64x128 x (fun k => (i k (Shape.Idx.first h_S_)).toInt) sliceFits_S32x8x64x128_S1x8x64x128),
    TRef.reshape φ.v0 φ.v1 (rfl : (.f32 : EltTy) = .f32) shapeCasts_S1x8x64x128_S8x64x128 ]

/-- The operations of one call of `dynamic_index_in_dim_0`. -/
abbrev fn_dynamic_index_in_dim_0_ops (arg0 : TRef sig ⟨S32x8x64x64, .f32⟩) (arg1 : TRef sig ⟨S_, .i32⟩) (φ : fn_dynamic_index_in_dim_0.Bufs) : List (HloOp τ sig (Elt F)) :=
  [ TRef.nullary φ.c (constantI S_ 32 0#32),
    TRef.nullary φ.c_0 (constantI S_ 32 0#32),
    TRef.nullary φ.c_1 (constantI S_ 32 0#32),
    TRef.unaryIndexed arg0 ![arg1, φ.c, φ.c_0, φ.c_1] φ.v0 (fun x i => Host.dynamicSlice S1x8x64x64 x (fun k => (i k (Shape.Idx.first h_S_)).toInt) sliceFits_S32x8x64x64_S1x8x64x64),
    TRef.reshape φ.v0 φ.v1 (rfl : (.f32 : EltTy) = .f32) shapeCasts_S1x8x64x64_S8x64x64 ]

/-- The operations of one call of `dynamic_index_in_dim_1`. -/
abbrev fn_dynamic_index_in_dim_1_ops (arg0 : TRef sig ⟨S32x8, .f32⟩) (arg1 : TRef sig ⟨S_, .i32⟩) (φ : fn_dynamic_index_in_dim_1.Bufs) : List (HloOp τ sig (Elt F)) :=
  [ TRef.nullary φ.c (constantI S_ 32 0#32),
    TRef.unaryIndexed arg0 ![arg1, φ.c] φ.v0 (fun x i => Host.dynamicSlice S1x8 x (fun k => (i k (Shape.Idx.first h_S_)).toInt) sliceFits_S32x8_S1x8),
    TRef.reshape φ.v0 φ.v1 (rfl : (.f32 : EltTy) = .f32) shapeCasts_S1x8_S8 ]

/-- The operations of one call of `dynamic_update_index_in_dim`. -/
abbrev fn_dynamic_update_index_in_dim_ops (arg0 : TRef sig ⟨S32x8x64x128, .f32⟩) (arg1 : TRef sig ⟨S8x64x128, .f32⟩) (arg2 : TRef sig ⟨S_, .i32⟩) (φ : fn_dynamic_update_index_in_dim.Bufs) : List (HloOp τ sig (Elt F)) :=
  [ TRef.unary arg1 φ.v0 (broadcastInDim S1x8x64x128 ![1, 2, 3] bcast_S8x64x128_S1x8x64x128_1_2_3),
    TRef.nullary φ.c (constantI S_ 32 0#32),
    TRef.nullary φ.c_0 (constantI S_ 32 0#32),
    TRef.nullary φ.c_1 (constantI S_ 32 0#32),
    TRef.binaryIndexed arg0 φ.v0 ![arg2, φ.c, φ.c_0, φ.c_1] φ.v1 (fun x u i => Host.dynamicUpdateSlice x u (fun k => (i k (Shape.Idx.first h_S_)).toInt) updateFits_S32x8x64x128_S1x8x64x128) ]

/-- The operations of one call of `dynamic_update_index_in_dim_2`. -/
abbrev fn_dynamic_update_index_in_dim_2_ops (arg0 : TRef sig ⟨S32x8x128x128, .f32⟩) (arg1 : TRef sig ⟨S8x128x128, .f32⟩) (arg2 : TRef sig ⟨S_, .i32⟩) (φ : fn_dynamic_update_index_in_dim_2.Bufs) : List (HloOp τ sig (Elt F)) :=
  [ TRef.unary arg1 φ.v0 (broadcastInDim S1x8x128x128 ![1, 2, 3] bcast_S8x128x128_S1x8x128x128_1_2_3),
    TRef.nullary φ.c (constantI S_ 32 0#32),
    TRef.nullary φ.c_0 (constantI S_ 32 0#32),
    TRef.nullary φ.c_1 (constantI S_ 32 0#32),
    TRef.binaryIndexed arg0 φ.v0 ![arg2, φ.c, φ.c_0, φ.c_1] φ.v1 (fun x u i => Host.dynamicUpdateSlice x u (fun k => (i k (Shape.Idx.first h_S_)).toInt) updateFits_S32x8x128x128_S1x8x128x128) ]

/-- The operations of one call of `dynamic_update_index_in_dim_3`. -/
abbrev fn_dynamic_update_index_in_dim_3_ops (arg0 : TRef sig ⟨S32x8, .f32⟩) (arg1 : TRef sig ⟨S8, .f32⟩) (arg2 : TRef sig ⟨S_, .i32⟩) (φ : fn_dynamic_update_index_in_dim_3.Bufs) : List (HloOp τ sig (Elt F)) :=
  [ TRef.unary arg1 φ.v0 (broadcastInDim S1x8 ![1] bcast_S8_S1x8_1),
    TRef.nullary φ.c (constantI S_ 32 0#32),
    TRef.binaryIndexed arg0 φ.v0 ![arg2, φ.c] φ.v1 (fun x u i => Host.dynamicUpdateSlice x u (fun k => (i k (Shape.Idx.first h_S_)).toInt) updateFits_S32x8_S1x8) ]

/-- The operations of one call of `dynamic_update_index_in_dim_4`. -/
abbrev fn_dynamic_update_index_in_dim_4_ops (arg0 : TRef sig ⟨S32x8x1x1, .f32⟩) (arg1 : TRef sig ⟨S8x1x1, .f32⟩) (arg2 : TRef sig ⟨S_, .i32⟩) (φ : fn_dynamic_update_index_in_dim_4.Bufs) : List (HloOp τ sig (Elt F)) :=
  [ TRef.unary arg1 φ.v0 (broadcastInDim S1x8x1x1 ![1, 2, 3] bcast_S8x1x1_S1x8x1x1_1_2_3),
    TRef.nullary φ.c (constantI S_ 32 0#32),
    TRef.nullary φ.c_0 (constantI S_ 32 0#32),
    TRef.nullary φ.c_1 (constantI S_ 32 0#32),
    TRef.binaryIndexed arg0 φ.v0 ![arg2, φ.c, φ.c_0, φ.c_1] φ.v1 (fun x u i => Host.dynamicUpdateSlice x u (fun k => (i k (Shape.Idx.first h_S_)).toInt) updateFits_S32x8x1x1_S1x8x1x1) ]

/-- The operations of one call of `dynamic_index_in_dim_5`. -/
abbrev fn_dynamic_index_in_dim_5_ops (arg0 : TRef sig ⟨S32x8x128x128, .f32⟩) (arg1 : TRef sig ⟨S_, .i32⟩) (φ : fn_dynamic_index_in_dim_5.Bufs) : List (HloOp τ sig (Elt F)) :=
  [ TRef.nullary φ.c (constantI S_ 32 0#32),
    TRef.nullary φ.c_0 (constantI S_ 32 0#32),
    TRef.nullary φ.c_1 (constantI S_ 32 0#32),
    TRef.unaryIndexed arg0 ![arg1, φ.c, φ.c_0, φ.c_1] φ.v0 (fun x i => Host.dynamicSlice S1x8x128x128 x (fun k => (i k (Shape.Idx.first h_S_)).toInt) sliceFits_S32x8x128x128_S1x8x128x128),
    TRef.reshape φ.v0 φ.v1 (rfl : (.f32 : EltTy) = .f32) shapeCasts_S1x8x128x128_S8x128x128 ]

/-- The operations of one call of `dynamic_index_in_dim_6`. -/
abbrev fn_dynamic_index_in_dim_6_ops (arg0 : TRef sig ⟨S32x8x1x1, .f32⟩) (arg1 : TRef sig ⟨S_, .i32⟩) (φ : fn_dynamic_index_in_dim_6.Bufs) : List (HloOp τ sig (Elt F)) :=
  [ TRef.nullary φ.c (constantI S_ 32 0#32),
    TRef.nullary φ.c_0 (constantI S_ 32 0#32),
    TRef.nullary φ.c_1 (constantI S_ 32 0#32),
    TRef.unaryIndexed arg0 ![arg1, φ.c, φ.c_0, φ.c_1] φ.v0 (fun x i => Host.dynamicSlice S1x8x1x1 x (fun k => (i k (Shape.Idx.first h_S_)).toInt) sliceFits_S32x8x1x1_S1x8x1x1),
    TRef.reshape φ.v0 φ.v1 (rfl : (.f32 : EltTy) = .f32) shapeCasts_S1x8x1x1_S8x1x1 ]

/-- The operations of one call of `dynamic_update_index_in_dim_7`. -/
abbrev fn_dynamic_update_index_in_dim_7_ops (arg0 : TRef sig ⟨S32x8x64x64, .f32⟩) (arg1 : TRef sig ⟨S8x64x64, .f32⟩) (arg2 : TRef sig ⟨S_, .i32⟩) (φ : fn_dynamic_update_index_in_dim_7.Bufs) : List (HloOp τ sig (Elt F)) :=
  [ TRef.unary arg1 φ.v0 (broadcastInDim S1x8x64x64 ![1, 2, 3] bcast_S8x64x64_S1x8x64x64_1_2_3),
    TRef.nullary φ.c (constantI S_ 32 0#32),
    TRef.nullary φ.c_0 (constantI S_ 32 0#32),
    TRef.nullary φ.c_1 (constantI S_ 32 0#32),
    TRef.binaryIndexed arg0 φ.v0 ![arg2, φ.c, φ.c_0, φ.c_1] φ.v1 (fun x u i => Host.dynamicUpdateSlice x u (fun k => (i k (Shape.Idx.first h_S_)).toInt) updateFits_S32x8x64x64_S1x8x64x64) ]

/-- The operations of one call of `tril`. -/
abbrev fn_tril_ops (arg0 : TRef sig ⟨S64x64, .i1⟩) (φ : fn_tril.Bufs) : List (HloOp τ sig (Elt F)) :=
  [ TRef.nullary φ.v0 (iotaInDim S64x64 32 0),
    TRef.nullary φ.c (constantI S_ 32 0#32),
    TRef.unary φ.c φ.v1 (broadcastInDim S64x64 ![] bcast_S_S64x64),
    TRef.binary φ.v0 φ.v1 φ.v2 addi,
    TRef.nullary φ.v3 (iotaInDim S64x64 32 1),
    TRef.binary φ.v2 φ.v3 φ.v4 (cmpi .sge),
    TRef.nullary φ.c_0 (constantI S_ 1 0#1),
    TRef.unary φ.c_0 φ.v5 (broadcastInDim S64x64 ![] bcast_S_S64x64),
    TRef.ternary φ.v4 arg0 φ.v5 φ.v6 select ]

/-- The operations of one call of `where`. -/
abbrev fn_where_ops (arg0 : TRef sig ⟨S64x64, .i1⟩) (arg1 : TRef sig ⟨S8x32x64x64, .f32⟩) (arg2 : TRef sig ⟨S_, .f32⟩) (φ : fn_where.Bufs) : List (HloOp τ sig (Elt F)) :=
  [ TRef.unary arg2 φ.v0 id,
    TRef.unary arg0 φ.v1 (broadcastInDim S8x32x64x64 ![2, 3] bcast_S64x64_S8x32x64x64_2_3),
    TRef.unary φ.v0 φ.v2 (broadcastInDim S8x32x64x64 ![] bcast_S_S8x32x64x64),
    TRef.ternary φ.v1 arg1 φ.v2 φ.v3 select ]

/-- Before the first loop, stretch 0. -/
abbrev pre_0 : List (HloOp τ sig (Elt F)) :=
  [ reshape main_arg5 main_v0 (rfl : (.f32 : EltTy) = .f32) shapeCasts_S2048x8_S32x64x8,
    nullary main_cst (constant S_ .f32 0x00000000#32),
    binary main_v0 main_cst main_v1 ((fun x v => Host.reduceAdd x v reducesTo_S32x64x8_S32x8_d1 h_S_) : C F S32x64x8 .f32 → C F S_ .f32 → C F S32x8 .f32),
    reshape main_arg6 main_v2 (rfl : (.f32 : EltTy) = .f32) shapeCasts_S2048x1024_S32x64x8x128,
    unary main_v2 main_v3 ((transpose S32x8x64x128 [0, 2, 1, 3] · transposes_S32x64x8x128_S32x8x64x128_0_2_1_3) : C F S32x64x8x128 .f32 → C F S32x8x64x128 .f32),
    nullary main_cst_0 (constant S_ .f32 0x00000000#32),
    unary main_cst_0 main_v4 (broadcastInDim S8x128x128 ![] bcast_S_S8x128x128 : C F S_ .f32 → C F S8x128x128 .f32),
    unary main_arg2 main_v5 ((transpose S32x8x64x128 [1, 0, 2, 3] · transposes_S8x32x64x128_S32x8x64x128_1_0_2_3) : C F S8x32x64x128 .f32 → C F S32x8x64x128 .f32),
    unary main_arg3 main_v6 ((transpose S32x8x64x128 [1, 0, 2, 3] · transposes_S8x32x64x128_S32x8x64x128_1_0_2_3) : C F S8x32x64x128 .f32 → C F S32x8x64x128 .f32),
    unary main_arg0 main_v7 ((transpose S32x8x64x128 [1, 0, 2, 3] · transposes_S8x32x64x128_S32x8x64x128_1_0_2_3) : C F S8x32x64x128 .f32 → C F S32x8x64x128 .f32),
    unary main_arg1 main_v8 ((transpose S32x8x64x128 [1, 0, 2, 3] · transposes_S8x32x64x128_S32x8x64x128_1_0_2_3) : C F S8x32x64x128 .f32 → C F S32x8x64x128 .f32),
    unary main_arg4 main_v9 ((transpose S32x8x64x64 [1, 0, 2, 3] · transposes_S8x32x64x64_S32x8x64x64_1_0_2_3) : C F S8x32x64x64 .f32 → C F S32x8x64x64 .f32),
    nullary main_cst_1 (constant S_ .f32 0x00000000#32),
    unary main_cst_1 main_v10 (broadcastInDim S32x8x64x128 ![] bcast_S_S32x8x64x128 : C F S_ .f32 → C F S32x8x64x128 .f32),
    nullary main_cst_2 (constant S_ .f32 0x00000000#32),
    unary main_cst_2 main_v11 (broadcastInDim S32x8x128x128 ![] bcast_S_S32x8x128x128 : C F S_ .f32 → C F S32x8x128x128 .f32),
    nullary main_cst_3 (constant S_ .f32 0x00000000#32),
    unary main_cst_3 main_v12 (broadcastInDim S32x8x64x128 ![] bcast_S_S32x8x64x128 : C F S_ .f32 → C F S32x8x64x128 .f32),
    nullary main_cst_4 (constant S_ .f32 0x00000000#32),
    unary main_cst_4 main_v13 (broadcastInDim S32x8 ![] bcast_S_S32x8 : C F S_ .f32 → C F S32x8 .f32),
    nullary main_cst_5 (constant S_ .f32 0x00000000#32),
    unary main_cst_5 main_v14 (broadcastInDim S32x8x1x1 ![] bcast_S_S32x8x1x1 : C F S_ .f32 → C F S32x8x1x1 .f32),
    nullary main_c (constantI S_ 32 0#32),
    unary main_v5 main_v15_0 id,
    unary main_v6 main_v15_1 id,
    unary main_v7 main_v15_2 id,
    unary main_v8 main_v15_3 id,
    unary main_v9 main_v15_4 id,
    unary main_v1 main_v15_5 id,
    unary main_c main_v15_6 id,
    unary main_v4 main_v15_7 id,
    unary main_v10 main_v15_8 id,
    unary main_v11 main_v15_9 id,
    unary main_v12 main_v15_10 id,
    unary main_v13 main_v15_11 id,
    unary main_v14 main_v15_12 id ]

/-- Between the loops, stretch 0. -/
abbrev mid_0 : List (HloOp τ sig (Elt F)) :=
  [ nullary main_cst_6 (constant S_ .f32 0x00000000#32),
    unary main_cst_6 main_v16 (broadcastInDim S8x128x128 ![] bcast_S_S8x128x128 : C F S_ .f32 → C F S8x128x128 .f32),
    nullary main_cst_7 (constant S_ .f32 0x00000000#32),
    unary main_cst_7 main_v17 (broadcastInDim S8x128x128 ![] bcast_S_S8x128x128 : C F S_ .f32 → C F S8x128x128 .f32),
    nullary main_cst_8 (constant S_ .f32 0x00000000#32),
    unary main_cst_8 main_v18 (broadcastInDim S32x8x64x128 ![] bcast_S_S32x8x64x128 : C F S_ .f32 → C F S32x8x64x128 .f32),
    nullary main_cst_9 (constant S_ .f32 0x00000000#32),
    unary main_cst_9 main_v19 (broadcastInDim S32x8x64x128 ![] bcast_S_S32x8x64x128 : C F S_ .f32 → C F S32x8x64x128 .f32),
    nullary main_cst_10 (constant S_ .f32 0x00000000#32),
    unary main_cst_10 main_v20 (broadcastInDim S32x8x64x128 ![] bcast_S_S32x8x64x128 : C F S_ .f32 → C F S32x8x64x128 .f32),
    nullary main_cst_11 (constant S_ .f32 0x00000000#32),
    unary main_cst_11 main_v21 (broadcastInDim S32x8x64x128 ![] bcast_S_S32x8x64x128 : C F S_ .f32 → C F S32x8x64x128 .f32),
    nullary main_cst_12 (constant S_ .f32 0x00000000#32),
    unary main_cst_12 main_v22 (broadcastInDim S32x8x64x64 ![] bcast_S_S32x8x64x64 : C F S_ .f32 → C F S32x8x64x64 .f32),
    nullary main_cst_13 (constant S_ .f32 0x00000000#32),
    unary main_cst_13 main_v23 (broadcastInDim S32x8 ![] bcast_S_S32x8 : C F S_ .f32 → C F S32x8 .f32),
    nullary main_c_14 (constantI S_ 32 0#32),
    unary main_v3 main_v24_0 id,
    unary main_v15_9 main_v24_1 id,
    unary main_v8 main_v24_2 id,
    unary main_v5 main_v24_3 id,
    unary main_v15_10 main_v24_4 id,
    unary main_v9 main_v24_5 id,
    unary main_v15_11 main_v24_6 id,
    unary main_v15_12 main_v24_7 id,
    unary main_v6 main_v24_8 id,
    unary main_c_14 main_v24_9 id,
    unary main_v17 main_v24_10 id,
    unary main_v18 main_v24_11 id,
    unary main_v19 main_v24_12 id,
    unary main_v20 main_v24_13 id,
    unary main_v21 main_v24_14 id,
    unary main_v22 main_v24_15 id,
    unary main_v23 main_v24_16 id ]

/-- After the second loop, stretch 0. -/
abbrev post_0 : List (HloOp τ sig (Elt F)) :=
  [ unary main_v24_15 main_v25 ((transpose S8x32x64x64 [1, 0, 2, 3] · transposes_S32x8x64x64_S8x32x64x64_1_0_2_3) : C F S32x8x64x64 .f32 → C F S8x32x64x64 .f32),
    unary main_v24_14 main_v26 ((transpose S8x32x64x128 [1, 0, 2, 3] · transposes_S32x8x64x128_S8x32x64x128_1_0_2_3) : C F S32x8x64x128 .f32 → C F S8x32x64x128 .f32),
    unary main_v24_13 main_v27 ((transpose S8x32x64x128 [1, 0, 2, 3] · transposes_S32x8x64x128_S8x32x64x128_1_0_2_3) : C F S32x8x64x128 .f32 → C F S8x32x64x128 .f32),
    unary main_v24_12 main_v28 ((transpose S8x32x64x128 [1, 0, 2, 3] · transposes_S32x8x64x128_S8x32x64x128_1_0_2_3) : C F S32x8x64x128 .f32 → C F S8x32x64x128 .f32),
    unary main_v24_11 main_v29 ((transpose S8x32x64x128 [1, 0, 2, 3] · transposes_S32x8x64x128_S8x32x64x128_1_0_2_3) : C F S32x8x64x128 .f32 → C F S8x32x64x128 .f32),
    nullary main_c_15 (constantI S_ 1 1#1),
    unary main_c_15 main_v30 (broadcastInDim S64x64 ![] bcast_S_S64x64 : C F S_ .i1 → C F S64x64 .i1) ]

/-- After the second loop, stretch 1: a call. -/
abbrev post_1 : List (HloOp τ sig (Elt F)) := fn_tril_ops (.of main_v30) main_call26

/-- After the second loop, stretch 2. -/
abbrev post_2 : List (HloOp τ sig (Elt F)) :=
  [ unary main_v24_16 main_v32 ((transpose S8x32 [1, 0] · transposes_S32x8_S8x32_1_0) : C F S32x8 .f32 → C F S8x32 .f32),
    unary main_v32 main_v33 (broadcastInDim S8x32x1x1 ![0, 1] bcast_S8x32_S8x32x1x1_0_1 : C F S8x32 .f32 → C F S8x32x1x1 .f32),
    unary main_v33 main_v34 (broadcastInDim S8x32x1x128 ![0, 1, 2, 3] bcast_S8x32x1x1_S8x32x1x128_0_1_2_3 : C F S8x32x1x1 .f32 → C F S8x32x1x128 .f32),
    unary main_v27 main_v35 ((transpose S32x64x8x128 [1, 2, 0, 3] · transposes_S8x32x64x128_S32x64x8x128_1_2_0_3) : C F S8x32x64x128 .f32 → C F S32x64x8x128 .f32),
    reshape main_v35 main_v36 (rfl : (.f32 : EltTy) = .f32) shapeCasts_S32x64x8x128_S2048x1024,
    unary main_v26 main_v37 ((transpose S32x64x8x128 [1, 2, 0, 3] · transposes_S8x32x64x128_S32x64x8x128_1_2_0_3) : C F S8x32x64x128 .f32 → C F S32x64x8x128 .f32),
    reshape main_v37 main_v38 (rfl : (.f32 : EltTy) = .f32) shapeCasts_S32x64x8x128_S2048x1024,
    unary main_v29 main_v39 ((transpose S32x64x8x128 [1, 2, 0, 3] · transposes_S8x32x64x128_S32x64x8x128_1_2_0_3) : C F S8x32x64x128 .f32 → C F S32x64x8x128 .f32),
    reshape main_v39 main_v40 (rfl : (.f32 : EltTy) = .f32) shapeCasts_S32x64x8x128_S2048x1024,
    unary main_v28 main_v41 ((transpose S32x64x8x128 [1, 2, 0, 3] · transposes_S8x32x64x128_S32x64x8x128_1_2_0_3) : C F S8x32x64x128 .f32 → C F S32x64x8x128 .f32),
    reshape main_v41 main_v42 (rfl : (.f32 : EltTy) = .f32) shapeCasts_S32x64x8x128_S2048x1024,
    nullary main_cst_16 (constant S_ .f32 0x00000000#32) ]

/-- After the second loop, stretch 3: a call. -/
abbrev post_3 : List (HloOp τ sig (Elt F)) := fn_where_ops (.of main_v31) (.of main_v25) (.of main_cst_16) main_call27

/-- The first loop's body, stretch 0: a call. -/
abbrev b0_0 : List (HloOp τ sig (Elt F)) := fn_dynamic_index_in_dim_ops (.of main_v15_0) (.of main_v15_6) main_while0b_call0

/-- The first loop's body, stretch 1: a call. -/
abbrev b0_1 : List (HloOp τ sig (Elt F)) := fn_dynamic_index_in_dim_ops (.of main_v15_1) (.of main_v15_6) main_while0b_call1

/-- The first loop's body, stretch 2: a call. -/
abbrev b0_2 : List (HloOp τ sig (Elt F)) := fn_dynamic_index_in_dim_ops (.of main_v15_2) (.of main_v15_6) main_while0b_call2

/-- The first loop's body, stretch 3: a call. -/
abbrev b0_3 : List (HloOp τ sig (Elt F)) := fn_dynamic_index_in_dim_ops (.of main_v15_3) (.of main_v15_6) main_while0b_call3

/-- The first loop's body, stretch 4: a call. -/
abbrev b0_4 : List (HloOp τ sig (Elt F)) := fn_dynamic_index_in_dim_0_ops (.of main_v15_4) (.of main_v15_6) main_while0b_call4

/-- The first loop's body, stretch 5: a call. -/
abbrev b0_5 : List (HloOp τ sig (Elt F)) := fn_dynamic_index_in_dim_1_ops (.of main_v15_5) (.of main_v15_6) main_while0b_call5

/-- The first loop's body, stretch 6. -/
abbrev b0_6 : List (HloOp τ sig (Elt F)) :=
  [ binary main_while0b_v47 main_v15_7 main_while0b_v50 ((fun l r => Host.dotGeneral dot_S8x64x128_S8x128x128_S8x64x128_2_1_1_2_0_0 none l r) : C F S8x64x128 .f32 → C F S8x128x128 .f32 → C F S8x64x128 .f32),
    binary main_while0b_v46 main_while0b_v50 main_while0b_v51 (subf : C F S8x64x128 .f32 → C F S8x64x128 .f32 → C F S8x64x128 .f32),
    binary main_while0b_v44 main_v15_7 main_while0b_v52 ((fun l r => Host.dotGeneral dot_S8x64x128_S8x128x128_S8x64x128_2_1_1_2_0_0 none l r) : C F S8x64x128 .f32 → C F S8x128x128 .f32 → C F S8x64x128 .f32),
    binary main_while0b_v48 main_while0b_v51 main_while0b_v53 ((fun l r => Host.dotGeneral dot_S8x64x64_S8x64x128_S8x64x128_2_1_1_2_0_0 none l r) : C F S8x64x64 .f32 → C F S8x64x128 .f32 → C F S8x64x128 .f32),
    binary main_while0b_v52 main_while0b_v53 main_while0b_v54 (addf : C F S8x64x128 .f32 → C F S8x64x128 .f32 → C F S8x64x128 .f32),
    unary main_while0b_v49 main_while0b_v55 (Host.exp : C F S8 .f32 → C F S8 .f32),
    unary main_while0b_v55 main_while0b_v56 (broadcastInDim S8x1x1 ![0] bcast_S8_S8x1x1_0 : C F S8 .f32 → C F S8x1x1 .f32),
    unary main_while0b_v56 main_while0b_v57 (broadcastInDim S8x128x128 ![0, 1, 2] bcast_S8x1x1_S8x128x128_0_1_2 : C F S8x1x1 .f32 → C F S8x128x128 .f32),
    binary main_v15_7 main_while0b_v57 main_while0b_v58 (mulf : C F S8x128x128 .f32 → C F S8x128x128 .f32 → C F S8x128x128 .f32),
    binary main_while0b_v45 main_while0b_v51 main_while0b_v59 ((fun l r => Host.dotGeneral dot_S8x64x128_S8x64x128_S8x128x128_1_1_2_2_0_0 none l r) : C F S8x64x128 .f32 → C F S8x64x128 .f32 → C F S8x128x128 .f32),
    binary main_while0b_v58 main_while0b_v59 main_while0b_v60 (addf : C F S8x128x128 .f32 → C F S8x128x128 .f32 → C F S8x128x128 .f32) ]

/-- The first loop's body, stretch 7: a call. -/
abbrev b0_7 : List (HloOp τ sig (Elt F)) := fn_dynamic_update_index_in_dim_ops (.of main_v15_8) (.of main_while0b_v54) (.of main_v15_6) main_while0b_call6

/-- The first loop's body, stretch 8: a call. -/
abbrev b0_8 : List (HloOp τ sig (Elt F)) := fn_dynamic_update_index_in_dim_2_ops (.of main_v15_9) (.of main_v15_7) (.of main_v15_6) main_while0b_call7

/-- The first loop's body, stretch 9: a call. -/
abbrev b0_9 : List (HloOp τ sig (Elt F)) := fn_dynamic_update_index_in_dim_ops (.of main_v15_10) (.of main_while0b_v51) (.of main_v15_6) main_while0b_call8

/-- The first loop's body, stretch 10: a call. -/
abbrev b0_10 : List (HloOp τ sig (Elt F)) := fn_dynamic_update_index_in_dim_3_ops (.of main_v15_11) (.of main_while0b_v55) (.of main_v15_6) main_while0b_call9

/-- The first loop's body, stretch 11: a call. -/
abbrev b0_11 : List (HloOp τ sig (Elt F)) := fn_dynamic_update_index_in_dim_4_ops (.of main_v15_12) (.of main_while0b_v56) (.of main_v15_6) main_while0b_call10

/-- The first loop's body, stretch 12. -/
abbrev b0_12 : List (HloOp τ sig (Elt F)) :=
  [ nullary main_while0b_c_29 (constantI S_ 32 1#32),
    binary main_v15_6 main_while0b_c_29 main_while0b_v66 (addi : C F S_ .i32 → C F S_ .i32 → C F S_ .i32),
    unary main_while0b_v66 main_v15_6 id,
    unary main_while0b_v60 main_v15_7 id,
    unary main_while0b_v61 main_v15_8 id,
    unary main_while0b_v62 main_v15_9 id,
    unary main_while0b_v63 main_v15_10 id,
    unary main_while0b_v64 main_v15_11 id,
    unary main_while0b_v65 main_v15_12 id ]

/-- The second loop's body, stretch 0. -/
abbrev b1_0 : List (HloOp τ sig (Elt F)) :=
  [ nullary main_while1b_c_33 (constantI S_ 32 32#32),
    binary main_while1b_c_33 main_v24_9 main_while1b_v44 (subi : C F S_ .i32 → C F S_ .i32 → C F S_ .i32),
    nullary main_while1b_c_34 (constantI S_ 32 1#32),
    binary main_while1b_v44 main_while1b_c_34 main_while1b_v45 (subi : C F S_ .i32 → C F S_ .i32 → C F S_ .i32) ]

/-- The second loop's body, stretch 1: a call. -/
abbrev b1_1 : List (HloOp τ sig (Elt F)) := fn_dynamic_index_in_dim_ops (.of main_v24_0) (.of main_while1b_v45) main_while1b_call11

/-- The second loop's body, stretch 2: a call. -/
abbrev b1_2 : List (HloOp τ sig (Elt F)) := fn_dynamic_index_in_dim_5_ops (.of main_v24_1) (.of main_while1b_v45) main_while1b_call12

/-- The second loop's body, stretch 3: a call. -/
abbrev b1_3 : List (HloOp τ sig (Elt F)) := fn_dynamic_index_in_dim_ops (.of main_v24_2) (.of main_while1b_v45) main_while1b_call13

/-- The second loop's body, stretch 4: a call. -/
abbrev b1_4 : List (HloOp τ sig (Elt F)) := fn_dynamic_index_in_dim_ops (.of main_v24_3) (.of main_while1b_v45) main_while1b_call14

/-- The second loop's body, stretch 5: a call. -/
abbrev b1_5 : List (HloOp τ sig (Elt F)) := fn_dynamic_index_in_dim_ops (.of main_v24_4) (.of main_while1b_v45) main_while1b_call15

/-- The second loop's body, stretch 6: a call. -/
abbrev b1_6 : List (HloOp τ sig (Elt F)) := fn_dynamic_index_in_dim_0_ops (.of main_v24_5) (.of main_while1b_v45) main_while1b_call16

/-- The second loop's body, stretch 7: a call. -/
abbrev b1_7 : List (HloOp τ sig (Elt F)) := fn_dynamic_index_in_dim_1_ops (.of main_v24_6) (.of main_while1b_v45) main_while1b_call17

/-- The second loop's body, stretch 8: a call. -/
abbrev b1_8 : List (HloOp τ sig (Elt F)) := fn_dynamic_index_in_dim_6_ops (.of main_v24_7) (.of main_while1b_v45) main_while1b_call18

/-- The second loop's body, stretch 9: a call. -/
abbrev b1_9 : List (HloOp τ sig (Elt F)) := fn_dynamic_index_in_dim_ops (.of main_v24_8) (.of main_while1b_v45) main_while1b_call19

/-- The second loop's body, stretch 10. -/
abbrev b1_10 : List (HloOp τ sig (Elt F)) :=
  [ binary main_v24_10 main_while1b_v54 main_while1b_v55 ((fun l r => Host.dotGeneral dot_S8x128x128_S8x64x128_S8x128x64_1_2_2_1_0_0 none l r) : C F S8x128x128 .f32 → C F S8x64x128 .f32 → C F S8x128x64 .f32),
    unary main_while1b_v55 main_while1b_v56 ((transpose S8x64x128 [0, 2, 1] · transposes_S8x128x64_S8x64x128_0_2_1) : C F S8x128x64 .f32 → C F S8x64x128 .f32),
    binary main_v24_10 main_while1b_v50 main_while1b_v57 ((fun l r => Host.dotGeneral dot_S8x128x128_S8x64x128_S8x128x64_2_2_1_1_0_0 none l r) : C F S8x128x128 .f32 → C F S8x64x128 .f32 → C F S8x128x64 .f32),
    unary main_while1b_v57 main_while1b_v58 ((transpose S8x64x128 [0, 2, 1] · transposes_S8x128x64_S8x64x128_0_2_1) : C F S8x128x64 .f32 → C F S8x64x128 .f32),
    binary main_while1b_v47 main_v24_10 main_while1b_v59 (mulf : C F S8x128x128 .f32 → C F S8x128x128 .f32 → C F S8x128x128 .f32),
    nullary main_while1b_cst_35 (constant S_ .f32 0x00000000#32),
    binary main_while1b_v59 main_while1b_cst_35 main_while1b_v60 ((fun x v => Host.reduceAdd x v reducesTo_S8x128x128_S8_d1_2 h_S_) : C F S8x128x128 .f32 → C F S_ .f32 → C F S8 .f32),
    reshape main_while1b_v60 main_while1b_v61 (rfl : (.f32 : EltTy) = .f32) shapeCasts_S8_S8x1x1,
    unary main_while1b_v53 main_while1b_v62 (broadcastInDim S8x128x128 ![0, 1, 2] bcast_S8x1x1_S8x128x128_0_1_2 : C F S8x1x1 .f32 → C F S8x128x128 .f32),
    binary main_v24_10 main_while1b_v62 main_while1b_v63 (mulf : C F S8x128x128 .f32 → C F S8x128x128 .f32 → C F S8x128x128 .f32),
    nullary main_while1b_cst_36 (constant S_ .f32 0x00000000#32),
    binary main_while1b_v61 main_while1b_cst_36 main_while1b_v64 ((fun x v => Host.reduceAdd x v reducesTo_S8x1x1_S8_d1_2 h_S_) : C F S8x1x1 .f32 → C F S_ .f32 → C F S8 .f32),
    binary main_while1b_v64 main_while1b_v52 main_while1b_v65 (mulf : C F S8 .f32 → C F S8 .f32 → C F S8 .f32),
    binary main_while1b_v46 main_while1b_v51 main_while1b_v66 ((fun l r => Host.dotGeneral dot_S8x64x128_S8x64x64_S8x128x64_1_1_2_2_0_0 none l r) : C F S8x64x128 .f32 → C F S8x64x64 .f32 → C F S8x128x64 .f32),
    unary main_while1b_v66 main_while1b_v67 ((transpose S8x64x128 [0, 2, 1] · transposes_S8x128x64_S8x64x128_0_2_1) : C F S8x128x64 .f32 → C F S8x64x128 .f32),
    binary main_while1b_v56 main_while1b_v67 main_while1b_v68 (addf : C F S8x64x128 .f32 → C F S8x64x128 .f32 → C F S8x64x128 .f32),
    binary main_while1b_v46 main_while1b_v50 main_while1b_v69 ((fun l r => Host.dotGeneral dot_S8x64x128_S8x64x128_S8x64x64_2_2_1_1_0_0 none l r) : C F S8x64x128 .f32 → C F S8x64x128 .f32 → C F S8x64x64 .f32),
    binary main_while1b_v46 main_while1b_v49 main_while1b_v70 ((fun l r => Host.dotGeneral dot_S8x64x128_S8x64x128_S8x128x128_1_1_2_2_0_0 none l r) : C F S8x64x128 .f32 → C F S8x64x128 .f32 → C F S8x128x128 .f32),
    unary main_while1b_v70 main_while1b_v71 ((transpose S8x128x128 [0, 2, 1] · transposes_S8x128x128_S8x128x128_0_2_1) : C F S8x128x128 .f32 → C F S8x128x128 .f32),
    binary main_while1b_v63 main_while1b_v71 main_while1b_v72 (addf : C F S8x128x128 .f32 → C F S8x128x128 .f32 → C F S8x128x128 .f32),
    binary main_while1b_v46 main_while1b_v47 main_while1b_v73 ((fun l r => Host.dotGeneral dot_S8x64x128_S8x128x128_S8x64x128_2_2_1_1_0_0 none l r) : C F S8x64x128 .f32 → C F S8x128x128 .f32 → C F S8x64x128 .f32),
    unary main_while1b_v68 main_while1b_v74 (Host.negf : C F S8x64x128 .f32 → C F S8x64x128 .f32),
    binary main_while1b_v74 main_while1b_v48 main_while1b_v75 ((fun l r => Host.dotGeneral dot_S8x64x128_S8x64x128_S8x128x128_1_1_2_2_0_0 none l r) : C F S8x64x128 .f32 → C F S8x64x128 .f32 → C F S8x128x128 .f32),
    unary main_while1b_v75 main_while1b_v76 ((transpose S8x128x128 [0, 2, 1] · transposes_S8x128x128_S8x128x128_0_2_1) : C F S8x128x128 .f32 → C F S8x128x128 .f32),
    binary main_while1b_v72 main_while1b_v76 main_while1b_v77 (addf : C F S8x128x128 .f32 → C F S8x128x128 .f32 → C F S8x128x128 .f32),
    binary main_while1b_v74 main_while1b_v47 main_while1b_v78 ((fun l r => Host.dotGeneral dot_S8x64x128_S8x128x128_S8x64x128_2_2_1_1_0_0 none l r) : C F S8x64x128 .f32 → C F S8x128x128 .f32 → C F S8x64x128 .f32) ]

/-- The second loop's body, stretch 11: a call. -/
abbrev b1_11 : List (HloOp τ sig (Elt F)) := fn_dynamic_update_index_in_dim_ops (.of main_v24_11) (.of main_while1b_v73) (.of main_while1b_v45) main_while1b_call20

/-- The second loop's body, stretch 12: a call. -/
abbrev b1_12 : List (HloOp τ sig (Elt F)) := fn_dynamic_update_index_in_dim_ops (.of main_v24_12) (.of main_while1b_v58) (.of main_while1b_v45) main_while1b_call21

/-- The second loop's body, stretch 13: a call. -/
abbrev b1_13 : List (HloOp τ sig (Elt F)) := fn_dynamic_update_index_in_dim_ops (.of main_v24_13) (.of main_while1b_v68) (.of main_while1b_v45) main_while1b_call22

/-- The second loop's body, stretch 14: a call. -/
abbrev b1_14 : List (HloOp τ sig (Elt F)) := fn_dynamic_update_index_in_dim_ops (.of main_v24_14) (.of main_while1b_v78) (.of main_while1b_v45) main_while1b_call23

/-- The second loop's body, stretch 15: a call. -/
abbrev b1_15 : List (HloOp τ sig (Elt F)) := fn_dynamic_update_index_in_dim_7_ops (.of main_v24_15) (.of main_while1b_v69) (.of main_while1b_v45) main_while1b_call24

/-- The second loop's body, stretch 16: a call. -/
abbrev b1_16 : List (HloOp τ sig (Elt F)) := fn_dynamic_update_index_in_dim_3_ops (.of main_v24_16) (.of main_while1b_v65) (.of main_while1b_v45) main_while1b_call25

/-- The second loop's body, stretch 17. -/
abbrev b1_17 : List (HloOp τ sig (Elt F)) :=
  [ nullary main_while1b_c_37 (constantI S_ 32 1#32),
    binary main_v24_9 main_while1b_c_37 main_while1b_v85 (addi : C F S_ .i32 → C F S_ .i32 → C F S_ .i32),
    unary main_while1b_v85 main_v24_9 id,
    unary main_while1b_v77 main_v24_10 id,
    unary main_while1b_v79 main_v24_11 id,
    unary main_while1b_v80 main_v24_12 id,
    unary main_while1b_v81 main_v24_13 id,
    unary main_while1b_v82 main_v24_14 id,
    unary main_while1b_v83 main_v24_15 id,
    unary main_while1b_v84 main_v24_16 id ]

abbrev pre_0_W : List (Ref sig .tc) := [main_v0, main_cst, main_v1, main_v2, main_v3, main_cst_0, main_v4, main_v5, main_v6, main_v7, main_v8, main_v9, main_cst_1, main_v10, main_cst_2, main_v11, main_cst_3, main_v12, main_cst_4, main_v13, main_cst_5, main_v14, main_c, main_v15_0, main_v15_1, main_v15_2, main_v15_3, main_v15_4, main_v15_5, main_v15_6, main_v15_7, main_v15_8, main_v15_9, main_v15_10, main_v15_11, main_v15_12]
theorem pre_0_w : (pre_0 : List (HloOp τ sig (Elt F))).map HloOp.writes = pre_0_W.map fun w => {Proc.devRef (τ := τ) .tc w} := rfl
abbrev mid_0_W : List (Ref sig .tc) := [main_cst_6, main_v16, main_cst_7, main_v17, main_cst_8, main_v18, main_cst_9, main_v19, main_cst_10, main_v20, main_cst_11, main_v21, main_cst_12, main_v22, main_cst_13, main_v23, main_c_14, main_v24_0, main_v24_1, main_v24_2, main_v24_3, main_v24_4, main_v24_5, main_v24_6, main_v24_7, main_v24_8, main_v24_9, main_v24_10, main_v24_11, main_v24_12, main_v24_13, main_v24_14, main_v24_15, main_v24_16]
theorem mid_0_w : (mid_0 : List (HloOp τ sig (Elt F))).map HloOp.writes = mid_0_W.map fun w => {Proc.devRef (τ := τ) .tc w} := rfl
abbrev post_0_W : List (Ref sig .tc) := [main_v25, main_v26, main_v27, main_v28, main_v29, main_c_15, main_v30]
theorem post_0_w : (post_0 : List (HloOp τ sig (Elt F))).map HloOp.writes = post_0_W.map fun w => {Proc.devRef (τ := τ) .tc w} := rfl
abbrev post_1_W : List (Ref sig .tc) := [main_call26_v0, main_call26_c, main_call26_v1, main_call26_v2, main_call26_v3, main_call26_v4, main_call26_c_0, main_call26_v5, main_v31]
theorem post_1_w : (post_1 : List (HloOp τ sig (Elt F))).map HloOp.writes = post_1_W.map fun w => {Proc.devRef (τ := τ) .tc w} := rfl
abbrev post_2_W : List (Ref sig .tc) := [main_v32, main_v33, main_v34, main_v35, main_v36, main_v37, main_v38, main_v39, main_v40, main_v41, main_v42, main_cst_16]
theorem post_2_w : (post_2 : List (HloOp τ sig (Elt F))).map HloOp.writes = post_2_W.map fun w => {Proc.devRef (τ := τ) .tc w} := rfl
abbrev post_3_W : List (Ref sig .tc) := [main_call27_v0, main_call27_v1, main_call27_v2, main_v43]
theorem post_3_w : (post_3 : List (HloOp τ sig (Elt F))).map HloOp.writes = post_3_W.map fun w => {Proc.devRef (τ := τ) .tc w} := rfl
abbrev b0_0_W : List (Ref sig .tc) := [main_while0b_call0_c, main_while0b_call0_c_0, main_while0b_call0_c_1, main_while0b_call0_v0, main_while0b_v44]
theorem b0_0_w : (b0_0 : List (HloOp τ sig (Elt F))).map HloOp.writes = b0_0_W.map fun w => {Proc.devRef (τ := τ) .tc w} := rfl
abbrev b0_1_W : List (Ref sig .tc) := [main_while0b_call1_c, main_while0b_call1_c_0, main_while0b_call1_c_1, main_while0b_call1_v0, main_while0b_v45]
theorem b0_1_w : (b0_1 : List (HloOp τ sig (Elt F))).map HloOp.writes = b0_1_W.map fun w => {Proc.devRef (τ := τ) .tc w} := rfl
abbrev b0_2_W : List (Ref sig .tc) := [main_while0b_call2_c, main_while0b_call2_c_0, main_while0b_call2_c_1, main_while0b_call2_v0, main_while0b_v46]
theorem b0_2_w : (b0_2 : List (HloOp τ sig (Elt F))).map HloOp.writes = b0_2_W.map fun w => {Proc.devRef (τ := τ) .tc w} := rfl
abbrev b0_3_W : List (Ref sig .tc) := [main_while0b_call3_c, main_while0b_call3_c_0, main_while0b_call3_c_1, main_while0b_call3_v0, main_while0b_v47]
theorem b0_3_w : (b0_3 : List (HloOp τ sig (Elt F))).map HloOp.writes = b0_3_W.map fun w => {Proc.devRef (τ := τ) .tc w} := rfl
abbrev b0_4_W : List (Ref sig .tc) := [main_while0b_call4_c, main_while0b_call4_c_0, main_while0b_call4_c_1, main_while0b_call4_v0, main_while0b_v48]
theorem b0_4_w : (b0_4 : List (HloOp τ sig (Elt F))).map HloOp.writes = b0_4_W.map fun w => {Proc.devRef (τ := τ) .tc w} := rfl
abbrev b0_5_W : List (Ref sig .tc) := [main_while0b_call5_c, main_while0b_call5_v0, main_while0b_v49]
theorem b0_5_w : (b0_5 : List (HloOp τ sig (Elt F))).map HloOp.writes = b0_5_W.map fun w => {Proc.devRef (τ := τ) .tc w} := rfl
abbrev b0_6_W : List (Ref sig .tc) := [main_while0b_v50, main_while0b_v51, main_while0b_v52, main_while0b_v53, main_while0b_v54, main_while0b_v55, main_while0b_v56, main_while0b_v57, main_while0b_v58, main_while0b_v59, main_while0b_v60]
theorem b0_6_w : (b0_6 : List (HloOp τ sig (Elt F))).map HloOp.writes = b0_6_W.map fun w => {Proc.devRef (τ := τ) .tc w} := rfl
abbrev b0_7_W : List (Ref sig .tc) := [main_while0b_call6_v0, main_while0b_call6_c, main_while0b_call6_c_0, main_while0b_call6_c_1, main_while0b_v61]
theorem b0_7_w : (b0_7 : List (HloOp τ sig (Elt F))).map HloOp.writes = b0_7_W.map fun w => {Proc.devRef (τ := τ) .tc w} := rfl
abbrev b0_8_W : List (Ref sig .tc) := [main_while0b_call7_v0, main_while0b_call7_c, main_while0b_call7_c_0, main_while0b_call7_c_1, main_while0b_v62]
theorem b0_8_w : (b0_8 : List (HloOp τ sig (Elt F))).map HloOp.writes = b0_8_W.map fun w => {Proc.devRef (τ := τ) .tc w} := rfl
abbrev b0_9_W : List (Ref sig .tc) := [main_while0b_call8_v0, main_while0b_call8_c, main_while0b_call8_c_0, main_while0b_call8_c_1, main_while0b_v63]
theorem b0_9_w : (b0_9 : List (HloOp τ sig (Elt F))).map HloOp.writes = b0_9_W.map fun w => {Proc.devRef (τ := τ) .tc w} := rfl
abbrev b0_10_W : List (Ref sig .tc) := [main_while0b_call9_v0, main_while0b_call9_c, main_while0b_v64]
theorem b0_10_w : (b0_10 : List (HloOp τ sig (Elt F))).map HloOp.writes = b0_10_W.map fun w => {Proc.devRef (τ := τ) .tc w} := rfl
abbrev b0_11_W : List (Ref sig .tc) := [main_while0b_call10_v0, main_while0b_call10_c, main_while0b_call10_c_0, main_while0b_call10_c_1, main_while0b_v65]
theorem b0_11_w : (b0_11 : List (HloOp τ sig (Elt F))).map HloOp.writes = b0_11_W.map fun w => {Proc.devRef (τ := τ) .tc w} := rfl
abbrev b0_12_W : List (Ref sig .tc) := [main_while0b_c_29, main_while0b_v66, main_v15_6, main_v15_7, main_v15_8, main_v15_9, main_v15_10, main_v15_11, main_v15_12]
theorem b0_12_w : (b0_12 : List (HloOp τ sig (Elt F))).map HloOp.writes = b0_12_W.map fun w => {Proc.devRef (τ := τ) .tc w} := rfl
abbrev b1_0_W : List (Ref sig .tc) := [main_while1b_c_33, main_while1b_v44, main_while1b_c_34, main_while1b_v45]
theorem b1_0_w : (b1_0 : List (HloOp τ sig (Elt F))).map HloOp.writes = b1_0_W.map fun w => {Proc.devRef (τ := τ) .tc w} := rfl
abbrev b1_1_W : List (Ref sig .tc) := [main_while1b_call11_c, main_while1b_call11_c_0, main_while1b_call11_c_1, main_while1b_call11_v0, main_while1b_v46]
theorem b1_1_w : (b1_1 : List (HloOp τ sig (Elt F))).map HloOp.writes = b1_1_W.map fun w => {Proc.devRef (τ := τ) .tc w} := rfl
abbrev b1_2_W : List (Ref sig .tc) := [main_while1b_call12_c, main_while1b_call12_c_0, main_while1b_call12_c_1, main_while1b_call12_v0, main_while1b_v47]
theorem b1_2_w : (b1_2 : List (HloOp τ sig (Elt F))).map HloOp.writes = b1_2_W.map fun w => {Proc.devRef (τ := τ) .tc w} := rfl
abbrev b1_3_W : List (Ref sig .tc) := [main_while1b_call13_c, main_while1b_call13_c_0, main_while1b_call13_c_1, main_while1b_call13_v0, main_while1b_v48]
theorem b1_3_w : (b1_3 : List (HloOp τ sig (Elt F))).map HloOp.writes = b1_3_W.map fun w => {Proc.devRef (τ := τ) .tc w} := rfl
abbrev b1_4_W : List (Ref sig .tc) := [main_while1b_call14_c, main_while1b_call14_c_0, main_while1b_call14_c_1, main_while1b_call14_v0, main_while1b_v49]
theorem b1_4_w : (b1_4 : List (HloOp τ sig (Elt F))).map HloOp.writes = b1_4_W.map fun w => {Proc.devRef (τ := τ) .tc w} := rfl
abbrev b1_5_W : List (Ref sig .tc) := [main_while1b_call15_c, main_while1b_call15_c_0, main_while1b_call15_c_1, main_while1b_call15_v0, main_while1b_v50]
theorem b1_5_w : (b1_5 : List (HloOp τ sig (Elt F))).map HloOp.writes = b1_5_W.map fun w => {Proc.devRef (τ := τ) .tc w} := rfl
abbrev b1_6_W : List (Ref sig .tc) := [main_while1b_call16_c, main_while1b_call16_c_0, main_while1b_call16_c_1, main_while1b_call16_v0, main_while1b_v51]
theorem b1_6_w : (b1_6 : List (HloOp τ sig (Elt F))).map HloOp.writes = b1_6_W.map fun w => {Proc.devRef (τ := τ) .tc w} := rfl
abbrev b1_7_W : List (Ref sig .tc) := [main_while1b_call17_c, main_while1b_call17_v0, main_while1b_v52]
theorem b1_7_w : (b1_7 : List (HloOp τ sig (Elt F))).map HloOp.writes = b1_7_W.map fun w => {Proc.devRef (τ := τ) .tc w} := rfl
abbrev b1_8_W : List (Ref sig .tc) := [main_while1b_call18_c, main_while1b_call18_c_0, main_while1b_call18_c_1, main_while1b_call18_v0, main_while1b_v53]
theorem b1_8_w : (b1_8 : List (HloOp τ sig (Elt F))).map HloOp.writes = b1_8_W.map fun w => {Proc.devRef (τ := τ) .tc w} := rfl
abbrev b1_9_W : List (Ref sig .tc) := [main_while1b_call19_c, main_while1b_call19_c_0, main_while1b_call19_c_1, main_while1b_call19_v0, main_while1b_v54]
theorem b1_9_w : (b1_9 : List (HloOp τ sig (Elt F))).map HloOp.writes = b1_9_W.map fun w => {Proc.devRef (τ := τ) .tc w} := rfl
abbrev b1_10_W : List (Ref sig .tc) := [main_while1b_v55, main_while1b_v56, main_while1b_v57, main_while1b_v58, main_while1b_v59, main_while1b_cst_35, main_while1b_v60, main_while1b_v61, main_while1b_v62, main_while1b_v63, main_while1b_cst_36, main_while1b_v64, main_while1b_v65, main_while1b_v66, main_while1b_v67, main_while1b_v68, main_while1b_v69, main_while1b_v70, main_while1b_v71, main_while1b_v72, main_while1b_v73, main_while1b_v74, main_while1b_v75, main_while1b_v76, main_while1b_v77, main_while1b_v78]
theorem b1_10_w : (b1_10 : List (HloOp τ sig (Elt F))).map HloOp.writes = b1_10_W.map fun w => {Proc.devRef (τ := τ) .tc w} := rfl
abbrev b1_11_W : List (Ref sig .tc) := [main_while1b_call20_v0, main_while1b_call20_c, main_while1b_call20_c_0, main_while1b_call20_c_1, main_while1b_v79]
theorem b1_11_w : (b1_11 : List (HloOp τ sig (Elt F))).map HloOp.writes = b1_11_W.map fun w => {Proc.devRef (τ := τ) .tc w} := rfl
abbrev b1_12_W : List (Ref sig .tc) := [main_while1b_call21_v0, main_while1b_call21_c, main_while1b_call21_c_0, main_while1b_call21_c_1, main_while1b_v80]
theorem b1_12_w : (b1_12 : List (HloOp τ sig (Elt F))).map HloOp.writes = b1_12_W.map fun w => {Proc.devRef (τ := τ) .tc w} := rfl
abbrev b1_13_W : List (Ref sig .tc) := [main_while1b_call22_v0, main_while1b_call22_c, main_while1b_call22_c_0, main_while1b_call22_c_1, main_while1b_v81]
theorem b1_13_w : (b1_13 : List (HloOp τ sig (Elt F))).map HloOp.writes = b1_13_W.map fun w => {Proc.devRef (τ := τ) .tc w} := rfl
abbrev b1_14_W : List (Ref sig .tc) := [main_while1b_call23_v0, main_while1b_call23_c, main_while1b_call23_c_0, main_while1b_call23_c_1, main_while1b_v82]
theorem b1_14_w : (b1_14 : List (HloOp τ sig (Elt F))).map HloOp.writes = b1_14_W.map fun w => {Proc.devRef (τ := τ) .tc w} := rfl
abbrev b1_15_W : List (Ref sig .tc) := [main_while1b_call24_v0, main_while1b_call24_c, main_while1b_call24_c_0, main_while1b_call24_c_1, main_while1b_v83]
theorem b1_15_w : (b1_15 : List (HloOp τ sig (Elt F))).map HloOp.writes = b1_15_W.map fun w => {Proc.devRef (τ := τ) .tc w} := rfl
abbrev b1_16_W : List (Ref sig .tc) := [main_while1b_call25_v0, main_while1b_call25_c, main_while1b_v84]
theorem b1_16_w : (b1_16 : List (HloOp τ sig (Elt F))).map HloOp.writes = b1_16_W.map fun w => {Proc.devRef (τ := τ) .tc w} := rfl
abbrev b1_17_W : List (Ref sig .tc) := [main_while1b_c_37, main_while1b_v85, main_v24_9, main_v24_10, main_v24_11, main_v24_12, main_v24_13, main_v24_14, main_v24_15, main_v24_16]
theorem b1_17_w : (b1_17 : List (HloOp τ sig (Elt F))).map HloOp.writes = b1_17_W.map fun w => {Proc.devRef (τ := τ) .tc w} := rfl

/-- The stretches before the first loop. -/
abbrev preI : List (List (HloOp τ sig (Elt F))) := [pre_0]
theorem preI_plain : Plain (preI (F := F)) :=
  .cons (ops := pre_0) ⟨reshape_bufs_sub .., nullary_bufs_sub .., binary_bufs_sub .., reshape_bufs_sub .., unary_bufs_sub .., nullary_bufs_sub .., unary_bufs_sub .., unary_bufs_sub .., unary_bufs_sub .., unary_bufs_sub .., unary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩ (hf := List.forall_iff_forall_mem.mp (forall_fresh_of_map rfl))
    (.nil)

/-- The stretches between the loops. -/
abbrev midI : List (List (HloOp τ sig (Elt F))) := [mid_0]
theorem midI_plain : Plain (midI (F := F)) :=
  .cons (ops := mid_0) ⟨nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩ (hf := List.forall_iff_forall_mem.mp (forall_fresh_of_map rfl))
    (.nil)

/-- The stretches after the second loop. -/
abbrev postI : List (List (HloOp τ sig (Elt F))) := [post_0, post_1, post_2, post_3]
theorem postI_plain : Plain (postI (F := F)) :=
  .cons (ops := post_0) ⟨unary_bufs_sub .., unary_bufs_sub .., unary_bufs_sub .., unary_bufs_sub .., unary_bufs_sub .., nullary_bufs_sub .., unary_bufs_sub ..⟩ (hf := List.forall_iff_forall_mem.mp (forall_fresh_of_map rfl))
    (.cons (ops := post_1) ⟨nullary_bufs_sub .., nullary_bufs_sub .., unary_bufs_sub .., binary_bufs_sub .., nullary_bufs_sub .., binary_bufs_sub .., nullary_bufs_sub .., unary_bufs_sub .., ternary_bufs_sub ..⟩ (hf := List.forall_iff_forall_mem.mp (forall_fresh_of_map rfl))
    (.cons (ops := post_2) ⟨unary_bufs_sub .., unary_bufs_sub .., unary_bufs_sub .., unary_bufs_sub .., reshape_bufs_sub .., unary_bufs_sub .., reshape_bufs_sub .., unary_bufs_sub .., reshape_bufs_sub .., unary_bufs_sub .., reshape_bufs_sub .., nullary_bufs_sub ..⟩ (hf := List.forall_iff_forall_mem.mp (forall_fresh_of_map rfl))
    (.cons (ops := post_3) ⟨unary_bufs_sub .., unary_bufs_sub .., unary_bufs_sub .., ternary_bufs_sub ..⟩ (hf := List.forall_iff_forall_mem.mp (forall_fresh_of_map rfl))
    (.nil))))

/-- The stretches of the first loop's body. -/
abbrev bodyI0 : List (List (HloOp τ sig (Elt F))) := [b0_0, b0_1, b0_2, b0_3, b0_4, b0_5, b0_6, b0_7, b0_8, b0_9, b0_10, b0_11, b0_12]
theorem bodyI0_plain : Plain (bodyI0 (F := F)) :=
  .cons (ops := b0_0) ⟨nullary_bufs_sub .., nullary_bufs_sub .., nullary_bufs_sub .., unaryIndexed_bufs_sub .., reshape_bufs_sub ..⟩ (hf := List.forall_iff_forall_mem.mp (forall_fresh_of_map rfl))
    (.cons (ops := b0_1) ⟨nullary_bufs_sub .., nullary_bufs_sub .., nullary_bufs_sub .., unaryIndexed_bufs_sub .., reshape_bufs_sub ..⟩ (hf := List.forall_iff_forall_mem.mp (forall_fresh_of_map rfl))
    (.cons (ops := b0_2) ⟨nullary_bufs_sub .., nullary_bufs_sub .., nullary_bufs_sub .., unaryIndexed_bufs_sub .., reshape_bufs_sub ..⟩ (hf := List.forall_iff_forall_mem.mp (forall_fresh_of_map rfl))
    (.cons (ops := b0_3) ⟨nullary_bufs_sub .., nullary_bufs_sub .., nullary_bufs_sub .., unaryIndexed_bufs_sub .., reshape_bufs_sub ..⟩ (hf := List.forall_iff_forall_mem.mp (forall_fresh_of_map rfl))
    (.cons (ops := b0_4) ⟨nullary_bufs_sub .., nullary_bufs_sub .., nullary_bufs_sub .., unaryIndexed_bufs_sub .., reshape_bufs_sub ..⟩ (hf := List.forall_iff_forall_mem.mp (forall_fresh_of_map rfl))
    (.cons (ops := b0_5) ⟨nullary_bufs_sub .., unaryIndexed_bufs_sub .., reshape_bufs_sub ..⟩ (hf := List.forall_iff_forall_mem.mp (forall_fresh_of_map rfl))
    (.cons (ops := b0_6) ⟨binary_bufs_sub .., binary_bufs_sub .., binary_bufs_sub .., binary_bufs_sub .., binary_bufs_sub .., unary_bufs_sub .., unary_bufs_sub .., unary_bufs_sub .., binary_bufs_sub .., binary_bufs_sub .., binary_bufs_sub ..⟩ (hf := List.forall_iff_forall_mem.mp (forall_fresh_of_map rfl))
    (.cons (ops := b0_7) ⟨unary_bufs_sub .., nullary_bufs_sub .., nullary_bufs_sub .., nullary_bufs_sub .., binaryIndexed_bufs_sub ..⟩ (hf := List.forall_iff_forall_mem.mp (forall_fresh_of_map rfl))
    (.cons (ops := b0_8) ⟨unary_bufs_sub .., nullary_bufs_sub .., nullary_bufs_sub .., nullary_bufs_sub .., binaryIndexed_bufs_sub ..⟩ (hf := List.forall_iff_forall_mem.mp (forall_fresh_of_map rfl))
    (.cons (ops := b0_9) ⟨unary_bufs_sub .., nullary_bufs_sub .., nullary_bufs_sub .., nullary_bufs_sub .., binaryIndexed_bufs_sub ..⟩ (hf := List.forall_iff_forall_mem.mp (forall_fresh_of_map rfl))
    (.cons (ops := b0_10) ⟨unary_bufs_sub .., nullary_bufs_sub .., binaryIndexed_bufs_sub ..⟩ (hf := List.forall_iff_forall_mem.mp (forall_fresh_of_map rfl))
    (.cons (ops := b0_11) ⟨unary_bufs_sub .., nullary_bufs_sub .., nullary_bufs_sub .., nullary_bufs_sub .., binaryIndexed_bufs_sub ..⟩ (hf := List.forall_iff_forall_mem.mp (forall_fresh_of_map rfl))
    (.cons (ops := b0_12) ⟨nullary_bufs_sub .., binary_bufs_sub .., unary_bufs_sub .., unary_bufs_sub .., unary_bufs_sub .., unary_bufs_sub .., unary_bufs_sub .., unary_bufs_sub .., unary_bufs_sub ..⟩ (hf := List.forall_iff_forall_mem.mp (forall_fresh_of_map rfl))
    (.nil)))))))))))))

/-- The stretches of the second loop's body. -/
abbrev bodyI1 : List (List (HloOp τ sig (Elt F))) := [b1_0, b1_1, b1_2, b1_3, b1_4, b1_5, b1_6, b1_7, b1_8, b1_9, b1_10, b1_11, b1_12, b1_13, b1_14, b1_15, b1_16, b1_17]
theorem bodyI1_plain : Plain (bodyI1 (F := F)) :=
  .cons (ops := b1_0) ⟨nullary_bufs_sub .., binary_bufs_sub .., nullary_bufs_sub .., binary_bufs_sub ..⟩ (hf := List.forall_iff_forall_mem.mp (forall_fresh_of_map rfl))
    (.cons (ops := b1_1) ⟨nullary_bufs_sub .., nullary_bufs_sub .., nullary_bufs_sub .., unaryIndexed_bufs_sub .., reshape_bufs_sub ..⟩ (hf := List.forall_iff_forall_mem.mp (forall_fresh_of_map rfl))
    (.cons (ops := b1_2) ⟨nullary_bufs_sub .., nullary_bufs_sub .., nullary_bufs_sub .., unaryIndexed_bufs_sub .., reshape_bufs_sub ..⟩ (hf := List.forall_iff_forall_mem.mp (forall_fresh_of_map rfl))
    (.cons (ops := b1_3) ⟨nullary_bufs_sub .., nullary_bufs_sub .., nullary_bufs_sub .., unaryIndexed_bufs_sub .., reshape_bufs_sub ..⟩ (hf := List.forall_iff_forall_mem.mp (forall_fresh_of_map rfl))
    (.cons (ops := b1_4) ⟨nullary_bufs_sub .., nullary_bufs_sub .., nullary_bufs_sub .., unaryIndexed_bufs_sub .., reshape_bufs_sub ..⟩ (hf := List.forall_iff_forall_mem.mp (forall_fresh_of_map rfl))
    (.cons (ops := b1_5) ⟨nullary_bufs_sub .., nullary_bufs_sub .., nullary_bufs_sub .., unaryIndexed_bufs_sub .., reshape_bufs_sub ..⟩ (hf := List.forall_iff_forall_mem.mp (forall_fresh_of_map rfl))
    (.cons (ops := b1_6) ⟨nullary_bufs_sub .., nullary_bufs_sub .., nullary_bufs_sub .., unaryIndexed_bufs_sub .., reshape_bufs_sub ..⟩ (hf := List.forall_iff_forall_mem.mp (forall_fresh_of_map rfl))
    (.cons (ops := b1_7) ⟨nullary_bufs_sub .., unaryIndexed_bufs_sub .., reshape_bufs_sub ..⟩ (hf := List.forall_iff_forall_mem.mp (forall_fresh_of_map rfl))
    (.cons (ops := b1_8) ⟨nullary_bufs_sub .., nullary_bufs_sub .., nullary_bufs_sub .., unaryIndexed_bufs_sub .., reshape_bufs_sub ..⟩ (hf := List.forall_iff_forall_mem.mp (forall_fresh_of_map rfl))
    (.cons (ops := b1_9) ⟨nullary_bufs_sub .., nullary_bufs_sub .., nullary_bufs_sub .., unaryIndexed_bufs_sub .., reshape_bufs_sub ..⟩ (hf := List.forall_iff_forall_mem.mp (forall_fresh_of_map rfl))
    (.cons (ops := b1_10) ⟨binary_bufs_sub .., unary_bufs_sub .., binary_bufs_sub .., unary_bufs_sub .., binary_bufs_sub .., nullary_bufs_sub .., binary_bufs_sub .., reshape_bufs_sub .., unary_bufs_sub .., binary_bufs_sub .., nullary_bufs_sub .., binary_bufs_sub .., binary_bufs_sub .., binary_bufs_sub .., unary_bufs_sub .., binary_bufs_sub .., binary_bufs_sub .., binary_bufs_sub .., unary_bufs_sub .., binary_bufs_sub .., binary_bufs_sub .., unary_bufs_sub .., binary_bufs_sub .., unary_bufs_sub .., binary_bufs_sub .., binary_bufs_sub ..⟩ (hf := List.forall_iff_forall_mem.mp (forall_fresh_of_map rfl))
    (.cons (ops := b1_11) ⟨unary_bufs_sub .., nullary_bufs_sub .., nullary_bufs_sub .., nullary_bufs_sub .., binaryIndexed_bufs_sub ..⟩ (hf := List.forall_iff_forall_mem.mp (forall_fresh_of_map rfl))
    (.cons (ops := b1_12) ⟨unary_bufs_sub .., nullary_bufs_sub .., nullary_bufs_sub .., nullary_bufs_sub .., binaryIndexed_bufs_sub ..⟩ (hf := List.forall_iff_forall_mem.mp (forall_fresh_of_map rfl))
    (.cons (ops := b1_13) ⟨unary_bufs_sub .., nullary_bufs_sub .., nullary_bufs_sub .., nullary_bufs_sub .., binaryIndexed_bufs_sub ..⟩ (hf := List.forall_iff_forall_mem.mp (forall_fresh_of_map rfl))
    (.cons (ops := b1_14) ⟨unary_bufs_sub .., nullary_bufs_sub .., nullary_bufs_sub .., nullary_bufs_sub .., binaryIndexed_bufs_sub ..⟩ (hf := List.forall_iff_forall_mem.mp (forall_fresh_of_map rfl))
    (.cons (ops := b1_15) ⟨unary_bufs_sub .., nullary_bufs_sub .., nullary_bufs_sub .., nullary_bufs_sub .., binaryIndexed_bufs_sub ..⟩ (hf := List.forall_iff_forall_mem.mp (forall_fresh_of_map rfl))
    (.cons (ops := b1_16) ⟨unary_bufs_sub .., nullary_bufs_sub .., binaryIndexed_bufs_sub ..⟩ (hf := List.forall_iff_forall_mem.mp (forall_fresh_of_map rfl))
    (.cons (ops := b1_17) ⟨nullary_bufs_sub .., binary_bufs_sub .., unary_bufs_sub .., unary_bufs_sub .., unary_bufs_sub .., unary_bufs_sub .., unary_bufs_sub .., unary_bufs_sub .., unary_bufs_sub .., unary_bufs_sub ..⟩ (hf := List.forall_iff_forall_mem.mp (forall_fresh_of_map rfl))
    (.nil))))))))))))))))))

set_option maxRecDepth 100000 in
set_option maxHeartbeats 4000000 in
theorem main_chain (c : Dev nD) : main (F := F) c = (Pipeline.chain [StableHlo.seq pre_0, HostLoop.enter 0, StableHlo.seq mid_0, HostLoop.enter 1, StableHlo.seq post_0, StableHlo.seq post_1, StableHlo.seq post_2, StableHlo.seq post_3] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [StableHlo.chain_seq_cons, Pipeline.chain_cons, StableHlo.chain_seq_cons, Pipeline.chain_cons, StableHlo.chain_seq_cons, Pipeline.chain_cons, StableHlo.chain_seq_cons, Pipeline.chain_cons]
  chain_rfl

set_option maxRecDepth 100000 in
set_option maxHeartbeats 4000000 in
theorem body0_chain : main_while0_body (F := F) = (Pipeline.chain [StableHlo.seq b0_0, StableHlo.seq b0_1, StableHlo.seq b0_2, StableHlo.seq b0_3, StableHlo.seq b0_4, StableHlo.seq b0_5, StableHlo.seq b0_6, StableHlo.seq b0_7, StableHlo.seq b0_8, StableHlo.seq b0_9, StableHlo.seq b0_10, StableHlo.seq b0_11, StableHlo.seq b0_12] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, Pipeline.chain_cons, StableHlo.chain_seq_cons]
  chain_rfl

set_option maxRecDepth 100000 in
set_option maxHeartbeats 4000000 in
theorem body1_chain : main_while1_body (F := F) = (Pipeline.chain [StableHlo.seq b1_0, StableHlo.seq b1_1, StableHlo.seq b1_2, StableHlo.seq b1_3, StableHlo.seq b1_4, StableHlo.seq b1_5, StableHlo.seq b1_6, StableHlo.seq b1_7, StableHlo.seq b1_8, StableHlo.seq b1_9, StableHlo.seq b1_10, StableHlo.seq b1_11, StableHlo.seq b1_12, StableHlo.seq b1_13, StableHlo.seq b1_14, StableHlo.seq b1_15, StableHlo.seq b1_16, StableHlo.seq b1_17] : Prog (TpuEff nD τ sig (Elt F) (HostLoop.Sig (Pipeline.Sig Λ₀ (Fin 0) fun p => (pcfgs (F := F) p).Adm) 2) .tc) PUnit) := by
  show (main_while1_body_part0 (F := F) >>= fun _ => main_while1_body_part1 (F := F)) = _
  rewrite [StableHlo.chain_seq_cons, Pipeline.chain_cons, Pipeline.chain_cons, Pipeline.chain_cons, Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, Pipeline.chain_cons, Pipeline.chain_cons, StableHlo.chain_seq_cons]
  chain_rfl

end Cert.ReferenceIdeal.Two

end
-- ==== Proof.RefRun.lean ====
/- The run of the reference program. Two counted loops of 32 trips follow one another; every buffer ends at the fold of
   the operations in the order in which they run (`fin`). -/
module

public import proofs.«01_k».proof.Proof.RefOps
public import Idealize.ShloMosaic.Lib.Quiescent

@[expose] public section

noncomputable section

namespace Cert.ReferenceIdeal.Two

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg Ticket PCfg)

variable {F : FTy → Type} [FloatOps F]

/-- The first loop's test: the bound, and the counter against it. -/
abbrev cond0 : List (HloOp τ sig (Elt F)) :=
  [nullary main_while0c_c_29 (constantI S_ 32 32#32), binary main_v15_6 main_while0c_c_29 main_while0c_v44 (cmpi .slt)]
/-- The second loop's test. -/
abbrev cond1 : List (HloOp τ sig (Elt F)) :=
  [nullary main_while1c_c_33 (constantI S_ 32 32#32), binary main_v24_9 main_while1c_c_33 main_while1c_v44 (cmpi .slt)]

abbrev cond0_W : List (Ref sig .tc) := [main_while0c_c_29, main_while0c_v44]
abbrev cond1_W : List (Ref sig .tc) := [main_while1c_c_33, main_while1c_v44]
theorem cond0_w : (cond0 : List (HloOp τ sig (Elt F))).map HloOp.writes = cond0_W.map fun w => {Proc.devRef (τ := τ) .tc w} := rfl
theorem cond1_w : (cond1 : List (HloOp τ sig (Elt F))).map HloOp.writes = cond1_W.map fun w => {Proc.devRef (τ := τ) .tc w} := rfl

variable (m : (ℓ : Loc nD τ sig) → Buf (Elt F) ℓ) (ρ : Dev nD → PrngReg)

/-- Before the first loop. -/
abbrev ent0 (c : Dev nD) : Valuation τ sig (Elt F) := afterL preI (launchContents m c)
/-- Before trip `k` of the first loop. -/
abbrev at0 (k : ℕ) (c : Dev nD) : Valuation τ sig (Elt F) := atTrip cond0 bodyI0 (ent0 m) k c
/-- Before the second loop. -/
abbrev ent1 (c : Dev nD) : Valuation τ sig (Elt F) := afterL midI (after cond0 (at0 m 32 c))
/-- Before trip `k` of the second loop. -/
abbrev at1 (k : ℕ) (c : Dev nD) : Valuation τ sig (Elt F) := atTrip cond1 bodyI1 (ent1 m) k c
/-- At the end. -/
abbrev fin (c : Dev nD) : Valuation τ sig (Elt F) := afterL postI (after cond1 (at1 m 32 c))

/-! ## The counters -/

section Counters

/-- A list of stretches leaves alone what none of its stretches writes. -/
theorem afterL_keep {items : List (List (HloOp τ sig (Elt F)))} (W : List (Ref sig .tc)) {r : Ref sig .tc}
    (hW : items.flatten.map HloOp.writes = W.map fun w => {Proc.devRef (τ := τ) .tc w}) (hr : r ∉ W)
    (V : Valuation τ sig (Elt F)) : afterL items V (Proc.devRef .tc r) = V (Proc.devRef .tc r) := by
  rw [afterL_eq_after_flatten]; exact after_unwritten W hW hr V

set_option maxRecDepth 100000 in
theorem tail0 (V : Valuation τ sig (Elt F)) : after b0_12 V (Proc.devRef .tc main_v15_6)
    = (addi (V (Proc.devRef .tc main_v15_6)) (constantI S_ 32 1#32) : C F S_ .i32) := by
  after_results
  rfl

set_option maxRecDepth 100000 in
theorem tail1 (V : Valuation τ sig (Elt F)) : after b1_17 V (Proc.devRef .tc main_v24_9)
    = (addi (V (Proc.devRef .tc main_v24_9)) (constantI S_ 32 1#32) : C F S_ .i32) := by
  after_results
  rfl

set_option maxRecDepth 100000 in
theorem ent0_ctr (c : Dev nD) : ent0 m c (Proc.devRef .tc main_v15_6) = fun _ => (0#32 : BitVec 32) := by
  simp only [ent0, afterL_cons, afterL_nil]
  after_reads_simp
  rfl

set_option maxRecDepth 100000 in
theorem mid_ctr (V : Valuation τ sig (Elt F)) : afterL midI V (Proc.devRef .tc main_v24_9) = fun _ => (0#32 : BitVec 32) := by
  simp only [afterL_cons, afterL_nil]
  after_reads_simp
  rfl

/-- Before trip `k` the first loop's counter is `k`. -/
theorem at0_ctr (c : Dev nD) : ∀ k, at0 m k c (Proc.devRef .tc main_v15_6) = fun _ => Scf.iv 0#32 1#32 k
  | 0 => by rw [show at0 m 0 c = ent0 m c from rfl, ent0_ctr, Scf.iv_zero]
  | k + 1 => by
    rw [show at0 m (k + 1) c = after b0_12 (afterL (bodyI0.take 12) (after cond0 (at0 m k c))) from rfl, tail0,
      afterL_keep (b0_0_W ++ b0_1_W ++ b0_2_W ++ b0_3_W ++ b0_4_W ++ b0_5_W ++ b0_6_W ++ b0_7_W ++ b0_8_W ++ b0_9_W ++ b0_10_W
        ++ b0_11_W) rfl (by decide +kernel), after_unwritten cond0_W cond0_w (by decide +kernel), at0_ctr c k, Scf.iv_succ]
    rfl

/-- Before trip `k` the second loop's counter is `k`. -/
theorem at1_ctr (c : Dev nD) : ∀ k, at1 m k c (Proc.devRef .tc main_v24_9) = fun _ => Scf.iv 0#32 1#32 k
  | 0 => by rw [show at1 m 0 c = afterL midI (after cond0 (at0 m 32 c)) from rfl, mid_ctr, Scf.iv_zero]
  | k + 1 => by
    rw [show at1 m (k + 1) c = after b1_17 (afterL (bodyI1.take 17) (after cond1 (at1 m k c))) from rfl, tail1,
      afterL_keep (b1_0_W ++ b1_1_W ++ b1_2_W ++ b1_3_W ++ b1_4_W ++ b1_5_W ++ b1_6_W ++ b1_7_W ++ b1_8_W ++ b1_9_W ++ b1_10_W
        ++ b1_11_W ++ b1_12_W ++ b1_13_W ++ b1_14_W ++ b1_15_W ++ b1_16_W) rfl (by decide +kernel),
      after_unwritten cond1_W cond1_w (by decide +kernel), at1_ctr c k, Scf.iv_succ]
    rfl

end Counters

/-! ## The tests -/

-- the rule for an operation is stated at any thread: unification has to see through plain definitions in its types
set_option backward.isDefEq.respectTransparency.types false in
theorem spec0 : CondSpec (pcfgs (F := F)) defs₀ loops (main_while0_cond (F := F)) cond0 bodyI0 (ent0 m) 32 := by
  intro k hk c bd
  have hctr := at0_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 m k c) main_v15_6 HostLoop.idx0)
        (HloOp.result _ (at0 m k c) main_while0c_c_29 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  rw [after_cons, after_cons, after_nil]; iexact Hh

set_option backward.isDefEq.respectTransparency.types false in
theorem spec1 : CondSpec (pcfgs (F := F)) defs₀ loops (main_while1_cond (F := F)) cond1 bodyI1 (ent1 m) 32 := by
  intro k hk c bd
  have hctr := at1_ctr m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 m k c) main_v24_9 HostLoop.idx0)
        (HloOp.result _ (at1 m k c) main_while1c_c_33 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  rw [after_cons, after_cons, after_nil]; iexact Hh

/-! ## The run -/

section Run

/-- No pipeline: nothing is admitted, there is no ticket and no level. -/
abbrev noAdm : (p : Fin 0) → (pcfgs (F := F) p).Adm := fun p => p.elim0
abbrev noTk : Fin 0 → Ticket (Ix := Unit) (Name := ℕ) (U := Option PUnit) (Lvl := ℕ) (nD := nD) (τ := τ) (pcfgs (F := F)) noAdm :=
  fun j => j.elim0
abbrev noL : GSem nD τ sig → Finset Unit := fun _ => ∅
abbrev noLv : GSem nD τ sig → Unit → ℕ := fun _ _ => 0

/-- What stays beside the buffers: the core's debt of nothing. -/
abbrev Ow (c : Dev nD) : sProp (MT nD τ sig Unit (Elt F) ℕ (Option PUnit) ℕ) := iprop(∃ W, owes (c : Thread nD τ) (0 : CellTallies nD τ sig Unit) W)

/-- A test's specification, with that debt carried past it. -/
theorem carry {cond} {condOps : List (HloOp τ sig (Elt F))} {bodyI : List (List (HloOp τ sig (Elt F)))}
    {W₀ : Dev nD → Valuation τ sig (Elt F)} {n : ℕ}
    (h : CondSpec (pcfgs (F := F)) defs₀ loops cond condOps bodyI W₀ n) :
    LoopCond (pcfgs (F := F)) defs₀ Variants.none loops (Ow (F := F)) cond condOps bodyI W₀ n := fun k hk c bd => by
  have hc := h k hk c bd
  have hpost : ∀ v : Elt F .i1,
      iprop(iprop(⌜v = 1#1 ↔ k < n⌝ ∗ boundary (c : Thread nD τ)
          ∗ held (c : Thread nD τ) (ucRefs τ sig) (after condOps (atTrip condOps bodyI W₀ k c))) ∗ Ow (F := F) c)
        ⊢ iprop(⌜v = 1#1 ↔ k < n⌝ ∗ boundary (c : Thread nD τ)
          ∗ held (c : Thread nD τ) (ucRefs τ sig) (after condOps (atTrip condOps bodyI W₀ k c)) ∗ Ow (F := F) c) := fun v => by
    iintro ⟨⟨%hv, Hb, Hh⟩, Ho⟩
    isplitr; · ipureintro; exact hv
    isplitl [Hb]; · iexact Hb
    isplitl [Hh] <;> iassumption
  refine BIBase.Entails.trans ?_ (((sep_mono_left hc).trans (wp_frame_r _ _ _)).trans (wp_mono _ _ _ hpost))
  iintro ⟨Hb, Hh, Ho⟩
  isplitl [Hb Hh]; · isplitl [Hb] <;> iassumption
  iexact Ho

/-- The program's segments. -/
def segs : List (CSeg (pcfgs (F := F)) noAdm defs₀ Variants.none noL noLv loops noTk) :=
  segsOf _ _ _ _ _ _ _ _ Ow preI preI_plain (launchContents m)
    ++ loopSeg _ _ _ _ _ _ _ _ 0 main_while0_cond main_while0_body rfl cond0 bodyI0 bodyI0_plain (by rw [body0_chain]; rfl) 32
        (ent0 m) Ow (carry (spec0 m))
    :: (segsOf _ _ _ _ _ _ _ _ Ow midI midI_plain (fun c => after cond0 (at0 m 32 c))
      ++ loopSeg _ _ _ _ _ _ _ _ 1 main_while1_cond main_while1_body rfl cond1 bodyI1 bodyI1_plain (by rw [body1_chain]; rfl) 32
          (ent1 m) Ow (carry (spec1 m))
      :: segsOf _ _ _ _ _ _ _ _ Ow postI postI_plain (fun c => after cond1 (at1 m 32 c)))

set_option maxRecDepth 100000 in
theorem main_eq (c : Dev nD) : main (F := F) c = Pipeline.chain (preI.map (fun ops => (seq ops : Prog _ PUnit)) ++ HostLoop.enter 0
    :: (midI.map (fun ops => (seq ops : Prog _ PUnit)) ++ HostLoop.enter 1 :: postI.map fun ops => (seq ops : Prog _ PUnit))) := by
  rw [main_chain c]; rfl

theorem segs_prog : (segs m).map CSeg.prog = preI.map (fun ops => (seq ops : Prog _ PUnit)) ++ HostLoop.enter 0
    :: (midI.map (fun ops => (seq ops : Prog _ PUnit)) ++ HostLoop.enter 1 :: postI.map fun ops => (seq ops : Prog _ PUnit)) := by
  unfold segs
  rw [List.map_append, List.map_cons, List.map_append, List.map_cons, segsOf_prog, segsOf_prog, segsOf_prog]
  rfl

theorem chain_eq (c : Dev nD) : Pipeline.chain ((segs m).map CSeg.prog) = main (F := F) c :=
  (congrArg Pipeline.chain (segs_prog m)).trans (main_eq c).symm

theorem segs_chain : CSeg.Chains (fun c => iprop(held (c : Thread nD τ) (ucRefs τ sig) (launchContents m c) ∗ Ow c)) (segs m)
    (fun c => iprop(iprop(held (c : Thread nD τ) (ucRefs τ sig) (fin m c)) ∗ ∃ W, owes (c : Thread nD τ) (0 : CellTallies nD τ sig Unit) W)) := by
  unfold segs
  exact CSeg.Chains.append (segsOf_chains _ _ _ _ _ _ _ _ Ow preI preI_plain _)
    ⟨fun _ => .rfl, CSeg.Chains.append (segsOf_chains _ _ _ _ _ _ _ _ Ow midI midI_plain _)
      ⟨fun _ => .rfl, segsOf_chains _ _ _ _ _ _ _ _ Ow postI postI_plain _⟩⟩

/-- Every execution ends, with every buffer of the program at the fold and every counter at zero. -/
theorem run : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = fin m c (Proc.devRef .tc b)) ∧ r.2.sem = fun _ => 0) :=
  Pipeline.θ_run_regions_loop_kit (Ix := Unit) (Name := ℕ) (U := Option PUnit) (Lvl := ℕ) (J := Fin 0) (P := Fin 0) (Val := Elt F)
    pcfgs noAdm (fun k => k.1.elim0) defs₀ Variants.none noL noLv loops noTk m ρ main (segs m)
    (fun c Q => by
      rewrite [← chain_eq m c]; exact BIBase.Entails.rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ Ow c))
    (Tₙ := fun c => iprop(held (c : Thread nD τ) (ucRefs τ sig) (fin m c)))
    (hch := segs_chain m)
    (hinit := by
      refine Pipeline.initEach noL noLv fun c => ?_
      rw [show unscopedBufs c (fun b => m ((c : Thread nD τ).loc b)) = held (c : Thread nD τ) (ucRefs τ sig) (launchContents m c)
        from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = fin m c b)
    (hfin := fun c s' => by
      unfold held
      iintro ⟨Hh, HS⟩
      ihave Hr := (pointsTo_read_all (ucRefs τ sig) (fun b => ((c : Dev nD), b)) (fun b => fin m c b) s') $$ [Hh HS]
      · isplitl [Hh] <;> iassumption
      icases Hr with ⟨%h, HS⟩
      imodintro
      isplitr; · ipureintro; exact h
      iexact HS)
    (hQ := fun s h => ⟨fun c b hb => h c _ (devRef_mem_ucRefs b hb), sem_eq_zero_of_no_sems rfl s⟩)

end Run

/-! ## The arguments are unchanged -/

section Arguments

abbrev pre_all : List (Ref sig .tc) := pre_0_W
abbrev body0_all : List (Ref sig .tc) := b0_0_W ++ b0_1_W ++ b0_2_W ++ b0_3_W ++ b0_4_W ++ b0_5_W ++ b0_6_W ++ b0_7_W ++ b0_8_W ++ b0_9_W ++ b0_10_W ++ b0_11_W ++ b0_12_W
abbrev mid_all : List (Ref sig .tc) := mid_0_W
abbrev body1_all : List (Ref sig .tc) := b1_0_W ++ b1_1_W ++ b1_2_W ++ b1_3_W ++ b1_4_W ++ b1_5_W ++ b1_6_W ++ b1_7_W ++ b1_8_W ++ b1_9_W ++ b1_10_W ++ b1_11_W ++ b1_12_W ++ b1_13_W ++ b1_14_W ++ b1_15_W ++ b1_16_W ++ b1_17_W
abbrev post_all : List (Ref sig .tc) := post_0_W ++ post_1_W ++ post_2_W ++ post_3_W

theorem pre_keep {r : Ref sig .tc} (hr : r ∉ pre_all) (V : Valuation τ sig (Elt F)) :
    afterL preI V (Proc.devRef .tc r) = V (Proc.devRef .tc r) := afterL_keep pre_all rfl hr V
theorem body0_keep {r : Ref sig .tc} (hr : r ∉ body0_all) (V : Valuation τ sig (Elt F)) :
    afterL bodyI0 V (Proc.devRef .tc r) = V (Proc.devRef .tc r) := afterL_keep body0_all rfl hr V
theorem mid_keep {r : Ref sig .tc} (hr : r ∉ mid_all) (V : Valuation τ sig (Elt F)) :
    afterL midI V (Proc.devRef .tc r) = V (Proc.devRef .tc r) := afterL_keep mid_all rfl hr V
theorem body1_keep {r : Ref sig .tc} (hr : r ∉ body1_all) (V : Valuation τ sig (Elt F)) :
    afterL bodyI1 V (Proc.devRef .tc r) = V (Proc.devRef .tc r) := afterL_keep body1_all rfl hr V
theorem post_keep {r : Ref sig .tc} (hr : r ∉ post_all) (V : Valuation τ sig (Elt F)) :
    afterL postI V (Proc.devRef .tc r) = V (Proc.devRef .tc r) := afterL_keep post_all rfl hr V

/-- A buffer that the first loop does not write. -/
theorem at0_keep {r : Ref sig .tc} (h : r ∉ cond0_W) (h' : r ∉ body0_all) (c : Dev nD) :
    ∀ k, at0 m k c (Proc.devRef .tc r) = ent0 m c (Proc.devRef .tc r)
  | 0 => rfl
  | k + 1 => by
    rw [show at0 m (k + 1) c = afterL bodyI0 (after cond0 (at0 m k c)) from rfl, body0_keep h',
      after_unwritten cond0_W cond0_w h, at0_keep h h' c k]

/-- A buffer that the second loop does not write. -/
theorem at1_keep {r : Ref sig .tc} (h : r ∉ cond1_W) (h' : r ∉ body1_all) (c : Dev nD) :
    ∀ k, at1 m k c (Proc.devRef .tc r) = ent1 m c (Proc.devRef .tc r)
  | 0 => rfl
  | k + 1 => by
    rw [show at1 m (k + 1) c = afterL bodyI1 (after cond1 (at1 m k c)) from rfl, body1_keep h',
      after_unwritten cond1_W cond1_w h, at1_keep h h' c k]

/-- A buffer that nothing writes. -/
theorem fin_keep {r : Ref sig .tc} (h0 : r ∉ pre_all) (h1 : r ∉ cond0_W) (h2 : r ∉ body0_all) (h3 : r ∉ mid_all)
    (h4 : r ∉ cond1_W) (h5 : r ∉ body1_all) (h6 : r ∉ post_all) (c : Dev nD) :
    fin m c (Proc.devRef .tc r) = m ((c.tc : Thread nD τ).loc r) := by
  rw [show fin m c = afterL postI (after cond1 (at1 m 32 c)) from rfl, post_keep h6, after_unwritten cond1_W cond1_w h4,
    at1_keep m h4 h5, show ent1 m c = afterL midI (after cond0 (at0 m 32 c)) from rfl, mid_keep h3,
    after_unwritten cond0_W cond0_w h1, at0_keep m h1 h2, show ent0 m c = afterL preI (launchContents m c) from rfl, pre_keep h0]

theorem fin_arg0 (c : Dev nD) : fin m c (Proc.devRef .tc main_arg0) = m ((c.tc : Thread nD τ).loc main_arg0) :=
  fin_keep m (by decide +kernel) (by decide +kernel) (by decide +kernel) (by decide +kernel) (by decide +kernel) (by decide +kernel) (by decide +kernel) c
theorem fin_arg1 (c : Dev nD) : fin m c (Proc.devRef .tc main_arg1) = m ((c.tc : Thread nD τ).loc main_arg1) :=
  fin_keep m (by decide +kernel) (by decide +kernel) (by decide +kernel) (by decide +kernel) (by decide +kernel) (by decide +kernel) (by decide +kernel) c
theorem fin_arg2 (c : Dev nD) : fin m c (Proc.devRef .tc main_arg2) = m ((c.tc : Thread nD τ).loc main_arg2) :=
  fin_keep m (by decide +kernel) (by decide +kernel) (by decide +kernel) (by decide +kernel) (by decide +kernel) (by decide +kernel) (by decide +kernel) c
theorem fin_arg3 (c : Dev nD) : fin m c (Proc.devRef .tc main_arg3) = m ((c.tc : Thread nD τ).loc main_arg3) :=
  fin_keep m (by decide +kernel) (by decide +kernel) (by decide +kernel) (by decide +kernel) (by decide +kernel) (by decide +kernel) (by decide +kernel) c
theorem fin_arg4 (c : Dev nD) : fin m c (Proc.devRef .tc main_arg4) = m ((c.tc : Thread nD τ).loc main_arg4) :=
  fin_keep m (by decide +kernel) (by decide +kernel) (by decide +kernel) (by decide +kernel) (by decide +kernel) (by decide +kernel) (by decide +kernel) c
theorem fin_arg5 (c : Dev nD) : fin m c (Proc.devRef .tc main_arg5) = m ((c.tc : Thread nD τ).loc main_arg5) :=
  fin_keep m (by decide +kernel) (by decide +kernel) (by decide +kernel) (by decide +kernel) (by decide +kernel) (by decide +kernel) (by decide +kernel) c
theorem fin_arg6 (c : Dev nD) : fin m c (Proc.devRef .tc main_arg6) = m ((c.tc : Thread nD τ).loc main_arg6) :=
  fin_keep m (by decide +kernel) (by decide +kernel) (by decide +kernel) (by decide +kernel) (by decide +kernel) (by decide +kernel) (by decide +kernel) c
theorem fin_arg7 (c : Dev nD) : fin m c (Proc.devRef .tc main_arg7) = m ((c.tc : Thread nD τ).loc main_arg7) :=
  fin_keep m (by decide +kernel) (by decide +kernel) (by decide +kernel) (by decide +kernel) (by decide +kernel) (by decide +kernel) (by decide +kernel) c

/-- The frame: every argument ends as it began, and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run (defs (F := F)) _ _).mono (fun _ h => ⟨fun c => ⟨(h.1 c main_arg0 rfl).trans (fin_arg0 m c),
    (h.1 c main_arg1 rfl).trans (fin_arg1 m c),
    (h.1 c main_arg2 rfl).trans (fin_arg2 m c),
    (h.1 c main_arg3 rfl).trans (fin_arg3 m c),
    (h.1 c main_arg4 rfl).trans (fin_arg4 m c),
    (h.1 c main_arg5 rfl).trans (fin_arg5 m c),
    (h.1 c main_arg6 rfl).trans (fin_arg6 m c),
    (h.1 c main_arg7 rfl).trans (fin_arg7 m c)⟩, h.2⟩) (run m ρ)

end Arguments

end Cert.ReferenceIdeal.Two
-- ==== Proof.RefEqs.lean ====
/- The reference's operations as equations: within a stretch that writes each buffer once, every buffer ends at its
   operation's function of what the operands end at. -/
module

public import proofs.«01_k».proof.Proof.RefRun
public import proofs.«01_k».proof.Proof.Fix

@[expose] public section

noncomputable section

namespace Cert.ReferenceIdeal.Two

open Cert.ReferenceIdeal Cert.ReferenceIdeal.Gen
open Idealize.ShloMosaic Idealize.ShloMosaic.TcCoe Idealize.ShloMosaic.StableHlo Idealize.SL.Sem

variable {F : FTy → Type} [FloatOps F]

/-- A block's start: the counter on the first axis, zero on the others. -/
def st4 (c : C F S_ .i32) : Fin 4 → ℤ := ![(c (Shape.Idx.first h_S_) : BitVec 32).toInt, 0, 0, 0]
def st2 (c : C F S_ .i32) : Fin 2 → ℤ := ![(c (Shape.Idx.first h_S_) : BitVec 32).toInt, 0]

/-- The zero index. -/
abbrev z32 : C F S_ .i32 := constantI S_ 32 0#32

theorem st4_eq (i : Fin 4 → C F S_ .i32) (h1 : i 1 = z32) (h2 : i 2 = z32) (h3 : i 3 = z32) :
    (fun k => (i k (Shape.Idx.first h_S_) : BitVec 32).toInt) = st4 (i 0) := by
  funext k
  match k with
  | 0 => rfl
  | 1 => rw [h1]; rfl
  | 2 => rw [h2]; rfl
  | 3 => rw [h3]; rfl
theorem st2_eq (i : Fin 2 → C F S_ .i32) (h1 : i 1 = z32) :
    (fun k => (i k (Shape.Idx.first h_S_) : BitVec 32).toInt) = st2 (i 0) := by
  funext k
  match k with
  | 0 => rfl
  | 1 => rw [h1]; rfl

abbrev ds_S32x8x64x128 : C F S32x8x64x128 .f32 → (Fin 4 → C F S_ .i32) → C F S1x8x64x128 .f32 :=
  fun x i => Host.dynamicSlice S1x8x64x128 x (fun k => (i k (Shape.Idx.first h_S_) : BitVec 32).toInt) sliceFits_S32x8x64x128_S1x8x64x128
abbrev ds_S32x8x64x64 : C F S32x8x64x64 .f32 → (Fin 4 → C F S_ .i32) → C F S1x8x64x64 .f32 :=
  fun x i => Host.dynamicSlice S1x8x64x64 x (fun k => (i k (Shape.Idx.first h_S_) : BitVec 32).toInt) sliceFits_S32x8x64x64_S1x8x64x64
abbrev ds_S32x8 : C F S32x8 .f32 → (Fin 2 → C F S_ .i32) → C F S1x8 .f32 :=
  fun x i => Host.dynamicSlice S1x8 x (fun k => (i k (Shape.Idx.first h_S_) : BitVec 32).toInt) sliceFits_S32x8_S1x8
abbrev ds_S32x8x128x128 : C F S32x8x128x128 .f32 → (Fin 4 → C F S_ .i32) → C F S1x8x128x128 .f32 :=
  fun x i => Host.dynamicSlice S1x8x128x128 x (fun k => (i k (Shape.Idx.first h_S_) : BitVec 32).toInt) sliceFits_S32x8x128x128_S1x8x128x128
abbrev ds_S32x8x1x1 : C F S32x8x1x1 .f32 → (Fin 4 → C F S_ .i32) → C F S1x8x1x1 .f32 :=
  fun x i => Host.dynamicSlice S1x8x1x1 x (fun k => (i k (Shape.Idx.first h_S_) : BitVec 32).toInt) sliceFits_S32x8x1x1_S1x8x1x1
abbrev du_S32x8x64x128 : C F S32x8x64x128 .f32 → C F S1x8x64x128 .f32 → (Fin 4 → C F S_ .i32) → C F S32x8x64x128 .f32 :=
  fun x u i => Host.dynamicUpdateSlice x u (fun k => (i k (Shape.Idx.first h_S_) : BitVec 32).toInt) updateFits_S32x8x64x128_S1x8x64x128
abbrev du_S32x8x128x128 : C F S32x8x128x128 .f32 → C F S1x8x128x128 .f32 → (Fin 4 → C F S_ .i32) → C F S32x8x128x128 .f32 :=
  fun x u i => Host.dynamicUpdateSlice x u (fun k => (i k (Shape.Idx.first h_S_) : BitVec 32).toInt) updateFits_S32x8x128x128_S1x8x128x128
abbrev du_S32x8 : C F S32x8 .f32 → C F S1x8 .f32 → (Fin 2 → C F S_ .i32) → C F S32x8 .f32 :=
  fun x u i => Host.dynamicUpdateSlice x u (fun k => (i k (Shape.Idx.first h_S_) : BitVec 32).toInt) updateFits_S32x8_S1x8
abbrev du_S32x8x1x1 : C F S32x8x1x1 .f32 → C F S1x8x1x1 .f32 → (Fin 4 → C F S_ .i32) → C F S32x8x1x1 .f32 :=
  fun x u i => Host.dynamicUpdateSlice x u (fun k => (i k (Shape.Idx.first h_S_) : BitVec 32).toInt) updateFits_S32x8x1x1_S1x8x1x1
abbrev du_S32x8x64x64 : C F S32x8x64x64 .f32 → C F S1x8x64x64 .f32 → (Fin 4 → C F S_ .i32) → C F S32x8x64x64 .f32 :=
  fun x u i => Host.dynamicUpdateSlice x u (fun k => (i k (Shape.Idx.first h_S_) : BitVec 32).toInt) updateFits_S32x8x64x64_S1x8x64x64

/-! ## Stretch P -/

/-- Its operations and what they write. -/
def opsP : List (HloOp τ sig (Elt F)) := List.flatten [pre_0]
def WP : List (Ref sig .tc) := pre_0_W
theorem wP : Fix.Writes (opsP (F := F)) WP := by
  unfold Fix.Writes
  rfl
/-- What a buffer holds after them. -/
def EP (V : Valuation τ sig (Elt F)) (b : Ref sig .tc) : b.ty.Contents (Elt F) := after opsP V (Proc.devRef .tc b)
theorem EP_keep (V : Valuation τ sig (Elt F)) (b : Ref sig .tc) (h : b ∉ WP) : EP V b = V (Proc.devRef .tc b) := Fix.keep wP h V

section
variable (V : Valuation τ sig (Elt F))

theorem P_v0 : EP V main_v0 = shapeCast S32x64x8 (EP V main_arg5 : C F S2048x8 .f32) shapeCasts_S2048x8_S32x64x8 :=
  Fix.reshape_eq (x := main_arg5) (y := main_v0) wP 0 V _ _ _ _ rfl
theorem P_cst : EP V main_cst = (constant S_ .f32 0x00000000#32) :=
  Fix.nullary_eq (y := main_cst) wP 1 V (constant S_ .f32 0x00000000#32) _ rfl
theorem P_v1 : EP V main_v1 = ((fun x v => Host.reduceAdd x v reducesTo_S32x64x8_S32x8_d1 h_S_) : C F S32x64x8 .f32 → C F S_ .f32 → C F S32x8 .f32) (EP V main_v0) (EP V main_cst) :=
  Fix.binary_eq (a := main_v0) (b := main_cst) (y := main_v1) wP 2 V ((fun x v => Host.reduceAdd x v reducesTo_S32x64x8_S32x8_d1 h_S_) : C F S32x64x8 .f32 → C F S_ .f32 → C F S32x8 .f32) _ _ _ rfl
theorem P_v2 : EP V main_v2 = shapeCast S32x64x8x128 (EP V main_arg6 : C F S2048x1024 .f32) shapeCasts_S2048x1024_S32x64x8x128 :=
  Fix.reshape_eq (x := main_arg6) (y := main_v2) wP 3 V _ _ _ _ rfl
theorem P_v3 : EP V main_v3 = ((transpose S32x8x64x128 [0, 2, 1, 3] · transposes_S32x64x8x128_S32x8x64x128_0_2_1_3) : C F S32x64x8x128 .f32 → C F S32x8x64x128 .f32) (EP V main_v2) :=
  Fix.unary_eq (x := main_v2) (y := main_v3) wP 4 V ((transpose S32x8x64x128 [0, 2, 1, 3] · transposes_S32x64x8x128_S32x8x64x128_0_2_1_3) : C F S32x64x8x128 .f32 → C F S32x8x64x128 .f32) _ _ rfl
theorem P_cst_0 : EP V main_cst_0 = (constant S_ .f32 0x00000000#32) :=
  Fix.nullary_eq (y := main_cst_0) wP 5 V (constant S_ .f32 0x00000000#32) _ rfl
theorem P_v4 : EP V main_v4 = (broadcastInDim S8x128x128 ![] bcast_S_S8x128x128 : C F S_ .f32 → C F S8x128x128 .f32) (EP V main_cst_0) :=
  Fix.unary_eq (x := main_cst_0) (y := main_v4) wP 6 V (broadcastInDim S8x128x128 ![] bcast_S_S8x128x128 : C F S_ .f32 → C F S8x128x128 .f32) _ _ rfl
theorem P_v5 : EP V main_v5 = ((transpose S32x8x64x128 [1, 0, 2, 3] · transposes_S8x32x64x128_S32x8x64x128_1_0_2_3) : C F S8x32x64x128 .f32 → C F S32x8x64x128 .f32) (EP V main_arg2) :=
  Fix.unary_eq (x := main_arg2) (y := main_v5) wP 7 V ((transpose S32x8x64x128 [1, 0, 2, 3] · transposes_S8x32x64x128_S32x8x64x128_1_0_2_3) : C F S8x32x64x128 .f32 → C F S32x8x64x128 .f32) _ _ rfl
theorem P_v6 : EP V main_v6 = ((transpose S32x8x64x128 [1, 0, 2, 3] · transposes_S8x32x64x128_S32x8x64x128_1_0_2_3) : C F S8x32x64x128 .f32 → C F S32x8x64x128 .f32) (EP V main_arg3) :=
  Fix.unary_eq (x := main_arg3) (y := main_v6) wP 8 V ((transpose S32x8x64x128 [1, 0, 2, 3] · transposes_S8x32x64x128_S32x8x64x128_1_0_2_3) : C F S8x32x64x128 .f32 → C F S32x8x64x128 .f32) _ _ rfl
theorem P_v7 : EP V main_v7 = ((transpose S32x8x64x128 [1, 0, 2, 3] · transposes_S8x32x64x128_S32x8x64x128_1_0_2_3) : C F S8x32x64x128 .f32 → C F S32x8x64x128 .f32) (EP V main_arg0) :=
  Fix.unary_eq (x := main_arg0) (y := main_v7) wP 9 V ((transpose S32x8x64x128 [1, 0, 2, 3] · transposes_S8x32x64x128_S32x8x64x128_1_0_2_3) : C F S8x32x64x128 .f32 → C F S32x8x64x128 .f32) _ _ rfl
theorem P_v8 : EP V main_v8 = ((transpose S32x8x64x128 [1, 0, 2, 3] · transposes_S8x32x64x128_S32x8x64x128_1_0_2_3) : C F S8x32x64x128 .f32 → C F S32x8x64x128 .f32) (EP V main_arg1) :=
  Fix.unary_eq (x := main_arg1) (y := main_v8) wP 10 V ((transpose S32x8x64x128 [1, 0, 2, 3] · transposes_S8x32x64x128_S32x8x64x128_1_0_2_3) : C F S8x32x64x128 .f32 → C F S32x8x64x128 .f32) _ _ rfl
theorem P_v9 : EP V main_v9 = ((transpose S32x8x64x64 [1, 0, 2, 3] · transposes_S8x32x64x64_S32x8x64x64_1_0_2_3) : C F S8x32x64x64 .f32 → C F S32x8x64x64 .f32) (EP V main_arg4) :=
  Fix.unary_eq (x := main_arg4) (y := main_v9) wP 11 V ((transpose S32x8x64x64 [1, 0, 2, 3] · transposes_S8x32x64x64_S32x8x64x64_1_0_2_3) : C F S8x32x64x64 .f32 → C F S32x8x64x64 .f32) _ _ rfl
theorem P_c : EP V main_c = (constantI S_ 32 0#32) :=
  Fix.nullary_eq (y := main_c) wP 22 V (constantI S_ 32 0#32) _ rfl
theorem P_v15_0 : EP V main_v15_0 = EP V main_v5 :=
  Fix.unary_eq (x := main_v5) (y := main_v15_0) wP 23 V id _ _ rfl
theorem P_v15_1 : EP V main_v15_1 = EP V main_v6 :=
  Fix.unary_eq (x := main_v6) (y := main_v15_1) wP 24 V id _ _ rfl
theorem P_v15_2 : EP V main_v15_2 = EP V main_v7 :=
  Fix.unary_eq (x := main_v7) (y := main_v15_2) wP 25 V id _ _ rfl
theorem P_v15_3 : EP V main_v15_3 = EP V main_v8 :=
  Fix.unary_eq (x := main_v8) (y := main_v15_3) wP 26 V id _ _ rfl
theorem P_v15_4 : EP V main_v15_4 = EP V main_v9 :=
  Fix.unary_eq (x := main_v9) (y := main_v15_4) wP 27 V id _ _ rfl
theorem P_v15_5 : EP V main_v15_5 = EP V main_v1 :=
  Fix.unary_eq (x := main_v1) (y := main_v15_5) wP 28 V id _ _ rfl
theorem P_v15_6 : EP V main_v15_6 = EP V main_c :=
  Fix.unary_eq (x := main_c) (y := main_v15_6) wP 29 V id _ _ rfl
theorem P_v15_7 : EP V main_v15_7 = EP V main_v4 :=
  Fix.unary_eq (x := main_v4) (y := main_v15_7) wP 30 V id _ _ rfl

end

/-! ## Stretch A -/

/-- Its operations and what they write. -/
def opsA : List (HloOp τ sig (Elt F)) := List.flatten [b0_0, b0_1, b0_2, b0_3, b0_4, b0_5, b0_6, b0_7, b0_8, b0_9, b0_10, b0_11]
def WA : List (Ref sig .tc) := b0_0_W ++ b0_1_W ++ b0_2_W ++ b0_3_W ++ b0_4_W ++ b0_5_W ++ b0_6_W ++ b0_7_W ++ b0_8_W ++ b0_9_W ++ b0_10_W ++ b0_11_W
theorem wA : Fix.Writes (opsA (F := F)) WA := by
  unfold Fix.Writes
  rfl
/-- What a buffer holds after them. -/
def EA (V : Valuation τ sig (Elt F)) (b : Ref sig .tc) : b.ty.Contents (Elt F) := after opsA V (Proc.devRef .tc b)
theorem EA_keep (V : Valuation τ sig (Elt F)) (b : Ref sig .tc) (h : b ∉ WA) : EA V b = V (Proc.devRef .tc b) := Fix.keep wA h V

section
variable (V : Valuation τ sig (Elt F))

theorem A_while0b_v45 : EA V main_while0b_v45 = shapeCast S8x64x128 (Host.dynamicSlice S1x8x64x128 (EA V main_v15_1 : C F S32x8x64x128 .f32) (st4 (EA V main_v15_6)) sliceFits_S32x8x64x128_S1x8x64x128) shapeCasts_S1x8x64x128_S8x64x128 := by
  have h : EA V main_while0b_call1_v0 = ds_S32x8x64x128 (EA V main_v15_1) (![EA V main_v15_6, EA V main_while0b_call1_c, EA V main_while0b_call1_c_0, EA V main_while0b_call1_c_1]) :=
    (Fix.unaryIndexedT_eq wA 8 V (.of main_v15_1 : TRef sig ⟨S32x8x64x128, .f32⟩) ![(.of main_v15_6 : TRef sig ⟨S_, .i32⟩), main_while0b_call1.c, main_while0b_call1.c_0, main_while0b_call1.c_1] main_while0b_call1.v0 ds_S32x8x64x128 rfl).trans
      (congrArg (ds_S32x8x64x128 (EA V main_v15_1)) (funext fun k => match k with
        | 0 => rfl
        | 1 => rfl
        | 2 => rfl
        | 3 => rfl))
  unfold ds_S32x8x64x128 at h
  rw [st4_eq _ (Fix.nullary_eq (y := main_while0b_call1_c) wA 5 V _ _ rfl) (Fix.nullary_eq (y := main_while0b_call1_c_0) wA 6 V _ _ rfl) (Fix.nullary_eq (y := main_while0b_call1_c_1) wA 7 V _ _ rfl)] at h
  exact (Fix.reshape_eq (x := main_while0b_call1_v0) (y := main_while0b_v45) wA 9 V _ _ _ _ rfl).trans (congrArg (fun z => shapeCast S8x64x128 z shapeCasts_S1x8x64x128_S8x64x128) h)
theorem A_while0b_v46 : EA V main_while0b_v46 = shapeCast S8x64x128 (Host.dynamicSlice S1x8x64x128 (EA V main_v15_2 : C F S32x8x64x128 .f32) (st4 (EA V main_v15_6)) sliceFits_S32x8x64x128_S1x8x64x128) shapeCasts_S1x8x64x128_S8x64x128 := by
  have h : EA V main_while0b_call2_v0 = ds_S32x8x64x128 (EA V main_v15_2) (![EA V main_v15_6, EA V main_while0b_call2_c, EA V main_while0b_call2_c_0, EA V main_while0b_call2_c_1]) :=
    (Fix.unaryIndexedT_eq wA 13 V (.of main_v15_2 : TRef sig ⟨S32x8x64x128, .f32⟩) ![(.of main_v15_6 : TRef sig ⟨S_, .i32⟩), main_while0b_call2.c, main_while0b_call2.c_0, main_while0b_call2.c_1] main_while0b_call2.v0 ds_S32x8x64x128 rfl).trans
      (congrArg (ds_S32x8x64x128 (EA V main_v15_2)) (funext fun k => match k with
        | 0 => rfl
        | 1 => rfl
        | 2 => rfl
        | 3 => rfl))
  unfold ds_S32x8x64x128 at h
  rw [st4_eq _ (Fix.nullary_eq (y := main_while0b_call2_c) wA 10 V _ _ rfl) (Fix.nullary_eq (y := main_while0b_call2_c_0) wA 11 V _ _ rfl) (Fix.nullary_eq (y := main_while0b_call2_c_1) wA 12 V _ _ rfl)] at h
  exact (Fix.reshape_eq (x := main_while0b_call2_v0) (y := main_while0b_v46) wA 14 V _ _ _ _ rfl).trans (congrArg (fun z => shapeCast S8x64x128 z shapeCasts_S1x8x64x128_S8x64x128) h)
theorem A_while0b_v47 : EA V main_while0b_v47 = shapeCast S8x64x128 (Host.dynamicSlice S1x8x64x128 (EA V main_v15_3 : C F S32x8x64x128 .f32) (st4 (EA V main_v15_6)) sliceFits_S32x8x64x128_S1x8x64x128) shapeCasts_S1x8x64x128_S8x64x128 := by
  have h : EA V main_while0b_call3_v0 = ds_S32x8x64x128 (EA V main_v15_3) (![EA V main_v15_6, EA V main_while0b_call3_c, EA V main_while0b_call3_c_0, EA V main_while0b_call3_c_1]) :=
    (Fix.unaryIndexedT_eq wA 18 V (.of main_v15_3 : TRef sig ⟨S32x8x64x128, .f32⟩) ![(.of main_v15_6 : TRef sig ⟨S_, .i32⟩), main_while0b_call3.c, main_while0b_call3.c_0, main_while0b_call3.c_1] main_while0b_call3.v0 ds_S32x8x64x128 rfl).trans
      (congrArg (ds_S32x8x64x128 (EA V main_v15_3)) (funext fun k => match k with
        | 0 => rfl
        | 1 => rfl
        | 2 => rfl
        | 3 => rfl))
  unfold ds_S32x8x64x128 at h
  rw [st4_eq _ (Fix.nullary_eq (y := main_while0b_call3_c) wA 15 V _ _ rfl) (Fix.nullary_eq (y := main_while0b_call3_c_0) wA 16 V _ _ rfl) (Fix.nullary_eq (y := main_while0b_call3_c_1) wA 17 V _ _ rfl)] at h
  exact (Fix.reshape_eq (x := main_while0b_call3_v0) (y := main_while0b_v47) wA 19 V _ _ _ _ rfl).trans (congrArg (fun z => shapeCast S8x64x128 z shapeCasts_S1x8x64x128_S8x64x128) h)
theorem A_while0b_v49 : EA V main_while0b_v49 = shapeCast S8 (Host.dynamicSlice S1x8 (EA V main_v15_5 : C F S32x8 .f32) (st2 (EA V main_v15_6)) sliceFits_S32x8_S1x8) shapeCasts_S1x8_S8 := by
  have h : EA V main_while0b_call5_v0 = ds_S32x8 (EA V main_v15_5) (![EA V main_v15_6, EA V main_while0b_call5_c]) :=
    (Fix.unaryIndexedT_eq wA 26 V (.of main_v15_5 : TRef sig ⟨S32x8, .f32⟩) ![(.of main_v15_6 : TRef sig ⟨S_, .i32⟩), main_while0b_call5.c] main_while0b_call5.v0 ds_S32x8 rfl).trans
      (congrArg (ds_S32x8 (EA V main_v15_5)) (funext fun k => match k with
        | 0 => rfl
        | 1 => rfl))
  unfold ds_S32x8 at h
  rw [st2_eq _ (Fix.nullary_eq (y := main_while0b_call5_c) wA 25 V _ _ rfl)] at h
  exact (Fix.reshape_eq (x := main_while0b_call5_v0) (y := main_while0b_v49) wA 27 V _ _ _ _ rfl).trans (congrArg (fun z => shapeCast S8 z shapeCasts_S1x8_S8) h)
theorem A_while0b_v50 : EA V main_while0b_v50 = ((fun l r => Host.dotGeneral dot_S8x64x128_S8x128x128_S8x64x128_2_1_1_2_0_0 none l r) : C F S8x64x128 .f32 → C F S8x128x128 .f32 → C F S8x64x128 .f32) (EA V main_while0b_v47) (EA V main_v15_7) :=
  Fix.binary_eq (a := main_while0b_v47) (b := main_v15_7) (y := main_while0b_v50) wA 28 V ((fun l r => Host.dotGeneral dot_S8x64x128_S8x128x128_S8x64x128_2_1_1_2_0_0 none l r) : C F S8x64x128 .f32 → C F S8x128x128 .f32 → C F S8x64x128 .f32) _ _ _ rfl
theorem A_while0b_v51 : EA V main_while0b_v51 = (subf : C F S8x64x128 .f32 → C F S8x64x128 .f32 → C F S8x64x128 .f32) (EA V main_while0b_v46) (EA V main_while0b_v50) :=
  Fix.binary_eq (a := main_while0b_v46) (b := main_while0b_v50) (y := main_while0b_v51) wA 29 V (subf : C F S8x64x128 .f32 → C F S8x64x128 .f32 → C F S8x64x128 .f32) _ _ _ rfl
theorem A_while0b_v55 : EA V main_while0b_v55 = (Host.exp : C F S8 .f32 → C F S8 .f32) (EA V main_while0b_v49) :=
  Fix.unary_eq (x := main_while0b_v49) (y := main_while0b_v55) wA 33 V (Host.exp : C F S8 .f32 → C F S8 .f32) _ _ rfl
theorem A_while0b_v56 : EA V main_while0b_v56 = (broadcastInDim S8x1x1 ![0] bcast_S8_S8x1x1_0 : C F S8 .f32 → C F S8x1x1 .f32) (EA V main_while0b_v55) :=
  Fix.unary_eq (x := main_while0b_v55) (y := main_while0b_v56) wA 34 V (broadcastInDim S8x1x1 ![0] bcast_S8_S8x1x1_0 : C F S8 .f32 → C F S8x1x1 .f32) _ _ rfl
theorem A_while0b_v57 : EA V main_while0b_v57 = (broadcastInDim S8x128x128 ![0, 1, 2] bcast_S8x1x1_S8x128x128_0_1_2 : C F S8x1x1 .f32 → C F S8x128x128 .f32) (EA V main_while0b_v56) :=
  Fix.unary_eq (x := main_while0b_v56) (y := main_while0b_v57) wA 35 V (broadcastInDim S8x128x128 ![0, 1, 2] bcast_S8x1x1_S8x128x128_0_1_2 : C F S8x1x1 .f32 → C F S8x128x128 .f32) _ _ rfl
theorem A_while0b_v58 : EA V main_while0b_v58 = (mulf : C F S8x128x128 .f32 → C F S8x128x128 .f32 → C F S8x128x128 .f32) (EA V main_v15_7) (EA V main_while0b_v57) :=
  Fix.binary_eq (a := main_v15_7) (b := main_while0b_v57) (y := main_while0b_v58) wA 36 V (mulf : C F S8x128x128 .f32 → C F S8x128x128 .f32 → C F S8x128x128 .f32) _ _ _ rfl
theorem A_while0b_v59 : EA V main_while0b_v59 = ((fun l r => Host.dotGeneral dot_S8x64x128_S8x64x128_S8x128x128_1_1_2_2_0_0 none l r) : C F S8x64x128 .f32 → C F S8x64x128 .f32 → C F S8x128x128 .f32) (EA V main_while0b_v45) (EA V main_while0b_v51) :=
  Fix.binary_eq (a := main_while0b_v45) (b := main_while0b_v51) (y := main_while0b_v59) wA 37 V ((fun l r => Host.dotGeneral dot_S8x64x128_S8x64x128_S8x128x128_1_1_2_2_0_0 none l r) : C F S8x64x128 .f32 → C F S8x64x128 .f32 → C F S8x128x128 .f32) _ _ _ rfl
theorem A_while0b_v60 : EA V main_while0b_v60 = (addf : C F S8x128x128 .f32 → C F S8x128x128 .f32 → C F S8x128x128 .f32) (EA V main_while0b_v58) (EA V main_while0b_v59) :=
  Fix.binary_eq (a := main_while0b_v58) (b := main_while0b_v59) (y := main_while0b_v60) wA 38 V (addf : C F S8x128x128 .f32 → C F S8x128x128 .f32 → C F S8x128x128 .f32) _ _ _ rfl
theorem A_while0b_v62 : EA V main_while0b_v62 = Host.dynamicUpdateSlice (EA V main_v15_9 : C F S32x8x128x128 .f32) (broadcastInDim S1x8x128x128 ![1, 2, 3] bcast_S8x128x128_S1x8x128x128_1_2_3 (EA V main_v15_7 : C F S8x128x128 .f32)) (st4 (EA V main_v15_6)) updateFits_S32x8x128x128_S1x8x128x128 := by
  have h : EA V main_while0b_v62 = du_S32x8x128x128 (EA V main_v15_9) (EA V main_while0b_call7_v0) (![EA V main_v15_6, EA V main_while0b_call7_c, EA V main_while0b_call7_c_0, EA V main_while0b_call7_c_1]) :=
    (Fix.binaryIndexedT_eq wA 48 V (.of main_v15_9 : TRef sig ⟨S32x8x128x128, .f32⟩) main_while0b_call7.v0 ![(.of main_v15_6 : TRef sig ⟨S_, .i32⟩), main_while0b_call7.c, main_while0b_call7.c_0, main_while0b_call7.c_1] main_while0b_call7.v1 du_S32x8x128x128 rfl).trans
      (congrArg (du_S32x8x128x128 (EA V main_v15_9) (EA V main_while0b_call7_v0)) (funext fun k => match k with
        | 0 => rfl
        | 1 => rfl
        | 2 => rfl
        | 3 => rfl))
  unfold du_S32x8x128x128 at h
  rw [st4_eq _ (Fix.nullary_eq (y := main_while0b_call7_c) wA 45 V _ _ rfl) (Fix.nullary_eq (y := main_while0b_call7_c_0) wA 46 V _ _ rfl) (Fix.nullary_eq (y := main_while0b_call7_c_1) wA 47 V _ _ rfl)] at h
  have h0 : EA V main_while0b_call7_v0 = broadcastInDim S1x8x128x128 ![1, 2, 3] bcast_S8x128x128_S1x8x128x128_1_2_3 (EA V main_v15_7 : C F S8x128x128 .f32) := Fix.unary_eq (x := main_v15_7) (y := main_while0b_call7_v0) wA 44 V _ _ _ rfl
  rw [h0] at h
  exact h
theorem A_while0b_v63 : EA V main_while0b_v63 = Host.dynamicUpdateSlice (EA V main_v15_10 : C F S32x8x64x128 .f32) (broadcastInDim S1x8x64x128 ![1, 2, 3] bcast_S8x64x128_S1x8x64x128_1_2_3 (EA V main_while0b_v51 : C F S8x64x128 .f32)) (st4 (EA V main_v15_6)) updateFits_S32x8x64x128_S1x8x64x128 := by
  have h : EA V main_while0b_v63 = du_S32x8x64x128 (EA V main_v15_10) (EA V main_while0b_call8_v0) (![EA V main_v15_6, EA V main_while0b_call8_c, EA V main_while0b_call8_c_0, EA V main_while0b_call8_c_1]) :=
    (Fix.binaryIndexedT_eq wA 53 V (.of main_v15_10 : TRef sig ⟨S32x8x64x128, .f32⟩) main_while0b_call8.v0 ![(.of main_v15_6 : TRef sig ⟨S_, .i32⟩), main_while0b_call8.c, main_while0b_call8.c_0, main_while0b_call8.c_1] main_while0b_call8.v1 du_S32x8x64x128 rfl).trans
      (congrArg (du_S32x8x64x128 (EA V main_v15_10) (EA V main_while0b_call8_v0)) (funext fun k => match k with
        | 0 => rfl
        | 1 => rfl
        | 2 => rfl
        | 3 => rfl))
  unfold du_S32x8x64x128 at h
  rw [st4_eq _ (Fix.nullary_eq (y := main_while0b_call8_c) wA 50 V _ _ rfl) (Fix.nullary_eq (y := main_while0b_call8_c_0) wA 51 V _ _ rfl) (Fix.nullary_eq (y := main_while0b_call8_c_1) wA 52 V _ _ rfl)] at h
  have h0 : EA V main_while0b_call8_v0 = broadcastInDim S1x8x64x128 ![1, 2, 3] bcast_S8x64x128_S1x8x64x128_1_2_3 (EA V main_while0b_v51 : C F S8x64x128 .f32) := Fix.unary_eq (x := main_while0b_v51) (y := main_while0b_call8_v0) wA 49 V _ _ _ rfl
  rw [h0] at h
  exact h
theorem A_while0b_v64 : EA V main_while0b_v64 = Host.dynamicUpdateSlice (EA V main_v15_11 : C F S32x8 .f32) (broadcastInDim S1x8 ![1] bcast_S8_S1x8_1 (EA V main_while0b_v55 : C F S8 .f32)) (st2 (EA V main_v15_6)) updateFits_S32x8_S1x8 := by
  have h : EA V main_while0b_v64 = du_S32x8 (EA V main_v15_11) (EA V main_while0b_call9_v0) (![EA V main_v15_6, EA V main_while0b_call9_c]) :=
    (Fix.binaryIndexedT_eq wA 56 V (.of main_v15_11 : TRef sig ⟨S32x8, .f32⟩) main_while0b_call9.v0 ![(.of main_v15_6 : TRef sig ⟨S_, .i32⟩), main_while0b_call9.c] main_while0b_call9.v1 du_S32x8 rfl).trans
      (congrArg (du_S32x8 (EA V main_v15_11) (EA V main_while0b_call9_v0)) (funext fun k => match k with
        | 0 => rfl
        | 1 => rfl))
  unfold du_S32x8 at h
  rw [st2_eq _ (Fix.nullary_eq (y := main_while0b_call9_c) wA 55 V _ _ rfl)] at h
  have h0 : EA V main_while0b_call9_v0 = broadcastInDim S1x8 ![1] bcast_S8_S1x8_1 (EA V main_while0b_v55 : C F S8 .f32) := Fix.unary_eq (x := main_while0b_v55) (y := main_while0b_call9_v0) wA 54 V _ _ _ rfl
  rw [h0] at h
  exact h
theorem A_while0b_v65 : EA V main_while0b_v65 = Host.dynamicUpdateSlice (EA V main_v15_12 : C F S32x8x1x1 .f32) (broadcastInDim S1x8x1x1 ![1, 2, 3] bcast_S8x1x1_S1x8x1x1_1_2_3 (EA V main_while0b_v56 : C F S8x1x1 .f32)) (st4 (EA V main_v15_6)) updateFits_S32x8x1x1_S1x8x1x1 := by
  have h : EA V main_while0b_v65 = du_S32x8x1x1 (EA V main_v15_12) (EA V main_while0b_call10_v0) (![EA V main_v15_6, EA V main_while0b_call10_c, EA V main_while0b_call10_c_0, EA V main_while0b_call10_c_1]) :=
    (Fix.binaryIndexedT_eq wA 61 V (.of main_v15_12 : TRef sig ⟨S32x8x1x1, .f32⟩) main_while0b_call10.v0 ![(.of main_v15_6 : TRef sig ⟨S_, .i32⟩), main_while0b_call10.c, main_while0b_call10.c_0, main_while0b_call10.c_1] main_while0b_call10.v1 du_S32x8x1x1 rfl).trans
      (congrArg (du_S32x8x1x1 (EA V main_v15_12) (EA V main_while0b_call10_v0)) (funext fun k => match k with
        | 0 => rfl
        | 1 => rfl
        | 2 => rfl
        | 3 => rfl))
  unfold du_S32x8x1x1 at h
  rw [st4_eq _ (Fix.nullary_eq (y := main_while0b_call10_c) wA 58 V _ _ rfl) (Fix.nullary_eq (y := main_while0b_call10_c_0) wA 59 V _ _ rfl) (Fix.nullary_eq (y := main_while0b_call10_c_1) wA 60 V _ _ rfl)] at h
  have h0 : EA V main_while0b_call10_v0 = broadcastInDim S1x8x1x1 ![1, 2, 3] bcast_S8x1x1_S1x8x1x1_1_2_3 (EA V main_while0b_v56 : C F S8x1x1 .f32) := Fix.unary_eq (x := main_while0b_v56) (y := main_while0b_call10_v0) wA 57 V _ _ _ rfl
  rw [h0] at h
  exact h

end

/-! ## Stretch A2 -/

/-- Its operations and what they write. -/
def opsA2 : List (HloOp τ sig (Elt F)) := List.flatten [b0_12]
def WA2 : List (Ref sig .tc) := b0_12_W
theorem wA2 : Fix.Writes (opsA2 (F := F)) WA2 := by
  unfold Fix.Writes
  rfl
/-- What a buffer holds after them. -/
def EA2 (V : Valuation τ sig (Elt F)) (b : Ref sig .tc) : b.ty.Contents (Elt F) := after opsA2 V (Proc.devRef .tc b)
theorem EA2_keep (V : Valuation τ sig (Elt F)) (b : Ref sig .tc) (h : b ∉ WA2) : EA2 V b = V (Proc.devRef .tc b) := Fix.keep wA2 h V

section
variable (V : Valuation τ sig (Elt F))

theorem A2_v15_7 : EA2 V main_v15_7 = EA2 V main_while0b_v60 :=
  Fix.unary_eq (x := main_while0b_v60) (y := main_v15_7) wA2 3 V id _ _ rfl
theorem A2_v15_9 : EA2 V main_v15_9 = EA2 V main_while0b_v62 :=
  Fix.unary_eq (x := main_while0b_v62) (y := main_v15_9) wA2 5 V id _ _ rfl
theorem A2_v15_10 : EA2 V main_v15_10 = EA2 V main_while0b_v63 :=
  Fix.unary_eq (x := main_while0b_v63) (y := main_v15_10) wA2 6 V id _ _ rfl
theorem A2_v15_11 : EA2 V main_v15_11 = EA2 V main_while0b_v64 :=
  Fix.unary_eq (x := main_while0b_v64) (y := main_v15_11) wA2 7 V id _ _ rfl
theorem A2_v15_12 : EA2 V main_v15_12 = EA2 V main_while0b_v65 :=
  Fix.unary_eq (x := main_while0b_v65) (y := main_v15_12) wA2 8 V id _ _ rfl

end

/-! ## Stretch M -/

/-- Its operations and what they write. -/
def opsM : List (HloOp τ sig (Elt F)) := List.flatten [mid_0]
def WM : List (Ref sig .tc) := mid_0_W
theorem wM : Fix.Writes (opsM (F := F)) WM := by
  unfold Fix.Writes
  rfl
/-- What a buffer holds after them. -/
def EM (V : Valuation τ sig (Elt F)) (b : Ref sig .tc) : b.ty.Contents (Elt F) := after opsM V (Proc.devRef .tc b)
theorem EM_keep (V : Valuation τ sig (Elt F)) (b : Ref sig .tc) (h : b ∉ WM) : EM V b = V (Proc.devRef .tc b) := Fix.keep wM h V

section
variable (V : Valuation τ sig (Elt F))

theorem M_cst_7 : EM V main_cst_7 = (constant S_ .f32 0x00000000#32) :=
  Fix.nullary_eq (y := main_cst_7) wM 2 V (constant S_ .f32 0x00000000#32) _ rfl
theorem M_v17 : EM V main_v17 = (broadcastInDim S8x128x128 ![] bcast_S_S8x128x128 : C F S_ .f32 → C F S8x128x128 .f32) (EM V main_cst_7) :=
  Fix.unary_eq (x := main_cst_7) (y := main_v17) wM 3 V (broadcastInDim S8x128x128 ![] bcast_S_S8x128x128 : C F S_ .f32 → C F S8x128x128 .f32) _ _ rfl
theorem M_c_14 : EM V main_c_14 = (constantI S_ 32 0#32) :=
  Fix.nullary_eq (y := main_c_14) wM 16 V (constantI S_ 32 0#32) _ rfl
theorem M_v24_0 : EM V main_v24_0 = EM V main_v3 :=
  Fix.unary_eq (x := main_v3) (y := main_v24_0) wM 17 V id _ _ rfl
theorem M_v24_1 : EM V main_v24_1 = EM V main_v15_9 :=
  Fix.unary_eq (x := main_v15_9) (y := main_v24_1) wM 18 V id _ _ rfl
theorem M_v24_2 : EM V main_v24_2 = EM V main_v8 :=
  Fix.unary_eq (x := main_v8) (y := main_v24_2) wM 19 V id _ _ rfl
theorem M_v24_3 : EM V main_v24_3 = EM V main_v5 :=
  Fix.unary_eq (x := main_v5) (y := main_v24_3) wM 20 V id _ _ rfl
theorem M_v24_4 : EM V main_v24_4 = EM V main_v15_10 :=
  Fix.unary_eq (x := main_v15_10) (y := main_v24_4) wM 21 V id _ _ rfl
theorem M_v24_5 : EM V main_v24_5 = EM V main_v9 :=
  Fix.unary_eq (x := main_v9) (y := main_v24_5) wM 22 V id _ _ rfl
theorem M_v24_6 : EM V main_v24_6 = EM V main_v15_11 :=
  Fix.unary_eq (x := main_v15_11) (y := main_v24_6) wM 23 V id _ _ rfl
theorem M_v24_7 : EM V main_v24_7 = EM V main_v15_12 :=
  Fix.unary_eq (x := main_v15_12) (y := main_v24_7) wM 24 V id _ _ rfl
theorem M_v24_8 : EM V main_v24_8 = EM V main_v6 :=
  Fix.unary_eq (x := main_v6) (y := main_v24_8) wM 25 V id _ _ rfl
theorem M_v24_9 : EM V main_v24_9 = EM V main_c_14 :=
  Fix.unary_eq (x := main_c_14) (y := main_v24_9) wM 26 V id _ _ rfl
theorem M_v24_10 : EM V main_v24_10 = EM V main_v17 :=
  Fix.unary_eq (x := main_v17) (y := main_v24_10) wM 27 V id _ _ rfl

end

/-! ## Stretch B -/

/-- Its operations and what they write. -/
def opsB : List (HloOp τ sig (Elt F)) := List.flatten [b1_0, b1_1, b1_2, b1_3, b1_4, b1_5, b1_6, b1_7, b1_8, b1_9, b1_10, b1_11, b1_12, b1_13, b1_14, b1_15, b1_16]
def WB : List (Ref sig .tc) := b1_0_W ++ b1_1_W ++ b1_2_W ++ b1_3_W ++ b1_4_W ++ b1_5_W ++ b1_6_W ++ b1_7_W ++ b1_8_W ++ b1_9_W ++ b1_10_W ++ b1_11_W ++ b1_12_W ++ b1_13_W ++ b1_14_W ++ b1_15_W ++ b1_16_W
theorem wB : Fix.Writes (opsB (F := F)) WB := by
  unfold Fix.Writes
  rfl
/-- What a buffer holds after them. -/
def EB (V : Valuation τ sig (Elt F)) (b : Ref sig .tc) : b.ty.Contents (Elt F) := after opsB V (Proc.devRef .tc b)
theorem EB_keep (V : Valuation τ sig (Elt F)) (b : Ref sig .tc) (h : b ∉ WB) : EB V b = V (Proc.devRef .tc b) := Fix.keep wB h V

section
variable (V : Valuation τ sig (Elt F))

theorem B_while1b_c_33 : EB V main_while1b_c_33 = (constantI S_ 32 32#32) :=
  Fix.nullary_eq (y := main_while1b_c_33) wB 0 V (constantI S_ 32 32#32) _ rfl
theorem B_while1b_v44 : EB V main_while1b_v44 = (subi : C F S_ .i32 → C F S_ .i32 → C F S_ .i32) (EB V main_while1b_c_33) (EB V main_v24_9) :=
  Fix.binary_eq (a := main_while1b_c_33) (b := main_v24_9) (y := main_while1b_v44) wB 1 V (subi : C F S_ .i32 → C F S_ .i32 → C F S_ .i32) _ _ _ rfl
theorem B_while1b_c_34 : EB V main_while1b_c_34 = (constantI S_ 32 1#32) :=
  Fix.nullary_eq (y := main_while1b_c_34) wB 2 V (constantI S_ 32 1#32) _ rfl
theorem B_while1b_v45 : EB V main_while1b_v45 = (subi : C F S_ .i32 → C F S_ .i32 → C F S_ .i32) (EB V main_while1b_v44) (EB V main_while1b_c_34) :=
  Fix.binary_eq (a := main_while1b_v44) (b := main_while1b_c_34) (y := main_while1b_v45) wB 3 V (subi : C F S_ .i32 → C F S_ .i32 → C F S_ .i32) _ _ _ rfl
theorem B_while1b_v46 : EB V main_while1b_v46 = shapeCast S8x64x128 (Host.dynamicSlice S1x8x64x128 (EB V main_v24_0 : C F S32x8x64x128 .f32) (st4 (EB V main_while1b_v45)) sliceFits_S32x8x64x128_S1x8x64x128) shapeCasts_S1x8x64x128_S8x64x128 := by
  have h : EB V main_while1b_call11_v0 = ds_S32x8x64x128 (EB V main_v24_0) (![EB V main_while1b_v45, EB V main_while1b_call11_c, EB V main_while1b_call11_c_0, EB V main_while1b_call11_c_1]) :=
    (Fix.unaryIndexedT_eq wB 7 V (.of main_v24_0 : TRef sig ⟨S32x8x64x128, .f32⟩) ![(.of main_while1b_v45 : TRef sig ⟨S_, .i32⟩), main_while1b_call11.c, main_while1b_call11.c_0, main_while1b_call11.c_1] main_while1b_call11.v0 ds_S32x8x64x128 rfl).trans
      (congrArg (ds_S32x8x64x128 (EB V main_v24_0)) (funext fun k => match k with
        | 0 => rfl
        | 1 => rfl
        | 2 => rfl
        | 3 => rfl))
  unfold ds_S32x8x64x128 at h
  rw [st4_eq _ (Fix.nullary_eq (y := main_while1b_call11_c) wB 4 V _ _ rfl) (Fix.nullary_eq (y := main_while1b_call11_c_0) wB 5 V _ _ rfl) (Fix.nullary_eq (y := main_while1b_call11_c_1) wB 6 V _ _ rfl)] at h
  exact (Fix.reshape_eq (x := main_while1b_call11_v0) (y := main_while1b_v46) wB 8 V _ _ _ _ rfl).trans (congrArg (fun z => shapeCast S8x64x128 z shapeCasts_S1x8x64x128_S8x64x128) h)
theorem B_while1b_v47 : EB V main_while1b_v47 = shapeCast S8x128x128 (Host.dynamicSlice S1x8x128x128 (EB V main_v24_1 : C F S32x8x128x128 .f32) (st4 (EB V main_while1b_v45)) sliceFits_S32x8x128x128_S1x8x128x128) shapeCasts_S1x8x128x128_S8x128x128 := by
  have h : EB V main_while1b_call12_v0 = ds_S32x8x128x128 (EB V main_v24_1) (![EB V main_while1b_v45, EB V main_while1b_call12_c, EB V main_while1b_call12_c_0, EB V main_while1b_call12_c_1]) :=
    (Fix.unaryIndexedT_eq wB 12 V (.of main_v24_1 : TRef sig ⟨S32x8x128x128, .f32⟩) ![(.of main_while1b_v45 : TRef sig ⟨S_, .i32⟩), main_while1b_call12.c, main_while1b_call12.c_0, main_while1b_call12.c_1] main_while1b_call12.v0 ds_S32x8x128x128 rfl).trans
      (congrArg (ds_S32x8x128x128 (EB V main_v24_1)) (funext fun k => match k with
        | 0 => rfl
        | 1 => rfl
        | 2 => rfl
        | 3 => rfl))
  unfold ds_S32x8x128x128 at h
  rw [st4_eq _ (Fix.nullary_eq (y := main_while1b_call12_c) wB 9 V _ _ rfl) (Fix.nullary_eq (y := main_while1b_call12_c_0) wB 10 V _ _ rfl) (Fix.nullary_eq (y := main_while1b_call12_c_1) wB 11 V _ _ rfl)] at h
  exact (Fix.reshape_eq (x := main_while1b_call12_v0) (y := main_while1b_v47) wB 13 V _ _ _ _ rfl).trans (congrArg (fun z => shapeCast S8x128x128 z shapeCasts_S1x8x128x128_S8x128x128) h)
theorem B_while1b_v48 : EB V main_while1b_v48 = shapeCast S8x64x128 (Host.dynamicSlice S1x8x64x128 (EB V main_v24_2 : C F S32x8x64x128 .f32) (st4 (EB V main_while1b_v45)) sliceFits_S32x8x64x128_S1x8x64x128) shapeCasts_S1x8x64x128_S8x64x128 := by
  have h : EB V main_while1b_call13_v0 = ds_S32x8x64x128 (EB V main_v24_2) (![EB V main_while1b_v45, EB V main_while1b_call13_c, EB V main_while1b_call13_c_0, EB V main_while1b_call13_c_1]) :=
    (Fix.unaryIndexedT_eq wB 17 V (.of main_v24_2 : TRef sig ⟨S32x8x64x128, .f32⟩) ![(.of main_while1b_v45 : TRef sig ⟨S_, .i32⟩), main_while1b_call13.c, main_while1b_call13.c_0, main_while1b_call13.c_1] main_while1b_call13.v0 ds_S32x8x64x128 rfl).trans
      (congrArg (ds_S32x8x64x128 (EB V main_v24_2)) (funext fun k => match k with
        | 0 => rfl
        | 1 => rfl
        | 2 => rfl
        | 3 => rfl))
  unfold ds_S32x8x64x128 at h
  rw [st4_eq _ (Fix.nullary_eq (y := main_while1b_call13_c) wB 14 V _ _ rfl) (Fix.nullary_eq (y := main_while1b_call13_c_0) wB 15 V _ _ rfl) (Fix.nullary_eq (y := main_while1b_call13_c_1) wB 16 V _ _ rfl)] at h
  exact (Fix.reshape_eq (x := main_while1b_call13_v0) (y := main_while1b_v48) wB 18 V _ _ _ _ rfl).trans (congrArg (fun z => shapeCast S8x64x128 z shapeCasts_S1x8x64x128_S8x64x128) h)
theorem B_while1b_v49 : EB V main_while1b_v49 = shapeCast S8x64x128 (Host.dynamicSlice S1x8x64x128 (EB V main_v24_3 : C F S32x8x64x128 .f32) (st4 (EB V main_while1b_v45)) sliceFits_S32x8x64x128_S1x8x64x128) shapeCasts_S1x8x64x128_S8x64x128 := by
  have h : EB V main_while1b_call14_v0 = ds_S32x8x64x128 (EB V main_v24_3) (![EB V main_while1b_v45, EB V main_while1b_call14_c, EB V main_while1b_call14_c_0, EB V main_while1b_call14_c_1]) :=
    (Fix.unaryIndexedT_eq wB 22 V (.of main_v24_3 : TRef sig ⟨S32x8x64x128, .f32⟩) ![(.of main_while1b_v45 : TRef sig ⟨S_, .i32⟩), main_while1b_call14.c, main_while1b_call14.c_0, main_while1b_call14.c_1] main_while1b_call14.v0 ds_S32x8x64x128 rfl).trans
      (congrArg (ds_S32x8x64x128 (EB V main_v24_3)) (funext fun k => match k with
        | 0 => rfl
        | 1 => rfl
        | 2 => rfl
        | 3 => rfl))
  unfold ds_S32x8x64x128 at h
  rw [st4_eq _ (Fix.nullary_eq (y := main_while1b_call14_c) wB 19 V _ _ rfl) (Fix.nullary_eq (y := main_while1b_call14_c_0) wB 20 V _ _ rfl) (Fix.nullary_eq (y := main_while1b_call14_c_1) wB 21 V _ _ rfl)] at h
  exact (Fix.reshape_eq (x := main_while1b_call14_v0) (y := main_while1b_v49) wB 23 V _ _ _ _ rfl).trans (congrArg (fun z => shapeCast S8x64x128 z shapeCasts_S1x8x64x128_S8x64x128) h)
theorem B_while1b_v50 : EB V main_while1b_v50 = shapeCast S8x64x128 (Host.dynamicSlice S1x8x64x128 (EB V main_v24_4 : C F S32x8x64x128 .f32) (st4 (EB V main_while1b_v45)) sliceFits_S32x8x64x128_S1x8x64x128) shapeCasts_S1x8x64x128_S8x64x128 := by
  have h : EB V main_while1b_call15_v0 = ds_S32x8x64x128 (EB V main_v24_4) (![EB V main_while1b_v45, EB V main_while1b_call15_c, EB V main_while1b_call15_c_0, EB V main_while1b_call15_c_1]) :=
    (Fix.unaryIndexedT_eq wB 27 V (.of main_v24_4 : TRef sig ⟨S32x8x64x128, .f32⟩) ![(.of main_while1b_v45 : TRef sig ⟨S_, .i32⟩), main_while1b_call15.c, main_while1b_call15.c_0, main_while1b_call15.c_1] main_while1b_call15.v0 ds_S32x8x64x128 rfl).trans
      (congrArg (ds_S32x8x64x128 (EB V main_v24_4)) (funext fun k => match k with
        | 0 => rfl
        | 1 => rfl
        | 2 => rfl
        | 3 => rfl))
  unfold ds_S32x8x64x128 at h
  rw [st4_eq _ (Fix.nullary_eq (y := main_while1b_call15_c) wB 24 V _ _ rfl) (Fix.nullary_eq (y := main_while1b_call15_c_0) wB 25 V _ _ rfl) (Fix.nullary_eq (y := main_while1b_call15_c_1) wB 26 V _ _ rfl)] at h
  exact (Fix.reshape_eq (x := main_while1b_call15_v0) (y := main_while1b_v50) wB 28 V _ _ _ _ rfl).trans (congrArg (fun z => shapeCast S8x64x128 z shapeCasts_S1x8x64x128_S8x64x128) h)
theorem B_while1b_v51 : EB V main_while1b_v51 = shapeCast S8x64x64 (Host.dynamicSlice S1x8x64x64 (EB V main_v24_5 : C F S32x8x64x64 .f32) (st4 (EB V main_while1b_v45)) sliceFits_S32x8x64x64_S1x8x64x64) shapeCasts_S1x8x64x64_S8x64x64 := by
  have h : EB V main_while1b_call16_v0 = ds_S32x8x64x64 (EB V main_v24_5) (![EB V main_while1b_v45, EB V main_while1b_call16_c, EB V main_while1b_call16_c_0, EB V main_while1b_call16_c_1]) :=
    (Fix.unaryIndexedT_eq wB 32 V (.of main_v24_5 : TRef sig ⟨S32x8x64x64, .f32⟩) ![(.of main_while1b_v45 : TRef sig ⟨S_, .i32⟩), main_while1b_call16.c, main_while1b_call16.c_0, main_while1b_call16.c_1] main_while1b_call16.v0 ds_S32x8x64x64 rfl).trans
      (congrArg (ds_S32x8x64x64 (EB V main_v24_5)) (funext fun k => match k with
        | 0 => rfl
        | 1 => rfl
        | 2 => rfl
        | 3 => rfl))
  unfold ds_S32x8x64x64 at h
  rw [st4_eq _ (Fix.nullary_eq (y := main_while1b_call16_c) wB 29 V _ _ rfl) (Fix.nullary_eq (y := main_while1b_call16_c_0) wB 30 V _ _ rfl) (Fix.nullary_eq (y := main_while1b_call16_c_1) wB 31 V _ _ rfl)] at h
  exact (Fix.reshape_eq (x := main_while1b_call16_v0) (y := main_while1b_v51) wB 33 V _ _ _ _ rfl).trans (congrArg (fun z => shapeCast S8x64x64 z shapeCasts_S1x8x64x64_S8x64x64) h)
theorem B_while1b_v52 : EB V main_while1b_v52 = shapeCast S8 (Host.dynamicSlice S1x8 (EB V main_v24_6 : C F S32x8 .f32) (st2 (EB V main_while1b_v45)) sliceFits_S32x8_S1x8) shapeCasts_S1x8_S8 := by
  have h : EB V main_while1b_call17_v0 = ds_S32x8 (EB V main_v24_6) (![EB V main_while1b_v45, EB V main_while1b_call17_c]) :=
    (Fix.unaryIndexedT_eq wB 35 V (.of main_v24_6 : TRef sig ⟨S32x8, .f32⟩) ![(.of main_while1b_v45 : TRef sig ⟨S_, .i32⟩), main_while1b_call17.c] main_while1b_call17.v0 ds_S32x8 rfl).trans
      (congrArg (ds_S32x8 (EB V main_v24_6)) (funext fun k => match k with
        | 0 => rfl
        | 1 => rfl))
  unfold ds_S32x8 at h
  rw [st2_eq _ (Fix.nullary_eq (y := main_while1b_call17_c) wB 34 V _ _ rfl)] at h
  exact (Fix.reshape_eq (x := main_while1b_call17_v0) (y := main_while1b_v52) wB 36 V _ _ _ _ rfl).trans (congrArg (fun z => shapeCast S8 z shapeCasts_S1x8_S8) h)
theorem B_while1b_v53 : EB V main_while1b_v53 = shapeCast S8x1x1 (Host.dynamicSlice S1x8x1x1 (EB V main_v24_7 : C F S32x8x1x1 .f32) (st4 (EB V main_while1b_v45)) sliceFits_S32x8x1x1_S1x8x1x1) shapeCasts_S1x8x1x1_S8x1x1 := by
  have h : EB V main_while1b_call18_v0 = ds_S32x8x1x1 (EB V main_v24_7) (![EB V main_while1b_v45, EB V main_while1b_call18_c, EB V main_while1b_call18_c_0, EB V main_while1b_call18_c_1]) :=
    (Fix.unaryIndexedT_eq wB 40 V (.of main_v24_7 : TRef sig ⟨S32x8x1x1, .f32⟩) ![(.of main_while1b_v45 : TRef sig ⟨S_, .i32⟩), main_while1b_call18.c, main_while1b_call18.c_0, main_while1b_call18.c_1] main_while1b_call18.v0 ds_S32x8x1x1 rfl).trans
      (congrArg (ds_S32x8x1x1 (EB V main_v24_7)) (funext fun k => match k with
        | 0 => rfl
        | 1 => rfl
        | 2 => rfl
        | 3 => rfl))
  unfold ds_S32x8x1x1 at h
  rw [st4_eq _ (Fix.nullary_eq (y := main_while1b_call18_c) wB 37 V _ _ rfl) (Fix.nullary_eq (y := main_while1b_call18_c_0) wB 38 V _ _ rfl) (Fix.nullary_eq (y := main_while1b_call18_c_1) wB 39 V _ _ rfl)] at h
  exact (Fix.reshape_eq (x := main_while1b_call18_v0) (y := main_while1b_v53) wB 41 V _ _ _ _ rfl).trans (congrArg (fun z => shapeCast S8x1x1 z shapeCasts_S1x8x1x1_S8x1x1) h)
theorem B_while1b_v54 : EB V main_while1b_v54 = shapeCast S8x64x128 (Host.dynamicSlice S1x8x64x128 (EB V main_v24_8 : C F S32x8x64x128 .f32) (st4 (EB V main_while1b_v45)) sliceFits_S32x8x64x128_S1x8x64x128) shapeCasts_S1x8x64x128_S8x64x128 := by
  have h : EB V main_while1b_call19_v0 = ds_S32x8x64x128 (EB V main_v24_8) (![EB V main_while1b_v45, EB V main_while1b_call19_c, EB V main_while1b_call19_c_0, EB V main_while1b_call19_c_1]) :=
    (Fix.unaryIndexedT_eq wB 45 V (.of main_v24_8 : TRef sig ⟨S32x8x64x128, .f32⟩) ![(.of main_while1b_v45 : TRef sig ⟨S_, .i32⟩), main_while1b_call19.c, main_while1b_call19.c_0, main_while1b_call19.c_1] main_while1b_call19.v0 ds_S32x8x64x128 rfl).trans
      (congrArg (ds_S32x8x64x128 (EB V main_v24_8)) (funext fun k => match k with
        | 0 => rfl
        | 1 => rfl
        | 2 => rfl
        | 3 => rfl))
  unfold ds_S32x8x64x128 at h
  rw [st4_eq _ (Fix.nullary_eq (y := main_while1b_call19_c) wB 42 V _ _ rfl) (Fix.nullary_eq (y := main_while1b_call19_c_0) wB 43 V _ _ rfl) (Fix.nullary_eq (y := main_while1b_call19_c_1) wB 44 V _ _ rfl)] at h
  exact (Fix.reshape_eq (x := main_while1b_call19_v0) (y := main_while1b_v54) wB 46 V _ _ _ _ rfl).trans (congrArg (fun z => shapeCast S8x64x128 z shapeCasts_S1x8x64x128_S8x64x128) h)
theorem B_while1b_v55 : EB V main_while1b_v55 = ((fun l r => Host.dotGeneral dot_S8x128x128_S8x64x128_S8x128x64_1_2_2_1_0_0 none l r) : C F S8x128x128 .f32 → C F S8x64x128 .f32 → C F S8x128x64 .f32) (EB V main_v24_10) (EB V main_while1b_v54) :=
  Fix.binary_eq (a := main_v24_10) (b := main_while1b_v54) (y := main_while1b_v55) wB 47 V ((fun l r => Host.dotGeneral dot_S8x128x128_S8x64x128_S8x128x64_1_2_2_1_0_0 none l r) : C F S8x128x128 .f32 → C F S8x64x128 .f32 → C F S8x128x64 .f32) _ _ _ rfl
theorem B_while1b_v56 : EB V main_while1b_v56 = ((transpose S8x64x128 [0, 2, 1] · transposes_S8x128x64_S8x64x128_0_2_1) : C F S8x128x64 .f32 → C F S8x64x128 .f32) (EB V main_while1b_v55) :=
  Fix.unary_eq (x := main_while1b_v55) (y := main_while1b_v56) wB 48 V ((transpose S8x64x128 [0, 2, 1] · transposes_S8x128x64_S8x64x128_0_2_1) : C F S8x128x64 .f32 → C F S8x64x128 .f32) _ _ rfl
theorem B_while1b_v57 : EB V main_while1b_v57 = ((fun l r => Host.dotGeneral dot_S8x128x128_S8x64x128_S8x128x64_2_2_1_1_0_0 none l r) : C F S8x128x128 .f32 → C F S8x64x128 .f32 → C F S8x128x64 .f32) (EB V main_v24_10) (EB V main_while1b_v50) :=
  Fix.binary_eq (a := main_v24_10) (b := main_while1b_v50) (y := main_while1b_v57) wB 49 V ((fun l r => Host.dotGeneral dot_S8x128x128_S8x64x128_S8x128x64_2_2_1_1_0_0 none l r) : C F S8x128x128 .f32 → C F S8x64x128 .f32 → C F S8x128x64 .f32) _ _ _ rfl
theorem B_while1b_v58 : EB V main_while1b_v58 = ((transpose S8x64x128 [0, 2, 1] · transposes_S8x128x64_S8x64x128_0_2_1) : C F S8x128x64 .f32 → C F S8x64x128 .f32) (EB V main_while1b_v57) :=
  Fix.unary_eq (x := main_while1b_v57) (y := main_while1b_v58) wB 50 V ((transpose S8x64x128 [0, 2, 1] · transposes_S8x128x64_S8x64x128_0_2_1) : C F S8x128x64 .f32 → C F S8x64x128 .f32) _ _ rfl
theorem B_while1b_v59 : EB V main_while1b_v59 = (mulf : C F S8x128x128 .f32 → C F S8x128x128 .f32 → C F S8x128x128 .f32) (EB V main_while1b_v47) (EB V main_v24_10) :=
  Fix.binary_eq (a := main_while1b_v47) (b := main_v24_10) (y := main_while1b_v59) wB 51 V (mulf : C F S8x128x128 .f32 → C F S8x128x128 .f32 → C F S8x128x128 .f32) _ _ _ rfl
theorem B_while1b_cst_35 : EB V main_while1b_cst_35 = (constant S_ .f32 0x00000000#32) :=
  Fix.nullary_eq (y := main_while1b_cst_35) wB 52 V (constant S_ .f32 0x00000000#32) _ rfl
theorem B_while1b_v60 : EB V main_while1b_v60 = ((fun x v => Host.reduceAdd x v reducesTo_S8x128x128_S8_d1_2 h_S_) : C F S8x128x128 .f32 → C F S_ .f32 → C F S8 .f32) (EB V main_while1b_v59) (EB V main_while1b_cst_35) :=
  Fix.binary_eq (a := main_while1b_v59) (b := main_while1b_cst_35) (y := main_while1b_v60) wB 53 V ((fun x v => Host.reduceAdd x v reducesTo_S8x128x128_S8_d1_2 h_S_) : C F S8x128x128 .f32 → C F S_ .f32 → C F S8 .f32) _ _ _ rfl
theorem B_while1b_v61 : EB V main_while1b_v61 = shapeCast S8x1x1 (EB V main_while1b_v60 : C F S8 .f32) shapeCasts_S8_S8x1x1 :=
  Fix.reshape_eq (x := main_while1b_v60) (y := main_while1b_v61) wB 54 V _ _ _ _ rfl
theorem B_while1b_v62 : EB V main_while1b_v62 = (broadcastInDim S8x128x128 ![0, 1, 2] bcast_S8x1x1_S8x128x128_0_1_2 : C F S8x1x1 .f32 → C F S8x128x128 .f32) (EB V main_while1b_v53) :=
  Fix.unary_eq (x := main_while1b_v53) (y := main_while1b_v62) wB 55 V (broadcastInDim S8x128x128 ![0, 1, 2] bcast_S8x1x1_S8x128x128_0_1_2 : C F S8x1x1 .f32 → C F S8x128x128 .f32) _ _ rfl
theorem B_while1b_v63 : EB V main_while1b_v63 = (mulf : C F S8x128x128 .f32 → C F S8x128x128 .f32 → C F S8x128x128 .f32) (EB V main_v24_10) (EB V main_while1b_v62) :=
  Fix.binary_eq (a := main_v24_10) (b := main_while1b_v62) (y := main_while1b_v63) wB 56 V (mulf : C F S8x128x128 .f32 → C F S8x128x128 .f32 → C F S8x128x128 .f32) _ _ _ rfl
theorem B_while1b_cst_36 : EB V main_while1b_cst_36 = (constant S_ .f32 0x00000000#32) :=
  Fix.nullary_eq (y := main_while1b_cst_36) wB 57 V (constant S_ .f32 0x00000000#32) _ rfl
theorem B_while1b_v64 : EB V main_while1b_v64 = ((fun x v => Host.reduceAdd x v reducesTo_S8x1x1_S8_d1_2 h_S_) : C F S8x1x1 .f32 → C F S_ .f32 → C F S8 .f32) (EB V main_while1b_v61) (EB V main_while1b_cst_36) :=
  Fix.binary_eq (a := main_while1b_v61) (b := main_while1b_cst_36) (y := main_while1b_v64) wB 58 V ((fun x v => Host.reduceAdd x v reducesTo_S8x1x1_S8_d1_2 h_S_) : C F S8x1x1 .f32 → C F S_ .f32 → C F S8 .f32) _ _ _ rfl
theorem B_while1b_v65 : EB V main_while1b_v65 = (mulf : C F S8 .f32 → C F S8 .f32 → C F S8 .f32) (EB V main_while1b_v64) (EB V main_while1b_v52) :=
  Fix.binary_eq (a := main_while1b_v64) (b := main_while1b_v52) (y := main_while1b_v65) wB 59 V (mulf : C F S8 .f32 → C F S8 .f32 → C F S8 .f32) _ _ _ rfl
theorem B_while1b_v66 : EB V main_while1b_v66 = ((fun l r => Host.dotGeneral dot_S8x64x128_S8x64x64_S8x128x64_1_1_2_2_0_0 none l r) : C F S8x64x128 .f32 → C F S8x64x64 .f32 → C F S8x128x64 .f32) (EB V main_while1b_v46) (EB V main_while1b_v51) :=
  Fix.binary_eq (a := main_while1b_v46) (b := main_while1b_v51) (y := main_while1b_v66) wB 60 V ((fun l r => Host.dotGeneral dot_S8x64x128_S8x64x64_S8x128x64_1_1_2_2_0_0 none l r) : C F S8x64x128 .f32 → C F S8x64x64 .f32 → C F S8x128x64 .f32) _ _ _ rfl
theorem B_while1b_v67 : EB V main_while1b_v67 = ((transpose S8x64x128 [0, 2, 1] · transposes_S8x128x64_S8x64x128_0_2_1) : C F S8x128x64 .f32 → C F S8x64x128 .f32) (EB V main_while1b_v66) :=
  Fix.unary_eq (x := main_while1b_v66) (y := main_while1b_v67) wB 61 V ((transpose S8x64x128 [0, 2, 1] · transposes_S8x128x64_S8x64x128_0_2_1) : C F S8x128x64 .f32 → C F S8x64x128 .f32) _ _ rfl
theorem B_while1b_v68 : EB V main_while1b_v68 = (addf : C F S8x64x128 .f32 → C F S8x64x128 .f32 → C F S8x64x128 .f32) (EB V main_while1b_v56) (EB V main_while1b_v67) :=
  Fix.binary_eq (a := main_while1b_v56) (b := main_while1b_v67) (y := main_while1b_v68) wB 62 V (addf : C F S8x64x128 .f32 → C F S8x64x128 .f32 → C F S8x64x128 .f32) _ _ _ rfl
theorem B_while1b_v69 : EB V main_while1b_v69 = ((fun l r => Host.dotGeneral dot_S8x64x128_S8x64x128_S8x64x64_2_2_1_1_0_0 none l r) : C F S8x64x128 .f32 → C F S8x64x128 .f32 → C F S8x64x64 .f32) (EB V main_while1b_v46) (EB V main_while1b_v50) :=
  Fix.binary_eq (a := main_while1b_v46) (b := main_while1b_v50) (y := main_while1b_v69) wB 63 V ((fun l r => Host.dotGeneral dot_S8x64x128_S8x64x128_S8x64x64_2_2_1_1_0_0 none l r) : C F S8x64x128 .f32 → C F S8x64x128 .f32 → C F S8x64x64 .f32) _ _ _ rfl
theorem B_while1b_v70 : EB V main_while1b_v70 = ((fun l r => Host.dotGeneral dot_S8x64x128_S8x64x128_S8x128x128_1_1_2_2_0_0 none l r) : C F S8x64x128 .f32 → C F S8x64x128 .f32 → C F S8x128x128 .f32) (EB V main_while1b_v46) (EB V main_while1b_v49) :=
  Fix.binary_eq (a := main_while1b_v46) (b := main_while1b_v49) (y := main_while1b_v70) wB 64 V ((fun l r => Host.dotGeneral dot_S8x64x128_S8x64x128_S8x128x128_1_1_2_2_0_0 none l r) : C F S8x64x128 .f32 → C F S8x64x128 .f32 → C F S8x128x128 .f32) _ _ _ rfl
theorem B_while1b_v71 : EB V main_while1b_v71 = ((transpose S8x128x128 [0, 2, 1] · transposes_S8x128x128_S8x128x128_0_2_1) : C F S8x128x128 .f32 → C F S8x128x128 .f32) (EB V main_while1b_v70) :=
  Fix.unary_eq (x := main_while1b_v70) (y := main_while1b_v71) wB 65 V ((transpose S8x128x128 [0, 2, 1] · transposes_S8x128x128_S8x128x128_0_2_1) : C F S8x128x128 .f32 → C F S8x128x128 .f32) _ _ rfl
theorem B_while1b_v72 : EB V main_while1b_v72 = (addf : C F S8x128x128 .f32 → C F S8x128x128 .f32 → C F S8x128x128 .f32) (EB V main_while1b_v63) (EB V main_while1b_v71) :=
  Fix.binary_eq (a := main_while1b_v63) (b := main_while1b_v71) (y := main_while1b_v72) wB 66 V (addf : C F S8x128x128 .f32 → C F S8x128x128 .f32 → C F S8x128x128 .f32) _ _ _ rfl
theorem B_while1b_v73 : EB V main_while1b_v73 = ((fun l r => Host.dotGeneral dot_S8x64x128_S8x128x128_S8x64x128_2_2_1_1_0_0 none l r) : C F S8x64x128 .f32 → C F S8x128x128 .f32 → C F S8x64x128 .f32) (EB V main_while1b_v46) (EB V main_while1b_v47) :=
  Fix.binary_eq (a := main_while1b_v46) (b := main_while1b_v47) (y := main_while1b_v73) wB 67 V ((fun l r => Host.dotGeneral dot_S8x64x128_S8x128x128_S8x64x128_2_2_1_1_0_0 none l r) : C F S8x64x128 .f32 → C F S8x128x128 .f32 → C F S8x64x128 .f32) _ _ _ rfl
theorem B_while1b_v74 : EB V main_while1b_v74 = (Host.negf : C F S8x64x128 .f32 → C F S8x64x128 .f32) (EB V main_while1b_v68) :=
  Fix.unary_eq (x := main_while1b_v68) (y := main_while1b_v74) wB 68 V (Host.negf : C F S8x64x128 .f32 → C F S8x64x128 .f32) _ _ rfl
theorem B_while1b_v75 : EB V main_while1b_v75 = ((fun l r => Host.dotGeneral dot_S8x64x128_S8x64x128_S8x128x128_1_1_2_2_0_0 none l r) : C F S8x64x128 .f32 → C F S8x64x128 .f32 → C F S8x128x128 .f32) (EB V main_while1b_v74) (EB V main_while1b_v48) :=
  Fix.binary_eq (a := main_while1b_v74) (b := main_while1b_v48) (y := main_while1b_v75) wB 69 V ((fun l r => Host.dotGeneral dot_S8x64x128_S8x64x128_S8x128x128_1_1_2_2_0_0 none l r) : C F S8x64x128 .f32 → C F S8x64x128 .f32 → C F S8x128x128 .f32) _ _ _ rfl
theorem B_while1b_v76 : EB V main_while1b_v76 = ((transpose S8x128x128 [0, 2, 1] · transposes_S8x128x128_S8x128x128_0_2_1) : C F S8x128x128 .f32 → C F S8x128x128 .f32) (EB V main_while1b_v75) :=
  Fix.unary_eq (x := main_while1b_v75) (y := main_while1b_v76) wB 70 V ((transpose S8x128x128 [0, 2, 1] · transposes_S8x128x128_S8x128x128_0_2_1) : C F S8x128x128 .f32 → C F S8x128x128 .f32) _ _ rfl
theorem B_while1b_v77 : EB V main_while1b_v77 = (addf : C F S8x128x128 .f32 → C F S8x128x128 .f32 → C F S8x128x128 .f32) (EB V main_while1b_v72) (EB V main_while1b_v76) :=
  Fix.binary_eq (a := main_while1b_v72) (b := main_while1b_v76) (y := main_while1b_v77) wB 71 V (addf : C F S8x128x128 .f32 → C F S8x128x128 .f32 → C F S8x128x128 .f32) _ _ _ rfl
theorem B_while1b_v78 : EB V main_while1b_v78 = ((fun l r => Host.dotGeneral dot_S8x64x128_S8x128x128_S8x64x128_2_2_1_1_0_0 none l r) : C F S8x64x128 .f32 → C F S8x128x128 .f32 → C F S8x64x128 .f32) (EB V main_while1b_v74) (EB V main_while1b_v47) :=
  Fix.binary_eq (a := main_while1b_v74) (b := main_while1b_v47) (y := main_while1b_v78) wB 72 V ((fun l r => Host.dotGeneral dot_S8x64x128_S8x128x128_S8x64x128_2_2_1_1_0_0 none l r) : C F S8x64x128 .f32 → C F S8x128x128 .f32 → C F S8x64x128 .f32) _ _ _ rfl
theorem B_while1b_v79 : EB V main_while1b_v79 = Host.dynamicUpdateSlice (EB V main_v24_11 : C F S32x8x64x128 .f32) (broadcastInDim S1x8x64x128 ![1, 2, 3] bcast_S8x64x128_S1x8x64x128_1_2_3 (EB V main_while1b_v73 : C F S8x64x128 .f32)) (st4 (EB V main_while1b_v45)) updateFits_S32x8x64x128_S1x8x64x128 := by
  have h : EB V main_while1b_v79 = du_S32x8x64x128 (EB V main_v24_11) (EB V main_while1b_call20_v0) (![EB V main_while1b_v45, EB V main_while1b_call20_c, EB V main_while1b_call20_c_0, EB V main_while1b_call20_c_1]) :=
    (Fix.binaryIndexedT_eq wB 77 V (.of main_v24_11 : TRef sig ⟨S32x8x64x128, .f32⟩) main_while1b_call20.v0 ![(.of main_while1b_v45 : TRef sig ⟨S_, .i32⟩), main_while1b_call20.c, main_while1b_call20.c_0, main_while1b_call20.c_1] main_while1b_call20.v1 du_S32x8x64x128 rfl).trans
      (congrArg (du_S32x8x64x128 (EB V main_v24_11) (EB V main_while1b_call20_v0)) (funext fun k => match k with
        | 0 => rfl
        | 1 => rfl
        | 2 => rfl
        | 3 => rfl))
  unfold du_S32x8x64x128 at h
  rw [st4_eq _ (Fix.nullary_eq (y := main_while1b_call20_c) wB 74 V _ _ rfl) (Fix.nullary_eq (y := main_while1b_call20_c_0) wB 75 V _ _ rfl) (Fix.nullary_eq (y := main_while1b_call20_c_1) wB 76 V _ _ rfl)] at h
  have h0 : EB V main_while1b_call20_v0 = broadcastInDim S1x8x64x128 ![1, 2, 3] bcast_S8x64x128_S1x8x64x128_1_2_3 (EB V main_while1b_v73 : C F S8x64x128 .f32) := Fix.unary_eq (x := main_while1b_v73) (y := main_while1b_call20_v0) wB 73 V _ _ _ rfl
  rw [h0] at h
  exact h
theorem B_while1b_v80 : EB V main_while1b_v80 = Host.dynamicUpdateSlice (EB V main_v24_12 : C F S32x8x64x128 .f32) (broadcastInDim S1x8x64x128 ![1, 2, 3] bcast_S8x64x128_S1x8x64x128_1_2_3 (EB V main_while1b_v58 : C F S8x64x128 .f32)) (st4 (EB V main_while1b_v45)) updateFits_S32x8x64x128_S1x8x64x128 := by
  have h : EB V main_while1b_v80 = du_S32x8x64x128 (EB V main_v24_12) (EB V main_while1b_call21_v0) (![EB V main_while1b_v45, EB V main_while1b_call21_c, EB V main_while1b_call21_c_0, EB V main_while1b_call21_c_1]) :=
    (Fix.binaryIndexedT_eq wB 82 V (.of main_v24_12 : TRef sig ⟨S32x8x64x128, .f32⟩) main_while1b_call21.v0 ![(.of main_while1b_v45 : TRef sig ⟨S_, .i32⟩), main_while1b_call21.c, main_while1b_call21.c_0, main_while1b_call21.c_1] main_while1b_call21.v1 du_S32x8x64x128 rfl).trans
      (congrArg (du_S32x8x64x128 (EB V main_v24_12) (EB V main_while1b_call21_v0)) (funext fun k => match k with
        | 0 => rfl
        | 1 => rfl
        | 2 => rfl
        | 3 => rfl))
  unfold du_S32x8x64x128 at h
  rw [st4_eq _ (Fix.nullary_eq (y := main_while1b_call21_c) wB 79 V _ _ rfl) (Fix.nullary_eq (y := main_while1b_call21_c_0) wB 80 V _ _ rfl) (Fix.nullary_eq (y := main_while1b_call21_c_1) wB 81 V _ _ rfl)] at h
  have h0 : EB V main_while1b_call21_v0 = broadcastInDim S1x8x64x128 ![1, 2, 3] bcast_S8x64x128_S1x8x64x128_1_2_3 (EB V main_while1b_v58 : C F S8x64x128 .f32) := Fix.unary_eq (x := main_while1b_v58) (y := main_while1b_call21_v0) wB 78 V _ _ _ rfl
  rw [h0] at h
  exact h
theorem B_while1b_v81 : EB V main_while1b_v81 = Host.dynamicUpdateSlice (EB V main_v24_13 : C F S32x8x64x128 .f32) (broadcastInDim S1x8x64x128 ![1, 2, 3] bcast_S8x64x128_S1x8x64x128_1_2_3 (EB V main_while1b_v68 : C F S8x64x128 .f32)) (st4 (EB V main_while1b_v45)) updateFits_S32x8x64x128_S1x8x64x128 := by
  have h : EB V main_while1b_v81 = du_S32x8x64x128 (EB V main_v24_13) (EB V main_while1b_call22_v0) (![EB V main_while1b_v45, EB V main_while1b_call22_c, EB V main_while1b_call22_c_0, EB V main_while1b_call22_c_1]) :=
    (Fix.binaryIndexedT_eq wB 87 V (.of main_v24_13 : TRef sig ⟨S32x8x64x128, .f32⟩) main_while1b_call22.v0 ![(.of main_while1b_v45 : TRef sig ⟨S_, .i32⟩), main_while1b_call22.c, main_while1b_call22.c_0, main_while1b_call22.c_1] main_while1b_call22.v1 du_S32x8x64x128 rfl).trans
      (congrArg (du_S32x8x64x128 (EB V main_v24_13) (EB V main_while1b_call22_v0)) (funext fun k => match k with
        | 0 => rfl
        | 1 => rfl
        | 2 => rfl
        | 3 => rfl))
  unfold du_S32x8x64x128 at h
  rw [st4_eq _ (Fix.nullary_eq (y := main_while1b_call22_c) wB 84 V _ _ rfl) (Fix.nullary_eq (y := main_while1b_call22_c_0) wB 85 V _ _ rfl) (Fix.nullary_eq (y := main_while1b_call22_c_1) wB 86 V _ _ rfl)] at h
  have h0 : EB V main_while1b_call22_v0 = broadcastInDim S1x8x64x128 ![1, 2, 3] bcast_S8x64x128_S1x8x64x128_1_2_3 (EB V main_while1b_v68 : C F S8x64x128 .f32) := Fix.unary_eq (x := main_while1b_v68) (y := main_while1b_call22_v0) wB 83 V _ _ _ rfl
  rw [h0] at h
  exact h
theorem B_while1b_v82 : EB V main_while1b_v82 = Host.dynamicUpdateSlice (EB V main_v24_14 : C F S32x8x64x128 .f32) (broadcastInDim S1x8x64x128 ![1, 2, 3] bcast_S8x64x128_S1x8x64x128_1_2_3 (EB V main_while1b_v78 : C F S8x64x128 .f32)) (st4 (EB V main_while1b_v45)) updateFits_S32x8x64x128_S1x8x64x128 := by
  have h : EB V main_while1b_v82 = du_S32x8x64x128 (EB V main_v24_14) (EB V main_while1b_call23_v0) (![EB V main_while1b_v45, EB V main_while1b_call23_c, EB V main_while1b_call23_c_0, EB V main_while1b_call23_c_1]) :=
    (Fix.binaryIndexedT_eq wB 92 V (.of main_v24_14 : TRef sig ⟨S32x8x64x128, .f32⟩) main_while1b_call23.v0 ![(.of main_while1b_v45 : TRef sig ⟨S_, .i32⟩), main_while1b_call23.c, main_while1b_call23.c_0, main_while1b_call23.c_1] main_while1b_call23.v1 du_S32x8x64x128 rfl).trans
      (congrArg (du_S32x8x64x128 (EB V main_v24_14) (EB V main_while1b_call23_v0)) (funext fun k => match k with
        | 0 => rfl
        | 1 => rfl
        | 2 => rfl
        | 3 => rfl))
  unfold du_S32x8x64x128 at h
  rw [st4_eq _ (Fix.nullary_eq (y := main_while1b_call23_c) wB 89 V _ _ rfl) (Fix.nullary_eq (y := main_while1b_call23_c_0) wB 90 V _ _ rfl) (Fix.nullary_eq (y := main_while1b_call23_c_1) wB 91 V _ _ rfl)] at h
  have h0 : EB V main_while1b_call23_v0 = broadcastInDim S1x8x64x128 ![1, 2, 3] bcast_S8x64x128_S1x8x64x128_1_2_3 (EB V main_while1b_v78 : C F S8x64x128 .f32) := Fix.unary_eq (x := main_while1b_v78) (y := main_while1b_call23_v0) wB 88 V _ _ _ rfl
  rw [h0] at h
  exact h
theorem B_while1b_v83 : EB V main_while1b_v83 = Host.dynamicUpdateSlice (EB V main_v24_15 : C F S32x8x64x64 .f32) (broadcastInDim S1x8x64x64 ![1, 2, 3] bcast_S8x64x64_S1x8x64x64_1_2_3 (EB V main_while1b_v69 : C F S8x64x64 .f32)) (st4 (EB V main_while1b_v45)) updateFits_S32x8x64x64_S1x8x64x64 := by
  have h : EB V main_while1b_v83 = du_S32x8x64x64 (EB V main_v24_15) (EB V main_while1b_call24_v0) (![EB V main_while1b_v45, EB V main_while1b_call24_c, EB V main_while1b_call24_c_0, EB V main_while1b_call24_c_1]) :=
    (Fix.binaryIndexedT_eq wB 97 V (.of main_v24_15 : TRef sig ⟨S32x8x64x64, .f32⟩) main_while1b_call24.v0 ![(.of main_while1b_v45 : TRef sig ⟨S_, .i32⟩), main_while1b_call24.c, main_while1b_call24.c_0, main_while1b_call24.c_1] main_while1b_call24.v1 du_S32x8x64x64 rfl).trans
      (congrArg (du_S32x8x64x64 (EB V main_v24_15) (EB V main_while1b_call24_v0)) (funext fun k => match k with
        | 0 => rfl
        | 1 => rfl
        | 2 => rfl
        | 3 => rfl))
  unfold du_S32x8x64x64 at h
  rw [st4_eq _ (Fix.nullary_eq (y := main_while1b_call24_c) wB 94 V _ _ rfl) (Fix.nullary_eq (y := main_while1b_call24_c_0) wB 95 V _ _ rfl) (Fix.nullary_eq (y := main_while1b_call24_c_1) wB 96 V _ _ rfl)] at h
  have h0 : EB V main_while1b_call24_v0 = broadcastInDim S1x8x64x64 ![1, 2, 3] bcast_S8x64x64_S1x8x64x64_1_2_3 (EB V main_while1b_v69 : C F S8x64x64 .f32) := Fix.unary_eq (x := main_while1b_v69) (y := main_while1b_call24_v0) wB 93 V _ _ _ rfl
  rw [h0] at h
  exact h
theorem B_while1b_v84 : EB V main_while1b_v84 = Host.dynamicUpdateSlice (EB V main_v24_16 : C F S32x8 .f32) (broadcastInDim S1x8 ![1] bcast_S8_S1x8_1 (EB V main_while1b_v65 : C F S8 .f32)) (st2 (EB V main_while1b_v45)) updateFits_S32x8_S1x8 := by
  have h : EB V main_while1b_v84 = du_S32x8 (EB V main_v24_16) (EB V main_while1b_call25_v0) (![EB V main_while1b_v45, EB V main_while1b_call25_c]) :=
    (Fix.binaryIndexedT_eq wB 100 V (.of main_v24_16 : TRef sig ⟨S32x8, .f32⟩) main_while1b_call25.v0 ![(.of main_while1b_v45 : TRef sig ⟨S_, .i32⟩), main_while1b_call25.c] main_while1b_call25.v1 du_S32x8 rfl).trans
      (congrArg (du_S32x8 (EB V main_v24_16) (EB V main_while1b_call25_v0)) (funext fun k => match k with
        | 0 => rfl
        | 1 => rfl))
  unfold du_S32x8 at h
  rw [st2_eq _ (Fix.nullary_eq (y := main_while1b_call25_c) wB 99 V _ _ rfl)] at h
  have h0 : EB V main_while1b_call25_v0 = broadcastInDim S1x8 ![1] bcast_S8_S1x8_1 (EB V main_while1b_v65 : C F S8 .f32) := Fix.unary_eq (x := main_while1b_v65) (y := main_while1b_call25_v0) wB 98 V _ _ _ rfl
  rw [h0] at h
  exact h

end

/-! ## Stretch B2 -/

/-- Its operations and what they write. -/
def opsB2 : List (HloOp τ sig (Elt F)) := List.flatten [b1_17]
def WB2 : List (Ref sig .tc) := b1_17_W
theorem wB2 : Fix.Writes (opsB2 (F := F)) WB2 := by
  unfold Fix.Writes
  rfl
/-- What a buffer holds after them. -/
def EB2 (V : Valuation τ sig (Elt F)) (b : Ref sig .tc) : b.ty.Contents (Elt F) := after opsB2 V (Proc.devRef .tc b)
theorem EB2_keep (V : Valuation τ sig (Elt F)) (b : Ref sig .tc) (h : b ∉ WB2) : EB2 V b = V (Proc.devRef .tc b) := Fix.keep wB2 h V

section
variable (V : Valuation τ sig (Elt F))

theorem B2_v24_10 : EB2 V main_v24_10 = EB2 V main_while1b_v77 :=
  Fix.unary_eq (x := main_while1b_v77) (y := main_v24_10) wB2 3 V id _ _ rfl
theorem B2_v24_11 : EB2 V main_v24_11 = EB2 V main_while1b_v79 :=
  Fix.unary_eq (x := main_while1b_v79) (y := main_v24_11) wB2 4 V id _ _ rfl
theorem B2_v24_12 : EB2 V main_v24_12 = EB2 V main_while1b_v80 :=
  Fix.unary_eq (x := main_while1b_v80) (y := main_v24_12) wB2 5 V id _ _ rfl
theorem B2_v24_13 : EB2 V main_v24_13 = EB2 V main_while1b_v81 :=
  Fix.unary_eq (x := main_while1b_v81) (y := main_v24_13) wB2 6 V id _ _ rfl
theorem B2_v24_14 : EB2 V main_v24_14 = EB2 V main_while1b_v82 :=
  Fix.unary_eq (x := main_while1b_v82) (y := main_v24_14) wB2 7 V id _ _ rfl
theorem B2_v24_15 : EB2 V main_v24_15 = EB2 V main_while1b_v83 :=
  Fix.unary_eq (x := main_while1b_v83) (y := main_v24_15) wB2 8 V id _ _ rfl
theorem B2_v24_16 : EB2 V main_v24_16 = EB2 V main_while1b_v84 :=
  Fix.unary_eq (x := main_while1b_v84) (y := main_v24_16) wB2 9 V id _ _ rfl

end

/-! ## Stretch Q -/

/-- Its operations and what they write. -/
def opsQ : List (HloOp τ sig (Elt F)) := List.flatten [post_0, post_1, post_2, post_3]
def WQ : List (Ref sig .tc) := post_0_W ++ post_1_W ++ post_2_W ++ post_3_W
theorem wQ : Fix.Writes (opsQ (F := F)) WQ := by
  unfold Fix.Writes
  rfl
/-- What a buffer holds after them. -/
def EQ (V : Valuation τ sig (Elt F)) (b : Ref sig .tc) : b.ty.Contents (Elt F) := after opsQ V (Proc.devRef .tc b)
theorem EQ_keep (V : Valuation τ sig (Elt F)) (b : Ref sig .tc) (h : b ∉ WQ) : EQ V b = V (Proc.devRef .tc b) := Fix.keep wQ h V

section
variable (V : Valuation τ sig (Elt F))

theorem Q_v25 : EQ V main_v25 = ((transpose S8x32x64x64 [1, 0, 2, 3] · transposes_S32x8x64x64_S8x32x64x64_1_0_2_3) : C F S32x8x64x64 .f32 → C F S8x32x64x64 .f32) (EQ V main_v24_15) :=
  Fix.unary_eq (x := main_v24_15) (y := main_v25) wQ 0 V ((transpose S8x32x64x64 [1, 0, 2, 3] · transposes_S32x8x64x64_S8x32x64x64_1_0_2_3) : C F S32x8x64x64 .f32 → C F S8x32x64x64 .f32) _ _ rfl
theorem Q_v26 : EQ V main_v26 = ((transpose S8x32x64x128 [1, 0, 2, 3] · transposes_S32x8x64x128_S8x32x64x128_1_0_2_3) : C F S32x8x64x128 .f32 → C F S8x32x64x128 .f32) (EQ V main_v24_14) :=
  Fix.unary_eq (x := main_v24_14) (y := main_v26) wQ 1 V ((transpose S8x32x64x128 [1, 0, 2, 3] · transposes_S32x8x64x128_S8x32x64x128_1_0_2_3) : C F S32x8x64x128 .f32 → C F S8x32x64x128 .f32) _ _ rfl
theorem Q_v27 : EQ V main_v27 = ((transpose S8x32x64x128 [1, 0, 2, 3] · transposes_S32x8x64x128_S8x32x64x128_1_0_2_3) : C F S32x8x64x128 .f32 → C F S8x32x64x128 .f32) (EQ V main_v24_13) :=
  Fix.unary_eq (x := main_v24_13) (y := main_v27) wQ 2 V ((transpose S8x32x64x128 [1, 0, 2, 3] · transposes_S32x8x64x128_S8x32x64x128_1_0_2_3) : C F S32x8x64x128 .f32 → C F S8x32x64x128 .f32) _ _ rfl
theorem Q_v28 : EQ V main_v28 = ((transpose S8x32x64x128 [1, 0, 2, 3] · transposes_S32x8x64x128_S8x32x64x128_1_0_2_3) : C F S32x8x64x128 .f32 → C F S8x32x64x128 .f32) (EQ V main_v24_12) :=
  Fix.unary_eq (x := main_v24_12) (y := main_v28) wQ 3 V ((transpose S8x32x64x128 [1, 0, 2, 3] · transposes_S32x8x64x128_S8x32x64x128_1_0_2_3) : C F S32x8x64x128 .f32 → C F S8x32x64x128 .f32) _ _ rfl
theorem Q_v29 : EQ V main_v29 = ((transpose S8x32x64x128 [1, 0, 2, 3] · transposes_S32x8x64x128_S8x32x64x128_1_0_2_3) : C F S32x8x64x128 .f32 → C F S8x32x64x128 .f32) (EQ V main_v24_11) :=
  Fix.unary_eq (x := main_v24_11) (y := main_v29) wQ 4 V ((transpose S8x32x64x128 [1, 0, 2, 3] · transposes_S32x8x64x128_S8x32x64x128_1_0_2_3) : C F S32x8x64x128 .f32 → C F S8x32x64x128 .f32) _ _ rfl
theorem Q_c_15 : EQ V main_c_15 = (constantI S_ 1 1#1) :=
  Fix.nullary_eq (y := main_c_15) wQ 5 V (constantI S_ 1 1#1) _ rfl
theorem Q_v30 : EQ V main_v30 = (broadcastInDim S64x64 ![] bcast_S_S64x64 : C F S_ .i1 → C F S64x64 .i1) (EQ V main_c_15) :=
  Fix.unary_eq (x := main_c_15) (y := main_v30) wQ 6 V (broadcastInDim S64x64 ![] bcast_S_S64x64 : C F S_ .i1 → C F S64x64 .i1) _ _ rfl
theorem Q_v31 : EQ V main_v31 = (select (cmpi .sge (addi (iotaInDim S64x64 32 0) (broadcastInDim S64x64 ![] bcast_S_S64x64 (z32 (F := F)))) (iotaInDim S64x64 32 1) : C F S64x64 .i1)
    (EQ V main_v30 : C F S64x64 .i1) (broadcastInDim S64x64 ![] bcast_S_S64x64 (constantI S_ 1 0#1) : C F S64x64 .i1) : C F S64x64 .i1) := by
  have h0 : EQ V main_call26_v0 = iotaInDim S64x64 32 0 := Fix.nullary_eq (y := main_call26_v0) wQ 7 V _ _ rfl
  have h1 : EQ V main_call26_c = z32 (F := F) := Fix.nullary_eq (y := main_call26_c) wQ 8 V _ _ rfl
  have h2 : EQ V main_call26_v1 = broadcastInDim S64x64 ![] bcast_S_S64x64 (EQ V main_call26_c) := Fix.unary_eq (x := main_call26_c) (y := main_call26_v1) wQ 9 V _ _ _ rfl
  have h3 : EQ V main_call26_v2 = addi (EQ V main_call26_v0 : C F S64x64 .i32) (EQ V main_call26_v1) := Fix.binary_eq (a := main_call26_v0) (b := main_call26_v1) (y := main_call26_v2) wQ 10 V _ _ _ _ rfl
  have h4 : EQ V main_call26_v3 = iotaInDim S64x64 32 1 := Fix.nullary_eq (y := main_call26_v3) wQ 11 V _ _ rfl
  have h5 : EQ V main_call26_v4 = cmpi .sge (EQ V main_call26_v2 : C F S64x64 .i32) (EQ V main_call26_v3) := Fix.binary_eq (a := main_call26_v2) (b := main_call26_v3) (y := main_call26_v4) wQ 12 V _ _ _ _ rfl
  have h6 : EQ V main_call26_c_0 = constantI S_ 1 0#1 := Fix.nullary_eq (y := main_call26_c_0) wQ 13 V _ _ rfl
  have h7 : EQ V main_call26_v5 = broadcastInDim S64x64 ![] bcast_S_S64x64 (EQ V main_call26_c_0) := Fix.unary_eq (x := main_call26_c_0) (y := main_call26_v5) wQ 14 V _ _ _ rfl
  have h8 : EQ V main_v31 = select (EQ V main_call26_v4 : C F S64x64 .i1) (EQ V main_v30 : C F S64x64 .i1) (EQ V main_call26_v5) := Fix.ternary_eq (c := main_call26_v4) (a := main_v30) (b := main_call26_v5) (y := main_v31) wQ 15 V _ _ _ _ _ rfl
  rw [h8, h7, h6, h5, h4, h3, h2, h1, h0]
theorem Q_v32 : EQ V main_v32 = ((transpose S8x32 [1, 0] · transposes_S32x8_S8x32_1_0) : C F S32x8 .f32 → C F S8x32 .f32) (EQ V main_v24_16) :=
  Fix.unary_eq (x := main_v24_16) (y := main_v32) wQ 16 V ((transpose S8x32 [1, 0] · transposes_S32x8_S8x32_1_0) : C F S32x8 .f32 → C F S8x32 .f32) _ _ rfl
theorem Q_v33 : EQ V main_v33 = (broadcastInDim S8x32x1x1 ![0, 1] bcast_S8x32_S8x32x1x1_0_1 : C F S8x32 .f32 → C F S8x32x1x1 .f32) (EQ V main_v32) :=
  Fix.unary_eq (x := main_v32) (y := main_v33) wQ 17 V (broadcastInDim S8x32x1x1 ![0, 1] bcast_S8x32_S8x32x1x1_0_1 : C F S8x32 .f32 → C F S8x32x1x1 .f32) _ _ rfl
theorem Q_v34 : EQ V main_v34 = (broadcastInDim S8x32x1x128 ![0, 1, 2, 3] bcast_S8x32x1x1_S8x32x1x128_0_1_2_3 : C F S8x32x1x1 .f32 → C F S8x32x1x128 .f32) (EQ V main_v33) :=
  Fix.unary_eq (x := main_v33) (y := main_v34) wQ 18 V (broadcastInDim S8x32x1x128 ![0, 1, 2, 3] bcast_S8x32x1x1_S8x32x1x128_0_1_2_3 : C F S8x32x1x1 .f32 → C F S8x32x1x128 .f32) _ _ rfl
theorem Q_v35 : EQ V main_v35 = ((transpose S32x64x8x128 [1, 2, 0, 3] · transposes_S8x32x64x128_S32x64x8x128_1_2_0_3) : C F S8x32x64x128 .f32 → C F S32x64x8x128 .f32) (EQ V main_v27) :=
  Fix.unary_eq (x := main_v27) (y := main_v35) wQ 19 V ((transpose S32x64x8x128 [1, 2, 0, 3] · transposes_S8x32x64x128_S32x64x8x128_1_2_0_3) : C F S8x32x64x128 .f32 → C F S32x64x8x128 .f32) _ _ rfl
theorem Q_v36 : EQ V main_v36 = shapeCast S2048x1024 (EQ V main_v35 : C F S32x64x8x128 .f32) shapeCasts_S32x64x8x128_S2048x1024 :=
  Fix.reshape_eq (x := main_v35) (y := main_v36) wQ 20 V _ _ _ _ rfl
theorem Q_v37 : EQ V main_v37 = ((transpose S32x64x8x128 [1, 2, 0, 3] · transposes_S8x32x64x128_S32x64x8x128_1_2_0_3) : C F S8x32x64x128 .f32 → C F S32x64x8x128 .f32) (EQ V main_v26) :=
  Fix.unary_eq (x := main_v26) (y := main_v37) wQ 21 V ((transpose S32x64x8x128 [1, 2, 0, 3] · transposes_S8x32x64x128_S32x64x8x128_1_2_0_3) : C F S8x32x64x128 .f32 → C F S32x64x8x128 .f32) _ _ rfl
theorem Q_v38 : EQ V main_v38 = shapeCast S2048x1024 (EQ V main_v37 : C F S32x64x8x128 .f32) shapeCasts_S32x64x8x128_S2048x1024 :=
  Fix.reshape_eq (x := main_v37) (y := main_v38) wQ 22 V _ _ _ _ rfl
theorem Q_v39 : EQ V main_v39 = ((transpose S32x64x8x128 [1, 2, 0, 3] · transposes_S8x32x64x128_S32x64x8x128_1_2_0_3) : C F S8x32x64x128 .f32 → C F S32x64x8x128 .f32) (EQ V main_v29) :=
  Fix.unary_eq (x := main_v29) (y := main_v39) wQ 23 V ((transpose S32x64x8x128 [1, 2, 0, 3] · transposes_S8x32x64x128_S32x64x8x128_1_2_0_3) : C F S8x32x64x128 .f32 → C F S32x64x8x128 .f32) _ _ rfl
theorem Q_v40 : EQ V main_v40 = shapeCast S2048x1024 (EQ V main_v39 : C F S32x64x8x128 .f32) shapeCasts_S32x64x8x128_S2048x1024 :=
  Fix.reshape_eq (x := main_v39) (y := main_v40) wQ 24 V _ _ _ _ rfl
theorem Q_v41 : EQ V main_v41 = ((transpose S32x64x8x128 [1, 2, 0, 3] · transposes_S8x32x64x128_S32x64x8x128_1_2_0_3) : C F S8x32x64x128 .f32 → C F S32x64x8x128 .f32) (EQ V main_v28) :=
  Fix.unary_eq (x := main_v28) (y := main_v41) wQ 25 V ((transpose S32x64x8x128 [1, 2, 0, 3] · transposes_S8x32x64x128_S32x64x8x128_1_2_0_3) : C F S8x32x64x128 .f32 → C F S32x64x8x128 .f32) _ _ rfl
theorem Q_v42 : EQ V main_v42 = shapeCast S2048x1024 (EQ V main_v41 : C F S32x64x8x128 .f32) shapeCasts_S32x64x8x128_S2048x1024 :=
  Fix.reshape_eq (x := main_v41) (y := main_v42) wQ 26 V _ _ _ _ rfl
theorem Q_cst_16 : EQ V main_cst_16 = (constant S_ .f32 0x00000000#32) :=
  Fix.nullary_eq (y := main_cst_16) wQ 27 V (constant S_ .f32 0x00000000#32) _ rfl
theorem Q_v43 : EQ V main_v43 = (select (broadcastInDim S8x32x64x64 ![2, 3] bcast_S64x64_S8x32x64x64_2_3 (EQ V main_v31 : C F S64x64 .i1) : C F S8x32x64x64 .i1)
    (EQ V main_v25 : C F S8x32x64x64 .f32) (broadcastInDim S8x32x64x64 ![] bcast_S_S8x32x64x64 (EQ V main_cst_16 : C F S_ .f32) : C F S8x32x64x64 .f32) : C F S8x32x64x64 .f32) := by
  have h0 : EQ V main_call27_v0 = EQ V main_cst_16 := Fix.unary_eq (x := main_cst_16) (y := main_call27_v0) wQ 28 V _ _ _ rfl
  have h1 : EQ V main_call27_v1 = broadcastInDim S8x32x64x64 ![2, 3] bcast_S64x64_S8x32x64x64_2_3 (EQ V main_v31 : C F S64x64 .i1) := Fix.unary_eq (x := main_v31) (y := main_call27_v1) wQ 29 V _ _ _ rfl
  have h2 : EQ V main_call27_v2 = broadcastInDim S8x32x64x64 ![] bcast_S_S8x32x64x64 (EQ V main_call27_v0 : C F S_ .f32) := Fix.unary_eq (x := main_call27_v0) (y := main_call27_v2) wQ 30 V _ _ _ rfl
  have h3 : EQ V main_v43 = select (EQ V main_call27_v1 : C F S8x32x64x64 .i1) (EQ V main_v25 : C F S8x32x64x64 .f32) (EQ V main_call27_v2) := Fix.ternary_eq (c := main_call27_v1) (a := main_v25) (b := main_call27_v2) (y := main_v43) wQ 31 V _ _ _ _ _ rfl
  rw [h3, h2, h1, h0]

end

end Cert.ReferenceIdeal.Two

end
-- ==== Proof.RefPure.lean ====
/- The blocks that the reference's loops read and write, at an index. -/
module

public import proofs.«01_k».proof.Proof.RefEqs
public import proofs.«01_k».proof.Proof.Chunks
public import Idealize.ShloMosaic.Lib.Pipeline.Value
public import Idealize.ShloMosaic.Lib.DynamicIndex

@[expose] public section

noncomputable section

namespace Cert.ReferenceIdeal.Two

open Cert.ReferenceIdeal Cert.ReferenceIdeal.Gen
open Idealize.ShloMosaic Idealize.ShloMosaic.TcCoe Idealize.ShloMosaic.StableHlo Idealize.SL.Sem
open Cert.Spec
open scoped BigOperators

/-- The counter is `n`. -/
abbrev At (ctr : C Ideal S_ .i32) (n : ℕ) : Prop := (ctr (Shape.Idx.first h_S_) : BitVec 32).toInt = (n : ℤ)

theorem clamp (o s u : ℕ) (h : o + u ≤ s) : (min (max (o : ℤ) 0) ((s - u : ℕ) : ℤ)).toNat = o := by omega

theorem at_iv {ctr : C Ideal S_ .i32} {k : ℕ} (hk : k < 32) (h : ctr = fun _ => Scf.iv 0#32 1#32 k) : At ctr k := by
  subst h
  show (Scf.iv 0#32 1#32 k).toInt = (k : ℤ)
  interval_cases k <;> decide

theorem st4_at {ctr : C Ideal S_ .i32} {n : ℕ} (h : At ctr n) (a : Fin 4) : st4 ctr a = (((![n, 0, 0, 0] : Fin 4 → ℕ) a : ℕ) : ℤ) := by
  match a with
  | 0 => exact h
  | 1 => rfl
  | 2 => rfl
  | 3 => rfl
theorem st2_at {ctr : C Ideal S_ .i32} {n : ℕ} (h : At ctr n) (a : Fin 2) : st2 ctr a = (((![n, 0] : Fin 2 → ℕ) a : ℕ) : ℤ) := by
  match a with
  | 0 => exact h
  | 1 => rfl

theorem fit_S32x8x64x128 {n : ℕ} (hn : n < 32) : S32x8x64x128.Slices ![n, 0, 0, 0] S1x8x64x128 :=
  ⟨rfl, fun a => match a with
    | 0 => (by omega : n + 1 ≤ 32)
    | 1 => (by decide : 0 + 8 ≤ 8)
    | 2 => (by decide : 0 + 64 ≤ 64)
    | 3 => (by decide : 0 + 128 ≤ 128)⟩

theorem rd_S32x8x64x128 {x : C Ideal S32x8x64x128 .f32} {ctr : C Ideal S_ .i32} {n : ℕ} (hn : n < 32) (hc : At ctr n) {f : ℕ → ℕ → ℕ → ℝ}
    (hx : ∀ j, (j 0).val = n → x j = (f (j 1) (j 2) (j 3) : EReal)) (j : S8x64x128.Idx) :
    shapeCast S8x64x128 (Host.dynamicSlice S1x8x64x128 x (st4 ctr) sliceFits_S32x8x64x128_S1x8x64x128) shapeCasts_S1x8x64x128_S8x64x128 j = (f (j 0) (j 1) (j 2) : EReal) := by
  rw [Host.dynamicSlice_eq_extractStridedSlice S1x8x64x128 x (st4 ctr) ![n, 0, 0, 0] _ (fit_S32x8x64x128 hn) (st4_at hc)]
  pointwise
  exact (hx _ (by simp)).trans (by simp)

theorem wr_S32x8x64x128 {x : C Ideal S32x8x64x128 .f32} {y : C Ideal S8x64x128 .f32} {ctr : C Ideal S_ .i32} {n : ℕ} (hn : n < 32) (hc : At ctr n)
    {f : ℕ → ℕ → ℕ → ℝ} (hy : ∀ j, y j = (f (j 0) (j 1) (j 2) : EReal)) (j : S32x8x64x128.Idx) :
    Host.dynamicUpdateSlice x (broadcastInDim S1x8x64x128 ![1, 2, 3] bcast_S8x64x128_S1x8x64x128_1_2_3 y) (st4 ctr) updateFits_S32x8x64x128_S1x8x64x128 j
      = if (j 0).val = n then (f (j 1) (j 2) (j 3) : EReal) else x j := by
  rw [Host.dynamicUpdateSlice_eq_updateSlice x _ (st4 ctr) _ ![n, 0, 0, 0] (fun a => by
    rw [st4_at hc]
    have h1 := (fit_S32x8x64x128 hn).2 a
    exact clamp _ _ _ h1) (fit_S32x8x64x128 hn)]
  pointwise [hy]
  by_cases e : (j 0).val = n
  · rw [dif_pos ⟨by omega, by omega⟩, if_pos e]
  · rw [dif_neg (by omega), if_neg e]

theorem fit_S32x8x64x64 {n : ℕ} (hn : n < 32) : S32x8x64x64.Slices ![n, 0, 0, 0] S1x8x64x64 :=
  ⟨rfl, fun a => match a with
    | 0 => (by omega : n + 1 ≤ 32)
    | 1 => (by decide : 0 + 8 ≤ 8)
    | 2 => (by decide : 0 + 64 ≤ 64)
    | 3 => (by decide : 0 + 64 ≤ 64)⟩

theorem rd_S32x8x64x64 {x : C Ideal S32x8x64x64 .f32} {ctr : C Ideal S_ .i32} {n : ℕ} (hn : n < 32) (hc : At ctr n) {f : ℕ → ℕ → ℕ → ℝ}
    (hx : ∀ j, (j 0).val = n → x j = (f (j 1) (j 2) (j 3) : EReal)) (j : S8x64x64.Idx) :
    shapeCast S8x64x64 (Host.dynamicSlice S1x8x64x64 x (st4 ctr) sliceFits_S32x8x64x64_S1x8x64x64) shapeCasts_S1x8x64x64_S8x64x64 j = (f (j 0) (j 1) (j 2) : EReal) := by
  rw [Host.dynamicSlice_eq_extractStridedSlice S1x8x64x64 x (st4 ctr) ![n, 0, 0, 0] _ (fit_S32x8x64x64 hn) (st4_at hc)]
  pointwise
  exact (hx _ (by simp)).trans (by simp)

theorem wr_S32x8x64x64 {x : C Ideal S32x8x64x64 .f32} {y : C Ideal S8x64x64 .f32} {ctr : C Ideal S_ .i32} {n : ℕ} (hn : n < 32) (hc : At ctr n)
    {f : ℕ → ℕ → ℕ → ℝ} (hy : ∀ j, y j = (f (j 0) (j 1) (j 2) : EReal)) (j : S32x8x64x64.Idx) :
    Host.dynamicUpdateSlice x (broadcastInDim S1x8x64x64 ![1, 2, 3] bcast_S8x64x64_S1x8x64x64_1_2_3 y) (st4 ctr) updateFits_S32x8x64x64_S1x8x64x64 j
      = if (j 0).val = n then (f (j 1) (j 2) (j 3) : EReal) else x j := by
  rw [Host.dynamicUpdateSlice_eq_updateSlice x _ (st4 ctr) _ ![n, 0, 0, 0] (fun a => by
    rw [st4_at hc]
    have h1 := (fit_S32x8x64x64 hn).2 a
    exact clamp _ _ _ h1) (fit_S32x8x64x64 hn)]
  pointwise [hy]
  by_cases e : (j 0).val = n
  · rw [dif_pos ⟨by omega, by omega⟩, if_pos e]
  · rw [dif_neg (by omega), if_neg e]

theorem fit_S32x8x128x128 {n : ℕ} (hn : n < 32) : S32x8x128x128.Slices ![n, 0, 0, 0] S1x8x128x128 :=
  ⟨rfl, fun a => match a with
    | 0 => (by omega : n + 1 ≤ 32)
    | 1 => (by decide : 0 + 8 ≤ 8)
    | 2 => (by decide : 0 + 128 ≤ 128)
    | 3 => (by decide : 0 + 128 ≤ 128)⟩

theorem rd_S32x8x128x128 {x : C Ideal S32x8x128x128 .f32} {ctr : C Ideal S_ .i32} {n : ℕ} (hn : n < 32) (hc : At ctr n) {f : ℕ → ℕ → ℕ → ℝ}
    (hx : ∀ j, (j 0).val = n → x j = (f (j 1) (j 2) (j 3) : EReal)) (j : S8x128x128.Idx) :
    shapeCast S8x128x128 (Host.dynamicSlice S1x8x128x128 x (st4 ctr) sliceFits_S32x8x128x128_S1x8x128x128) shapeCasts_S1x8x128x128_S8x128x128 j = (f (j 0) (j 1) (j 2) : EReal) := by
  rw [Host.dynamicSlice_eq_extractStridedSlice S1x8x128x128 x (st4 ctr) ![n, 0, 0, 0] _ (fit_S32x8x128x128 hn) (st4_at hc)]
  pointwise
  exact (hx _ (by simp)).trans (by simp)

theorem wr_S32x8x128x128 {x : C Ideal S32x8x128x128 .f32} {y : C Ideal S8x128x128 .f32} {ctr : C Ideal S_ .i32} {n : ℕ} (hn : n < 32) (hc : At ctr n)
    {f : ℕ → ℕ → ℕ → ℝ} (hy : ∀ j, y j = (f (j 0) (j 1) (j 2) : EReal)) (j : S32x8x128x128.Idx) :
    Host.dynamicUpdateSlice x (broadcastInDim S1x8x128x128 ![1, 2, 3] bcast_S8x128x128_S1x8x128x128_1_2_3 y) (st4 ctr) updateFits_S32x8x128x128_S1x8x128x128 j
      = if (j 0).val = n then (f (j 1) (j 2) (j 3) : EReal) else x j := by
  rw [Host.dynamicUpdateSlice_eq_updateSlice x _ (st4 ctr) _ ![n, 0, 0, 0] (fun a => by
    rw [st4_at hc]
    have h1 := (fit_S32x8x128x128 hn).2 a
    exact clamp _ _ _ h1) (fit_S32x8x128x128 hn)]
  pointwise [hy]
  by_cases e : (j 0).val = n
  · rw [dif_pos ⟨by omega, by omega⟩, if_pos e]
  · rw [dif_neg (by omega), if_neg e]

theorem fit_S32x8x1x1 {n : ℕ} (hn : n < 32) : S32x8x1x1.Slices ![n, 0, 0, 0] S1x8x1x1 :=
  ⟨rfl, fun a => match a with
    | 0 => (by omega : n + 1 ≤ 32)
    | 1 => (by decide : 0 + 8 ≤ 8)
    | 2 => (by decide : 0 + 1 ≤ 1)
    | 3 => (by decide : 0 + 1 ≤ 1)⟩

theorem rd_S32x8x1x1 {x : C Ideal S32x8x1x1 .f32} {ctr : C Ideal S_ .i32} {n : ℕ} (hn : n < 32) (hc : At ctr n) {f : ℕ → ℕ → ℕ → ℝ}
    (hx : ∀ j, (j 0).val = n → x j = (f (j 1) (j 2) (j 3) : EReal)) (j : S8x1x1.Idx) :
    shapeCast S8x1x1 (Host.dynamicSlice S1x8x1x1 x (st4 ctr) sliceFits_S32x8x1x1_S1x8x1x1) shapeCasts_S1x8x1x1_S8x1x1 j = (f (j 0) (j 1) (j 2) : EReal) := by
  rw [Host.dynamicSlice_eq_extractStridedSlice S1x8x1x1 x (st4 ctr) ![n, 0, 0, 0] _ (fit_S32x8x1x1 hn) (st4_at hc)]
  pointwise
  exact (hx _ (by simp)).trans (by simp)

theorem wr_S32x8x1x1 {x : C Ideal S32x8x1x1 .f32} {y : C Ideal S8x1x1 .f32} {ctr : C Ideal S_ .i32} {n : ℕ} (hn : n < 32) (hc : At ctr n)
    {f : ℕ → ℕ → ℕ → ℝ} (hy : ∀ j, y j = (f (j 0) (j 1) (j 2) : EReal)) (j : S32x8x1x1.Idx) :
    Host.dynamicUpdateSlice x (broadcastInDim S1x8x1x1 ![1, 2, 3] bcast_S8x1x1_S1x8x1x1_1_2_3 y) (st4 ctr) updateFits_S32x8x1x1_S1x8x1x1 j
      = if (j 0).val = n then (f (j 1) (j 2) (j 3) : EReal) else x j := by
  rw [Host.dynamicUpdateSlice_eq_updateSlice x _ (st4 ctr) _ ![n, 0, 0, 0] (fun a => by
    rw [st4_at hc]
    have h1 := (fit_S32x8x1x1 hn).2 a
    exact clamp _ _ _ h1) (fit_S32x8x1x1 hn)]
  pointwise [hy]
  by_cases e : (j 0).val = n
  · rw [dif_pos ⟨by omega, by omega⟩, if_pos e]
  · rw [dif_neg (by omega), if_neg e]

theorem fit_S32x8 {n : ℕ} (hn : n < 32) : S32x8.Slices ![n, 0] S1x8 :=
  ⟨rfl, fun a => match a with
    | 0 => (by omega : n + 1 ≤ 32)
    | 1 => (by decide : 0 + 8 ≤ 8)⟩

theorem rd_S32x8 {x : C Ideal S32x8 .f32} {ctr : C Ideal S_ .i32} {n : ℕ} (hn : n < 32) (hc : At ctr n) {f : ℕ → ℝ}
    (hx : ∀ j, (j 0).val = n → x j = (f (j 1) : EReal)) (j : S8.Idx) :
    shapeCast S8 (Host.dynamicSlice S1x8 x (st2 ctr) sliceFits_S32x8_S1x8) shapeCasts_S1x8_S8 j = (f (j 0) : EReal) := by
  rw [Host.dynamicSlice_eq_extractStridedSlice S1x8 x (st2 ctr) ![n, 0] _ (fit_S32x8 hn) (st2_at hc)]
  pointwise
  exact (hx _ (by simp)).trans (by simp)

theorem wr_S32x8 {x : C Ideal S32x8 .f32} {y : C Ideal S8 .f32} {ctr : C Ideal S_ .i32} {n : ℕ} (hn : n < 32) (hc : At ctr n)
    {f : ℕ → ℝ} (hy : ∀ j, y j = (f (j 0) : EReal)) (j : S32x8.Idx) :
    Host.dynamicUpdateSlice x (broadcastInDim S1x8 ![1] bcast_S8_S1x8_1 y) (st2 ctr) updateFits_S32x8_S1x8 j
      = if (j 0).val = n then (f (j 1) : EReal) else x j := by
  rw [Host.dynamicUpdateSlice_eq_updateSlice x _ (st2 ctr) _ ![n, 0] (fun a => by
    rw [st2_at hc]
    have h1 := (fit_S32x8 hn).2 a
    exact clamp _ _ _ h1) (fit_S32x8 hn)]
  pointwise [hy]
  by_cases e : (j 0).val = n
  · rw [dif_pos ⟨by omega, by omega⟩, if_pos e]
  · rw [dif_neg (by omega), if_neg e]

end Cert.ReferenceIdeal.Two

end
-- ==== Proof.RefStep.lean ====
/- One trip of each of the reference's loops over the reals: what a chunk's arrays hold, at an index, when the arrays it
   reads hold the gated delta rule's quantities. -/
module

public import proofs.«01_k».proof.Proof.RefPure

@[expose] public section

noncomputable section

namespace Cert.ReferenceIdeal.Two

open Cert.ReferenceIdeal Cert.ReferenceIdeal.Gen
open Idealize.ShloMosaic Idealize.ShloMosaic.TcCoe Idealize.ShloMosaic.StableHlo Idealize.SL.Sem
open Cert.Spec
open scoped BigOperators

variable {s : Seq} {n k : ℕ}

abbrev R64x128 (f : ℕ → ℕ → ℕ → ℝ) (x : Vec Ideal S8x64x128 .f32) : Prop := ∀ j, x j = (f (j 0) (j 1) (j 2) : EReal)
abbrev R128x128 (f : ℕ → ℕ → ℕ → ℝ) (x : Vec Ideal S8x128x128 .f32) : Prop := ∀ j, x j = (f (j 0) (j 1) (j 2) : EReal)
abbrev R64x64 (f : ℕ → ℕ → ℕ → ℝ) (x : Vec Ideal S8x64x64 .f32) : Prop := ∀ j, x j = (f (j 0) (j 1) (j 2) : EReal)

section Forward
variable {u w kk vn : Vec Ideal S8x64x128 .f32} {S : Vec Ideal S8x128x128 .f32} {g : Vec Ideal S8 .f32}

theorem f_vn (hu : R64x128 (fun h => s.u h n) u) (hw : R64x128 (fun h => s.w h n) w) (hS : R128x128 (fun h => s.St h n) S) :
    R64x128 (fun h => s.vn h n)
      (subf (F := Ideal) (φ := .f32) u (Host.dotGeneral (F := Ideal) (φ₁ := .f32) (φ₂ := .f32) dot_S8x64x128_S8x128x128_S8x64x128_2_1_1_2_0_0 none w S)) := by
  intro j
  pointwise [hu, hw, hS]
  rw [Seq.vn, Seq.vnOf, EReal.coe_sub, coe_sum]
  simp only [EReal.coe_mul]

theorem f_gl (hg : ∀ j, g j = ((∑ r : Fin 64, s.g (64 * n + r) (j 0) : ℝ) : EReal)) (j : S8.Idx) :
    Host.exp (F := Ideal) (φ := .f32) g j = (s.gl (j 0) n : EReal) := by
  pointwise [hg]
  rfl

theorem f_St (hk : R64x128 (fun h => s.k h n) kk) (hv : R64x128 (fun h => s.vn h n) vn) (hS : R128x128 (fun h => s.St h n) S)
    (hg : ∀ j, g j = (s.gl (j 0) n : EReal)) :
    R128x128 (fun h => s.St h (n + 1))
      (addf (F := Ideal) (φ := .f32) (mulf (F := Ideal) (φ := .f32) S (broadcastInDim S8x128x128 ![0, 1, 2] bcast_S8x1x1_S8x128x128_0_1_2
          (broadcastInDim S8x1x1 ![0] bcast_S8_S8x1x1_0 g)))
        (Host.dotGeneral (F := Ideal) (φ₁ := .f32) (φ₂ := .f32) dot_S8x64x128_S8x64x128_S8x128x128_1_1_2_2_0_0 none kk vn)) := by
  intro j
  pointwise [hk, hv, hS, hg]
  simp only [Seq.St, Seq.vn, EReal.coe_add, EReal.coe_mul, coe_sum]

end Forward

section Backward
variable {o w q kk vn dv : Vec Ideal S8x64x128 .f32} {S D : Vec Ideal S8x128x128 .f32} {a : Vec Ideal S8x64x64 .f32}
  {g : Vec Ideal S8 .f32} {g1 : Vec Ideal S8x1x1 .f32}

theorem b_dv (ho : R64x128 (fun h r e => s.o (64 * n + r) (128 * h + e)) o) (ha : R64x64 (fun h => s.a h n) a)
    (hk : R64x128 (fun h => s.k h n) kk) (hD : R128x128 (fun h => s.back h k) D) :
    R64x128 (fun h => (s.chunk h n).dv (s.back h k))
      (addf (F := Ideal) (φ := .f32)
        (transpose S8x64x128 [0, 2, 1] (Host.dotGeneral (F := Ideal) (φ₁ := .f32) (φ₂ := .f32) dot_S8x128x128_S8x64x128_S8x128x64_1_2_2_1_0_0 none D kk) transposes_S8x128x64_S8x64x128_0_2_1)
        (transpose S8x64x128 [0, 2, 1] (Host.dotGeneral (F := Ideal) (φ₁ := .f32) (φ₂ := .f32) dot_S8x64x128_S8x64x64_S8x128x64_1_1_2_2_0_0 none o a) transposes_S8x128x64_S8x64x128_0_2_1)) := by
  intro j
  pointwise [ho, ha, hk, hD]
  simp only [Chunk.dv, Seq.chunk, EReal.coe_add, EReal.coe_mul, coe_sum]
  rw [add_comm]
  simp only [mul_comm]

theorem b_dk (hv : R64x128 (fun h => s.vn h n) vn) (hD : R128x128 (fun h => s.back h k) D) :
    R64x128 (fun h => (s.chunk h n).dk (s.back h k))
      (transpose S8x64x128 [0, 2, 1] (Host.dotGeneral (F := Ideal) (φ₁ := .f32) (φ₂ := .f32) dot_S8x128x128_S8x64x128_S8x128x64_2_2_1_1_0_0 none D vn) transposes_S8x128x64_S8x64x128_0_2_1) := by
  intro j
  pointwise [hv, hD]
  simp only [Chunk.dk, Seq.chunk, EReal.coe_mul, coe_sum]
  simp only [mul_comm]

theorem b_dq (ho : R64x128 (fun h r e => s.o (64 * n + r) (128 * h + e)) o) (hS : R128x128 (fun h => s.St h n) S) :
    R64x128 (fun h => (s.chunk h n).dq)
      (Host.dotGeneral (F := Ideal) (φ₁ := .f32) (φ₂ := .f32) dot_S8x64x128_S8x128x128_S8x64x128_2_2_1_1_0_0 none o S) := by
  intro j
  pointwise [ho, hS]
  simp only [Chunk.dq, Seq.chunk, EReal.coe_mul, coe_sum]

theorem b_ndv (hd : R64x128 (fun h => (s.chunk h n).dv (s.back h k)) dv) :
    R64x128 (fun h r e => -(s.chunk h n).dv (s.back h k) r e) (Host.negf (F := Ideal) (φ := .f32) dv) := by
  intro j
  pointwise [hd]
  rfl

theorem b_dw (hd : R64x128 (fun h r e => -(s.chunk h n).dv (s.back h k) r e) dv) (hS : R128x128 (fun h => s.St h n) S) :
    R64x128 (fun h => (s.chunk h n).dw (s.back h k))
      (Host.dotGeneral (F := Ideal) (φ₁ := .f32) (φ₂ := .f32) dot_S8x64x128_S8x128x128_S8x64x128_2_2_1_1_0_0 none dv S) := by
  intro j
  pointwise [hd, hS]
  simp only [Chunk.dw, ← Finset.sum_neg_distrib, ← neg_mul, EReal.coe_mul, coe_sum]
  rfl

/-- The gradient of the chunk's attention before the mask. -/
def raw (s : Seq) (h n : ℕ) : Mat := fun r j => ∑ e : Fin 128, s.o (64 * n + r) (128 * h + e) * s.vn h n j e

theorem b_da (ho : R64x128 (fun h r e => s.o (64 * n + r) (128 * h + e)) o) (hv : R64x128 (fun h => s.vn h n) vn) :
    R64x64 (fun h => raw s h n)
      (Host.dotGeneral (F := Ideal) (φ₁ := .f32) (φ₂ := .f32) dot_S8x64x128_S8x64x128_S8x64x64_2_2_1_1_0_0 none o vn) := by
  intro j
  pointwise [ho, hv]
  simp only [raw, EReal.coe_mul, coe_sum]

theorem b_dg (hS : R128x128 (fun h => s.St h n) S) (hD : R128x128 (fun h => s.back h k) D) (hg : ∀ j, g j = (s.gl (j 0) n : EReal)) (j : S8.Idx) :
    mulf (F := Ideal) (φ := .f32) (Host.reduceAdd (F := Ideal) (φ := .f32)
      (shapeCast S8x1x1 (Host.reduceAdd (F := Ideal) (φ := .f32) (mulf (F := Ideal) (φ := .f32) S D) (constant (F := Ideal) S_ .f32 0x00000000#32) reducesTo_S8x128x128_S8_d1_2 h_S_)
        shapeCasts_S8_S8x1x1) (constant (F := Ideal) S_ .f32 0x00000000#32) reducesTo_S8x1x1_S8_d1_2 h_S_) g j
      = ((s.chunk (j 0) n).dg (s.back (j 0) k) : EReal) := by
  pointwise [hS, hD, hg]
  simp only [Chunk.dg, EReal.coe_mul, coe_sum, Finset.univ_unique, Finset.sum_singleton]
  rw [Finset.sum_comm]
  rfl

theorem b_dS (ho : R64x128 (fun h r e => s.o (64 * n + r) (128 * h + e)) o) (hw : R64x128 (fun h => s.w h n) w) (hq : R64x128 (fun h => s.q h n) q)
    (hd : R64x128 (fun h r e => -(s.chunk h n).dv (s.back h k) r e) dv) (hD : R128x128 (fun h => s.back h k) D)
    (hg : ∀ j, g1 j = (s.gl (j 0) n : EReal)) :
    R128x128 (fun h => (s.chunk h n).dS (s.back h k))
      (addf (F := Ideal) (φ := .f32) (addf (F := Ideal) (φ := .f32)
        (mulf (F := Ideal) (φ := .f32) D (broadcastInDim S8x128x128 ![0, 1, 2] bcast_S8x1x1_S8x128x128_0_1_2 g1))
        (transpose S8x128x128 [0, 2, 1] (Host.dotGeneral (F := Ideal) (φ₁ := .f32) (φ₂ := .f32) dot_S8x64x128_S8x64x128_S8x128x128_1_1_2_2_0_0 none o q) transposes_S8x128x128_S8x128x128_0_2_1))
        (transpose S8x128x128 [0, 2, 1] (Host.dotGeneral (F := Ideal) (φ₁ := .f32) (φ₂ := .f32) dot_S8x64x128_S8x64x128_S8x128x128_1_1_2_2_0_0 none dv w) transposes_S8x128x128_S8x128x128_0_2_1)) := by
  intro j
  pointwise [ho, hw, hq, hd, hD, hg]
  simp only [Chunk.dS, Seq.chunk, EReal.coe_add, EReal.coe_mul, coe_sum]
  rw [add_assoc, add_comm (∑ _, _) (∑ _, _)]
  simp only [mul_comm]

end Backward

section Start
variable {x : Vec Ideal S8x32x64x128 .f32} {f : ℕ → ℕ → Mat}

theorem s_x (hx : ∀ j, x j = (f (j 0) (j 1) (j 2) (j 3) : EReal)) (j : S32x8x64x128.Idx) :
    transpose S32x8x64x128 [1, 0, 2, 3] x transposes_S8x32x64x128_S32x8x64x128_1_0_2_3 j = (f (j 1) (j 0) (j 2) (j 3) : EReal) := by
  pointwise [hx]

theorem s_a {x : Vec Ideal S8x32x64x64 .f32} (hx : ∀ j, x j = (f (j 0) (j 1) (j 2) (j 3) : EReal)) (j : S32x8x64x64.Idx) :
    transpose S32x8x64x64 [1, 0, 2, 3] x transposes_S8x32x64x64_S32x8x64x64_1_0_2_3 j = (f (j 1) (j 0) (j 2) (j 3) : EReal) := by
  pointwise [hx]

theorem s_o {x : Vec Ideal S2048x1024 .f32} {f : Mat} (hx : ∀ j, x j = (f (j 0) (j 1) : EReal)) (j : S32x8x64x128.Idx) :
    transpose S32x8x64x128 [0, 2, 1, 3] (shapeCast S32x64x8x128 x shapeCasts_S2048x1024_S32x64x8x128) transposes_S32x64x8x128_S32x8x64x128_0_2_1_3 j
      = (f (64 * j 0 + j 2) (128 * j 1 + j 3) : EReal) := by
  pointwise [hx]
  simp only [Nat.mul_comm]

theorem s_g {x : Vec Ideal S2048x8 .f32} {f : Mat} (hx : ∀ j, x j = (f (j 0) (j 1) : EReal)) (j : S32x8.Idx) :
    Host.reduceAdd (F := Ideal) (φ := .f32) (shapeCast S32x64x8 x shapeCasts_S2048x8_S32x64x8) (constant (F := Ideal) S_ .f32 0x00000000#32) reducesTo_S32x64x8_S32x8_d1 h_S_ j
      = ((∑ r : Fin 64, f (64 * j 0 + r) (j 1) : ℝ) : EReal) := by
  have hc : shapeCast S32x64x8 x shapeCasts_S2048x8_S32x64x8
      = fun i : S32x64x8.Idx => (f (64 * (i 0).val + (i 1).val) (i 2).val : EReal) := by
    funext i
    pointwise [hx]
    rw [Nat.mul_comm]
  rw [hc]
  pointwise
  rw [coe_sum]

theorem s_0 (j : S8x128x128.Idx) : broadcastInDim S8x128x128 ![] bcast_S_S8x128x128 (constant (F := Ideal) S_ .f32 0x00000000#32) j = ((0 : ℝ) : EReal) := by
  pointwise
  exact EReal.coe_zero.symm

end Start

section End
variable {x : Vec Ideal S32x8x64x128 .f32} {f : ℕ → ℕ → Mat}

theorem e_rows (hx : ∀ j, x j = (f (j 1) (j 0) (j 2) (j 3) : EReal)) :
    shapeCast S2048x1024 (transpose S32x64x8x128 [1, 2, 0, 3] (transpose S8x32x64x128 [1, 0, 2, 3] x transposes_S32x8x64x128_S8x32x64x128_1_0_2_3)
      transposes_S8x32x64x128_S32x64x8x128_1_2_0_3) shapeCasts_S32x64x8x128_S2048x1024
      = fun j => (f (j 1 / 128) (j 0 / 64) (j 0 % 64) (j 1 % 128) : EReal) := by
  funext j
  pointwise [hx]

theorem sge_iff : ∀ a b : Fin 64, IntOp.cmpi .sge (IntOp.addi (BitVec.ofNat 32 a) 0#32) (BitVec.ofNat 32 b)
    = if b.val ≤ a.val then 1#1 else 0#1 := by decide +kernel

theorem e_da {x : Vec Ideal S32x8x64x64 .f32} (hx : ∀ j, x j = (raw s (j 1) (j 0) (j 2) (j 3) : EReal)) :
    select (broadcastInDim S8x32x64x64 ![2, 3] bcast_S64x64_S8x32x64x64_2_3
        (select (cmpi .sge (addi (iotaInDim S64x64 32 0) (broadcastInDim S64x64 ![] bcast_S_S64x64 (constantI S_ 32 0#32))) (iotaInDim S64x64 32 1) : C Ideal S64x64 .i1)
          (broadcastInDim S64x64 ![] bcast_S_S64x64 (constantI S_ 1 1#1) : C Ideal S64x64 .i1)
          (broadcastInDim S64x64 ![] bcast_S_S64x64 (constantI S_ 1 0#1) : C Ideal S64x64 .i1) : C Ideal S64x64 .i1) : C Ideal S8x32x64x64 .i1)
      (transpose S8x32x64x64 [1, 0, 2, 3] x transposes_S32x8x64x64_S8x32x64x64_1_0_2_3)
      (broadcastInDim S8x32x64x64 ![] bcast_S_S8x32x64x64 (constant (F := Ideal) S_ .f32 0x00000000#32) : C Ideal S8x32x64x64 .f32)
      = fun j => (s.da (j 0) (j 1) (j 2) (j 3) : EReal) := by
  funext j
  pointwise [hx]
  rw [sge_iff (j 2) (j 3)]
  unfold Seq.da Chunk.da
  by_cases h : (j 3).val ≤ (j 2).val
  · rw [if_pos h, if_pos h]; rfl
  · rw [if_neg h, if_neg h]; exact EReal.coe_zero.symm

theorem e_dg {x : Vec Ideal S32x8 .f32} {f : ℕ → ℕ → ℝ} (hx : ∀ j, x j = (f (j 1) (j 0) : EReal)) :
    broadcastInDim S8x32x1x128 ![0, 1, 2, 3] bcast_S8x32x1x1_S8x32x1x128_0_1_2_3 (broadcastInDim S8x32x1x1 ![0, 1] bcast_S8x32_S8x32x1x1_0_1
      (transpose S8x32 [1, 0] x transposes_S32x8_S8x32_1_0)) = fun j => (f (j 0) (j 1) : EReal) := by
  funext j
  pointwise [hx]

end End

end Cert.ReferenceIdeal.Two

end
-- ==== Proof.RefVal.lean ====
/- What the reference's two loops hold before every trip: the first strings the chunks' states together, the second the
   gradients of the states, and both leave one block per chunk in each of their stacks. -/
module

public import proofs.«01_k».proof.Proof.RefStep

@[expose] public section

noncomputable section

namespace Cert.ReferenceIdeal.Two

open Cert.ReferenceIdeal Cert.ReferenceIdeal.Gen
open Idealize.ShloMosaic Idealize.ShloMosaic.TcCoe Idealize.ShloMosaic.StableHlo Idealize.SL.Sem
open Cert.Spec
open scoped BigOperators

/-- A buffer's contents. -/
def G (V : Valuation τ sig (Elt Ideal)) (b : Ref sig .tc) : b.ty.Contents (Elt Ideal) := V (Proc.devRef .tc b)

variable {s : Seq} {k : ℕ} {V : Valuation τ sig (Elt Ideal)}

/-- The arrays that the first loop reads. -/
structure In0 (s : Seq) (V : Valuation τ sig (Elt Ideal)) : Prop where
  k : ∀ j, (G V main_v15_1 : C Ideal S32x8x64x128 .f32) j = (s.k (j 1) (j 0) (j 2) (j 3) : EReal)
  u : ∀ j, (G V main_v15_2 : C Ideal S32x8x64x128 .f32) j = (s.u (j 1) (j 0) (j 2) (j 3) : EReal)
  w : ∀ j, (G V main_v15_3 : C Ideal S32x8x64x128 .f32) j = (s.w (j 1) (j 0) (j 2) (j 3) : EReal)
  g : ∀ j, (G V main_v15_5 : C Ideal S32x8 .f32) j = ((∑ r : Fin 64, s.g (64 * (j 0).val + r) (j 1) : ℝ) : EReal)

/-- What the first loop holds after `k` trips. -/
structure Inv0 (s : Seq) (k : ℕ) (V : Valuation τ sig (Elt Ideal)) : Prop where
  D : R128x128 (fun h => s.St h k) (G V main_v15_7)
  S : ∀ j, (j 0).val < k → (G V main_v15_9 : C Ideal S32x8x128x128 .f32) j = (s.St (j 1) (j 0) (j 2) (j 3) : EReal)
  v : ∀ j, (j 0).val < k → (G V main_v15_10 : C Ideal S32x8x64x128 .f32) j = (s.vn (j 1) (j 0) (j 2) (j 3) : EReal)
  g : ∀ j, (j 0).val < k → (G V main_v15_11 : C Ideal S32x8 .f32) j = (s.gl (j 1) (j 0) : EReal)
  g1 : ∀ j, (j 0).val < k → (G V main_v15_12 : C Ideal S32x8x1x1 .f32) j = (s.gl (j 1) (j 0) : EReal)

theorem step0 (hk : k < 32) (hc : At (G V main_v15_6) k) (I : In0 s V) (J : Inv0 s k V) :
    Inv0 s (k + 1) (after opsA2 (after opsA V)) := by
  have hc : At (EA V main_v15_6) k := by rw [EA_keep V main_v15_6 (by decide +kernel)]; exact hc
  have xk : ∀ j, (EA V main_while0b_v45 : C Ideal S8x64x128 .f32) j = _ := fun j => (congrFun (A_while0b_v45 V) j).trans
    (rd_S32x8x64x128 hk hc (f := fun h => s.k h k) (fun j hj => (congrFun (EA_keep V main_v15_1 (by decide +kernel)) j).trans ((I.k j).trans (by rw [hj]))) j)
  have xu : ∀ j, (EA V main_while0b_v46 : C Ideal S8x64x128 .f32) j = _ := fun j => (congrFun (A_while0b_v46 V) j).trans
    (rd_S32x8x64x128 hk hc (f := fun h => s.u h k) (fun j hj => (congrFun (EA_keep V main_v15_2 (by decide +kernel)) j).trans ((I.u j).trans (by rw [hj]))) j)
  have xw : ∀ j, (EA V main_while0b_v47 : C Ideal S8x64x128 .f32) j = _ := fun j => (congrFun (A_while0b_v47 V) j).trans
    (rd_S32x8x64x128 hk hc (f := fun h => s.w h k) (fun j hj => (congrFun (EA_keep V main_v15_3 (by decide +kernel)) j).trans ((I.w j).trans (by rw [hj]))) j)
  have xg : ∀ j, (EA V main_while0b_v49 : C Ideal S8 .f32) j = _ := fun j => (congrFun (A_while0b_v49 V) j).trans
    (rd_S32x8 hk hc (f := fun h => ∑ r : Fin 64, s.g (64 * k + r) h) (fun j hj => (congrFun (EA_keep V main_v15_5 (by decide +kernel)) j).trans ((I.g j).trans (by rw [hj]))) j)
  have xS : R128x128 (fun h => s.St h k) (EA V main_v15_7) := fun j => (congrFun (EA_keep V main_v15_7 (by decide +kernel)) j).trans (J.D j)
  have xv : R64x128 (fun h => s.vn h k) (EA V main_while0b_v51) := by
    rw [A_while0b_v51, A_while0b_v50]; exact f_vn xu xw xS
  have xe : ∀ j, (EA V main_while0b_v55 : C Ideal S8 .f32) j = (s.gl (j 0) k : EReal) := by
    rw [A_while0b_v55]; exact f_gl xg
  have xe1 : ∀ j, (EA V main_while0b_v56 : C Ideal S8x1x1 .f32) j = (s.gl (j 0) k : EReal) := by
    rw [A_while0b_v56]; intro j; pointwise [xe]
  refine ⟨?_, ?_, ?_, ?_, ?_⟩
  · intro j
    refine (congrFun ((A2_v15_7 (after opsA V)).trans (EA2_keep (after opsA V) main_while0b_v60 (by decide +kernel))) j).trans ?_
    refine (congrFun (A_while0b_v60 V) j).trans ?_
    rw [A_while0b_v58, A_while0b_v57, A_while0b_v56, A_while0b_v59]
    exact f_St xk xv xS xe j
  · intro j hj
    refine (congrFun ((A2_v15_9 (after opsA V)).trans ((EA2_keep (after opsA V) main_while0b_v62 (by decide +kernel)).trans (A_while0b_v62 V))) j).trans ?_
    refine (wr_S32x8x128x128 hk hc (f := fun h => s.St h k) xS j).trans ?_
    split_ifs with e
    · rw [e]
    · exact (congrFun (EA_keep V main_v15_9 (by decide +kernel)) j).trans (J.S j (by omega))
  · intro j hj
    refine (congrFun ((A2_v15_10 (after opsA V)).trans ((EA2_keep (after opsA V) main_while0b_v63 (by decide +kernel)).trans (A_while0b_v63 V))) j).trans ?_
    refine (wr_S32x8x64x128 hk hc (f := fun h => s.vn h k) xv j).trans ?_
    split_ifs with e
    · rw [e]
    · exact (congrFun (EA_keep V main_v15_10 (by decide +kernel)) j).trans (J.v j (by omega))
  · intro j hj
    refine (congrFun ((A2_v15_11 (after opsA V)).trans ((EA2_keep (after opsA V) main_while0b_v64 (by decide +kernel)).trans (A_while0b_v64 V))) j).trans ?_
    refine (wr_S32x8 hk hc (f := fun h => s.gl h k) xe j).trans ?_
    split_ifs with e
    · rw [e]
    · exact (congrFun (EA_keep V main_v15_11 (by decide +kernel)) j).trans (J.g j (by omega))
  · intro j hj
    refine (congrFun ((A2_v15_12 (after opsA V)).trans ((EA2_keep (after opsA V) main_while0b_v65 (by decide +kernel)).trans (A_while0b_v65 V))) j).trans ?_
    refine (wr_S32x8x1x1 hk hc (f := fun h _ _ => s.gl h k) xe1 j).trans ?_
    split_ifs with e
    · rw [e]
    · exact (congrFun (EA_keep V main_v15_12 (by decide +kernel)) j).trans (J.g1 j (by omega))

/-- The arrays that the second loop reads. -/
structure In1 (s : Seq) (V : Valuation τ sig (Elt Ideal)) : Prop where
  o : ∀ j, (G V main_v24_0 : C Ideal S32x8x64x128 .f32) j = (s.o (64 * (j 0).val + j 2) (128 * (j 1).val + j 3) : EReal)
  S : ∀ j, (G V main_v24_1 : C Ideal S32x8x128x128 .f32) j = (s.St (j 1) (j 0) (j 2) (j 3) : EReal)
  w : ∀ j, (G V main_v24_2 : C Ideal S32x8x64x128 .f32) j = (s.w (j 1) (j 0) (j 2) (j 3) : EReal)
  q : ∀ j, (G V main_v24_3 : C Ideal S32x8x64x128 .f32) j = (s.q (j 1) (j 0) (j 2) (j 3) : EReal)
  v : ∀ j, (G V main_v24_4 : C Ideal S32x8x64x128 .f32) j = (s.vn (j 1) (j 0) (j 2) (j 3) : EReal)
  a : ∀ j, (G V main_v24_5 : C Ideal S32x8x64x64 .f32) j = (s.a (j 1) (j 0) (j 2) (j 3) : EReal)
  g : ∀ j, (G V main_v24_6 : C Ideal S32x8 .f32) j = (s.gl (j 1) (j 0) : EReal)
  g1 : ∀ j, (G V main_v24_7 : C Ideal S32x8x1x1 .f32) j = (s.gl (j 1) (j 0) : EReal)
  k : ∀ j, (G V main_v24_8 : C Ideal S32x8x64x128 .f32) j = (s.k (j 1) (j 0) (j 2) (j 3) : EReal)

/-- What the second loop holds after `k` trips: the last `k` chunks' gradients. -/
structure Inv1 (s : Seq) (k : ℕ) (V : Valuation τ sig (Elt Ideal)) : Prop where
  D : R128x128 (fun h => s.back h k) (G V main_v24_10)
  q : ∀ j, 32 - k ≤ (j 0).val → (G V main_v24_11 : C Ideal S32x8x64x128 .f32) j = ((s.chunk (j 1) (j 0)).dq (j 2) (j 3) : EReal)
  kk : ∀ j, 32 - k ≤ (j 0).val → (G V main_v24_12 : C Ideal S32x8x64x128 .f32) j = ((s.chunk (j 1) (j 0)).dk (s.back (j 1) (31 - (j 0).val)) (j 2) (j 3) : EReal)
  u : ∀ j, 32 - k ≤ (j 0).val → (G V main_v24_13 : C Ideal S32x8x64x128 .f32) j = ((s.chunk (j 1) (j 0)).dv (s.back (j 1) (31 - (j 0).val)) (j 2) (j 3) : EReal)
  w : ∀ j, 32 - k ≤ (j 0).val → (G V main_v24_14 : C Ideal S32x8x64x128 .f32) j = ((s.chunk (j 1) (j 0)).dw (s.back (j 1) (31 - (j 0).val)) (j 2) (j 3) : EReal)
  a : ∀ j, 32 - k ≤ (j 0).val → (G V main_v24_15 : C Ideal S32x8x64x64 .f32) j = (raw s (j 1) (j 0) (j 2) (j 3) : EReal)
  g : ∀ j, 32 - k ≤ (j 0).val → (G V main_v24_16 : C Ideal S32x8 .f32) j = ((s.chunk (j 1) (j 0)).dg (s.back (j 1) (31 - (j 0).val)) : EReal)

theorem at_rev {ctr : C Ideal S_ .i32} {k : ℕ} (hk : k < 32) (h : ctr = fun _ => Scf.iv 0#32 1#32 k) :
    At (subi (subi (constantI S_ 32 32#32) ctr : C Ideal S_ .i32) (constantI S_ 32 1#32)) (31 - k) := by
  subst h
  show (IntOp.subi (IntOp.subi 32#32 (Scf.iv 0#32 1#32 k)) 1#32).toInt = ((31 - k : ℕ) : ℤ)
  interval_cases k <;> decide

theorem step1 (hk : k < 32) (hc : (G V main_v24_9 : C Ideal S_ .i32) = fun _ => Scf.iv 0#32 1#32 k) (I : In1 s V) (J : Inv1 s k V) :
    Inv1 s (k + 1) (after opsB2 (after opsB V)) := by
  have hc : At (EB V main_while1b_v45) (31 - k) := by
    rw [B_while1b_v45, B_while1b_v44, B_while1b_c_33, B_while1b_c_34]
    exact at_rev hk ((EB_keep V main_v24_9 (by decide +kernel)).trans hc)
  have hn : 31 - k < 32 := by omega
  have xo : ∀ j, (EB V main_while1b_v46 : C Ideal S8x64x128 .f32) j = _ := fun j => (congrFun (B_while1b_v46 V) j).trans
    (rd_S32x8x64x128 hn hc (f := fun h r e => s.o (64 * (31 - k) + r) (128 * h + e)) (fun j hj => (congrFun (EB_keep V main_v24_0 (by decide +kernel)) j).trans ((I.o j).trans (by rw [hj]))) j)
  have xS : ∀ j, (EB V main_while1b_v47 : C Ideal S8x128x128 .f32) j = _ := fun j => (congrFun (B_while1b_v47 V) j).trans
    (rd_S32x8x128x128 hn hc (f := fun h => s.St h (31 - k)) (fun j hj => (congrFun (EB_keep V main_v24_1 (by decide +kernel)) j).trans ((I.S j).trans (by rw [hj]))) j)
  have xw : ∀ j, (EB V main_while1b_v48 : C Ideal S8x64x128 .f32) j = _ := fun j => (congrFun (B_while1b_v48 V) j).trans
    (rd_S32x8x64x128 hn hc (f := fun h => s.w h (31 - k)) (fun j hj => (congrFun (EB_keep V main_v24_2 (by decide +kernel)) j).trans ((I.w j).trans (by rw [hj]))) j)
  have xq : ∀ j, (EB V main_while1b_v49 : C Ideal S8x64x128 .f32) j = _ := fun j => (congrFun (B_while1b_v49 V) j).trans
    (rd_S32x8x64x128 hn hc (f := fun h => s.q h (31 - k)) (fun j hj => (congrFun (EB_keep V main_v24_3 (by decide +kernel)) j).trans ((I.q j).trans (by rw [hj]))) j)
  have xv : ∀ j, (EB V main_while1b_v50 : C Ideal S8x64x128 .f32) j = _ := fun j => (congrFun (B_while1b_v50 V) j).trans
    (rd_S32x8x64x128 hn hc (f := fun h => s.vn h (31 - k)) (fun j hj => (congrFun (EB_keep V main_v24_4 (by decide +kernel)) j).trans ((I.v j).trans (by rw [hj]))) j)
  have xa : ∀ j, (EB V main_while1b_v51 : C Ideal S8x64x64 .f32) j = _ := fun j => (congrFun (B_while1b_v51 V) j).trans
    (rd_S32x8x64x64 hn hc (f := fun h => s.a h (31 - k)) (fun j hj => (congrFun (EB_keep V main_v24_5 (by decide +kernel)) j).trans ((I.a j).trans (by rw [hj]))) j)
  have xg : ∀ j, (EB V main_while1b_v52 : C Ideal S8 .f32) j = _ := fun j => (congrFun (B_while1b_v52 V) j).trans
    (rd_S32x8 hn hc (f := fun h => s.gl h (31 - k)) (fun j hj => (congrFun (EB_keep V main_v24_6 (by decide +kernel)) j).trans ((I.g j).trans (by rw [hj]))) j)
  have xg1 : ∀ j, (EB V main_while1b_v53 : C Ideal S8x1x1 .f32) j = _ := fun j => (congrFun (B_while1b_v53 V) j).trans
    (rd_S32x8x1x1 hn hc (f := fun h _ _ => s.gl h (31 - k)) (fun j hj => (congrFun (EB_keep V main_v24_7 (by decide +kernel)) j).trans ((I.g1 j).trans (by rw [hj]))) j)
  have xk : ∀ j, (EB V main_while1b_v54 : C Ideal S8x64x128 .f32) j = _ := fun j => (congrFun (B_while1b_v54 V) j).trans
    (rd_S32x8x64x128 hn hc (f := fun h => s.k h (31 - k)) (fun j hj => (congrFun (EB_keep V main_v24_8 (by decide +kernel)) j).trans ((I.k j).trans (by rw [hj]))) j)
  have xD : R128x128 (fun h => s.back h k) (EB V main_v24_10) := fun j => (congrFun (EB_keep V main_v24_10 (by decide +kernel)) j).trans (J.D j)
  have yv : R64x128 (fun h => (s.chunk h (31 - k)).dv (s.back h k)) (EB V main_while1b_v68) := by
    rw [B_while1b_v68, B_while1b_v67, B_while1b_v66, B_while1b_v56, B_while1b_v55]; exact b_dv xo xa xk xD
  have yn : R64x128 (fun h r e => -(s.chunk h (31 - k)).dv (s.back h k) r e) (EB V main_while1b_v74) := by
    rw [B_while1b_v74]; exact b_ndv yv
  have yk : R64x128 (fun h => (s.chunk h (31 - k)).dk (s.back h k)) (EB V main_while1b_v58) := by
    rw [B_while1b_v58, B_while1b_v57]; exact b_dk xv xD
  have yq : R64x128 (fun h => (s.chunk h (31 - k)).dq) (EB V main_while1b_v73) := by
    rw [B_while1b_v73]; exact b_dq xo xS
  have yw : R64x128 (fun h => (s.chunk h (31 - k)).dw (s.back h k)) (EB V main_while1b_v78) := by
    rw [B_while1b_v78]; exact b_dw yn xS
  have ya : R64x64 (fun h => raw s h (31 - k)) (EB V main_while1b_v69) := by
    rw [B_while1b_v69]; exact b_da xo xv
  have yg : ∀ j, (EB V main_while1b_v65 : C Ideal S8 .f32) j = ((s.chunk (j 0) (31 - k)).dg (s.back (j 0) k) : EReal) := by
    rw [B_while1b_v65, B_while1b_v64, B_while1b_v61, B_while1b_v60, B_while1b_v59, B_while1b_cst_35, B_while1b_cst_36]; exact b_dg xS xD xg
  have hb : 31 - (31 - k) = k := by omega
  refine ⟨?_, ?_, ?_, ?_, ?_, ?_, ?_⟩
  · intro j
    refine (congrFun ((B2_v24_10 (after opsB V)).trans (EB2_keep (after opsB V) main_while1b_v77 (by decide +kernel))) j).trans ?_
    refine (congrFun (B_while1b_v77 V) j).trans ?_
    rw [B_while1b_v72, B_while1b_v63, B_while1b_v62, B_while1b_v71, B_while1b_v70, B_while1b_v76, B_while1b_v75]
    exact b_dS xo xw xq yn xD xg1 j
  · intro j hj
    refine (congrFun ((B2_v24_11 (after opsB V)).trans ((EB2_keep (after opsB V) main_while1b_v79 (by decide +kernel)).trans (B_while1b_v79 V))) j).trans ?_
    refine (wr_S32x8x64x128 hn hc (f := fun h => (s.chunk h (31 - k)).dq) yq j).trans ?_
    split_ifs with e
    · rw [e]
    · exact (congrFun (EB_keep V main_v24_11 (by decide +kernel)) j).trans (J.q j (by omega))
  · intro j hj
    refine (congrFun ((B2_v24_12 (after opsB V)).trans ((EB2_keep (after opsB V) main_while1b_v80 (by decide +kernel)).trans (B_while1b_v80 V))) j).trans ?_
    refine (wr_S32x8x64x128 hn hc (f := fun h => (s.chunk h (31 - k)).dk (s.back h k)) yk j).trans ?_
    split_ifs with e
    · rw [e, hb]
    · exact (congrFun (EB_keep V main_v24_12 (by decide +kernel)) j).trans (J.kk j (by omega))
  · intro j hj
    refine (congrFun ((B2_v24_13 (after opsB V)).trans ((EB2_keep (after opsB V) main_while1b_v81 (by decide +kernel)).trans (B_while1b_v81 V))) j).trans ?_
    refine (wr_S32x8x64x128 hn hc (f := fun h => (s.chunk h (31 - k)).dv (s.back h k)) yv j).trans ?_
    split_ifs with e
    · rw [e, hb]
    · exact (congrFun (EB_keep V main_v24_13 (by decide +kernel)) j).trans (J.u j (by omega))
  · intro j hj
    refine (congrFun ((B2_v24_14 (after opsB V)).trans ((EB2_keep (after opsB V) main_while1b_v82 (by decide +kernel)).trans (B_while1b_v82 V))) j).trans ?_
    refine (wr_S32x8x64x128 hn hc (f := fun h => (s.chunk h (31 - k)).dw (s.back h k)) yw j).trans ?_
    split_ifs with e
    · rw [e, hb]
    · exact (congrFun (EB_keep V main_v24_14 (by decide +kernel)) j).trans (J.w j (by omega))
  · intro j hj
    refine (congrFun ((B2_v24_15 (after opsB V)).trans ((EB2_keep (after opsB V) main_while1b_v83 (by decide +kernel)).trans (B_while1b_v83 V))) j).trans ?_
    refine (wr_S32x8x64x64 hn hc (f := fun h => raw s h (31 - k)) ya j).trans ?_
    split_ifs with e
    · rw [e]
    · exact (congrFun (EB_keep V main_v24_15 (by decide +kernel)) j).trans (J.a j (by omega))
  · intro j hj
    refine (congrFun ((B2_v24_16 (after opsB V)).trans ((EB2_keep (after opsB V) main_while1b_v84 (by decide +kernel)).trans (B_while1b_v84 V))) j).trans ?_
    refine (wr_S32x8 hn hc (f := fun h => (s.chunk h (31 - k)).dg (s.back h k)) yg j).trans ?_
    split_ifs with e
    · rw [e, hb]
    · exact (congrFun (EB_keep V main_v24_16 (by decide +kernel)) j).trans (J.g j (by omega))

/-! ## Over the whole run -/

section Whole
variable (m : (ℓ : Loc nD τ sig) → Buf (Elt Ideal) ℓ) (c : Dev nD)

/-- The arguments hold a sequence. -/
abbrev Argr (s : Seq) : Prop := Cert.KernelIdeal.Val.Args s (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6))

theorem body0 (V : Valuation τ sig (Elt Ideal)) : afterL bodyI0 V = after opsA2 (after opsA V) := by
  rw [show afterL bodyI0 V = after b0_12 (afterL (bodyI0.take 12) V) from rfl, afterL_eq_after_flatten]
  rfl
theorem body1 (V : Valuation τ sig (Elt Ideal)) : afterL bodyI1 V = after opsB2 (after opsB V) := by
  rw [show afterL bodyI1 V = after b1_17 (afterL (bodyI1.take 17) V) from rfl, afterL_eq_after_flatten]
  rfl

variable {m c}
variable (A : Argr m c s)
include A

theorem e0_q (j : S32x8x64x128.Idx) : (EP (launchContents m c) main_v5 : C Ideal S32x8x64x128 .f32) j = (s.q (j 1) (j 0) (j 2) (j 3) : EReal) := by
  rw [P_v5, EP_keep _ main_arg2 (by decide +kernel)]
  exact s_x A.q j
theorem e0_k (j : S32x8x64x128.Idx) : (EP (launchContents m c) main_v6 : C Ideal S32x8x64x128 .f32) j = (s.k (j 1) (j 0) (j 2) (j 3) : EReal) := by
  rw [P_v6, EP_keep _ main_arg3 (by decide +kernel)]
  exact s_x A.k j
theorem e0_u (j : S32x8x64x128.Idx) : (EP (launchContents m c) main_v7 : C Ideal S32x8x64x128 .f32) j = (s.u (j 1) (j 0) (j 2) (j 3) : EReal) := by
  rw [P_v7, EP_keep _ main_arg0 (by decide +kernel)]
  exact s_x A.u j
theorem e0_w (j : S32x8x64x128.Idx) : (EP (launchContents m c) main_v8 : C Ideal S32x8x64x128 .f32) j = (s.w (j 1) (j 0) (j 2) (j 3) : EReal) := by
  rw [P_v8, EP_keep _ main_arg1 (by decide +kernel)]
  exact s_x A.w j
theorem e0_a (j : S32x8x64x64.Idx) : (EP (launchContents m c) main_v9 : C Ideal S32x8x64x64 .f32) j = (s.a (j 1) (j 0) (j 2) (j 3) : EReal) := by
  rw [P_v9, EP_keep _ main_arg4 (by decide +kernel)]
  exact s_a A.a j
theorem e0_o (j : S32x8x64x128.Idx) : (EP (launchContents m c) main_v3 : C Ideal S32x8x64x128 .f32) j = (s.o (64 * (j 0).val + j 2) (128 * (j 1).val + j 3) : EReal) := by
  rw [P_v3, P_v2, EP_keep _ main_arg6 (by decide +kernel)]
  exact s_o A.o j
theorem e0_g (j : S32x8.Idx) : (EP (launchContents m c) main_v1 : C Ideal S32x8 .f32) j = ((∑ r : Fin 64, s.g (64 * (j 0).val + r) (j 1) : ℝ) : EReal) := by
  rw [P_v1, P_v0, P_cst, EP_keep _ main_arg5 (by decide +kernel)]
  exact s_g A.g j

theorem in0 : In0 s (ent0 m c) :=
  ⟨fun j => (congrFun (P_v15_1 (launchContents m c)) j).trans (e0_k A j), fun j => (congrFun (P_v15_2 (launchContents m c)) j).trans (e0_u A j),
    fun j => (congrFun (P_v15_3 (launchContents m c)) j).trans (e0_w A j), fun j => (congrFun (P_v15_5 (launchContents m c)) j).trans (e0_g A j)⟩

theorem inv0_zero : Inv0 s 0 (ent0 m c) :=
  ⟨fun j => (congrFun ((P_v15_7 (launchContents m c)).trans (P_v4 _)) j).trans (by rw [P_cst_0]; exact s_0 j), fun j hj => absurd hj (Nat.not_lt_zero _),
    fun j hj => absurd hj (Nat.not_lt_zero _), fun j hj => absurd hj (Nat.not_lt_zero _), fun j hj => absurd hj (Nat.not_lt_zero _)⟩

omit A in
theorem g_cond0 (V : Valuation τ sig (Elt Ideal)) {r : Ref sig .tc} (hr : r ∉ cond0_W) : G (after cond0 V) r = G V r := after_unwritten cond0_W cond0_w hr V
omit A in
theorem g_cond1 (V : Valuation τ sig (Elt Ideal)) {r : Ref sig .tc} (hr : r ∉ cond1_W) : G (after cond1 V) r = G V r := after_unwritten cond1_W cond1_w hr V

omit A in
theorem In0.keep {V V' : Valuation τ sig (Elt Ideal)} (h1 : G V' main_v15_1 = G V main_v15_1) (h2 : G V' main_v15_2 = G V main_v15_2)
    (h3 : G V' main_v15_3 = G V main_v15_3) (h5 : G V' main_v15_5 = G V main_v15_5) (I : In0 s V) : In0 s V' :=
  ⟨fun j => (congrFun h1 j).trans (I.k j), fun j => (congrFun h2 j).trans (I.u j), fun j => (congrFun h3 j).trans (I.w j), fun j => (congrFun h5 j).trans (I.g j)⟩
omit A in
theorem Inv0.keep {V V' : Valuation τ sig (Elt Ideal)} (h1 : G V' main_v15_7 = G V main_v15_7) (h2 : G V' main_v15_9 = G V main_v15_9)
    (h3 : G V' main_v15_10 = G V main_v15_10) (h4 : G V' main_v15_11 = G V main_v15_11) (h5 : G V' main_v15_12 = G V main_v15_12) (I : Inv0 s k V) : Inv0 s k V' :=
  ⟨fun j => (congrFun h1 j).trans (I.D j), fun j hj => (congrFun h2 j).trans (I.S j hj), fun j hj => (congrFun h3 j).trans (I.v j hj),
    fun j hj => (congrFun h4 j).trans (I.g j hj), fun j hj => (congrFun h5 j).trans (I.g1 j hj)⟩

theorem inv0 : ∀ k ≤ 32, Inv0 s k (at0 m k c)
  | 0, _ => inv0_zero A
  | k + 1, hk => by
    have J := inv0 k (by omega)
    rw [show at0 m (k + 1) c = afterL bodyI0 (after cond0 (at0 m k c)) from rfl, body0]
    have kp : ∀ r : Ref sig .tc, r ∉ cond0_W → r ∉ body0_all → G (after cond0 (at0 m k c)) r = G (ent0 m c) r := fun r h h' =>
      (g_cond0 _ h).trans (at0_keep m h h' c k)
    refine step0 (by omega) (at_iv (by omega) ((g_cond0 _ (by decide +kernel)).trans (at0_ctr m c k)))
      ((in0 A).keep (kp _ (by decide +kernel) (by decide +kernel)) (kp _ (by decide +kernel) (by decide +kernel)) (kp _ (by decide +kernel) (by decide +kernel)) (kp _ (by decide +kernel) (by decide +kernel))) ?_
    exact J.keep (g_cond0 _ (by decide +kernel)) (g_cond0 _ (by decide +kernel)) (g_cond0 _ (by decide +kernel)) (g_cond0 _ (by decide +kernel)) (g_cond0 _ (by decide +kernel))

omit A in
/-- Between the loops, what the first one reads is still there. -/
theorem mid_old {r : Ref sig .tc} (h : r ∉ WM) (h0 : r ∉ cond0_W) (h' : r ∉ body0_all) :
    EM (after cond0 (at0 m 32 c)) r = EP (launchContents m c) r :=
  (EM_keep _ r h).trans ((g_cond0 _ h0).trans (at0_keep m h0 h' c 32))
omit A in
theorem mid_new {r : Ref sig .tc} (h : r ∉ WM) (h0 : r ∉ cond0_W) :
    EM (after cond0 (at0 m 32 c)) r = G (at0 m 32 c) r := (EM_keep _ r h).trans (g_cond0 _ h0)

theorem in1 : In1 s (ent1 m c) := by
  have J := inv0 A 32 le_rfl
  refine ⟨fun j => ?_, fun j => ?_, fun j => ?_, fun j => ?_, fun j => ?_, fun j => ?_, fun j => ?_, fun j => ?_, fun j => ?_⟩
  · exact (congrFun ((M_v24_0 (after cond0 (at0 m 32 c))).trans (mid_old (by decide +kernel) (by decide +kernel) (by decide +kernel))) j).trans (e0_o A j)
  · exact (congrFun ((M_v24_1 (after cond0 (at0 m 32 c))).trans (mid_new (by decide +kernel) (by decide +kernel))) j).trans (J.S j (j 0).isLt)
  · exact (congrFun ((M_v24_2 (after cond0 (at0 m 32 c))).trans (mid_old (by decide +kernel) (by decide +kernel) (by decide +kernel))) j).trans (e0_w A j)
  · exact (congrFun ((M_v24_3 (after cond0 (at0 m 32 c))).trans (mid_old (by decide +kernel) (by decide +kernel) (by decide +kernel))) j).trans (e0_q A j)
  · exact (congrFun ((M_v24_4 (after cond0 (at0 m 32 c))).trans (mid_new (by decide +kernel) (by decide +kernel))) j).trans (J.v j (j 0).isLt)
  · exact (congrFun ((M_v24_5 (after cond0 (at0 m 32 c))).trans (mid_old (by decide +kernel) (by decide +kernel) (by decide +kernel))) j).trans (e0_a A j)
  · exact (congrFun ((M_v24_6 (after cond0 (at0 m 32 c))).trans (mid_new (by decide +kernel) (by decide +kernel))) j).trans (J.g j (j 0).isLt)
  · exact (congrFun ((M_v24_7 (after cond0 (at0 m 32 c))).trans (mid_new (by decide +kernel) (by decide +kernel))) j).trans (J.g1 j (j 0).isLt)
  · exact (congrFun ((M_v24_8 (after cond0 (at0 m 32 c))).trans (mid_old (by decide +kernel) (by decide +kernel) (by decide +kernel))) j).trans (e0_k A j)

omit A in
theorem In1.keep {V V' : Valuation τ sig (Elt Ideal)} (h : ∀ r ∈ [main_v24_0, main_v24_1, main_v24_2, main_v24_3, main_v24_4, main_v24_5, main_v24_6, main_v24_7, main_v24_8],
    G V' r = G V r) (I : In1 s V) : In1 s V' :=
  ⟨fun j => (congrFun (h _ (by decide +kernel)) j).trans (I.o j), fun j => (congrFun (h _ (by decide +kernel)) j).trans (I.S j), fun j => (congrFun (h _ (by decide +kernel)) j).trans (I.w j),
    fun j => (congrFun (h _ (by decide +kernel)) j).trans (I.q j), fun j => (congrFun (h _ (by decide +kernel)) j).trans (I.v j), fun j => (congrFun (h _ (by decide +kernel)) j).trans (I.a j),
    fun j => (congrFun (h _ (by decide +kernel)) j).trans (I.g j), fun j => (congrFun (h _ (by decide +kernel)) j).trans (I.g1 j), fun j => (congrFun (h _ (by decide +kernel)) j).trans (I.k j)⟩
omit A in
theorem Inv1.keep {V V' : Valuation τ sig (Elt Ideal)} (h : ∀ r ∈ [main_v24_10, main_v24_11, main_v24_12, main_v24_13, main_v24_14, main_v24_15, main_v24_16],
    G V' r = G V r) (I : Inv1 s k V) : Inv1 s k V' :=
  ⟨fun j => (congrFun (h main_v24_10 (by decide +kernel)) j).trans (I.D j), fun j hj => (congrFun (h _ (by decide +kernel)) j).trans (I.q j hj), fun j hj => (congrFun (h _ (by decide +kernel)) j).trans (I.kk j hj),
    fun j hj => (congrFun (h _ (by decide +kernel)) j).trans (I.u j hj), fun j hj => (congrFun (h _ (by decide +kernel)) j).trans (I.w j hj), fun j hj => (congrFun (h _ (by decide +kernel)) j).trans (I.a j hj),
    fun j hj => (congrFun (h _ (by decide +kernel)) j).trans (I.g j hj)⟩

omit A in
theorem inv1_zero : Inv1 s 0 (ent1 m c) := by
  refine ⟨fun j => ?_, fun j hj => absurd hj ?_, fun j hj => absurd hj ?_, fun j hj => absurd hj ?_, fun j hj => absurd hj ?_, fun j hj => absurd hj ?_, fun j hj => absurd hj ?_⟩
  · exact (congrFun ((M_v24_10 (after cond0 (at0 m 32 c))).trans (M_v17 _)) j).trans (by rw [M_cst_7]; exact s_0 j)
  all_goals exact Nat.not_le.mpr (j 0).isLt

end Whole

end Cert.ReferenceIdeal.Two

end
-- ==== Proof.RefOut.lean ====
/- The second loop over its whole run, and what the reference leaves in its six results. -/
module

public import proofs.«01_k».proof.Proof.RefVal

@[expose] public section

noncomputable section

namespace Cert.ReferenceIdeal.Two

open Cert.ReferenceIdeal Cert.ReferenceIdeal.Gen
open Idealize.ShloMosaic Idealize.ShloMosaic.TcCoe Idealize.ShloMosaic.StableHlo Idealize.SL.Sem
open Cert.Spec
open scoped BigOperators

variable {s : Seq}

section Lists
abbrev ins1 : List (Ref sig .tc) := [main_v24_0, main_v24_1, main_v24_2, main_v24_3, main_v24_4, main_v24_5, main_v24_6, main_v24_7, main_v24_8]
abbrev outs1 : List (Ref sig .tc) := [main_v24_10, main_v24_11, main_v24_12, main_v24_13, main_v24_14, main_v24_15, main_v24_16]
theorem ins1_cond : ∀ r ∈ ins1, r ∉ cond1_W := by decide +kernel
theorem ins1_body : ∀ r ∈ ins1, r ∉ body1_all := by decide +kernel
theorem outs1_cond : ∀ r ∈ outs1, r ∉ cond1_W := by decide +kernel
end Lists

section Whole
variable {m : (ℓ : Loc nD τ sig) → Buf (Elt Ideal) ℓ} {c : Dev nD}

theorem ctr1 (k : ℕ) : (G (after cond1 (at1 m k c)) main_v24_9 : C Ideal S_ .i32) = fun _ => Scf.iv 0#32 1#32 k :=
  (g_cond1 (at1 m k c) (by decide +kernel)).trans (at1_ctr m c k)

theorem ins1_keep (k : ℕ) (r : Ref sig .tc) (hr : r ∈ ins1) : G (after cond1 (at1 m k c)) r = G (ent1 m c) r :=
  (g_cond1 (at1 m k c) (ins1_cond r hr)).trans (at1_keep m (ins1_cond r hr) (ins1_body r hr) c k)

theorem outs1_keep {k : ℕ} (J : Inv1 s k (at1 m k c)) : Inv1 s k (after cond1 (at1 m k c)) :=
  J.keep fun r hr => g_cond1 (at1 m k c) (outs1_cond r hr)

theorem at1_succ (k : ℕ) : at1 m (k + 1) c = after opsB2 (after opsB (after cond1 (at1 m k c))) :=
  body1 (after cond1 (at1 m k c))

variable (A : Argr m c s)
include A

theorem ins1_at (k : ℕ) : In1 s (after cond1 (at1 m k c)) := (in1 A).keep (ins1_keep k)

theorem inv1_succ {k : ℕ} (hk : k < 32) (J : Inv1 s k (at1 m k c)) : Inv1 s (k + 1) (at1 m (k + 1) c) := by
  rw [at1_succ]
  exact step1 hk (ctr1 k) (ins1_at A k) (outs1_keep J)

theorem inv1 : ∀ k ≤ 32, Inv1 s k (at1 m k c)
  | 0, _ => inv1_zero
  | k + 1, hk => inv1_succ A (by omega) (inv1 k (by omega))

omit A in
theorem post_eq (V : Valuation τ sig (Elt Ideal)) (b : Ref sig .tc) : afterL postI V (Proc.devRef .tc b) = EQ V b := by
  rw [afterL_eq_after_flatten]; rfl

theorem inv1_end : Inv1 s 32 (after cond1 (at1 m 32 c)) := outs1_keep (inv1 A 32 le_rfl)

theorem out_du : (fin m c (Proc.devRef .tc main_v36) : C Ideal S2048x1024 .f32) = fun j => (s.du (j 0) (j 1) : EReal) := by
  have J := inv1_end A
  refine (post_eq _ main_v36).trans ?_
  rw [Q_v36, Q_v35, Q_v27, EQ_keep _ main_v24_13 (by decide +kernel)]
  exact e_rows (f := fun h n => (s.chunk h n).dv (s.back h (31 - n))) fun j => J.u j (Nat.zero_le _)

theorem out_dw : (fin m c (Proc.devRef .tc main_v38) : C Ideal S2048x1024 .f32) = fun j => (s.dw (j 0) (j 1) : EReal) := by
  have J := inv1_end A
  refine (post_eq _ main_v38).trans ?_
  rw [Q_v38, Q_v37, Q_v26, EQ_keep _ main_v24_14 (by decide +kernel)]
  exact e_rows (f := fun h n => (s.chunk h n).dw (s.back h (31 - n))) fun j => J.w j (Nat.zero_le _)

theorem out_dq : (fin m c (Proc.devRef .tc main_v40) : C Ideal S2048x1024 .f32) = fun j => (s.dq (j 0) (j 1) : EReal) := by
  have J := inv1_end A
  refine (post_eq _ main_v40).trans ?_
  rw [Q_v40, Q_v39, Q_v29, EQ_keep _ main_v24_11 (by decide +kernel)]
  exact e_rows (f := fun h n => (s.chunk h n).dq) fun j => J.q j (Nat.zero_le _)

theorem out_dk : (fin m c (Proc.devRef .tc main_v42) : C Ideal S2048x1024 .f32) = fun j => (s.dk (j 0) (j 1) : EReal) := by
  have J := inv1_end A
  refine (post_eq _ main_v42).trans ?_
  rw [Q_v42, Q_v41, Q_v28, EQ_keep _ main_v24_12 (by decide +kernel)]
  exact e_rows (f := fun h n => (s.chunk h n).dk (s.back h (31 - n))) fun j => J.kk j (Nat.zero_le _)

theorem out_dg : (fin m c (Proc.devRef .tc main_v34) : C Ideal S8x32x1x128 .f32) = fun j => (s.dg (j 0) (j 1) : EReal) := by
  have J := inv1_end A
  refine (post_eq _ main_v34).trans ?_
  rw [Q_v34, Q_v33, Q_v32, EQ_keep _ main_v24_16 (by decide +kernel)]
  exact e_dg (f := s.dg) fun j => J.g j (Nat.zero_le _)

theorem out_da : (fin m c (Proc.devRef .tc main_v43) : C Ideal S8x32x64x64 .f32) = fun j => (s.da (j 0) (j 1) (j 2) (j 3) : EReal) := by
  have J := inv1_end A
  refine (post_eq _ main_v43).trans ?_
  rw [Q_v43, Q_v31, Q_v30, Q_c_15, Q_cst_16, Q_v25, EQ_keep _ main_v24_15 (by decide +kernel)]
  exact e_da fun j => J.a j (Nat.zero_le _)

end Whole

end Cert.ReferenceIdeal.Two

end
-- ==== Proof.Real.lean ====
/- Arguments that the precondition accepts hold real numbers: each is a real sequence's array. -/
module

public import proofs.«01_k».proof.Proof.Chunks
public import proofs.«01_k».proof.Defs
public import proofs.«01_k».proof.Proof.Gen.Pre_finite
public import Idealize.ShloMosaic.Lib.ReduceAll

@[expose] public section

noncomputable section

namespace Cert.Proof

open Idealize.ShloMosaic Cert.Spec Cert.Pre_finite Cert.Pre_finite.Gen

/-- An extended real whose size is below infinity is a real number. -/
theorem real_of_olt (x : EReal) (h : FloatOps.cmpf (F := Ideal) (φ := .f32) .olt (FloatOps.absf (F := Ideal) (φ := .f32) x) (FloatOps.ofBits (F := Ideal) .f32 0x7F800000#32) = 1#1) :
    ((x.toReal : ℝ) : EReal) = x := by
  have hi : FloatOps.ofBits (F := Ideal) .f32 0x7F800000#32 = (⊤ : EReal) := by
    show Ideal.ofBits .f32 0x7F800000#32 = ⊤
    simp [Ideal.ofBits, Ideal.ieee]
  rw [hi] at h
  induction x using EReal.rec with
  | bot => exact absurd h (by simp [FloatOps.cmpf, FloatOps.absf, Ideal.cmp])
  | coe r => rfl
  | top => exact absurd h (by simp [FloatOps.cmpf, FloatOps.absf, Ideal.cmp])

instance : Subsingleton S_.Idx := ⟨fun a b => funext fun i => i.elim0⟩

/-- A conjunction over all elements of an array says that each is a real number. -/
theorem real_of_all {S : Shape} {axes : List (Fin S.rank)} (x : Vec Ideal S .f32) (hb : S_.BroadcastsInDim S (![] : Fin 0 → Fin S.rank))
    (hr : S.ReducesTo axes S_) (j : S_.Idx)
    (h : Host.reduce IntOp.andi (cmpf .olt (Host.absf (F := Ideal) (φ := .f32) x) (broadcastInDim S ![] hb (constant (F := Ideal) S_ .f32 0x7F800000#32)))
      (constantI S_ 1 1#1) hr h_S_ j = 1#1) (i : S.Idx) : (((x i : EReal).toReal : ℝ) : EReal) = x i :=
  real_of_olt (x i) (Host.reduce_andi_all _ _ _ _ j h i)

theorem mats {d : Fin 4 → ℕ} (x : (⟨4, d⟩ : Shape).Idx → EReal) (h : ∀ i, (((x i).toReal : ℝ) : EReal) = x i) :
    ∃ f : ℕ → ℕ → Mat, ∀ j, x j = (f (j 0).val (j 1).val (j 2).val (j 3).val : EReal) := by
  classical
  refine ⟨fun a b c e => if p : ∃ j : (⟨4, d⟩ : Shape).Idx, (j 0).val = a ∧ (j 1).val = b ∧ (j 2).val = c ∧ (j 3).val = e then (x p.choose).toReal else 0, fun j => ?_⟩
  have p : ∃ j' : (⟨4, d⟩ : Shape).Idx, (j' 0).val = (j 0).val ∧ (j' 1).val = (j 1).val ∧ (j' 2).val = (j 2).val ∧ (j' 3).val = (j 3).val := ⟨j, rfl, rfl, rfl, rfl⟩
  have e : p.choose = j := by
    obtain ⟨h0, h1, h2, h3⟩ := p.choose_spec
    funext a
    match a with
    | 0 => exact Fin.ext h0
    | 1 => exact Fin.ext h1
    | 2 => exact Fin.ext h2
    | 3 => exact Fin.ext h3
  simp only [dif_pos p, e, h]

theorem mat {d : Fin 2 → ℕ} (x : (⟨2, d⟩ : Shape).Idx → EReal) (h : ∀ i, (((x i).toReal : ℝ) : EReal) = x i) :
    ∃ f : Mat, ∀ j, x j = (f (j 0).val (j 1).val : EReal) := by
  classical
  refine ⟨fun a b => if p : ∃ j : (⟨2, d⟩ : Shape).Idx, (j 0).val = a ∧ (j 1).val = b then (x p.choose).toReal else 0, fun j => ?_⟩
  have p : ∃ j' : (⟨2, d⟩ : Shape).Idx, (j' 0).val = (j 0).val ∧ (j' 1).val = (j 1).val := ⟨j, rfl, rfl⟩
  have e : p.choose = j := by
    obtain ⟨h0, h1⟩ := p.choose_spec
    funext a
    match a with
    | 0 => exact Fin.ext h0
    | 1 => exact Fin.ext h1
  simp only [dif_pos p, e, h]

/-- What the precondition says of the arrays: all but the last are made of real numbers. -/
theorem args_of_pre (u w q k : Vec Ideal S8x32x64x128 .f32) (a : Vec Ideal S8x32x64x64 .f32) (g : Vec Ideal S2048x8 .f32)
    (o : Vec Ideal S2048x1024 .f32) (d : Vec Ideal S8x128 .f32) (h : fn (F := Ideal) u w q k a g o d = fun _ => 1#1) :
    ∃ s : Seq, Cert.KernelIdeal.Val.Args s u w q k a g o := by
  have h' := congrFun h (Shape.Idx.first h_S_)
  unfold fn fn_part1 at h'
  simp only [andi, IntOp.andi_eq_one] at h'
  obtain ⟨⟨⟨⟨⟨⟨hu, hw⟩, hq⟩, hk⟩, ha⟩, hg⟩, ho⟩ := h'
  obtain ⟨fu, hu⟩ := mats u (real_of_all u _ _ _ hu)
  obtain ⟨fw, hw⟩ := mats w (real_of_all w _ _ _ hw)
  obtain ⟨fq, hq⟩ := mats q (real_of_all q _ _ _ hq)
  obtain ⟨fk, hk⟩ := mats k (real_of_all k _ _ _ hk)
  obtain ⟨fa, ha⟩ := mats a (real_of_all a _ _ _ ha)
  obtain ⟨fg, hg⟩ := mat g (real_of_all g _ _ _ hg)
  obtain ⟨fo, ho⟩ := mat o (real_of_all o _ _ _ ho)
  exact ⟨⟨fu, fw, fq, fk, fa, fg, fo⟩, hu, hw, hq, hk, ha, hg, ho⟩

end Cert.Proof

end
-- ==== Proof.DX.lean ====
/- The gradient of the input: what the array holds after the run, and the reference's. -/
module

public import proofs.«01_k».proof.Proof.Gen.Kernel2Ideal.Value
public import proofs.«01_k».proof.Proof.Gen.Reference2Ideal.Run
public import Idealize.ShloMosaic.Lib.Pointwise
public import Idealize.ShloMosaic.Lib.Pipeline.Value
public import proofs.«01_k».proof.Defs
public import Idealize.ShloMosaic.Adequacy
public import Idealize.ShloMosaic.Init

@[expose] public section

set_option maxRecDepth 16384

noncomputable section

namespace Cert.Kernel2Ideal.Val

open Cert.Kernel2Ideal Cert.Kernel2Ideal.Gen Idealize.ShloMosaic Idealize.ShloMosaic.TcCoe
open scoped BigOperators

/-- The weights' columns in the call's order: 4608 of them, the last 1024, the 16 between, and zeros. -/
def wt (w : S2048x5648.Idx → EReal) (n : Fin 5760) (k : Fin 2048) : EReal :=
  if h : n.val < 4608 then w (ix2 k ⟨n.val, by omega⟩)
  else if h' : n.val < 5632 then w (ix2 k ⟨n.val + 16, by omega⟩)
  else if h'' : n.val < 5648 then w (ix2 k ⟨n.val - 1024, by omega⟩)
  else 0

/-- The columns of a row, set one after the other: q, k, v, the channels before the convolution, the 16 gates, z. -/
def col (q : S2048x1024.Idx → EReal) (k v : S2048x256.Idx → EReal) (u : S2048x3072.Idx → EReal) (z : S2048x1024.Idx → EReal) (a : S2048x128.Idx → EReal) (r : Fin 2048) (n : Fin 5648) : EReal :=
  if h : n.val < 1024 then q (ix2 r ⟨n.val, h⟩)
  else if h : n.val - 1024 < 256 then k (ix2 r ⟨n.val - 1024, h⟩)
  else if h : n.val - 1024 - 256 < 256 then v (ix2 r ⟨n.val - 1024 - 256, h⟩)
  else if h : n.val - 1024 - 256 - 256 < 3072 then u (ix2 r ⟨n.val - 1024 - 256 - 256, h⟩)
  else if h : n.val - 1024 - 256 - 256 - 3072 < 16 then a (ix2 r ⟨n.val - 1024 - 256 - 256 - 3072, by omega⟩)
  else z (ix2 r ⟨n.val - 1024 - 256 - 256 - 3072 - 16, by have := n.isLt; omega⟩)

/-- The same in the call's order: z before the gates, and 112 columns more. -/
def pcol (q : S2048x1024.Idx → EReal) (k v : S2048x256.Idx → EReal) (u : S2048x3072.Idx → EReal) (z : S2048x1024.Idx → EReal) (a : S2048x128.Idx → EReal) (r : Fin 2048) (n : Fin 5760) : EReal :=
  if h : n.val < 1024 then q (ix2 r ⟨n.val, h⟩)
  else if h : n.val - 1024 < 256 then k (ix2 r ⟨n.val - 1024, h⟩)
  else if h : n.val - 1024 - 256 < 256 then v (ix2 r ⟨n.val - 1024 - 256, h⟩)
  else if h : n.val - 1024 - 256 - 256 < 3072 then u (ix2 r ⟨n.val - 1024 - 256 - 256, h⟩)
  else if h : n.val - 1024 - 256 - 256 - 3072 < 1024 then z (ix2 r ⟨n.val - 1024 - 256 - 256 - 3072, h⟩)
  else a (ix2 r ⟨n.val - 1024 - 256 - 256 - 3072 - 1024, by have := n.isLt; omega⟩)

/-- The factor of the part that skips the block. -/
def scaled (x : EReal) : EReal := (Scalar.ofBits (F := Ideal) .f32 0x3F9837F0#32 : EReal) * x

/-- The part that skips the block, plus a row of the cotangent times a row of the weights. -/
def prod (w : S2048x5648.Idx → EReal) (q : S2048x1024.Idx → EReal) (k v : S2048x256.Idx → EReal) (u : S2048x3072.Idx → EReal) (z : S2048x1024.Idx → EReal) (a : S2048x128.Idx → EReal) (d : S2048x2048.Idx → EReal) : S2048x2048.Idx → EReal :=
  fun i => scaled (d i) + ∑ l : Fin 5760, pcol q k v u z a (i 0) l * wt w l (i 1)

/-- One block of the result. -/
theorem pay_apply (x0 : Vec Ideal S512x5760 .bf16) (x1 : Vec Ideal S5760x1024 .bf16) (x2 : Vec Ideal S512x1024 .f32) (y : S512x1024.Idx) :
    k0_pay1 (F := Ideal) x0 x1 x2 y = scaled (x2 y) + ∑ l : Fin 5760, x0 (ix2 (y 0) l) * x1 (ix2 l (y 1)) := by
  unfold k0_pay1 scaled
  pointwise

/-- The one store leaves the payload of the three blocks. -/
theorem out_eq (c : Dev nD) (i : grid0.Coords) (arg3 : Memref sig .tc .vmem S512x5760 .bf16) (harg3 : arg3.IsWhole)
    (arg4 : Memref sig .tc .vmem S5760x1024 .bf16) (harg4 : arg4.IsWhole) (arg5 : Memref sig .tc .vmem S512x1024 .f32)
    (harg5 : arg5.IsWhole) (arg7 : Memref sig .tc .vmem S512x1024 .f32) (harg7 : arg7.IsWhole)
    (x0 : Vec Ideal S512x5760 .bf16) (x1 : Vec Ideal S5760x1024 .bf16) (x2 : Vec Ideal S512x1024 .f32) :
    out0_A_3 (F := Ideal) c i arg3 harg3 arg4 harg4 arg5 harg5 arg7 harg7 x0 x1 x2 = k0_pay1 x0 x1 x2 := by
  have hz : (![0, 0] : Fin 2 → Nat) = fun _ => 0 := funext fun a => by fin_cases a <;> rfl
  unfold out0_A_3
  rw [View.read_writes_eq_canon _ _ _ (cover0_A_3 c i arg3 harg3 arg4 harg4 arg5 harg5 arg7 harg7 x0 x1 x2)]
  unfold kernelRun0_A
  dsimp only
  rw [View.canon_unit_zero hz]
  simp only [View.readAt_eq_ld, harg3.read_unread, harg4.read_unread, harg5.read_unread, View.ld_unit_zero (S := S512x5760) hz,
    View.ld_unit_zero (S := S5760x1024) hz, View.ld_unit_zero (S := S512x1024) hz]

/-- Where the blocks of a grid point lie. -/
theorem idx_facts : ∀ t : Fin cfg0.N,
    (win0_0.index t (0 : Fin 2) = t.val / 2 ∧ win0_0.index t (1 : Fin 2) = 0)
    ∧ (win0_1.index t (0 : Fin 2) = 0 ∧ win0_1.index t (1 : Fin 2) = t.val % 2)
    ∧ (win0_2.index t (0 : Fin 2) = t.val / 2 ∧ win0_2.index t (1 : Fin 2) = t.val % 2)
    ∧ (win0_3.index t (0 : Fin 2) = t.val / 2 ∧ win0_3.index t (1 : Fin 2) = t.val % 2)
    ∧ (cfg0.win 3).flush t = true :=
  (by decide +kernel : ∀ t : Fin grid0.N, _)

variable (m : (ℓ : Loc nD τ sig) → Buf (Elt Ideal) ℓ)

theorem emb0 (t : Fin cfg0.N) (y : S512x5760.Idx) : ∀ a : Fin 2,
    (((cfg0.win 0).blk t).view.emb y a).val = ![t.val / 2 * 512 + (y 0).val, (y 1).val] a := by
  obtain ⟨⟨e0, e1⟩, -⟩ := idx_facts t
  intro a
  match a with
  | ⟨0, _⟩ => show win0_0.index t (0 : Fin 2) * 512 + 1 * (y 0).val = t.val / 2 * 512 + (y 0).val; omega
  | ⟨1, _⟩ => show win0_0.index t (1 : Fin 2) * 5760 + 1 * (y 1).val = (y 1).val; omega

theorem emb1 (t : Fin cfg0.N) (y : S5760x1024.Idx) : ∀ a : Fin 2,
    (((cfg0.win 1).blk t).view.emb y a).val = ![(y 0).val, t.val % 2 * 1024 + (y 1).val] a := by
  obtain ⟨-, ⟨e0, e1⟩, -⟩ := idx_facts t
  intro a
  match a with
  | ⟨0, _⟩ => show win0_1.index t (0 : Fin 2) * 5760 + 1 * (y 0).val = (y 0).val; omega
  | ⟨1, _⟩ => show win0_1.index t (1 : Fin 2) * 1024 + 1 * (y 1).val = t.val % 2 * 1024 + (y 1).val; omega

theorem emb2 (t : Fin cfg0.N) (y : S512x1024.Idx) : ∀ a : Fin 2,
    (((cfg0.win 2).blk t).view.emb y a).val = ![t.val / 2 * 512 + (y 0).val, t.val % 2 * 1024 + (y 1).val] a := by
  obtain ⟨-, -, ⟨e0, e1⟩, -⟩ := idx_facts t
  intro a
  match a with
  | ⟨0, _⟩ => show win0_2.index t (0 : Fin 2) * 512 + 1 * (y 0).val = t.val / 2 * 512 + (y 0).val; omega
  | ⟨1, _⟩ => show win0_2.index t (1 : Fin 2) * 1024 + 1 * (y 1).val = t.val % 2 * 1024 + (y 1).val; omega

theorem emb3 (t : Fin cfg0.N) (y : S512x1024.Idx) : ∀ a : Fin 2,
    (((cfg0.win 3).blk t).view.emb y a).val = ![t.val / 2 * 512 + (y 0).val, t.val % 2 * 1024 + (y 1).val] a := by
  obtain ⟨-, -, -, ⟨e0, e1⟩, -⟩ := idx_facts t
  intro a
  match a with
  | ⟨0, _⟩ => show win0_3.index t (0 : Fin 2) * 512 + 1 * (y 0).val = t.val / 2 * 512 + (y 0).val; omega
  | ⟨1, _⟩ => show win0_3.index t (1 : Fin 2) * 1024 + 1 * (y 1).val = t.val % 2 * 1024 + (y 1).val; omega

/-- The zero that the host's padding takes. -/
theorem zero (j : S_.Idx) : (sitofp (F := Ideal) .bf16 (constantI S_ 32 0#32) : S_.Idx → EReal) j = 0 := by
  show ((((0#32 : BitVec 32).toInt : ℤ) : ℝ) : EReal) = 0
  simp

/-- The weights in the call's order, as the host puts them together. -/
def cat (W : S2048x5648.Idx → EReal) : S5760x2048.Idx → EReal :=
  concatenate S5760x2048 0
      [⟨S4608x2048, extractStridedSlice S4608x2048 ![0, 0] (truncf (F := Ideal) (φ := .f32) .bf16 (transpose S5648x2048 [1, 0]
          (W : S2048x5648.Idx → EReal) transposes_S2048x5648_S5648x2048_1_0) bitsLt_bf16_f32)
          slices_S5648x2048_S4608x2048_0_0⟩,
        ⟨S1024x2048, extractStridedSlice S1024x2048 ![4624, 0] (truncf (F := Ideal) (φ := .f32) .bf16 (transpose S5648x2048 [1, 0]
          (W : S2048x5648.Idx → EReal) transposes_S2048x5648_S5648x2048_1_0) bitsLt_bf16_f32)
          slices_S5648x2048_S1024x2048_4624_0⟩,
        ⟨S128x2048, pad S128x2048 ![0, 0] ![112, 0] ![0, 0] (extractStridedSlice S16x2048 ![4608, 0] (truncf (F := Ideal) (φ := .f32) .bf16
          (transpose S5648x2048 [1, 0] (W : S2048x5648.Idx → EReal) transposes_S2048x5648_S5648x2048_1_0) bitsLt_bf16_f32)
          slices_S5648x2048_S16x2048_4608_0) (sitofp (F := Ideal) .bf16 (constantI S_ 32 0#32)) pads_S16x2048_S128x2048_01120_000 h_S_⟩]
      concatenates_S4608x2048_S1024x2048_S128x2048_S5760x2048_d0

theorem cat3 (x : S4608x2048.Idx → EReal) (y : S1024x2048.Idx → EReal) (z : S128x2048.Idx → EReal) (i : S5760x2048.Idx) :
    concatenate S5760x2048 0 [⟨S4608x2048, x⟩, ⟨S1024x2048, y⟩, ⟨S128x2048, z⟩] concatenates_S4608x2048_S1024x2048_S128x2048_S5760x2048_d0 i
      = if h : (i 0).val < 4608 then x (ix2 ⟨(i 0).val, h⟩ (i 1))
        else if h' : (i 0).val - 4608 < 1024 then y (ix2 ⟨(i 0).val - 4608, h'⟩ (i 1))
        else z (ix2 ⟨(i 0).val - 4608 - 1024, by have hn : (i 0).val < 5760 := (i 0).isLt; omega⟩ (i 1)) := by
  pointwise

theorem padded (x : S16x2048.Idx → EReal) (v : S_.Idx → EReal) (hv : ∀ j, v j = 0) (i : S128x2048.Idx) :
    pad S128x2048 ![0, 0] ![112, 0] ![0, 0] x v pads_S16x2048_S128x2048_01120_000 h_S_ i
      = if h : (i 0).val < 16 then x (ix2 ⟨(i 0).val, h⟩ (i 1)) else 0 := by
  pointwise [hv]

theorem first (W : S2048x5648.Idx → EReal) (i : S4608x2048.Idx) :
    extractStridedSlice S4608x2048 ![0, 0] (truncf (F := Ideal) (φ := .f32) .bf16 (transpose S5648x2048 [1, 0]
          (W : S2048x5648.Idx → EReal) transposes_S2048x5648_S5648x2048_1_0) bitsLt_bf16_f32)
          slices_S5648x2048_S4608x2048_0_0 i = W (ix2 (i 1) ⟨(i 0).val, by have hn : (i 0).val < 4608 := (i 0).isLt; omega⟩) := by
  pointwise

theorem second (W : S2048x5648.Idx → EReal) (i : S1024x2048.Idx) :
    extractStridedSlice S1024x2048 ![4624, 0] (truncf (F := Ideal) (φ := .f32) .bf16 (transpose S5648x2048 [1, 0]
          (W : S2048x5648.Idx → EReal) transposes_S2048x5648_S5648x2048_1_0) bitsLt_bf16_f32)
          slices_S5648x2048_S1024x2048_4624_0 i = W (ix2 (i 1) ⟨4624 + (i 0).val, by have hn : (i 0).val < 1024 := (i 0).isLt; omega⟩) := by
  pointwise

theorem third (W : S2048x5648.Idx → EReal) (i : S16x2048.Idx) :
    extractStridedSlice S16x2048 ![4608, 0] (truncf (F := Ideal) (φ := .f32) .bf16 (transpose S5648x2048 [1, 0]
          (W : S2048x5648.Idx → EReal) transposes_S2048x5648_S5648x2048_1_0) bitsLt_bf16_f32)
          slices_S5648x2048_S16x2048_4608_0 i = W (ix2 (i 1) ⟨4608 + (i 0).val, by have hn : (i 0).val < 16 := (i 0).isLt; omega⟩) := by
  pointwise

theorem cat_apply (W : S2048x5648.Idx → EReal) (i : S5760x2048.Idx) : cat W i = wt W (i 0) (i 1) := by
  have hn : (i 0).val < 5760 := (i 0).isLt
  have go (p q : Fin 5648) (h : p.val = q.val) : W (ix2 (i 1) p) = W (ix2 (i 1) q) := by rw [Fin.ext h]
  unfold wt cat
  rw [cat3]
  by_cases h1 : (i 0).val < 4608
  · rw [dif_pos h1, dif_pos h1]
    exact (first W _).trans (go _ _ rfl)
  · by_cases h2 : (i 0).val < 5632
    · rw [dif_neg h1, dif_neg h1, dif_pos h2, dif_pos (show (i 0).val - 4608 < 1024 by omega)]
      exact (second W _).trans (go _ _ (by show 4624 + ((i 0).val - 4608) = (i 0).val + 16; omega))
    · rw [dif_neg h1, dif_neg h1, dif_neg h2, dif_neg (show ¬(i 0).val - 4608 < 1024 by omega)]
      refine (padded _ _ zero _).trans ?_
      by_cases h3 : (i 0).val < 5648
      · rw [dif_pos h3]
        refine (dif_pos (by show (i 0).val - 4608 - 1024 < 16; omega)).trans ?_
        exact (third W _).trans (go _ _ (by show 4608 + ((i 0).val - 4608 - 1024) = (i 0).val - 1024; omega))
      · rw [dif_neg h3]
        exact dif_neg (by show ¬(i 0).val - 4608 - 1024 < 16; omega)

/-- The cotangent's columns in the call's order, as the host puts them together. -/
def dcat (q : S2048x1024.Idx → EReal) (k v : S2048x256.Idx → EReal) (u : S2048x3072.Idx → EReal) (z : S2048x1024.Idx → EReal) (a : S2048x128.Idx → EReal) : S2048x5760.Idx → EReal :=
  concatenate S2048x5760 1 [⟨S2048x1024, q⟩, ⟨S2048x256, k⟩, ⟨S2048x256, v⟩, ⟨S2048x3072, u⟩, ⟨S2048x1024, z⟩, ⟨S2048x128, a⟩]
    concatenates_S2048x1024_S2048x256_S2048x256_S2048x3072_S2048x1024_S2048x128_S2048x5760_d1

theorem dcat_apply (q : S2048x1024.Idx → EReal) (k v : S2048x256.Idx → EReal) (u : S2048x3072.Idx → EReal) (z : S2048x1024.Idx → EReal) (a : S2048x128.Idx → EReal) (i : S2048x5760.Idx) : dcat q k v u z a i = pcol q k v u z a (i 0) (i 1) := by
  unfold dcat pcol
  pointwise

/-- The weights that the call is given, at an index. -/
theorem weights (c : Dev nD) (i : S5760x2048.Idx) : V m c main_v6 i = wt (m ((c : Thread nD τ).loc main_arg0)) (i 0) (i 1) :=
  (congrFun (rfl : V m c main_v6 = cat (m ((c : Thread nD τ).loc main_arg0))) i).trans (cat_apply _ i)

/-- The cotangent that the call is given, at an index. -/
theorem cotangent (c : Dev nD) (i : S2048x5760.Idx) : V m c main_v8 i = pcol (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) :=
  (congrFun (rfl : V m c main_v8 = dcat (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) i).trans (dcat_apply _ _ _ _ _ _ i)

theorem iblk0 (c : Dev nD) (t : Fin cfg0.N) (l : Fin 5760) (y : S512x1024.Idx) :
    iblk m c 0 t (ix2 (y 0) l) = pcol (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 3).blk t).view.emb y (0 : Fin 2)) l := by
  show V m c main_v8 (((cfg0.win 0).blk t).view.emb (ix2 (y 0) l)) = _
  rw [cotangent]
  have h0 : (((cfg0.win 0).blk t).view.emb (ix2 (y 0) l) (0 : Fin 2)) = (((cfg0.win 3).blk t).view.emb y (0 : Fin 2)) :=
    Fin.ext ((emb0 t (ix2 (y 0) l) 0).trans (emb3 t y 0).symm)
  have h1 : (((cfg0.win 0).blk t).view.emb (ix2 (y 0) l) (1 : Fin 2)) = l := Fin.ext (emb0 t (ix2 (y 0) l) 1)
  exact congrArg₂ (pcol _ _ _ _ _ _) h0 h1

theorem iblk1 (c : Dev nD) (t : Fin cfg0.N) (l : Fin 5760) (y : S512x1024.Idx) :
    iblk m c 1 t (ix2 l (y 1)) = wt (m ((c : Thread nD τ).loc main_arg0)) l (((cfg0.win 3).blk t).view.emb y (1 : Fin 2)) := by
  show V m c main_v6 (((cfg0.win 1).blk t).view.emb (ix2 l (y 1))) = _
  rw [weights]
  have h0 : (((cfg0.win 1).blk t).view.emb (ix2 l (y 1)) (0 : Fin 2)) = l := Fin.ext (emb1 t (ix2 l (y 1)) 0)
  have h1 : (((cfg0.win 1).blk t).view.emb (ix2 l (y 1)) (1 : Fin 2)) = (((cfg0.win 3).blk t).view.emb y (1 : Fin 2)) :=
    Fin.ext ((emb1 t (ix2 l (y 1)) 1).trans (emb3 t y 1).symm)
  exact congrArg₂ (wt _) h0 h1

theorem iblk2 (c : Dev nD) (t : Fin cfg0.N) (y : S512x1024.Idx) :
    iblk m c 2 t y = (m ((c : Thread nD τ).loc main_arg7) : S2048x2048.Idx → EReal) (((cfg0.win 3).blk t).view.emb y) := by
  show V m c main_arg7 (((cfg0.win 2).blk t).view.emb y) = _
  rw [V_main_arg7]
  rfl

/-- The array after the run. -/
theorem final (c : Dev nD) : (dats m 0 c).arrAt 3 cfg0.N = prod (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_cover 3 _ (fun t _ => ?_) (fun i => ?_)
  · rw [Value.flushed3_A, out_eq]
    funext y
    show k0_pay1 (iblk m c 0 t) (iblk m c 1 t) (iblk m c 2 t) y = prod _ _ _ _ _ _ _ _ (((cfg0.win 3).blk t).view.emb y)
    rw [pay_apply]
    unfold prod
    exact congrArg₂ (· + ·) (congrArg scaled (iblk2 m c t y))
      (Finset.sum_congr rfl fun l _ => congrArg₂ (· * ·) (iblk0 m c t l y) (iblk1 m c t l y))
  · have h0 : (i 0).val < 2048 := (i 0).isLt
    have h1 : (i 1).val < 2048 := (i 1).isLt
    have hN : cfg0.N = 8 := by decide
    let t : Fin cfg0.N := ⟨(i 0).val / 512 * 2 + (i 1).val / 1024, by omega⟩
    have ht : t.val = (i 0).val / 512 * 2 + (i 1).val / 1024 := rfl
    refine ⟨t, (idx_facts t).2.2.2.2, ?_⟩
    let y : S512x1024.Idx := ix2 ⟨(i 0).val % 512, by omega⟩ ⟨(i 1).val % 1024, by omega⟩
    have he : ((cfg0.win 3).blk t).view.emb y = i := by
      funext a; apply Fin.ext; rw [emb3]
      match a with
      | ⟨0, _⟩ => show t.val / 2 * 512 + (i 0).val % 512 = (i 0).val; omega
      | ⟨1, _⟩ => show t.val % 2 * 1024 + (i 1).val % 1024 = (i 1).val; omega
    exact he ▸ View.emb_mem_set _ y

/-- The 5760 terms are the 5648 terms in another order, and zeros. -/
theorem cut (T : Fin 5648 → EReal) :
    (∑ l : Fin 5760, (if h : l.val < 4608 then T ⟨l.val, by omega⟩
      else if h' : l.val < 5632 then T ⟨l.val + 16, by omega⟩
      else if h'' : l.val < 5648 then T ⟨l.val - 1024, by omega⟩
      else 0)) = ∑ p, T p := by
  have go (p p' : Fin 5648) (h : p.val = p'.val) : T p = T p' := by rw [Fin.ext h]
  have hT : ∑ p, T p = (∑ j : Fin 4608, T ⟨j.val, by omega⟩) + ((∑ j : Fin 16, T ⟨4608 + j.val, by omega⟩)
      + ∑ j : Fin 1024, T ⟨4608 + (16 + j.val), by omega⟩) :=
    (Fin.sum_univ_add (a := 4608) (b := 1040) T).trans
      (congrArg (fun e : EReal => (∑ j : Fin 4608, T ⟨j.val, by omega⟩) + e)
        (Fin.sum_univ_add (a := 16) (b := 1024) (fun p => T ⟨4608 + p.val, by omega⟩)))
  have hf (f : Fin 5760 → EReal) : ∑ p, f p = (∑ j : Fin 4608, f ⟨j.val, by omega⟩) + ((∑ j : Fin 1024, f ⟨4608 + j.val, by omega⟩)
      + ((∑ j : Fin 16, f ⟨4608 + (1024 + j.val), by omega⟩) + ∑ j : Fin 112, f ⟨4608 + (1024 + (16 + j.val)), by omega⟩)) :=
    (Fin.sum_univ_add (a := 4608) (b := 1152) f).trans
      (congrArg (fun e : EReal => (∑ j : Fin 4608, f ⟨j.val, by omega⟩) + e)
        ((Fin.sum_univ_add (a := 1024) (b := 128) (fun p => f ⟨4608 + p.val, by omega⟩)).trans
          (congrArg (fun e : EReal => (∑ j : Fin 1024, f ⟨4608 + j.val, by omega⟩) + e)
            (Fin.sum_univ_add (a := 16) (b := 112) (fun p => f ⟨4608 + (1024 + p.val), by omega⟩)))))
  rw [hT, hf]
  refine congrArg₂ (· + ·) (Finset.sum_congr rfl fun j _ => ?_) (Eq.trans ?_ (add_comm _ _))
  · exact dif_pos j.isLt
  refine congrArg₂ (· + ·) (Finset.sum_congr rfl fun j _ => ?_) (Eq.trans (congrArg₂ (· + ·) (Finset.sum_congr rfl fun j _ => ?_)
    (Finset.sum_eq_zero fun j _ => ?_)) (add_zero _))
  · have := j.isLt
    exact (dif_neg (by show ¬4608 + j.val < 4608; omega)).trans ((dif_pos (by show 4608 + j.val < 5632; omega)).trans
      (go _ _ (by show 4608 + j.val + 16 = 4608 + (16 + j.val); omega)))
  · have := j.isLt
    exact (dif_neg (by show ¬4608 + (1024 + j.val) < 4608; omega)).trans ((dif_neg (by show ¬4608 + (1024 + j.val) < 5632; omega)).trans
      ((dif_pos (by show 4608 + (1024 + j.val) < 5648; omega)).trans
        (go _ _ (by show 4608 + (1024 + j.val) - 1024 = 4608 + j.val; omega))))
  · exact (dif_neg (by show ¬4608 + (1024 + (16 + j.val)) < 4608; omega)).trans
      ((dif_neg (by show ¬4608 + (1024 + (16 + j.val)) < 5632; omega)).trans
        (dif_neg (by show ¬4608 + (1024 + (16 + j.val)) < 5648; omega)))

/-- One of the 5760 terms. -/
theorem term_eq (w : S2048x5648.Idx → EReal) (q : S2048x1024.Idx → EReal) (k v : S2048x256.Idx → EReal) (u : S2048x3072.Idx → EReal) (z : S2048x1024.Idx → EReal) (a : S2048x128.Idx → EReal) (r c : Fin 2048) (l : Fin 5760) :
    pcol q k v u z a r l * wt w l c
      = if h : l.val < 4608 then col q k v u z a r ⟨l.val, by omega⟩ * w (ix2 c ⟨l.val, by omega⟩)
        else if h' : l.val < 5632 then col q k v u z a r ⟨l.val + 16, by omega⟩ * w (ix2 c ⟨l.val + 16, by omega⟩)
        else if h'' : l.val < 5648 then col q k v u z a r ⟨l.val - 1024, by omega⟩ * w (ix2 c ⟨l.val - 1024, by omega⟩)
        else 0 := by
  have hn := l.isLt
  have ga (p p' : Fin 128) (h : p.val = p'.val) : a (ix2 r p) = a (ix2 r p') := by rw [Fin.ext h]
  have gz (p p' : Fin 1024) (h : p.val = p'.val) : z (ix2 r p) = z (ix2 r p') := by rw [Fin.ext h]
  unfold wt
  by_cases h1 : l.val < 4608
  · rw [dif_pos h1, dif_pos h1]
    refine congrArg (fun e : EReal => e * _) ?_
    unfold pcol col
    by_cases c1 : l.val < 1024
    · rw [dif_pos c1, dif_pos c1]
    · by_cases c2 : l.val - 1024 < 256
      · rw [dif_neg c1, dif_pos c2, dif_neg c1, dif_pos c2]
      · by_cases c3 : l.val - 1024 - 256 < 256
        · rw [dif_neg c1, dif_neg c2, dif_pos c3, dif_neg c1, dif_neg c2, dif_pos c3]
        · have c4 : l.val - 1024 - 256 - 256 < 3072 := by omega
          rw [dif_neg c1, dif_neg c2, dif_neg c3, dif_pos c4, dif_neg c1, dif_neg c2, dif_neg c3, dif_pos c4]
  · have hp : pcol q k v u z a r l = if h : l.val - 1024 - 256 - 256 - 3072 < 1024 then z (ix2 r ⟨l.val - 1024 - 256 - 256 - 3072, h⟩)
        else a (ix2 r ⟨l.val - 1024 - 256 - 256 - 3072 - 1024, by omega⟩) := by
      unfold pcol
      rw [dif_neg (show ¬l.val < 1024 by omega), dif_neg (show ¬l.val - 1024 < 256 by omega),
        dif_neg (show ¬l.val - 1024 - 256 < 256 by omega), dif_neg (show ¬l.val - 1024 - 256 - 256 < 3072 by omega)]
    rw [dif_neg h1, dif_neg h1, hp]
    by_cases h2 : l.val < 5632
    · rw [dif_pos (show l.val - 1024 - 256 - 256 - 3072 < 1024 by omega), dif_pos h2, dif_pos h2]
      refine congrArg (fun e : EReal => e * _) ?_
      unfold col
      rw [dif_neg (by show ¬l.val + 16 < 1024; omega), dif_neg (by show ¬l.val + 16 - 1024 < 256; omega),
        dif_neg (by show ¬l.val + 16 - 1024 - 256 < 256; omega), dif_neg (by show ¬l.val + 16 - 1024 - 256 - 256 < 3072; omega),
        dif_neg (by show ¬l.val + 16 - 1024 - 256 - 256 - 3072 < 16; omega)]
      exact gz _ _ (by show l.val - 1024 - 256 - 256 - 3072 = l.val + 16 - 1024 - 256 - 256 - 3072 - 16; omega)
    · rw [dif_neg (show ¬l.val - 1024 - 256 - 256 - 3072 < 1024 by omega), dif_neg h2, dif_neg h2]
      by_cases h3 : l.val < 5648
      · rw [dif_pos h3, dif_pos h3]
        refine congrArg (fun e : EReal => e * _) ?_
        unfold col
        rw [dif_neg (by show ¬l.val - 1024 < 1024; omega), dif_neg (by show ¬l.val - 1024 - 1024 < 256; omega),
          dif_neg (by show ¬l.val - 1024 - 1024 - 256 < 256; omega), dif_neg (by show ¬l.val - 1024 - 1024 - 256 - 256 < 3072; omega),
          dif_pos (by show l.val - 1024 - 1024 - 256 - 256 - 3072 < 16; omega)]
        exact ga _ _ (by show l.val - 1024 - 256 - 256 - 3072 - 1024 = l.val - 1024 - 1024 - 256 - 256 - 3072; omega)
      · rw [dif_neg h3, dif_neg h3, mul_zero]

/-- The part that skips the block, plus the product over the 5648 columns. -/
theorem prod_eq (w : S2048x5648.Idx → EReal) (q : S2048x1024.Idx → EReal) (k v : S2048x256.Idx → EReal) (u : S2048x3072.Idx → EReal) (z : S2048x1024.Idx → EReal) (a : S2048x128.Idx → EReal) (d : S2048x2048.Idx → EReal) (i : S2048x2048.Idx) :
    prod w q k v u z a d i = (∑ p : Fin 5648, col q k v u z a (i 0) p * w (ix2 (i 1) p)) + scaled (d i) := by
  unfold prod
  rw [add_comm]
  exact congrArg (fun e : EReal => e + scaled (d i)) ((Finset.sum_congr rfl fun l _ => term_eq w q k v u z a (i 0) (i 1) l).trans
    (cut fun p => col q k v u z a (i 0) p * w (ix2 (i 1) p)))

end Cert.Kernel2Ideal.Val

namespace Cert.Reference2Ideal.Val

open Cert.Reference2Ideal Cert.Reference2Ideal.Gen Idealize.ShloMosaic Idealize.ShloMosaic.TcCoe
open Cert.Kernel2Ideal.Val (col scaled prod)
open scoped BigOperators

/-- The cotangent's columns in the weights' order. -/
def cat (q : S2048x1024.Idx → EReal) (k v : S2048x256.Idx → EReal) (u : S2048x3072.Idx → EReal) (z : S2048x1024.Idx → EReal) (b e : S2048x8.Idx → EReal) : S2048x5648.Idx → EReal :=
  concatenate S2048x5648 1 [⟨S2048x1024, q⟩, ⟨S2048x256, k⟩, ⟨S2048x256, v⟩, ⟨S2048x3072, u⟩, ⟨S2048x8, b⟩, ⟨S2048x8, e⟩, ⟨S2048x1024, z⟩]
    concatenates_S2048x1024_S2048x256_S2048x256_S2048x3072_S2048x8_S2048x8_S2048x1024_S2048x5648_d1

theorem cat7 (q : S2048x1024.Idx → EReal) (k v : S2048x256.Idx → EReal) (u : S2048x3072.Idx → EReal) (z : S2048x1024.Idx → EReal) (b e : S2048x8.Idx → EReal) (r : Fin 2048) (n : Fin 5648) :
    cat q k v u z b e (ix2 r n)
      = if h : n.val < 1024 then q (ix2 r ⟨n.val, h⟩)
        else if h : n.val - 1024 < 256 then k (ix2 r ⟨n.val - 1024, h⟩)
        else if h : n.val - 1024 - 256 < 256 then v (ix2 r ⟨n.val - 1024 - 256, h⟩)
        else if h : n.val - 1024 - 256 - 256 < 3072 then u (ix2 r ⟨n.val - 1024 - 256 - 256, h⟩)
        else if h : n.val - 1024 - 256 - 256 - 3072 < 8 then b (ix2 r ⟨n.val - 1024 - 256 - 256 - 3072, h⟩)
        else if h : n.val - 1024 - 256 - 256 - 3072 - 8 < 8 then e (ix2 r ⟨n.val - 1024 - 256 - 256 - 3072 - 8, h⟩)
        else z (ix2 r ⟨n.val - 1024 - 256 - 256 - 3072 - 8 - 8, by have := n.isLt; omega⟩) := by
  unfold cat
  pointwise

theorem gate0 (a : S2048x128.Idx → EReal) (i : S2048x8.Idx) :
    extractStridedSlice S2048x8 ![0, 0] a slices_S2048x128_S2048x8_0_0 i
      = a (ix2 (i 0) ⟨(i 1).val, by have hn : (i 1).val < 8 := (i 1).isLt; omega⟩) := by
  pointwise

theorem gate1 (a : S2048x128.Idx → EReal) (i : S2048x8.Idx) :
    extractStridedSlice S2048x8 ![0, 8] a slices_S2048x128_S2048x8_0_8 i
      = a (ix2 (i 0) ⟨8 + (i 1).val, by have hn : (i 1).val < 8 := (i 1).isLt; omega⟩) := by
  pointwise

theorem cat_apply (q : S2048x1024.Idx → EReal) (k v : S2048x256.Idx → EReal) (u : S2048x3072.Idx → EReal) (z : S2048x1024.Idx → EReal) (a : S2048x128.Idx → EReal) (r : Fin 2048) (n : Fin 5648) :
    cat q k v u z (extractStridedSlice S2048x8 ![0, 0] a slices_S2048x128_S2048x8_0_0)
      (extractStridedSlice S2048x8 ![0, 8] a slices_S2048x128_S2048x8_0_8) (ix2 r n) = col q k v u z a r n := by
  have hn := n.isLt
  have ga (p p' : Fin 128) (h : p.val = p'.val) : a (ix2 r p) = a (ix2 r p') := by rw [Fin.ext h]
  rw [cat7]
  unfold col
  by_cases c1 : n.val < 1024
  · rw [dif_pos c1, dif_pos c1]
  rw [dif_neg c1, dif_neg c1]
  by_cases c2 : n.val - 1024 < 256
  · rw [dif_pos c2, dif_pos c2]
  rw [dif_neg c2, dif_neg c2]
  by_cases c3 : n.val - 1024 - 256 < 256
  · rw [dif_pos c3, dif_pos c3]
  rw [dif_neg c3, dif_neg c3]
  by_cases c4 : n.val - 1024 - 256 - 256 < 3072
  · rw [dif_pos c4, dif_pos c4]
  rw [dif_neg c4, dif_neg c4]
  by_cases c5 : n.val - 1024 - 256 - 256 - 3072 < 8
  · rw [dif_pos c5, dif_pos (show n.val - 1024 - 256 - 256 - 3072 < 16 by omega)]
    exact (gate0 a _).trans (ga _ _ rfl)
  rw [dif_neg c5]
  by_cases c6 : n.val - 1024 - 256 - 256 - 3072 - 8 < 8
  · rw [dif_pos c6, dif_pos (show n.val - 1024 - 256 - 256 - 3072 < 16 by omega)]
    exact (gate1 a _).trans (ga _ _ (by show 8 + (n.val - 1024 - 256 - 256 - 3072 - 8) = n.val - 1024 - 256 - 256 - 3072; omega))
  rw [dif_neg c6, dif_neg (show ¬n.val - 1024 - 256 - 256 - 3072 < 16 by omega)]
  exact congrArg (fun p : Fin 1024 => z (ix2 r p)) (Fin.ext (by show n.val - 1024 - 256 - 256 - 3072 - 8 - 8 = n.val - 1024 - 256 - 256 - 3072 - 16; omega))

/-- The reference's result. -/
def res (w G : S2048x5648.Idx → EReal) (d : S2048x2048.Idx → EReal) : S2048x2048.Idx → EReal :=
  addf (F := Ideal) (φ := .f32) (Host.dotGeneral (F := Ideal) (φ₁ := .f32) (φ₂ := .f32) dot_S2048x5648_S2048x5648_S2048x2048_1_1_0_0_n_n none G w)
    (mulf (F := Ideal) (φ := .f32) (broadcastInDim S2048x2048 ![] bcast_S_S2048x2048 (constant S_ .f32 0x3F9837F0#32)) d)

theorem res_apply (w G : S2048x5648.Idx → EReal) (d : S2048x2048.Idx → EReal) (i : S2048x2048.Idx) :
    res w G d i = (∑ p : Fin 5648, G (ix2 (i 0) p) * w (ix2 (i 1) p)) + scaled (d i) := by
  unfold res scaled
  pointwise

theorem res_eq (w : S2048x5648.Idx → EReal) (q : S2048x1024.Idx → EReal) (k v : S2048x256.Idx → EReal) (u : S2048x3072.Idx → EReal) (z : S2048x1024.Idx → EReal) (a : S2048x128.Idx → EReal) (d : S2048x2048.Idx → EReal) :
    res w (cat q k v u z (extractStridedSlice S2048x8 ![0, 0] a slices_S2048x128_S2048x8_0_0)
      (extractStridedSlice S2048x8 ![0, 8] a slices_S2048x128_S2048x8_0_8)) d = prod w q k v u z a d := by
  funext i
  rw [res_apply, Cert.Kernel2Ideal.Val.prod_eq]
  exact congrArg (fun e : EReal => e + scaled (d i)) (Finset.sum_congr rfl fun p _ =>
    congrArg (fun e : EReal => e * w (ix2 (i 1) p)) (cat_apply q k v u z a (i 0) p))

end Cert.Reference2Ideal.Val

namespace Cert.Proof

open Idealize.ShloMosaic Idealize.ShloMosaic.TcCoe Idealize.SL.Sem

/-- The call's array is the reference's. -/
theorem algebraic2 : Cert.algebraic_Kernel2Ideal_Reference2Ideal := by
  intro m ρ m' ρ' _ hargs
  refine ⟨_, Cert.Kernel2Ideal.Value.run_blocks (F := Ideal) m ρ, ?_⟩
  refine (θ_run Cert.Reference2Ideal.defs _ _).mono (fun r h c => ⟨?_, (h c).2⟩) (Cert.Reference2Ideal.Value.run (F := Ideal) m' ρ')
  obtain ⟨e0, e1, e2, e3, e4, e5, e6, e7, e8⟩ := hargs c
  rw [(h c).1, Cert.Kernel2Ideal.Val.final, e0, e1, e2, e3, e4, e5, e6, e7]
  exact Cert.Reference2Ideal.Val.res_eq _ _ _ _ _ _ _ _

end Cert.Proof

end
-- ==== Proof.DAct.lean ====
/- The gradient of the channel mixer's activation: what the call's array holds after the run. -/
module

public import proofs.«01_k».proof.Proof.Gen.Kernel3Ideal.Value
public import proofs.«01_k».proof.Proof.Gen.Reference3Ideal.Run
public import Idealize.ShloMosaic.Lib.Pointwise
public import Idealize.ShloMosaic.Lib.Pipeline.Value
public import Idealize.ShloMosaic.Adequacy
public import Idealize.ShloMosaic.Init
public import proofs.«01_k».proof.Defs

@[expose] public section

noncomputable section

namespace Cert.Kernel3Ideal.Val

open Cert.Kernel3Ideal Cert.Kernel3Ideal.Gen Idealize.ShloMosaic Idealize.ShloMosaic.TcCoe
open scoped BigOperators

theorem bf16_two : Ideal.ofBits FTy.bf16 16384#16 = 2 := by
  rw [show (2 : EReal) = ((2 : ℝ) : EReal) by norm_cast]
  simp [Ideal.ofBits, Ideal.ieee, -EReal.coe_mul]; norm_num

/-- The gradient at an index: the product of the cotangent's row and the weight's row, times twice the positive part. -/
def grad (ct : S2048x2048.Idx → EReal) (w : S8192x2048.Idx → EReal) (u : S2048x8192.Idx → EReal) : S2048x8192.Idx → EReal :=
  fun i => (∑ k : Fin 2048, ct (ix2 (i 0) k) * w (ix2 (i 1) k)) * (2 * max (u i) 0)

theorem pay_apply (x0 : Vec Ideal S1024x2048 .f32) (x1 : Vec Ideal S1024x2048 .bf16) (x2 : Vec Ideal S1024x1024 .bf16) (y : S1024x1024.Idx) :
    k0_pay1 (F := Ideal) x0 x1 x2 y
      = (∑ k : Fin 2048, x0 (ix2 (y 0) k) * x1 (ix2 (y 1) k)) * (2 * max (x2 y) 0) := by
  unfold k0_pay1
  pointwise [bf16_two]

theorem out_eq (x0 : Vec Ideal S1024x2048 .f32) (x1 : Vec Ideal S1024x2048 .bf16) (x2 : Vec Ideal S1024x1024 .bf16) :
    out0_3 (F := Ideal) x0 x1 x2 = k0_pay1 x0 x1 x2 := by
  have hz : (![0, 0] : Fin 2 → Nat) = fun _ => 0 := funext fun a => by fin_cases a <;> rfl
  unfold out0_3
  rw [View.canon_unit_zero hz, View.ld_unit_zero hz, View.ld_unit_zero hz, View.ld_unit_zero hz]

/-- Where the blocks of a grid point lie. -/
theorem idx_facts : ∀ t : Fin cfg0.N,
    (win0_0.index t (0 : Fin 2) = t.val / 8 ∧ win0_0.index t (1 : Fin 2) = 0)
    ∧ (win0_1.index t (0 : Fin 2) = t.val % 8 ∧ win0_1.index t (1 : Fin 2) = 0)
    ∧ (win0_2.index t (0 : Fin 2) = t.val / 8 ∧ win0_2.index t (1 : Fin 2) = t.val % 8)
    ∧ (win0_3.index t (0 : Fin 2) = t.val / 8 ∧ win0_3.index t (1 : Fin 2) = t.val % 8)
    ∧ (cfg0.win 3).flush t = true :=
  (by decide +kernel : ∀ t : Fin grid0.N, _)

variable (m : (ℓ : Loc nD τ sig) → Buf (Elt Ideal) ℓ)

theorem emb0 (t : Fin cfg0.N) (y : S1024x2048.Idx) : ∀ a : Fin 2,
    (((cfg0.win 0).blk t).view.emb y a).val = ![t.val / 8 * 1024 + (y 0).val, (y 1).val] a := by
  obtain ⟨⟨e0, e1⟩, -⟩ := idx_facts t
  intro a
  match a with
  | ⟨0, _⟩ => show win0_0.index t (0 : Fin 2) * 1024 + 1 * (y 0).val = t.val / 8 * 1024 + (y 0).val; omega
  | ⟨1, _⟩ => show win0_0.index t (1 : Fin 2) * 2048 + 1 * (y 1).val = (y 1).val; omega

theorem emb1 (t : Fin cfg0.N) (y : S1024x2048.Idx) : ∀ a : Fin 2,
    (((cfg0.win 1).blk t).view.emb y a).val = ![t.val % 8 * 1024 + (y 0).val, (y 1).val] a := by
  obtain ⟨-, ⟨e0, e1⟩, -⟩ := idx_facts t
  intro a
  match a with
  | ⟨0, _⟩ => show win0_1.index t (0 : Fin 2) * 1024 + 1 * (y 0).val = t.val % 8 * 1024 + (y 0).val; omega
  | ⟨1, _⟩ => show win0_1.index t (1 : Fin 2) * 2048 + 1 * (y 1).val = (y 1).val; omega

theorem emb2 (t : Fin cfg0.N) (y : S1024x1024.Idx) : ∀ a : Fin 2,
    (((cfg0.win 2).blk t).view.emb y a).val = ![t.val / 8 * 1024 + (y 0).val, t.val % 8 * 1024 + (y 1).val] a := by
  obtain ⟨-, -, ⟨e0, e1⟩, -⟩ := idx_facts t
  intro a
  match a with
  | ⟨0, _⟩ => show win0_2.index t (0 : Fin 2) * 1024 + 1 * (y 0).val = t.val / 8 * 1024 + (y 0).val; omega
  | ⟨1, _⟩ => show win0_2.index t (1 : Fin 2) * 1024 + 1 * (y 1).val = t.val % 8 * 1024 + (y 1).val; omega

theorem emb3 (t : Fin cfg0.N) (y : S1024x1024.Idx) : ∀ a : Fin 2,
    (((cfg0.win 3).blk t).view.emb y a).val = ![t.val / 8 * 1024 + (y 0).val, t.val % 8 * 1024 + (y 1).val] a := by
  obtain ⟨-, -, -, ⟨e0, e1⟩, -⟩ := idx_facts t
  intro a
  match a with
  | ⟨0, _⟩ => show win0_3.index t (0 : Fin 2) * 1024 + 1 * (y 0).val = t.val / 8 * 1024 + (y 0).val; omega
  | ⟨1, _⟩ => show win0_3.index t (1 : Fin 2) * 1024 + 1 * (y 1).val = t.val % 8 * 1024 + (y 1).val; omega

/-- What the weights' buffer holds when the call begins: the weights themselves. -/
theorem weights (c : Dev nD) : V m c main_v0 = (m ((c : Thread nD τ).loc main_arg1) : S8192x2048.Idx → EReal) := by
  show StableHlo.after hostOps0 (fun b => m (c, b)) main_v0 = _
  rfl

/-- The array after the run. -/
theorem final (c : Dev nD) : (dats m 0 c).arrAt 3 cfg0.N
    = grad (m ((c : Thread nD τ).loc main_arg2)) (m ((c : Thread nD τ).loc main_arg1)) (m ((c : Thread nD τ).loc main_arg0)) := by
  refine (dats m 0 c).arrAt_eq_of_cover 3 _ (fun t _ => ?_) (fun i => ?_)
  · rw [Value.flushed3, out_eq]
    funext y
    show k0_pay1 (iblk m c 0 t) (iblk m c 1 t) (iblk m c 2 t) y = grad _ _ _ (((cfg0.win 3).blk t).view.emb y)
    rw [pay_apply]
    have e : ∀ z, iblk m c 1 t z = m ((c : Thread nD τ).loc main_arg1) (((cfg0.win 1).blk t).view.emb z) := fun z => by
      show V m c main_v0 (((cfg0.win 1).blk t).view.emb z) = _
      rw [weights]
    simp only [e]
    unfold grad
    refine congrArg₂ (· * ·) (Finset.sum_congr rfl fun k _ => congrArg₂ (· * ·) ?_ ?_) (congrArg (fun z => 2 * max z 0) ?_)
    · show V m c main_arg2 (((cfg0.win 0).blk t).view.emb (ix2 (y 0) k)) = _
      rw [V_main_arg2]
      congr 1; funext a; apply Fin.ext; rw [emb0]
      match a with
      | ⟨0, _⟩ => exact (emb3 t y 0).symm
      | ⟨1, _⟩ => rfl
    · congr 1; funext a; apply Fin.ext; rw [emb1]
      match a with
      | ⟨0, _⟩ => exact (emb3 t y 1).symm
      | ⟨1, _⟩ => rfl
    · show V m c main_arg0 (((cfg0.win 2).blk t).view.emb y) = _
      rw [V_main_arg0]
      rfl
  · have h0 : (i 0).val < 2048 := (i 0).isLt
    have h1 : (i 1).val < 8192 := (i 1).isLt
    have hN : cfg0.N = 16 := by decide
    let t : Fin cfg0.N := ⟨(i 0).val / 1024 * 8 + (i 1).val / 1024, by omega⟩
    have ht : t.val = (i 0).val / 1024 * 8 + (i 1).val / 1024 := rfl
    refine ⟨t, (idx_facts t).2.2.2.2, ?_⟩
    let y : S1024x1024.Idx := ix2 ⟨(i 0).val % 1024, by omega⟩ ⟨(i 1).val % 1024, by omega⟩
    have he : ((cfg0.win 3).blk t).view.emb y = i := by
      funext a; apply Fin.ext; rw [emb3]
      match a with
      | ⟨0, _⟩ => show t.val / 8 * 1024 + (i 0).val % 1024 = (i 0).val; omega
      | ⟨1, _⟩ => show t.val % 8 * 1024 + (i 1).val % 1024 = (i 1).val; omega
    exact he ▸ View.emb_mem_set _ y

end Cert.Kernel3Ideal.Val

namespace Cert.Reference3Ideal.Val

open Cert.Reference3Ideal Cert.Reference3Ideal.Gen Idealize.ShloMosaic Idealize.ShloMosaic.TcCoe

/-- The reference's result at an index is the same gradient. -/
theorem value (u : S2048x8192.Idx → EReal) (w : S8192x2048.Idx → EReal) (ct : S2048x2048.Idx → EReal) :
    truncf (F := Ideal) .bf16 (select (cmpf (F := Ideal) .ogt (extf (F := Ideal) (φ := .bf16) .f32 u bitsLt_bf16_f32) (broadcastInDim S2048x8192 ![] bcast_S_S2048x8192 (constant S_ .f32 0x00000000#32))) (addf (mulf (maximumf (extf (F := Ideal) (φ := .bf16) .f32 u bitsLt_bf16_f32) (broadcastInDim S2048x8192 ![] bcast_S_S2048x8192 (constant S_ .f32 0x00000000#32))) (Host.dotGeneral (φ₁ := .f32) (φ₂ := .f32) dot_S2048x2048_S8192x2048_S2048x8192_1_1_0_0_n_n none ct w)) (mulf (Host.dotGeneral (φ₁ := .f32) (φ₂ := .f32) dot_S2048x2048_S8192x2048_S2048x8192_1_1_0_0_n_n none ct w) (maximumf (extf (F := Ideal) (φ := .bf16) .f32 u bitsLt_bf16_f32) (broadcastInDim S2048x8192 ![] bcast_S_S2048x8192 (constant S_ .f32 0x00000000#32))))) (broadcastInDim S2048x8192 ![] bcast_S_S2048x8192 (constant S_ .f32 0x00000000#32))) bitsLt_bf16_f32
      = Cert.Kernel3Ideal.Val.grad ct w u := by
  funext j
  unfold Cert.Kernel3Ideal.Val.grad
  pointwise
  generalize (∑ k : Fin 2048, ct (ix2 (j 0) k) * w (ix2 (j 1) k)) = d
  split
  · have h2 : (2 : EReal) = 1 + 1 := by norm_cast
    rw [mul_comm (max (u j) 0) d, mul_left_comm, h2, EReal.right_distrib_of_nonneg zero_le_one zero_le_one, one_mul]
  · rename_i h
    rw [max_eq_right (not_lt.mp h), mul_zero, mul_zero]

end Cert.Reference3Ideal.Val

namespace Cert.Proof

open Idealize.ShloMosaic Idealize.ShloMosaic.TcCoe Idealize.SL.Sem

theorem algebraic3 : Cert.algebraic_Kernel3Ideal_Reference3Ideal := by
  intro m ρ m' ρ' _ hargs
  refine ⟨_, Cert.Kernel3Ideal.Value.run_blocks (F := Ideal) m ρ, ?_⟩
  refine (θ_run Cert.Reference3Ideal.defs _ _).mono (fun r h c => ⟨?_, (h c).2⟩) (Cert.Reference3Ideal.Value.run (F := Ideal) m' ρ')
  obtain ⟨e0, e1, e2⟩ := hargs c
  rw [(h c).1, Cert.Kernel3Ideal.Val.final, e0, e1, e2]
  exact Cert.Reference3Ideal.Val.value _ _ _

end Cert.Proof

end
-- ==== Proof.DwDown.lean ====
/- The gradient of the channel mixer's second weight: what the call's array holds after the run, and the reference's. -/
module

public import proofs.«01_k».proof.Proof.Gen.Kernel4Ideal.Value
public import proofs.«01_k».proof.Proof.Gen.Reference4Ideal.Run
public import Idealize.ShloMosaic.Lib.Pointwise
public import Idealize.ShloMosaic.Lib.Pipeline.Value
public import proofs.«01_k».proof.Defs
public import Idealize.ShloMosaic.Adequacy
public import Idealize.ShloMosaic.Init

@[expose] public section

noncomputable section

namespace Cert.Kernel4Ideal.Val

open Cert.Kernel4Ideal Cert.Kernel4Ideal.Gen Idealize.ShloMosaic Idealize.ShloMosaic.TcCoe
open scoped BigOperators

/-- The gradient at an index: the product of the activation's column and the cotangent's column. -/
def grad (u : S2048x8192.Idx → EReal) (ct : S2048x2048.Idx → EReal) : S8192x2048.Idx → EReal :=
  fun i => ∑ k : Fin 2048, (max (u (ix2 k (i 0))) 0 * max (u (ix2 k (i 0))) 0) * ct (ix2 k (i 1))

/-- One block of the result. -/
theorem pay_apply (x0 : Vec Ideal S2048x1024 .bf16) (x1 : Vec Ideal S2048x1024 .f32) (y : S1024x1024.Idx) :
    k0_pay1 (F := Ideal) x0 x1 y
      = ∑ k : Fin 2048, (max (x0 (ix2 k (y 0))) 0 * max (x0 (ix2 k (y 0))) 0) * x1 (ix2 k (y 1)) := by
  unfold k0_pay1
  pointwise

/-- The one store leaves the payload of the two blocks. -/
theorem out_eq (x0 : Vec Ideal S2048x1024 .bf16) (x1 : Vec Ideal S2048x1024 .f32) :
    out0_2 (F := Ideal) x0 x1 = k0_pay1 x0 x1 := by
  have hz : (![0, 0] : Fin 2 → Nat) = fun _ => 0 := funext fun a => by fin_cases a <;> rfl
  unfold out0_2
  rw [View.canon_unit_zero hz, View.ld_unit_zero hz, View.ld_unit_zero hz]

/-- Where the blocks of a grid point lie. -/
theorem idx_facts : ∀ t : Fin cfg0.N,
    (win0_0.index t (0 : Fin 2) = 0 ∧ win0_0.index t (1 : Fin 2) = t.val / 2)
    ∧ (win0_1.index t (0 : Fin 2) = 0 ∧ win0_1.index t (1 : Fin 2) = t.val % 2)
    ∧ (win0_2.index t (0 : Fin 2) = t.val / 2 ∧ win0_2.index t (1 : Fin 2) = t.val % 2)
    ∧ (cfg0.win 2).flush t = true :=
  (by decide +kernel : ∀ t : Fin grid0.N, _)

variable (m : (ℓ : Loc nD τ sig) → Buf (Elt Ideal) ℓ)

theorem emb0 (t : Fin cfg0.N) (y : S2048x1024.Idx) : ∀ a : Fin 2,
    (((cfg0.win 0).blk t).view.emb y a).val = ![(y 0).val, t.val / 2 * 1024 + (y 1).val] a := by
  obtain ⟨⟨e0, e1⟩, -⟩ := idx_facts t
  intro a
  match a with
  | ⟨0, _⟩ => show win0_0.index t (0 : Fin 2) * 2048 + 1 * (y 0).val = (y 0).val; omega
  | ⟨1, _⟩ => show win0_0.index t (1 : Fin 2) * 1024 + 1 * (y 1).val = t.val / 2 * 1024 + (y 1).val; omega

theorem emb1 (t : Fin cfg0.N) (y : S2048x1024.Idx) : ∀ a : Fin 2,
    (((cfg0.win 1).blk t).view.emb y a).val = ![(y 0).val, t.val % 2 * 1024 + (y 1).val] a := by
  obtain ⟨-, ⟨e0, e1⟩, -⟩ := idx_facts t
  intro a
  match a with
  | ⟨0, _⟩ => show win0_1.index t (0 : Fin 2) * 2048 + 1 * (y 0).val = (y 0).val; omega
  | ⟨1, _⟩ => show win0_1.index t (1 : Fin 2) * 1024 + 1 * (y 1).val = t.val % 2 * 1024 + (y 1).val; omega

theorem emb2 (t : Fin cfg0.N) (y : S1024x1024.Idx) : ∀ a : Fin 2,
    (((cfg0.win 2).blk t).view.emb y a).val = ![t.val / 2 * 1024 + (y 0).val, t.val % 2 * 1024 + (y 1).val] a := by
  obtain ⟨-, -, ⟨e0, e1⟩, -⟩ := idx_facts t
  intro a
  match a with
  | ⟨0, _⟩ => show win0_2.index t (0 : Fin 2) * 1024 + 1 * (y 0).val = t.val / 2 * 1024 + (y 0).val; omega
  | ⟨1, _⟩ => show win0_2.index t (1 : Fin 2) * 1024 + 1 * (y 1).val = t.val % 2 * 1024 + (y 1).val; omega

/-- The first operand's block at an index. -/
theorem iblk0 (c : Dev nD) (t : Fin cfg0.N) (k : Fin 2048) (y : S1024x1024.Idx) :
    iblk m c 0 t (ix2 k (y 0)) = m ((c : Thread nD τ).loc main_arg0) (ix2 k (((cfg0.win 2).blk t).view.emb y (0 : Fin 2))) := by
  show V m c main_arg0 (((cfg0.win 0).blk t).view.emb (ix2 k (y 0))) = _
  rw [V_main_arg0]
  congr 1; funext a; apply Fin.ext; rw [emb0]
  match a with
  | ⟨0, _⟩ => rfl
  | ⟨1, _⟩ => exact (emb2 t y 0).symm

/-- The second operand's block at an index. -/
theorem iblk1 (c : Dev nD) (t : Fin cfg0.N) (k : Fin 2048) (y : S1024x1024.Idx) :
    iblk m c 1 t (ix2 k (y 1)) = m ((c : Thread nD τ).loc main_arg1) (ix2 k (((cfg0.win 2).blk t).view.emb y (1 : Fin 2))) := by
  show V m c main_arg1 (((cfg0.win 1).blk t).view.emb (ix2 k (y 1))) = _
  rw [V_main_arg1]
  congr 1; funext a; apply Fin.ext; rw [emb1]
  match a with
  | ⟨0, _⟩ => rfl
  | ⟨1, _⟩ => exact (emb2 t y 1).symm

/-- The array after the run. -/
theorem final (c : Dev nD) : (dats m 0 c).arrAt 2 cfg0.N
    = grad (m ((c : Thread nD τ).loc main_arg0)) (m ((c : Thread nD τ).loc main_arg1)) := by
  refine (dats m 0 c).arrAt_eq_of_cover 2 _ (fun t _ => ?_) (fun i => ?_)
  · rw [Value.flushed2, out_eq]
    funext y
    show k0_pay1 (iblk m c 0 t) (iblk m c 1 t) y = grad _ _ (((cfg0.win 2).blk t).view.emb y)
    rw [pay_apply]
    unfold grad
    refine Finset.sum_congr rfl fun k _ => ?_
    rw [iblk0, iblk1]
  · have h0 : (i 0).val < 8192 := (i 0).isLt
    have h1 : (i 1).val < 2048 := (i 1).isLt
    have hN : cfg0.N = 16 := by decide
    let t : Fin cfg0.N := ⟨(i 0).val / 1024 * 2 + (i 1).val / 1024, by omega⟩
    have ht : t.val = (i 0).val / 1024 * 2 + (i 1).val / 1024 := rfl
    refine ⟨t, (idx_facts t).2.2.2, ?_⟩
    let y : S1024x1024.Idx := ix2 ⟨(i 0).val % 1024, by omega⟩ ⟨(i 1).val % 1024, by omega⟩
    have he : ((cfg0.win 2).blk t).view.emb y = i := by
      funext a; apply Fin.ext; rw [emb2]
      match a with
      | ⟨0, _⟩ => show t.val / 2 * 1024 + (i 0).val % 1024 = (i 0).val; omega
      | ⟨1, _⟩ => show t.val % 2 * 1024 + (i 1).val % 1024 = (i 1).val; omega
    exact he ▸ View.emb_mem_set _ y

end Cert.Kernel4Ideal.Val

namespace Cert.Proof

open Idealize.ShloMosaic Idealize.ShloMosaic.TcCoe Idealize.SL.Sem

/-- The call's array is the reference's gradient. -/
theorem algebraic4 : Cert.algebraic_Kernel4Ideal_Reference4Ideal := by
  intro m ρ m' ρ' _ hargs
  refine ⟨_, Cert.Kernel4Ideal.Value.run_blocks (F := Ideal) m ρ, ?_⟩
  refine (θ_run Cert.Reference4Ideal.defs _ _).mono (fun r h c => ⟨?_, (h c).2⟩) (Cert.Reference4Ideal.Value.run (F := Ideal) m' ρ')
  obtain ⟨e0, e1⟩ := hargs c
  rw [(h c).1, Cert.Kernel4Ideal.Val.final, e0, e1]
  funext j
  unfold Cert.Kernel4Ideal.Val.grad
  pointwise
  refine Finset.sum_congr rfl fun k _ => ?_
  exact mul_comm _ _

end Cert.Proof

end
-- ==== Proof.DwUp.lean ====
/- The gradient of the channel mixer's first weight: what the call's array holds after the run, and the reference's. -/
module

public import proofs.«01_k».proof.Proof.Gen.Kernel5Ideal.Value
public import proofs.«01_k».proof.Proof.Gen.Reference5Ideal.Run
public import Idealize.ShloMosaic.Lib.Pointwise
public import Idealize.ShloMosaic.Lib.Pipeline.Value
public import proofs.«01_k».proof.Defs
public import Idealize.ShloMosaic.Adequacy
public import Idealize.ShloMosaic.Init

@[expose] public section

noncomputable section

namespace Cert.Kernel5Ideal.Val

open Cert.Kernel5Ideal Cert.Kernel5Ideal.Gen Idealize.ShloMosaic Idealize.ShloMosaic.TcCoe
open scoped BigOperators

/-- The gradient at an index of the grouped layout: the product of the input's column and the cotangent's column. -/
def grad (h : S2048x2048.Idx → EReal) (du : S2048x8192.Idx → EReal) : S8x2048x1024.Idx → EReal :=
  fun i => ∑ k : Fin 2048, h (ix2 k (i 1)) * du (ix2 k ⟨(i 0).val * 1024 + (i 2).val, by
    have h0 : (i 0).val < 8 := (i 0).isLt
    have h2 : (i 2).val < 1024 := (i 2).isLt
    omega⟩)

/-- One block of the result. -/
theorem pay_apply (x0 : Vec Ideal S2048x1024 .f32) (x1 : Vec Ideal S2048x1024 .bf16) (y : S1x1024x1024.Idx) :
    k0_pay1 (F := Ideal) x0 x1 y = ∑ k : Fin 2048, x0 (ix2 k (y 1)) * x1 (ix2 k (y 2)) := by
  unfold k0_pay1
  pointwise

/-- The one store leaves the payload of the two blocks. -/
theorem out_eq (x0 : Vec Ideal S2048x1024 .f32) (x1 : Vec Ideal S2048x1024 .bf16) :
    out0_2 (F := Ideal) x0 x1 = k0_pay1 x0 x1 := by
  have hz : (![0, 0] : Fin 2 → Nat) = fun _ => 0 := funext fun a => by fin_cases a <;> rfl
  have hz3 : (![0, 0, 0] : Fin 3 → Nat) = fun _ => 0 := funext fun a => by fin_cases a <;> rfl
  unfold out0_2
  rw [View.canon_unit_zero hz3, View.ld_unit_zero hz, View.ld_unit_zero hz]

/-- Where the blocks of a grid point lie. -/
theorem idx_facts : ∀ t : Fin cfg0.N,
    (win0_0.index t (0 : Fin 2) = 0 ∧ win0_0.index t (1 : Fin 2) = t.val / 8)
    ∧ (win0_1.index t (0 : Fin 2) = 0 ∧ win0_1.index t (1 : Fin 2) = t.val % 8)
    ∧ (win0_2.index t (0 : Fin 3) = t.val % 8 ∧ win0_2.index t (1 : Fin 3) = t.val / 8 ∧ win0_2.index t (2 : Fin 3) = 0)
    ∧ (cfg0.win 2).flush t = true :=
  (by decide +kernel : ∀ t : Fin grid0.N, _)

variable (m : (ℓ : Loc nD τ sig) → Buf (Elt Ideal) ℓ)

theorem emb0 (t : Fin cfg0.N) (y : S2048x1024.Idx) : ∀ a : Fin 2,
    (((cfg0.win 0).blk t).view.emb y a).val = ![(y 0).val, t.val / 8 * 1024 + (y 1).val] a := by
  obtain ⟨⟨e0, e1⟩, -⟩ := idx_facts t
  intro a
  match a with
  | ⟨0, _⟩ => show win0_0.index t (0 : Fin 2) * 2048 + 1 * (y 0).val = (y 0).val; omega
  | ⟨1, _⟩ => show win0_0.index t (1 : Fin 2) * 1024 + 1 * (y 1).val = t.val / 8 * 1024 + (y 1).val; omega

theorem emb1 (t : Fin cfg0.N) (y : S2048x1024.Idx) : ∀ a : Fin 2,
    (((cfg0.win 1).blk t).view.emb y a).val = ![(y 0).val, t.val % 8 * 1024 + (y 1).val] a := by
  obtain ⟨-, ⟨e0, e1⟩, -⟩ := idx_facts t
  intro a
  match a with
  | ⟨0, _⟩ => show win0_1.index t (0 : Fin 2) * 2048 + 1 * (y 0).val = (y 0).val; omega
  | ⟨1, _⟩ => show win0_1.index t (1 : Fin 2) * 1024 + 1 * (y 1).val = t.val % 8 * 1024 + (y 1).val; omega

theorem emb2 (t : Fin cfg0.N) (y : S1x1024x1024.Idx) : ∀ a : Fin 3,
    (((cfg0.win 2).blk t).view.emb y a).val = ![t.val % 8 + (y 0).val, t.val / 8 * 1024 + (y 1).val, (y 2).val] a := by
  obtain ⟨-, -, ⟨e0, e1, e2⟩, -⟩ := idx_facts t
  intro a
  match a with
  | ⟨0, _⟩ => show win0_2.index t (0 : Fin 3) * 1 + 1 * (y 0).val = t.val % 8 + (y 0).val; omega
  | ⟨1, _⟩ => show win0_2.index t (1 : Fin 3) * 1024 + 1 * (y 1).val = t.val / 8 * 1024 + (y 1).val; omega
  | ⟨2, _⟩ => show win0_2.index t (2 : Fin 3) * 1024 + 1 * (y 2).val = (y 2).val; omega

/-- The first operand's block at an index. -/
theorem iblk0 (c : Dev nD) (t : Fin cfg0.N) (k : Fin 2048) (y : S1x1024x1024.Idx) :
    iblk m c 0 t (ix2 k (y 1)) = m ((c : Thread nD τ).loc main_arg0) (ix2 k (((cfg0.win 2).blk t).view.emb y (1 : Fin 3))) := by
  show V m c main_arg0 (((cfg0.win 0).blk t).view.emb (ix2 k (y 1))) = _
  rw [V_main_arg0]
  congr 1; funext a; apply Fin.ext; rw [emb0]
  match a with
  | ⟨0, _⟩ => rfl
  | ⟨1, _⟩ => exact (emb2 t y 1).symm

/-- The second operand's block at an index. -/
theorem iblk1 (c : Dev nD) (t : Fin cfg0.N) (k : Fin 2048) (y : S1x1024x1024.Idx) (n : Fin 8192)
    (hn : n.val = (((cfg0.win 2).blk t).view.emb y (0 : Fin 3)).val * 1024 + (((cfg0.win 2).blk t).view.emb y (2 : Fin 3)).val) :
    iblk m c 1 t (ix2 k (y 2)) = m ((c : Thread nD τ).loc main_arg1) (ix2 k n) := by
  show V m c main_arg1 (((cfg0.win 1).blk t).view.emb (ix2 k (y 2))) = _
  rw [V_main_arg1]
  congr 1; funext a; apply Fin.ext; rw [emb1]
  match a with
  | ⟨0, _⟩ => rfl
  | ⟨1, _⟩ =>
    have e0 : (((cfg0.win 2).blk t).view.emb y (0 : Fin 3)).val = t.val % 8 + (y 0).val := emb2 t y 0
    have e2 : (((cfg0.win 2).blk t).view.emb y (2 : Fin 3)).val = (y 2).val := emb2 t y 2
    have h0 : (y 0).val < 1 := (y 0).isLt
    show t.val % 8 * 1024 + (y 2).val = n.val
    omega

/-- The array after the run. -/
theorem final (c : Dev nD) : (dats m 0 c).arrAt 2 cfg0.N
    = grad (m ((c : Thread nD τ).loc main_arg0)) (m ((c : Thread nD τ).loc main_arg1)) := by
  refine (dats m 0 c).arrAt_eq_of_cover 2 _ (fun t _ => ?_) (fun i => ?_)
  · rw [Value.flushed2, out_eq]
    funext y
    show k0_pay1 (iblk m c 0 t) (iblk m c 1 t) y = grad _ _ (((cfg0.win 2).blk t).view.emb y)
    rw [pay_apply]
    unfold grad
    refine Finset.sum_congr rfl fun k _ => ?_
    exact congrArg₂ (· * ·) (iblk0 m c t k y) (iblk1 m c t k y _ rfl)
  · have h0 : (i 0).val < 8 := (i 0).isLt
    have h1 : (i 1).val < 2048 := (i 1).isLt
    have h2 : (i 2).val < 1024 := (i 2).isLt
    have hN : cfg0.N = 16 := by decide
    let t : Fin cfg0.N := ⟨(i 1).val / 1024 * 8 + (i 0).val, by omega⟩
    have ht : t.val = (i 1).val / 1024 * 8 + (i 0).val := rfl
    refine ⟨t, (idx_facts t).2.2.2, ?_⟩
    let y : S1x1024x1024.Idx := ix3 ⟨0, by omega⟩ ⟨(i 1).val % 1024, by omega⟩ ⟨(i 2).val, h2⟩
    have he : ((cfg0.win 2).blk t).view.emb y = i := by
      funext a; apply Fin.ext; rw [emb2]
      match a with
      | ⟨0, _⟩ => show t.val % 8 + 0 = (i 0).val; omega
      | ⟨1, _⟩ => show t.val / 8 * 1024 + (i 1).val % 1024 = (i 1).val; omega
      | ⟨2, _⟩ => rfl
    exact he ▸ View.emb_mem_set _ y

end Cert.Kernel5Ideal.Val

namespace Cert.Proof

open Idealize.ShloMosaic Idealize.ShloMosaic.TcCoe Idealize.SL.Sem

/-- The call's array is the reference's gradient in the grouped layout. -/
theorem algebraic5 : Cert.algebraic_Kernel5Ideal_Reference5Ideal := by
  intro m ρ m' ρ' _ hargs
  refine ⟨_, Cert.Kernel5Ideal.Value.run_blocks (F := Ideal) m ρ, ?_⟩
  refine (θ_run Cert.Reference5Ideal.defs _ _).mono (fun r h c => ⟨?_, (h c).2⟩) (Cert.Reference5Ideal.Value.run (F := Ideal) m' ρ')
  obtain ⟨e0, e1⟩ := hargs c
  rw [(h c).1, Cert.Kernel5Ideal.Val.final, e0, e1]
  funext j
  unfold Cert.Kernel5Ideal.Val.grad
  pointwise
  refine Finset.sum_congr rfl fun k _ => ?_
  exact mul_comm _ _

end Cert.Proof

end
-- ==== Proof.DH1.lean ====
/- The gradient of the channel mixer's input, added up over two halves of four groups each: what the array holds after the run, and the reference's. -/
module

public import proofs.«01_k».proof.Proof.Gen.Kernel6Ideal.Value
public import proofs.«01_k».proof.Proof.Gen.Reference6Ideal.Run
public import Idealize.ShloMosaic.Lib.Pointwise
public import Idealize.ShloMosaic.Lib.Pipeline.Value
public import proofs.«01_k».proof.Defs
public import Idealize.ShloMosaic.Adequacy
public import Idealize.ShloMosaic.Init

@[expose] public section

set_option maxRecDepth 16384

noncomputable section

namespace Cert.Kernel6Ideal.Val

open Cert.Kernel6Ideal Cert.Kernel6Ideal.Gen Idealize.ShloMosaic Idealize.ShloMosaic.TcCoe
open scoped BigOperators

/-- One term: an entry of the cotangent times an entry of the weights. -/
def term (a : S2048x8192.Idx → EReal) (b : S2048x8192.Idx → EReal) (r l : Fin 2048) (q : Fin 8192) : EReal :=
  a (ix2 r q) * b (ix2 l q)

/-- A row of the cotangent times a row of the weights. -/
def prod (a : S2048x8192.Idx → EReal) (b : S2048x8192.Idx → EReal) : S2048x2048.Idx → EReal :=
  fun i => ∑ k : Fin 8192, term a b (i 0) (i 1) k

/-- A sum over 8192 terms is that of its two halves. -/
theorem halves (f : Fin 8192 → EReal) :
    ∑ k, f k = (∑ k : Fin 4096, f ⟨k.val, by omega⟩) + ∑ k : Fin 4096, f ⟨4096 + k.val, by omega⟩ :=
  Fin.sum_univ_add (a := 4096) (b := 4096) f

/-- A sum over 4096 terms is that of its four quarters. -/
theorem quarters (f : Fin 4096 → EReal) :
    ∑ k, f k = (∑ k : Fin 1024, f ⟨k.val, by omega⟩) + (∑ k : Fin 1024, f ⟨1024 + k.val, by omega⟩)
      + (∑ k : Fin 1024, f ⟨2048 + k.val, by omega⟩) + ∑ k : Fin 1024, f ⟨3072 + k.val, by omega⟩ := by
  have e3 := Fin.sum_univ_add (a := 3072) (b := 1024) f
  have e2 := Fin.sum_univ_add (a := 2048) (b := 1024) (fun k => f (Fin.castAdd 1024 k))
  have e1 := Fin.sum_univ_add (a := 1024) (b := 1024) (fun k => f (Fin.castAdd 1024 (Fin.castAdd 1024 k)))
  exact e3.trans (congrArg (· + _) (e2.trans (congrArg (· + _) e1)))

/-- One group of a block of the weights. -/
def slab (x1 : Vec Ideal S4x1024x1024 .bf16) (g : Fin 4) : Vec Ideal S1x1024x1024 .bf16 := fun i => x1 (ix3 g (i 1) (i 2))

/-- What a load of one group reads. -/
theorem ld_slab (x1 : Vec Ideal S4x1024x1024 .bf16) (g : Nat) (hg : g < 4)
    (inb : ∀ a, (![g, 0, 0] : Fin 3 → Nat) a + S1x1024x1024.size a ≤ S4x1024x1024.size a) :
    View.ld x1 (Rect.unit (s := S4x1024x1024) ![g, 0, 0] S1x1024x1024.size inb) = slab x1 ⟨g, hg⟩ := by
  funext i
  unfold slab
  refine congrArg x1 (funext fun a => Fin.ext ?_)
  have h0 : (i 0).val < 1 := (i 0).isLt
  match a with
  | ⟨0, _⟩ => show g + 1 * (i 0).val = g; omega
  | ⟨1, _⟩ => show 0 + 1 * (i 1).val = (i 1).val; omega
  | ⟨2, _⟩ => show 0 + 1 * (i 2).val = (i 2).val; omega

/-- One grid point's part. -/
def pay (x0 : Vec Ideal S1024x4096 .bf16) (x1 : Vec Ideal S4x1024x1024 .bf16) : FVec Ideal S1024x1024 .f32 :=
  k0_pay1 (F := Ideal) x0 (slab x1 0) (slab x1 1) (slab x1 2) (slab x1 3)

/-- One block's part of the result: four products, one for each group. -/
theorem pay_apply (x0 : Vec Ideal S1024x4096 .bf16) (x1 : Vec Ideal S4x1024x1024 .bf16) (y : S1024x1024.Idx) :
    pay x0 x1 y
      = (∑ k : Fin 1024, x0 (ix2 (y 0) ⟨k.val, by omega⟩) * x1 (ix3 0 (y 1) k))
        + (∑ k : Fin 1024, x0 (ix2 (y 0) ⟨1024 + k.val, by omega⟩) * x1 (ix3 1 (y 1) k))
        + (∑ k : Fin 1024, x0 (ix2 (y 0) ⟨2048 + k.val, by omega⟩) * x1 (ix3 2 (y 1) k))
        + ∑ k : Fin 1024, x0 (ix2 (y 0) ⟨3072 + k.val, by omega⟩) * x1 (ix3 3 (y 1) k) := by
  unfold pay k0_pay1 slab
  pointwise

theorem hz : (![0, 0] : Fin 2 → Nat) = fun _ => 0 := funext fun a => by fin_cases a <;> rfl

/-- At the first half the scratch memory is left with the part. -/
theorem sout_A (c : Dev nD) (i : grid0.Coords) (arg3 : Memref sig .tc .vmem S1024x4096 .bf16) (harg3 : arg3.IsWhole)
    (arg4 : Memref sig .tc .vmem S4x1024x1024 .bf16) (harg4 : arg4.IsWhole) (arg5 : Memref sig .tc .vmem S1024x1024 .f32)
    (harg5 : arg5.IsWhole) (arg6 : Memref sig .tc .vmem S1024x1024 .f32) (harg6 : arg6.IsWhole)
    (hc0 : cond0_0 i) (hc1 : ¬cond0_1 i) (hc2 : ¬cond0_2 i)
    (x0 : Vec Ideal S1024x4096 .bf16) (x1 : Vec Ideal S4x1024x1024 .bf16) :
    sout0_A_0 (F := Ideal) c i arg3 harg3 arg4 harg4 arg5 harg5 arg6 harg6 hc0 hc1 hc2 x0 x1 = pay x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  unfold k0_pay2
  simp only [View.readAt_eq_ld, harg3.read_unread, harg4.read_unread, View.ld_unit_zero (S := S1024x4096) hz,
    ld_slab _ 0 (by omega), ld_slab _ 1 (by omega), ld_slab _ 2 (by omega), ld_slab _ 3 (by omega), shapeCast_self]
  rfl

/-- At the second half the output is what the scratch memory held, plus the part. -/
theorem out_B (c : Dev nD) (i : grid0.Coords) (arg3 : Memref sig .tc .vmem S1024x4096 .bf16) (harg3 : arg3.IsWhole)
    (arg4 : Memref sig .tc .vmem S4x1024x1024 .bf16) (harg4 : arg4.IsWhole) (arg5 : Memref sig .tc .vmem S1024x1024 .f32)
    (harg5 : arg5.IsWhole) (arg6 : Memref sig .tc .vmem S1024x1024 .f32) (harg6 : arg6.IsWhole)
    (hc0 : ¬cond0_0 i) (hc1 : cond0_1 i) (hc2 : cond0_2 i)
    (x0 : Vec Ideal S1024x4096 .bf16) (x1 : Vec Ideal S4x1024x1024 .bf16) (xs : Vec Ideal S1024x1024 .f32) :
    out0_B_2 (F := Ideal) c i arg3 harg3 arg4 harg4 arg5 harg5 arg6 harg6 hc0 hc1 hc2 x0 x1 xs = addf xs (pay x0 x1) := by
  unfold out0_B_2
  rw [View.read_writes_eq_canon _ _ _ (cover0_B_2 c i arg3 harg3 arg4 harg4 arg5 harg5 arg6 harg6 hc0 hc1 hc2 x0 x1 xs)]
  unfold kernelRun0_B
  dsimp only
  sl_unfold_words
  rw [View.canon_unit_zero hz, View.readCov_unit_zero (S := S1024x1024) _ hz]
  unfold k0_pay3
  simp only [View.readAt_eq_ld, harg3.read_unread, harg4.read_unread, harg6.read_unread, View.ld_unit_zero (S := S1024x4096) hz,
    ld_slab _ 0 (by omega), ld_slab _ 1 (by omega), ld_slab _ 2 (by omega), ld_slab _ 3 (by omega),
    View.ld_unit_zero (S := S1024x1024) hz, shapeCast_self]
  rfl

/-- Where the blocks of a grid point lie. -/
theorem idx_facts : ∀ t : Fin cfg0.N,
    (win0_0.index t (0 : Fin 2) = t.val / 4 ∧ win0_0.index t (1 : Fin 2) = t.val % 2)
    ∧ (win0_1.index t (0 : Fin 3) = t.val % 2 ∧ win0_1.index t (1 : Fin 3) = t.val / 2 % 2 ∧ win0_1.index t (2 : Fin 3) = 0)
    ∧ (win0_2.index t (0 : Fin 2) = t.val / 4 ∧ win0_2.index t (1 : Fin 2) = t.val / 2 % 2)
    ∧ ((cfg0.win 2).flush t = true ↔ t.val % 2 = 1) :=
  (by decide +kernel : ∀ t : Fin grid0.N, _)

variable (m : (ℓ : Loc nD τ sig) → Buf (Elt Ideal) ℓ)

theorem emb0 (t : Fin cfg0.N) (y : S1024x4096.Idx) : ∀ a : Fin 2,
    (((cfg0.win 0).blk t).view.emb y a).val = ![t.val / 4 * 1024 + (y 0).val, t.val % 2 * 4096 + (y 1).val] a := by
  obtain ⟨⟨e0, e1⟩, -⟩ := idx_facts t
  intro a
  match a with
  | ⟨0, _⟩ => show win0_0.index t (0 : Fin 2) * 1024 + 1 * (y 0).val = t.val / 4 * 1024 + (y 0).val; omega
  | ⟨1, _⟩ => show win0_0.index t (1 : Fin 2) * 4096 + 1 * (y 1).val = t.val % 2 * 4096 + (y 1).val; omega

theorem emb1 (t : Fin cfg0.N) (y : S4x1024x1024.Idx) : ∀ a : Fin 3,
    (((cfg0.win 1).blk t).view.emb y a).val = ![t.val % 2 * 4 + (y 0).val, t.val / 2 % 2 * 1024 + (y 1).val, (y 2).val] a := by
  obtain ⟨-, ⟨e0, e1, e2⟩, -⟩ := idx_facts t
  intro a
  match a with
  | ⟨0, _⟩ => show win0_1.index t (0 : Fin 3) * 4 + 1 * (y 0).val = t.val % 2 * 4 + (y 0).val; omega
  | ⟨1, _⟩ => show win0_1.index t (1 : Fin 3) * 1024 + 1 * (y 1).val = t.val / 2 % 2 * 1024 + (y 1).val; omega
  | ⟨2, _⟩ => show win0_1.index t (2 : Fin 3) * 1024 + 1 * (y 2).val = (y 2).val; omega

theorem emb2 (t : Fin cfg0.N) (y : S1024x1024.Idx) : ∀ a : Fin 2,
    (((cfg0.win 2).blk t).view.emb y a).val = ![t.val / 4 * 1024 + (y 0).val, t.val / 2 % 2 * 1024 + (y 1).val] a := by
  obtain ⟨-, -, ⟨e0, e1⟩, -⟩ := idx_facts t
  intro a
  match a with
  | ⟨0, _⟩ => show win0_2.index t (0 : Fin 2) * 1024 + 1 * (y 0).val = t.val / 4 * 1024 + (y 0).val; omega
  | ⟨1, _⟩ => show win0_2.index t (1 : Fin 2) * 1024 + 1 * (y 1).val = t.val / 2 % 2 * 1024 + (y 1).val; omega

/-- The grouped weights at an index: eight groups of 1024 columns. -/
theorem weights (c : Dev nD) (i : S8x2048x1024.Idx) (n : Fin 8192) (hn : n.val = (i 0).val * 1024 + (i 2).val) :
    V m c main_v2 i = (m ((c : Thread nD τ).loc main_arg1) : S2048x8192.Idx → EReal) (ix2 (i 1) n) := by
  show StableHlo.after hostOps0 (fun b => m (c, b)) main_v2 i = _
  have e : StableHlo.after hostOps0 (fun b => m (c, b)) main_v2
      = truncf (F := Ideal) (φ := .f32) .bf16 (transpose S8x2048x1024 [1, 0, 2] (shapeCast S2048x8x1024 (m ((c : Thread nD τ).loc main_arg1) : S2048x8192.Idx → EReal) shapeCasts_S2048x8192_S2048x8x1024) transposes_S2048x8x1024_S8x2048x1024_1_0_2) bitsLt_bf16_f32 := rfl
  rw [e]
  pointwise
  congr 1; funext a; apply Fin.ext
  match a with
  | ⟨0, _⟩ => rfl
  | ⟨1, _⟩ => exact hn.symm

theorem iblk0 (c : Dev nD) (t : Fin cfg0.N) (k : Fin 4096) (y : S1024x1024.Idx) (r : Fin 2048) (q : Fin 8192)
    (hr : r.val = t.val / 4 * 1024 + (y 0).val) (hq : q.val = t.val % 2 * 4096 + k.val) :
    iblk m c 0 t (ix2 (y 0) k) = m ((c : Thread nD τ).loc main_arg0) (ix2 r q) := by
  show V m c main_arg0 (((cfg0.win 0).blk t).view.emb (ix2 (y 0) k)) = _
  rw [V_main_arg0]
  congr 1; funext a; apply Fin.ext; rw [emb0]
  match a with
  | ⟨0, _⟩ => exact hr.symm
  | ⟨1, _⟩ => exact hq.symm

theorem group (t : Fin cfg0.N) (g : Fin 4) (l k : Fin 1024) : ∀ a : Fin 3,
    (((cfg0.win 1).blk t).view.emb (ix3 g l k) a).val = ![t.val % 2 * 4 + g.val, t.val / 2 % 2 * 1024 + l.val, k.val] a := by
  intro a
  rw [emb1]
  match a with
  | ⟨0, _⟩ => rfl
  | ⟨1, _⟩ => rfl
  | ⟨2, _⟩ => rfl

theorem iblk1 (c : Dev nD) (t : Fin cfg0.N) (g : Fin 4) (k : Fin 1024) (y : S1024x1024.Idx) (l : Fin 2048) (q : Fin 8192)
    (hl : l.val = t.val / 2 % 2 * 1024 + (y 1).val) (hq : q.val = t.val % 2 * 4096 + g.val * 1024 + k.val) :
    iblk m c 1 t (ix3 g (y 1) k) = m ((c : Thread nD τ).loc main_arg1) (ix2 l q) := by
  show V m c main_v2 (((cfg0.win 1).blk t).view.emb (ix3 g (y 1) k)) = _
  have hg := group t g (y 1) k
  generalize ((cfg0.win 1).blk t).view.emb (ix3 g (y 1) k) = z at hg ⊢
  have e0 : (z (0 : Fin 3)).val = t.val % 2 * 4 + g.val := hg 0
  have e1 : (z (1 : Fin 3)).val = t.val / 2 % 2 * 1024 + (y 1).val := hg 1
  have e2 : (z (2 : Fin 3)).val = k.val := hg 2
  rw [weights m c z q (by omega)]
  exact congrArg (fun p => m ((c : Thread nD τ).loc main_arg1) (ix2 p q)) (Fin.ext (e1.trans hl.symm))

/-- A grid point's part is that half of the sum. -/
theorem part (c : Dev nD) (t : Fin cfg0.N) (y : S1024x1024.Idx) (r l : Fin 2048)
    (hr : r.val = t.val / 4 * 1024 + (y 0).val) (hl : l.val = t.val / 2 % 2 * 1024 + (y 1).val)
    (q : Fin 4096 → Fin 8192) (hq : ∀ k, (q k).val = t.val % 2 * 4096 + k.val) :
    pay (iblk m c 0 t) (iblk m c 1 t) y
      = ∑ k : Fin 4096, term (m ((c : Thread nD τ).loc main_arg0)) (m ((c : Thread nD τ).loc main_arg1)) r l (q k) := by
  rw [pay_apply, quarters]
  have one (g : Fin 4) (k : Fin 1024) (p : Fin 4096) (hp : p.val = g.val * 1024 + k.val) :
      (fun a b : EReal => a * b) (iblk m c 0 t (ix2 (y 0) p)) (iblk m c 1 t (ix3 g (y 1) k))
        = term (m ((c : Thread nD τ).loc main_arg0)) (m ((c : Thread nD τ).loc main_arg1)) r l (q p) :=
    congrArg₂ (fun a b : EReal => a * b) (iblk0 m c t p y r (q p) hr (hq p)) (iblk1 m c t g k y l (q p) hl (by rw [hq p]; omega))
  refine congrArg₂ (· + ·) (congrArg₂ (· + ·) (congrArg₂ (· + ·) ?_ ?_) ?_) ?_
  · exact Finset.sum_congr rfl fun k _ => one 0 k ⟨k.val, by omega⟩ (by show k.val = 0 * 1024 + k.val; omega)
  · exact Finset.sum_congr rfl fun k _ => one 1 k ⟨1024 + k.val, by omega⟩ (by show 1024 + k.val = 1 * 1024 + k.val; omega)
  · exact Finset.sum_congr rfl fun k _ => one 2 k ⟨2048 + k.val, by omega⟩ (by show 2048 + k.val = 2 * 1024 + k.val; omega)
  · exact Finset.sum_congr rfl fun k _ => one 3 k ⟨3072 + k.val, by omega⟩ (by show 3072 + k.val = 3 * 1024 + k.val; omega)

/-- What the scratch memory holds after a first half. -/
theorem scratch (c : Dev nD) (t : Fin cfg0.N) (h : t.val % 2 = 0) :
    (outsAt0 m c t.val t.isLt).2 = pay (iblk m c 0 t) (iblk m c 1 t) := by
  rw [outsAt0_A m c t h (by omega) (by omega)]
  dsimp only
  rw [sout_A]

/-- The array after the run. -/
theorem final (c : Dev nD) : (dats m 0 c).arrAt 2 cfg0.N = prod (m ((c : Thread nD τ).loc main_arg0)) (m ((c : Thread nD τ).loc main_arg1)) := by
  refine (dats m 0 c).arrAt_eq_of_cover 2 _ (fun t hf => ?_) (fun i => ?_)
  · have h1 : t.val % 2 = 1 := (idx_facts t).2.2.2.mp hf
    have ht' : t.val - 1 < cfg0.N := Nat.lt_of_le_of_lt (Nat.sub_le _ _) t.isLt
    rw [Value.flushed2_B m c t (by omega) h1 h1, out_B]
    have hs := scratch m c ⟨t.val - 1, ht'⟩ (by show (t.val - 1) % 2 = 0; omega)
    rw [show (outsAt0 m c (t.val - 1) ht').2 = _ from hs]
    funext y
    show pay (iblk m c 0 ⟨t.val - 1, ht'⟩) (iblk m c 1 ⟨t.val - 1, ht'⟩) y + pay (iblk m c 0 t) (iblk m c 1 t) y
      = prod _ _ (((cfg0.win 2).blk t).view.emb y)
    have w0 : (((cfg0.win 2).blk t).view.emb y (0 : Fin 2)).val = t.val / 4 * 1024 + (y 0).val := emb2 t y 0
    have w1 : (((cfg0.win 2).blk t).view.emb y (1 : Fin 2)).val = t.val / 2 % 2 * 1024 + (y 1).val := emb2 t y 1
    unfold prod
    rw [halves]
    generalize ((cfg0.win 2).blk t).view.emb y = w at w0 w1 ⊢
    exact congrArg₂ (· + ·)
      (part m c ⟨t.val - 1, ht'⟩ y (w 0) (w 1) (by show (w (0 : Fin 2)).val = (t.val - 1) / 4 * 1024 + _; omega)
        (by show (w (1 : Fin 2)).val = (t.val - 1) / 2 % 2 * 1024 + _; omega) _ (fun k => by show k.val = (t.val - 1) % 2 * 4096 + k.val; omega))
      (part m c t y (w 0) (w 1) w0 w1 _ (fun k => by show 4096 + k.val = t.val % 2 * 4096 + k.val; omega))
  · have h0 : (i 0).val < 2048 := (i 0).isLt
    have h1 : (i 1).val < 2048 := (i 1).isLt
    have hN : cfg0.N = 8 := by decide
    let t : Fin cfg0.N := ⟨(i 0).val / 1024 * 4 + (i 1).val / 1024 * 2 + 1, by omega⟩
    have ht : t.val = (i 0).val / 1024 * 4 + (i 1).val / 1024 * 2 + 1 := rfl
    refine ⟨t, (idx_facts t).2.2.2.mpr (by omega), ?_⟩
    let y : S1024x1024.Idx := ix2 ⟨(i 0).val % 1024, by omega⟩ ⟨(i 1).val % 1024, by omega⟩
    have he : ((cfg0.win 2).blk t).view.emb y = i := by
      funext a; apply Fin.ext; rw [emb2]
      match a with
      | ⟨0, _⟩ => show t.val / 4 * 1024 + (i 0).val % 1024 = (i 0).val; omega
      | ⟨1, _⟩ => show t.val / 2 % 2 * 1024 + (i 1).val % 1024 = (i 1).val; omega
    exact he ▸ View.emb_mem_set _ y

end Cert.Kernel6Ideal.Val

namespace Cert.Proof

open Idealize.ShloMosaic Idealize.ShloMosaic.TcCoe Idealize.SL.Sem

/-- The call's array is the reference's. -/
theorem algebraic6 : Cert.algebraic_Kernel6Ideal_Reference6Ideal := by
  intro m ρ m' ρ' _ hargs
  refine ⟨_, Cert.Kernel6Ideal.Value.run_blocks (F := Ideal) m ρ, ?_⟩
  refine (θ_run Cert.Reference6Ideal.defs _ _).mono (fun r h c => ⟨?_, (h c).2⟩) (Cert.Reference6Ideal.Value.run (F := Ideal) m' ρ')
  obtain ⟨e0, e1⟩ := hargs c
  rw [(h c).1, Cert.Kernel6Ideal.Val.final, e0, e1]
  funext j
  unfold Cert.Kernel6Ideal.Val.prod Cert.Kernel6Ideal.Val.term
  pointwise

end Cert.Proof

end
-- ==== Proof.Proj.lean ====
/- The projections: what the array holds after the run, and the reference's. -/
module

public import proofs.«01_k».proof.Proof.Gen.Kernel7Ideal.Value
public import proofs.«01_k».proof.Proof.Gen.Reference7Ideal.Run
public import Idealize.ShloMosaic.Lib.Pointwise
public import Idealize.ShloMosaic.Lib.Pipeline.Value
public import proofs.«01_k».proof.Defs
public import Idealize.ShloMosaic.Adequacy
public import Idealize.ShloMosaic.Init

@[expose] public section

set_option maxRecDepth 16384

noncomputable section

namespace Cert.Kernel7Ideal.Val

open Cert.Kernel7Ideal Cert.Kernel7Ideal.Gen Idealize.ShloMosaic Idealize.ShloMosaic.TcCoe
open scoped BigOperators

/-- The weights' columns in the order of the result: 4608 of them, the last 1024, the 16 between, and zeros. -/
def wt (w : S2048x5648.Idx → EReal) (n : Fin 5760) (k : Fin 2048) : EReal :=
  if h : n.val < 4608 then w (ix2 k ⟨n.val, by omega⟩)
  else if h' : n.val < 5632 then w (ix2 k ⟨n.val + 16, by omega⟩)
  else if h'' : n.val < 5648 then w (ix2 k ⟨n.val - 1024, by omega⟩)
  else 0

/-- A row of the input times a column of the weights. -/
def prod (a : S2048x2048.Idx → EReal) (w : S2048x5648.Idx → EReal) : S2048x5760.Idx → EReal :=
  fun i => ∑ k : Fin 2048, a (ix2 (i 0) k) * wt w (i 1) k

/-- One block of the result. -/
theorem pay_apply (x0 : Vec Ideal S1024x2048 .bf16) (x1 : Vec Ideal S1152x2048 .bf16) (y : S1024x1152.Idx) :
    k0_pay1 (F := Ideal) x0 x1 y = ∑ k : Fin 2048, x0 (ix2 (y 0) k) * x1 (ix2 (y 1) k) := by
  unfold k0_pay1
  pointwise

/-- The one store leaves the payload of the two blocks. -/
theorem out_eq (x0 : Vec Ideal S1024x2048 .bf16) (x1 : Vec Ideal S1152x2048 .bf16) :
    out0_2 (F := Ideal) x0 x1 = k0_pay1 x0 x1 := by
  have hz : (![0, 0] : Fin 2 → Nat) = fun _ => 0 := funext fun a => by fin_cases a <;> rfl
  unfold out0_2
  rw [View.canon_unit_zero hz, View.ld_unit_zero hz, View.ld_unit_zero hz]

/-- Where the blocks of a grid point lie. -/
theorem idx_facts : ∀ t : Fin cfg0.N,
    (win0_0.index t (0 : Fin 2) = t.val / 5 ∧ win0_0.index t (1 : Fin 2) = 0)
    ∧ (win0_1.index t (0 : Fin 2) = t.val % 5 ∧ win0_1.index t (1 : Fin 2) = 0)
    ∧ (win0_2.index t (0 : Fin 2) = t.val / 5 ∧ win0_2.index t (1 : Fin 2) = t.val % 5)
    ∧ (cfg0.win 2).flush t = true :=
  (by decide +kernel : ∀ t : Fin grid0.N, _)

variable (m : (ℓ : Loc nD τ sig) → Buf (Elt Ideal) ℓ)

theorem emb0 (t : Fin cfg0.N) (y : S1024x2048.Idx) : ∀ a : Fin 2,
    (((cfg0.win 0).blk t).view.emb y a).val = ![t.val / 5 * 1024 + (y 0).val, (y 1).val] a := by
  obtain ⟨⟨e0, e1⟩, -⟩ := idx_facts t
  intro a
  match a with
  | ⟨0, _⟩ => show win0_0.index t (0 : Fin 2) * 1024 + 1 * (y 0).val = t.val / 5 * 1024 + (y 0).val; omega
  | ⟨1, _⟩ => show win0_0.index t (1 : Fin 2) * 2048 + 1 * (y 1).val = (y 1).val; omega

theorem emb1 (t : Fin cfg0.N) (y : S1152x2048.Idx) : ∀ a : Fin 2,
    (((cfg0.win 1).blk t).view.emb y a).val = ![t.val % 5 * 1152 + (y 0).val, (y 1).val] a := by
  obtain ⟨-, ⟨e0, e1⟩, -⟩ := idx_facts t
  intro a
  match a with
  | ⟨0, _⟩ => show win0_1.index t (0 : Fin 2) * 1152 + 1 * (y 0).val = t.val % 5 * 1152 + (y 0).val; omega
  | ⟨1, _⟩ => show win0_1.index t (1 : Fin 2) * 2048 + 1 * (y 1).val = (y 1).val; omega

theorem emb2 (t : Fin cfg0.N) (y : S1024x1152.Idx) : ∀ a : Fin 2,
    (((cfg0.win 2).blk t).view.emb y a).val = ![t.val / 5 * 1024 + (y 0).val, t.val % 5 * 1152 + (y 1).val] a := by
  obtain ⟨-, -, ⟨e0, e1⟩, -⟩ := idx_facts t
  intro a
  match a with
  | ⟨0, _⟩ => show win0_2.index t (0 : Fin 2) * 1024 + 1 * (y 0).val = t.val / 5 * 1024 + (y 0).val; omega
  | ⟨1, _⟩ => show win0_2.index t (1 : Fin 2) * 1152 + 1 * (y 1).val = t.val % 5 * 1152 + (y 1).val; omega

/-- The zero that the host's padding takes. -/
theorem zero (j : S_.Idx) : (sitofp (F := Ideal) .bf16 (constantI S_ 32 0#32) : S_.Idx → EReal) j = 0 := by
  show ((((0#32 : BitVec 32).toInt : ℤ) : ℝ) : EReal) = 0
  simp

/-- The weights in the order of the result, as the host puts them together. -/
def cat (W : S2048x5648.Idx → EReal) : S5760x2048.Idx → EReal :=
  concatenate S5760x2048 0
      [⟨S4608x2048, extractStridedSlice S4608x2048 ![0, 0] (truncf (F := Ideal) (φ := .f32) .bf16 (transpose S5648x2048 [1, 0]
          (W : S2048x5648.Idx → EReal) transposes_S2048x5648_S5648x2048_1_0) bitsLt_bf16_f32)
          slices_S5648x2048_S4608x2048_0_0⟩,
        ⟨S1024x2048, extractStridedSlice S1024x2048 ![4624, 0] (truncf (F := Ideal) (φ := .f32) .bf16 (transpose S5648x2048 [1, 0]
          (W : S2048x5648.Idx → EReal) transposes_S2048x5648_S5648x2048_1_0) bitsLt_bf16_f32)
          slices_S5648x2048_S1024x2048_4624_0⟩,
        ⟨S128x2048, pad S128x2048 ![0, 0] ![112, 0] ![0, 0] (extractStridedSlice S16x2048 ![4608, 0] (truncf (F := Ideal) (φ := .f32) .bf16
          (transpose S5648x2048 [1, 0] (W : S2048x5648.Idx → EReal) transposes_S2048x5648_S5648x2048_1_0) bitsLt_bf16_f32)
          slices_S5648x2048_S16x2048_4608_0) (sitofp (F := Ideal) .bf16 (constantI S_ 32 0#32)) pads_S16x2048_S128x2048_01120_000 h_S_⟩]
      concatenates_S4608x2048_S1024x2048_S128x2048_S5760x2048_d0

theorem cat3 (x : S4608x2048.Idx → EReal) (y : S1024x2048.Idx → EReal) (z : S128x2048.Idx → EReal) (i : S5760x2048.Idx) :
    concatenate S5760x2048 0 [⟨S4608x2048, x⟩, ⟨S1024x2048, y⟩, ⟨S128x2048, z⟩] concatenates_S4608x2048_S1024x2048_S128x2048_S5760x2048_d0 i
      = if h : (i 0).val < 4608 then x (ix2 ⟨(i 0).val, h⟩ (i 1))
        else if h' : (i 0).val - 4608 < 1024 then y (ix2 ⟨(i 0).val - 4608, h'⟩ (i 1))
        else z (ix2 ⟨(i 0).val - 4608 - 1024, by have hn : (i 0).val < 5760 := (i 0).isLt; omega⟩ (i 1)) := by
  pointwise

theorem padded (x : S16x2048.Idx → EReal) (v : S_.Idx → EReal) (hv : ∀ j, v j = 0) (i : S128x2048.Idx) :
    pad S128x2048 ![0, 0] ![112, 0] ![0, 0] x v pads_S16x2048_S128x2048_01120_000 h_S_ i
      = if h : (i 0).val < 16 then x (ix2 ⟨(i 0).val, h⟩ (i 1)) else 0 := by
  pointwise [hv]

theorem first (W : S2048x5648.Idx → EReal) (i : S4608x2048.Idx) :
    extractStridedSlice S4608x2048 ![0, 0] (truncf (F := Ideal) (φ := .f32) .bf16 (transpose S5648x2048 [1, 0]
          (W : S2048x5648.Idx → EReal) transposes_S2048x5648_S5648x2048_1_0) bitsLt_bf16_f32)
          slices_S5648x2048_S4608x2048_0_0 i = W (ix2 (i 1) ⟨(i 0).val, by have hn : (i 0).val < 4608 := (i 0).isLt; omega⟩) := by
  pointwise

theorem second (W : S2048x5648.Idx → EReal) (i : S1024x2048.Idx) :
    extractStridedSlice S1024x2048 ![4624, 0] (truncf (F := Ideal) (φ := .f32) .bf16 (transpose S5648x2048 [1, 0]
          (W : S2048x5648.Idx → EReal) transposes_S2048x5648_S5648x2048_1_0) bitsLt_bf16_f32)
          slices_S5648x2048_S1024x2048_4624_0 i = W (ix2 (i 1) ⟨4624 + (i 0).val, by have hn : (i 0).val < 1024 := (i 0).isLt; omega⟩) := by
  pointwise

theorem third (W : S2048x5648.Idx → EReal) (i : S16x2048.Idx) :
    extractStridedSlice S16x2048 ![4608, 0] (truncf (F := Ideal) (φ := .f32) .bf16 (transpose S5648x2048 [1, 0]
          (W : S2048x5648.Idx → EReal) transposes_S2048x5648_S5648x2048_1_0) bitsLt_bf16_f32)
          slices_S5648x2048_S16x2048_4608_0 i = W (ix2 (i 1) ⟨4608 + (i 0).val, by have hn : (i 0).val < 16 := (i 0).isLt; omega⟩) := by
  pointwise

theorem cat_apply (W : S2048x5648.Idx → EReal) (i : S5760x2048.Idx) : cat W i = wt W (i 0) (i 1) := by
  have hn : (i 0).val < 5760 := (i 0).isLt
  have go (p q : Fin 5648) (h : p.val = q.val) : W (ix2 (i 1) p) = W (ix2 (i 1) q) := by rw [Fin.ext h]
  unfold wt cat
  rw [cat3]
  by_cases h1 : (i 0).val < 4608
  · rw [dif_pos h1, dif_pos h1]
    exact (first W _).trans (go _ _ rfl)
  · by_cases h2 : (i 0).val < 5632
    · rw [dif_neg h1, dif_neg h1, dif_pos h2, dif_pos (show (i 0).val - 4608 < 1024 by omega)]
      exact (second W _).trans (go _ _ (by show 4624 + ((i 0).val - 4608) = (i 0).val + 16; omega))
    · rw [dif_neg h1, dif_neg h1, dif_neg h2, dif_neg (show ¬(i 0).val - 4608 < 1024 by omega)]
      refine (padded _ _ zero _).trans ?_
      by_cases h3 : (i 0).val < 5648
      · rw [dif_pos h3]
        refine (dif_pos (by show (i 0).val - 4608 - 1024 < 16; omega)).trans ?_
        exact (third W _).trans (go _ _ (by show 4608 + ((i 0).val - 4608 - 1024) = (i 0).val - 1024; omega))
      · rw [dif_neg h3]
        exact dif_neg (by show ¬(i 0).val - 4608 - 1024 < 16; omega)

/-- The weights that the call is given, at an index. -/
theorem weights (c : Dev nD) (i : S5760x2048.Idx) :
    V m c main_v6 i = wt (m ((c : Thread nD τ).loc main_arg1)) (i 0) (i 1) :=
  (congrFun (rfl : V m c main_v6 = cat (m ((c : Thread nD τ).loc main_arg1))) i).trans (cat_apply _ i)

/-- The cast input is the input. -/
theorem input (c : Dev nD) : V m c main_v7 = (m ((c : Thread nD τ).loc main_arg0) : S2048x2048.Idx → EReal) := rfl

theorem iblk0 (c : Dev nD) (t : Fin cfg0.N) (k : Fin 2048) (y : S1024x1152.Idx) :
    iblk m c 0 t (ix2 (y 0) k) = m ((c : Thread nD τ).loc main_arg0) (ix2 (((cfg0.win 2).blk t).view.emb y (0 : Fin 2)) k) := by
  show V m c main_v7 (((cfg0.win 0).blk t).view.emb (ix2 (y 0) k)) = _
  rw [input]
  congr 1; funext a; apply Fin.ext; rw [emb0]
  match a with
  | ⟨0, _⟩ => exact (emb2 t y 0).symm
  | ⟨1, _⟩ => rfl

theorem iblk1 (c : Dev nD) (t : Fin cfg0.N) (k : Fin 2048) (y : S1024x1152.Idx) :
    iblk m c 1 t (ix2 (y 1) k) = wt (m ((c : Thread nD τ).loc main_arg1)) (((cfg0.win 2).blk t).view.emb y (1 : Fin 2)) k := by
  show V m c main_v6 (((cfg0.win 1).blk t).view.emb (ix2 (y 1) k)) = _
  rw [weights]
  have h0 : (((cfg0.win 1).blk t).view.emb (ix2 (y 1) k) (0 : Fin 2)) = (((cfg0.win 2).blk t).view.emb y (1 : Fin 2)) :=
    Fin.ext ((emb1 t (ix2 (y 1) k) 0).trans (emb2 t y 1).symm)
  have h1 : (((cfg0.win 1).blk t).view.emb (ix2 (y 1) k) (1 : Fin 2)) = k := Fin.ext (emb1 t (ix2 (y 1) k) 1)
  exact congrArg₂ (wt _) h0 h1

/-- The array after the run. -/
theorem final (c : Dev nD) : (dats m 0 c).arrAt 2 cfg0.N = prod (m ((c : Thread nD τ).loc main_arg0)) (m ((c : Thread nD τ).loc main_arg1)) := by
  refine (dats m 0 c).arrAt_eq_of_cover 2 _ (fun t _ => ?_) (fun i => ?_)
  · rw [Value.flushed2, out_eq]
    funext y
    show k0_pay1 (iblk m c 0 t) (iblk m c 1 t) y = prod _ _ (((cfg0.win 2).blk t).view.emb y)
    rw [pay_apply]
    unfold prod
    exact Finset.sum_congr rfl fun k _ => congrArg₂ (· * ·) (iblk0 m c t k y) (iblk1 m c t k y)
  · have h0 : (i 0).val < 2048 := (i 0).isLt
    have h1 : (i 1).val < 5760 := (i 1).isLt
    have hN : cfg0.N = 10 := by decide
    let t : Fin cfg0.N := ⟨(i 0).val / 1024 * 5 + (i 1).val / 1152, by omega⟩
    have ht : t.val = (i 0).val / 1024 * 5 + (i 1).val / 1152 := rfl
    refine ⟨t, (idx_facts t).2.2.2, ?_⟩
    let y : S1024x1152.Idx := ix2 ⟨(i 0).val % 1024, by omega⟩ ⟨(i 1).val % 1152, by omega⟩
    have he : ((cfg0.win 2).blk t).view.emb y = i := by
      funext a; apply Fin.ext; rw [emb2]
      match a with
      | ⟨0, _⟩ => show t.val / 5 * 1024 + (i 0).val % 1024 = (i 0).val; omega
      | ⟨1, _⟩ => show t.val % 5 * 1152 + (i 1).val % 1152 = (i 1).val; omega
    exact he ▸ View.emb_mem_set _ y

end Cert.Kernel7Ideal.Val

namespace Cert.Proof

open Idealize.ShloMosaic Idealize.ShloMosaic.TcCoe Idealize.SL.Sem

/-- The zero that the reference's padding takes. -/
theorem zero7 (j : Cert.Reference7Ideal.S_.Idx) : (sitofp (F := Ideal) .f32 (constantI Cert.Reference7Ideal.S_ 32 0#32) : Cert.Reference7Ideal.S_.Idx → EReal) j = 0 := by
  show ((((0#32 : BitVec 32).toInt : ℤ) : ℝ) : EReal) = 0
  simp

open Cert.Reference7Ideal Cert.Reference7Ideal.Gen in
/-- The reference's result at an index. -/
theorem ref7 (X : S2048x2048.Idx → EReal) (W : S2048x5648.Idx → EReal) :
    (concatenate S2048x5760 1
      [⟨S2048x4608, extractStridedSlice S2048x4608 ![0, 0] (Host.dotGeneral (F := Ideal) (φ₁ := .f32) (φ₂ := .f32) dot_S2048x2048_S2048x5648_S2048x5648_1_0_0_1_n_n none X W)
          slices_S2048x5648_S2048x4608_0_0⟩,
        ⟨S2048x1024, extractStridedSlice S2048x1024 ![0, 4624] (Host.dotGeneral (F := Ideal) (φ₁ := .f32) (φ₂ := .f32) dot_S2048x2048_S2048x5648_S2048x5648_1_0_0_1_n_n none X W)
          slices_S2048x5648_S2048x1024_0_4624⟩,
        ⟨S2048x128, pad S2048x128 ![0, 0] ![0, 112] ![0, 0] (extractStridedSlice S2048x16 ![0, 4608]
          (Host.dotGeneral (F := Ideal) (φ₁ := .f32) (φ₂ := .f32) dot_S2048x2048_S2048x5648_S2048x5648_1_0_0_1_n_n none X W) slices_S2048x5648_S2048x16_0_4608)
          (sitofp (F := Ideal) .f32 (constantI S_ 32 0#32)) pads_S2048x16_S2048x128_000_01120 h_S_⟩]
      concatenates_S2048x4608_S2048x1024_S2048x128_S2048x5760_d1 : S2048x5760.Idx → EReal) = Cert.Kernel7Ideal.Val.prod X W := by
  funext j
  unfold Cert.Kernel7Ideal.Val.prod Cert.Kernel7Ideal.Val.wt
  have hn : (j 1).val < 5760 := (j 1).isLt
  have go (k : Fin 2048) (p q : Fin 5648) (h : p.val = q.val) : X (ix2 (j 0) k) * W (ix2 k p) = X (ix2 (j 0) k) * W (ix2 k q) := by
    rw [Fin.ext h]
  pointwise [zero7]
  by_cases h1 : (j 1).val < 4608
  · simp only [dif_pos h1]
  · by_cases h2 : (j 1).val < 5632
    · simp only [dif_neg h1, dif_pos h2, dif_pos (show (j 1).val - 4608 < 1024 by omega)]
      exact Finset.sum_congr rfl fun k _ => go k _ _ (by show 4624 + ((j 1).val - 4608) = (j 1).val + 16; omega)
    · by_cases h3 : (j 1).val < 5648
      · simp only [dif_neg h1, dif_neg h2, dif_pos h3, dif_neg (show ¬(j 1).val - 4608 < 1024 by omega),
          dif_pos (show (j 1).val - 4608 - 1024 < 16 by omega)]
        exact Finset.sum_congr rfl fun k _ => go k _ _ (by show 4608 + ((j 1).val - 4608 - 1024) = (j 1).val - 1024; omega)
      · simp only [dif_neg h1, dif_neg h2, dif_neg h3, dif_neg (show ¬(j 1).val - 4608 < 1024 by omega),
          dif_neg (show ¬(j 1).val - 4608 - 1024 < 16 by omega), mul_zero, Finset.sum_const_zero]

/-- The call's array is the reference's. -/
theorem algebraic7 : Cert.algebraic_Kernel7Ideal_Reference7Ideal := by
  intro m ρ m' ρ' _ hargs
  refine ⟨_, Cert.Kernel7Ideal.Value.run_blocks (F := Ideal) m ρ, ?_⟩
  refine (θ_run Cert.Reference7Ideal.defs _ _).mono (fun r h c => ⟨?_, (h c).2⟩) (Cert.Reference7Ideal.Value.run (F := Ideal) m' ρ')
  obtain ⟨e0, e1⟩ := hargs c
  rw [(h c).1, Cert.Kernel7Ideal.Val.final, e0, e1]
  exact ref7 _ _

end Cert.Proof

end
-- ==== Proof.DwIn.lean ====
/- The gradient of the projections' weights: what the array holds after the run, and the reference's. -/
module

public import proofs.«01_k».proof.Proof.Gen.Kernel8Ideal.Value
public import proofs.«01_k».proof.Proof.Gen.Reference8Ideal.Run
public import Idealize.ShloMosaic.Lib.Pointwise
public import Idealize.ShloMosaic.Lib.Pipeline.Value
public import proofs.«01_k».proof.Defs
public import Idealize.ShloMosaic.Adequacy
public import Idealize.ShloMosaic.Init

@[expose] public section

set_option maxRecDepth 16384

noncomputable section

namespace Cert.Kernel8Ideal.Val

open Cert.Kernel8Ideal Cert.Kernel8Ideal.Gen Idealize.ShloMosaic Idealize.ShloMosaic.TcCoe
open scoped BigOperators

/-- The columns of a row, set one after the other: q, k, v, the channels before the convolution, the 16 gates, z. -/
def col (q : S2048x1024.Idx → EReal) (k v : S2048x256.Idx → EReal) (u : S2048x3072.Idx → EReal) (z : S2048x1024.Idx → EReal) (a : S2048x16.Idx → EReal)
    (r : Fin 2048) (n : Fin 5648) : EReal :=
  if h : n.val < 1024 then q (ix2 r ⟨n.val, h⟩)
  else if h : n.val - 1024 < 256 then k (ix2 r ⟨n.val - 1024, h⟩)
  else if h : n.val - 1024 - 256 < 256 then v (ix2 r ⟨n.val - 1024 - 256, h⟩)
  else if h : n.val - 1024 - 256 - 256 < 3072 then u (ix2 r ⟨n.val - 1024 - 256 - 256, h⟩)
  else if h : n.val - 1024 - 256 - 256 - 3072 < 16 then a (ix2 r ⟨n.val - 1024 - 256 - 256 - 3072, h⟩)
  else z (ix2 r ⟨n.val - 1024 - 256 - 256 - 3072 - 16, by have := n.isLt; omega⟩)

/-- The same in the call's order: the gates last, then zeros. -/
def pcol (q : S2048x1024.Idx → EReal) (k v : S2048x256.Idx → EReal) (u : S2048x3072.Idx → EReal) (z : S2048x1024.Idx → EReal) (a : S2048x16.Idx → EReal)
    (r : Fin 2048) (n : Fin 5760) : EReal :=
  if h : n.val < 4608 then col q k v u z a r ⟨n.val, by omega⟩
  else if h' : n.val < 5632 then col q k v u z a r ⟨n.val + 16, by omega⟩
  else if h'' : n.val < 5648 then col q k v u z a r ⟨n.val - 1024, by omega⟩
  else 0

/-- A column of the cotangent times a column of the input. -/
def prod (x : S2048x2048.Idx → EReal) (q : S2048x1024.Idx → EReal) (k v : S2048x256.Idx → EReal) (u : S2048x3072.Idx → EReal) (z : S2048x1024.Idx → EReal) (a : S2048x16.Idx → EReal) : S5760x2048.Idx → EReal :=
  fun i => ∑ l : Fin 2048, pcol q k v u z a l (i 0) * x (ix2 l (i 1))

/-- One block of the result. -/
theorem pay_apply (x0 : Vec Ideal S2048x1152 .bf16) (x1 : Vec Ideal S2048x1024 .bf16) (y : S1152x1024.Idx) :
    k0_pay1 (F := Ideal) x0 x1 y = ∑ l : Fin 2048, x0 (ix2 l (y 0)) * x1 (ix2 l (y 1)) := by
  unfold k0_pay1
  pointwise

/-- The one store leaves the payload of the two blocks. -/
theorem out_eq (x0 : Vec Ideal S2048x1152 .bf16) (x1 : Vec Ideal S2048x1024 .bf16) :
    out0_2 (F := Ideal) x0 x1 = k0_pay1 x0 x1 := by
  have hz : (![0, 0] : Fin 2 → Nat) = fun _ => 0 := funext fun a => by fin_cases a <;> rfl
  unfold out0_2
  rw [View.canon_unit_zero hz, View.ld_unit_zero hz, View.ld_unit_zero hz]

/-- Where the blocks of a grid point lie. -/
theorem idx_facts : ∀ t : Fin cfg0.N,
    (win0_0.index t (0 : Fin 2) = 0 ∧ win0_0.index t (1 : Fin 2) = t.val / 2)
    ∧ (win0_1.index t (0 : Fin 2) = 0 ∧ win0_1.index t (1 : Fin 2) = t.val % 2)
    ∧ (win0_2.index t (0 : Fin 2) = t.val / 2 ∧ win0_2.index t (1 : Fin 2) = t.val % 2)
    ∧ (cfg0.win 2).flush t = true :=
  (by decide +kernel : ∀ t : Fin grid0.N, _)

variable (m : (ℓ : Loc nD τ sig) → Buf (Elt Ideal) ℓ)

theorem emb0 (t : Fin cfg0.N) (y : S2048x1152.Idx) : ∀ a : Fin 2,
    (((cfg0.win 0).blk t).view.emb y a).val = ![(y 0).val, t.val / 2 * 1152 + (y 1).val] a := by
  obtain ⟨⟨e0, e1⟩, -⟩ := idx_facts t
  intro a
  match a with
  | ⟨0, _⟩ => show win0_0.index t (0 : Fin 2) * 2048 + 1 * (y 0).val = (y 0).val; omega
  | ⟨1, _⟩ => show win0_0.index t (1 : Fin 2) * 1152 + 1 * (y 1).val = t.val / 2 * 1152 + (y 1).val; omega

theorem emb1 (t : Fin cfg0.N) (y : S2048x1024.Idx) : ∀ a : Fin 2,
    (((cfg0.win 1).blk t).view.emb y a).val = ![(y 0).val, t.val % 2 * 1024 + (y 1).val] a := by
  obtain ⟨-, ⟨e0, e1⟩, -⟩ := idx_facts t
  intro a
  match a with
  | ⟨0, _⟩ => show win0_1.index t (0 : Fin 2) * 2048 + 1 * (y 0).val = (y 0).val; omega
  | ⟨1, _⟩ => show win0_1.index t (1 : Fin 2) * 1024 + 1 * (y 1).val = t.val % 2 * 1024 + (y 1).val; omega

theorem emb2 (t : Fin cfg0.N) (y : S1152x1024.Idx) : ∀ a : Fin 2,
    (((cfg0.win 2).blk t).view.emb y a).val = ![t.val / 2 * 1152 + (y 0).val, t.val % 2 * 1024 + (y 1).val] a := by
  obtain ⟨-, -, ⟨e0, e1⟩, -⟩ := idx_facts t
  intro a
  match a with
  | ⟨0, _⟩ => show win0_2.index t (0 : Fin 2) * 1152 + 1 * (y 0).val = t.val / 2 * 1152 + (y 0).val; omega
  | ⟨1, _⟩ => show win0_2.index t (1 : Fin 2) * 1024 + 1 * (y 1).val = t.val % 2 * 1024 + (y 1).val; omega

/-- The zero that the host's padding takes. -/
theorem zero (j : S_.Idx) : (sitofp (F := Ideal) .f32 (constantI S_ 32 0#32) : S_.Idx → EReal) j = 0 := by
  show ((((0#32 : BitVec 32).toInt : ℤ) : ℝ) : EReal) = 0
  simp

/-- The cotangent's columns in the call's order, as the host puts them together. -/
def cat (q : S2048x1024.Idx → EReal) (k v : S2048x256.Idx → EReal) (u : S2048x3072.Idx → EReal) (z : S2048x1024.Idx → EReal) (a : S2048x128.Idx → EReal) : S2048x5760.Idx → EReal :=
  concatenate S2048x5760 1 [⟨S2048x1024, q⟩, ⟨S2048x256, k⟩, ⟨S2048x256, v⟩, ⟨S2048x3072, u⟩, ⟨S2048x1024, z⟩, ⟨S2048x128, a⟩]
    concatenates_S2048x1024_S2048x256_S2048x256_S2048x3072_S2048x1024_S2048x128_S2048x5760_d1

theorem padded (x : S2048x16.Idx → EReal) (v : S_.Idx → EReal) (hv : ∀ j, v j = 0) (i : S2048x128.Idx) :
    pad S2048x128 ![0, 0] ![0, 112] ![0, 0] x v pads_S2048x16_S2048x128_000_01120 h_S_ i
      = if h : (i 1).val < 16 then x (ix2 (i 0) ⟨(i 1).val, h⟩) else 0 := by
  pointwise [hv]

theorem cat6 (q : S2048x1024.Idx → EReal) (k v : S2048x256.Idx → EReal) (u : S2048x3072.Idx → EReal) (z : S2048x1024.Idx → EReal) (a : S2048x128.Idx → EReal) (i : S2048x5760.Idx) :
    cat q k v u z a i
      = if h : (i 1).val < 1024 then q (ix2 (i 0) ⟨(i 1).val, h⟩)
        else if h : (i 1).val - 1024 < 256 then k (ix2 (i 0) ⟨(i 1).val - 1024, h⟩)
        else if h : (i 1).val - 1024 - 256 < 256 then v (ix2 (i 0) ⟨(i 1).val - 1024 - 256, h⟩)
        else if h : (i 1).val - 1024 - 256 - 256 < 3072 then u (ix2 (i 0) ⟨(i 1).val - 1024 - 256 - 256, h⟩)
        else if h : (i 1).val - 1024 - 256 - 256 - 3072 < 1024 then z (ix2 (i 0) ⟨(i 1).val - 1024 - 256 - 256 - 3072, h⟩)
        else a (ix2 (i 0) ⟨(i 1).val - 1024 - 256 - 256 - 3072 - 1024, by have hn : (i 1).val < 5760 := (i 1).isLt; omega⟩) := by
  unfold cat
  pointwise

theorem cat_apply (q : S2048x1024.Idx → EReal) (k v : S2048x256.Idx → EReal) (u : S2048x3072.Idx → EReal) (z : S2048x1024.Idx → EReal) (a : S2048x16.Idx → EReal) (i : S2048x5760.Idx) :
    cat q k v u z (pad S2048x128 ![0, 0] ![0, 112] ![0, 0] a (sitofp (F := Ideal) .f32 (constantI S_ 32 0#32)) pads_S2048x16_S2048x128_000_01120 h_S_) i
      = pcol q k v u z a (i 0) (i 1) := by
  have hn : (i 1).val < 5760 := (i 1).isLt
  have ga (p p' : Fin 16) (h : p.val = p'.val) : a (ix2 (i 0) p) = a (ix2 (i 0) p') := by rw [Fin.ext h]
  have gz (p p' : Fin 1024) (h : p.val = p'.val) : z (ix2 (i 0) p) = z (ix2 (i 0) p') := by rw [Fin.ext h]
  rw [cat6]
  unfold pcol
  by_cases h1 : (i 1).val < 4608
  · rw [dif_pos h1]
    unfold col
    by_cases c1 : (i 1).val < 1024
    · rw [dif_pos c1, dif_pos c1]
    · by_cases c2 : (i 1).val - 1024 < 256
      · rw [dif_neg c1, dif_pos c2, dif_neg c1, dif_pos c2]
      · by_cases c3 : (i 1).val - 1024 - 256 < 256
        · rw [dif_neg c1, dif_neg c2, dif_pos c3, dif_neg c1, dif_neg c2, dif_pos c3]
        · have c4 : (i 1).val - 1024 - 256 - 256 < 3072 := by omega
          rw [dif_neg c1, dif_neg c2, dif_neg c3, dif_pos c4, dif_neg c1, dif_neg c2, dif_neg c3, dif_pos c4]
  · rw [dif_neg h1, dif_neg (show ¬(i 1).val < 1024 by omega), dif_neg (show ¬(i 1).val - 1024 < 256 by omega),
      dif_neg (show ¬(i 1).val - 1024 - 256 < 256 by omega), dif_neg (show ¬(i 1).val - 1024 - 256 - 256 < 3072 by omega)]
    by_cases h2 : (i 1).val < 5632
    · rw [dif_pos (show (i 1).val - 1024 - 256 - 256 - 3072 < 1024 by omega), dif_pos h2]
      unfold col
      rw [dif_neg (by show ¬(i 1).val + 16 < 1024; omega), dif_neg (by show ¬(i 1).val + 16 - 1024 < 256; omega),
        dif_neg (by show ¬(i 1).val + 16 - 1024 - 256 < 256; omega), dif_neg (by show ¬(i 1).val + 16 - 1024 - 256 - 256 < 3072; omega),
        dif_neg (by show ¬(i 1).val + 16 - 1024 - 256 - 256 - 3072 < 16; omega)]
      exact gz _ _ (by show (i 1).val - 1024 - 256 - 256 - 3072 = (i 1).val + 16 - 1024 - 256 - 256 - 3072 - 16; omega)
    · rw [dif_neg (show ¬(i 1).val - 1024 - 256 - 256 - 3072 < 1024 by omega), dif_neg h2]
      refine (padded _ _ zero _).trans ?_
      by_cases h3 : (i 1).val < 5648
      · rw [dif_pos h3]
        refine (dif_pos (by show (i 1).val - 1024 - 256 - 256 - 3072 - 1024 < 16; omega)).trans ?_
        unfold col
        rw [dif_neg (by show ¬(i 1).val - 1024 < 1024; omega), dif_neg (by show ¬(i 1).val - 1024 - 1024 < 256; omega),
          dif_neg (by show ¬(i 1).val - 1024 - 1024 - 256 < 256; omega), dif_neg (by show ¬(i 1).val - 1024 - 1024 - 256 - 256 < 3072; omega),
          dif_pos (by show (i 1).val - 1024 - 1024 - 256 - 256 - 3072 < 16; omega)]
        exact ga _ _ (by show (i 1).val - 1024 - 256 - 256 - 3072 - 1024 = (i 1).val - 1024 - 1024 - 256 - 256 - 3072; omega)
      · rw [dif_neg h3]
        exact dif_neg (by show ¬(i 1).val - 1024 - 256 - 256 - 3072 - 1024 < 16; omega)

/-- The cotangent that the call is given, at an index. -/
theorem cotangent (c : Dev nD) (i : S2048x5760.Idx) :
    V m c main_v2 i = pcol (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) :=
  (congrFun (rfl : V m c main_v2 = cat (m ((c : Thread nD τ).loc main_arg1)) (m ((c : Thread nD τ).loc main_arg2)) (m ((c : Thread nD τ).loc main_arg3)) (m ((c : Thread nD τ).loc main_arg4)) (m ((c : Thread nD τ).loc main_arg5))
    (pad S2048x128 ![0, 0] ![0, 112] ![0, 0] (m ((c : Thread nD τ).loc main_arg6) : S2048x16.Idx → EReal) (sitofp (F := Ideal) .f32 (constantI S_ 32 0#32)) pads_S2048x16_S2048x128_000_01120 h_S_)) i).trans (cat_apply _ _ _ _ _ _ i)

/-- The cast input is the input. -/
theorem input (c : Dev nD) : V m c main_v3 = (m ((c : Thread nD τ).loc main_arg0) : S2048x2048.Idx → EReal) := rfl

theorem iblk0 (c : Dev nD) (t : Fin cfg0.N) (l : Fin 2048) (y : S1152x1024.Idx) :
    iblk m c 0 t (ix2 l (y 0)) = pcol (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) l (((cfg0.win 2).blk t).view.emb y (0 : Fin 2)) := by
  show V m c main_v2 (((cfg0.win 0).blk t).view.emb (ix2 l (y 0))) = _
  rw [cotangent]
  have h0 : (((cfg0.win 0).blk t).view.emb (ix2 l (y 0)) (0 : Fin 2)) = l := Fin.ext (emb0 t (ix2 l (y 0)) 0)
  have h1 : (((cfg0.win 0).blk t).view.emb (ix2 l (y 0)) (1 : Fin 2)) = (((cfg0.win 2).blk t).view.emb y (0 : Fin 2)) :=
    Fin.ext ((emb0 t (ix2 l (y 0)) 1).trans (emb2 t y 0).symm)
  exact congrArg₂ (pcol _ _ _ _ _ _) h0 h1

theorem iblk1 (c : Dev nD) (t : Fin cfg0.N) (k : Fin 2048) (y : S1152x1024.Idx) :
    iblk m c 1 t (ix2 k (y 1)) = m ((c : Thread nD τ).loc main_arg0) (ix2 k (((cfg0.win 2).blk t).view.emb y (1 : Fin 2))) := by
  show V m c main_v3 (((cfg0.win 1).blk t).view.emb (ix2 k (y 1))) = _
  rw [input]
  congr 1; funext a; apply Fin.ext; rw [emb1]
  match a with
  | ⟨0, _⟩ => rfl
  | ⟨1, _⟩ => exact (emb2 t y 1).symm

/-- The array after the run. -/
theorem final (c : Dev nD) : (dats m 0 c).arrAt 2 cfg0.N = prod (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_cover 2 _ (fun t _ => ?_) (fun i => ?_)
  · rw [Value.flushed2, out_eq]
    funext y
    show k0_pay1 (iblk m c 0 t) (iblk m c 1 t) y = prod _ _ _ _ _ _ _ (((cfg0.win 2).blk t).view.emb y)
    rw [pay_apply]
    unfold prod
    exact Finset.sum_congr rfl fun k _ => congrArg₂ (· * ·) (iblk0 m c t k y) (iblk1 m c t k y)
  · have h0 : (i 0).val < 5760 := (i 0).isLt
    have h1 : (i 1).val < 2048 := (i 1).isLt
    have hN : cfg0.N = 10 := by decide
    let t : Fin cfg0.N := ⟨(i 0).val / 1152 * 2 + (i 1).val / 1024, by omega⟩
    have ht : t.val = (i 0).val / 1152 * 2 + (i 1).val / 1024 := rfl
    refine ⟨t, (idx_facts t).2.2.2, ?_⟩
    let y : S1152x1024.Idx := ix2 ⟨(i 0).val % 1152, by omega⟩ ⟨(i 1).val % 1024, by omega⟩
    have he : ((cfg0.win 2).blk t).view.emb y = i := by
      funext a; apply Fin.ext; rw [emb2]
      match a with
      | ⟨0, _⟩ => show t.val / 2 * 1152 + (i 0).val % 1152 = (i 0).val; omega
      | ⟨1, _⟩ => show t.val % 2 * 1024 + (i 1).val % 1024 = (i 1).val; omega
    exact he ▸ View.emb_mem_set _ y

end Cert.Kernel8Ideal.Val

namespace Cert.Reference8Ideal.Val

open Cert.Reference8Ideal Cert.Reference8Ideal.Gen Idealize.ShloMosaic Idealize.ShloMosaic.TcCoe
open Cert.Kernel8Ideal.Val (col pcol prod)
open scoped BigOperators

theorem zero (j : S_.Idx) : (sitofp (F := Ideal) .f32 (constantI S_ 32 0#32) : S_.Idx → EReal) j = 0 := by
  show ((((0#32 : BitVec 32).toInt : ℤ) : ℝ) : EReal) = 0
  simp

/-- The cotangent's columns in the weights' order. -/
def cat (q : S2048x1024.Idx → EReal) (k v : S2048x256.Idx → EReal) (u : S2048x3072.Idx → EReal) (z : S2048x1024.Idx → EReal) (a : S2048x16.Idx → EReal) : S2048x5648.Idx → EReal :=
  concatenate S2048x5648 1 [⟨S2048x1024, q⟩, ⟨S2048x256, k⟩, ⟨S2048x256, v⟩, ⟨S2048x3072, u⟩, ⟨S2048x16, a⟩, ⟨S2048x1024, z⟩]
    concatenates_S2048x1024_S2048x256_S2048x256_S2048x3072_S2048x16_S2048x1024_S2048x5648_d1

theorem cat_apply (q : S2048x1024.Idx → EReal) (k v : S2048x256.Idx → EReal) (u : S2048x3072.Idx → EReal) (z : S2048x1024.Idx → EReal) (a : S2048x16.Idx → EReal) (r : Fin 2048) (n : Fin 5648) :
    cat q k v u z a (ix2 r n) = col q k v u z a r n := by
  unfold cat col
  pointwise

/-- The gradient of the weights. -/
def grad (G : S2048x5648.Idx → EReal) (x : S2048x2048.Idx → EReal) : S5648x2048.Idx → EReal :=
  transpose S5648x2048 [1, 0] (transpose S2048x5648 [1, 0] (Host.dotGeneral (F := Ideal) (φ₁ := .f32) (φ₂ := .f32)
    dot_S2048x5648_S2048x2048_S5648x2048_0_0_1_1_n_n none G x) transposes_S5648x2048_S2048x5648_1_0) transposes_S2048x5648_S5648x2048_1_0

theorem grad_apply (G : S2048x5648.Idx → EReal) (x : S2048x2048.Idx → EReal) (i : S5648x2048.Idx) :
    grad G x i = ∑ l : Fin 2048, G (ix2 l (i 0)) * x (ix2 l (i 1)) := by
  unfold grad
  pointwise

theorem cat3 (x : S4608x2048.Idx → EReal) (y : S1024x2048.Idx → EReal) (z : S128x2048.Idx → EReal) (i : S5760x2048.Idx) :
    concatenate S5760x2048 0 [⟨S4608x2048, x⟩, ⟨S1024x2048, y⟩, ⟨S128x2048, z⟩] concatenates_S4608x2048_S1024x2048_S128x2048_S5760x2048_d0 i
      = if h : (i 0).val < 4608 then x (ix2 ⟨(i 0).val, h⟩ (i 1))
        else if h' : (i 0).val - 4608 < 1024 then y (ix2 ⟨(i 0).val - 4608, h'⟩ (i 1))
        else z (ix2 ⟨(i 0).val - 4608 - 1024, by have hn : (i 0).val < 5760 := (i 0).isLt; omega⟩ (i 1)) := by
  pointwise

theorem padded (x : S16x2048.Idx → EReal) (v : S_.Idx → EReal) (hv : ∀ j, v j = 0) (i : S128x2048.Idx) :
    pad S128x2048 ![0, 0] ![112, 0] ![0, 0] x v pads_S16x2048_S128x2048_01120_000 h_S_ i
      = if h : (i 0).val < 16 then x (ix2 ⟨(i 0).val, h⟩ (i 1)) else 0 := by
  pointwise [hv]

theorem first (W : S5648x2048.Idx → EReal) (i : S4608x2048.Idx) :
    extractStridedSlice S4608x2048 ![0, 0] W slices_S5648x2048_S4608x2048_0_0 i
      = W (ix2 ⟨(i 0).val, by have hn : (i 0).val < 4608 := (i 0).isLt; omega⟩ (i 1)) := by
  pointwise

theorem second (W : S5648x2048.Idx → EReal) (i : S1024x2048.Idx) :
    extractStridedSlice S1024x2048 ![4624, 0] W slices_S5648x2048_S1024x2048_4624_0 i
      = W (ix2 ⟨4624 + (i 0).val, by have hn : (i 0).val < 1024 := (i 0).isLt; omega⟩ (i 1)) := by
  pointwise

theorem third (W : S5648x2048.Idx → EReal) (i : S16x2048.Idx) :
    extractStridedSlice S16x2048 ![4608, 0] W slices_S5648x2048_S16x2048_4608_0 i
      = W (ix2 ⟨4608 + (i 0).val, by have hn : (i 0).val < 16 := (i 0).isLt; omega⟩ (i 1)) := by
  pointwise

/-- The reference's result. -/
def res (x : S2048x2048.Idx → EReal) (G : S2048x5648.Idx → EReal) : S5760x2048.Idx → EReal :=
  concatenate S5760x2048 0
    [⟨S4608x2048, extractStridedSlice S4608x2048 ![0, 0] (grad G x) slices_S5648x2048_S4608x2048_0_0⟩,
      ⟨S1024x2048, extractStridedSlice S1024x2048 ![4624, 0] (grad G x) slices_S5648x2048_S1024x2048_4624_0⟩,
      ⟨S128x2048, pad S128x2048 ![0, 0] ![112, 0] ![0, 0] (extractStridedSlice S16x2048 ![4608, 0] (grad G x) slices_S5648x2048_S16x2048_4608_0)
        (sitofp (F := Ideal) .f32 (constantI S_ 32 0#32)) pads_S16x2048_S128x2048_01120_000 h_S_⟩]
    concatenates_S4608x2048_S1024x2048_S128x2048_S5760x2048_d0

theorem res_apply (x : S2048x2048.Idx → EReal) (q : S2048x1024.Idx → EReal) (k v : S2048x256.Idx → EReal) (u : S2048x3072.Idx → EReal) (z : S2048x1024.Idx → EReal) (a : S2048x16.Idx → EReal) :
    res x (cat q k v u z a) = prod x q k v u z a := by
  funext i
  have hn : (i 0).val < 5760 := (i 0).isLt
  have go (p p' : Fin 5648) (h : p.val = p'.val) : grad (cat q k v u z a) x (ix2 p (i 1))
      = ∑ l : Fin 2048, col q k v u z a l p' * x (ix2 l (i 1)) := by
    rw [Fin.ext h, grad_apply]
    exact Finset.sum_congr rfl fun l _ => congrArg (fun e : EReal => e * x (ix2 l (i 1))) (cat_apply q k v u z a l p')
  unfold res prod pcol
  rw [cat3]
  by_cases h1 : (i 0).val < 4608
  · simp only [dif_pos h1]
    exact (first _ _).trans (go _ _ rfl)
  · by_cases h2 : (i 0).val < 5632
    · simp only [dif_neg h1, dif_pos h2, dif_pos (show (i 0).val - 4608 < 1024 by omega)]
      exact (second _ _).trans (go _ _ (by show 4624 + ((i 0).val - 4608) = (i 0).val + 16; omega))
    · simp only [dif_neg h1, dif_neg h2, dif_neg (show ¬(i 0).val - 4608 < 1024 by omega)]
      refine (padded _ _ zero _).trans ?_
      by_cases h3 : (i 0).val < 5648
      · simp only [dif_pos h3]
        refine (dif_pos (by show (i 0).val - 4608 - 1024 < 16; omega)).trans ?_
        exact (third _ _).trans (go _ _ (by show 4608 + ((i 0).val - 4608 - 1024) = (i 0).val - 1024; omega))
      · simp only [dif_neg h3, zero_mul, Finset.sum_const_zero]
        exact dif_neg (by show ¬(i 0).val - 4608 - 1024 < 16; omega)

end Cert.Reference8Ideal.Val

namespace Cert.Proof

open Idealize.ShloMosaic Idealize.ShloMosaic.TcCoe Idealize.SL.Sem

/-- The call's array is the reference's. -/
theorem algebraic8 : Cert.algebraic_Kernel8Ideal_Reference8Ideal := by
  intro m ρ m' ρ' _ hargs
  refine ⟨_, Cert.Kernel8Ideal.Value.run_blocks (F := Ideal) m ρ, ?_⟩
  refine (θ_run Cert.Reference8Ideal.defs _ _).mono (fun r h c => ⟨?_, (h c).2⟩) (Cert.Reference8Ideal.Value.run (F := Ideal) m' ρ')
  obtain ⟨e0, e1, e2, e3, e4, e5, e6⟩ := hargs c
  rw [(h c).1, Cert.Kernel8Ideal.Val.final, e0, e1, e2, e3, e4, e5, e6]
  exact Cert.Reference8Ideal.Val.res_apply _ _ _ _ _ _ _

end Cert.Proof

end
-- ==== Proof.OutProj.lean ====
/- The output projection: what the array holds after the run, and the reference's. -/
module

public import proofs.«01_k».proof.Proof.Gen.Kernel9Ideal.Value
public import proofs.«01_k».proof.Proof.Gen.Reference9Ideal.Run
public import Idealize.ShloMosaic.Lib.Pointwise
public import Idealize.ShloMosaic.Lib.Pipeline.Value
public import proofs.«01_k».proof.Defs
public import Idealize.ShloMosaic.Adequacy
public import Idealize.ShloMosaic.Init

@[expose] public section

noncomputable section

namespace Cert.Kernel9Ideal.Val

open Cert.Kernel9Ideal Cert.Kernel9Ideal.Gen Idealize.ShloMosaic Idealize.ShloMosaic.TcCoe
open scoped BigOperators

/-- A row of the mixed values times a column of the weights. -/
def prod (a : S2048x2048.Idx → EReal) (b : S2048x2048.Idx → EReal) : S2048x2048.Idx → EReal :=
  fun i => ∑ k : Fin 2048, a (ix2 (i 0) k) * b (ix2 k (i 1))

/-- One block of the result. -/
theorem pay_apply (x0 : Vec Ideal S1024x2048 .f32) (x1 : Vec Ideal S2048x1024 .bf16) (y : S1024x1024.Idx) :
    k0_pay1 (F := Ideal) x0 x1 y = ∑ k : Fin 2048, x0 (ix2 (y 0) k) * x1 (ix2 k (y 1)) := by
  unfold k0_pay1
  pointwise

/-- The one store leaves the payload of the two blocks. -/
theorem out_eq (x0 : Vec Ideal S1024x2048 .f32) (x1 : Vec Ideal S2048x1024 .bf16) :
    out0_2 (F := Ideal) x0 x1 = k0_pay1 x0 x1 := by
  have hz : (![0, 0] : Fin 2 → Nat) = fun _ => 0 := funext fun a => by fin_cases a <;> rfl
  unfold out0_2
  rw [View.canon_unit_zero hz, View.ld_unit_zero hz, View.ld_unit_zero hz]

/-- Where the blocks of a grid point lie. -/
theorem idx_facts : ∀ t : Fin cfg0.N,
    (win0_0.index t (0 : Fin 2) = t.val / 2 ∧ win0_0.index t (1 : Fin 2) = 0)
    ∧ (win0_1.index t (0 : Fin 2) = 0 ∧ win0_1.index t (1 : Fin 2) = t.val % 2)
    ∧ (win0_2.index t (0 : Fin 2) = t.val / 2 ∧ win0_2.index t (1 : Fin 2) = t.val % 2)
    ∧ (cfg0.win 2).flush t = true :=
  (by decide +kernel : ∀ t : Fin grid0.N, _)

variable (m : (ℓ : Loc nD τ sig) → Buf (Elt Ideal) ℓ)

theorem emb0 (t : Fin cfg0.N) (y : S1024x2048.Idx) : ∀ a : Fin 2,
    (((cfg0.win 0).blk t).view.emb y a).val = ![t.val / 2 * 1024 + (y 0).val, (y 1).val] a := by
  obtain ⟨⟨e0, e1⟩, -⟩ := idx_facts t
  intro a
  match a with
  | ⟨0, _⟩ => show win0_0.index t (0 : Fin 2) * 1024 + 1 * (y 0).val = t.val / 2 * 1024 + (y 0).val; omega
  | ⟨1, _⟩ => show win0_0.index t (1 : Fin 2) * 2048 + 1 * (y 1).val = (y 1).val; omega

theorem emb1 (t : Fin cfg0.N) (y : S2048x1024.Idx) : ∀ a : Fin 2,
    (((cfg0.win 1).blk t).view.emb y a).val = ![(y 0).val, t.val % 2 * 1024 + (y 1).val] a := by
  obtain ⟨-, ⟨e0, e1⟩, -⟩ := idx_facts t
  intro a
  match a with
  | ⟨0, _⟩ => show win0_1.index t (0 : Fin 2) * 2048 + 1 * (y 0).val = (y 0).val; omega
  | ⟨1, _⟩ => show win0_1.index t (1 : Fin 2) * 1024 + 1 * (y 1).val = t.val % 2 * 1024 + (y 1).val; omega

theorem emb2 (t : Fin cfg0.N) (y : S1024x1024.Idx) : ∀ a : Fin 2,
    (((cfg0.win 2).blk t).view.emb y a).val = ![t.val / 2 * 1024 + (y 0).val, t.val % 2 * 1024 + (y 1).val] a := by
  obtain ⟨-, -, ⟨e0, e1⟩, -⟩ := idx_facts t
  intro a
  match a with
  | ⟨0, _⟩ => show win0_2.index t (0 : Fin 2) * 1024 + 1 * (y 0).val = t.val / 2 * 1024 + (y 0).val; omega
  | ⟨1, _⟩ => show win0_2.index t (1 : Fin 2) * 1024 + 1 * (y 1).val = t.val % 2 * 1024 + (y 1).val; omega

/-- The cast weights are the weights. -/
theorem weights (c : Dev nD) : V m c main_v0 = (m ((c : Thread nD τ).loc main_arg1) : S2048x2048.Idx → EReal) := by
  show StableHlo.after hostOps0 (fun b => m (c, b)) main_v0 = _
  rfl

theorem iblk0 (c : Dev nD) (t : Fin cfg0.N) (k : Fin 2048) (y : S1024x1024.Idx) :
    iblk m c 0 t (ix2 (y 0) k) = m ((c : Thread nD τ).loc main_arg0) (ix2 (((cfg0.win 2).blk t).view.emb y (0 : Fin 2)) k) := by
  show V m c main_arg0 (((cfg0.win 0).blk t).view.emb (ix2 (y 0) k)) = _
  rw [V_main_arg0]
  congr 1; funext a; apply Fin.ext; rw [emb0]
  match a with
  | ⟨0, _⟩ => exact (emb2 t y 0).symm
  | ⟨1, _⟩ => rfl

theorem iblk1 (c : Dev nD) (t : Fin cfg0.N) (k : Fin 2048) (y : S1024x1024.Idx) :
    iblk m c 1 t (ix2 k (y 1)) = m ((c : Thread nD τ).loc main_arg1) (ix2 k (((cfg0.win 2).blk t).view.emb y (1 : Fin 2))) := by
  show V m c main_v0 (((cfg0.win 1).blk t).view.emb (ix2 k (y 1))) = _
  rw [weights]
  congr 1; funext a; apply Fin.ext; rw [emb1]
  match a with
  | ⟨0, _⟩ => rfl
  | ⟨1, _⟩ => exact (emb2 t y 1).symm

/-- The array after the run. -/
theorem final (c : Dev nD) : (dats m 0 c).arrAt 2 cfg0.N = prod (m ((c : Thread nD τ).loc main_arg0)) (m ((c : Thread nD τ).loc main_arg1)) := by
  refine (dats m 0 c).arrAt_eq_of_cover 2 _ (fun t _ => ?_) (fun i => ?_)
  · rw [Value.flushed2, out_eq]
    funext y
    show k0_pay1 (iblk m c 0 t) (iblk m c 1 t) y = prod _ _ (((cfg0.win 2).blk t).view.emb y)
    rw [pay_apply]
    unfold prod
    exact Finset.sum_congr rfl fun k _ => congrArg₂ (· * ·) (iblk0 m c t k y) (iblk1 m c t k y)
  · have h0 : (i 0).val < 2048 := (i 0).isLt
    have h1 : (i 1).val < 2048 := (i 1).isLt
    have hN : cfg0.N = 4 := by decide
    let t : Fin cfg0.N := ⟨(i 0).val / 1024 * 2 + (i 1).val / 1024, by omega⟩
    have ht : t.val = (i 0).val / 1024 * 2 + (i 1).val / 1024 := rfl
    refine ⟨t, (idx_facts t).2.2.2, ?_⟩
    let y : S1024x1024.Idx := ix2 ⟨(i 0).val % 1024, by omega⟩ ⟨(i 1).val % 1024, by omega⟩
    have he : ((cfg0.win 2).blk t).view.emb y = i := by
      funext a; apply Fin.ext; rw [emb2]
      match a with
      | ⟨0, _⟩ => show t.val / 2 * 1024 + (i 0).val % 1024 = (i 0).val; omega
      | ⟨1, _⟩ => show t.val % 2 * 1024 + (i 1).val % 1024 = (i 1).val; omega
    exact he ▸ View.emb_mem_set _ y

end Cert.Kernel9Ideal.Val

namespace Cert.Proof

open Idealize.ShloMosaic Idealize.ShloMosaic.TcCoe Idealize.SL.Sem

/-- The call's array is the reference's. -/
theorem algebraic9 : Cert.algebraic_Kernel9Ideal_Reference9Ideal := by
  intro m ρ m' ρ' _ hargs
  refine ⟨_, Cert.Kernel9Ideal.Value.run_blocks (F := Ideal) m ρ, ?_⟩
  refine (θ_run Cert.Reference9Ideal.defs _ _).mono (fun r h c => ⟨?_, (h c).2⟩) (Cert.Reference9Ideal.Value.run (F := Ideal) m' ρ')
  obtain ⟨e0, e1⟩ := hargs c
  rw [(h c).1, Cert.Kernel9Ideal.Val.final, e0, e1]
  funext j
  unfold Cert.Kernel9Ideal.Val.prod
  pointwise

end Cert.Proof

end
-- ==== Proof.DMix.lean ====
/- The gradient of the mixed values: what the array holds after the run, and the reference's. -/
module

public import proofs.«01_k».proof.Proof.Gen.Kernel10Ideal.Value
public import proofs.«01_k».proof.Proof.Gen.Reference10Ideal.Run
public import Idealize.ShloMosaic.Lib.Pointwise
public import Idealize.ShloMosaic.Lib.Pipeline.Value
public import proofs.«01_k».proof.Defs
public import Idealize.ShloMosaic.Adequacy
public import Idealize.ShloMosaic.Init

@[expose] public section

noncomputable section

namespace Cert.Kernel10Ideal.Val

open Cert.Kernel10Ideal Cert.Kernel10Ideal.Gen Idealize.ShloMosaic Idealize.ShloMosaic.TcCoe
open scoped BigOperators

/-- A row of the cotangent times a row of the weights. -/
def prod (a : S2048x2048.Idx → EReal) (b : S2048x2048.Idx → EReal) : S2048x2048.Idx → EReal :=
  fun i => ∑ k : Fin 2048, a (ix2 (i 0) k) * b (ix2 (i 1) k)

/-- One block of the result. -/
theorem pay_apply (x0 : Vec Ideal S1024x2048 .f32) (x1 : Vec Ideal S1024x2048 .bf16) (y : S1024x1024.Idx) :
    k0_pay1 (F := Ideal) x0 x1 y = ∑ k : Fin 2048, x0 (ix2 (y 0) k) * x1 (ix2 (y 1) k) := by
  unfold k0_pay1
  pointwise

/-- The one store leaves the payload of the two blocks. -/
theorem out_eq (c : Dev nD) (i : grid0.Coords) (arg3 : Memref sig .tc .vmem S1024x2048 .f32) (harg3 : arg3.IsWhole)
    (arg4 : Memref sig .tc .vmem S1024x2048 .bf16) (harg4 : arg4.IsWhole) (arg6 : Memref sig .tc .vmem S1024x1024 .f32)
    (harg6 : arg6.IsWhole) (x0 : Vec Ideal S1024x2048 .f32) (x1 : Vec Ideal S1024x2048 .bf16) :
    out0_A_2 (F := Ideal) c i arg3 harg3 arg4 harg4 arg6 harg6 x0 x1 = k0_pay1 x0 x1 := by
  have hz : (![0, 0] : Fin 2 → Nat) = fun _ => 0 := funext fun a => by fin_cases a <;> rfl
  unfold out0_A_2
  rw [View.read_writes_eq_canon _ _ _ (cover0_A_2 c i arg3 harg3 arg4 harg4 arg6 harg6 x0 x1)]
  unfold kernelRun0_A
  dsimp only
  rw [View.canon_unit_zero hz]
  simp only [View.readAt_eq_ld, harg3.read_unread, harg4.read_unread, View.ld_unit_zero (S := S1024x2048) hz, View.ld_unit_zero (S := S1024x2048) hz]

/-- Where the blocks of a grid point lie. -/
theorem idx_facts : ∀ t : Fin cfg0.N,
    (win0_0.index t (0 : Fin 2) = t.val / 2 ∧ win0_0.index t (1 : Fin 2) = 0)
    ∧ (win0_1.index t (0 : Fin 2) = t.val % 2 ∧ win0_1.index t (1 : Fin 2) = 0)
    ∧ (win0_2.index t (0 : Fin 2) = t.val / 2 ∧ win0_2.index t (1 : Fin 2) = t.val % 2)
    ∧ (cfg0.win 2).flush t = true :=
  (by decide +kernel : ∀ t : Fin grid0.N, _)

variable (m : (ℓ : Loc nD τ sig) → Buf (Elt Ideal) ℓ)

theorem emb0 (t : Fin cfg0.N) (y : S1024x2048.Idx) : ∀ a : Fin 2,
    (((cfg0.win 0).blk t).view.emb y a).val = ![t.val / 2 * 1024 + (y 0).val, (y 1).val] a := by
  obtain ⟨⟨e0, e1⟩, -⟩ := idx_facts t
  intro a
  match a with
  | ⟨0, _⟩ => show win0_0.index t (0 : Fin 2) * 1024 + 1 * (y 0).val = t.val / 2 * 1024 + (y 0).val; omega
  | ⟨1, _⟩ => show win0_0.index t (1 : Fin 2) * 2048 + 1 * (y 1).val = (y 1).val; omega

theorem emb1 (t : Fin cfg0.N) (y : S1024x2048.Idx) : ∀ a : Fin 2,
    (((cfg0.win 1).blk t).view.emb y a).val = ![t.val % 2 * 1024 + (y 0).val, (y 1).val] a := by
  obtain ⟨-, ⟨e0, e1⟩, -⟩ := idx_facts t
  intro a
  match a with
  | ⟨0, _⟩ => show win0_1.index t (0 : Fin 2) * 1024 + 1 * (y 0).val = t.val % 2 * 1024 + (y 0).val; omega
  | ⟨1, _⟩ => show win0_1.index t (1 : Fin 2) * 2048 + 1 * (y 1).val = (y 1).val; omega

theorem emb2 (t : Fin cfg0.N) (y : S1024x1024.Idx) : ∀ a : Fin 2,
    (((cfg0.win 2).blk t).view.emb y a).val = ![t.val / 2 * 1024 + (y 0).val, t.val % 2 * 1024 + (y 1).val] a := by
  obtain ⟨-, -, ⟨e0, e1⟩, -⟩ := idx_facts t
  intro a
  match a with
  | ⟨0, _⟩ => show win0_2.index t (0 : Fin 2) * 1024 + 1 * (y 0).val = t.val / 2 * 1024 + (y 0).val; omega
  | ⟨1, _⟩ => show win0_2.index t (1 : Fin 2) * 1024 + 1 * (y 1).val = t.val % 2 * 1024 + (y 1).val; omega

/-- The cast weights are the weights. -/
theorem weights (c : Dev nD) : V m c main_v0 = (m ((c : Thread nD τ).loc main_arg1) : S2048x2048.Idx → EReal) := by
  show StableHlo.after hostOps0 (fun b => m (c, b)) main_v0 = _
  rfl

theorem iblk0 (c : Dev nD) (t : Fin cfg0.N) (k : Fin 2048) (y : S1024x1024.Idx) :
    iblk m c 0 t (ix2 (y 0) k) = m ((c : Thread nD τ).loc main_arg0) (ix2 (((cfg0.win 2).blk t).view.emb y (0 : Fin 2)) k) := by
  show V m c main_arg0 (((cfg0.win 0).blk t).view.emb (ix2 (y 0) k)) = _
  rw [V_main_arg0]
  congr 1; funext a; apply Fin.ext; rw [emb0]
  match a with
  | ⟨0, _⟩ => exact (emb2 t y 0).symm
  | ⟨1, _⟩ => rfl

theorem iblk1 (c : Dev nD) (t : Fin cfg0.N) (k : Fin 2048) (y : S1024x1024.Idx) :
    iblk m c 1 t (ix2 (y 1) k) = m ((c : Thread nD τ).loc main_arg1) (ix2 (((cfg0.win 2).blk t).view.emb y (1 : Fin 2)) k) := by
  show V m c main_v0 (((cfg0.win 1).blk t).view.emb (ix2 (y 1) k)) = _
  rw [weights]
  congr 1; funext a; apply Fin.ext; rw [emb1]
  match a with
  | ⟨0, _⟩ => exact (emb2 t y 1).symm
  | ⟨1, _⟩ => rfl

/-- The array after the run. -/
theorem final (c : Dev nD) : (dats m 0 c).arrAt 2 cfg0.N = prod (m ((c : Thread nD τ).loc main_arg0)) (m ((c : Thread nD τ).loc main_arg1)) := by
  refine (dats m 0 c).arrAt_eq_of_cover 2 _ (fun t _ => ?_) (fun i => ?_)
  · rw [Value.flushed2_A, out_eq]
    funext y
    show k0_pay1 (iblk m c 0 t) (iblk m c 1 t) y = prod _ _ (((cfg0.win 2).blk t).view.emb y)
    rw [pay_apply]
    unfold prod
    exact Finset.sum_congr rfl fun k _ => congrArg₂ (· * ·) (iblk0 m c t k y) (iblk1 m c t k y)
  · have h0 : (i 0).val < 2048 := (i 0).isLt
    have h1 : (i 1).val < 2048 := (i 1).isLt
    have hN : cfg0.N = 4 := by decide
    let t : Fin cfg0.N := ⟨(i 0).val / 1024 * 2 + (i 1).val / 1024, by omega⟩
    have ht : t.val = (i 0).val / 1024 * 2 + (i 1).val / 1024 := rfl
    refine ⟨t, (idx_facts t).2.2.2, ?_⟩
    let y : S1024x1024.Idx := ix2 ⟨(i 0).val % 1024, by omega⟩ ⟨(i 1).val % 1024, by omega⟩
    have he : ((cfg0.win 2).blk t).view.emb y = i := by
      funext a; apply Fin.ext; rw [emb2]
      match a with
      | ⟨0, _⟩ => show t.val / 2 * 1024 + (i 0).val % 1024 = (i 0).val; omega
      | ⟨1, _⟩ => show t.val % 2 * 1024 + (i 1).val % 1024 = (i 1).val; omega
    exact he ▸ View.emb_mem_set _ y

end Cert.Kernel10Ideal.Val

namespace Cert.Proof

open Idealize.ShloMosaic Idealize.ShloMosaic.TcCoe Idealize.SL.Sem

/-- The call's array is the reference's. -/
theorem algebraic10 : Cert.algebraic_Kernel10Ideal_Reference10Ideal := by
  intro m ρ m' ρ' _ hargs
  refine ⟨_, Cert.Kernel10Ideal.Value.run_blocks (F := Ideal) m ρ, ?_⟩
  refine (θ_run Cert.Reference10Ideal.defs _ _).mono (fun r h c => ⟨?_, (h c).2⟩) (Cert.Reference10Ideal.Value.run (F := Ideal) m' ρ')
  obtain ⟨e0, e1, -⟩ := hargs c
  rw [(h c).1, Cert.Kernel10Ideal.Val.final, e0, e1]
  funext j
  unfold Cert.Kernel10Ideal.Val.prod
  pointwise

end Cert.Proof

end
-- ==== Proof.DwO.lean ====
/- The gradient of the output projection's weights: what the array holds after the run, and the reference's. -/
module

public import proofs.«01_k».proof.Proof.Gen.Kernel11Ideal.Value
public import proofs.«01_k».proof.Proof.Gen.Reference11Ideal.Run
public import Idealize.ShloMosaic.Lib.Pointwise
public import Idealize.ShloMosaic.Lib.Pipeline.Value
public import proofs.«01_k».proof.Defs
public import Idealize.ShloMosaic.Adequacy
public import Idealize.ShloMosaic.Init

@[expose] public section

noncomputable section

namespace Cert.Kernel11Ideal.Val

open Cert.Kernel11Ideal Cert.Kernel11Ideal.Gen Idealize.ShloMosaic Idealize.ShloMosaic.TcCoe
open scoped BigOperators

/-- A column of the mixed values times a column of the cotangent. -/
def prod (a : S2048x2048.Idx → EReal) (b : S2048x2048.Idx → EReal) : S2048x2048.Idx → EReal :=
  fun i => ∑ k : Fin 2048, a (ix2 k (i 0)) * b (ix2 k (i 1))

/-- One block of the result. -/
theorem pay_apply (x0 : Vec Ideal S2048x1024 .f32) (x1 : Vec Ideal S2048x1024 .f32) (y : S1024x1024.Idx) :
    k0_pay1 (F := Ideal) x0 x1 y = ∑ k : Fin 2048, x0 (ix2 k (y 0)) * x1 (ix2 k (y 1)) := by
  unfold k0_pay1
  pointwise

/-- The one store leaves the payload of the two blocks. -/
theorem out_eq (x0 : Vec Ideal S2048x1024 .f32) (x1 : Vec Ideal S2048x1024 .f32) :
    out0_2 (F := Ideal) x0 x1 = k0_pay1 x0 x1 := by
  have hz : (![0, 0] : Fin 2 → Nat) = fun _ => 0 := funext fun a => by fin_cases a <;> rfl
  unfold out0_2
  rw [View.canon_unit_zero hz, View.ld_unit_zero hz, View.ld_unit_zero hz]

/-- Where the blocks of a grid point lie. -/
theorem idx_facts : ∀ t : Fin cfg0.N,
    (win0_0.index t (0 : Fin 2) = 0 ∧ win0_0.index t (1 : Fin 2) = t.val / 2)
    ∧ (win0_1.index t (0 : Fin 2) = 0 ∧ win0_1.index t (1 : Fin 2) = t.val % 2)
    ∧ (win0_2.index t (0 : Fin 2) = t.val / 2 ∧ win0_2.index t (1 : Fin 2) = t.val % 2)
    ∧ (cfg0.win 2).flush t = true :=
  (by decide +kernel : ∀ t : Fin grid0.N, _)

variable (m : (ℓ : Loc nD τ sig) → Buf (Elt Ideal) ℓ)

theorem emb0 (t : Fin cfg0.N) (y : S2048x1024.Idx) : ∀ a : Fin 2,
    (((cfg0.win 0).blk t).view.emb y a).val = ![(y 0).val, t.val / 2 * 1024 + (y 1).val] a := by
  obtain ⟨⟨e0, e1⟩, -⟩ := idx_facts t
  intro a
  match a with
  | ⟨0, _⟩ => show win0_0.index t (0 : Fin 2) * 2048 + 1 * (y 0).val = (y 0).val; omega
  | ⟨1, _⟩ => show win0_0.index t (1 : Fin 2) * 1024 + 1 * (y 1).val = t.val / 2 * 1024 + (y 1).val; omega

theorem emb1 (t : Fin cfg0.N) (y : S2048x1024.Idx) : ∀ a : Fin 2,
    (((cfg0.win 1).blk t).view.emb y a).val = ![(y 0).val, t.val % 2 * 1024 + (y 1).val] a := by
  obtain ⟨-, ⟨e0, e1⟩, -⟩ := idx_facts t
  intro a
  match a with
  | ⟨0, _⟩ => show win0_1.index t (0 : Fin 2) * 2048 + 1 * (y 0).val = (y 0).val; omega
  | ⟨1, _⟩ => show win0_1.index t (1 : Fin 2) * 1024 + 1 * (y 1).val = t.val % 2 * 1024 + (y 1).val; omega

theorem emb2 (t : Fin cfg0.N) (y : S1024x1024.Idx) : ∀ a : Fin 2,
    (((cfg0.win 2).blk t).view.emb y a).val = ![t.val / 2 * 1024 + (y 0).val, t.val % 2 * 1024 + (y 1).val] a := by
  obtain ⟨-, -, ⟨e0, e1⟩, -⟩ := idx_facts t
  intro a
  match a with
  | ⟨0, _⟩ => show win0_2.index t (0 : Fin 2) * 1024 + 1 * (y 0).val = t.val / 2 * 1024 + (y 0).val; omega
  | ⟨1, _⟩ => show win0_2.index t (1 : Fin 2) * 1024 + 1 * (y 1).val = t.val % 2 * 1024 + (y 1).val; omega

theorem iblk0 (c : Dev nD) (t : Fin cfg0.N) (k : Fin 2048) (y : S1024x1024.Idx) :
    iblk m c 0 t (ix2 k (y 0)) = m ((c : Thread nD τ).loc main_arg0) (ix2 k (((cfg0.win 2).blk t).view.emb y (0 : Fin 2))) := by
  show V m c main_arg0 (((cfg0.win 0).blk t).view.emb (ix2 k (y 0))) = _
  rw [V_main_arg0]
  congr 1; funext a; apply Fin.ext; rw [emb0]
  match a with
  | ⟨0, _⟩ => rfl
  | ⟨1, _⟩ => exact (emb2 t y 0).symm

theorem iblk1 (c : Dev nD) (t : Fin cfg0.N) (k : Fin 2048) (y : S1024x1024.Idx) :
    iblk m c 1 t (ix2 k (y 1)) = m ((c : Thread nD τ).loc main_arg1) (ix2 k (((cfg0.win 2).blk t).view.emb y (1 : Fin 2))) := by
  show V m c main_arg1 (((cfg0.win 1).blk t).view.emb (ix2 k (y 1))) = _
  rw [V_main_arg1]
  congr 1; funext a; apply Fin.ext; rw [emb1]
  match a with
  | ⟨0, _⟩ => rfl
  | ⟨1, _⟩ => exact (emb2 t y 1).symm

/-- The array after the run. -/
theorem final (c : Dev nD) : (dats m 0 c).arrAt 2 cfg0.N = prod (m ((c : Thread nD τ).loc main_arg0)) (m ((c : Thread nD τ).loc main_arg1)) := by
  refine (dats m 0 c).arrAt_eq_of_cover 2 _ (fun t _ => ?_) (fun i => ?_)
  · rw [Value.flushed2, out_eq]
    funext y
    show k0_pay1 (iblk m c 0 t) (iblk m c 1 t) y = prod _ _ (((cfg0.win 2).blk t).view.emb y)
    rw [pay_apply]
    unfold prod
    exact Finset.sum_congr rfl fun k _ => congrArg₂ (· * ·) (iblk0 m c t k y) (iblk1 m c t k y)
  · have h0 : (i 0).val < 2048 := (i 0).isLt
    have h1 : (i 1).val < 2048 := (i 1).isLt
    have hN : cfg0.N = 4 := by decide
    let t : Fin cfg0.N := ⟨(i 0).val / 1024 * 2 + (i 1).val / 1024, by omega⟩
    have ht : t.val = (i 0).val / 1024 * 2 + (i 1).val / 1024 := rfl
    refine ⟨t, (idx_facts t).2.2.2, ?_⟩
    let y : S1024x1024.Idx := ix2 ⟨(i 0).val % 1024, by omega⟩ ⟨(i 1).val % 1024, by omega⟩
    have he : ((cfg0.win 2).blk t).view.emb y = i := by
      funext a; apply Fin.ext; rw [emb2]
      match a with
      | ⟨0, _⟩ => show t.val / 2 * 1024 + (i 0).val % 1024 = (i 0).val; omega
      | ⟨1, _⟩ => show t.val % 2 * 1024 + (i 1).val % 1024 = (i 1).val; omega
    exact he ▸ View.emb_mem_set _ y

end Cert.Kernel11Ideal.Val

namespace Cert.Proof

open Idealize.ShloMosaic Idealize.ShloMosaic.TcCoe Idealize.SL.Sem

/-- The call's array is the reference's. -/
theorem algebraic11 : Cert.algebraic_Kernel11Ideal_Reference11Ideal := by
  intro m ρ m' ρ' _ hargs
  refine ⟨_, Cert.Kernel11Ideal.Value.run_blocks (F := Ideal) m ρ, ?_⟩
  refine (θ_run Cert.Reference11Ideal.defs _ _).mono (fun r h c => ⟨?_, (h c).2⟩) (Cert.Reference11Ideal.Value.run (F := Ideal) m' ρ')
  obtain ⟨e0, e1⟩ := hargs c
  rw [(h c).1, Cert.Kernel11Ideal.Val.final, e0, e1]
  funext j
  unfold Cert.Kernel11Ideal.Val.prod
  pointwise
  refine Finset.sum_congr rfl fun k _ => ?_
  exact mul_comm _ _

end Cert.Proof

end
-- ==== Proof.MlpUp.lean ====
/- The channel mixer's first product: what the array holds after the run, and the reference's. -/
module

public import proofs.«01_k».proof.Proof.Gen.Kernel12Ideal.Value
public import proofs.«01_k».proof.Proof.Gen.Reference12Ideal.Run
public import Idealize.ShloMosaic.Lib.Pointwise
public import Idealize.ShloMosaic.Lib.Pipeline.Value
public import proofs.«01_k».proof.Defs
public import Idealize.ShloMosaic.Adequacy
public import Idealize.ShloMosaic.Init

@[expose] public section

noncomputable section

namespace Cert.Kernel12Ideal.Val

open Cert.Kernel12Ideal Cert.Kernel12Ideal.Gen Idealize.ShloMosaic Idealize.ShloMosaic.TcCoe
open scoped BigOperators

/-- A row of the input times a column of the weights. -/
def prod (a : S2048x2048.Idx → EReal) (b : S2048x8192.Idx → EReal) : S2048x8192.Idx → EReal :=
  fun i => ∑ k : Fin 2048, a (ix2 (i 0) k) * b (ix2 k (i 1))

/-- One block of the result. -/
theorem pay_apply (x0 : Vec Ideal S1024x2048 .f32) (x1 : Vec Ideal S1x2048x1024 .bf16) (y : S1024x1024.Idx) :
    k0_pay1 (F := Ideal) x0 x1 y = ∑ k : Fin 2048, x0 (ix2 (y 0) k) * x1 (ix3 0 k (y 1)) := by
  unfold k0_pay1
  pointwise

/-- The one store leaves the payload of the two blocks. -/
theorem out_eq (c : Dev nD) (i : grid0.Coords) (arg3 : Memref sig .tc .vmem S1024x2048 .f32) (harg3 : arg3.IsWhole)
    (arg4 : Memref sig .tc .vmem S1x2048x1024 .bf16) (harg4 : arg4.IsWhole) (arg6 : Memref sig .tc .vmem S1024x1024 .bf16)
    (harg6 : arg6.IsWhole) (x0 : Vec Ideal S1024x2048 .f32) (x1 : Vec Ideal S1x2048x1024 .bf16) :
    out0_A_2 (F := Ideal) c i arg3 harg3 arg4 harg4 arg6 harg6 x0 x1 = k0_pay1 x0 x1 := by
  have hz : (![0, 0] : Fin 2 → Nat) = fun _ => 0 := funext fun a => by fin_cases a <;> rfl
  have hz3 : (![0, 0, 0] : Fin 3 → Nat) = fun _ => 0 := funext fun a => by fin_cases a <;> rfl
  unfold out0_A_2
  rw [View.read_writes_eq_canon _ _ _ (cover0_A_2 c i arg3 harg3 arg4 harg4 arg6 harg6 x0 x1)]
  unfold kernelRun0_A
  dsimp only
  rw [View.canon_unit_zero hz]
  simp only [View.readAt_eq_ld, harg3.read_unread, harg4.read_unread, View.ld_unit_zero (S := S1024x2048) hz, View.ld_unit_zero (S := S1x2048x1024) hz3]

/-- Where the blocks of a grid point lie. -/
theorem idx_facts : ∀ t : Fin cfg0.N,
    (win0_0.index t (0 : Fin 2) = t.val / 8 ∧ win0_0.index t (1 : Fin 2) = 0)
    ∧ (win0_1.index t (0 : Fin 3) = t.val % 8 ∧ win0_1.index t (1 : Fin 3) = 0 ∧ win0_1.index t (2 : Fin 3) = 0)
    ∧ (win0_2.index t (0 : Fin 2) = t.val / 8 ∧ win0_2.index t (1 : Fin 2) = t.val % 8)
    ∧ (cfg0.win 2).flush t = true :=
  (by decide +kernel : ∀ t : Fin grid0.N, _)

variable (m : (ℓ : Loc nD τ sig) → Buf (Elt Ideal) ℓ)

theorem emb0 (t : Fin cfg0.N) (y : S1024x2048.Idx) : ∀ a : Fin 2,
    (((cfg0.win 0).blk t).view.emb y a).val = ![t.val / 8 * 1024 + (y 0).val, (y 1).val] a := by
  obtain ⟨⟨e0, e1⟩, -⟩ := idx_facts t
  intro a
  match a with
  | ⟨0, _⟩ => show win0_0.index t (0 : Fin 2) * 1024 + 1 * (y 0).val = t.val / 8 * 1024 + (y 0).val; omega
  | ⟨1, _⟩ => show win0_0.index t (1 : Fin 2) * 2048 + 1 * (y 1).val = (y 1).val; omega

theorem emb1 (t : Fin cfg0.N) (y : S1x2048x1024.Idx) : ∀ a : Fin 3,
    (((cfg0.win 1).blk t).view.emb y a).val = ![t.val % 8 + (y 0).val, (y 1).val, (y 2).val] a := by
  obtain ⟨-, ⟨e0, e1, e2⟩, -⟩ := idx_facts t
  intro a
  match a with
  | ⟨0, _⟩ => show win0_1.index t (0 : Fin 3) * 1 + 1 * (y 0).val = t.val % 8 + (y 0).val; omega
  | ⟨1, _⟩ => show win0_1.index t (1 : Fin 3) * 2048 + 1 * (y 1).val = (y 1).val; omega
  | ⟨2, _⟩ => show win0_1.index t (2 : Fin 3) * 1024 + 1 * (y 2).val = (y 2).val; omega

theorem emb2 (t : Fin cfg0.N) (y : S1024x1024.Idx) : ∀ a : Fin 2,
    (((cfg0.win 2).blk t).view.emb y a).val = ![t.val / 8 * 1024 + (y 0).val, t.val % 8 * 1024 + (y 1).val] a := by
  obtain ⟨-, -, ⟨e0, e1⟩, -⟩ := idx_facts t
  intro a
  match a with
  | ⟨0, _⟩ => show win0_2.index t (0 : Fin 2) * 1024 + 1 * (y 0).val = t.val / 8 * 1024 + (y 0).val; omega
  | ⟨1, _⟩ => show win0_2.index t (1 : Fin 2) * 1024 + 1 * (y 1).val = t.val % 8 * 1024 + (y 1).val; omega

/-- The grouped weights at an index: eight groups of 1024 columns. -/
theorem weights (c : Dev nD) (i : S8x2048x1024.Idx) (n : Fin 8192) (hn : n.val = (i 0).val * 1024 + (i 2).val) :
    V m c main_v2 i = (m ((c : Thread nD τ).loc main_arg1) : S2048x8192.Idx → EReal) (ix2 (i 1) n) := by
  show StableHlo.after hostOps0 (fun b => m (c, b)) main_v2 i = _
  have e : StableHlo.after hostOps0 (fun b => m (c, b)) main_v2
      = truncf (F := Ideal) (φ := .f32) .bf16 (transpose S8x2048x1024 [1, 0, 2] (shapeCast S2048x8x1024 (m ((c : Thread nD τ).loc main_arg1) : S2048x8192.Idx → EReal) shapeCasts_S2048x8192_S2048x8x1024) transposes_S2048x8x1024_S8x2048x1024_1_0_2) bitsLt_bf16_f32 := rfl
  rw [e]
  pointwise
  congr 1; funext a; apply Fin.ext
  match a with
  | ⟨0, _⟩ => rfl
  | ⟨1, _⟩ => exact hn.symm

theorem iblk0 (c : Dev nD) (t : Fin cfg0.N) (k : Fin 2048) (y : S1024x1024.Idx) :
    iblk m c 0 t (ix2 (y 0) k) = m ((c : Thread nD τ).loc main_arg0) (ix2 (((cfg0.win 2).blk t).view.emb y (0 : Fin 2)) k) := by
  show V m c main_arg0 (((cfg0.win 0).blk t).view.emb (ix2 (y 0) k)) = _
  rw [V_main_arg0]
  congr 1; funext a; apply Fin.ext; rw [emb0]
  match a with
  | ⟨0, _⟩ => exact (emb2 t y 0).symm
  | ⟨1, _⟩ => rfl

theorem group (t : Fin cfg0.N) (k : Fin 2048) (l : Fin 1024) : ∀ a : Fin 3,
    (((cfg0.win 1).blk t).view.emb (ix3 0 k l) a).val = ![t.val % 8, k.val, l.val] a := by
  intro a
  rw [emb1]
  match a with
  | ⟨0, _⟩ => rfl
  | ⟨1, _⟩ => rfl
  | ⟨2, _⟩ => rfl

theorem iblk1 (c : Dev nD) (t : Fin cfg0.N) (k : Fin 2048) (y : S1024x1024.Idx) :
    iblk m c 1 t (ix3 0 k (y 1)) = m ((c : Thread nD τ).loc main_arg1) (ix2 k (((cfg0.win 2).blk t).view.emb y (1 : Fin 2))) := by
  show V m c main_v2 (((cfg0.win 1).blk t).view.emb (ix3 0 k (y 1))) = _
  have hg := group t k (y 1)
  have e3 := emb2 t y 1
  generalize ((cfg0.win 1).blk t).view.emb (ix3 0 k (y 1)) = z at hg ⊢
  generalize ((cfg0.win 2).blk t).view.emb y = w at e3 ⊢
  have e0 : (z (0 : Fin 3)).val = t.val % 8 := hg 0
  have e1 : (z (1 : Fin 3)).val = k.val := hg 1
  have e2 : (z (2 : Fin 3)).val = (y 1).val := hg 2
  have e3' : (w (1 : Fin 2)).val = t.val % 8 * 1024 + (y 1).val := e3
  rw [weights m c z (w 1) (by omega)]
  exact congrArg (fun q => m ((c : Thread nD τ).loc main_arg1) (ix2 q (w 1))) (Fin.ext e1)

/-- The array after the run. -/
theorem final (c : Dev nD) : (dats m 0 c).arrAt 2 cfg0.N = prod (m ((c : Thread nD τ).loc main_arg0)) (m ((c : Thread nD τ).loc main_arg1)) := by
  refine (dats m 0 c).arrAt_eq_of_cover 2 _ (fun t _ => ?_) (fun i => ?_)
  · rw [Value.flushed2_A, out_eq]
    funext y
    show k0_pay1 (iblk m c 0 t) (iblk m c 1 t) y = prod _ _ (((cfg0.win 2).blk t).view.emb y)
    rw [pay_apply]
    unfold prod
    exact Finset.sum_congr rfl fun k _ => congrArg₂ (· * ·) (iblk0 m c t k y) (iblk1 m c t k y)
  · have h0 : (i 0).val < 2048 := (i 0).isLt
    have h1 : (i 1).val < 8192 := (i 1).isLt
    have hN : cfg0.N = 16 := by decide
    let t : Fin cfg0.N := ⟨(i 0).val / 1024 * 8 + (i 1).val / 1024, by omega⟩
    have ht : t.val = (i 0).val / 1024 * 8 + (i 1).val / 1024 := rfl
    refine ⟨t, (idx_facts t).2.2.2, ?_⟩
    let y : S1024x1024.Idx := ix2 ⟨(i 0).val % 1024, by omega⟩ ⟨(i 1).val % 1024, by omega⟩
    have he : ((cfg0.win 2).blk t).view.emb y = i := by
      funext a; apply Fin.ext; rw [emb2]
      match a with
      | ⟨0, _⟩ => show t.val / 8 * 1024 + (i 0).val % 1024 = (i 0).val; omega
      | ⟨1, _⟩ => show t.val % 8 * 1024 + (i 1).val % 1024 = (i 1).val; omega
    exact he ▸ View.emb_mem_set _ y

end Cert.Kernel12Ideal.Val

namespace Cert.Proof

open Idealize.ShloMosaic Idealize.ShloMosaic.TcCoe Idealize.SL.Sem

/-- The call's array is the reference's. -/
theorem algebraic12 : Cert.algebraic_Kernel12Ideal_Reference12Ideal := by
  intro m ρ m' ρ' _ hargs
  refine ⟨_, Cert.Kernel12Ideal.Value.run_blocks (F := Ideal) m ρ, ?_⟩
  refine (θ_run Cert.Reference12Ideal.defs _ _).mono (fun r h c => ⟨?_, (h c).2⟩) (Cert.Reference12Ideal.Value.run (F := Ideal) m' ρ')
  obtain ⟨e0, e1, -⟩ := hargs c
  rw [(h c).1, Cert.Kernel12Ideal.Val.final, e0, e1]
  funext j
  unfold Cert.Kernel12Ideal.Val.prod
  pointwise

end Cert.Proof

end
-- ==== Proof.MlpDown.lean ====
/- The second product of the channel mixer, added up over two halves: what the array holds after the run, and the reference's. -/
module

public import proofs.«01_k».proof.Proof.Gen.Kernel13Ideal.Value
public import proofs.«01_k».proof.Proof.Gen.Reference13Ideal.Run
public import Idealize.ShloMosaic.Lib.Pointwise
public import Idealize.ShloMosaic.Lib.Pipeline.Value
public import proofs.«01_k».proof.Defs
public import Idealize.ShloMosaic.Adequacy
public import Idealize.ShloMosaic.Init

@[expose] public section

set_option maxRecDepth 16384

noncomputable section

namespace Cert.Kernel13Ideal.Val

open Cert.Kernel13Ideal Cert.Kernel13Ideal.Gen Idealize.ShloMosaic Idealize.ShloMosaic.TcCoe
open scoped BigOperators

/-- One term: the squared ReLU of an entry times an entry of the weights. -/
def term (a : S2048x8192.Idx → EReal) (b : S8192x2048.Idx → EReal) (r l : Fin 2048) (q : Fin 8192) : EReal :=
  (max (a (ix2 r q)) 0 * max (a (ix2 r q)) 0) * b (ix2 q l)

/-- The squared ReLU of a row times a column of the weights. -/
def prod (a : S2048x8192.Idx → EReal) (b : S8192x2048.Idx → EReal) : S2048x2048.Idx → EReal :=
  fun i => ∑ k : Fin 8192, term a b (i 0) (i 1) k

/-- A sum over 8192 terms is that of its two halves. -/
theorem halves (f : Fin 8192 → EReal) :
    ∑ k, f k = (∑ k : Fin 4096, f ⟨k.val, by omega⟩) + ∑ k : Fin 4096, f ⟨4096 + k.val, by omega⟩ :=
  Fin.sum_univ_add (a := 4096) (b := 4096) f

/-- One block's part of the result. -/
theorem pay_apply (x0 : Vec Ideal S1024x4096 .bf16) (x1 : Vec Ideal S4096x1024 .bf16) (y : S1024x1024.Idx) :
    k0_pay1 (F := Ideal) x0 x1 y
      = ∑ k : Fin 4096, (max (x0 (ix2 (y 0) k)) 0 * max (x0 (ix2 (y 0) k)) 0) * x1 (ix2 k (y 1)) := by
  unfold k0_pay1
  pointwise

theorem hz : (![0, 0] : Fin 2 → Nat) = fun _ => 0 := funext fun a => by fin_cases a <;> rfl

/-- At the first half the scratch memory is left with the part. -/
theorem sout_A (c : Dev nD) (i : grid0.Coords) (arg3 : Memref sig .tc .vmem S1024x4096 .bf16) (harg3 : arg3.IsWhole)
    (arg4 : Memref sig .tc .vmem S4096x1024 .bf16) (harg4 : arg4.IsWhole) (arg5 : Memref sig .tc .vmem S1024x1024 .f32)
    (harg5 : arg5.IsWhole) (arg6 : Memref sig .tc .vmem S1024x1024 .f32) (harg6 : arg6.IsWhole)
    (hc0 : cond0_0 i) (hc1 : ¬cond0_1 i) (hc2 : ¬cond0_2 i)
    (x0 : Vec Ideal S1024x4096 .bf16) (x1 : Vec Ideal S4096x1024 .bf16) :
    sout0_A_0 (F := Ideal) c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz]
  unfold k0_pay2
  simp only [View.readAt_eq_ld, harg3.read_unread, harg4.read_unread, View.ld_unit_zero (S := S1024x4096) hz,
    View.ld_unit_zero (S := S4096x1024) hz, shapeCast_self]

/-- At the second half the output is what the scratch memory held, plus the part. -/
theorem out_B (c : Dev nD) (i : grid0.Coords) (arg3 : Memref sig .tc .vmem S1024x4096 .bf16) (harg3 : arg3.IsWhole)
    (arg4 : Memref sig .tc .vmem S4096x1024 .bf16) (harg4 : arg4.IsWhole) (arg5 : Memref sig .tc .vmem S1024x1024 .f32)
    (harg5 : arg5.IsWhole) (arg6 : Memref sig .tc .vmem S1024x1024 .f32) (harg6 : arg6.IsWhole)
    (hc0 : ¬cond0_0 i) (hc1 : cond0_1 i) (hc2 : cond0_2 i)
    (x0 : Vec Ideal S1024x4096 .bf16) (x1 : Vec Ideal S4096x1024 .bf16) (xs : Vec Ideal S1024x1024 .f32) :
    out0_B_2 (F := Ideal) c i arg3 harg3 arg4 harg4 arg5 harg5 arg6 harg6 hc0 hc1 hc2 x0 x1 xs = addf xs (k0_pay1 x0 x1) := by
  unfold out0_B_2
  rw [View.read_writes_eq_canon _ _ _ (cover0_B_2 c i arg3 harg3 arg4 harg4 arg5 harg5 arg6 harg6 hc0 hc1 hc2 x0 x1 xs)]
  unfold kernelRun0_B
  dsimp only
  sl_unfold_words
  rw [View.canon_unit_zero hz, View.readCov_unit_zero (S := S1024x1024) _ hz]
  unfold k0_pay3
  simp only [View.readAt_eq_ld, harg3.read_unread, harg4.read_unread, harg6.read_unread, View.ld_unit_zero (S := S1024x4096) hz,
    View.ld_unit_zero (S := S4096x1024) hz, View.ld_unit_zero (S := S1024x1024) hz, shapeCast_self]

/-- Where the blocks of a grid point lie. -/
theorem idx_facts : ∀ t : Fin cfg0.N,
    (win0_0.index t (0 : Fin 2) = t.val / 4 ∧ win0_0.index t (1 : Fin 2) = t.val % 2)
    ∧ (win0_1.index t (0 : Fin 2) = t.val % 2 ∧ win0_1.index t (1 : Fin 2) = t.val / 2 % 2)
    ∧ (win0_2.index t (0 : Fin 2) = t.val / 4 ∧ win0_2.index t (1 : Fin 2) = t.val / 2 % 2)
    ∧ ((cfg0.win 2).flush t = true ↔ t.val % 2 = 1) :=
  (by decide +kernel : ∀ t : Fin grid0.N, _)

variable (m : (ℓ : Loc nD τ sig) → Buf (Elt Ideal) ℓ)

theorem emb0 (t : Fin cfg0.N) (y : S1024x4096.Idx) : ∀ a : Fin 2,
    (((cfg0.win 0).blk t).view.emb y a).val = ![t.val / 4 * 1024 + (y 0).val, t.val % 2 * 4096 + (y 1).val] a := by
  obtain ⟨⟨e0, e1⟩, -⟩ := idx_facts t
  intro a
  match a with
  | ⟨0, _⟩ => show win0_0.index t (0 : Fin 2) * 1024 + 1 * (y 0).val = t.val / 4 * 1024 + (y 0).val; omega
  | ⟨1, _⟩ => show win0_0.index t (1 : Fin 2) * 4096 + 1 * (y 1).val = t.val % 2 * 4096 + (y 1).val; omega

theorem emb1 (t : Fin cfg0.N) (y : S4096x1024.Idx) : ∀ a : Fin 2,
    (((cfg0.win 1).blk t).view.emb y a).val = ![t.val % 2 * 4096 + (y 0).val, t.val / 2 % 2 * 1024 + (y 1).val] a := by
  obtain ⟨-, ⟨e0, e1⟩, -⟩ := idx_facts t
  intro a
  match a with
  | ⟨0, _⟩ => show win0_1.index t (0 : Fin 2) * 4096 + 1 * (y 0).val = t.val % 2 * 4096 + (y 0).val; omega
  | ⟨1, _⟩ => show win0_1.index t (1 : Fin 2) * 1024 + 1 * (y 1).val = t.val / 2 % 2 * 1024 + (y 1).val; omega

theorem emb2 (t : Fin cfg0.N) (y : S1024x1024.Idx) : ∀ a : Fin 2,
    (((cfg0.win 2).blk t).view.emb y a).val = ![t.val / 4 * 1024 + (y 0).val, t.val / 2 % 2 * 1024 + (y 1).val] a := by
  obtain ⟨-, -, ⟨e0, e1⟩, -⟩ := idx_facts t
  intro a
  match a with
  | ⟨0, _⟩ => show win0_2.index t (0 : Fin 2) * 1024 + 1 * (y 0).val = t.val / 4 * 1024 + (y 0).val; omega
  | ⟨1, _⟩ => show win0_2.index t (1 : Fin 2) * 1024 + 1 * (y 1).val = t.val / 2 % 2 * 1024 + (y 1).val; omega

/-- The cast weights are the weights. -/
theorem weights (c : Dev nD) : V m c main_v0 = (m ((c : Thread nD τ).loc main_arg1) : S8192x2048.Idx → EReal) := by
  show StableHlo.after hostOps0 (fun b => m (c, b)) main_v0 = _
  rfl

theorem iblk0 (c : Dev nD) (t : Fin cfg0.N) (k : Fin 4096) (y : S1024x1024.Idx) (r : Fin 2048) (q : Fin 8192)
    (hr : r.val = t.val / 4 * 1024 + (y 0).val) (hq : q.val = t.val % 2 * 4096 + k.val) :
    iblk m c 0 t (ix2 (y 0) k) = m ((c : Thread nD τ).loc main_arg0) (ix2 r q) := by
  show V m c main_arg0 (((cfg0.win 0).blk t).view.emb (ix2 (y 0) k)) = _
  rw [V_main_arg0]
  congr 1; funext a; apply Fin.ext; rw [emb0]
  match a with
  | ⟨0, _⟩ => exact hr.symm
  | ⟨1, _⟩ => exact hq.symm

theorem iblk1 (c : Dev nD) (t : Fin cfg0.N) (k : Fin 4096) (y : S1024x1024.Idx) (r : Fin 2048) (q : Fin 8192)
    (hr : r.val = t.val / 2 % 2 * 1024 + (y 1).val) (hq : q.val = t.val % 2 * 4096 + k.val) :
    iblk m c 1 t (ix2 k (y 1)) = m ((c : Thread nD τ).loc main_arg1) (ix2 q r) := by
  show V m c main_v0 (((cfg0.win 1).blk t).view.emb (ix2 k (y 1))) = _
  rw [weights]
  congr 1; funext a; apply Fin.ext; rw [emb1]
  match a with
  | ⟨0, _⟩ => exact hq.symm
  | ⟨1, _⟩ => exact hr.symm

/-- A grid point's part is that half of the sum. -/
theorem part (c : Dev nD) (t : Fin cfg0.N) (y : S1024x1024.Idx) (r l : Fin 2048)
    (hr : r.val = t.val / 4 * 1024 + (y 0).val) (hl : l.val = t.val / 2 % 2 * 1024 + (y 1).val)
    (q : Fin 4096 → Fin 8192) (hq : ∀ k, (q k).val = t.val % 2 * 4096 + k.val) :
    k0_pay1 (F := Ideal) (iblk m c 0 t) (iblk m c 1 t) y
      = ∑ k : Fin 4096, term (m ((c : Thread nD τ).loc main_arg0)) (m ((c : Thread nD τ).loc main_arg1)) r l (q k) := by
  rw [pay_apply]
  refine Finset.sum_congr rfl fun k _ => ?_
  have e0 := iblk0 m c t k y r (q k) hr (hq k)
  have e1 := iblk1 m c t k y l (q k) hl (hq k)
  exact congrArg₂ (· * ·) (congrArg₂ (· * ·) (congrArg (fun x : EReal => max x 0) e0) (congrArg (fun x : EReal => max x 0) e0)) e1

/-- What the scratch memory holds after a first half. -/
theorem scratch (c : Dev nD) (t : Fin cfg0.N) (h : t.val % 2 = 0) :
    (outsAt0 m c t.val t.isLt).2 = k0_pay1 (F := Ideal) (iblk m c 0 t) (iblk m c 1 t) := by
  rw [outsAt0_A m c t h (by omega) (by omega)]
  dsimp only
  rw [sout_A]

/-- The array after the run. -/
theorem final (c : Dev nD) : (dats m 0 c).arrAt 2 cfg0.N = prod (m ((c : Thread nD τ).loc main_arg0)) (m ((c : Thread nD τ).loc main_arg1)) := by
  refine (dats m 0 c).arrAt_eq_of_cover 2 _ (fun t hf => ?_) (fun i => ?_)
  · have h1 : t.val % 2 = 1 := (idx_facts t).2.2.2.mp hf
    have ht' : t.val - 1 < cfg0.N := Nat.lt_of_le_of_lt (Nat.sub_le _ _) t.isLt
    rw [Value.flushed2_B m c t (by omega) h1 h1, out_B]
    have hs := scratch m c ⟨t.val - 1, ht'⟩ (by show (t.val - 1) % 2 = 0; omega)
    rw [show (outsAt0 m c (t.val - 1) ht').2 = _ from hs]
    funext y
    show k0_pay1 (F := Ideal) (iblk m c 0 ⟨t.val - 1, ht'⟩) (iblk m c 1 ⟨t.val - 1, ht'⟩) y + k0_pay1 (F := Ideal) (iblk m c 0 t) (iblk m c 1 t) y
      = prod _ _ (((cfg0.win 2).blk t).view.emb y)
    have w0 : (((cfg0.win 2).blk t).view.emb y (0 : Fin 2)).val = t.val / 4 * 1024 + (y 0).val := emb2 t y 0
    have w1 : (((cfg0.win 2).blk t).view.emb y (1 : Fin 2)).val = t.val / 2 % 2 * 1024 + (y 1).val := emb2 t y 1
    unfold prod
    rw [halves]
    generalize ((cfg0.win 2).blk t).view.emb y = w at w0 w1 ⊢
    exact congrArg₂ (· + ·)
      (part m c ⟨t.val - 1, ht'⟩ y (w 0) (w 1) (by show (w (0 : Fin 2)).val = (t.val - 1) / 4 * 1024 + _; omega)
        (by show (w (1 : Fin 2)).val = (t.val - 1) / 2 % 2 * 1024 + _; omega) _ (fun k => by show k.val = (t.val - 1) % 2 * 4096 + k.val; omega))
      (part m c t y (w 0) (w 1) w0 w1 _ (fun k => by show 4096 + k.val = t.val % 2 * 4096 + k.val; omega))
  · have h0 : (i 0).val < 2048 := (i 0).isLt
    have h1 : (i 1).val < 2048 := (i 1).isLt
    have hN : cfg0.N = 8 := by decide
    let t : Fin cfg0.N := ⟨(i 0).val / 1024 * 4 + (i 1).val / 1024 * 2 + 1, by omega⟩
    have ht : t.val = (i 0).val / 1024 * 4 + (i 1).val / 1024 * 2 + 1 := rfl
    refine ⟨t, (idx_facts t).2.2.2.mpr (by omega), ?_⟩
    let y : S1024x1024.Idx := ix2 ⟨(i 0).val % 1024, by omega⟩ ⟨(i 1).val % 1024, by omega⟩
    have he : ((cfg0.win 2).blk t).view.emb y = i := by
      funext a; apply Fin.ext; rw [emb2]
      match a with
      | ⟨0, _⟩ => show t.val / 4 * 1024 + (i 0).val % 1024 = (i 0).val; omega
      | ⟨1, _⟩ => show t.val / 2 % 2 * 1024 + (i 1).val % 1024 = (i 1).val; omega
    exact he ▸ View.emb_mem_set _ y

end Cert.Kernel13Ideal.Val

namespace Cert.Proof

open Idealize.ShloMosaic Idealize.ShloMosaic.TcCoe Idealize.SL.Sem

/-- The call's array is the reference's. -/
theorem algebraic13 : Cert.algebraic_Kernel13Ideal_Reference13Ideal := by
  intro m ρ m' ρ' _ hargs
  refine ⟨_, Cert.Kernel13Ideal.Value.run_blocks (F := Ideal) m ρ, ?_⟩
  refine (θ_run Cert.Reference13Ideal.defs _ _).mono (fun r h c => ⟨?_, (h c).2⟩) (Cert.Reference13Ideal.Value.run (F := Ideal) m' ρ')
  obtain ⟨e0, e1⟩ := hargs c
  rw [(h c).1, Cert.Kernel13Ideal.Val.final, e0, e1]
  funext j
  unfold Cert.Kernel13Ideal.Val.prod Cert.Kernel13Ideal.Val.term
  pointwise

end Cert.Proof

end
-- ==== Proof.AdamSmall14.lean ====
/- The optimiser's step of the first three small weights: the call's arrays are the reference's. -/
module

public import proofs.«01_k».proof.Proof.Gen.Kernel14Ideal.Value
public import proofs.«01_k».proof.Proof.Gen.Reference14Ideal.Run
public import Idealize.ShloMosaic.Lib.Pointwise
public import Idealize.ShloMosaic.Lib.Pipeline.Value
public import proofs.«01_k».proof.Defs
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The call's arrays are the updates and the new moments of the reference. -/
theorem algebraic14 : Cert.algebraic_Kernel14Ideal_Reference14Ideal := by
  intro m ρ m' ρ' _ hargs
  refine ⟨_, _, _, _, _, _, _, _, _, Cert.Kernel14Ideal.Value.run (F := Ideal) m ρ, ?_⟩
  refine (θ_run Cert.Reference14Ideal.defs _ _).mono (fun r h c => ?_) (Cert.Reference14Ideal.Value.run (F := Ideal) m' ρ')
  obtain ⟨e0, e1, e2, e3, e4, e5, e6, e7, e8, e9, e10, e11⟩ := hargs c
  obtain ⟨h0, h1, h2, h3, h4, h5, h6, h7, h8, hk⟩ := h c
  refine ⟨h0.trans ?_, h1.trans ?_, h2.trans ?_, h3.trans ?_, h4.trans ?_, h5.trans ?_, h6.trans ?_, h7.trans ?_, h8.trans ?_, hk⟩
  all_goals (simp only [← e0, ← e1, ← e2, ← e3, ← e4, ← e5, ← e6, ← e7, ← e8, ← e9, ← e10, ← e11]; rfl)

end Cert.Proof

end
-- ==== Proof.AdamSmall15.lean ====
/- The optimiser's step of the next three small weights: the call's arrays are the reference's. -/
module

public import proofs.«01_k».proof.Proof.Gen.Kernel15Ideal.Value
public import proofs.«01_k».proof.Proof.Gen.Reference15Ideal.Run
public import Idealize.ShloMosaic.Lib.Pointwise
public import Idealize.ShloMosaic.Lib.Pipeline.Value
public import proofs.«01_k».proof.Defs
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The call's arrays are the updates and the new moments of the reference. -/
theorem algebraic15 : Cert.algebraic_Kernel15Ideal_Reference15Ideal := by
  intro m ρ m' ρ' _ hargs
  refine ⟨_, _, _, _, _, _, _, _, _, Cert.Kernel15Ideal.Value.run (F := Ideal) m ρ, ?_⟩
  refine (θ_run Cert.Reference15Ideal.defs _ _).mono (fun r h c => ?_) (Cert.Reference15Ideal.Value.run (F := Ideal) m' ρ')
  obtain ⟨e0, e1, e2, e3, e4, e5, e6, e7, e8, e9, e10, e11⟩ := hargs c
  obtain ⟨h0, h1, h2, h3, h4, h5, h6, h7, h8, hk⟩ := h c
  refine ⟨h0.trans ?_, h1.trans ?_, h2.trans ?_, h3.trans ?_, h4.trans ?_, h5.trans ?_, h6.trans ?_, h7.trans ?_, h8.trans ?_, hk⟩
  all_goals (simp only [← e0, ← e1, ← e2, ← e3, ← e4, ← e5, ← e6, ← e7, ← e8, ← e9, ← e10, ← e11]; rfl)

end Cert.Proof

end
-- ==== Proof.AdamSmall16.lean ====
/- The optimiser's step of the layer norm's two small weights: the call's arrays are the reference's. -/
module

public import proofs.«01_k».proof.Proof.Gen.Kernel16Ideal.Value
public import proofs.«01_k».proof.Proof.Gen.Reference16Ideal.Run
public import Idealize.ShloMosaic.Lib.Pointwise
public import Idealize.ShloMosaic.Lib.Pipeline.Value
public import proofs.«01_k».proof.Defs
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The call's arrays are the updates and the new moments of the reference. -/
theorem algebraic16 : Cert.algebraic_Kernel16Ideal_Reference16Ideal := by
  intro m ρ m' ρ' _ hargs
  refine ⟨_, _, _, _, _, _, Cert.Kernel16Ideal.Value.run (F := Ideal) m ρ, ?_⟩
  refine (θ_run Cert.Reference16Ideal.defs _ _).mono (fun r h c => ?_) (Cert.Reference16Ideal.Value.run (F := Ideal) m' ρ')
  obtain ⟨e0, e1, e2, e3, e4, e5, e6, e7⟩ := hargs c
  obtain ⟨h0, h1, h2, h3, h4, h5, hk⟩ := h c
  refine ⟨h0.trans ?_, h1.trans ?_, h2.trans ?_, h3.trans ?_, h4.trans ?_, h5.trans ?_, hk⟩
  all_goals (simp only [← e0, ← e1, ← e2, ← e3, ← e4, ← e5, ← e6, ← e7]; rfl)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.KernelOut
public import proofs.«01_k».proof.Proof.RefOut
public import proofs.«01_k».proof.Proof.Real
public import proofs.«01_k».proof.Proof.Gen.Kernel2.Frame
public import proofs.«01_k».proof.Proof.DX
public import proofs.«01_k».proof.Proof.Gen.Kernel3.Frame
public import proofs.«01_k».proof.Proof.DAct
public import proofs.«01_k».proof.Proof.Gen.Kernel4.Frame
public import proofs.«01_k».proof.Proof.DwDown
public import proofs.«01_k».proof.Proof.Gen.Kernel5.Frame
public import proofs.«01_k».proof.Proof.DwUp
public import proofs.«01_k».proof.Proof.Gen.Kernel6.Frame
public import proofs.«01_k».proof.Proof.DH1
public import proofs.«01_k».proof.Proof.Gen.Kernel7.Frame
public import proofs.«01_k».proof.Proof.Proj
public import proofs.«01_k».proof.Proof.Gen.Kernel8.Frame
public import proofs.«01_k».proof.Proof.DwIn
public import proofs.«01_k».proof.Proof.Gen.Kernel9.Frame
public import proofs.«01_k».proof.Proof.OutProj
public import proofs.«01_k».proof.Proof.Gen.Kernel10.Frame
public import proofs.«01_k».proof.Proof.DMix
public import proofs.«01_k».proof.Proof.Gen.Kernel11.Frame
public import proofs.«01_k».proof.Proof.DwO
public import proofs.«01_k».proof.Proof.Gen.Kernel12.Frame
public import proofs.«01_k».proof.Proof.MlpUp
public import proofs.«01_k».proof.Proof.Gen.Kernel13.Frame
public import proofs.«01_k».proof.Proof.MlpDown
public import proofs.«01_k».proof.Proof.Gen.Kernel14.Frame
public import proofs.«01_k».proof.Proof.AdamSmall14
public import proofs.«01_k».proof.Proof.Gen.Kernel15.Frame
public import proofs.«01_k».proof.Proof.AdamSmall15
public import proofs.«01_k».proof.Proof.Gen.Kernel16.Frame
public import proofs.«01_k».proof.Proof.AdamSmall16
public import Idealize.ShloMosaic.Adequacy
public import Idealize.ShloMosaic.Init

@[expose] public section

noncomputable section

namespace Cert.Proof

open Idealize.ShloMosaic Idealize.SL.Sem Cert.Kernel

/-- The reference's six results, and the arguments as they were. -/
theorem ref_out (m : (ℓ : Loc Cert.ReferenceIdeal.nD Cert.ReferenceIdeal.τ Cert.ReferenceIdeal.sig) → Buf (Elt Ideal) ℓ) (ρ : Dev Cert.ReferenceIdeal.nD → PrngReg)
    (s : Dev Cert.ReferenceIdeal.nD → Cert.Spec.Seq) (A : ∀ c, Cert.ReferenceIdeal.Two.Argr m c (s c)) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v36) = Cert.KernelIdeal.Val.rowsOf (s c).du
      ∧ r.2.mem ((c.tc : Thread Cert.ReferenceIdeal.nD Cert.ReferenceIdeal.τ).loc Cert.ReferenceIdeal.main_v38) = Cert.KernelIdeal.Val.rowsOf (s c).dw
      ∧ r.2.mem ((c.tc : Thread Cert.ReferenceIdeal.nD Cert.ReferenceIdeal.τ).loc Cert.ReferenceIdeal.main_v40) = Cert.KernelIdeal.Val.rowsOf (s c).dq
      ∧ r.2.mem ((c.tc : Thread Cert.ReferenceIdeal.nD Cert.ReferenceIdeal.τ).loc Cert.ReferenceIdeal.main_v42) = Cert.KernelIdeal.Val.rowsOf (s c).dk
      ∧ r.2.mem ((c.tc : Thread Cert.ReferenceIdeal.nD Cert.ReferenceIdeal.τ).loc Cert.ReferenceIdeal.main_v43) = Cert.KernelIdeal.Val.daOf (s c)
      ∧ r.2.mem ((c.tc : Thread Cert.ReferenceIdeal.nD Cert.ReferenceIdeal.τ).loc Cert.ReferenceIdeal.main_v34) = Cert.KernelIdeal.Val.dgOf (s c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) := by
  refine (θ_run Cert.ReferenceIdeal.defs _ _).mono ?_ (Cert.ReferenceIdeal.Two.run m ρ)
  rintro r ⟨h, -⟩ c
  exact ⟨(h c _ rfl).trans (Cert.ReferenceIdeal.Two.out_du (A c)), (h c _ rfl).trans (Cert.ReferenceIdeal.Two.out_dw (A c)),
    (h c _ rfl).trans (Cert.ReferenceIdeal.Two.out_dq (A c)), (h c _ rfl).trans (Cert.ReferenceIdeal.Two.out_dk (A c)),
    (h c _ rfl).trans (Cert.ReferenceIdeal.Two.out_da (A c)), (h c _ rfl).trans (Cert.ReferenceIdeal.Two.out_dg (A c)),
    (h c _ rfl).trans (Cert.ReferenceIdeal.Two.fin_arg0 m c),
    (h c _ rfl).trans (Cert.ReferenceIdeal.Two.fin_arg1 m c),
    (h c _ rfl).trans (Cert.ReferenceIdeal.Two.fin_arg2 m c),
    (h c _ rfl).trans (Cert.ReferenceIdeal.Two.fin_arg3 m c),
    (h c _ rfl).trans (Cert.ReferenceIdeal.Two.fin_arg4 m c),
    (h c _ rfl).trans (Cert.ReferenceIdeal.Two.fin_arg5 m c),
    (h c _ rfl).trans (Cert.ReferenceIdeal.Two.fin_arg6 m c),
    (h c _ rfl).trans (Cert.ReferenceIdeal.Two.fin_arg7 m c)⟩

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hp hm
  choose s A using fun c => args_of_pre _ _ _ _ _ _ _ _ (hp c)
  refine ⟨fun c => Cert.KernelIdeal.Val.rowsOf (s c).du, fun c => Cert.KernelIdeal.Val.rowsOf (s c).dw, fun c => Cert.KernelIdeal.Val.rowsOf (s c).dq,
    fun c => Cert.KernelIdeal.Val.rowsOf (s c).dk, fun c => Cert.KernelIdeal.Val.daOf (s c), fun c => Cert.KernelIdeal.Val.dgOf (s c),
    Cert.KernelIdeal.Val.run_out m ρ s A, ref_out m' ρ' s fun c => ?_⟩
  obtain ⟨h0, h1, h2, h3, h4, h5, h6, -⟩ := hm c
  show Cert.KernelIdeal.Val.Args _ _ _ _ _ _ _ _
  rw [h0, h1, h2, h3, h4, h5, h6]
  exact A c

/-! The frames of the references without a loop: the run's arguments as they were; there is no semaphore. -/

theorem frame2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem frame3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem frame4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem frame5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem frame6 : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

theorem frame7 : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

theorem frame8 : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

theorem frame9 : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

theorem frame10 : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

theorem frame11 : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

theorem frame12 : Cert.quiescent_Reference12Ideal := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

theorem frame13 : Cert.quiescent_Reference13Ideal := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)

theorem frame14 : Cert.quiescent_Reference14Ideal := fun m ρ _ =>
  (θ_run Cert.Reference14Ideal.defs _ _).mono (fun r h => ⟨fun c => (h c).2.2.2.2.2.2.2.2.2, Idealize.ShloMosaic.sem_eq_zero_of_no_sems (by decide) r.2⟩)
    (Cert.Reference14Ideal.Value.run (F := Ideal) m ρ)

theorem frame15 : Cert.quiescent_Reference15Ideal := fun m ρ _ =>
  (θ_run Cert.Reference15Ideal.defs _ _).mono (fun r h => ⟨fun c => (h c).2.2.2.2.2.2.2.2.2, Idealize.ShloMosaic.sem_eq_zero_of_no_sems (by decide) r.2⟩)
    (Cert.Reference15Ideal.Value.run (F := Ideal) m ρ)

theorem frame16 : Cert.quiescent_Reference16Ideal := fun m ρ _ =>
  (θ_run Cert.Reference16Ideal.defs _ _).mono (fun r h => ⟨fun c => (h c).2.2.2.2.2.2, Idealize.ShloMosaic.sem_eq_zero_of_no_sems (by decide) r.2⟩)
    (Cert.Reference16Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Two.frame m ρ, fun m ρ _ => Cert.ReferenceIdeal.Two.frame m ρ,
  fun m ρ _ => Cert.Kernel2.Gen.frame m ρ, fun m ρ _ => Cert.Kernel2Ideal.Gen.frame m ρ, frame2,
  fun m ρ _ => Cert.Kernel3.Gen.frame m ρ, fun m ρ _ => Cert.Kernel3Ideal.Gen.frame m ρ, frame3,
  fun m ρ _ => Cert.Kernel4.Gen.frame m ρ, fun m ρ _ => Cert.Kernel4Ideal.Gen.frame m ρ, frame4,
  fun m ρ _ => Cert.Kernel5.Gen.frame m ρ, fun m ρ _ => Cert.Kernel5Ideal.Gen.frame m ρ, frame5,
  fun m ρ _ => Cert.Kernel6.Gen.frame m ρ, fun m ρ _ => Cert.Kernel6Ideal.Gen.frame m ρ, frame6,
  fun m ρ _ => Cert.Kernel7.Gen.frame m ρ, fun m ρ _ => Cert.Kernel7Ideal.Gen.frame m ρ, frame7,
  fun m ρ _ => Cert.Kernel8.Gen.frame m ρ, fun m ρ _ => Cert.Kernel8Ideal.Gen.frame m ρ, frame8,
  fun m ρ _ => Cert.Kernel9.Gen.frame m ρ, fun m ρ _ => Cert.Kernel9Ideal.Gen.frame m ρ, frame9,
  fun m ρ _ => Cert.Kernel10.Gen.frame m ρ, fun m ρ _ => Cert.Kernel10Ideal.Gen.frame m ρ, frame10,
  fun m ρ _ => Cert.Kernel11.Gen.frame m ρ, fun m ρ _ => Cert.Kernel11Ideal.Gen.frame m ρ, frame11,
  fun m ρ _ => Cert.Kernel12.Gen.frame m ρ, fun m ρ _ => Cert.Kernel12Ideal.Gen.frame m ρ, frame12,
  fun m ρ _ => Cert.Kernel13.Gen.frame m ρ, fun m ρ _ => Cert.Kernel13Ideal.Gen.frame m ρ, frame13,
  fun m ρ _ => Cert.Kernel14.Gen.frame m ρ, fun m ρ _ => Cert.Kernel14Ideal.Gen.frame m ρ, frame14,
  fun m ρ _ => Cert.Kernel15.Gen.frame m ρ, fun m ρ _ => Cert.Kernel15Ideal.Gen.frame m ρ, frame15,
  fun m ρ _ => Cert.Kernel16.Gen.frame m ρ, fun m ρ _ => Cert.Kernel16Ideal.Gen.frame m ρ, frame16,
  trivial, algebraic,
  trivial, algebraic2,
  trivial, algebraic3,
  trivial, algebraic4,
  trivial, algebraic5,
  trivial, algebraic6,
  trivial, algebraic7,
  trivial, algebraic8,
  trivial, algebraic9,
  trivial, algebraic10,
  trivial, algebraic11,
  trivial, algebraic12,
  trivial, algebraic13,
  trivial, algebraic14,
  trivial, algebraic15,
  trivial, algebraic16⟩

end Cert.Proof

end
